-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_DnKernel (m : (ℓ : Loc Cert.DnKernel.nD Cert.DnKernel.τ Cert.DnKernel.sig) → Buf (Elt Bits) ℓ) : Prop :=
  True

def Pre_DnKernelIdeal (m : (ℓ : Loc Cert.DnKernelIdeal.nD Cert.DnKernelIdeal.τ Cert.DnKernelIdeal.sig) → Buf (Elt Ideal) ℓ) : Prop :=
  True

def Pre_DnReferenceIdeal (m : (ℓ : Loc Cert.DnReferenceIdeal.nD Cert.DnReferenceIdeal.τ Cert.DnReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_EvenFwdKernel (m : (ℓ : Loc Cert.EvenFwdKernel.nD Cert.EvenFwdKernel.τ Cert.EvenFwdKernel.sig) → Buf (Elt Bits) ℓ) : Prop :=
  True

def Pre_EvenFwdKernelIdeal (m : (ℓ : Loc Cert.EvenFwdKernelIdeal.nD Cert.EvenFwdKernelIdeal.τ Cert.EvenFwdKernelIdeal.sig) → Buf (Elt Ideal) ℓ) : Prop :=
  True

def Pre_EvenFwdKernelIdeal_finite_pool [hPre_finite_pool : Cert.Pre_finite_pool.Facts] (m : (ℓ : Loc Cert.EvenFwdKernelIdeal.nD Cert.EvenFwdKernelIdeal.τ Cert.EvenFwdKernelIdeal.sig) → Buf (Elt Ideal) ℓ) : Prop :=
  ∀ c : Dev Cert.EvenFwdKernelIdeal.nD,
    (Cert.Pre_finite_pool.fn (F := Ideal) (m ((c.tc : Thread Cert.EvenFwdKernelIdeal.nD Cert.EvenFwdKernelIdeal.τ).loc Cert.EvenFwdKernelIdeal.main_arg0)) (m ((c.tc : Thread Cert.EvenFwdKernelIdeal.nD Cert.EvenFwdKernelIdeal.τ).loc Cert.EvenFwdKernelIdeal.main_arg1)) (m ((c.tc : Thread Cert.EvenFwdKernelIdeal.nD Cert.EvenFwdKernelIdeal.τ).loc Cert.EvenFwdKernelIdeal.main_arg2)) (m ((c.tc : Thread Cert.EvenFwdKernelIdeal.nD Cert.EvenFwdKernelIdeal.τ).loc Cert.EvenFwdKernelIdeal.main_arg3)) (m ((c.tc : Thread Cert.EvenFwdKernelIdeal.nD Cert.EvenFwdKernelIdeal.τ).loc Cert.EvenFwdKernelIdeal.main_arg4)) (m ((c.tc : Thread Cert.EvenFwdKernelIdeal.nD Cert.EvenFwdKernelIdeal.τ).loc Cert.EvenFwdKernelIdeal.main_arg5)) (m ((c.tc : Thread Cert.EvenFwdKernelIdeal.nD Cert.EvenFwdKernelIdeal.τ).loc Cert.EvenFwdKernelIdeal.main_arg6)) (m ((c.tc : Thread Cert.EvenFwdKernelIdeal.nD Cert.EvenFwdKernelIdeal.τ).loc Cert.EvenFwdKernelIdeal.main_arg7)) (m ((c.tc : Thread Cert.EvenFwdKernelIdeal.nD Cert.EvenFwdKernelIdeal.τ).loc Cert.EvenFwdKernelIdeal.main_arg8)) (m ((c.tc : Thread Cert.EvenFwdKernelIdeal.nD Cert.EvenFwdKernelIdeal.τ).loc Cert.EvenFwdKernelIdeal.main_arg9))) = (fun _ => 1#1)

def Pre_EvenFwdReferenceIdeal (m : (ℓ : Loc Cert.EvenFwdReferenceIdeal.nD Cert.EvenFwdReferenceIdeal.τ Cert.EvenFwdReferenceIdeal.sig) → Buf (Elt Ideal) ℓ) : Prop :=
  True

def Pre_EvenFwdReferenceIdeal_finite_pool [hPre_finite_pool : Cert.Pre_finite_pool.Facts] (m : (ℓ : Loc Cert.EvenFwdReferenceIdeal.nD Cert.EvenFwdReferenceIdeal.τ Cert.EvenFwdReferenceIdeal.sig) → Buf (Elt Ideal) ℓ) : Prop :=
  ∀ c : Dev Cert.EvenFwdReferenceIdeal.nD,
    (Cert.Pre_finite_pool.fn (F := Ideal) (m ((c.tc : Thread Cert.EvenFwdReferenceIdeal.nD Cert.EvenFwdReferenceIdeal.τ).loc Cert.EvenFwdReferenceIdeal.main_arg0)) (m ((c.tc : Thread Cert.EvenFwdReferenceIdeal.nD Cert.EvenFwdReferenceIdeal.τ).loc Cert.EvenFwdReferenceIdeal.main_arg1)) (m ((c.tc : Thread Cert.EvenFwdReferenceIdeal.nD Cert.EvenFwdReferenceIdeal.τ).loc Cert.EvenFwdReferenceIdeal.main_arg2)) (m ((c.tc : Thread Cert.EvenFwdReferenceIdeal.nD Cert.EvenFwdReferenceIdeal.τ).loc Cert.EvenFwdReferenceIdeal.main_arg3)) (m ((c.tc : Thread Cert.EvenFwdReferenceIdeal.nD Cert.EvenFwdReferenceIdeal.τ).loc Cert.EvenFwdReferenceIdeal.main_arg4)) (m ((c.tc : Thread Cert.EvenFwdReferenceIdeal.nD Cert.EvenFwdReferenceIdeal.τ).loc Cert.EvenFwdReferenceIdeal.main_arg5)) (m ((c.tc : Thread Cert.EvenFwdReferenceIdeal.nD Cert.EvenFwdReferenceIdeal.τ).loc Cert.EvenFwdReferenceIdeal.main_arg6)) (m ((c.tc : Thread Cert.EvenFwdReferenceIdeal.nD Cert.EvenFwdReferenceIdeal.τ).loc Cert.EvenFwdReferenceIdeal.main_arg7)) (m ((c.tc : Thread Cert.EvenFwdReferenceIdeal.nD Cert.EvenFwdReferenceIdeal.τ).loc Cert.EvenFwdReferenceIdeal.main_arg8)) (m ((c.tc : Thread Cert.EvenFwdReferenceIdeal.nD Cert.EvenFwdReferenceIdeal.τ).loc Cert.EvenFwdReferenceIdeal.main_arg9))) = (fun _ => 1#1)

def Pre_OddFwdKernel (m : (ℓ : Loc Cert.OddFwdKernel.nD Cert.OddFwdKernel.τ Cert.OddFwdKernel.sig) → Buf (Elt Bits) ℓ) : Prop :=
  True

def Pre_OddFwdKernelIdeal (m : (ℓ : Loc Cert.OddFwdKernelIdeal.nD Cert.OddFwdKernelIdeal.τ Cert.OddFwdKernelIdeal.sig) → Buf (Elt Ideal) ℓ) : Prop :=
  True

def Pre_OddFwdKernelIdeal_multiplier_kept [hPre_multiplier_kept : Cert.Pre_multiplier_kept.Facts] (m : (ℓ : Loc Cert.OddFwdKernelIdeal.nD Cert.OddFwdKernelIdeal.τ Cert.OddFwdKernelIdeal.sig) → Buf (Elt Ideal) ℓ) : Prop :=
  ∀ c : Dev Cert.OddFwdKernelIdeal.nD,
    (Cert.Pre_multiplier_kept.fn (F := Ideal) (m ((c.tc : Thread Cert.OddFwdKernelIdeal.nD Cert.OddFwdKernelIdeal.τ).loc Cert.OddFwdKernelIdeal.main_arg0)) (m ((c.tc : Thread Cert.OddFwdKernelIdeal.nD Cert.OddFwdKernelIdeal.τ).loc Cert.OddFwdKernelIdeal.main_arg1)) (m ((c.tc : Thread Cert.OddFwdKernelIdeal.nD Cert.OddFwdKernelIdeal.τ).loc Cert.OddFwdKernelIdeal.main_arg2)) (m ((c.tc : Thread Cert.OddFwdKernelIdeal.nD Cert.OddFwdKernelIdeal.τ).loc Cert.OddFwdKernelIdeal.main_arg3)) (m ((c.tc : Thread Cert.OddFwdKernelIdeal.nD Cert.OddFwdKernelIdeal.τ).loc Cert.OddFwdKernelIdeal.main_arg4)) (m ((c.tc : Thread Cert.OddFwdKernelIdeal.nD Cert.OddFwdKernelIdeal.τ).loc Cert.OddFwdKernelIdeal.main_arg5)) (m ((c.tc : Thread Cert.OddFwdKernelIdeal.nD Cert.OddFwdKernelIdeal.τ).loc Cert.OddFwdKernelIdeal.main_arg6)) (m ((c.tc : Thread Cert.OddFwdKernelIdeal.nD Cert.OddFwdKernelIdeal.τ).loc Cert.OddFwdKernelIdeal.main_arg7)) (m ((c.tc : Thread Cert.OddFwdKernelIdeal.nD Cert.OddFwdKernelIdeal.τ).loc Cert.OddFwdKernelIdeal.main_arg8)) (m ((c.tc : Thread Cert.OddFwdKernelIdeal.nD Cert.OddFwdKernelIdeal.τ).loc Cert.OddFwdKernelIdeal.main_arg9))) = (fun _ => 1#1)

def Pre_OddFwdReferenceIdeal (m : (ℓ : Loc Cert.OddFwdReferenceIdeal.nD Cert.OddFwdReferenceIdeal.τ Cert.OddFwdReferenceIdeal.sig) → Buf (Elt Ideal) ℓ) : Prop :=
  True

def Pre_OddFwdReferenceIdeal_multiplier_kept [hPre_multiplier_kept : Cert.Pre_multiplier_kept.Facts] (m : (ℓ : Loc Cert.OddFwdReferenceIdeal.nD Cert.OddFwdReferenceIdeal.τ Cert.OddFwdReferenceIdeal.sig) → Buf (Elt Ideal) ℓ) : Prop :=
  ∀ c : Dev Cert.OddFwdReferenceIdeal.nD,
    (Cert.Pre_multiplier_kept.fn (F := Ideal) (m ((c.tc : Thread Cert.OddFwdReferenceIdeal.nD Cert.OddFwdReferenceIdeal.τ).loc Cert.OddFwdReferenceIdeal.main_arg0)) (m ((c.tc : Thread Cert.OddFwdReferenceIdeal.nD Cert.OddFwdReferenceIdeal.τ).loc Cert.OddFwdReferenceIdeal.main_arg1)) (m ((c.tc : Thread Cert.OddFwdReferenceIdeal.nD Cert.OddFwdReferenceIdeal.τ).loc Cert.OddFwdReferenceIdeal.main_arg2)) (m ((c.tc : Thread Cert.OddFwdReferenceIdeal.nD Cert.OddFwdReferenceIdeal.τ).loc Cert.OddFwdReferenceIdeal.main_arg3)) (m ((c.tc : Thread Cert.OddFwdReferenceIdeal.nD Cert.OddFwdReferenceIdeal.τ).loc Cert.OddFwdReferenceIdeal.main_arg4)) (m ((c.tc : Thread Cert.OddFwdReferenceIdeal.nD Cert.OddFwdReferenceIdeal.τ).loc Cert.OddFwdReferenceIdeal.main_arg5)) (m ((c.tc : Thread Cert.OddFwdReferenceIdeal.nD Cert.OddFwdReferenceIdeal.τ).loc Cert.OddFwdReferenceIdeal.main_arg6)) (m ((c.tc : Thread Cert.OddFwdReferenceIdeal.nD Cert.OddFwdReferenceIdeal.τ).loc Cert.OddFwdReferenceIdeal.main_arg7)) (m ((c.tc : Thread Cert.OddFwdReferenceIdeal.nD Cert.OddFwdReferenceIdeal.τ).loc Cert.OddFwdReferenceIdeal.main_arg8)) (m ((c.tc : Thread Cert.OddFwdReferenceIdeal.nD Cert.OddFwdReferenceIdeal.τ).loc Cert.OddFwdReferenceIdeal.main_arg9))) = (fun _ => 1#1)

def Pre_DwInKernel (m : (ℓ : Loc Cert.DwInKernel.nD Cert.DwInKernel.τ Cert.DwInKernel.sig) → Buf (Elt Bits) ℓ) : Prop :=
  True

def Pre_DwInKernelIdeal (m : (ℓ : Loc Cert.DwInKernelIdeal.nD Cert.DwInKernelIdeal.τ Cert.DwInKernelIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwOutKernel (m : (ℓ : Loc Cert.DwOutKernel.nD Cert.DwOutKernel.τ Cert.DwOutKernel.sig) → Buf (Elt Bits) ℓ) : Prop :=
  True

def Pre_DwOutKernelIdeal (m : (ℓ : Loc Cert.DwOutKernelIdeal.nD Cert.DwOutKernelIdeal.τ Cert.DwOutKernelIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_AdamInEvenKernel (m : (ℓ : Loc Cert.AdamInEvenKernel.nD Cert.AdamInEvenKernel.τ Cert.AdamInEvenKernel.sig) → Buf (Elt Bits) ℓ) : Prop :=
  True

def Pre_AdamInEvenKernelIdeal (m : (ℓ : Loc Cert.AdamInEvenKernelIdeal.nD Cert.AdamInEvenKernelIdeal.τ Cert.AdamInEvenKernelIdeal.sig) → Buf (Elt Ideal) ℓ) : Prop :=
  True

def Pre_AdamInEvenReferenceIdeal (m : (ℓ : Loc Cert.AdamInEvenReferenceIdeal.nD Cert.AdamInEvenReferenceIdeal.τ Cert.AdamInEvenReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_AddKernel [hPre_core_number : Cert.Pre_core_number.Facts] (m : (ℓ : Loc Cert.AddKernel.nD Cert.AddKernel.τ Cert.AddKernel.sig) → Buf (Elt Bits) ℓ) : Prop :=
  ∀ c : Dev Cert.AddKernel.nD,
    (Cert.Pre_core_number.fn (F := Bits) (m ((c.tc : Thread Cert.AddKernel.nD Cert.AddKernel.τ).loc Cert.AddKernel.main_arg0)) (m ((c.tc : Thread Cert.AddKernel.nD Cert.AddKernel.τ).loc Cert.AddKernel.main_arg1)) (m ((c.tc : Thread Cert.AddKernel.nD Cert.AddKernel.τ).loc Cert.AddKernel.main_arg2))) = (fun _ => 1#1)

def Pre_AddKernelIdeal [hPre_core_number : Cert.Pre_core_number.Facts] (m : (ℓ : Loc Cert.AddKernelIdeal.nD Cert.AddKernelIdeal.τ Cert.AddKernelIdeal.sig) → Buf (Elt Ideal) ℓ) : Prop :=
  ∀ c : Dev Cert.AddKernelIdeal.nD,
    (Cert.Pre_core_number.fn (F := Ideal) (m ((c.tc : Thread Cert.AddKernelIdeal.nD Cert.AddKernelIdeal.τ).loc Cert.AddKernelIdeal.main_arg0)) (m ((c.tc : Thread Cert.AddKernelIdeal.nD Cert.AddKernelIdeal.τ).loc Cert.AddKernelIdeal.main_arg1)) (m ((c.tc : Thread Cert.AddKernelIdeal.nD Cert.AddKernelIdeal.τ).loc Cert.AddKernelIdeal.main_arg2))) = (fun _ => 1#1)

def Pre_AddReferenceIdeal (m : (ℓ : Loc Cert.AddReferenceIdeal.nD Cert.AddReferenceIdeal.τ Cert.AddReferenceIdeal.sig) → Buf (Elt Ideal) ℓ) : Prop :=
  True

def Pre_AddReferenceIdeal_core_number [hPre_core_number : Cert.Pre_core_number.Facts] (m : (ℓ : Loc Cert.AddReferenceIdeal.nD Cert.AddReferenceIdeal.τ Cert.AddReferenceIdeal.sig) → Buf (Elt Ideal) ℓ) : Prop :=
  ∀ c : Dev Cert.AddReferenceIdeal.nD,
    (Cert.Pre_core_number.fn (F := Ideal) (m ((c.tc : Thread Cert.AddReferenceIdeal.nD Cert.AddReferenceIdeal.τ).loc Cert.AddReferenceIdeal.main_arg0)) (m ((c.tc : Thread Cert.AddReferenceIdeal.nD Cert.AddReferenceIdeal.τ).loc Cert.AddReferenceIdeal.main_arg1)) (m ((c.tc : Thread Cert.AddReferenceIdeal.nD Cert.AddReferenceIdeal.τ).loc Cert.AddReferenceIdeal.main_arg2))) = (fun _ => 1#1)

def Pre_ChipsKernel [hPre_position : Cert.Pre_position.Facts] (m : (ℓ : Loc Cert.ChipsKernel.nD Cert.ChipsKernel.τ Cert.ChipsKernel.sig) → Buf (Elt Bits) ℓ) : Prop :=
  ∀ c : Dev Cert.ChipsKernel.nD,
    (Cert.Pre_position.fn (F := Bits) (m ((c.tc : Thread Cert.ChipsKernel.nD Cert.ChipsKernel.τ).loc Cert.ChipsKernel.main_arg0)) (m ((c.tc : Thread Cert.ChipsKernel.nD Cert.ChipsKernel.τ).loc Cert.ChipsKernel.main_arg1)) (m ((c.tc : Thread Cert.ChipsKernel.nD Cert.ChipsKernel.τ).loc Cert.ChipsKernel.main_arg2)) (m ((c.tc : Thread Cert.ChipsKernel.nD Cert.ChipsKernel.τ).loc Cert.ChipsKernel.main_arg3))) = (fun _ => 1#1)

def Pre_ChipsKernelIdeal [hPre_position : Cert.Pre_position.Facts] (m : (ℓ : Loc Cert.ChipsKernelIdeal.nD Cert.ChipsKernelIdeal.τ Cert.ChipsKernelIdeal.sig) → Buf (Elt Ideal) ℓ) : Prop :=
  ∀ c : Dev Cert.ChipsKernelIdeal.nD,
    (Cert.Pre_position.fn (F := Ideal) (m ((c.tc : Thread Cert.ChipsKernelIdeal.nD Cert.ChipsKernelIdeal.τ).loc Cert.ChipsKernelIdeal.main_arg0)) (m ((c.tc : Thread Cert.ChipsKernelIdeal.nD Cert.ChipsKernelIdeal.τ).loc Cert.ChipsKernelIdeal.main_arg1)) (m ((c.tc : Thread Cert.ChipsKernelIdeal.nD Cert.ChipsKernelIdeal.τ).loc Cert.ChipsKernelIdeal.main_arg2)) (m ((c.tc : Thread Cert.ChipsKernelIdeal.nD Cert.ChipsKernelIdeal.τ).loc Cert.ChipsKernelIdeal.main_arg3))) = (fun _ => 1#1)

def Pre_ChipsReferenceIdeal (m : (ℓ : Loc Cert.ChipsReferenceIdeal.nD Cert.ChipsReferenceIdeal.τ Cert.ChipsReferenceIdeal.sig) → Buf (Elt Ideal) ℓ) : Prop :=
  True

def Pre_ChipsReferenceIdeal_position [hPre_position : Cert.Pre_position.Facts] (m : (ℓ : Loc Cert.ChipsReferenceIdeal.nD Cert.ChipsReferenceIdeal.τ Cert.ChipsReferenceIdeal.sig) → Buf (Elt Ideal) ℓ) : Prop :=
  ∀ c : Dev Cert.ChipsReferenceIdeal.nD,
    (Cert.Pre_position.fn (F := Ideal) (m ((c.tc : Thread Cert.ChipsReferenceIdeal.nD Cert.ChipsReferenceIdeal.τ).loc Cert.ChipsReferenceIdeal.main_arg0)) (m ((c.tc : Thread Cert.ChipsReferenceIdeal.nD Cert.ChipsReferenceIdeal.τ).loc Cert.ChipsReferenceIdeal.main_arg1)) (m ((c.tc : Thread Cert.ChipsReferenceIdeal.nD Cert.ChipsReferenceIdeal.τ).loc Cert.ChipsReferenceIdeal.main_arg2)) (m ((c.tc : Thread Cert.ChipsReferenceIdeal.nD Cert.ChipsReferenceIdeal.τ).loc Cert.ChipsReferenceIdeal.main_arg3))) = (fun _ => 1#1)

def Pre_EvenKernel (m : (ℓ : Loc Cert.EvenKernel.nD Cert.EvenKernel.τ Cert.EvenKernel.sig) → Buf (Elt Bits) ℓ) : Prop :=
  True

def Pre_EvenKernelIdeal (m : (ℓ : Loc Cert.EvenKernelIdeal.nD Cert.EvenKernelIdeal.τ Cert.EvenKernelIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def Pre_OddKernel (m : (ℓ : Loc Cert.OddKernel.nD Cert.OddKernel.τ Cert.OddKernel.sig) → Buf (Elt Bits) ℓ) : Prop :=
  True

def Pre_OddKernelIdeal (m : (ℓ : Loc Cert.OddKernelIdeal.nD Cert.OddKernelIdeal.τ Cert.OddKernelIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_DnKernel [hDnKernel : Cert.DnKernel.Facts] : Prop :=
  ∀ (m : (ℓ : Loc Cert.DnKernel.nD Cert.DnKernel.τ Cert.DnKernel.sig) → Buf (Elt Bits) ℓ) (g : Dev Cert.DnKernel.nD → PrngReg), Pre_DnKernel m →
    θ_run (Cert.DnKernel.defs (F := Bits)) (onTc (τ := Cert.DnKernel.τ) (Cert.DnKernel.main (F := Bits))) ⟨m, fun _ => 0, g⟩ (fun r => (∀ c : Dev Cert.DnKernel.nD,
      r.2.mem ((c.tc : Thread Cert.DnKernel.nD Cert.DnKernel.τ).loc Cert.DnKernel.main_arg0) = m ((c.tc : Thread Cert.DnKernel.nD Cert.DnKernel.τ).loc Cert.DnKernel.main_arg0)
      ∧ r.2.mem ((c.tc : Thread Cert.DnKernel.nD Cert.DnKernel.τ).loc Cert.DnKernel.main_arg1) = m ((c.tc : Thread Cert.DnKernel.nD Cert.DnKernel.τ).loc Cert.DnKernel.main_arg1)
      ∧ r.2.mem ((c.tc : Thread Cert.DnKernel.nD Cert.DnKernel.τ).loc Cert.DnKernel.main_arg2) = m ((c.tc : Thread Cert.DnKernel.nD Cert.DnKernel.τ).loc Cert.DnKernel.main_arg2)
      ∧ r.2.mem ((c.tc : Thread Cert.DnKernel.nD Cert.DnKernel.τ).loc Cert.DnKernel.main_arg3) = m ((c.tc : Thread Cert.DnKernel.nD Cert.DnKernel.τ).loc Cert.DnKernel.main_arg3)
      ∧ r.2.mem ((c.tc : Thread Cert.DnKernel.nD Cert.DnKernel.τ).loc Cert.DnKernel.main_arg4) = m ((c.tc : Thread Cert.DnKernel.nD Cert.DnKernel.τ).loc Cert.DnKernel.main_arg4))
      ∧ r.2.sem = fun _ => 0)

def quiescent_DnKernelIdeal [hDnKernelIdeal : Cert.DnKernelIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg), Pre_DnKernelIdeal m →
    θ_run (Cert.DnKernelIdeal.defs (F := Ideal)) (onTc (τ := Cert.DnKernelIdeal.τ) (Cert.DnKernelIdeal.main (F := Ideal))) ⟨m, fun _ => 0, g⟩ (fun r => (∀ c : Dev Cert.DnKernelIdeal.nD,
      r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
      ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
      ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2)
      ∧ r.2.mem ((c.tc : Thread Cert.DnKernelIdeal.nD Cert.DnKernelIdeal.τ).loc Cert.DnKernelIdeal.main_arg3) = m ((c.tc : Thread Cert.DnKernelIdeal.nD Cert.DnKernelIdeal.τ).loc Cert.DnKernelIdeal.main_arg3)
      ∧ r.2.mem ((c.tc : Thread Cert.DnKernelIdeal.nD Cert.DnKernelIdeal.τ).loc Cert.DnKernelIdeal.main_arg4) = m ((c.tc : Thread Cert.DnKernelIdeal.nD Cert.DnKernelIdeal.τ).loc Cert.DnKernelIdeal.main_arg4))
      ∧ r.2.sem = fun _ => 0)

def quiescent_DnReferenceIdeal [hDnReferenceIdeal : Cert.DnReferenceIdeal.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1)
      ∧ r.2.mem ((c.tc : Thread Cert.DnReferenceIdeal.nD Cert.DnReferenceIdeal.τ).loc Cert.DnReferenceIdeal.main_arg2) = m ((c.tc : Thread Cert.DnReferenceIdeal.nD Cert.DnReferenceIdeal.τ).loc Cert.DnReferenceIdeal.main_arg2)
      ∧ r.2.mem ((c.tc : Thread Cert.DnReferenceIdeal.nD Cert.DnReferenceIdeal.τ).loc Cert.DnReferenceIdeal.main_arg3) = m ((c.tc : Thread Cert.DnReferenceIdeal.nD Cert.DnReferenceIdeal.τ).loc Cert.DnReferenceIdeal.main_arg3)
      ∧ r.2.mem ((c.tc : Thread Cert.DnReferenceIdeal.nD Cert.DnReferenceIdeal.τ).loc Cert.DnReferenceIdeal.main_arg4) = m ((c.tc : Thread Cert.DnReferenceIdeal.nD Cert.DnReferenceIdeal.τ).loc Cert.DnReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_EvenFwdKernel [hEvenFwdKernel : Cert.EvenFwdKernel.Facts] : Prop :=
  ∀ (m : (ℓ : Loc Cert.EvenFwdKernel.nD Cert.EvenFwdKernel.τ Cert.EvenFwdKernel.sig) → Buf (Elt Bits) ℓ) (g : Dev Cert.EvenFwdKernel.nD → PrngReg), Pre_EvenFwdKernel m →
    θ_run (Cert.EvenFwdKernel.defs (F := Bits)) (onTc (τ := Cert.EvenFwdKernel.τ) (Cert.EvenFwdKernel.main (F := Bits))) ⟨m, fun _ => 0, g⟩ (fun r => (∀ c : Dev Cert.EvenFwdKernel.nD,
      r.2.mem ((c.tc : Thread Cert.EvenFwdKernel.nD Cert.EvenFwdKernel.τ).loc Cert.EvenFwdKernel.main_arg0) = m ((c.tc : Thread Cert.EvenFwdKernel.nD Cert.EvenFwdKernel.τ).loc Cert.EvenFwdKernel.main_arg0)
      ∧ r.2.mem ((c.tc : Thread Cert.EvenFwdKernel.nD Cert.EvenFwdKernel.τ).loc Cert.EvenFwdKernel.main_arg1) = m ((c.tc : Thread Cert.EvenFwdKernel.nD Cert.EvenFwdKernel.τ).loc Cert.EvenFwdKernel.main_arg1)
      ∧ r.2.mem ((c.tc : Thread Cert.EvenFwdKernel.nD Cert.EvenFwdKernel.τ).loc Cert.EvenFwdKernel.main_arg2) = m ((c.tc : Thread Cert.EvenFwdKernel.nD Cert.EvenFwdKernel.τ).loc Cert.EvenFwdKernel.main_arg2)
      ∧ r.2.mem ((c.tc : Thread Cert.EvenFwdKernel.nD Cert.EvenFwdKernel.τ).loc Cert.EvenFwdKernel.main_arg3) = m ((c.tc : Thread Cert.EvenFwdKernel.nD Cert.EvenFwdKernel.τ).loc Cert.EvenFwdKernel.main_arg3)
      ∧ r.2.mem ((c.tc : Thread Cert.EvenFwdKernel.nD Cert.EvenFwdKernel.τ).loc Cert.EvenFwdKernel.main_arg4) = m ((c.tc : Thread Cert.EvenFwdKernel.nD Cert.EvenFwdKernel.τ).loc Cert.EvenFwdKernel.main_arg4)
      ∧ r.2.mem ((c.tc : Thread Cert.EvenFwdKernel.nD Cert.EvenFwdKernel.τ).loc Cert.EvenFwdKernel.main_arg5) = m ((c.tc : Thread Cert.EvenFwdKernel.nD Cert.EvenFwdKernel.τ).loc Cert.EvenFwdKernel.main_arg5)
      ∧ r.2.mem ((c.tc : Thread Cert.EvenFwdKernel.nD Cert.EvenFwdKernel.τ).loc Cert.EvenFwdKernel.main_arg6) = m ((c.tc : Thread Cert.EvenFwdKernel.nD Cert.EvenFwdKernel.τ).loc Cert.EvenFwdKernel.main_arg6)
      ∧ r.2.mem ((c.tc : Thread Cert.EvenFwdKernel.nD Cert.EvenFwdKernel.τ).loc Cert.EvenFwdKernel.main_arg7) = m ((c.tc : Thread Cert.EvenFwdKernel.nD Cert.EvenFwdKernel.τ).loc Cert.EvenFwdKernel.main_arg7)
      ∧ r.2.mem ((c.tc : Thread Cert.EvenFwdKernel.nD Cert.EvenFwdKernel.τ).loc Cert.EvenFwdKernel.main_arg8) = m ((c.tc : Thread Cert.EvenFwdKernel.nD Cert.EvenFwdKernel.τ).loc Cert.EvenFwdKernel.main_arg8)
      ∧ r.2.mem ((c.tc : Thread Cert.EvenFwdKernel.nD Cert.EvenFwdKernel.τ).loc Cert.EvenFwdKernel.main_arg9) = m ((c.tc : Thread Cert.EvenFwdKernel.nD Cert.EvenFwdKernel.τ).loc Cert.EvenFwdKernel.main_arg9))
      ∧ r.2.sem = fun _ => 0)

def quiescent_EvenFwdKernelIdeal [hEvenFwdKernelIdeal : Cert.EvenFwdKernelIdeal.Facts] : Prop :=
  ∀ (m : (ℓ : Loc Cert.EvenFwdKernelIdeal.nD Cert.EvenFwdKernelIdeal.τ Cert.EvenFwdKernelIdeal.sig) → Buf (Elt Ideal) ℓ) (g : Dev Cert.EvenFwdKernelIdeal.nD → PrngReg), Pre_EvenFwdKernelIdeal m →
    θ_run (Cert.EvenFwdKernelIdeal.defs (F := Ideal)) (onTc (τ := Cert.EvenFwdKernelIdeal.τ) (Cert.EvenFwdKernelIdeal.main (F := Ideal))) ⟨m, fun _ => 0, g⟩ (fun r => (∀ c : Dev Cert.EvenFwdKernelIdeal.nD,
      r.2.mem ((c.tc : Thread Cert.EvenFwdKernelIdeal.nD Cert.EvenFwdKernelIdeal.τ).loc Cert.EvenFwdKernelIdeal.main_arg0) = m ((c.tc : Thread Cert.EvenFwdKernelIdeal.nD Cert.EvenFwdKernelIdeal.τ).loc Cert.EvenFwdKernelIdeal.main_arg0)
      ∧ r.2.mem ((c.tc : Thread Cert.EvenFwdKernelIdeal.nD Cert.EvenFwdKernelIdeal.τ).loc Cert.EvenFwdKernelIdeal.main_arg1) = m ((c.tc : Thread Cert.EvenFwdKernelIdeal.nD Cert.EvenFwdKernelIdeal.τ).loc Cert.EvenFwdKernelIdeal.main_arg1)
      ∧ r.2.mem ((c.tc : Thread Cert.EvenFwdKernelIdeal.nD Cert.EvenFwdKernelIdeal.τ).loc Cert.EvenFwdKernelIdeal.main_arg2) = m ((c.tc : Thread Cert.EvenFwdKernelIdeal.nD Cert.EvenFwdKernelIdeal.τ).loc Cert.EvenFwdKernelIdeal.main_arg2)
      ∧ r.2.mem ((c.tc : Thread Cert.EvenFwdKernelIdeal.nD Cert.EvenFwdKernelIdeal.τ).loc Cert.EvenFwdKernelIdeal.main_arg3) = m ((c.tc : Thread Cert.EvenFwdKernelIdeal.nD Cert.EvenFwdKernelIdeal.τ).loc Cert.EvenFwdKernelIdeal.main_arg3)
      ∧ r.2.mem ((c.tc : Thread Cert.EvenFwdKernelIdeal.nD Cert.EvenFwdKernelIdeal.τ).loc Cert.EvenFwdKernelIdeal.main_arg4) = m ((c.tc : Thread Cert.EvenFwdKernelIdeal.nD Cert.EvenFwdKernelIdeal.τ).loc Cert.EvenFwdKernelIdeal.main_arg4)
      ∧ r.2.mem ((c.tc : Thread Cert.EvenFwdKernelIdeal.nD Cert.EvenFwdKernelIdeal.τ).loc Cert.EvenFwdKernelIdeal.main_arg5) = m ((c.tc : Thread Cert.EvenFwdKernelIdeal.nD Cert.EvenFwdKernelIdeal.τ).loc Cert.EvenFwdKernelIdeal.main_arg5)
      ∧ r.2.mem ((c.tc : Thread Cert.EvenFwdKernelIdeal.nD Cert.EvenFwdKernelIdeal.τ).loc Cert.EvenFwdKernelIdeal.main_arg6) = m ((c.tc : Thread Cert.EvenFwdKernelIdeal.nD Cert.EvenFwdKernelIdeal.τ).loc Cert.EvenFwdKernelIdeal.main_arg6)
      ∧ r.2.mem ((c.tc : Thread Cert.EvenFwdKernelIdeal.nD Cert.EvenFwdKernelIdeal.τ).loc Cert.EvenFwdKernelIdeal.main_arg7) = m ((c.tc : Thread Cert.EvenFwdKernelIdeal.nD Cert.EvenFwdKernelIdeal.τ).loc Cert.EvenFwdKernelIdeal.main_arg7)
      ∧ r.2.mem ((c.tc : Thread Cert.EvenFwdKernelIdeal.nD Cert.EvenFwdKernelIdeal.τ).loc Cert.EvenFwdKernelIdeal.main_arg8) = m ((c.tc : Thread Cert.EvenFwdKernelIdeal.nD Cert.EvenFwdKernelIdeal.τ).loc Cert.EvenFwdKernelIdeal.main_arg8)
      ∧ r.2.mem ((c.tc : Thread Cert.EvenFwdKernelIdeal.nD Cert.EvenFwdKernelIdeal.τ).loc Cert.EvenFwdKernelIdeal.main_arg9) = m ((c.tc : Thread Cert.EvenFwdKernelIdeal.nD Cert.EvenFwdKernelIdeal.τ).loc Cert.EvenFwdKernelIdeal.main_arg9))
      ∧ r.2.sem = fun _ => 0)

def quiescent_EvenFwdKernelIdeal_pre_finite_pool [hEvenFwdKernelIdeal : Cert.EvenFwdKernelIdeal.Facts] [hPre_finite_pool : Cert.Pre_finite_pool.Facts] : Prop :=
  ∀ (m : (ℓ : Loc Cert.EvenFwdKernelIdeal.nD Cert.EvenFwdKernelIdeal.τ Cert.EvenFwdKernelIdeal.sig) → Buf (Elt Ideal) ℓ) (g : Dev Cert.EvenFwdKernelIdeal.nD → PrngReg), Pre_EvenFwdKernelIdeal_finite_pool m →
    θ_run (Cert.EvenFwdKernelIdeal.defs (F := Ideal)) (onTc (τ := Cert.EvenFwdKernelIdeal.τ) (Cert.EvenFwdKernelIdeal.main (F := Ideal))) ⟨m, fun _ => 0, g⟩ (fun r => (∀ c : Dev Cert.EvenFwdKernelIdeal.nD,
      r.2.mem ((c.tc : Thread Cert.EvenFwdKernelIdeal.nD Cert.EvenFwdKernelIdeal.τ).loc Cert.EvenFwdKernelIdeal.main_arg0) = m ((c.tc : Thread Cert.EvenFwdKernelIdeal.nD Cert.EvenFwdKernelIdeal.τ).loc Cert.EvenFwdKernelIdeal.main_arg0)
      ∧ r.2.mem ((c.tc : Thread Cert.EvenFwdKernelIdeal.nD Cert.EvenFwdKernelIdeal.τ).loc Cert.EvenFwdKernelIdeal.main_arg1) = m ((c.tc : Thread Cert.EvenFwdKernelIdeal.nD Cert.EvenFwdKernelIdeal.τ).loc Cert.EvenFwdKernelIdeal.main_arg1)
      ∧ r.2.mem ((c.tc : Thread Cert.EvenFwdKernelIdeal.nD Cert.EvenFwdKernelIdeal.τ).loc Cert.EvenFwdKernelIdeal.main_arg2) = m ((c.tc : Thread Cert.EvenFwdKernelIdeal.nD Cert.EvenFwdKernelIdeal.τ).loc Cert.EvenFwdKernelIdeal.main_arg2)
      ∧ r.2.mem ((c.tc : Thread Cert.EvenFwdKernelIdeal.nD Cert.EvenFwdKernelIdeal.τ).loc Cert.EvenFwdKernelIdeal.main_arg3) = m ((c.tc : Thread Cert.EvenFwdKernelIdeal.nD Cert.EvenFwdKernelIdeal.τ).loc Cert.EvenFwdKernelIdeal.main_arg3)
      ∧ r.2.mem ((c.tc : Thread Cert.EvenFwdKernelIdeal.nD Cert.EvenFwdKernelIdeal.τ).loc Cert.EvenFwdKernelIdeal.main_arg4) = m ((c.tc : Thread Cert.EvenFwdKernelIdeal.nD Cert.EvenFwdKernelIdeal.τ).loc Cert.EvenFwdKernelIdeal.main_arg4)
      ∧ r.2.mem ((c.tc : Thread Cert.EvenFwdKernelIdeal.nD Cert.EvenFwdKernelIdeal.τ).loc Cert.EvenFwdKernelIdeal.main_arg5) = m ((c.tc : Thread Cert.EvenFwdKernelIdeal.nD Cert.EvenFwdKernelIdeal.τ).loc Cert.EvenFwdKernelIdeal.main_arg5)
      ∧ r.2.mem ((c.tc : Thread Cert.EvenFwdKernelIdeal.nD Cert.EvenFwdKernelIdeal.τ).loc Cert.EvenFwdKernelIdeal.main_arg6) = m ((c.tc : Thread Cert.EvenFwdKernelIdeal.nD Cert.EvenFwdKernelIdeal.τ).loc Cert.EvenFwdKernelIdeal.main_arg6)
      ∧ r.2.mem ((c.tc : Thread Cert.EvenFwdKernelIdeal.nD Cert.EvenFwdKernelIdeal.τ).loc Cert.EvenFwdKernelIdeal.main_arg7) = m ((c.tc : Thread Cert.EvenFwdKernelIdeal.nD Cert.EvenFwdKernelIdeal.τ).loc Cert.EvenFwdKernelIdeal.main_arg7)
      ∧ r.2.mem ((c.tc : Thread Cert.EvenFwdKernelIdeal.nD Cert.EvenFwdKernelIdeal.τ).loc Cert.EvenFwdKernelIdeal.main_arg8) = m ((c.tc : Thread Cert.EvenFwdKernelIdeal.nD Cert.EvenFwdKernelIdeal.τ).loc Cert.EvenFwdKernelIdeal.main_arg8)
      ∧ r.2.mem ((c.tc : Thread Cert.EvenFwdKernelIdeal.nD Cert.EvenFwdKernelIdeal.τ).loc Cert.EvenFwdKernelIdeal.main_arg9) = m ((c.tc : Thread Cert.EvenFwdKernelIdeal.nD Cert.EvenFwdKernelIdeal.τ).loc Cert.EvenFwdKernelIdeal.main_arg9))
      ∧ r.2.sem = fun _ => 0)

def quiescent_EvenFwdReferenceIdeal [hEvenFwdReferenceIdeal : Cert.EvenFwdReferenceIdeal.Facts] : Prop :=
  ∀ (m : (ℓ : Loc Cert.EvenFwdReferenceIdeal.nD Cert.EvenFwdReferenceIdeal.τ Cert.EvenFwdReferenceIdeal.sig) → Buf (Elt Ideal) ℓ) (g : Dev Cert.EvenFwdReferenceIdeal.nD → PrngReg), Pre_EvenFwdReferenceIdeal m →
    θ_run (Cert.EvenFwdReferenceIdeal.defs (F := Ideal)) (onTc (τ := Cert.EvenFwdReferenceIdeal.τ) (Cert.EvenFwdReferenceIdeal.main (F := Ideal))) ⟨m, fun _ => 0, g⟩ (fun r => (∀ c : Dev Cert.EvenFwdReferenceIdeal.nD,
      r.2.mem ((c.tc : Thread Cert.EvenFwdReferenceIdeal.nD Cert.EvenFwdReferenceIdeal.τ).loc Cert.EvenFwdReferenceIdeal.main_arg0) = m ((c.tc : Thread Cert.EvenFwdReferenceIdeal.nD Cert.EvenFwdReferenceIdeal.τ).loc Cert.EvenFwdReferenceIdeal.main_arg0)
      ∧ r.2.mem ((c.tc : Thread Cert.EvenFwdReferenceIdeal.nD Cert.EvenFwdReferenceIdeal.τ).loc Cert.EvenFwdReferenceIdeal.main_arg1) = m ((c.tc : Thread Cert.EvenFwdReferenceIdeal.nD Cert.EvenFwdReferenceIdeal.τ).loc Cert.EvenFwdReferenceIdeal.main_arg1)
      ∧ r.2.mem ((c.tc : Thread Cert.EvenFwdReferenceIdeal.nD Cert.EvenFwdReferenceIdeal.τ).loc Cert.EvenFwdReferenceIdeal.main_arg2) = m ((c.tc : Thread Cert.EvenFwdReferenceIdeal.nD Cert.EvenFwdReferenceIdeal.τ).loc Cert.EvenFwdReferenceIdeal.main_arg2)
      ∧ r.2.mem ((c.tc : Thread Cert.EvenFwdReferenceIdeal.nD Cert.EvenFwdReferenceIdeal.τ).loc Cert.EvenFwdReferenceIdeal.main_arg3) = m ((c.tc : Thread Cert.EvenFwdReferenceIdeal.nD Cert.EvenFwdReferenceIdeal.τ).loc Cert.EvenFwdReferenceIdeal.main_arg3)
      ∧ r.2.mem ((c.tc : Thread Cert.EvenFwdReferenceIdeal.nD Cert.EvenFwdReferenceIdeal.τ).loc Cert.EvenFwdReferenceIdeal.main_arg4) = m ((c.tc : Thread Cert.EvenFwdReferenceIdeal.nD Cert.EvenFwdReferenceIdeal.τ).loc Cert.EvenFwdReferenceIdeal.main_arg4)
      ∧ r.2.mem ((c.tc : Thread Cert.EvenFwdReferenceIdeal.nD Cert.EvenFwdReferenceIdeal.τ).loc Cert.EvenFwdReferenceIdeal.main_arg5) = m ((c.tc : Thread Cert.EvenFwdReferenceIdeal.nD Cert.EvenFwdReferenceIdeal.τ).loc Cert.EvenFwdReferenceIdeal.main_arg5)
      ∧ r.2.mem ((c.tc : Thread Cert.EvenFwdReferenceIdeal.nD Cert.EvenFwdReferenceIdeal.τ).loc Cert.EvenFwdReferenceIdeal.main_arg6) = m ((c.tc : Thread Cert.EvenFwdReferenceIdeal.nD Cert.EvenFwdReferenceIdeal.τ).loc Cert.EvenFwdReferenceIdeal.main_arg6)
      ∧ r.2.mem ((c.tc : Thread Cert.EvenFwdReferenceIdeal.nD Cert.EvenFwdReferenceIdeal.τ).loc Cert.EvenFwdReferenceIdeal.main_arg7) = m ((c.tc : Thread Cert.EvenFwdReferenceIdeal.nD Cert.EvenFwdReferenceIdeal.τ).loc Cert.EvenFwdReferenceIdeal.main_arg7)
      ∧ r.2.mem ((c.tc : Thread Cert.EvenFwdReferenceIdeal.nD Cert.EvenFwdReferenceIdeal.τ).loc Cert.EvenFwdReferenceIdeal.main_arg8) = m ((c.tc : Thread Cert.EvenFwdReferenceIdeal.nD Cert.EvenFwdReferenceIdeal.τ).loc Cert.EvenFwdReferenceIdeal.main_arg8)
      ∧ r.2.mem ((c.tc : Thread Cert.EvenFwdReferenceIdeal.nD Cert.EvenFwdReferenceIdeal.τ).loc Cert.EvenFwdReferenceIdeal.main_arg9) = m ((c.tc : Thread Cert.EvenFwdReferenceIdeal.nD Cert.EvenFwdReferenceIdeal.τ).loc Cert.EvenFwdReferenceIdeal.main_arg9))
      ∧ r.2.sem = fun _ => 0)

def quiescent_EvenFwdReferenceIdeal_pre_finite_pool [hEvenFwdReferenceIdeal : Cert.EvenFwdReferenceIdeal.Facts] [hPre_finite_pool : Cert.Pre_finite_pool.Facts] : Prop :=
  ∀ (m : (ℓ : Loc Cert.EvenFwdReferenceIdeal.nD Cert.EvenFwdReferenceIdeal.τ Cert.EvenFwdReferenceIdeal.sig) → Buf (Elt Ideal) ℓ) (g : Dev Cert.EvenFwdReferenceIdeal.nD → PrngReg), Pre_EvenFwdReferenceIdeal_finite_pool m →
    θ_run (Cert.EvenFwdReferenceIdeal.defs (F := Ideal)) (onTc (τ := Cert.EvenFwdReferenceIdeal.τ) (Cert.EvenFwdReferenceIdeal.main (F := Ideal))) ⟨m, fun _ => 0, g⟩ (fun r => (∀ c : Dev Cert.EvenFwdReferenceIdeal.nD,
      r.2.mem ((c.tc : Thread Cert.EvenFwdReferenceIdeal.nD Cert.EvenFwdReferenceIdeal.τ).loc Cert.EvenFwdReferenceIdeal.main_arg0) = m ((c.tc : Thread Cert.EvenFwdReferenceIdeal.nD Cert.EvenFwdReferenceIdeal.τ).loc Cert.EvenFwdReferenceIdeal.main_arg0)
      ∧ r.2.mem ((c.tc : Thread Cert.EvenFwdReferenceIdeal.nD Cert.EvenFwdReferenceIdeal.τ).loc Cert.EvenFwdReferenceIdeal.main_arg1) = m ((c.tc : Thread Cert.EvenFwdReferenceIdeal.nD Cert.EvenFwdReferenceIdeal.τ).loc Cert.EvenFwdReferenceIdeal.main_arg1)
      ∧ r.2.mem ((c.tc : Thread Cert.EvenFwdReferenceIdeal.nD Cert.EvenFwdReferenceIdeal.τ).loc Cert.EvenFwdReferenceIdeal.main_arg2) = m ((c.tc : Thread Cert.EvenFwdReferenceIdeal.nD Cert.EvenFwdReferenceIdeal.τ).loc Cert.EvenFwdReferenceIdeal.main_arg2)
      ∧ r.2.mem ((c.tc : Thread Cert.EvenFwdReferenceIdeal.nD Cert.EvenFwdReferenceIdeal.τ).loc Cert.EvenFwdReferenceIdeal.main_arg3) = m ((c.tc : Thread Cert.EvenFwdReferenceIdeal.nD Cert.EvenFwdReferenceIdeal.τ).loc Cert.EvenFwdReferenceIdeal.main_arg3)
      ∧ r.2.mem ((c.tc : Thread Cert.EvenFwdReferenceIdeal.nD Cert.EvenFwdReferenceIdeal.τ).loc Cert.EvenFwdReferenceIdeal.main_arg4) = m ((c.tc : Thread Cert.EvenFwdReferenceIdeal.nD Cert.EvenFwdReferenceIdeal.τ).loc Cert.EvenFwdReferenceIdeal.main_arg4)
      ∧ r.2.mem ((c.tc : Thread Cert.EvenFwdReferenceIdeal.nD Cert.EvenFwdReferenceIdeal.τ).loc Cert.EvenFwdReferenceIdeal.main_arg5) = m ((c.tc : Thread Cert.EvenFwdReferenceIdeal.nD Cert.EvenFwdReferenceIdeal.τ).loc Cert.EvenFwdReferenceIdeal.main_arg5)
      ∧ r.2.mem ((c.tc : Thread Cert.EvenFwdReferenceIdeal.nD Cert.EvenFwdReferenceIdeal.τ).loc Cert.EvenFwdReferenceIdeal.main_arg6) = m ((c.tc : Thread Cert.EvenFwdReferenceIdeal.nD Cert.EvenFwdReferenceIdeal.τ).loc Cert.EvenFwdReferenceIdeal.main_arg6)
      ∧ r.2.mem ((c.tc : Thread Cert.EvenFwdReferenceIdeal.nD Cert.EvenFwdReferenceIdeal.τ).loc Cert.EvenFwdReferenceIdeal.main_arg7) = m ((c.tc : Thread Cert.EvenFwdReferenceIdeal.nD Cert.EvenFwdReferenceIdeal.τ).loc Cert.EvenFwdReferenceIdeal.main_arg7)
      ∧ r.2.mem ((c.tc : Thread Cert.EvenFwdReferenceIdeal.nD Cert.EvenFwdReferenceIdeal.τ).loc Cert.EvenFwdReferenceIdeal.main_arg8) = m ((c.tc : Thread Cert.EvenFwdReferenceIdeal.nD Cert.EvenFwdReferenceIdeal.τ).loc Cert.EvenFwdReferenceIdeal.main_arg8)
      ∧ r.2.mem ((c.tc : Thread Cert.EvenFwdReferenceIdeal.nD Cert.EvenFwdReferenceIdeal.τ).loc Cert.EvenFwdReferenceIdeal.main_arg9) = m ((c.tc : Thread Cert.EvenFwdReferenceIdeal.nD Cert.EvenFwdReferenceIdeal.τ).loc Cert.EvenFwdReferenceIdeal.main_arg9))
      ∧ r.2.sem = fun _ => 0)

def quiescent_OddFwdKernel [hOddFwdKernel : Cert.OddFwdKernel.Facts] : Prop :=
  ∀ (m : (ℓ : Loc Cert.OddFwdKernel.nD Cert.OddFwdKernel.τ Cert.OddFwdKernel.sig) → Buf (Elt Bits) ℓ) (g : Dev Cert.OddFwdKernel.nD → PrngReg), Pre_OddFwdKernel m →
    θ_run (Cert.OddFwdKernel.defs (F := Bits)) (onTc (τ := Cert.OddFwdKernel.τ) (Cert.OddFwdKernel.main (F := Bits))) ⟨m, fun _ => 0, g⟩ (fun r => (∀ c : Dev Cert.OddFwdKernel.nD,
      r.2.mem ((c.tc : Thread Cert.OddFwdKernel.nD Cert.OddFwdKernel.τ).loc Cert.OddFwdKernel.main_arg0) = m ((c.tc : Thread Cert.OddFwdKernel.nD Cert.OddFwdKernel.τ).loc Cert.OddFwdKernel.main_arg0)
      ∧ r.2.mem ((c.tc : Thread Cert.OddFwdKernel.nD Cert.OddFwdKernel.τ).loc Cert.OddFwdKernel.main_arg1) = m ((c.tc : Thread Cert.OddFwdKernel.nD Cert.OddFwdKernel.τ).loc Cert.OddFwdKernel.main_arg1)
      ∧ r.2.mem ((c.tc : Thread Cert.OddFwdKernel.nD Cert.OddFwdKernel.τ).loc Cert.OddFwdKernel.main_arg2) = m ((c.tc : Thread Cert.OddFwdKernel.nD Cert.OddFwdKernel.τ).loc Cert.OddFwdKernel.main_arg2)
      ∧ r.2.mem ((c.tc : Thread Cert.OddFwdKernel.nD Cert.OddFwdKernel.τ).loc Cert.OddFwdKernel.main_arg3) = m ((c.tc : Thread Cert.OddFwdKernel.nD Cert.OddFwdKernel.τ).loc Cert.OddFwdKernel.main_arg3)
      ∧ r.2.mem ((c.tc : Thread Cert.OddFwdKernel.nD Cert.OddFwdKernel.τ).loc Cert.OddFwdKernel.main_arg4) = m ((c.tc : Thread Cert.OddFwdKernel.nD Cert.OddFwdKernel.τ).loc Cert.OddFwdKernel.main_arg4)
      ∧ r.2.mem ((c.tc : Thread Cert.OddFwdKernel.nD Cert.OddFwdKernel.τ).loc Cert.OddFwdKernel.main_arg5) = m ((c.tc : Thread Cert.OddFwdKernel.nD Cert.OddFwdKernel.τ).loc Cert.OddFwdKernel.main_arg5)
      ∧ r.2.mem ((c.tc : Thread Cert.OddFwdKernel.nD Cert.OddFwdKernel.τ).loc Cert.OddFwdKernel.main_arg6) = m ((c.tc : Thread Cert.OddFwdKernel.nD Cert.OddFwdKernel.τ).loc Cert.OddFwdKernel.main_arg6)
      ∧ r.2.mem ((c.tc : Thread Cert.OddFwdKernel.nD Cert.OddFwdKernel.τ).loc Cert.OddFwdKernel.main_arg7) = m ((c.tc : Thread Cert.OddFwdKernel.nD Cert.OddFwdKernel.τ).loc Cert.OddFwdKernel.main_arg7)
      ∧ r.2.mem ((c.tc : Thread Cert.OddFwdKernel.nD Cert.OddFwdKernel.τ).loc Cert.OddFwdKernel.main_arg8) = m ((c.tc : Thread Cert.OddFwdKernel.nD Cert.OddFwdKernel.τ).loc Cert.OddFwdKernel.main_arg8)
      ∧ r.2.mem ((c.tc : Thread Cert.OddFwdKernel.nD Cert.OddFwdKernel.τ).loc Cert.OddFwdKernel.main_arg9) = m ((c.tc : Thread Cert.OddFwdKernel.nD Cert.OddFwdKernel.τ).loc Cert.OddFwdKernel.main_arg9))
      ∧ r.2.sem = fun _ => 0)

def quiescent_OddFwdKernelIdeal [hOddFwdKernelIdeal : Cert.OddFwdKernelIdeal.Facts] : Prop :=
  ∀ (m : (ℓ : Loc Cert.OddFwdKernelIdeal.nD Cert.OddFwdKernelIdeal.τ Cert.OddFwdKernelIdeal.sig) → Buf (Elt Ideal) ℓ) (g : Dev Cert.OddFwdKernelIdeal.nD → PrngReg), Pre_OddFwdKernelIdeal m →
    θ_run (Cert.OddFwdKernelIdeal.defs (F := Ideal)) (onTc (τ := Cert.OddFwdKernelIdeal.τ) (Cert.OddFwdKernelIdeal.main (F := Ideal))) ⟨m, fun _ => 0, g⟩ (fun r => (∀ c : Dev Cert.OddFwdKernelIdeal.nD,
      r.2.mem ((c.tc : Thread Cert.OddFwdKernelIdeal.nD Cert.OddFwdKernelIdeal.τ).loc Cert.OddFwdKernelIdeal.main_arg0) = m ((c.tc : Thread Cert.OddFwdKernelIdeal.nD Cert.OddFwdKernelIdeal.τ).loc Cert.OddFwdKernelIdeal.main_arg0)
      ∧ r.2.mem ((c.tc : Thread Cert.OddFwdKernelIdeal.nD Cert.OddFwdKernelIdeal.τ).loc Cert.OddFwdKernelIdeal.main_arg1) = m ((c.tc : Thread Cert.OddFwdKernelIdeal.nD Cert.OddFwdKernelIdeal.τ).loc Cert.OddFwdKernelIdeal.main_arg1)
      ∧ r.2.mem ((c.tc : Thread Cert.OddFwdKernelIdeal.nD Cert.OddFwdKernelIdeal.τ).loc Cert.OddFwdKernelIdeal.main_arg2) = m ((c.tc : Thread Cert.OddFwdKernelIdeal.nD Cert.OddFwdKernelIdeal.τ).loc Cert.OddFwdKernelIdeal.main_arg2)
      ∧ r.2.mem ((c.tc : Thread Cert.OddFwdKernelIdeal.nD Cert.OddFwdKernelIdeal.τ).loc Cert.OddFwdKernelIdeal.main_arg3) = m ((c.tc : Thread Cert.OddFwdKernelIdeal.nD Cert.OddFwdKernelIdeal.τ).loc Cert.OddFwdKernelIdeal.main_arg3)
      ∧ r.2.mem ((c.tc : Thread Cert.OddFwdKernelIdeal.nD Cert.OddFwdKernelIdeal.τ).loc Cert.OddFwdKernelIdeal.main_arg4) = m ((c.tc : Thread Cert.OddFwdKernelIdeal.nD Cert.OddFwdKernelIdeal.τ).loc Cert.OddFwdKernelIdeal.main_arg4)
      ∧ r.2.mem ((c.tc : Thread Cert.OddFwdKernelIdeal.nD Cert.OddFwdKernelIdeal.τ).loc Cert.OddFwdKernelIdeal.main_arg5) = m ((c.tc : Thread Cert.OddFwdKernelIdeal.nD Cert.OddFwdKernelIdeal.τ).loc Cert.OddFwdKernelIdeal.main_arg5)
      ∧ r.2.mem ((c.tc : Thread Cert.OddFwdKernelIdeal.nD Cert.OddFwdKernelIdeal.τ).loc Cert.OddFwdKernelIdeal.main_arg6) = m ((c.tc : Thread Cert.OddFwdKernelIdeal.nD Cert.OddFwdKernelIdeal.τ).loc Cert.OddFwdKernelIdeal.main_arg6)
      ∧ r.2.mem ((c.tc : Thread Cert.OddFwdKernelIdeal.nD Cert.OddFwdKernelIdeal.τ).loc Cert.OddFwdKernelIdeal.main_arg7) = m ((c.tc : Thread Cert.OddFwdKernelIdeal.nD Cert.OddFwdKernelIdeal.τ).loc Cert.OddFwdKernelIdeal.main_arg7)
      ∧ r.2.mem ((c.tc : Thread Cert.OddFwdKernelIdeal.nD Cert.OddFwdKernelIdeal.τ).loc Cert.OddFwdKernelIdeal.main_arg8) = m ((c.tc : Thread Cert.OddFwdKernelIdeal.nD Cert.OddFwdKernelIdeal.τ).loc Cert.OddFwdKernelIdeal.main_arg8)
      ∧ r.2.mem ((c.tc : Thread Cert.OddFwdKernelIdeal.nD Cert.OddFwdKernelIdeal.τ).loc Cert.OddFwdKernelIdeal.main_arg9) = m ((c.tc : Thread Cert.OddFwdKernelIdeal.nD Cert.OddFwdKernelIdeal.τ).loc Cert.OddFwdKernelIdeal.main_arg9))
      ∧ r.2.sem = fun _ => 0)

def quiescent_OddFwdKernelIdeal_pre_multiplier_kept [hOddFwdKernelIdeal : Cert.OddFwdKernelIdeal.Facts] [hPre_multiplier_kept : Cert.Pre_multiplier_kept.Facts] : Prop :=
  ∀ (m : (ℓ : Loc Cert.OddFwdKernelIdeal.nD Cert.OddFwdKernelIdeal.τ Cert.OddFwdKernelIdeal.sig) → Buf (Elt Ideal) ℓ) (g : Dev Cert.OddFwdKernelIdeal.nD → PrngReg), Pre_OddFwdKernelIdeal_multiplier_kept m →
    θ_run (Cert.OddFwdKernelIdeal.defs (F := Ideal)) (onTc (τ := Cert.OddFwdKernelIdeal.τ) (Cert.OddFwdKernelIdeal.main (F := Ideal))) ⟨m, fun _ => 0, g⟩ (fun r => (∀ c : Dev Cert.OddFwdKernelIdeal.nD,
      r.2.mem ((c.tc : Thread Cert.OddFwdKernelIdeal.nD Cert.OddFwdKernelIdeal.τ).loc Cert.OddFwdKernelIdeal.main_arg0) = m ((c.tc : Thread Cert.OddFwdKernelIdeal.nD Cert.OddFwdKernelIdeal.τ).loc Cert.OddFwdKernelIdeal.main_arg0)
      ∧ r.2.mem ((c.tc : Thread Cert.OddFwdKernelIdeal.nD Cert.OddFwdKernelIdeal.τ).loc Cert.OddFwdKernelIdeal.main_arg1) = m ((c.tc : Thread Cert.OddFwdKernelIdeal.nD Cert.OddFwdKernelIdeal.τ).loc Cert.OddFwdKernelIdeal.main_arg1)
      ∧ r.2.mem ((c.tc : Thread Cert.OddFwdKernelIdeal.nD Cert.OddFwdKernelIdeal.τ).loc Cert.OddFwdKernelIdeal.main_arg2) = m ((c.tc : Thread Cert.OddFwdKernelIdeal.nD Cert.OddFwdKernelIdeal.τ).loc Cert.OddFwdKernelIdeal.main_arg2)
      ∧ r.2.mem ((c.tc : Thread Cert.OddFwdKernelIdeal.nD Cert.OddFwdKernelIdeal.τ).loc Cert.OddFwdKernelIdeal.main_arg3) = m ((c.tc : Thread Cert.OddFwdKernelIdeal.nD Cert.OddFwdKernelIdeal.τ).loc Cert.OddFwdKernelIdeal.main_arg3)
      ∧ r.2.mem ((c.tc : Thread Cert.OddFwdKernelIdeal.nD Cert.OddFwdKernelIdeal.τ).loc Cert.OddFwdKernelIdeal.main_arg4) = m ((c.tc : Thread Cert.OddFwdKernelIdeal.nD Cert.OddFwdKernelIdeal.τ).loc Cert.OddFwdKernelIdeal.main_arg4)
      ∧ r.2.mem ((c.tc : Thread Cert.OddFwdKernelIdeal.nD Cert.OddFwdKernelIdeal.τ).loc Cert.OddFwdKernelIdeal.main_arg5) = m ((c.tc : Thread Cert.OddFwdKernelIdeal.nD Cert.OddFwdKernelIdeal.τ).loc Cert.OddFwdKernelIdeal.main_arg5)
      ∧ r.2.mem ((c.tc : Thread Cert.OddFwdKernelIdeal.nD Cert.OddFwdKernelIdeal.τ).loc Cert.OddFwdKernelIdeal.main_arg6) = m ((c.tc : Thread Cert.OddFwdKernelIdeal.nD Cert.OddFwdKernelIdeal.τ).loc Cert.OddFwdKernelIdeal.main_arg6)
      ∧ r.2.mem ((c.tc : Thread Cert.OddFwdKernelIdeal.nD Cert.OddFwdKernelIdeal.τ).loc Cert.OddFwdKernelIdeal.main_arg7) = m ((c.tc : Thread Cert.OddFwdKernelIdeal.nD Cert.OddFwdKernelIdeal.τ).loc Cert.OddFwdKernelIdeal.main_arg7)
      ∧ r.2.mem ((c.tc : Thread Cert.OddFwdKernelIdeal.nD Cert.OddFwdKernelIdeal.τ).loc Cert.OddFwdKernelIdeal.main_arg8) = m ((c.tc : Thread Cert.OddFwdKernelIdeal.nD Cert.OddFwdKernelIdeal.τ).loc Cert.OddFwdKernelIdeal.main_arg8)
      ∧ r.2.mem ((c.tc : Thread Cert.OddFwdKernelIdeal.nD Cert.OddFwdKernelIdeal.τ).loc Cert.OddFwdKernelIdeal.main_arg9) = m ((c.tc : Thread Cert.OddFwdKernelIdeal.nD Cert.OddFwdKernelIdeal.τ).loc Cert.OddFwdKernelIdeal.main_arg9))
      ∧ r.2.sem = fun _ => 0)

def quiescent_OddFwdReferenceIdeal [hOddFwdReferenceIdeal : Cert.OddFwdReferenceIdeal.Facts] : Prop :=
  ∀ (m : (ℓ : Loc Cert.OddFwdReferenceIdeal.nD Cert.OddFwdReferenceIdeal.τ Cert.OddFwdReferenceIdeal.sig) → Buf (Elt Ideal) ℓ) (g : Dev Cert.OddFwdReferenceIdeal.nD → PrngReg), Pre_OddFwdReferenceIdeal m →
    θ_run (Cert.OddFwdReferenceIdeal.defs (F := Ideal)) (onTc (τ := Cert.OddFwdReferenceIdeal.τ) (Cert.OddFwdReferenceIdeal.main (F := Ideal))) ⟨m, fun _ => 0, g⟩ (fun r => (∀ c : Dev Cert.OddFwdReferenceIdeal.nD,
      r.2.mem ((c.tc : Thread Cert.OddFwdReferenceIdeal.nD Cert.OddFwdReferenceIdeal.τ).loc Cert.OddFwdReferenceIdeal.main_arg0) = m ((c.tc : Thread Cert.OddFwdReferenceIdeal.nD Cert.OddFwdReferenceIdeal.τ).loc Cert.OddFwdReferenceIdeal.main_arg0)
      ∧ r.2.mem ((c.tc : Thread Cert.OddFwdReferenceIdeal.nD Cert.OddFwdReferenceIdeal.τ).loc Cert.OddFwdReferenceIdeal.main_arg1) = m ((c.tc : Thread Cert.OddFwdReferenceIdeal.nD Cert.OddFwdReferenceIdeal.τ).loc Cert.OddFwdReferenceIdeal.main_arg1)
      ∧ r.2.mem ((c.tc : Thread Cert.OddFwdReferenceIdeal.nD Cert.OddFwdReferenceIdeal.τ).loc Cert.OddFwdReferenceIdeal.main_arg2) = m ((c.tc : Thread Cert.OddFwdReferenceIdeal.nD Cert.OddFwdReferenceIdeal.τ).loc Cert.OddFwdReferenceIdeal.main_arg2)
      ∧ r.2.mem ((c.tc : Thread Cert.OddFwdReferenceIdeal.nD Cert.OddFwdReferenceIdeal.τ).loc Cert.OddFwdReferenceIdeal.main_arg3) = m ((c.tc : Thread Cert.OddFwdReferenceIdeal.nD Cert.OddFwdReferenceIdeal.τ).loc Cert.OddFwdReferenceIdeal.main_arg3)
      ∧ r.2.mem ((c.tc : Thread Cert.OddFwdReferenceIdeal.nD Cert.OddFwdReferenceIdeal.τ).loc Cert.OddFwdReferenceIdeal.main_arg4) = m ((c.tc : Thread Cert.OddFwdReferenceIdeal.nD Cert.OddFwdReferenceIdeal.τ).loc Cert.OddFwdReferenceIdeal.main_arg4)
      ∧ r.2.mem ((c.tc : Thread Cert.OddFwdReferenceIdeal.nD Cert.OddFwdReferenceIdeal.τ).loc Cert.OddFwdReferenceIdeal.main_arg5) = m ((c.tc : Thread Cert.OddFwdReferenceIdeal.nD Cert.OddFwdReferenceIdeal.τ).loc Cert.OddFwdReferenceIdeal.main_arg5)
      ∧ r.2.mem ((c.tc : Thread Cert.OddFwdReferenceIdeal.nD Cert.OddFwdReferenceIdeal.τ).loc Cert.OddFwdReferenceIdeal.main_arg6) = m ((c.tc : Thread Cert.OddFwdReferenceIdeal.nD Cert.OddFwdReferenceIdeal.τ).loc Cert.OddFwdReferenceIdeal.main_arg6)
      ∧ r.2.mem ((c.tc : Thread Cert.OddFwdReferenceIdeal.nD Cert.OddFwdReferenceIdeal.τ).loc Cert.OddFwdReferenceIdeal.main_arg7) = m ((c.tc : Thread Cert.OddFwdReferenceIdeal.nD Cert.OddFwdReferenceIdeal.τ).loc Cert.OddFwdReferenceIdeal.main_arg7)
      ∧ r.2.mem ((c.tc : Thread Cert.OddFwdReferenceIdeal.nD Cert.OddFwdReferenceIdeal.τ).loc Cert.OddFwdReferenceIdeal.main_arg8) = m ((c.tc : Thread Cert.OddFwdReferenceIdeal.nD Cert.OddFwdReferenceIdeal.τ).loc Cert.OddFwdReferenceIdeal.main_arg8)
      ∧ r.2.mem ((c.tc : Thread Cert.OddFwdReferenceIdeal.nD Cert.OddFwdReferenceIdeal.τ).loc Cert.OddFwdReferenceIdeal.main_arg9) = m ((c.tc : Thread Cert.OddFwdReferenceIdeal.nD Cert.OddFwdReferenceIdeal.τ).loc Cert.OddFwdReferenceIdeal.main_arg9))
      ∧ r.2.sem = fun _ => 0)

def quiescent_OddFwdReferenceIdeal_pre_multiplier_kept [hOddFwdReferenceIdeal : Cert.OddFwdReferenceIdeal.Facts] [hPre_multiplier_kept : Cert.Pre_multiplier_kept.Facts] : Prop :=
  ∀ (m : (ℓ : Loc Cert.OddFwdReferenceIdeal.nD Cert.OddFwdReferenceIdeal.τ Cert.OddFwdReferenceIdeal.sig) → Buf (Elt Ideal) ℓ) (g : Dev Cert.OddFwdReferenceIdeal.nD → PrngReg), Pre_OddFwdReferenceIdeal_multiplier_kept m →
    θ_run (Cert.OddFwdReferenceIdeal.defs (F := Ideal)) (onTc (τ := Cert.OddFwdReferenceIdeal.τ) (Cert.OddFwdReferenceIdeal.main (F := Ideal))) ⟨m, fun _ => 0, g⟩ (fun r => (∀ c : Dev Cert.OddFwdReferenceIdeal.nD,
      r.2.mem ((c.tc : Thread Cert.OddFwdReferenceIdeal.nD Cert.OddFwdReferenceIdeal.τ).loc Cert.OddFwdReferenceIdeal.main_arg0) = m ((c.tc : Thread Cert.OddFwdReferenceIdeal.nD Cert.OddFwdReferenceIdeal.τ).loc Cert.OddFwdReferenceIdeal.main_arg0)
      ∧ r.2.mem ((c.tc : Thread Cert.OddFwdReferenceIdeal.nD Cert.OddFwdReferenceIdeal.τ).loc Cert.OddFwdReferenceIdeal.main_arg1) = m ((c.tc : Thread Cert.OddFwdReferenceIdeal.nD Cert.OddFwdReferenceIdeal.τ).loc Cert.OddFwdReferenceIdeal.main_arg1)
      ∧ r.2.mem ((c.tc : Thread Cert.OddFwdReferenceIdeal.nD Cert.OddFwdReferenceIdeal.τ).loc Cert.OddFwdReferenceIdeal.main_arg2) = m ((c.tc : Thread Cert.OddFwdReferenceIdeal.nD Cert.OddFwdReferenceIdeal.τ).loc Cert.OddFwdReferenceIdeal.main_arg2)
      ∧ r.2.mem ((c.tc : Thread Cert.OddFwdReferenceIdeal.nD Cert.OddFwdReferenceIdeal.τ).loc Cert.OddFwdReferenceIdeal.main_arg3) = m ((c.tc : Thread Cert.OddFwdReferenceIdeal.nD Cert.OddFwdReferenceIdeal.τ).loc Cert.OddFwdReferenceIdeal.main_arg3)
      ∧ r.2.mem ((c.tc : Thread Cert.OddFwdReferenceIdeal.nD Cert.OddFwdReferenceIdeal.τ).loc Cert.OddFwdReferenceIdeal.main_arg4) = m ((c.tc : Thread Cert.OddFwdReferenceIdeal.nD Cert.OddFwdReferenceIdeal.τ).loc Cert.OddFwdReferenceIdeal.main_arg4)
      ∧ r.2.mem ((c.tc : Thread Cert.OddFwdReferenceIdeal.nD Cert.OddFwdReferenceIdeal.τ).loc Cert.OddFwdReferenceIdeal.main_arg5) = m ((c.tc : Thread Cert.OddFwdReferenceIdeal.nD Cert.OddFwdReferenceIdeal.τ).loc Cert.OddFwdReferenceIdeal.main_arg5)
      ∧ r.2.mem ((c.tc : Thread Cert.OddFwdReferenceIdeal.nD Cert.OddFwdReferenceIdeal.τ).loc Cert.OddFwdReferenceIdeal.main_arg6) = m ((c.tc : Thread Cert.OddFwdReferenceIdeal.nD Cert.OddFwdReferenceIdeal.τ).loc Cert.OddFwdReferenceIdeal.main_arg6)
      ∧ r.2.mem ((c.tc : Thread Cert.OddFwdReferenceIdeal.nD Cert.OddFwdReferenceIdeal.τ).loc Cert.OddFwdReferenceIdeal.main_arg7) = m ((c.tc : Thread Cert.OddFwdReferenceIdeal.nD Cert.OddFwdReferenceIdeal.τ).loc Cert.OddFwdReferenceIdeal.main_arg7)
      ∧ r.2.mem ((c.tc : Thread Cert.OddFwdReferenceIdeal.nD Cert.OddFwdReferenceIdeal.τ).loc Cert.OddFwdReferenceIdeal.main_arg8) = m ((c.tc : Thread Cert.OddFwdReferenceIdeal.nD Cert.OddFwdReferenceIdeal.τ).loc Cert.OddFwdReferenceIdeal.main_arg8)
      ∧ r.2.mem ((c.tc : Thread Cert.OddFwdReferenceIdeal.nD Cert.OddFwdReferenceIdeal.τ).loc Cert.OddFwdReferenceIdeal.main_arg9) = m ((c.tc : Thread Cert.OddFwdReferenceIdeal.nD Cert.OddFwdReferenceIdeal.τ).loc Cert.OddFwdReferenceIdeal.main_arg9))
      ∧ r.2.sem = fun _ => 0)

def quiescent_DwInKernel [hDwInKernel : Cert.DwInKernel.Facts] : Prop :=
  ∀ (m : (ℓ : Loc Cert.DwInKernel.nD Cert.DwInKernel.τ Cert.DwInKernel.sig) → Buf (Elt Bits) ℓ) (g : Dev Cert.DwInKernel.nD → PrngReg), Pre_DwInKernel m →
    θ_run (Cert.DwInKernel.defs (F := Bits)) (onTc (τ := Cert.DwInKernel.τ) (Cert.DwInKernel.main (F := Bits))) ⟨m, fun _ => 0, g⟩ (fun r => (∀ c : Dev Cert.DwInKernel.nD,
      r.2.mem ((c.tc : Thread Cert.DwInKernel.nD Cert.DwInKernel.τ).loc Cert.DwInKernel.main_arg0) = m ((c.tc : Thread Cert.DwInKernel.nD Cert.DwInKernel.τ).loc Cert.DwInKernel.main_arg0)
      ∧ r.2.mem ((c.tc : Thread Cert.DwInKernel.nD Cert.DwInKernel.τ).loc Cert.DwInKernel.main_arg1) = m ((c.tc : Thread Cert.DwInKernel.nD Cert.DwInKernel.τ).loc Cert.DwInKernel.main_arg1))
      ∧ r.2.sem = fun _ => 0)

def quiescent_DwInKernelIdeal [hDwInKernelIdeal : Cert.DwInKernelIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg), Pre_DwInKernelIdeal m →
    θ_run (Cert.DwInKernelIdeal.defs (F := Ideal)) (onTc (τ := Cert.DwInKernelIdeal.τ) (Cert.DwInKernelIdeal.main (F := Ideal))) ⟨m, fun _ => 0, g⟩ (fun r => (∀ c : Dev Cert.DwInKernelIdeal.nD,
      r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
      ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwOutKernel [hDwOutKernel : Cert.DwOutKernel.Facts] : Prop :=
  ∀ (m : (ℓ : Loc Cert.DwOutKernel.nD Cert.DwOutKernel.τ Cert.DwOutKernel.sig) → Buf (Elt Bits) ℓ) (g : Dev Cert.DwOutKernel.nD → PrngReg), Pre_DwOutKernel m →
    θ_run (Cert.DwOutKernel.defs (F := Bits)) (onTc (τ := Cert.DwOutKernel.τ) (Cert.DwOutKernel.main (F := Bits))) ⟨m, fun _ => 0, g⟩ (fun r => (∀ c : Dev Cert.DwOutKernel.nD,
      r.2.mem ((c.tc : Thread Cert.DwOutKernel.nD Cert.DwOutKernel.τ).loc Cert.DwOutKernel.main_arg0) = m ((c.tc : Thread Cert.DwOutKernel.nD Cert.DwOutKernel.τ).loc Cert.DwOutKernel.main_arg0)
      ∧ r.2.mem ((c.tc : Thread Cert.DwOutKernel.nD Cert.DwOutKernel.τ).loc Cert.DwOutKernel.main_arg1) = m ((c.tc : Thread Cert.DwOutKernel.nD Cert.DwOutKernel.τ).loc Cert.DwOutKernel.main_arg1))
      ∧ r.2.sem = fun _ => 0)

def quiescent_DwOutKernelIdeal [hDwOutKernelIdeal : Cert.DwOutKernelIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg), Pre_DwOutKernelIdeal m →
    θ_run (Cert.DwOutKernelIdeal.defs (F := Ideal)) (onTc (τ := Cert.DwOutKernelIdeal.τ) (Cert.DwOutKernelIdeal.main (F := Ideal))) ⟨m, fun _ => 0, g⟩ (fun r => (∀ c : Dev Cert.DwOutKernelIdeal.nD,
      r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
      ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_AdamInEvenKernel [hAdamInEvenKernel : Cert.AdamInEvenKernel.Facts] : Prop :=
  ∀ (m : (ℓ : Loc Cert.AdamInEvenKernel.nD Cert.AdamInEvenKernel.τ Cert.AdamInEvenKernel.sig) → Buf (Elt Bits) ℓ) (g : Dev Cert.AdamInEvenKernel.nD → PrngReg), Pre_AdamInEvenKernel m →
    θ_run (Cert.AdamInEvenKernel.defs (F := Bits)) (onTc (τ := Cert.AdamInEvenKernel.τ) (Cert.AdamInEvenKernel.main (F := Bits))) ⟨m, fun _ => 0, g⟩ (fun r => (∀ c : Dev Cert.AdamInEvenKernel.nD,
      r.2.mem ((c.tc : Thread Cert.AdamInEvenKernel.nD Cert.AdamInEvenKernel.τ).loc Cert.AdamInEvenKernel.main_arg0) = m ((c.tc : Thread Cert.AdamInEvenKernel.nD Cert.AdamInEvenKernel.τ).loc Cert.AdamInEvenKernel.main_arg0)
      ∧ r.2.mem ((c.tc : Thread Cert.AdamInEvenKernel.nD Cert.AdamInEvenKernel.τ).loc Cert.AdamInEvenKernel.main_arg1) = m ((c.tc : Thread Cert.AdamInEvenKernel.nD Cert.AdamInEvenKernel.τ).loc Cert.AdamInEvenKernel.main_arg1)
      ∧ r.2.mem ((c.tc : Thread Cert.AdamInEvenKernel.nD Cert.AdamInEvenKernel.τ).loc Cert.AdamInEvenKernel.main_arg2) = m ((c.tc : Thread Cert.AdamInEvenKernel.nD Cert.AdamInEvenKernel.τ).loc Cert.AdamInEvenKernel.main_arg2)
      ∧ r.2.mem ((c.tc : Thread Cert.AdamInEvenKernel.nD Cert.AdamInEvenKernel.τ).loc Cert.AdamInEvenKernel.main_arg3) = m ((c.tc : Thread Cert.AdamInEvenKernel.nD Cert.AdamInEvenKernel.τ).loc Cert.AdamInEvenKernel.main_arg3))
      ∧ r.2.sem = fun _ => 0)

def quiescent_AdamInEvenKernelIdeal [hAdamInEvenKernelIdeal : Cert.AdamInEvenKernelIdeal.Facts] : Prop :=
  ∀ (m : (ℓ : Loc Cert.AdamInEvenKernelIdeal.nD Cert.AdamInEvenKernelIdeal.τ Cert.AdamInEvenKernelIdeal.sig) → Buf (Elt Ideal) ℓ) (g : Dev Cert.AdamInEvenKernelIdeal.nD → PrngReg), Pre_AdamInEvenKernelIdeal m →
    θ_run (Cert.AdamInEvenKernelIdeal.defs (F := Ideal)) (onTc (τ := Cert.AdamInEvenKernelIdeal.τ) (Cert.AdamInEvenKernelIdeal.main (F := Ideal))) ⟨m, fun _ => 0, g⟩ (fun r => (∀ c : Dev Cert.AdamInEvenKernelIdeal.nD,
      r.2.mem ((c.tc : Thread Cert.AdamInEvenKernelIdeal.nD Cert.AdamInEvenKernelIdeal.τ).loc Cert.AdamInEvenKernelIdeal.main_arg0) = m ((c.tc : Thread Cert.AdamInEvenKernelIdeal.nD Cert.AdamInEvenKernelIdeal.τ).loc Cert.AdamInEvenKernelIdeal.main_arg0)
      ∧ r.2.mem ((c.tc : Thread Cert.AdamInEvenKernelIdeal.nD Cert.AdamInEvenKernelIdeal.τ).loc Cert.AdamInEvenKernelIdeal.main_arg1) = m ((c.tc : Thread Cert.AdamInEvenKernelIdeal.nD Cert.AdamInEvenKernelIdeal.τ).loc Cert.AdamInEvenKernelIdeal.main_arg1)
      ∧ r.2.mem ((c.tc : Thread Cert.AdamInEvenKernelIdeal.nD Cert.AdamInEvenKernelIdeal.τ).loc Cert.AdamInEvenKernelIdeal.main_arg2) = m ((c.tc : Thread Cert.AdamInEvenKernelIdeal.nD Cert.AdamInEvenKernelIdeal.τ).loc Cert.AdamInEvenKernelIdeal.main_arg2)
      ∧ r.2.mem ((c.tc : Thread Cert.AdamInEvenKernelIdeal.nD Cert.AdamInEvenKernelIdeal.τ).loc Cert.AdamInEvenKernelIdeal.main_arg3) = m ((c.tc : Thread Cert.AdamInEvenKernelIdeal.nD Cert.AdamInEvenKernelIdeal.τ).loc Cert.AdamInEvenKernelIdeal.main_arg3))
      ∧ r.2.sem = fun _ => 0)

def quiescent_AdamInEvenReferenceIdeal [hAdamInEvenReferenceIdeal : Cert.AdamInEvenReferenceIdeal.Facts] : Prop :=
  ∀ (m : (ℓ : Loc Cert.AdamInEvenReferenceIdeal.nD Cert.AdamInEvenReferenceIdeal.τ Cert.AdamInEvenReferenceIdeal.sig) → Buf (Elt Ideal) ℓ) (g : Dev Cert.AdamInEvenReferenceIdeal.nD → PrngReg), Pre_AdamInEvenReferenceIdeal m →
    θ_run (Cert.AdamInEvenReferenceIdeal.defs (F := Ideal)) (onTc (τ := Cert.AdamInEvenReferenceIdeal.τ) (Cert.AdamInEvenReferenceIdeal.main (F := Ideal))) ⟨m, fun _ => 0, g⟩ (fun r => (∀ c : Dev Cert.AdamInEvenReferenceIdeal.nD,
      r.2.mem ((c.tc : Thread Cert.AdamInEvenReferenceIdeal.nD Cert.AdamInEvenReferenceIdeal.τ).loc Cert.AdamInEvenReferenceIdeal.main_arg0) = m ((c.tc : Thread Cert.AdamInEvenReferenceIdeal.nD Cert.AdamInEvenReferenceIdeal.τ).loc Cert.AdamInEvenReferenceIdeal.main_arg0)
      ∧ r.2.mem ((c.tc : Thread Cert.AdamInEvenReferenceIdeal.nD Cert.AdamInEvenReferenceIdeal.τ).loc Cert.AdamInEvenReferenceIdeal.main_arg1) = m ((c.tc : Thread Cert.AdamInEvenReferenceIdeal.nD Cert.AdamInEvenReferenceIdeal.τ).loc Cert.AdamInEvenReferenceIdeal.main_arg1)
      ∧ r.2.mem ((c.tc : Thread Cert.AdamInEvenReferenceIdeal.nD Cert.AdamInEvenReferenceIdeal.τ).loc Cert.AdamInEvenReferenceIdeal.main_arg2) = m ((c.tc : Thread Cert.AdamInEvenReferenceIdeal.nD Cert.AdamInEvenReferenceIdeal.τ).loc Cert.AdamInEvenReferenceIdeal.main_arg2)
      ∧ r.2.mem ((c.tc : Thread Cert.AdamInEvenReferenceIdeal.nD Cert.AdamInEvenReferenceIdeal.τ).loc Cert.AdamInEvenReferenceIdeal.main_arg3) = m ((c.tc : Thread Cert.AdamInEvenReferenceIdeal.nD Cert.AdamInEvenReferenceIdeal.τ).loc Cert.AdamInEvenReferenceIdeal.main_arg3))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_AddKernel [hAddKernel : Cert.AddKernel.Facts] [hPre_core_number : Cert.Pre_core_number.Facts] : Prop :=
  ∀ (m : (ℓ : Loc Cert.AddKernel.nD Cert.AddKernel.τ Cert.AddKernel.sig) → Buf (Elt Bits) ℓ) (g : Dev Cert.AddKernel.nD → PrngReg), Pre_AddKernel m →
    θ_run (Cert.AddKernel.defs (F := Bits)) (onTc (τ := Cert.AddKernel.τ) (Cert.AddKernel.main (F := Bits))) ⟨m, fun _ => 0, g⟩ (fun r => (∀ c : Dev Cert.AddKernel.nD,
      r.2.mem ((c.tc : Thread Cert.AddKernel.nD Cert.AddKernel.τ).loc Cert.AddKernel.main_arg0) = m ((c.tc : Thread Cert.AddKernel.nD Cert.AddKernel.τ).loc Cert.AddKernel.main_arg0)
      ∧ r.2.mem ((c.tc : Thread Cert.AddKernel.nD Cert.AddKernel.τ).loc Cert.AddKernel.main_arg1) = m ((c.tc : Thread Cert.AddKernel.nD Cert.AddKernel.τ).loc Cert.AddKernel.main_arg1)
      ∧ r.2.mem ((c.tc : Thread Cert.AddKernel.nD Cert.AddKernel.τ).loc Cert.AddKernel.main_arg2) = m ((c.tc : Thread Cert.AddKernel.nD Cert.AddKernel.τ).loc Cert.AddKernel.main_arg2))
      ∧ r.2.sem = fun _ => 0)

def quiescent_AddKernelIdeal [hAddKernelIdeal : Cert.AddKernelIdeal.Facts] [hPre_core_number : Cert.Pre_core_number.Facts] : Prop :=
  ∀ (m : (ℓ : Loc Cert.AddKernelIdeal.nD Cert.AddKernelIdeal.τ Cert.AddKernelIdeal.sig) → Buf (Elt Ideal) ℓ) (g : Dev Cert.AddKernelIdeal.nD → PrngReg), Pre_AddKernelIdeal m →
    θ_run (Cert.AddKernelIdeal.defs (F := Ideal)) (onTc (τ := Cert.AddKernelIdeal.τ) (Cert.AddKernelIdeal.main (F := Ideal))) ⟨m, fun _ => 0, g⟩ (fun r => (∀ c : Dev Cert.AddKernelIdeal.nD,
      r.2.mem ((c.tc : Thread Cert.AddKernelIdeal.nD Cert.AddKernelIdeal.τ).loc Cert.AddKernelIdeal.main_arg0) = m ((c.tc : Thread Cert.AddKernelIdeal.nD Cert.AddKernelIdeal.τ).loc Cert.AddKernelIdeal.main_arg0)
      ∧ r.2.mem ((c.tc : Thread Cert.AddKernelIdeal.nD Cert.AddKernelIdeal.τ).loc Cert.AddKernelIdeal.main_arg1) = m ((c.tc : Thread Cert.AddKernelIdeal.nD Cert.AddKernelIdeal.τ).loc Cert.AddKernelIdeal.main_arg1)
      ∧ r.2.mem ((c.tc : Thread Cert.AddKernelIdeal.nD Cert.AddKernelIdeal.τ).loc Cert.AddKernelIdeal.main_arg2) = m ((c.tc : Thread Cert.AddKernelIdeal.nD Cert.AddKernelIdeal.τ).loc Cert.AddKernelIdeal.main_arg2))
      ∧ r.2.sem = fun _ => 0)

def quiescent_AddReferenceIdeal [hAddReferenceIdeal : Cert.AddReferenceIdeal.Facts] : Prop :=
  ∀ (m : (ℓ : Loc Cert.AddReferenceIdeal.nD Cert.AddReferenceIdeal.τ Cert.AddReferenceIdeal.sig) → Buf (Elt Ideal) ℓ) (g : Dev Cert.AddReferenceIdeal.nD → PrngReg), Pre_AddReferenceIdeal m →
    θ_run (Cert.AddReferenceIdeal.defs (F := Ideal)) (onTc (τ := Cert.AddReferenceIdeal.τ) (Cert.AddReferenceIdeal.main (F := Ideal))) ⟨m, fun _ => 0, g⟩ (fun r => (∀ c : Dev Cert.AddReferenceIdeal.nD,
      r.2.mem ((c.tc : Thread Cert.AddReferenceIdeal.nD Cert.AddReferenceIdeal.τ).loc Cert.AddReferenceIdeal.main_arg0) = m ((c.tc : Thread Cert.AddReferenceIdeal.nD Cert.AddReferenceIdeal.τ).loc Cert.AddReferenceIdeal.main_arg0)
      ∧ r.2.mem ((c.tc : Thread Cert.AddReferenceIdeal.nD Cert.AddReferenceIdeal.τ).loc Cert.AddReferenceIdeal.main_arg1) = m ((c.tc : Thread Cert.AddReferenceIdeal.nD Cert.AddReferenceIdeal.τ).loc Cert.AddReferenceIdeal.main_arg1)
      ∧ r.2.mem ((c.tc : Thread Cert.AddReferenceIdeal.nD Cert.AddReferenceIdeal.τ).loc Cert.AddReferenceIdeal.main_arg2) = m ((c.tc : Thread Cert.AddReferenceIdeal.nD Cert.AddReferenceIdeal.τ).loc Cert.AddReferenceIdeal.main_arg2))
      ∧ r.2.sem = fun _ => 0)

def quiescent_AddReferenceIdeal_pre_core_number [hAddReferenceIdeal : Cert.AddReferenceIdeal.Facts] [hPre_core_number : Cert.Pre_core_number.Facts] : Prop :=
  ∀ (m : (ℓ : Loc Cert.AddReferenceIdeal.nD Cert.AddReferenceIdeal.τ Cert.AddReferenceIdeal.sig) → Buf (Elt Ideal) ℓ) (g : Dev Cert.AddReferenceIdeal.nD → PrngReg), Pre_AddReferenceIdeal_core_number m →
    θ_run (Cert.AddReferenceIdeal.defs (F := Ideal)) (onTc (τ := Cert.AddReferenceIdeal.τ) (Cert.AddReferenceIdeal.main (F := Ideal))) ⟨m, fun _ => 0, g⟩ (fun r => (∀ c : Dev Cert.AddReferenceIdeal.nD,
      r.2.mem ((c.tc : Thread Cert.AddReferenceIdeal.nD Cert.AddReferenceIdeal.τ).loc Cert.AddReferenceIdeal.main_arg0) = m ((c.tc : Thread Cert.AddReferenceIdeal.nD Cert.AddReferenceIdeal.τ).loc Cert.AddReferenceIdeal.main_arg0)
      ∧ r.2.mem ((c.tc : Thread Cert.AddReferenceIdeal.nD Cert.AddReferenceIdeal.τ).loc Cert.AddReferenceIdeal.main_arg1) = m ((c.tc : Thread Cert.AddReferenceIdeal.nD Cert.AddReferenceIdeal.τ).loc Cert.AddReferenceIdeal.main_arg1)
      ∧ r.2.mem ((c.tc : Thread Cert.AddReferenceIdeal.nD Cert.AddReferenceIdeal.τ).loc Cert.AddReferenceIdeal.main_arg2) = m ((c.tc : Thread Cert.AddReferenceIdeal.nD Cert.AddReferenceIdeal.τ).loc Cert.AddReferenceIdeal.main_arg2))
      ∧ r.2.sem = fun _ => 0)

def quiescent_ChipsKernel [hChipsKernel : Cert.ChipsKernel.Facts] [hPre_position : Cert.Pre_position.Facts] : Prop :=
  ∀ (m : (ℓ : Loc Cert.ChipsKernel.nD Cert.ChipsKernel.τ Cert.ChipsKernel.sig) → Buf (Elt Bits) ℓ) (g : Dev Cert.ChipsKernel.nD → PrngReg), Pre_ChipsKernel m →
    θ_run (Cert.ChipsKernel.defs (F := Bits)) (onTc (τ := Cert.ChipsKernel.τ) (Cert.ChipsKernel.main (F := Bits))) ⟨m, fun _ => 0, g⟩ (fun r => (∀ c : Dev Cert.ChipsKernel.nD,
      r.2.mem ((c.tc : Thread Cert.ChipsKernel.nD Cert.ChipsKernel.τ).loc Cert.ChipsKernel.main_arg0) = m ((c.tc : Thread Cert.ChipsKernel.nD Cert.ChipsKernel.τ).loc Cert.ChipsKernel.main_arg0)
      ∧ r.2.mem ((c.tc : Thread Cert.ChipsKernel.nD Cert.ChipsKernel.τ).loc Cert.ChipsKernel.main_arg1) = m ((c.tc : Thread Cert.ChipsKernel.nD Cert.ChipsKernel.τ).loc Cert.ChipsKernel.main_arg1)
      ∧ r.2.mem ((c.tc : Thread Cert.ChipsKernel.nD Cert.ChipsKernel.τ).loc Cert.ChipsKernel.main_arg2) = m ((c.tc : Thread Cert.ChipsKernel.nD Cert.ChipsKernel.τ).loc Cert.ChipsKernel.main_arg2)
      ∧ r.2.mem ((c.tc : Thread Cert.ChipsKernel.nD Cert.ChipsKernel.τ).loc Cert.ChipsKernel.main_arg3) = m ((c.tc : Thread Cert.ChipsKernel.nD Cert.ChipsKernel.τ).loc Cert.ChipsKernel.main_arg3))
      ∧ r.2.sem = fun _ => 0)

def quiescent_ChipsKernelIdeal [hChipsKernelIdeal : Cert.ChipsKernelIdeal.Facts] [hPre_position : Cert.Pre_position.Facts] : Prop :=
  ∀ (m : (ℓ : Loc Cert.ChipsKernelIdeal.nD Cert.ChipsKernelIdeal.τ Cert.ChipsKernelIdeal.sig) → Buf (Elt Ideal) ℓ) (g : Dev Cert.ChipsKernelIdeal.nD → PrngReg), Pre_ChipsKernelIdeal m →
    θ_run (Cert.ChipsKernelIdeal.defs (F := Ideal)) (onTc (τ := Cert.ChipsKernelIdeal.τ) (Cert.ChipsKernelIdeal.main (F := Ideal))) ⟨m, fun _ => 0, g⟩ (fun r => (∀ c : Dev Cert.ChipsKernelIdeal.nD,
      r.2.mem ((c.tc : Thread Cert.ChipsKernelIdeal.nD Cert.ChipsKernelIdeal.τ).loc Cert.ChipsKernelIdeal.main_arg0) = m ((c.tc : Thread Cert.ChipsKernelIdeal.nD Cert.ChipsKernelIdeal.τ).loc Cert.ChipsKernelIdeal.main_arg0)
      ∧ r.2.mem ((c.tc : Thread Cert.ChipsKernelIdeal.nD Cert.ChipsKernelIdeal.τ).loc Cert.ChipsKernelIdeal.main_arg1) = m ((c.tc : Thread Cert.ChipsKernelIdeal.nD Cert.ChipsKernelIdeal.τ).loc Cert.ChipsKernelIdeal.main_arg1)
      ∧ r.2.mem ((c.tc : Thread Cert.ChipsKernelIdeal.nD Cert.ChipsKernelIdeal.τ).loc Cert.ChipsKernelIdeal.main_arg2) = m ((c.tc : Thread Cert.ChipsKernelIdeal.nD Cert.ChipsKernelIdeal.τ).loc Cert.ChipsKernelIdeal.main_arg2)
      ∧ r.2.mem ((c.tc : Thread Cert.ChipsKernelIdeal.nD Cert.ChipsKernelIdeal.τ).loc Cert.ChipsKernelIdeal.main_arg3) = m ((c.tc : Thread Cert.ChipsKernelIdeal.nD Cert.ChipsKernelIdeal.τ).loc Cert.ChipsKernelIdeal.main_arg3))
      ∧ r.2.sem = fun _ => 0)

def quiescent_ChipsReferenceIdeal [hChipsReferenceIdeal : Cert.ChipsReferenceIdeal.Facts] : Prop :=
  ∀ (m : (ℓ : Loc Cert.ChipsReferenceIdeal.nD Cert.ChipsReferenceIdeal.τ Cert.ChipsReferenceIdeal.sig) → Buf (Elt Ideal) ℓ) (g : Dev Cert.ChipsReferenceIdeal.nD → PrngReg), Pre_ChipsReferenceIdeal m →
    θ_run (Cert.ChipsReferenceIdeal.defs (F := Ideal)) (onTc (τ := Cert.ChipsReferenceIdeal.τ) (Cert.ChipsReferenceIdeal.main (F := Ideal))) ⟨m, fun _ => 0, g⟩ (fun r => (∀ c : Dev Cert.ChipsReferenceIdeal.nD,
      r.2.mem ((c.tc : Thread Cert.ChipsReferenceIdeal.nD Cert.ChipsReferenceIdeal.τ).loc Cert.ChipsReferenceIdeal.main_arg0) = m ((c.tc : Thread Cert.ChipsReferenceIdeal.nD Cert.ChipsReferenceIdeal.τ).loc Cert.ChipsReferenceIdeal.main_arg0)
      ∧ r.2.mem ((c.tc : Thread Cert.ChipsReferenceIdeal.nD Cert.ChipsReferenceIdeal.τ).loc Cert.ChipsReferenceIdeal.main_arg1) = m ((c.tc : Thread Cert.ChipsReferenceIdeal.nD Cert.ChipsReferenceIdeal.τ).loc Cert.ChipsReferenceIdeal.main_arg1)
      ∧ r.2.mem ((c.tc : Thread Cert.ChipsReferenceIdeal.nD Cert.ChipsReferenceIdeal.τ).loc Cert.ChipsReferenceIdeal.main_arg2) = m ((c.tc : Thread Cert.ChipsReferenceIdeal.nD Cert.ChipsReferenceIdeal.τ).loc Cert.ChipsReferenceIdeal.main_arg2)
      ∧ r.2.mem ((c.tc : Thread Cert.ChipsReferenceIdeal.nD Cert.ChipsReferenceIdeal.τ).loc Cert.ChipsReferenceIdeal.main_arg3) = m ((c.tc : Thread Cert.ChipsReferenceIdeal.nD Cert.ChipsReferenceIdeal.τ).loc Cert.ChipsReferenceIdeal.main_arg3))
      ∧ r.2.sem = fun _ => 0)

def quiescent_ChipsReferenceIdeal_pre_position [hChipsReferenceIdeal : Cert.ChipsReferenceIdeal.Facts] [hPre_position : Cert.Pre_position.Facts] : Prop :=
  ∀ (m : (ℓ : Loc Cert.ChipsReferenceIdeal.nD Cert.ChipsReferenceIdeal.τ Cert.ChipsReferenceIdeal.sig) → Buf (Elt Ideal) ℓ) (g : Dev Cert.ChipsReferenceIdeal.nD → PrngReg), Pre_ChipsReferenceIdeal_position m →
    θ_run (Cert.ChipsReferenceIdeal.defs (F := Ideal)) (onTc (τ := Cert.ChipsReferenceIdeal.τ) (Cert.ChipsReferenceIdeal.main (F := Ideal))) ⟨m, fun _ => 0, g⟩ (fun r => (∀ c : Dev Cert.ChipsReferenceIdeal.nD,
      r.2.mem ((c.tc : Thread Cert.ChipsReferenceIdeal.nD Cert.ChipsReferenceIdeal.τ).loc Cert.ChipsReferenceIdeal.main_arg0) = m ((c.tc : Thread Cert.ChipsReferenceIdeal.nD Cert.ChipsReferenceIdeal.τ).loc Cert.ChipsReferenceIdeal.main_arg0)
      ∧ r.2.mem ((c.tc : Thread Cert.ChipsReferenceIdeal.nD Cert.ChipsReferenceIdeal.τ).loc Cert.ChipsReferenceIdeal.main_arg1) = m ((c.tc : Thread Cert.ChipsReferenceIdeal.nD Cert.ChipsReferenceIdeal.τ).loc Cert.ChipsReferenceIdeal.main_arg1)
      ∧ r.2.mem ((c.tc : Thread Cert.ChipsReferenceIdeal.nD Cert.ChipsReferenceIdeal.τ).loc Cert.ChipsReferenceIdeal.main_arg2) = m ((c.tc : Thread Cert.ChipsReferenceIdeal.nD Cert.ChipsReferenceIdeal.τ).loc Cert.ChipsReferenceIdeal.main_arg2)
      ∧ r.2.mem ((c.tc : Thread Cert.ChipsReferenceIdeal.nD Cert.ChipsReferenceIdeal.τ).loc Cert.ChipsReferenceIdeal.main_arg3) = m ((c.tc : Thread Cert.ChipsReferenceIdeal.nD Cert.ChipsReferenceIdeal.τ).loc Cert.ChipsReferenceIdeal.main_arg3))
      ∧ r.2.sem = fun _ => 0)

def quiescent_EvenKernel [hEvenKernel : Cert.EvenKernel.Facts] : Prop :=
  ∀ (m : (ℓ : Loc Cert.EvenKernel.nD Cert.EvenKernel.τ Cert.EvenKernel.sig) → Buf (Elt Bits) ℓ) (g : Dev Cert.EvenKernel.nD → PrngReg), Pre_EvenKernel m →
    θ_run (Cert.EvenKernel.defs (F := Bits)) (onTc (τ := Cert.EvenKernel.τ) (Cert.EvenKernel.main (F := Bits))) ⟨m, fun _ => 0, g⟩ (fun r => (∀ c : Dev Cert.EvenKernel.nD,
      r.2.mem ((c.tc : Thread Cert.EvenKernel.nD Cert.EvenKernel.τ).loc Cert.EvenKernel.main_arg0) = m ((c.tc : Thread Cert.EvenKernel.nD Cert.EvenKernel.τ).loc Cert.EvenKernel.main_arg0)
      ∧ r.2.mem ((c.tc : Thread Cert.EvenKernel.nD Cert.EvenKernel.τ).loc Cert.EvenKernel.main_arg1) = m ((c.tc : Thread Cert.EvenKernel.nD Cert.EvenKernel.τ).loc Cert.EvenKernel.main_arg1)
      ∧ r.2.mem ((c.tc : Thread Cert.EvenKernel.nD Cert.EvenKernel.τ).loc Cert.EvenKernel.main_arg2) = m ((c.tc : Thread Cert.EvenKernel.nD Cert.EvenKernel.τ).loc Cert.EvenKernel.main_arg2)
      ∧ r.2.mem ((c.tc : Thread Cert.EvenKernel.nD Cert.EvenKernel.τ).loc Cert.EvenKernel.main_arg3) = m ((c.tc : Thread Cert.EvenKernel.nD Cert.EvenKernel.τ).loc Cert.EvenKernel.main_arg3)
      ∧ r.2.mem ((c.tc : Thread Cert.EvenKernel.nD Cert.EvenKernel.τ).loc Cert.EvenKernel.main_arg4) = m ((c.tc : Thread Cert.EvenKernel.nD Cert.EvenKernel.τ).loc Cert.EvenKernel.main_arg4)
      ∧ r.2.mem ((c.tc : Thread Cert.EvenKernel.nD Cert.EvenKernel.τ).loc Cert.EvenKernel.main_arg5) = m ((c.tc : Thread Cert.EvenKernel.nD Cert.EvenKernel.τ).loc Cert.EvenKernel.main_arg5)
      ∧ r.2.mem ((c.tc : Thread Cert.EvenKernel.nD Cert.EvenKernel.τ).loc Cert.EvenKernel.main_arg6) = m ((c.tc : Thread Cert.EvenKernel.nD Cert.EvenKernel.τ).loc Cert.EvenKernel.main_arg6)
      ∧ r.2.mem ((c.tc : Thread Cert.EvenKernel.nD Cert.EvenKernel.τ).loc Cert.EvenKernel.main_arg7) = m ((c.tc : Thread Cert.EvenKernel.nD Cert.EvenKernel.τ).loc Cert.EvenKernel.main_arg7)
      ∧ r.2.mem ((c.tc : Thread Cert.EvenKernel.nD Cert.EvenKernel.τ).loc Cert.EvenKernel.main_arg8) = m ((c.tc : Thread Cert.EvenKernel.nD Cert.EvenKernel.τ).loc Cert.EvenKernel.main_arg8)
      ∧ r.2.mem ((c.tc : Thread Cert.EvenKernel.nD Cert.EvenKernel.τ).loc Cert.EvenKernel.main_arg9) = m ((c.tc : Thread Cert.EvenKernel.nD Cert.EvenKernel.τ).loc Cert.EvenKernel.main_arg9))
      ∧ r.2.sem = fun _ => 0)

def quiescent_EvenKernelIdeal [hEvenKernelIdeal : Cert.EvenKernelIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
      ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
      ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
      ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
      ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8)
      ∧ r.2.mem ((c.tc : Thread Cert.EvenKernelIdeal.nD Cert.EvenKernelIdeal.τ).loc Cert.EvenKernelIdeal.main_arg9) = m ((c.tc : Thread Cert.EvenKernelIdeal.nD Cert.EvenKernelIdeal.τ).loc Cert.EvenKernelIdeal.main_arg9))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7)
      ∧ r.2.mem ((c.tc : Thread Cert.EvenReferenceIdeal.nD Cert.EvenReferenceIdeal.τ).loc Cert.EvenReferenceIdeal.main_arg8) = m ((c.tc : Thread Cert.EvenReferenceIdeal.nD Cert.EvenReferenceIdeal.τ).loc Cert.EvenReferenceIdeal.main_arg8)
      ∧ r.2.mem ((c.tc : Thread Cert.EvenReferenceIdeal.nD Cert.EvenReferenceIdeal.τ).loc Cert.EvenReferenceIdeal.main_arg9) = m ((c.tc : Thread Cert.EvenReferenceIdeal.nD Cert.EvenReferenceIdeal.τ).loc Cert.EvenReferenceIdeal.main_arg9))
      ∧ r.2.sem = fun _ => 0)

def quiescent_OddKernel [hOddKernel : Cert.OddKernel.Facts] : Prop :=
  ∀ (m : (ℓ : Loc Cert.OddKernel.nD Cert.OddKernel.τ Cert.OddKernel.sig) → Buf (Elt Bits) ℓ) (g : Dev Cert.OddKernel.nD → PrngReg), Pre_OddKernel m →
    θ_run (Cert.OddKernel.defs (F := Bits)) (onTc (τ := Cert.OddKernel.τ) (Cert.OddKernel.main (F := Bits))) ⟨m, fun _ => 0, g⟩ (fun r => (∀ c : Dev Cert.OddKernel.nD,
      r.2.mem ((c.tc : Thread Cert.OddKernel.nD Cert.OddKernel.τ).loc Cert.OddKernel.main_arg0) = m ((c.tc : Thread Cert.OddKernel.nD Cert.OddKernel.τ).loc Cert.OddKernel.main_arg0)
      ∧ r.2.mem ((c.tc : Thread Cert.OddKernel.nD Cert.OddKernel.τ).loc Cert.OddKernel.main_arg1) = m ((c.tc : Thread Cert.OddKernel.nD Cert.OddKernel.τ).loc Cert.OddKernel.main_arg1)
      ∧ r.2.mem ((c.tc : Thread Cert.OddKernel.nD Cert.OddKernel.τ).loc Cert.OddKernel.main_arg2) = m ((c.tc : Thread Cert.OddKernel.nD Cert.OddKernel.τ).loc Cert.OddKernel.main_arg2)
      ∧ r.2.mem ((c.tc : Thread Cert.OddKernel.nD Cert.OddKernel.τ).loc Cert.OddKernel.main_arg3) = m ((c.tc : Thread Cert.OddKernel.nD Cert.OddKernel.τ).loc Cert.OddKernel.main_arg3)
      ∧ r.2.mem ((c.tc : Thread Cert.OddKernel.nD Cert.OddKernel.τ).loc Cert.OddKernel.main_arg4) = m ((c.tc : Thread Cert.OddKernel.nD Cert.OddKernel.τ).loc Cert.OddKernel.main_arg4)
      ∧ r.2.mem ((c.tc : Thread Cert.OddKernel.nD Cert.OddKernel.τ).loc Cert.OddKernel.main_arg5) = m ((c.tc : Thread Cert.OddKernel.nD Cert.OddKernel.τ).loc Cert.OddKernel.main_arg5)
      ∧ r.2.mem ((c.tc : Thread Cert.OddKernel.nD Cert.OddKernel.τ).loc Cert.OddKernel.main_arg6) = m ((c.tc : Thread Cert.OddKernel.nD Cert.OddKernel.τ).loc Cert.OddKernel.main_arg6)
      ∧ r.2.mem ((c.tc : Thread Cert.OddKernel.nD Cert.OddKernel.τ).loc Cert.OddKernel.main_arg7) = m ((c.tc : Thread Cert.OddKernel.nD Cert.OddKernel.τ).loc Cert.OddKernel.main_arg7)
      ∧ r.2.mem ((c.tc : Thread Cert.OddKernel.nD Cert.OddKernel.τ).loc Cert.OddKernel.main_arg8) = m ((c.tc : Thread Cert.OddKernel.nD Cert.OddKernel.τ).loc Cert.OddKernel.main_arg8)
      ∧ r.2.mem ((c.tc : Thread Cert.OddKernel.nD Cert.OddKernel.τ).loc Cert.OddKernel.main_arg9) = m ((c.tc : Thread Cert.OddKernel.nD Cert.OddKernel.τ).loc Cert.OddKernel.main_arg9))
      ∧ r.2.sem = fun _ => 0)

def quiescent_OddKernelIdeal [hOddKernelIdeal : Cert.OddKernelIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg), Pre_OddKernelIdeal m →
    θ_run (Cert.OddKernelIdeal.defs (F := Ideal)) (onTc (τ := Cert.OddKernelIdeal.τ) (Cert.OddKernelIdeal.main (F := Ideal))) ⟨m, fun _ => 0, g⟩ (fun r => (∀ c : Dev Cert.OddKernelIdeal.nD,
      r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
      ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
      ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
      ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3)
      ∧ r.2.mem ((c.tc : Thread Cert.OddKernelIdeal.nD Cert.OddKernelIdeal.τ).loc Cert.OddKernelIdeal.main_arg4) = m ((c.tc : Thread Cert.OddKernelIdeal.nD Cert.OddKernelIdeal.τ).loc Cert.OddKernelIdeal.main_arg4)
      ∧ r.2.mem ((c.tc : Thread Cert.OddKernelIdeal.nD Cert.OddKernelIdeal.τ).loc Cert.OddKernelIdeal.main_arg5) = m ((c.tc : Thread Cert.OddKernelIdeal.nD Cert.OddKernelIdeal.τ).loc Cert.OddKernelIdeal.main_arg5)
      ∧ r.2.mem ((c.tc : Thread Cert.OddKernelIdeal.nD Cert.OddKernelIdeal.τ).loc Cert.OddKernelIdeal.main_arg6) = m ((c.tc : Thread Cert.OddKernelIdeal.nD Cert.OddKernelIdeal.τ).loc Cert.OddKernelIdeal.main_arg6)
      ∧ r.2.mem ((c.tc : Thread Cert.OddKernelIdeal.nD Cert.OddKernelIdeal.τ).loc Cert.OddKernelIdeal.main_arg7) = m ((c.tc : Thread Cert.OddKernelIdeal.nD Cert.OddKernelIdeal.τ).loc Cert.OddKernelIdeal.main_arg7)
      ∧ r.2.mem ((c.tc : Thread Cert.OddKernelIdeal.nD Cert.OddKernelIdeal.τ).loc Cert.OddKernelIdeal.main_arg8) = m ((c.tc : Thread Cert.OddKernelIdeal.nD Cert.OddKernelIdeal.τ).loc Cert.OddKernelIdeal.main_arg8)
      ∧ r.2.mem ((c.tc : Thread Cert.OddKernelIdeal.nD Cert.OddKernelIdeal.τ).loc Cert.OddKernelIdeal.main_arg9) = m ((c.tc : Thread Cert.OddKernelIdeal.nD Cert.OddKernelIdeal.τ).loc Cert.OddKernelIdeal.main_arg9))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v1_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v1_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v50) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_v53) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_DnKernel_DnKernelIdeal : Prop :=
  True

def algebraic_DnKernelIdeal_DnReferenceIdeal [hDnKernelIdeal : Cert.DnKernelIdeal.Facts] [hDnReferenceIdeal : Cert.DnReferenceIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg)
    (m' : (ℓ : Loc Cert.DnReferenceIdeal.nD Cert.DnReferenceIdeal.τ Cert.DnReferenceIdeal.sig) → Buf (Elt Ideal) ℓ) (g' : Dev Cert.DnReferenceIdeal.nD → PrngReg), Pre_DnKernelIdeal m →
    (∀ c : Dev Cert.DnKernelIdeal.nD,
      m' ((c.tc : Thread Cert.DnReferenceIdeal.nD Cert.DnReferenceIdeal.τ).loc Cert.DnReferenceIdeal.main_arg0) = m ((c.tc : Thread Cert.DnKernelIdeal.nD Cert.DnKernelIdeal.τ).loc Cert.DnKernelIdeal.main_arg0)
      ∧ m' ((c.tc : Thread Cert.DnReferenceIdeal.nD Cert.DnReferenceIdeal.τ).loc Cert.DnReferenceIdeal.main_arg1) = m ((c.tc : Thread Cert.DnKernelIdeal.nD Cert.DnKernelIdeal.τ).loc Cert.DnKernelIdeal.main_arg1)
      ∧ m' ((c.tc : Thread Cert.DnReferenceIdeal.nD Cert.DnReferenceIdeal.τ).loc Cert.DnReferenceIdeal.main_arg2) = m ((c.tc : Thread Cert.DnKernelIdeal.nD Cert.DnKernelIdeal.τ).loc Cert.DnKernelIdeal.main_arg2)
      ∧ m' ((c.tc : Thread Cert.DnReferenceIdeal.nD Cert.DnReferenceIdeal.τ).loc Cert.DnReferenceIdeal.main_arg3) = m ((c.tc : Thread Cert.DnKernelIdeal.nD Cert.DnKernelIdeal.τ).loc Cert.DnKernelIdeal.main_arg3)
      ∧ m' ((c.tc : Thread Cert.DnReferenceIdeal.nD Cert.DnReferenceIdeal.τ).loc Cert.DnReferenceIdeal.main_arg4) = m ((c.tc : Thread Cert.DnKernelIdeal.nD Cert.DnKernelIdeal.τ).loc Cert.DnKernelIdeal.main_arg4)) →
    ∃ (v0 : (c : Dev Cert.DnKernelIdeal.nD) → Buf (Elt Ideal) ((c.tc : Thread Cert.DnKernelIdeal.nD Cert.DnKernelIdeal.τ).loc Cert.DnKernelIdeal.main_v3_0)) (v1 : (c : Dev Cert.DnKernelIdeal.nD) → Buf (Elt Ideal) ((c.tc : Thread Cert.DnKernelIdeal.nD Cert.DnKernelIdeal.τ).loc Cert.DnKernelIdeal.main_v3_1)) (v2 : (c : Dev Cert.DnKernelIdeal.nD) → Buf (Elt Ideal) ((c.tc : Thread Cert.DnKernelIdeal.nD Cert.DnKernelIdeal.τ).loc Cert.DnKernelIdeal.main_v3_2)),
      θ_run (Cert.DnKernelIdeal.defs (F := Ideal)) (onTc (τ := Cert.DnKernelIdeal.τ) (Cert.DnKernelIdeal.main (F := Ideal))) ⟨m, fun _ => 0, g⟩ (fun r => ∀ c : Dev Cert.DnKernelIdeal.nD,
          r.2.mem ((c.tc : Thread Cert.DnKernelIdeal.nD Cert.DnKernelIdeal.τ).loc Cert.DnKernelIdeal.main_v3_0) = v0 c
          ∧ r.2.mem ((c.tc : Thread Cert.DnKernelIdeal.nD Cert.DnKernelIdeal.τ).loc Cert.DnKernelIdeal.main_v3_1) = v1 c
          ∧ r.2.mem ((c.tc : Thread Cert.DnKernelIdeal.nD Cert.DnKernelIdeal.τ).loc Cert.DnKernelIdeal.main_v3_2) = v2 c
          ∧ r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
          ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
          ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2)
          ∧ r.2.mem ((c.tc : Thread Cert.DnKernelIdeal.nD Cert.DnKernelIdeal.τ).loc Cert.DnKernelIdeal.main_arg3) = m ((c.tc : Thread Cert.DnKernelIdeal.nD Cert.DnKernelIdeal.τ).loc Cert.DnKernelIdeal.main_arg3)
          ∧ r.2.mem ((c.tc : Thread Cert.DnKernelIdeal.nD Cert.DnKernelIdeal.τ).loc Cert.DnKernelIdeal.main_arg4) = m ((c.tc : Thread Cert.DnKernelIdeal.nD Cert.DnKernelIdeal.τ).loc Cert.DnKernelIdeal.main_arg4))
      ∧ θ_run (Cert.DnReferenceIdeal.defs (F := Ideal)) (onTc (τ := Cert.DnReferenceIdeal.τ) (Cert.DnReferenceIdeal.main (F := Ideal))) ⟨m', fun _ => 0, g'⟩ (fun r => ∀ c : Dev Cert.DnReferenceIdeal.nD,
          r.2.mem ((c.tc : Thread Cert.DnReferenceIdeal.nD Cert.DnReferenceIdeal.τ).loc Cert.DnReferenceIdeal.main_v43) = v0 c
          ∧ r.2.mem ((c.tc : Thread Cert.DnReferenceIdeal.nD Cert.DnReferenceIdeal.τ).loc Cert.DnReferenceIdeal.main_v44) = v1 c
          ∧ r.2.mem ((c.tc : Thread Cert.DnReferenceIdeal.nD Cert.DnReferenceIdeal.τ).loc Cert.DnReferenceIdeal.main_v45) = v2 c
          ∧ r.2.mem ((c.tc : Thread Cert.DnReferenceIdeal.nD Cert.DnReferenceIdeal.τ).loc Cert.DnReferenceIdeal.main_arg0) = m' ((c.tc : Thread Cert.DnReferenceIdeal.nD Cert.DnReferenceIdeal.τ).loc Cert.DnReferenceIdeal.main_arg0)
          ∧ r.2.mem ((c.tc : Thread Cert.DnReferenceIdeal.nD Cert.DnReferenceIdeal.τ).loc Cert.DnReferenceIdeal.main_arg1) = m' ((c.tc : Thread Cert.DnReferenceIdeal.nD Cert.DnReferenceIdeal.τ).loc Cert.DnReferenceIdeal.main_arg1)
          ∧ r.2.mem ((c.tc : Thread Cert.DnReferenceIdeal.nD Cert.DnReferenceIdeal.τ).loc Cert.DnReferenceIdeal.main_arg2) = m' ((c.tc : Thread Cert.DnReferenceIdeal.nD Cert.DnReferenceIdeal.τ).loc Cert.DnReferenceIdeal.main_arg2)
          ∧ r.2.mem ((c.tc : Thread Cert.DnReferenceIdeal.nD Cert.DnReferenceIdeal.τ).loc Cert.DnReferenceIdeal.main_arg3) = m' ((c.tc : Thread Cert.DnReferenceIdeal.nD Cert.DnReferenceIdeal.τ).loc Cert.DnReferenceIdeal.main_arg3)
          ∧ r.2.mem ((c.tc : Thread Cert.DnReferenceIdeal.nD Cert.DnReferenceIdeal.τ).loc Cert.DnReferenceIdeal.main_arg4) = m' ((c.tc : Thread Cert.DnReferenceIdeal.nD Cert.DnReferenceIdeal.τ).loc Cert.DnReferenceIdeal.main_arg4))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v3_0)) (v1 : (c : Dev Cert.InKernelIdeal.nD) → Buf (Elt Ideal) ((c.tc : Thread Cert.InKernelIdeal.nD Cert.InKernelIdeal.τ).loc Cert.InKernelIdeal.main_v3_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v3_0) = v0 c
          ∧ r.2.mem ((c.tc : Thread Cert.InKernelIdeal.nD Cert.InKernelIdeal.τ).loc Cert.InKernelIdeal.main_v3_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v15) = v0 c
          ∧ r.2.mem ((c.tc : Thread Cert.InReferenceIdeal.nD Cert.InReferenceIdeal.τ).loc Cert.InReferenceIdeal.main_v13) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_EvenFwdKernel_EvenFwdKernelIdeal : Prop :=
  True

def algebraic_EvenFwdKernelIdeal_EvenFwdReferenceIdeal_pre_finite_pool [hEvenFwdKernelIdeal : Cert.EvenFwdKernelIdeal.Facts] [hEvenFwdReferenceIdeal : Cert.EvenFwdReferenceIdeal.Facts] [hPre_finite_pool : Cert.Pre_finite_pool.Facts] : Prop :=
  ∀ (m : (ℓ : Loc Cert.EvenFwdKernelIdeal.nD Cert.EvenFwdKernelIdeal.τ Cert.EvenFwdKernelIdeal.sig) → Buf (Elt Ideal) ℓ) (g : Dev Cert.EvenFwdKernelIdeal.nD → PrngReg)
    (m' : (ℓ : Loc Cert.EvenFwdReferenceIdeal.nD Cert.EvenFwdReferenceIdeal.τ Cert.EvenFwdReferenceIdeal.sig) → Buf (Elt Ideal) ℓ) (g' : Dev Cert.EvenFwdReferenceIdeal.nD → PrngReg), Pre_EvenFwdKernelIdeal_finite_pool m →
    (∀ c : Dev Cert.EvenFwdKernelIdeal.nD,
      m' ((c.tc : Thread Cert.EvenFwdReferenceIdeal.nD Cert.EvenFwdReferenceIdeal.τ).loc Cert.EvenFwdReferenceIdeal.main_arg0) = m ((c.tc : Thread Cert.EvenFwdKernelIdeal.nD Cert.EvenFwdKernelIdeal.τ).loc Cert.EvenFwdKernelIdeal.main_arg0)
      ∧ m' ((c.tc : Thread Cert.EvenFwdReferenceIdeal.nD Cert.EvenFwdReferenceIdeal.τ).loc Cert.EvenFwdReferenceIdeal.main_arg1) = m ((c.tc : Thread Cert.EvenFwdKernelIdeal.nD Cert.EvenFwdKernelIdeal.τ).loc Cert.EvenFwdKernelIdeal.main_arg1)
      ∧ m' ((c.tc : Thread Cert.EvenFwdReferenceIdeal.nD Cert.EvenFwdReferenceIdeal.τ).loc Cert.EvenFwdReferenceIdeal.main_arg2) = m ((c.tc : Thread Cert.EvenFwdKernelIdeal.nD Cert.EvenFwdKernelIdeal.τ).loc Cert.EvenFwdKernelIdeal.main_arg2)
      ∧ m' ((c.tc : Thread Cert.EvenFwdReferenceIdeal.nD Cert.EvenFwdReferenceIdeal.τ).loc Cert.EvenFwdReferenceIdeal.main_arg3) = m ((c.tc : Thread Cert.EvenFwdKernelIdeal.nD Cert.EvenFwdKernelIdeal.τ).loc Cert.EvenFwdKernelIdeal.main_arg3)
      ∧ m' ((c.tc : Thread Cert.EvenFwdReferenceIdeal.nD Cert.EvenFwdReferenceIdeal.τ).loc Cert.EvenFwdReferenceIdeal.main_arg4) = m ((c.tc : Thread Cert.EvenFwdKernelIdeal.nD Cert.EvenFwdKernelIdeal.τ).loc Cert.EvenFwdKernelIdeal.main_arg4)
      ∧ m' ((c.tc : Thread Cert.EvenFwdReferenceIdeal.nD Cert.EvenFwdReferenceIdeal.τ).loc Cert.EvenFwdReferenceIdeal.main_arg5) = m ((c.tc : Thread Cert.EvenFwdKernelIdeal.nD Cert.EvenFwdKernelIdeal.τ).loc Cert.EvenFwdKernelIdeal.main_arg5)
      ∧ m' ((c.tc : Thread Cert.EvenFwdReferenceIdeal.nD Cert.EvenFwdReferenceIdeal.τ).loc Cert.EvenFwdReferenceIdeal.main_arg6) = m ((c.tc : Thread Cert.EvenFwdKernelIdeal.nD Cert.EvenFwdKernelIdeal.τ).loc Cert.EvenFwdKernelIdeal.main_arg6)
      ∧ m' ((c.tc : Thread Cert.EvenFwdReferenceIdeal.nD Cert.EvenFwdReferenceIdeal.τ).loc Cert.EvenFwdReferenceIdeal.main_arg7) = m ((c.tc : Thread Cert.EvenFwdKernelIdeal.nD Cert.EvenFwdKernelIdeal.τ).loc Cert.EvenFwdKernelIdeal.main_arg7)
      ∧ m' ((c.tc : Thread Cert.EvenFwdReferenceIdeal.nD Cert.EvenFwdReferenceIdeal.τ).loc Cert.EvenFwdReferenceIdeal.main_arg8) = m ((c.tc : Thread Cert.EvenFwdKernelIdeal.nD Cert.EvenFwdKernelIdeal.τ).loc Cert.EvenFwdKernelIdeal.main_arg8)
      ∧ m' ((c.tc : Thread Cert.EvenFwdReferenceIdeal.nD Cert.EvenFwdReferenceIdeal.τ).loc Cert.EvenFwdReferenceIdeal.main_arg9) = m ((c.tc : Thread Cert.EvenFwdKernelIdeal.nD Cert.EvenFwdKernelIdeal.τ).loc Cert.EvenFwdKernelIdeal.main_arg9)) →
    ∃ (v0 : (c : Dev Cert.EvenFwdKernelIdeal.nD) → Buf (Elt Ideal) ((c.tc : Thread Cert.EvenFwdKernelIdeal.nD Cert.EvenFwdKernelIdeal.τ).loc Cert.EvenFwdKernelIdeal.main_v8_0)) (v1 : (c : Dev Cert.EvenFwdKernelIdeal.nD) → Buf (Elt Ideal) ((c.tc : Thread Cert.EvenFwdKernelIdeal.nD Cert.EvenFwdKernelIdeal.τ).loc Cert.EvenFwdKernelIdeal.main_v8_1)) (v2 : (c : Dev Cert.EvenFwdKernelIdeal.nD) → Buf (Elt Ideal) ((c.tc : Thread Cert.EvenFwdKernelIdeal.nD Cert.EvenFwdKernelIdeal.τ).loc Cert.EvenFwdKernelIdeal.main_v8_2)),
      θ_run (Cert.EvenFwdKernelIdeal.defs (F := Ideal)) (onTc (τ := Cert.EvenFwdKernelIdeal.τ) (Cert.EvenFwdKernelIdeal.main (F := Ideal))) ⟨m, fun _ => 0, g⟩ (fun r => ∀ c : Dev Cert.EvenFwdKernelIdeal.nD,
          r.2.mem ((c.tc : Thread Cert.EvenFwdKernelIdeal.nD Cert.EvenFwdKernelIdeal.τ).loc Cert.EvenFwdKernelIdeal.main_v8_0) = v0 c
          ∧ r.2.mem ((c.tc : Thread Cert.EvenFwdKernelIdeal.nD Cert.EvenFwdKernelIdeal.τ).loc Cert.EvenFwdKernelIdeal.main_v8_1) = v1 c
          ∧ r.2.mem ((c.tc : Thread Cert.EvenFwdKernelIdeal.nD Cert.EvenFwdKernelIdeal.τ).loc Cert.EvenFwdKernelIdeal.main_v8_2) = v2 c
          ∧ r.2.mem ((c.tc : Thread Cert.EvenFwdKernelIdeal.nD Cert.EvenFwdKernelIdeal.τ).loc Cert.EvenFwdKernelIdeal.main_arg0) = m ((c.tc : Thread Cert.EvenFwdKernelIdeal.nD Cert.EvenFwdKernelIdeal.τ).loc Cert.EvenFwdKernelIdeal.main_arg0)
          ∧ r.2.mem ((c.tc : Thread Cert.EvenFwdKernelIdeal.nD Cert.EvenFwdKernelIdeal.τ).loc Cert.EvenFwdKernelIdeal.main_arg1) = m ((c.tc : Thread Cert.EvenFwdKernelIdeal.nD Cert.EvenFwdKernelIdeal.τ).loc Cert.EvenFwdKernelIdeal.main_arg1)
          ∧ r.2.mem ((c.tc : Thread Cert.EvenFwdKernelIdeal.nD Cert.EvenFwdKernelIdeal.τ).loc Cert.EvenFwdKernelIdeal.main_arg2) = m ((c.tc : Thread Cert.EvenFwdKernelIdeal.nD Cert.EvenFwdKernelIdeal.τ).loc Cert.EvenFwdKernelIdeal.main_arg2)
          ∧ r.2.mem ((c.tc : Thread Cert.EvenFwdKernelIdeal.nD Cert.EvenFwdKernelIdeal.τ).loc Cert.EvenFwdKernelIdeal.main_arg3) = m ((c.tc : Thread Cert.EvenFwdKernelIdeal.nD Cert.EvenFwdKernelIdeal.τ).loc Cert.EvenFwdKernelIdeal.main_arg3)
          ∧ r.2.mem ((c.tc : Thread Cert.EvenFwdKernelIdeal.nD Cert.EvenFwdKernelIdeal.τ).loc Cert.EvenFwdKernelIdeal.main_arg4) = m ((c.tc : Thread Cert.EvenFwdKernelIdeal.nD Cert.EvenFwdKernelIdeal.τ).loc Cert.EvenFwdKernelIdeal.main_arg4)
          ∧ r.2.mem ((c.tc : Thread Cert.EvenFwdKernelIdeal.nD Cert.EvenFwdKernelIdeal.τ).loc Cert.EvenFwdKernelIdeal.main_arg5) = m ((c.tc : Thread Cert.EvenFwdKernelIdeal.nD Cert.EvenFwdKernelIdeal.τ).loc Cert.EvenFwdKernelIdeal.main_arg5)
          ∧ r.2.mem ((c.tc : Thread Cert.EvenFwdKernelIdeal.nD Cert.EvenFwdKernelIdeal.τ).loc Cert.EvenFwdKernelIdeal.main_arg6) = m ((c.tc : Thread Cert.EvenFwdKernelIdeal.nD Cert.EvenFwdKernelIdeal.τ).loc Cert.EvenFwdKernelIdeal.main_arg6)
          ∧ r.2.mem ((c.tc : Thread Cert.EvenFwdKernelIdeal.nD Cert.EvenFwdKernelIdeal.τ).loc Cert.EvenFwdKernelIdeal.main_arg7) = m ((c.tc : Thread Cert.EvenFwdKernelIdeal.nD Cert.EvenFwdKernelIdeal.τ).loc Cert.EvenFwdKernelIdeal.main_arg7)
          ∧ r.2.mem ((c.tc : Thread Cert.EvenFwdKernelIdeal.nD Cert.EvenFwdKernelIdeal.τ).loc Cert.EvenFwdKernelIdeal.main_arg8) = m ((c.tc : Thread Cert.EvenFwdKernelIdeal.nD Cert.EvenFwdKernelIdeal.τ).loc Cert.EvenFwdKernelIdeal.main_arg8)
          ∧ r.2.mem ((c.tc : Thread Cert.EvenFwdKernelIdeal.nD Cert.EvenFwdKernelIdeal.τ).loc Cert.EvenFwdKernelIdeal.main_arg9) = m ((c.tc : Thread Cert.EvenFwdKernelIdeal.nD Cert.EvenFwdKernelIdeal.τ).loc Cert.EvenFwdKernelIdeal.main_arg9))
      ∧ θ_run (Cert.EvenFwdReferenceIdeal.defs (F := Ideal)) (onTc (τ := Cert.EvenFwdReferenceIdeal.τ) (Cert.EvenFwdReferenceIdeal.main (F := Ideal))) ⟨m', fun _ => 0, g'⟩ (fun r => ∀ c : Dev Cert.EvenFwdReferenceIdeal.nD,
          r.2.mem ((c.tc : Thread Cert.EvenFwdReferenceIdeal.nD Cert.EvenFwdReferenceIdeal.τ).loc Cert.EvenFwdReferenceIdeal.main_v130) = v0 c
          ∧ r.2.mem ((c.tc : Thread Cert.EvenFwdReferenceIdeal.nD Cert.EvenFwdReferenceIdeal.τ).loc Cert.EvenFwdReferenceIdeal.main_v34) = v1 c
          ∧ r.2.mem ((c.tc : Thread Cert.EvenFwdReferenceIdeal.nD Cert.EvenFwdReferenceIdeal.τ).loc Cert.EvenFwdReferenceIdeal.main_v132) = v2 c
          ∧ r.2.mem ((c.tc : Thread Cert.EvenFwdReferenceIdeal.nD Cert.EvenFwdReferenceIdeal.τ).loc Cert.EvenFwdReferenceIdeal.main_arg0) = m' ((c.tc : Thread Cert.EvenFwdReferenceIdeal.nD Cert.EvenFwdReferenceIdeal.τ).loc Cert.EvenFwdReferenceIdeal.main_arg0)
          ∧ r.2.mem ((c.tc : Thread Cert.EvenFwdReferenceIdeal.nD Cert.EvenFwdReferenceIdeal.τ).loc Cert.EvenFwdReferenceIdeal.main_arg1) = m' ((c.tc : Thread Cert.EvenFwdReferenceIdeal.nD Cert.EvenFwdReferenceIdeal.τ).loc Cert.EvenFwdReferenceIdeal.main_arg1)
          ∧ r.2.mem ((c.tc : Thread Cert.EvenFwdReferenceIdeal.nD Cert.EvenFwdReferenceIdeal.τ).loc Cert.EvenFwdReferenceIdeal.main_arg2) = m' ((c.tc : Thread Cert.EvenFwdReferenceIdeal.nD Cert.EvenFwdReferenceIdeal.τ).loc Cert.EvenFwdReferenceIdeal.main_arg2)
          ∧ r.2.mem ((c.tc : Thread Cert.EvenFwdReferenceIdeal.nD Cert.EvenFwdReferenceIdeal.τ).loc Cert.EvenFwdReferenceIdeal.main_arg3) = m' ((c.tc : Thread Cert.EvenFwdReferenceIdeal.nD Cert.EvenFwdReferenceIdeal.τ).loc Cert.EvenFwdReferenceIdeal.main_arg3)
          ∧ r.2.mem ((c.tc : Thread Cert.EvenFwdReferenceIdeal.nD Cert.EvenFwdReferenceIdeal.τ).loc Cert.EvenFwdReferenceIdeal.main_arg4) = m' ((c.tc : Thread Cert.EvenFwdReferenceIdeal.nD Cert.EvenFwdReferenceIdeal.τ).loc Cert.EvenFwdReferenceIdeal.main_arg4)
          ∧ r.2.mem ((c.tc : Thread Cert.EvenFwdReferenceIdeal.nD Cert.EvenFwdReferenceIdeal.τ).loc Cert.EvenFwdReferenceIdeal.main_arg5) = m' ((c.tc : Thread Cert.EvenFwdReferenceIdeal.nD Cert.EvenFwdReferenceIdeal.τ).loc Cert.EvenFwdReferenceIdeal.main_arg5)
          ∧ r.2.mem ((c.tc : Thread Cert.EvenFwdReferenceIdeal.nD Cert.EvenFwdReferenceIdeal.τ).loc Cert.EvenFwdReferenceIdeal.main_arg6) = m' ((c.tc : Thread Cert.EvenFwdReferenceIdeal.nD Cert.EvenFwdReferenceIdeal.τ).loc Cert.EvenFwdReferenceIdeal.main_arg6)
          ∧ r.2.mem ((c.tc : Thread Cert.EvenFwdReferenceIdeal.nD Cert.EvenFwdReferenceIdeal.τ).loc Cert.EvenFwdReferenceIdeal.main_arg7) = m' ((c.tc : Thread Cert.EvenFwdReferenceIdeal.nD Cert.EvenFwdReferenceIdeal.τ).loc Cert.EvenFwdReferenceIdeal.main_arg7)
          ∧ r.2.mem ((c.tc : Thread Cert.EvenFwdReferenceIdeal.nD Cert.EvenFwdReferenceIdeal.τ).loc Cert.EvenFwdReferenceIdeal.main_arg8) = m' ((c.tc : Thread Cert.EvenFwdReferenceIdeal.nD Cert.EvenFwdReferenceIdeal.τ).loc Cert.EvenFwdReferenceIdeal.main_arg8)
          ∧ r.2.mem ((c.tc : Thread Cert.EvenFwdReferenceIdeal.nD Cert.EvenFwdReferenceIdeal.τ).loc Cert.EvenFwdReferenceIdeal.main_arg9) = m' ((c.tc : Thread Cert.EvenFwdReferenceIdeal.nD Cert.EvenFwdReferenceIdeal.τ).loc Cert.EvenFwdReferenceIdeal.main_arg9))

def preserves_OddFwdKernel_OddFwdKernelIdeal : Prop :=
  True

def algebraic_OddFwdKernelIdeal_OddFwdReferenceIdeal_pre_multiplier_kept [hOddFwdKernelIdeal : Cert.OddFwdKernelIdeal.Facts] [hOddFwdReferenceIdeal : Cert.OddFwdReferenceIdeal.Facts] [hPre_multiplier_kept : Cert.Pre_multiplier_kept.Facts] : Prop :=
  ∀ (m : (ℓ : Loc Cert.OddFwdKernelIdeal.nD Cert.OddFwdKernelIdeal.τ Cert.OddFwdKernelIdeal.sig) → Buf (Elt Ideal) ℓ) (g : Dev Cert.OddFwdKernelIdeal.nD → PrngReg)
    (m' : (ℓ : Loc Cert.OddFwdReferenceIdeal.nD Cert.OddFwdReferenceIdeal.τ Cert.OddFwdReferenceIdeal.sig) → Buf (Elt Ideal) ℓ) (g' : Dev Cert.OddFwdReferenceIdeal.nD → PrngReg), Pre_OddFwdKernelIdeal_multiplier_kept m →
    (∀ c : Dev Cert.OddFwdKernelIdeal.nD,
      m' ((c.tc : Thread Cert.OddFwdReferenceIdeal.nD Cert.OddFwdReferenceIdeal.τ).loc Cert.OddFwdReferenceIdeal.main_arg0) = m ((c.tc : Thread Cert.OddFwdKernelIdeal.nD Cert.OddFwdKernelIdeal.τ).loc Cert.OddFwdKernelIdeal.main_arg0)
      ∧ m' ((c.tc : Thread Cert.OddFwdReferenceIdeal.nD Cert.OddFwdReferenceIdeal.τ).loc Cert.OddFwdReferenceIdeal.main_arg1) = m ((c.tc : Thread Cert.OddFwdKernelIdeal.nD Cert.OddFwdKernelIdeal.τ).loc Cert.OddFwdKernelIdeal.main_arg1)
      ∧ m' ((c.tc : Thread Cert.OddFwdReferenceIdeal.nD Cert.OddFwdReferenceIdeal.τ).loc Cert.OddFwdReferenceIdeal.main_arg2) = m ((c.tc : Thread Cert.OddFwdKernelIdeal.nD Cert.OddFwdKernelIdeal.τ).loc Cert.OddFwdKernelIdeal.main_arg2)
      ∧ m' ((c.tc : Thread Cert.OddFwdReferenceIdeal.nD Cert.OddFwdReferenceIdeal.τ).loc Cert.OddFwdReferenceIdeal.main_arg3) = m ((c.tc : Thread Cert.OddFwdKernelIdeal.nD Cert.OddFwdKernelIdeal.τ).loc Cert.OddFwdKernelIdeal.main_arg3)
      ∧ m' ((c.tc : Thread Cert.OddFwdReferenceIdeal.nD Cert.OddFwdReferenceIdeal.τ).loc Cert.OddFwdReferenceIdeal.main_arg4) = m ((c.tc : Thread Cert.OddFwdKernelIdeal.nD Cert.OddFwdKernelIdeal.τ).loc Cert.OddFwdKernelIdeal.main_arg4)
      ∧ m' ((c.tc : Thread Cert.OddFwdReferenceIdeal.nD Cert.OddFwdReferenceIdeal.τ).loc Cert.OddFwdReferenceIdeal.main_arg5) = m ((c.tc : Thread Cert.OddFwdKernelIdeal.nD Cert.OddFwdKernelIdeal.τ).loc Cert.OddFwdKernelIdeal.main_arg5)
      ∧ m' ((c.tc : Thread Cert.OddFwdReferenceIdeal.nD Cert.OddFwdReferenceIdeal.τ).loc Cert.OddFwdReferenceIdeal.main_arg6) = m ((c.tc : Thread Cert.OddFwdKernelIdeal.nD Cert.OddFwdKernelIdeal.τ).loc Cert.OddFwdKernelIdeal.main_arg6)
      ∧ m' ((c.tc : Thread Cert.OddFwdReferenceIdeal.nD Cert.OddFwdReferenceIdeal.τ).loc Cert.OddFwdReferenceIdeal.main_arg7) = m ((c.tc : Thread Cert.OddFwdKernelIdeal.nD Cert.OddFwdKernelIdeal.τ).loc Cert.OddFwdKernelIdeal.main_arg7)
      ∧ m' ((c.tc : Thread Cert.OddFwdReferenceIdeal.nD Cert.OddFwdReferenceIdeal.τ).loc Cert.OddFwdReferenceIdeal.main_arg8) = m ((c.tc : Thread Cert.OddFwdKernelIdeal.nD Cert.OddFwdKernelIdeal.τ).loc Cert.OddFwdKernelIdeal.main_arg8)
      ∧ m' ((c.tc : Thread Cert.OddFwdReferenceIdeal.nD Cert.OddFwdReferenceIdeal.τ).loc Cert.OddFwdReferenceIdeal.main_arg9) = m ((c.tc : Thread Cert.OddFwdKernelIdeal.nD Cert.OddFwdKernelIdeal.τ).loc Cert.OddFwdKernelIdeal.main_arg9)) →
    ∃ (v0 : (c : Dev Cert.OddFwdKernelIdeal.nD) → Buf (Elt Ideal) ((c.tc : Thread Cert.OddFwdKernelIdeal.nD Cert.OddFwdKernelIdeal.τ).loc Cert.OddFwdKernelIdeal.main_v9_0)) (v1 : (c : Dev Cert.OddFwdKernelIdeal.nD) → Buf (Elt Ideal) ((c.tc : Thread Cert.OddFwdKernelIdeal.nD Cert.OddFwdKernelIdeal.τ).loc Cert.OddFwdKernelIdeal.main_v9_1)) (v2 : (c : Dev Cert.OddFwdKernelIdeal.nD) → Buf (Elt Ideal) ((c.tc : Thread Cert.OddFwdKernelIdeal.nD Cert.OddFwdKernelIdeal.τ).loc Cert.OddFwdKernelIdeal.main_v9_2)),
      θ_run (Cert.OddFwdKernelIdeal.defs (F := Ideal)) (onTc (τ := Cert.OddFwdKernelIdeal.τ) (Cert.OddFwdKernelIdeal.main (F := Ideal))) ⟨m, fun _ => 0, g⟩ (fun r => ∀ c : Dev Cert.OddFwdKernelIdeal.nD,
          r.2.mem ((c.tc : Thread Cert.OddFwdKernelIdeal.nD Cert.OddFwdKernelIdeal.τ).loc Cert.OddFwdKernelIdeal.main_v9_0) = v0 c
          ∧ r.2.mem ((c.tc : Thread Cert.OddFwdKernelIdeal.nD Cert.OddFwdKernelIdeal.τ).loc Cert.OddFwdKernelIdeal.main_v9_1) = v1 c
          ∧ r.2.mem ((c.tc : Thread Cert.OddFwdKernelIdeal.nD Cert.OddFwdKernelIdeal.τ).loc Cert.OddFwdKernelIdeal.main_v9_2) = v2 c
          ∧ r.2.mem ((c.tc : Thread Cert.OddFwdKernelIdeal.nD Cert.OddFwdKernelIdeal.τ).loc Cert.OddFwdKernelIdeal.main_arg0) = m ((c.tc : Thread Cert.OddFwdKernelIdeal.nD Cert.OddFwdKernelIdeal.τ).loc Cert.OddFwdKernelIdeal.main_arg0)
          ∧ r.2.mem ((c.tc : Thread Cert.OddFwdKernelIdeal.nD Cert.OddFwdKernelIdeal.τ).loc Cert.OddFwdKernelIdeal.main_arg1) = m ((c.tc : Thread Cert.OddFwdKernelIdeal.nD Cert.OddFwdKernelIdeal.τ).loc Cert.OddFwdKernelIdeal.main_arg1)
          ∧ r.2.mem ((c.tc : Thread Cert.OddFwdKernelIdeal.nD Cert.OddFwdKernelIdeal.τ).loc Cert.OddFwdKernelIdeal.main_arg2) = m ((c.tc : Thread Cert.OddFwdKernelIdeal.nD Cert.OddFwdKernelIdeal.τ).loc Cert.OddFwdKernelIdeal.main_arg2)
          ∧ r.2.mem ((c.tc : Thread Cert.OddFwdKernelIdeal.nD Cert.OddFwdKernelIdeal.τ).loc Cert.OddFwdKernelIdeal.main_arg3) = m ((c.tc : Thread Cert.OddFwdKernelIdeal.nD Cert.OddFwdKernelIdeal.τ).loc Cert.OddFwdKernelIdeal.main_arg3)
          ∧ r.2.mem ((c.tc : Thread Cert.OddFwdKernelIdeal.nD Cert.OddFwdKernelIdeal.τ).loc Cert.OddFwdKernelIdeal.main_arg4) = m ((c.tc : Thread Cert.OddFwdKernelIdeal.nD Cert.OddFwdKernelIdeal.τ).loc Cert.OddFwdKernelIdeal.main_arg4)
          ∧ r.2.mem ((c.tc : Thread Cert.OddFwdKernelIdeal.nD Cert.OddFwdKernelIdeal.τ).loc Cert.OddFwdKernelIdeal.main_arg5) = m ((c.tc : Thread Cert.OddFwdKernelIdeal.nD Cert.OddFwdKernelIdeal.τ).loc Cert.OddFwdKernelIdeal.main_arg5)
          ∧ r.2.mem ((c.tc : Thread Cert.OddFwdKernelIdeal.nD Cert.OddFwdKernelIdeal.τ).loc Cert.OddFwdKernelIdeal.main_arg6) = m ((c.tc : Thread Cert.OddFwdKernelIdeal.nD Cert.OddFwdKernelIdeal.τ).loc Cert.OddFwdKernelIdeal.main_arg6)
          ∧ r.2.mem ((c.tc : Thread Cert.OddFwdKernelIdeal.nD Cert.OddFwdKernelIdeal.τ).loc Cert.OddFwdKernelIdeal.main_arg7) = m ((c.tc : Thread Cert.OddFwdKernelIdeal.nD Cert.OddFwdKernelIdeal.τ).loc Cert.OddFwdKernelIdeal.main_arg7)
          ∧ r.2.mem ((c.tc : Thread Cert.OddFwdKernelIdeal.nD Cert.OddFwdKernelIdeal.τ).loc Cert.OddFwdKernelIdeal.main_arg8) = m ((c.tc : Thread Cert.OddFwdKernelIdeal.nD Cert.OddFwdKernelIdeal.τ).loc Cert.OddFwdKernelIdeal.main_arg8)
          ∧ r.2.mem ((c.tc : Thread Cert.OddFwdKernelIdeal.nD Cert.OddFwdKernelIdeal.τ).loc Cert.OddFwdKernelIdeal.main_arg9) = m ((c.tc : Thread Cert.OddFwdKernelIdeal.nD Cert.OddFwdKernelIdeal.τ).loc Cert.OddFwdKernelIdeal.main_arg9))
      ∧ θ_run (Cert.OddFwdReferenceIdeal.defs (F := Ideal)) (onTc (τ := Cert.OddFwdReferenceIdeal.τ) (Cert.OddFwdReferenceIdeal.main (F := Ideal))) ⟨m', fun _ => 0, g'⟩ (fun r => ∀ c : Dev Cert.OddFwdReferenceIdeal.nD,
          r.2.mem ((c.tc : Thread Cert.OddFwdReferenceIdeal.nD Cert.OddFwdReferenceIdeal.τ).loc Cert.OddFwdReferenceIdeal.main_v74) = v0 c
          ∧ r.2.mem ((c.tc : Thread Cert.OddFwdReferenceIdeal.nD Cert.OddFwdReferenceIdeal.τ).loc Cert.OddFwdReferenceIdeal.main_v70_4) = v1 c
          ∧ r.2.mem ((c.tc : Thread Cert.OddFwdReferenceIdeal.nD Cert.OddFwdReferenceIdeal.τ).loc Cert.OddFwdReferenceIdeal.main_v76) = v2 c
          ∧ r.2.mem ((c.tc : Thread Cert.OddFwdReferenceIdeal.nD Cert.OddFwdReferenceIdeal.τ).loc Cert.OddFwdReferenceIdeal.main_arg0) = m' ((c.tc : Thread Cert.OddFwdReferenceIdeal.nD Cert.OddFwdReferenceIdeal.τ).loc Cert.OddFwdReferenceIdeal.main_arg0)
          ∧ r.2.mem ((c.tc : Thread Cert.OddFwdReferenceIdeal.nD Cert.OddFwdReferenceIdeal.τ).loc Cert.OddFwdReferenceIdeal.main_arg1) = m' ((c.tc : Thread Cert.OddFwdReferenceIdeal.nD Cert.OddFwdReferenceIdeal.τ).loc Cert.OddFwdReferenceIdeal.main_arg1)
          ∧ r.2.mem ((c.tc : Thread Cert.OddFwdReferenceIdeal.nD Cert.OddFwdReferenceIdeal.τ).loc Cert.OddFwdReferenceIdeal.main_arg2) = m' ((c.tc : Thread Cert.OddFwdReferenceIdeal.nD Cert.OddFwdReferenceIdeal.τ).loc Cert.OddFwdReferenceIdeal.main_arg2)
          ∧ r.2.mem ((c.tc : Thread Cert.OddFwdReferenceIdeal.nD Cert.OddFwdReferenceIdeal.τ).loc Cert.OddFwdReferenceIdeal.main_arg3) = m' ((c.tc : Thread Cert.OddFwdReferenceIdeal.nD Cert.OddFwdReferenceIdeal.τ).loc Cert.OddFwdReferenceIdeal.main_arg3)
          ∧ r.2.mem ((c.tc : Thread Cert.OddFwdReferenceIdeal.nD Cert.OddFwdReferenceIdeal.τ).loc Cert.OddFwdReferenceIdeal.main_arg4) = m' ((c.tc : Thread Cert.OddFwdReferenceIdeal.nD Cert.OddFwdReferenceIdeal.τ).loc Cert.OddFwdReferenceIdeal.main_arg4)
          ∧ r.2.mem ((c.tc : Thread Cert.OddFwdReferenceIdeal.nD Cert.OddFwdReferenceIdeal.τ).loc Cert.OddFwdReferenceIdeal.main_arg5) = m' ((c.tc : Thread Cert.OddFwdReferenceIdeal.nD Cert.OddFwdReferenceIdeal.τ).loc Cert.OddFwdReferenceIdeal.main_arg5)
          ∧ r.2.mem ((c.tc : Thread Cert.OddFwdReferenceIdeal.nD Cert.OddFwdReferenceIdeal.τ).loc Cert.OddFwdReferenceIdeal.main_arg6) = m' ((c.tc : Thread Cert.OddFwdReferenceIdeal.nD Cert.OddFwdReferenceIdeal.τ).loc Cert.OddFwdReferenceIdeal.main_arg6)
          ∧ r.2.mem ((c.tc : Thread Cert.OddFwdReferenceIdeal.nD Cert.OddFwdReferenceIdeal.τ).loc Cert.OddFwdReferenceIdeal.main_arg7) = m' ((c.tc : Thread Cert.OddFwdReferenceIdeal.nD Cert.OddFwdReferenceIdeal.τ).loc Cert.OddFwdReferenceIdeal.main_arg7)
          ∧ r.2.mem ((c.tc : Thread Cert.OddFwdReferenceIdeal.nD Cert.OddFwdReferenceIdeal.τ).loc Cert.OddFwdReferenceIdeal.main_arg8) = m' ((c.tc : Thread Cert.OddFwdReferenceIdeal.nD Cert.OddFwdReferenceIdeal.τ).loc Cert.OddFwdReferenceIdeal.main_arg8)
          ∧ r.2.mem ((c.tc : Thread Cert.OddFwdReferenceIdeal.nD Cert.OddFwdReferenceIdeal.τ).loc Cert.OddFwdReferenceIdeal.main_arg9) = m' ((c.tc : Thread Cert.OddFwdReferenceIdeal.nD Cert.OddFwdReferenceIdeal.τ).loc Cert.OddFwdReferenceIdeal.main_arg9))

def preserves_DwInKernel_DwInKernelIdeal : Prop :=
  True

def algebraic_DwInKernelIdeal_DwInReferenceIdeal [hDwInKernelIdeal : Cert.DwInKernelIdeal.Facts] [hDwInReferenceIdeal : Cert.DwInReferenceIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInKernelIdeal m →
    (∀ c : Dev Cert.DwInKernelIdeal.nD,
      m' ((c.tc : Thread Cert.DwInReferenceIdeal.nD Cert.DwInReferenceIdeal.τ).loc Cert.DwInReferenceIdeal.main_arg0) = m ((c.tc : Thread Cert.DwInKernelIdeal.nD Cert.DwInKernelIdeal.τ).loc Cert.DwInKernelIdeal.main_arg0)
      ∧ m' ((c.tc : Thread Cert.DwInReferenceIdeal.nD Cert.DwInReferenceIdeal.τ).loc Cert.DwInReferenceIdeal.main_arg1) = m ((c.tc : Thread Cert.DwInKernelIdeal.nD Cert.DwInKernelIdeal.τ).loc Cert.DwInKernelIdeal.main_arg1)) →
    ∃ (v0 : (c : Dev Cert.DwInKernelIdeal.nD) → Buf (Elt Ideal) ((c.tc : Thread Cert.DwInKernelIdeal.nD Cert.DwInKernelIdeal.τ).loc Cert.DwInKernelIdeal.main_v0)),
      θ_run (Cert.DwInKernelIdeal.defs (F := Ideal)) (onTc (τ := Cert.DwInKernelIdeal.τ) (Cert.DwInKernelIdeal.main (F := Ideal))) ⟨m, fun _ => 0, g⟩ (fun r => ∀ c : Dev Cert.DwInKernelIdeal.nD,
          r.2.mem ((c.tc : Thread Cert.DwInKernelIdeal.nD Cert.DwInKernelIdeal.τ).loc Cert.DwInKernelIdeal.main_v0) = v0 c
          ∧ r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
          ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v4) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwOutKernel_DwOutKernelIdeal : Prop :=
  True

def algebraic_DwOutKernelIdeal_DwOutReferenceIdeal [hDwOutKernelIdeal : Cert.DwOutKernelIdeal.Facts] [hDwOutReferenceIdeal : Cert.DwOutReferenceIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutKernelIdeal m →
    (∀ c : Dev Cert.DwOutKernelIdeal.nD,
      m' ((c.tc : Thread Cert.DwOutReferenceIdeal.nD Cert.DwOutReferenceIdeal.τ).loc Cert.DwOutReferenceIdeal.main_arg0) = m ((c.tc : Thread Cert.DwOutKernelIdeal.nD Cert.DwOutKernelIdeal.τ).loc Cert.DwOutKernelIdeal.main_arg0)
      ∧ m' ((c.tc : Thread Cert.DwOutReferenceIdeal.nD Cert.DwOutReferenceIdeal.τ).loc Cert.DwOutReferenceIdeal.main_arg1) = m ((c.tc : Thread Cert.DwOutKernelIdeal.nD Cert.DwOutKernelIdeal.τ).loc Cert.DwOutKernelIdeal.main_arg1)) →
    ∃ (v0 : (c : Dev Cert.DwOutKernelIdeal.nD) → Buf (Elt Ideal) ((c.tc : Thread Cert.DwOutKernelIdeal.nD Cert.DwOutKernelIdeal.τ).loc Cert.DwOutKernelIdeal.main_v0)),
      θ_run (Cert.DwOutKernelIdeal.defs (F := Ideal)) (onTc (τ := Cert.DwOutKernelIdeal.τ) (Cert.DwOutKernelIdeal.main (F := Ideal))) ⟨m, fun _ => 0, g⟩ (fun r => ∀ c : Dev Cert.DwOutKernelIdeal.nD,
          r.2.mem ((c.tc : Thread Cert.DwOutKernelIdeal.nD Cert.DwOutKernelIdeal.τ).loc Cert.DwOutKernelIdeal.main_v0) = v0 c
          ∧ r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
          ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v2) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_AdamInEvenKernel_AdamInEvenKernelIdeal : Prop :=
  True

def algebraic_AdamInEvenKernelIdeal_AdamInEvenReferenceIdeal [hAdamInEvenKernelIdeal : Cert.AdamInEvenKernelIdeal.Facts] [hAdamInEvenReferenceIdeal : Cert.AdamInEvenReferenceIdeal.Facts] : Prop :=
  ∀ (m : (ℓ : Loc Cert.AdamInEvenKernelIdeal.nD Cert.AdamInEvenKernelIdeal.τ Cert.AdamInEvenKernelIdeal.sig) → Buf (Elt Ideal) ℓ) (g : Dev Cert.AdamInEvenKernelIdeal.nD → PrngReg)
    (m' : (ℓ : Loc Cert.AdamInEvenReferenceIdeal.nD Cert.AdamInEvenReferenceIdeal.τ Cert.AdamInEvenReferenceIdeal.sig) → Buf (Elt Ideal) ℓ) (g' : Dev Cert.AdamInEvenReferenceIdeal.nD → PrngReg), Pre_AdamInEvenKernelIdeal m →
    (∀ c : Dev Cert.AdamInEvenKernelIdeal.nD,
      m' ((c.tc : Thread Cert.AdamInEvenReferenceIdeal.nD Cert.AdamInEvenReferenceIdeal.τ).loc Cert.AdamInEvenReferenceIdeal.main_arg0) = m ((c.tc : Thread Cert.AdamInEvenKernelIdeal.nD Cert.AdamInEvenKernelIdeal.τ).loc Cert.AdamInEvenKernelIdeal.main_arg0)
      ∧ m' ((c.tc : Thread Cert.AdamInEvenReferenceIdeal.nD Cert.AdamInEvenReferenceIdeal.τ).loc Cert.AdamInEvenReferenceIdeal.main_arg1) = m ((c.tc : Thread Cert.AdamInEvenKernelIdeal.nD Cert.AdamInEvenKernelIdeal.τ).loc Cert.AdamInEvenKernelIdeal.main_arg1)
      ∧ m' ((c.tc : Thread Cert.AdamInEvenReferenceIdeal.nD Cert.AdamInEvenReferenceIdeal.τ).loc Cert.AdamInEvenReferenceIdeal.main_arg2) = m ((c.tc : Thread Cert.AdamInEvenKernelIdeal.nD Cert.AdamInEvenKernelIdeal.τ).loc Cert.AdamInEvenKernelIdeal.main_arg2)
      ∧ m' ((c.tc : Thread Cert.AdamInEvenReferenceIdeal.nD Cert.AdamInEvenReferenceIdeal.τ).loc Cert.AdamInEvenReferenceIdeal.main_arg3) = m ((c.tc : Thread Cert.AdamInEvenKernelIdeal.nD Cert.AdamInEvenKernelIdeal.τ).loc Cert.AdamInEvenKernelIdeal.main_arg3)) →
    ∃ (v0 : (c : Dev Cert.AdamInEvenKernelIdeal.nD) → Buf (Elt Ideal) ((c.tc : Thread Cert.AdamInEvenKernelIdeal.nD Cert.AdamInEvenKernelIdeal.τ).loc Cert.AdamInEvenKernelIdeal.main_v0_0)) (v1 : (c : Dev Cert.AdamInEvenKernelIdeal.nD) → Buf (Elt Ideal) ((c.tc : Thread Cert.AdamInEvenKernelIdeal.nD Cert.AdamInEvenKernelIdeal.τ).loc Cert.AdamInEvenKernelIdeal.main_v0_1)) (v2 : (c : Dev Cert.AdamInEvenKernelIdeal.nD) → Buf (Elt Ideal) ((c.tc : Thread Cert.AdamInEvenKernelIdeal.nD Cert.AdamInEvenKernelIdeal.τ).loc Cert.AdamInEvenKernelIdeal.main_v0_2)) (v3 : (c : Dev Cert.AdamInEvenKernelIdeal.nD) → Buf (Elt Ideal) ((c.tc : Thread Cert.AdamInEvenKernelIdeal.nD Cert.AdamInEvenKernelIdeal.τ).loc Cert.AdamInEvenKernelIdeal.main_v0_3)),
      θ_run (Cert.AdamInEvenKernelIdeal.defs (F := Ideal)) (onTc (τ := Cert.AdamInEvenKernelIdeal.τ) (Cert.AdamInEvenKernelIdeal.main (F := Ideal))) ⟨m, fun _ => 0, g⟩ (fun r => ∀ c : Dev Cert.AdamInEvenKernelIdeal.nD,
          r.2.mem ((c.tc : Thread Cert.AdamInEvenKernelIdeal.nD Cert.AdamInEvenKernelIdeal.τ).loc Cert.AdamInEvenKernelIdeal.main_v0_0) = v0 c
          ∧ r.2.mem ((c.tc : Thread Cert.AdamInEvenKernelIdeal.nD Cert.AdamInEvenKernelIdeal.τ).loc Cert.AdamInEvenKernelIdeal.main_v0_1) = v1 c
          ∧ r.2.mem ((c.tc : Thread Cert.AdamInEvenKernelIdeal.nD Cert.AdamInEvenKernelIdeal.τ).loc Cert.AdamInEvenKernelIdeal.main_v0_2) = v2 c
          ∧ r.2.mem ((c.tc : Thread Cert.AdamInEvenKernelIdeal.nD Cert.AdamInEvenKernelIdeal.τ).loc Cert.AdamInEvenKernelIdeal.main_v0_3) = v3 c
          ∧ r.2.mem ((c.tc : Thread Cert.AdamInEvenKernelIdeal.nD Cert.AdamInEvenKernelIdeal.τ).loc Cert.AdamInEvenKernelIdeal.main_arg0) = m ((c.tc : Thread Cert.AdamInEvenKernelIdeal.nD Cert.AdamInEvenKernelIdeal.τ).loc Cert.AdamInEvenKernelIdeal.main_arg0)
          ∧ r.2.mem ((c.tc : Thread Cert.AdamInEvenKernelIdeal.nD Cert.AdamInEvenKernelIdeal.τ).loc Cert.AdamInEvenKernelIdeal.main_arg1) = m ((c.tc : Thread Cert.AdamInEvenKernelIdeal.nD Cert.AdamInEvenKernelIdeal.τ).loc Cert.AdamInEvenKernelIdeal.main_arg1)
          ∧ r.2.mem ((c.tc : Thread Cert.AdamInEvenKernelIdeal.nD Cert.AdamInEvenKernelIdeal.τ).loc Cert.AdamInEvenKernelIdeal.main_arg2) = m ((c.tc : Thread Cert.AdamInEvenKernelIdeal.nD Cert.AdamInEvenKernelIdeal.τ).loc Cert.AdamInEvenKernelIdeal.main_arg2)
          ∧ r.2.mem ((c.tc : Thread Cert.AdamInEvenKernelIdeal.nD Cert.AdamInEvenKernelIdeal.τ).loc Cert.AdamInEvenKernelIdeal.main_arg3) = m ((c.tc : Thread Cert.AdamInEvenKernelIdeal.nD Cert.AdamInEvenKernelIdeal.τ).loc Cert.AdamInEvenKernelIdeal.main_arg3))
      ∧ θ_run (Cert.AdamInEvenReferenceIdeal.defs (F := Ideal)) (onTc (τ := Cert.AdamInEvenReferenceIdeal.τ) (Cert.AdamInEvenReferenceIdeal.main (F := Ideal))) ⟨m', fun _ => 0, g'⟩ (fun r => ∀ c : Dev Cert.AdamInEvenReferenceIdeal.nD,
          r.2.mem ((c.tc : Thread Cert.AdamInEvenReferenceIdeal.nD Cert.AdamInEvenReferenceIdeal.τ).loc Cert.AdamInEvenReferenceIdeal.main_v23) = v0 c
          ∧ r.2.mem ((c.tc : Thread Cert.AdamInEvenReferenceIdeal.nD Cert.AdamInEvenReferenceIdeal.τ).loc Cert.AdamInEvenReferenceIdeal.main_v4) = v1 c
          ∧ r.2.mem ((c.tc : Thread Cert.AdamInEvenReferenceIdeal.nD Cert.AdamInEvenReferenceIdeal.τ).loc Cert.AdamInEvenReferenceIdeal.main_v10) = v2 c
          ∧ r.2.mem ((c.tc : Thread Cert.AdamInEvenReferenceIdeal.nD Cert.AdamInEvenReferenceIdeal.τ).loc Cert.AdamInEvenReferenceIdeal.main_arg1) = v3 c
          ∧ r.2.mem ((c.tc : Thread Cert.AdamInEvenReferenceIdeal.nD Cert.AdamInEvenReferenceIdeal.τ).loc Cert.AdamInEvenReferenceIdeal.main_arg0) = m' ((c.tc : Thread Cert.AdamInEvenReferenceIdeal.nD Cert.AdamInEvenReferenceIdeal.τ).loc Cert.AdamInEvenReferenceIdeal.main_arg0)
          ∧ r.2.mem ((c.tc : Thread Cert.AdamInEvenReferenceIdeal.nD Cert.AdamInEvenReferenceIdeal.τ).loc Cert.AdamInEvenReferenceIdeal.main_arg1) = m' ((c.tc : Thread Cert.AdamInEvenReferenceIdeal.nD Cert.AdamInEvenReferenceIdeal.τ).loc Cert.AdamInEvenReferenceIdeal.main_arg1)
          ∧ r.2.mem ((c.tc : Thread Cert.AdamInEvenReferenceIdeal.nD Cert.AdamInEvenReferenceIdeal.τ).loc Cert.AdamInEvenReferenceIdeal.main_arg2) = m' ((c.tc : Thread Cert.AdamInEvenReferenceIdeal.nD Cert.AdamInEvenReferenceIdeal.τ).loc Cert.AdamInEvenReferenceIdeal.main_arg2)
          ∧ r.2.mem ((c.tc : Thread Cert.AdamInEvenReferenceIdeal.nD Cert.AdamInEvenReferenceIdeal.τ).loc Cert.AdamInEvenReferenceIdeal.main_arg3) = m' ((c.tc : Thread Cert.AdamInEvenReferenceIdeal.nD Cert.AdamInEvenReferenceIdeal.τ).loc Cert.AdamInEvenReferenceIdeal.main_arg3))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v0)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v0) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_AddKernel_AddKernelIdeal : Prop :=
  True

def algebraic_AddKernelIdeal_AddReferenceIdeal [hAddKernelIdeal : Cert.AddKernelIdeal.Facts] [hAddReferenceIdeal : Cert.AddReferenceIdeal.Facts] [hPre_core_number : Cert.Pre_core_number.Facts] : Prop :=
  ∀ (m : (ℓ : Loc Cert.AddKernelIdeal.nD Cert.AddKernelIdeal.τ Cert.AddKernelIdeal.sig) → Buf (Elt Ideal) ℓ) (g : Dev Cert.AddKernelIdeal.nD → PrngReg)
    (m' : (ℓ : Loc Cert.AddReferenceIdeal.nD Cert.AddReferenceIdeal.τ Cert.AddReferenceIdeal.sig) → Buf (Elt Ideal) ℓ) (g' : Dev Cert.AddReferenceIdeal.nD → PrngReg), Pre_AddKernelIdeal m →
    (∀ c : Dev Cert.AddKernelIdeal.nD,
      m' ((c.tc : Thread Cert.AddReferenceIdeal.nD Cert.AddReferenceIdeal.τ).loc Cert.AddReferenceIdeal.main_arg0) = m ((c.tc : Thread Cert.AddKernelIdeal.nD Cert.AddKernelIdeal.τ).loc Cert.AddKernelIdeal.main_arg0)
      ∧ m' ((c.tc : Thread Cert.AddReferenceIdeal.nD Cert.AddReferenceIdeal.τ).loc Cert.AddReferenceIdeal.main_arg1) = m ((c.tc : Thread Cert.AddKernelIdeal.nD Cert.AddKernelIdeal.τ).loc Cert.AddKernelIdeal.main_arg1)
      ∧ m' ((c.tc : Thread Cert.AddReferenceIdeal.nD Cert.AddReferenceIdeal.τ).loc Cert.AddReferenceIdeal.main_arg2) = m ((c.tc : Thread Cert.AddKernelIdeal.nD Cert.AddKernelIdeal.τ).loc Cert.AddKernelIdeal.main_arg2)) →
    ∃ (v0 : (c : Dev Cert.AddKernelIdeal.nD) → Buf (Elt Ideal) ((c.tc : Thread Cert.AddKernelIdeal.nD Cert.AddKernelIdeal.τ).loc Cert.AddKernelIdeal.main_v0)),
      θ_run (Cert.AddKernelIdeal.defs (F := Ideal)) (onTc (τ := Cert.AddKernelIdeal.τ) (Cert.AddKernelIdeal.main (F := Ideal))) ⟨m, fun _ => 0, g⟩ (fun r => ∀ c : Dev Cert.AddKernelIdeal.nD,
          r.2.mem ((c.tc : Thread Cert.AddKernelIdeal.nD Cert.AddKernelIdeal.τ).loc Cert.AddKernelIdeal.main_v0) = v0 c
          ∧ r.2.mem ((c.tc : Thread Cert.AddKernelIdeal.nD Cert.AddKernelIdeal.τ).loc Cert.AddKernelIdeal.main_arg0) = m ((c.tc : Thread Cert.AddKernelIdeal.nD Cert.AddKernelIdeal.τ).loc Cert.AddKernelIdeal.main_arg0)
          ∧ r.2.mem ((c.tc : Thread Cert.AddKernelIdeal.nD Cert.AddKernelIdeal.τ).loc Cert.AddKernelIdeal.main_arg1) = m ((c.tc : Thread Cert.AddKernelIdeal.nD Cert.AddKernelIdeal.τ).loc Cert.AddKernelIdeal.main_arg1)
          ∧ r.2.mem ((c.tc : Thread Cert.AddKernelIdeal.nD Cert.AddKernelIdeal.τ).loc Cert.AddKernelIdeal.main_arg2) = m ((c.tc : Thread Cert.AddKernelIdeal.nD Cert.AddKernelIdeal.τ).loc Cert.AddKernelIdeal.main_arg2))
      ∧ θ_run (Cert.AddReferenceIdeal.defs (F := Ideal)) (onTc (τ := Cert.AddReferenceIdeal.τ) (Cert.AddReferenceIdeal.main (F := Ideal))) ⟨m', fun _ => 0, g'⟩ (fun r => ∀ c : Dev Cert.AddReferenceIdeal.nD,
          r.2.mem ((c.tc : Thread Cert.AddReferenceIdeal.nD Cert.AddReferenceIdeal.τ).loc Cert.AddReferenceIdeal.main_v9) = v0 c
          ∧ r.2.mem ((c.tc : Thread Cert.AddReferenceIdeal.nD Cert.AddReferenceIdeal.τ).loc Cert.AddReferenceIdeal.main_arg0) = m' ((c.tc : Thread Cert.AddReferenceIdeal.nD Cert.AddReferenceIdeal.τ).loc Cert.AddReferenceIdeal.main_arg0)
          ∧ r.2.mem ((c.tc : Thread Cert.AddReferenceIdeal.nD Cert.AddReferenceIdeal.τ).loc Cert.AddReferenceIdeal.main_arg1) = m' ((c.tc : Thread Cert.AddReferenceIdeal.nD Cert.AddReferenceIdeal.τ).loc Cert.AddReferenceIdeal.main_arg1)
          ∧ r.2.mem ((c.tc : Thread Cert.AddReferenceIdeal.nD Cert.AddReferenceIdeal.τ).loc Cert.AddReferenceIdeal.main_arg2) = m' ((c.tc : Thread Cert.AddReferenceIdeal.nD Cert.AddReferenceIdeal.τ).loc Cert.AddReferenceIdeal.main_arg2))

def preserves_ChipsKernel_ChipsKernelIdeal : Prop :=
  True

def algebraic_ChipsKernelIdeal_ChipsReferenceIdeal [hChipsKernelIdeal : Cert.ChipsKernelIdeal.Facts] [hChipsReferenceIdeal : Cert.ChipsReferenceIdeal.Facts] [hPre_position : Cert.Pre_position.Facts] : Prop :=
  ∀ (m : (ℓ : Loc Cert.ChipsKernelIdeal.nD Cert.ChipsKernelIdeal.τ Cert.ChipsKernelIdeal.sig) → Buf (Elt Ideal) ℓ) (g : Dev Cert.ChipsKernelIdeal.nD → PrngReg)
    (m' : (ℓ : Loc Cert.ChipsReferenceIdeal.nD Cert.ChipsReferenceIdeal.τ Cert.ChipsReferenceIdeal.sig) → Buf (Elt Ideal) ℓ) (g' : Dev Cert.ChipsReferenceIdeal.nD → PrngReg), Pre_ChipsKernelIdeal m →
    (∀ c : Dev Cert.ChipsKernelIdeal.nD,
      m' ((c.tc : Thread Cert.ChipsReferenceIdeal.nD Cert.ChipsReferenceIdeal.τ).loc Cert.ChipsReferenceIdeal.main_arg0) = m ((c.tc : Thread Cert.ChipsKernelIdeal.nD Cert.ChipsKernelIdeal.τ).loc Cert.ChipsKernelIdeal.main_arg0)
      ∧ m' ((c.tc : Thread Cert.ChipsReferenceIdeal.nD Cert.ChipsReferenceIdeal.τ).loc Cert.ChipsReferenceIdeal.main_arg1) = m ((c.tc : Thread Cert.ChipsKernelIdeal.nD Cert.ChipsKernelIdeal.τ).loc Cert.ChipsKernelIdeal.main_arg1)
      ∧ m' ((c.tc : Thread Cert.ChipsReferenceIdeal.nD Cert.ChipsReferenceIdeal.τ).loc Cert.ChipsReferenceIdeal.main_arg2) = m ((c.tc : Thread Cert.ChipsKernelIdeal.nD Cert.ChipsKernelIdeal.τ).loc Cert.ChipsKernelIdeal.main_arg2)
      ∧ m' ((c.tc : Thread Cert.ChipsReferenceIdeal.nD Cert.ChipsReferenceIdeal.τ).loc Cert.ChipsReferenceIdeal.main_arg3) = m ((c.tc : Thread Cert.ChipsKernelIdeal.nD Cert.ChipsKernelIdeal.τ).loc Cert.ChipsKernelIdeal.main_arg3)) →
    ∃ (v0 : (c : Dev Cert.ChipsKernelIdeal.nD) → Buf (Elt Ideal) ((c.tc : Thread Cert.ChipsKernelIdeal.nD Cert.ChipsKernelIdeal.τ).loc Cert.ChipsKernelIdeal.main_v0)),
      θ_run (Cert.ChipsKernelIdeal.defs (F := Ideal)) (onTc (τ := Cert.ChipsKernelIdeal.τ) (Cert.ChipsKernelIdeal.main (F := Ideal))) ⟨m, fun _ => 0, g⟩ (fun r => ∀ c : Dev Cert.ChipsKernelIdeal.nD,
          r.2.mem ((c.tc : Thread Cert.ChipsKernelIdeal.nD Cert.ChipsKernelIdeal.τ).loc Cert.ChipsKernelIdeal.main_v0) = v0 c
          ∧ r.2.mem ((c.tc : Thread Cert.ChipsKernelIdeal.nD Cert.ChipsKernelIdeal.τ).loc Cert.ChipsKernelIdeal.main_arg0) = m ((c.tc : Thread Cert.ChipsKernelIdeal.nD Cert.ChipsKernelIdeal.τ).loc Cert.ChipsKernelIdeal.main_arg0)
          ∧ r.2.mem ((c.tc : Thread Cert.ChipsKernelIdeal.nD Cert.ChipsKernelIdeal.τ).loc Cert.ChipsKernelIdeal.main_arg1) = m ((c.tc : Thread Cert.ChipsKernelIdeal.nD Cert.ChipsKernelIdeal.τ).loc Cert.ChipsKernelIdeal.main_arg1)
          ∧ r.2.mem ((c.tc : Thread Cert.ChipsKernelIdeal.nD Cert.ChipsKernelIdeal.τ).loc Cert.ChipsKernelIdeal.main_arg2) = m ((c.tc : Thread Cert.ChipsKernelIdeal.nD Cert.ChipsKernelIdeal.τ).loc Cert.ChipsKernelIdeal.main_arg2)
          ∧ r.2.mem ((c.tc : Thread Cert.ChipsKernelIdeal.nD Cert.ChipsKernelIdeal.τ).loc Cert.ChipsKernelIdeal.main_arg3) = m ((c.tc : Thread Cert.ChipsKernelIdeal.nD Cert.ChipsKernelIdeal.τ).loc Cert.ChipsKernelIdeal.main_arg3))
      ∧ θ_run (Cert.ChipsReferenceIdeal.defs (F := Ideal)) (onTc (τ := Cert.ChipsReferenceIdeal.τ) (Cert.ChipsReferenceIdeal.main (F := Ideal))) ⟨m', fun _ => 0, g'⟩ (fun r => ∀ c : Dev Cert.ChipsReferenceIdeal.nD,
          r.2.mem ((c.tc : Thread Cert.ChipsReferenceIdeal.nD Cert.ChipsReferenceIdeal.τ).loc Cert.ChipsReferenceIdeal.main_v18) = v0 c
          ∧ r.2.mem ((c.tc : Thread Cert.ChipsReferenceIdeal.nD Cert.ChipsReferenceIdeal.τ).loc Cert.ChipsReferenceIdeal.main_arg0) = m' ((c.tc : Thread Cert.ChipsReferenceIdeal.nD Cert.ChipsReferenceIdeal.τ).loc Cert.ChipsReferenceIdeal.main_arg0)
          ∧ r.2.mem ((c.tc : Thread Cert.ChipsReferenceIdeal.nD Cert.ChipsReferenceIdeal.τ).loc Cert.ChipsReferenceIdeal.main_arg1) = m' ((c.tc : Thread Cert.ChipsReferenceIdeal.nD Cert.ChipsReferenceIdeal.τ).loc Cert.ChipsReferenceIdeal.main_arg1)
          ∧ r.2.mem ((c.tc : Thread Cert.ChipsReferenceIdeal.nD Cert.ChipsReferenceIdeal.τ).loc Cert.ChipsReferenceIdeal.main_arg2) = m' ((c.tc : Thread Cert.ChipsReferenceIdeal.nD Cert.ChipsReferenceIdeal.τ).loc Cert.ChipsReferenceIdeal.main_arg2)
          ∧ r.2.mem ((c.tc : Thread Cert.ChipsReferenceIdeal.nD Cert.ChipsReferenceIdeal.τ).loc Cert.ChipsReferenceIdeal.main_arg3) = m' ((c.tc : Thread Cert.ChipsReferenceIdeal.nD Cert.ChipsReferenceIdeal.τ).loc Cert.ChipsReferenceIdeal.main_arg3))

def preserves_EvenKernel_EvenKernelIdeal : Prop :=
  True

def preserves_OddKernel_OddKernelIdeal : Prop :=
  True

def Claim : Prop :=
  ∃ (hLossKernel : Cert.LossKernel.Facts) (hLossKernelIdeal : Cert.LossKernelIdeal.Facts) (hLossReferenceIdeal : Cert.LossReferenceIdeal.Facts) (hDnKernel : Cert.DnKernel.Facts) (hDnKernelIdeal : Cert.DnKernelIdeal.Facts) (hDnReferenceIdeal : Cert.DnReferenceIdeal.Facts) (hInKernel : Cert.InKernel.Facts) (hInKernelIdeal : Cert.InKernelIdeal.Facts) (hInReferenceIdeal : Cert.InReferenceIdeal.Facts) (hEvenFwdKernel : Cert.EvenFwdKernel.Facts) (hEvenFwdKernelIdeal : Cert.EvenFwdKernelIdeal.Facts) (hEvenFwdReferenceIdeal : Cert.EvenFwdReferenceIdeal.Facts) (hOddFwdKernel : Cert.OddFwdKernel.Facts) (hOddFwdKernelIdeal : Cert.OddFwdKernelIdeal.Facts) (hOddFwdReferenceIdeal : Cert.OddFwdReferenceIdeal.Facts) (hDwInKernel : Cert.DwInKernel.Facts) (hDwInKernelIdeal : Cert.DwInKernelIdeal.Facts) (hDwInReferenceIdeal : Cert.DwInReferenceIdeal.Facts) (hDwOutKernel : Cert.DwOutKernel.Facts) (hDwOutKernelIdeal : Cert.DwOutKernelIdeal.Facts) (hDwOutReferenceIdeal : Cert.DwOutReferenceIdeal.Facts) (hAdamInEvenKernel : Cert.AdamInEvenKernel.Facts) (hAdamInEvenKernelIdeal : Cert.AdamInEvenKernelIdeal.Facts) (hAdamInEvenReferenceIdeal : Cert.AdamInEvenReferenceIdeal.Facts) (hSumKernel : Cert.SumKernel.Facts) (hSumKernelIdeal : Cert.SumKernelIdeal.Facts) (hSumReferenceIdeal : Cert.SumReferenceIdeal.Facts) (hAddKernel : Cert.AddKernel.Facts) (hAddKernelIdeal : Cert.AddKernelIdeal.Facts) (hAddReferenceIdeal : Cert.AddReferenceIdeal.Facts) (hChipsKernel : Cert.ChipsKernel.Facts) (hChipsKernelIdeal : Cert.ChipsKernelIdeal.Facts) (hChipsReferenceIdeal : Cert.ChipsReferenceIdeal.Facts) (hEvenKernel : Cert.EvenKernel.Facts) (hEvenKernelIdeal : Cert.EvenKernelIdeal.Facts) (hEvenReferenceIdeal : Cert.EvenReferenceIdeal.Facts) (hOddKernel : Cert.OddKernel.Facts) (hOddKernelIdeal : Cert.OddKernelIdeal.Facts) (hPre_finite_pool : Cert.Pre_finite_pool.Facts) (hPre_multiplier_kept : Cert.Pre_multiplier_kept.Facts) (hPre_core_number : Cert.Pre_core_number.Facts) (hPre_position : Cert.Pre_position.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_DnKernel (hDnKernel := hDnKernel)
    ∧ quiescent_DnKernelIdeal (hDnKernelIdeal := hDnKernelIdeal)
    ∧ quiescent_DnReferenceIdeal (hDnReferenceIdeal := hDnReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_EvenFwdKernel (hEvenFwdKernel := hEvenFwdKernel)
    ∧ quiescent_EvenFwdKernelIdeal (hEvenFwdKernelIdeal := hEvenFwdKernelIdeal)
    ∧ quiescent_EvenFwdKernelIdeal_pre_finite_pool (hEvenFwdKernelIdeal := hEvenFwdKernelIdeal) (hPre_finite_pool := hPre_finite_pool)
    ∧ quiescent_EvenFwdReferenceIdeal (hEvenFwdReferenceIdeal := hEvenFwdReferenceIdeal)
    ∧ quiescent_EvenFwdReferenceIdeal_pre_finite_pool (hEvenFwdReferenceIdeal := hEvenFwdReferenceIdeal) (hPre_finite_pool := hPre_finite_pool)
    ∧ quiescent_OddFwdKernel (hOddFwdKernel := hOddFwdKernel)
    ∧ quiescent_OddFwdKernelIdeal (hOddFwdKernelIdeal := hOddFwdKernelIdeal)
    ∧ quiescent_OddFwdKernelIdeal_pre_multiplier_kept (hOddFwdKernelIdeal := hOddFwdKernelIdeal) (hPre_multiplier_kept := hPre_multiplier_kept)
    ∧ quiescent_OddFwdReferenceIdeal (hOddFwdReferenceIdeal := hOddFwdReferenceIdeal)
    ∧ quiescent_OddFwdReferenceIdeal_pre_multiplier_kept (hOddFwdReferenceIdeal := hOddFwdReferenceIdeal) (hPre_multiplier_kept := hPre_multiplier_kept)
    ∧ quiescent_DwInKernel (hDwInKernel := hDwInKernel)
    ∧ quiescent_DwInKernelIdeal (hDwInKernelIdeal := hDwInKernelIdeal)
    ∧ quiescent_DwInReferenceIdeal (hDwInReferenceIdeal := hDwInReferenceIdeal)
    ∧ quiescent_DwOutKernel (hDwOutKernel := hDwOutKernel)
    ∧ quiescent_DwOutKernelIdeal (hDwOutKernelIdeal := hDwOutKernelIdeal)
    ∧ quiescent_DwOutReferenceIdeal (hDwOutReferenceIdeal := hDwOutReferenceIdeal)
    ∧ quiescent_AdamInEvenKernel (hAdamInEvenKernel := hAdamInEvenKernel)
    ∧ quiescent_AdamInEvenKernelIdeal (hAdamInEvenKernelIdeal := hAdamInEvenKernelIdeal)
    ∧ quiescent_AdamInEvenReferenceIdeal (hAdamInEvenReferenceIdeal := hAdamInEvenReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_AddKernel (hAddKernel := hAddKernel) (hPre_core_number := hPre_core_number)
    ∧ quiescent_AddKernelIdeal (hAddKernelIdeal := hAddKernelIdeal) (hPre_core_number := hPre_core_number)
    ∧ quiescent_AddReferenceIdeal (hAddReferenceIdeal := hAddReferenceIdeal)
    ∧ quiescent_AddReferenceIdeal_pre_core_number (hAddReferenceIdeal := hAddReferenceIdeal) (hPre_core_number := hPre_core_number)
    ∧ quiescent_ChipsKernel (hChipsKernel := hChipsKernel) (hPre_position := hPre_position)
    ∧ quiescent_ChipsKernelIdeal (hChipsKernelIdeal := hChipsKernelIdeal) (hPre_position := hPre_position)
    ∧ quiescent_ChipsReferenceIdeal (hChipsReferenceIdeal := hChipsReferenceIdeal)
    ∧ quiescent_ChipsReferenceIdeal_pre_position (hChipsReferenceIdeal := hChipsReferenceIdeal) (hPre_position := hPre_position)
    ∧ quiescent_EvenKernel (hEvenKernel := hEvenKernel)
    ∧ quiescent_EvenKernelIdeal (hEvenKernelIdeal := hEvenKernelIdeal)
    ∧ quiescent_EvenReferenceIdeal (hEvenReferenceIdeal := hEvenReferenceIdeal)
    ∧ quiescent_OddKernel (hOddKernel := hOddKernel)
    ∧ quiescent_OddKernelIdeal (hOddKernelIdeal := hOddKernelIdeal)
    ∧ preserves_LossKernel_LossKernelIdeal
    ∧ algebraic_LossKernelIdeal_LossReferenceIdeal (hLossKernelIdeal := hLossKernelIdeal) (hLossReferenceIdeal := hLossReferenceIdeal)
    ∧ preserves_DnKernel_DnKernelIdeal
    ∧ algebraic_DnKernelIdeal_DnReferenceIdeal (hDnKernelIdeal := hDnKernelIdeal) (hDnReferenceIdeal := hDnReferenceIdeal)
    ∧ preserves_InKernel_InKernelIdeal
    ∧ algebraic_InKernelIdeal_InReferenceIdeal (hInKernelIdeal := hInKernelIdeal) (hInReferenceIdeal := hInReferenceIdeal)
    ∧ preserves_EvenFwdKernel_EvenFwdKernelIdeal
    ∧ algebraic_EvenFwdKernelIdeal_EvenFwdReferenceIdeal_pre_finite_pool (hEvenFwdKernelIdeal := hEvenFwdKernelIdeal) (hEvenFwdReferenceIdeal := hEvenFwdReferenceIdeal) (hPre_finite_pool := hPre_finite_pool)
    ∧ preserves_OddFwdKernel_OddFwdKernelIdeal
    ∧ algebraic_OddFwdKernelIdeal_OddFwdReferenceIdeal_pre_multiplier_kept (hOddFwdKernelIdeal := hOddFwdKernelIdeal) (hOddFwdReferenceIdeal := hOddFwdReferenceIdeal) (hPre_multiplier_kept := hPre_multiplier_kept)
    ∧ preserves_DwInKernel_DwInKernelIdeal
    ∧ algebraic_DwInKernelIdeal_DwInReferenceIdeal (hDwInKernelIdeal := hDwInKernelIdeal) (hDwInReferenceIdeal := hDwInReferenceIdeal)
    ∧ preserves_DwOutKernel_DwOutKernelIdeal
    ∧ algebraic_DwOutKernelIdeal_DwOutReferenceIdeal (hDwOutKernelIdeal := hDwOutKernelIdeal) (hDwOutReferenceIdeal := hDwOutReferenceIdeal)
    ∧ preserves_AdamInEvenKernel_AdamInEvenKernelIdeal
    ∧ algebraic_AdamInEvenKernelIdeal_AdamInEvenReferenceIdeal (hAdamInEvenKernelIdeal := hAdamInEvenKernelIdeal) (hAdamInEvenReferenceIdeal := hAdamInEvenReferenceIdeal)
    ∧ preserves_SumKernel_SumKernelIdeal
    ∧ algebraic_SumKernelIdeal_SumReferenceIdeal (hSumKernelIdeal := hSumKernelIdeal) (hSumReferenceIdeal := hSumReferenceIdeal)
    ∧ preserves_AddKernel_AddKernelIdeal
    ∧ algebraic_AddKernelIdeal_AddReferenceIdeal (hAddKernelIdeal := hAddKernelIdeal) (hAddReferenceIdeal := hAddReferenceIdeal) (hPre_core_number := hPre_core_number)
    ∧ preserves_ChipsKernel_ChipsKernelIdeal
    ∧ algebraic_ChipsKernelIdeal_ChipsReferenceIdeal (hChipsKernelIdeal := hChipsKernelIdeal) (hChipsReferenceIdeal := hChipsReferenceIdeal) (hPre_position := hPre_position)
    ∧ preserves_EvenKernel_EvenKernelIdeal
    ∧ preserves_OddKernel_OddKernelIdeal
-- ==== Pre_core_number.lean ====
abbrev S1x4x1024x1280 : Shape := ⟨4, ![1, 4, 1024, 1280]⟩
abbrev S1x4x512x1280 : Shape := ⟨4, ![1, 4, 512, 1280]⟩
abbrev S2 : Shape := ⟨1, ![2]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S1x4x1024x1280 .bf16) (main_arg1 : FVec F S1x4x512x1280 .bf16) (main_arg2 : IVec S2 32) : IVec S_ 1 :=
  let main_v0 : IVec S1 32 := (extractStridedSlice S1 ![1] · slices_S2_S1_1) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg2
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  main_v6
-- ==== Pre_finite_pool.lean ====
abbrev S2048x5120 : Shape := ⟨2, ![2048, 5120]⟩
abbrev S31x1024 : Shape := ⟨2, ![31, 1024]⟩
abbrev S1024 : Shape := ⟨1, ![1024]⟩
abbrev S4x256x256 : Shape := ⟨3, ![4, 256, 256]⟩
abbrev S2048x1024 : Shape := ⟨2, ![2048, 1024]⟩
abbrev S_ : Shape := ⟨0, ![]⟩

class Facts : Prop where
  slices_S2048x5120_S2048x1024_0_3072 : S2048x5120.Slices ![0, 3072] S2048x1024
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x5120 .f32) (main_arg1 : FVec F S31x1024 .f32) (main_arg2 : FVec F S1024 .f32) (main_arg3 : FVec F S1024 .f32) (main_arg4 : FVec F S1024 .f32) (main_arg5 : FVec F S4x256x256 .bf16) (main_arg6 : FVec F S1024 .f32) (main_arg7 : FVec F S1024 .f32) (main_arg8 : FVec F S2048x1024 .f32) (main_arg9 : FVec F S2048x1024 .bf16) : IVec S_ 1 :=
  let main_v0 : FVec F S2048x1024 .f32 := (extractStridedSlice S2048x1024 ![0, 3072] · slices_S2048x5120_S2048x1024_0_3072) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  main_v4
-- ==== Pre_multiplier_kept.lean ====
abbrev S2048x3072 : Shape := ⟨2, ![2048, 3072]⟩
abbrev S4x1536 : Shape := ⟨2, ![4, 1536]⟩
abbrev S1536 : Shape := ⟨1, ![1536]⟩
abbrev S12x128x128 : Shape := ⟨3, ![12, 128, 128]⟩
abbrev S2048x1024 : Shape := ⟨2, ![2048, 1024]⟩
abbrev S1536x1024 : Shape := ⟨2, ![1536, 1024]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S2048 : Shape := ⟨1, ![2048]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S2048x4x1 : Shape := ⟨3, ![2048, 4, 1]⟩
abbrev S2048x4x1536 : Shape := ⟨3, ![2048, 4, 1536]⟩
abbrev S1x4x1536 : Shape := ⟨3, ![1, 4, 1536]⟩
abbrev S1x1536 : Shape := ⟨2, ![1, 1536]⟩
abbrev S2048x12x128 : Shape := ⟨3, ![2048, 12, 128]⟩
abbrev S12x128x2048 : Shape := ⟨3, ![12, 128, 2048]⟩

class Facts : Prop where
  slices_S2048x3072_S2048x1536_0_0 : S2048x3072.Slices ![0, 0] S2048x1536
  bcast_S_S3x1536 : S_.BroadcastsInDim S3x1536 (![] : Fin 0 → Fin S3x1536.rank)
  concatenates_S3x1536_S2048x1536_S2051x1536_d0 : Shape.Concatenates [S3x1536, S2048x1536] S2051x1536 0
  bcast_S2048_S2048x1_0 : S2048.BroadcastsInDim S2048x1 (![0] : Fin 1 → Fin S2048x1.rank)
  bcast_S4_S1x4_1 : S4.BroadcastsInDim S1x4 (![1] : Fin 1 → Fin S1x4.rank)
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  bcast_S_S2048x4 : S_.BroadcastsInDim S2048x4 (![] : Fin 0 → Fin S2048x4.rank)
  bcast_S2048x4_S2048x4x1_0_1 : S2048x4.BroadcastsInDim S2048x4x1 (![0, 1] : Fin 2 → Fin S2048x4x1.rank)
  bcast_S4x1536_S1x4x1536_1_2 : S4x1536.BroadcastsInDim S1x4x1536 (![1, 2] : Fin 2 → Fin S1x4x1536.rank)
  bcast_S1x4x1536_S2048x4x1536_0_1_2 : S1x4x1536.BroadcastsInDim S2048x4x1536 (![0, 1, 2] : Fin 3 → Fin S2048x4x1536.rank)
  reducesTo_S2048x4x1536_S2048x1536_d1 : S2048x4x1536.ReducesTo [1] S2048x1536
  h_S_ : 0 < S_.numel
  bcast_S1536_S1x1536_1 : S1536.BroadcastsInDim S1x1536 (![1] : Fin 1 → Fin S1x1536.rank)
  bcast_S1x1536_S2048x1536_0_1 : S1x1536.BroadcastsInDim S2048x1536 (![0, 1] : Fin 2 → Fin S2048x1536.rank)
  shapeCasts_S2048x1536_S2048x12x128 : S2048x1536.ShapeCasts S2048x12x128
  bitsLt_bf16_f32 : FTy.bits .bf16 < FTy.bits .f32
  transposes_S12x128x2048_S2048x12x128_2_0_1 : S12x128x2048.Transposes [2, 0, 1] S2048x12x128
  shapeCasts_S2048x12x128_S2048x1536 : S2048x12x128.ShapeCasts S2048x1536
  bcast_S_S2048x1536 : S_.BroadcastsInDim S2048x1536 (![] : Fin 0 → Fin S2048x1536.rank)
  bcast_S_S1536 : S_.BroadcastsInDim S1536 (![] : Fin 0 → Fin S1536.rank)
  reducesTo_S2048x1536_S_d0_1 : S2048x1536.ReducesTo [0, 1] S_
  gather_S2051x1536_S2048x4x1_S2048x4x1536_2_0_n_n_0_2_11536_wf : GatherDims.WF S2051x1536 S2048x4x1 S2048x4x1536 [2] [0] [] [0] [] 2 ![1, 1536]
  dot_S12x128x128_S2048x12x128_S12x128x2048_1_2_2_0_0_1_wf : DotDims.WF S12x128x128 S2048x12x128 S12x128x2048 [1] [2] [2] [0] [0] [1]

variable [Facts]

def gather_S2051x1536_S2048x4x1_S2048x4x1536_2_0_n_n_0_2_11536 : GatherDims S2051x1536 S2048x4x1 S2048x4x1536 where
  offsetDims := [2]
  collapsedSliceDims := [0]
  operandBatchingDims := []
  startIndicesBatchingDims := []
  startIndexMap := [0]
  indexVectorDim := 2
  sliceSizes := ![1, 1536]
  wf := gather_S2051x1536_S2048x4x1_S2048x4x1536_2_0_n_n_0_2_11536_wf
def dot_S12x128x128_S2048x12x128_S12x128x2048_1_2_2_0_0_1 : DotDims S12x128x128 S2048x12x128 S12x128x2048 where
  lhsContracting := [1]
  rhsContracting := [2]
  lhsNonContracting := [2]
  rhsNonContracting := [0]
  lhsBatch := [0]
  rhsBatch := [1]
  wf := dot_S12x128x128_S2048x12x128_S12x128x2048_1_2_2_0_0_1_wf
def fn_softplus {F : FTy → Type} [FloatOps F] (arg0 : FVec F S1536 .f32) : FVec F S1536 .f32 :=
  let cst : FVec F S_ .f32 := constant S_ .f32 0x00000000#32
  let v0 : FVec F S1536 .f32 := broadcastInDim S1536 ![] bcast_S_S1536 cst
  let v1 : FVec F S1536 .f32 := maximumf arg0 v0
  let v2 : FVec F S1536 .f32 := broadcastInDim S1536 ![] bcast_S_S1536 cst
  let v3 : FVec F S1536 .f32 := subf arg0 v2
  let v4 : IVec S1536 1 := cmpf .une v3 v3
  let v5 : FVec F S1536 .f32 := broadcastInDim S1536 ![] bcast_S_S1536 cst
  let v6 : FVec F S1536 .f32 := addf arg0 v5
  let v7 : FVec F S1536 .f32 := Host.absf v3
  let v8 : FVec F S1536 .f32 := Host.negf v7
  let v9 : FVec F S1536 .f32 := Host.exp v8
  let v10 : FVec F S1536 .f32 := Host.log1p v9
  let v11 : FVec F S1536 .f32 := addf v1 v10
  let v12 : FVec F S1536 .f32 := select v4 v6 v11
  v12

def fn_part2 {F : FTy → Type} [FloatOps F] (main_v39 : FVec F S2048x1536 .f32) (main_v40 : FVec F S1536 .f32) : IVec S_ 1 :=
  let main_v41 : FVec F S1536 .f32 := fn_softplus (F := F) main_v40
  let main_v42 : FVec F S1x1536 .f32 := broadcastInDim S1x1536 ![1] bcast_S1536_S1x1536_1 main_v41
  let main_v43 : FVec F S2048x1536 .f32 := broadcastInDim S2048x1536 ![0, 1] bcast_S1x1536_S2048x1536_0_1 main_v42
  let main_v44 : FVec F S2048x1536 .f32 := mulf main_v39 main_v43
  let main_cst_5 : FVec F S_ .f32 := constant S_ .f32 0x40000000#32
  let main_v45 : FVec F S2048x1536 .f32 := broadcastInDim S2048x1536 ![] bcast_S_S2048x1536 main_cst_5
  let main_v46 : FVec F S2048x1536 .f32 := mulf main_v45 main_v44
  let main_v47 : FVec F S2048x1536 .f32 := Host.expm1 main_v46
  let main_v48 : FVec F S2048x1536 .f32 := Host.negf main_v47
  let main_cst_6 : FVec F S_ .f32 := constant S_ .f32 0x0DA24260#32
  let main_v49 : FVec F S2048x1536 .f32 := broadcastInDim S2048x1536 ![] bcast_S_S2048x1536 main_cst_6
  let main_v50 : IVec S2048x1536 1 := cmpf .oge main_v48 main_v49
  let main_c_7 : IVec S_ 1 := constantI S_ 1 1#1
  let main_v51 : IVec S_ 1 := (fun x v => Host.reduce IntOp.andi x v reducesTo_S2048x1536_S_d0_1 h_S_) main_v50 main_c_7
  main_v51

def fn_part1 {F : FTy → Type} [FloatOps F] (main_arg2 : FVec F S1536 .f32) (main_arg3 : FVec F S12x128x128 .bf16) (main_arg4 : FVec F S1536 .f32) (main_arg7 : FVec F S1536 .f32) (main_v19 : FVec F S2048x4x1536 .f32) (main_cst_1 : FVec F S_ .f32) : IVec S_ 1 :=
  let main_v20 : FVec F S2048x1536 .f32 := (fun x v => Host.reduceAdd x v reducesTo_S2048x4x1536_S2048x1536_d1 h_S_) main_v19 main_cst_1
  let main_v21 : FVec F S1x1536 .f32 := broadcastInDim S1x1536 ![1] bcast_S1536_S1x1536_1 main_arg2
  let main_v22 : FVec F S2048x1536 .f32 := broadcastInDim S2048x1536 ![0, 1] bcast_S1x1536_S2048x1536_0_1 main_v21
  let main_v23 : FVec F S2048x1536 .f32 := addf main_v20 main_v22
  let main_v24 : FVec F S2048x12x128 .f32 := shapeCast S2048x12x128 main_v23 shapeCasts_S2048x1536_S2048x12x128
  let main_v25 : FVec F S12x128x128 .f32 := (extf .f32 · bitsLt_bf16_f32) main_arg3
  let main_v26 : FVec F S12x128x2048 .f32 := (fun l r => Host.dotGeneral dot_S12x128x128_S2048x12x128_S12x128x2048_1_2_2_0_0_1 none l r) main_v25 main_v24
  let main_v27 : FVec F S2048x12x128 .f32 := (transpose S2048x12x128 [2, 0, 1] · transposes_S12x128x2048_S2048x12x128_2_0_1) main_v26
  let main_v28 : FVec F S2048x1536 .f32 := shapeCast S2048x1536 main_v27 shapeCasts_S2048x12x128_S2048x1536
  let main_v29 : FVec F S1x1536 .f32 := broadcastInDim S1x1536 ![1] bcast_S1536_S1x1536_1 main_arg4
  let main_v30 : FVec F S2048x1536 .f32 := broadcastInDim S2048x1536 ![0, 1] bcast_S1x1536_S2048x1536_0_1 main_v29
  let main_v31 : FVec F S2048x1536 .f32 := addf main_v28 main_v30
  let main_v32 : FVec F S2048x1536 .f32 := Host.negf main_v31
  let main_v33 : FVec F S2048x1536 .f32 := Host.exp main_v32
  let main_cst_2 : FVec F S_ .f32 := constant S_ .f32 0x3F800000#32
  let main_v34 : FVec F S2048x1536 .f32 := broadcastInDim S2048x1536 ![] bcast_S_S2048x1536 main_cst_2
  let main_v35 : FVec F S2048x1536 .f32 := addf main_v34 main_v33
  let main_cst_3 : FVec F S_ .f32 := constant S_ .f32 0x3F800000#32
  let main_v36 : FVec F S2048x1536 .f32 := broadcastInDim S2048x1536 ![] bcast_S_S2048x1536 main_cst_3
  let main_v37 : FVec F S2048x1536 .f32 := Host.divf main_v36 main_v35
  let main_cst_4 : FVec F S_ .f32 := constant S_ .f32 0xC1000000#32
  let main_v38 : FVec F S2048x1536 .f32 := broadcastInDim S2048x1536 ![] bcast_S_S2048x1536 main_cst_4
  let main_v39 : FVec F S2048x1536 .f32 := mulf main_v38 main_v37
  let main_v40 : FVec F S1536 .f32 := Host.negf main_arg7
  fn_part2 (F := F) main_v39 main_v40

def fn {F : FTy → Type} [FloatOps F] (main_arg0 : FVec F S2048x3072 .f32) (main_arg1 : FVec F S4x1536 .f32) (main_arg2 : FVec F S1536 .f32) (main_arg3 : FVec F S12x128x128 .bf16) (main_arg4 : FVec F S1536 .f32) (main_arg5 : FVec F S12x128x128 .bf16) (main_arg6 : FVec F S1536 .f32) (main_arg7 : FVec F S1536 .f32) (main_arg8 : FVec F S2048x1024 .f32) (main_arg9 : FVec F S1536x1024 .bf16) : IVec S_ 1 :=
  let main_v0 : FVec F S2048x1536 .f32 := (extractStridedSlice S2048x1536 ![0, 0] · slices_S2048x3072_S2048x1536_0_0) main_arg0
  let main_cst : FVec F S_ .f32 := constant S_ .f32 0x00000000#32
  let main_v1 : FVec F S3x1536 .f32 := broadcastInDim S3x1536 ![] bcast_S_S3x1536 main_cst
  let main_v2 : FVec F S2051x1536 .f32 := (fun a b => concatenate S2051x1536 0 [⟨S3x1536, a⟩, ⟨S2048x1536, b⟩] concatenates_S3x1536_S2048x1536_S2051x1536_d0) main_v1 main_v0
  let main_v3 : IVec S2048 32 := iotaInDim S2048 32 0
  let main_v4 : IVec S2048x1 32 := broadcastInDim S2048x1 ![0] bcast_S2048_S2048x1_0 main_v3
  let main_v5 : IVec S4 32 := iotaInDim S4 32 0
  let main_v6 : IVec S1x4 32 := broadcastInDim S1x4 ![1] bcast_S4_S1x4_1 main_v5
  let main_v7 : IVec S2048x4 32 := broadcastInDim S2048x4 ![0, 1] bcast_S2048x1_S2048x4_0_1 main_v4
  let main_v8 : IVec S2048x4 32 := broadcastInDim S2048x4 ![0, 1] bcast_S1x4_S2048x4_0_1 main_v6
  let main_v9 : IVec S2048x4 32 := addi main_v7 main_v8
  let main_c : IVec S_ 32 := constantI S_ 32 0#32
  let main_v10 : IVec S2048x4 32 := broadcastInDim S2048x4 ![] bcast_S_S2048x4 main_c
  let main_v11 : IVec S2048x4 1 := cmpi .slt main_v9 main_v10
  let main_c_0 : IVec S_ 32 := constantI S_ 32 2051#32
  let main_v12 : IVec S2048x4 32 := broadcastInDim S2048x4 ![] bcast_S_S2048x4 main_c_0
  let main_v13 : IVec S2048x4 32 := addi main_v9 main_v12
  let main_v14 : IVec S2048x4 32 := select main_v11 main_v13 main_v9
  let main_v15 : IVec S2048x4x1 32 := broadcastInDim S2048x4x1 ![0, 1] bcast_S2048x4_S2048x4x1_0_1 main_v14
  let main_v16 : FVec F S2048x4x1536 .f32 := (fun x i => Host.gather gather_S2051x1536_S2048x4x1_S2048x4x1536_2_0_n_n_0_2_11536 x i) main_v2 main_v15
  let main_v17 : FVec F S1x4x1536 .f32 := broadcastInDim S1x4x1536 ![1, 2] bcast_S4x1536_S1x4x1536_1_2 main_arg1
  let main_v18 : FVec F S2048x4x1536 .f32 := broadcastInDim S2048x4x1536 ![0, 1, 2] bcast_S1x4x1536_S2048x4x1536_0_1_2 main_v17
  let main_v19 : FVec F S2048x4x1536 .f32 := mulf main_v16 main_v18
  let main_cst_1 : FVec F S_ .f32 := constant S_ .f32 0x00000000#32
  fn_part1 (F := F) main_arg2 main_arg3 main_arg4 main_arg7 main_v19 main_cst_1
-- ==== Pre_position.lean ====
abbrev S1x4x512x1280 : Shape := ⟨4, ![1, 4, 512, 1280]⟩
abbrev S2 : Shape := ⟨1, ![2]⟩
abbrev S2x1024x1280 : Shape := ⟨3, ![2, 1024, 1280]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4x512x1280 .bf16) (main_arg1 : FVec F S1x4x512x1280 .bf16) (main_arg2 : IVec S2 32) (main_arg3 : FVec F S2x1024x1280 .f32) : IVec S_ 1 :=
  let main_v0 : IVec S1 32 := (extractStridedSlice S1 ![0] · slices_S2_S1_0) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg2
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg2
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg2
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== LossKernel.lean ====
abbrev S2048x1024 : Shape := ⟨2, ![2048, 1024]⟩
abbrev S1024 : Shape := ⟨1, ![1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .hbm, ⟨7, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_19 : BitVec 32 := 0#32
  let v51 : BitVec 1 := Scalar.cmpi .ne v50 c0_i32_19
  v51

def k0_cond2 (i : grid0.Coords) : BitVec 1 :=
  let arg0 : BitVec 32 := BitVec.ofNat 32 (i 0).val
  let c0_i32_20 : BitVec 32 := 0#32
  let v52 : BitVec 1 := Scalar.cmpi .sgt arg0 c0_i32_20
  let v53 : BitVec 32 := Scalar.extui v52
  let c0_i32_21 : BitVec 32 := 0#32
  let v54 : BitVec 1 := Scalar.cmpi .ne v53 c0_i32_21
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .bf16⟩
  | .hbm, ⟨72, _⟩ => ⟨S1x1024, .f32⟩
  | .hbm, ⟨73, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== DnKernel.lean ====
abbrev S2048x5120 : Shape := ⟨2, ![2048, 5120]⟩
abbrev S4x1024x1280 : Shape := ⟨3, ![4, 1024, 1280]⟩
abbrev S2048x1024 : Shape := ⟨2, ![2048, 1024]⟩
abbrev S1024 : Shape := ⟨1, ![1024]⟩
abbrev S1x4x1024x1280 : Shape := ⟨4, ![1, 4, 1024, 1280]⟩
abbrev S1x1x1024 : Shape := ⟨3, ![1, 1, 1024]⟩
abbrev S_ : Shape := ⟨0, ![]⟩
abbrev S8x128 : Shape := ⟨2, ![8, 128]⟩
abbrev S1x1024 : Shape := ⟨2, ![1, 1024]⟩
abbrev S1024x1280 : Shape := ⟨2, ![1024, 1280]⟩
abbrev S1x1x1024x1280 : Shape := ⟨4, ![1, 1, 1024, 1280]⟩
abbrev S1024x1024 : Shape := ⟨2, ![1024, 1024]⟩
abbrev S2x1024x1024 : Shape := ⟨3, ![2, 1024, 1024]⟩
abbrev S1x1024x1024 : Shape := ⟨3, ![1, 1024, 1024]⟩
abbrev S1024x1 : Shape := ⟨2, ![1024, 1]⟩

abbrev nBuf : Space → Nat
  | .hbm => 12
  | .vmem => 16
  | .smem => 0
  | _ => 0

abbrev bufTy : (tb : Table) → Fin (tcTables nBuf tb) → BufTy
  | .hbm, ⟨0, _⟩ => ⟨S2048x5120, .bf16⟩
  | .hbm, ⟨1, _⟩ => ⟨S4x1024x1280, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1x4x1024x1280, .bf16⟩
  | .hbm, ⟨6, _⟩ => ⟨S1x1x1024, .f32⟩
  | .hbm, ⟨7, _⟩ => ⟨S_, .f32⟩
  | .hbm, ⟨8, _⟩ => ⟨S8x128, .f32⟩
  | .hbm, ⟨9, _⟩ => ⟨S2048x1024, .f32⟩
  | .hbm, ⟨10, _⟩ => ⟨S2048x1024, .bf16⟩
  | .hbm, ⟨11, _⟩ => ⟨S1x1024, .f32⟩
  | .local _ .vmem, ⟨0, _⟩ => ⟨S1024x1280, .bf16⟩
  | .local _ .vmem, ⟨1, _⟩ => ⟨S1024x1280, .bf16⟩
  | .local _ .vmem, ⟨2, _⟩ => ⟨S1x1x1024x1280, .bf16⟩
  | .local _ .vmem, ⟨3, _⟩ => ⟨S1x1x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S8x128, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S2x1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_5 : BitVec 32 := 0#32
  let v6 : BitVec 1 := Scalar.cmpi .ne v5 c0_i32_5
  v6

def k0_off1 (i : grid0.Coords) : Fin 3 → Nat :=
  let arg1 : BitVec 32 := BitVec.ofNat 32 (i 1).val
  let v13 : Index := Scalar.indexCast arg1
  let c0_9 : Index := 0#32
  let c0_10 : Index := 0#32
  ![v13.toNat, 0, 0]
def k0_cond2 (i : grid0.Coords) : BitVec 1 :=
  let arg0 : BitVec 32 := BitVec.ofNat 32 (i 0).val
  let c0_i32_6 : BitVec 32 := 0#32
  let v7 : BitVec 1 := Scalar.cmpi .sgt arg0 c0_i32_6
  let v8 : BitVec 32 := Scalar.extui v7
  let c0_i32_7 : BitVec 32 := 0#32
  let v9 : BitVec 1 := Scalar.cmpi .ne v8 c0_i32_7
  v9

def k0_off2 (i : grid0.Coords) : Fin 3 → Nat :=
  let arg1 : BitVec 32 := BitVec.ofNat 32 (i 1).val
  let v13 : Index := Scalar.indexCast arg1
  let c0_9 : Index := 0#32
  let c0_10 : Index := 0#32
  ![v13.toNat, 0, 0]
def k0_cond3 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_8 : BitVec 32 := 0#32
  let v12 : BitVec 1 := Scalar.cmpi .ne v11 c0_i32_8
  v12

def k0_off3 (i : grid0.Coords) : Fin 3 → Nat :=
  let arg1 : BitVec 32 := BitVec.ofNat 32 (i 1).val
  let v22 : Index := Scalar.indexCast arg1
  let c0_14 : Index := 0#32
  let c0_15 : Index := 0#32
  ![v22.toNat, 0, 0]
def k0_cond4 (i : grid0.Coords) : BitVec 1 :=
  let arg1 : BitVec 32 := BitVec.ofNat 32 (i 1).val
  let c0_i32_28 : BitVec 32 := 0#32
  let v52 : BitVec 1 := Scalar.cmpi .eq arg1 c0_i32_28
  let v53 : BitVec 32 := Scalar.extui v52
  let c0_i32_29 : BitVec 32 := 0#32
  let v54 : BitVec 1 := Scalar.cmpi .ne v53 c0_i32_29
  v54

def k0_cond5 (i : grid0.Coords) : BitVec 1 :=
  let arg1 : BitVec 32 := BitVec.ofNat 32 (i 1).val
  let c0_i32_30 : BitVec 32 := 0#32
  let v55 : BitVec 1 := Scalar.cmpi .sgt arg1 c0_i32_30
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== DnReferenceIdeal.lean ====
abbrev S2048x5120 : Shape := ⟨2, ![2048, 5120]⟩
abbrev S4x1024x1280 : Shape := ⟨3, ![4, 1024, 1280]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4x1280 : Shape := ⟨3, ![2048, 4, 1280]⟩

abbrev nBuf : Space → Nat
  | .hbm => 60
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S4x1024x1280, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | .hbm, ⟨26, _⟩ => ⟨S2048x4x1280, .f32⟩
  | .hbm, ⟨27, _⟩ => ⟨S2048x4x1280, .bf16⟩
  | .hbm, ⟨28, _⟩ => ⟨S2048x4x1280, .f32⟩
  | .hbm, ⟨29, _⟩ => ⟨S2048x1024, .f32⟩
  | .hbm, ⟨30, _⟩ => ⟨S2048x1024, .bf16⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .bf16⟩
  | .hbm, ⟨59, _⟩ => ⟨S1x1024, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== InKernel.lean ====
abbrev S2048x1024 : Shape := ⟨2, ![2048, 1024]⟩
abbrev S1024 : Shape := ⟨1, ![1024]⟩
abbrev S4x1024x1280 : Shape := ⟨3, ![4, 1024, 1280]⟩
abbrev S1x1x1024 : Shape := ⟨3, ![1, 1, 1024]⟩
abbrev S1x4x1024x1280 : Shape := ⟨4, ![1, 4, 1024, 1280]⟩
abbrev S_ : Shape := ⟨0, ![]⟩
abbrev S8x128 : Shape := ⟨2, ![8, 128]⟩
abbrev S2048x5120 : Shape := ⟨2, ![2048, 5120]⟩
abbrev S1024x1024 : Shape := ⟨2, ![1024, 1024]⟩
abbrev S1x1x1024x1280 : Shape := ⟨4, ![1, 1, 1024, 1280]⟩
abbrev S1024x1280 : Shape := ⟨2, ![1024, 1280]⟩
abbrev S2x1024x1024 : Shape := ⟨3, ![2, 1024, 1024]⟩
abbrev S1024x1 : Shape := ⟨2, ![1024, 1]⟩
abbrev S1x1024 : Shape := ⟨2, ![1, 1024]⟩
abbrev S1x1024x1024 : Shape := ⟨3, ![1, 1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S4x1024x1280, .bf16⟩
  | .hbm, ⟨3, _⟩ => ⟨S1x1x1024, .f32⟩
  | .hbm, ⟨4, _⟩ => ⟨S1x4x1024x1280, .bf16⟩
  | .hbm, ⟨5, _⟩ => ⟨S_, .f32⟩
  | .hbm, ⟨6, _⟩ => ⟨S8x128, .f32⟩
  | .hbm, ⟨7, _⟩ => ⟨S2048x5120, .f32⟩
  | .hbm, ⟨8, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024x1280, .bf16⟩
  | .local _ .vmem, ⟨4, _⟩ => ⟨S1x1x1024x1280, .bf16⟩
  | .local _ .vmem, ⟨5, _⟩ => ⟨S8x128, .f32⟩
  | .local _ .vmem, ⟨6, _⟩ => ⟨S1024x1280, .f32⟩
  | .local _ .vmem, ⟨7, _⟩ => ⟨S1024x1280, .f32⟩
  | .local _ .vmem, ⟨8, _⟩ => ⟨S1024x1024, .bf16⟩
  | .local _ .vmem, ⟨9, _⟩ => ⟨S1024x1024, .bf16⟩
  | .local _ .vmem, ⟨10, _⟩ => ⟨S2x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v27 : Index := Scalar.indexCast arg1
  let c0_18 : Index := 0#32
  let c0_19 : Index := 0#32
  ![v27.toNat, 0, 0]
def k0_off2 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InReferenceIdeal.lean ====
abbrev S2048x1024 : Shape := ⟨2, ![2048, 1024]⟩
abbrev S1024 : Shape := ⟨1, ![1024]⟩
abbrev S4x1024x1280 : Shape := ⟨3, ![4, 1024, 1280]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4x1280 : Shape := ⟨3, ![2048, 4, 1280]⟩
abbrev S2048x5120 : Shape := ⟨2, ![2048, 5120]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S4x1024x1280, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x4x1280, .f32⟩
  | .hbm, ⟨21, _⟩ => ⟨S2048x5120, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== EvenFwdKernel.lean ====
abbrev S2048x5120 : Shape := ⟨2, ![2048, 5120]⟩
abbrev S31x1024 : Shape := ⟨2, ![31, 1024]⟩
abbrev S1024 : Shape := ⟨1, ![1024]⟩
abbrev S4x256x256 : Shape := ⟨3, ![4, 256, 256]⟩
abbrev S2048x1024 : Shape := ⟨2, ![2048, 1024]⟩
abbrev S1x2048x1024 : Shape := ⟨3, ![1, 2048, 1024]⟩
abbrev S1x31x1024 : Shape := ⟨3, ![1, 31, 1024]⟩
abbrev S_ : Shape := ⟨0, ![]⟩
abbrev S1x32x1024 : Shape := ⟨3, ![1, 32, 1024]⟩
abbrev S1x1x1024 : Shape := ⟨3, ![1, 1, 1024]⟩
abbrev S2048x2048 : Shape := ⟨2, ![2048, 2048]⟩
abbrev S256x5120 : Shape := ⟨2, ![256, 5120]⟩
abbrev S32x5120 : Shape := ⟨2, ![32, 5120]⟩
abbrev S256x1024 : Shape := ⟨2, ![256, 1024]⟩
abbrev S256x2048 : Shape := ⟨2, ![256, 2048]⟩
abbrev S296x1024 : Shape := ⟨2, ![296, 1024]⟩
abbrev S8x288x1024 : Shape := ⟨3, ![8, 288, 1024]⟩
abbrev S32x8x1024 : Shape := ⟨3, ![32, 8, 1024]⟩
abbrev S1x1024 : Shape := ⟨2, ![1, 1024]⟩
abbrev S8x1024 : Shape := ⟨2, ![8, 1024]⟩
abbrev S1x8x1024 : Shape := ⟨3, ![1, 8, 1024]⟩
abbrev S32x1024 : Shape := ⟨2, ![32, 1024]⟩
abbrev S288x1024 : Shape := ⟨2, ![288, 1024]⟩
abbrev S1x288x1024 : Shape := ⟨3, ![1, 288, 1024]⟩
abbrev S256 : Shape := ⟨1, ![256]⟩
abbrev S256x1 : Shape := ⟨2, ![256, 1]⟩
abbrev S288x256 : Shape := ⟨2, ![288, 256]⟩
abbrev S256x256 : Shape := ⟨2, ![256, 256]⟩
abbrev S1x256x256 : Shape := ⟨3, ![1, 256, 256]⟩
abbrev S1x1x256 : Shape := ⟨3, ![1, 1, 256]⟩
abbrev S1x256 : Shape := ⟨2, ![1, 256]⟩

abbrev nBuf : Space → Nat
  | .hbm => 23
  | .vmem => 23
  | .smem => 0
  | _ => 0

abbrev bufTy : (tb : Table) → Fin (tcTables nBuf tb) → BufTy
  | .hbm, ⟨0, _⟩ => ⟨S2048x5120, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4x256x256, .bf16⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S2048x1024, .bf16⟩
  | .hbm, ⟨10, _⟩ => ⟨S1x2048x1024, .bf16⟩
  | .hbm, ⟨11, _⟩ => ⟨S1x31x1024, .f32⟩
  | .hbm, ⟨12, _⟩ => ⟨S_, .i32⟩
  | .hbm, ⟨13, _⟩ => ⟨S_, .f32⟩
  | .hbm, ⟨14, _⟩ => ⟨S1x32x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S2048x2048, .bf16⟩
  | .hbm, ⟨21, _⟩ => ⟨S2048x1024, .f32⟩
  | .hbm, ⟨22, _⟩ => ⟨S2048x1024, .f32⟩
  | .local _ .vmem, ⟨0, _⟩ => ⟨S256x5120, .f32⟩
  | .local _ .vmem, ⟨1, _⟩ => ⟨S256x5120, .f32⟩
  | .local _ .vmem, ⟨2, _⟩ => ⟨S32x5120, .f32⟩
  | .local _ .vmem, ⟨3, _⟩ => ⟨S32x5120, .f32⟩
  | .local _ .vmem, ⟨4, _⟩ => ⟨S1x32x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S4x256x256, .bf16⟩
  | .local _ .vmem, ⟨9, _⟩ => ⟨S1x1x1024, .f32⟩
  | .local _ .vmem, ⟨10, _⟩ => ⟨S1x1x1024, .f32⟩
  | .local _ .vmem, ⟨11, _⟩ => ⟨S256x1024, .f32⟩
  | .local _ .vmem, ⟨12, _⟩ => ⟨S256x1024, .f32⟩
  | .local _ .vmem, ⟨13, _⟩ => ⟨S1x2048x1024, .bf16⟩
  | .local _ .vmem, ⟨14, _⟩ => ⟨S256x2048, .bf16⟩
  | .local _ .vmem, ⟨15, _⟩ => ⟨S256x2048, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S296x1024, .f32⟩
  | .local _ .vmem, ⟨21, _⟩ => ⟨S8x288x1024, .f32⟩
  | .local _ .vmem, ⟨22, _⟩ => ⟨S32x8x1024, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_51 : BitVec 32 := 0#32
  let c8_i32 : BitVec 32 := 8#32
  let v70 : BitVec 32 := Scalar.addi c0_i32_51 c8_i32
  let c1_i32 : BitVec 32 := 1#32
  ⟨c0_i32_51, v70, c1_i32⟩
def k0_mult1 (k0_t1 : Fin k0_t1_loop.trips) : BitVec 32 :=
  let c0_i32_51 : BitVec 32 := 0#32
  let c1_i32 : BitVec 32 := 1#32
  let arg18 : BitVec 32 := Scf.iv c0_i32_51 c1_i32 k0_t1
  let c32_i32 : BitVec 32 := 32#32
  let v292 : BitVec 32 := Scalar.muli arg18 c32_i32
  v292
def k0_off1 (k0_t1 : Fin k0_t1_loop.trips) (c0_i32_166 : BitVec 32) (c0_i32_167 : BitVec 32) : Fin 3 → Nat :=
  let c2_168 : Index := 2#32
  let c0_i32_51 : BitVec 32 := 0#32
  let c1_i32 : BitVec 32 := 1#32
  let arg18 : BitVec 32 := Scf.iv c0_i32_51 c1_i32 k0_t1
  let c32_i32 : BitVec 32 := 32#32
  let v292 : BitVec 32 := Scalar.muli arg18 c32_i32
  let v293 : BitVec 32 := v292
  let v296 : BitVec 32 := Scalar.addi v293 c0_i32_166
  let v297 : BitVec 32 := Scalar.addi v296 c0_i32_167
  let v298 : Index := Scalar.indexCast v297
  let c0_169 : Index := 0#32
  ![2, v298.toNat, 0]
def k0_off2 (k0_t1 : Fin k0_t1_loop.trips) (c0_i32_183 : BitVec 32) (c0_i32_184 : BitVec 32) : Fin 3 → Nat :=
  let c3_185 : Index := 3#32
  let c0_i32_51 : BitVec 32 := 0#32
  let c1_i32 : BitVec 32 := 1#32
  let arg18 : BitVec 32 := Scf.iv c0_i32_51 c1_i32 k0_t1
  let c32_i32 : BitVec 32 := 32#32
  let v292 : BitVec 32 := Scalar.muli arg18 c32_i32
  let v293 : BitVec 32 := v292
  let v322 : BitVec 32 := Scalar.addi v293 c0_i32_183
  let v323 : BitVec 32 := Scalar.addi v322 c0_i32_184
  let v324 : Index := Scalar.indexCast v323
  let c0_186 : Index := 0#32
  ![3, v324.toNat, 0]
def k0_off3 (k0_t1 : Fin k0_t1_loop.trips) (c0_i32_202 : BitVec 32) (c0_i32_203 : BitVec 32) : Fin 3 → Nat :=
  let c4_204 : Index := 4#32
  let c0_i32_51 : BitVec 32 := 0#32
  let c1_i32 : BitVec 32 := 1#32
  let arg18 : BitVec 32 := Scf.iv c0_i32_51 c1_i32 k0_t1
  let c32_i32 : BitVec 32 := 32#32
  let v292 : BitVec 32 := Scalar.muli arg18 c32_i32
  let v293 : BitVec 32 := v292
  let v352 : BitVec 32 := Scalar.addi v293 c0_i32_202
  let v353 : BitVec 32 := Scalar.addi v352 c0_i32_203
  let v354 : Index := Scalar.indexCast v353
  let c0_205 : Index := 0#32
  ![4, v354.toNat, 0]
def k0_off4 (k0_t1 : Fin k0_t1_loop.trips) (c0_i32_221 : BitVec 32) (c0_i32_222 : BitVec 32) : Fin 3 → Nat :=
  let c5_223 : Index := 5#32
  let c0_i32_51 : BitVec 32 := 0#32
  let c1_i32 : BitVec 32 := 1#32
  let arg18 : BitVec 32 := Scf.iv c0_i32_51 c1_i32 k0_t1
  let c32_i32 : BitVec 32 := 32#32
  let v292 : BitVec 32 := Scalar.muli arg18 c32_i32
  let v293 : BitVec 32 := v292
  let v382 : BitVec 32 := Scalar.addi v293 c0_i32_221
  let v383 : BitVec 32 := Scalar.addi v382 c0_i32_222
  let v384 : Index := Scalar.indexCast v383
  let c0_224 : Index := 0#32
  ![5, v384.toNat, 0]
def k0_off5 (k0_t1 : Fin k0_t1_loop.trips) (c0_i32_240 : BitVec 32) (c0_i32_241 : BitVec 32) : Fin 3 → Nat :=
  let c6_242 : Index := 6#32
  let c0_i32_51 : BitVec 32 := 0#32
  let c1_i32 : BitVec 32 := 1#32
  let arg18 : BitVec 32 := Scf.iv c0_i32_51 c1_i32 k0_t1
  let c32_i32 : BitVec 32 := 32#32
  let v292 : BitVec 32 := Scalar.muli arg18 c32_i32
  let v293 : BitVec 32 := v292
  let v412 : BitVec 32 := Scalar.addi v293 c0_i32_240
  let v413 : BitVec 32 := Scalar.addi v412 c0_i32_241
  let v414 : Index := Scalar.indexCast v413
  let c0_243 : Index := 0#32
  ![6, v414.toNat, 0]
def k0_off6 (k0_t1 : Fin k0_t1_loop.trips) (c0_i32_259 : BitVec 32) (c0_i32_260 : BitVec 32) : Fin 3 → Nat :=
  let c7_261 : Index := 7#32
  let c0_i32_51 : BitVec 32 := 0#32
  let c1_i32 : BitVec 32 := 1#32
  let arg18 : BitVec 32 := Scf.iv c0_i32_51 c1_i32 k0_t1
  let c32_i32 : BitVec 32 := 32#32
  let v292 : BitVec 32 := Scalar.muli arg18 c32_i32
  let v293 : BitVec 32 := v292
  let v442 : BitVec 32 := Scalar.addi v293 c0_i32_259
  let v443 : BitVec 32 := Scalar.addi v442 c0_i32_260
  let v444 : Index := Scalar.indexCast v443
  let c0_262 : Index := 0#32
  ![7, v444.toNat, 0]
def k0_off7 (k0_t1 : Fin k0_t1_loop.trips) (c8_i32_278 : BitVec 32) (c0_i32_279 : BitVec 32) : Fin 3 → Nat :=
  let c0_280 : Index := 0#32
  let c0_i32_51 : BitVec 32 := 0#32
  let c1_i32 : BitVec 32 := 1#32
  let arg18 : BitVec 32 := Scf.iv c0_i32_51 c1_i32 k0_t1
  let c32_i32 : BitVec 32 := 32#32
  let v292 : BitVec 32 := Scalar.muli arg18 c32_i32
  let v293 : BitVec 32 := v292
  let v472 : BitVec 32 := Scalar.addi v293 c8_i32_278
  let v473 : BitVec 32 := Scalar.addi v472 c0_i32_279
  let v474 : Index := Scalar.indexCast v473
  let c0_281 : Index := 0#32
  ![0, v474.toNat, 0]
def k0_off8 (k0_t1 : Fin k0_t1_loop.trips) (c8_i32_297 : BitVec 32) (c0_i32_298 : BitVec 32) : Fin 3 → Nat :=
  let c1_299 : Index := 1#32
  let c0_i32_51 : BitVec 32 := 0#32
  let c1_i32 : BitVec 32 := 1#32
  let arg18 : BitVec 32 := Scf.iv c0_i32_51 c1_i32 k0_t1
  let c32_i32 : BitVec 32 := 32#32
  let v292 : BitVec 32 := Scalar.muli arg18 c32_i32
  let v293 : BitVec 32 := v292
  let v502 : BitVec 32 := Scalar.addi v293 c8_i32_297
  let v503 : BitVec 32 := Scalar.addi v502 c0_i32_298
  let v504 : Index := Scalar.indexCast v503
  let c0_300 : Index := 0#32
  ![1, v504.toNat, 0]
def k0_off9 (k0_t1 : Fin k0_t1_loop.trips) : Fin 2 → Nat :=
  let c0_i32_51 : BitVec 32 := 0#32
  let c1_i32 : BitVec 32 := 1#32
  let arg18 : BitVec 32 := Scf.iv c0_i32_51 c1_i32 k0_t1
  let c32_i32 : BitVec 32 := 32#32
  let v292 : BitVec 32 := Scalar.muli arg18 c32_i32
  let v293 : BitVec 32 := v292
  let v1225 : Index := Scalar.indexCast v293
  let c0_730 : Index := 0#32
  ![v1225.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== EvenFwdReferenceIdeal.lean ====
abbrev S2048x5120 : Shape := ⟨2, ![2048, 5120]⟩
abbrev S31x1024 : Shape := ⟨2, ![31, 1024]⟩
abbrev S1024 : Shape := ⟨1, ![1024]⟩
abbrev S4x256x256 : Shape := ⟨3, ![4, 256, 256]⟩
abbrev S2048x1024 : Shape := ⟨2, ![2048, 1024]⟩
abbrev S_ : Shape := ⟨0, ![]⟩
abbrev S30x1024 : Shape := ⟨2, ![30, 1024]⟩
abbrev S2078x1024 : Shape := ⟨2, ![2078, 1024]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2048x31x1024 : Shape := ⟨3, ![2048, 31, 1024]⟩
abbrev S1x31x1024 : Shape := ⟨3, ![1, 31, 1024]⟩
abbrev S1x1024 : Shape := ⟨2, ![1, 1024]⟩
abbrev S2049x1024 : Shape := ⟨2, ![2049, 1024]⟩
abbrev S2049x256 : Shape := ⟨2, ![2049, 256]⟩
abbrev S2048x256 : Shape := ⟨2, ![2048, 256]⟩
abbrev S1x256 : Shape := ⟨2, ![1, 256]⟩
abbrev S2047x256 : Shape := ⟨2, ![2047, 256]⟩
abbrev S3x256 : Shape := ⟨2, ![3, 256]⟩
abbrev S2045x256 : Shape := ⟨2, ![2045, 256]⟩
abbrev S7x256 : Shape := ⟨2, ![7, 256]⟩
abbrev S2041x256 : Shape := ⟨2, ![2041, 256]⟩
abbrev S15x256 : Shape := ⟨2, ![15, 256]⟩
abbrev S2033x256 : Shape := ⟨2, ![2033, 256]⟩
abbrev S2048x4x256 : Shape := ⟨3, ![2048, 4, 256]⟩
abbrev S4x256x2048 : Shape := ⟨3, ![4, 256, 2048]⟩
abbrev S4x256 : Shape := ⟨2, ![4, 256]⟩
abbrev S1x4x256 : Shape := ⟨3, ![1, 4, 256]⟩
abbrev S2048x2048 : Shape := ⟨2, ![2048, 2048]⟩

abbrev nBuf : Space → Nat
  | .hbm => 190
  | .vmem => 0
  | .smem => 0
  | _ => 0

abbrev hbmTy0_0 (i : Nat) : BufTy := match i % 128 with
  | 0 => ⟨S2048x5120, .f32⟩
  | 1 => ⟨S31x1024, .f32⟩
  | 2 => ⟨S1024, .f32⟩
  | 3 => ⟨S1024, .f32⟩
  | 4 => ⟨S1024, .f32⟩
  | 5 => ⟨S4x256x256, .bf16⟩
  | 6 => ⟨S1024, .f32⟩
  | 7 => ⟨S1024, .f32⟩
  | 8 => ⟨S2048x1024, .f32⟩
  | 9 => ⟨S2048x1024, .bf16⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S_, .f32⟩
  | 21 => ⟨S2048x1024, .f32⟩
  | 22 => ⟨S2048x1024, .f32⟩
  | 23 => ⟨S2048x1024, .f32⟩
  | 24 => ⟨S_, .f32⟩
  | 25 => ⟨S30x1024, .f32⟩
  | 26 => ⟨S2078x1024, .f32⟩
  | 27 => ⟨S2048, .i32⟩
  | 28 => ⟨S2048x1, .i32⟩
  | 29 => ⟨S31, .i32⟩
  | 30 => ⟨S1x31, .i32⟩
  | 31 => ⟨S2048x31, .i32⟩
  | 32 => ⟨S2048x31, .i32⟩
  | 33 => ⟨S2048x31, .i32⟩
  | 34 => ⟨S_, .i32⟩
  | 35 => ⟨S2048x31, .i32⟩
  | 36 => ⟨S2048x31, .i1⟩
  | 37 => ⟨S_, .i32⟩
  | 38 => ⟨S2048x31, .i32⟩
  | 39 => ⟨S2048x31, .i32⟩
  | 40 => ⟨S2048x31, .i32⟩
  | 41 => ⟨S2048x31x1, .i32⟩
  | 42 => ⟨S2048x31x1024, .f32⟩
  | 43 => ⟨S1x31x1024, .f32⟩
  | 44 => ⟨S2048x31x1024, .f32⟩
  | 45 => ⟨S2048x31x1024, .f32⟩
  | 46 => ⟨S_, .f32⟩
  | 47 => ⟨S2048x1024, .f32⟩
  | 48 => ⟨S1x1024, .f32⟩
  | 49 => ⟨S2048x1024, .f32⟩
  | 50 => ⟨S2048x1024, .f32⟩
  | 51 => ⟨S_, .f32⟩
  | 52 => ⟨S2048, .f32⟩
  | 53 => ⟨S2048x1, .f32⟩
  | 54 => ⟨S_, .f32⟩
  | 55 => ⟨S2048x1, .f32⟩
  | 56 => ⟨S2048x1, .f32⟩
  | 57 => ⟨S2048x1024, .f32⟩
  | 58 => ⟨S2048x1024, .f32⟩
  | 59 => ⟨S2048x1024, .f32⟩
  | 60 => ⟨S_, .f32⟩
  | 61 => ⟨S2048, .f32⟩
  | 62 => ⟨S2048x1, .f32⟩
  | 63 => ⟨S_, .f32⟩
  | 64 => ⟨S2048x1, .f32⟩
  | 65 => ⟨S2048x1, .f32⟩
  | 66 => ⟨S2048x1024, .f32⟩
  | 67 => ⟨S2048x1024, .f32⟩
  | 68 => ⟨S_, .f32⟩
  | 69 => ⟨S2048x1, .f32⟩
  | 70 => ⟨S2048x1, .f32⟩
  | 71 => ⟨S2048x1, .f32⟩
  | 72 => ⟨S2048x1024, .f32⟩
  | 73 => ⟨S2048x1024, .f32⟩
  | 74 => ⟨S1x1024, .f32⟩
  | 75 => ⟨S2048x1024, .f32⟩
  | 76 => ⟨S2048x1024, .f32⟩
  | 77 => ⟨S1x1024, .f32⟩
  | 78 => ⟨S2048x1024, .f32⟩
  | 79 => ⟨S2048x1024, .f32⟩
  | 80 => ⟨S2048x1024, .f32⟩
  | 81 => ⟨S2048x1024, .f32⟩
  | 82 => ⟨S_, .f32⟩
  | 83 => ⟨S2048x1024, .f32⟩
  | 84 => ⟨S2048x1024, .f32⟩
  | 85 => ⟨S_, .f32⟩
  | 86 => ⟨S2048x1024, .f32⟩
  | 87 => ⟨S2048x1024, .f32⟩
  | 88 => ⟨S2048x1024, .f32⟩
  | 89 => ⟨S2048x1024, .f32⟩
  | 90 => ⟨S2048x1024, .f32⟩
  | 91 => ⟨S_, .f32⟩
  | 92 => ⟨S2048x1024, .f32⟩
  | 93 => ⟨S2048x1024, .f32⟩
  | 94 => ⟨S_, .f32⟩
  | 95 => ⟨S2048x1024, .f32⟩
  | 96 => ⟨S2048x1024, .f32⟩
  | 97 => ⟨S2048x1024, .f32⟩
  | 98 => ⟨S2048x1024, .f32⟩
  | 99 => ⟨S_, .f32⟩
  | 100 => ⟨S1x1024, .f32⟩
  | 101 => ⟨S_, .f32⟩
  | 102 => ⟨S_, .f32⟩
  | 103 => ⟨S2048x1024, .f32⟩
  | 104 => ⟨S2049x1024, .f32⟩
  | 105 => ⟨S2048, .i32⟩
  | 106 => ⟨S_, .i32⟩
  | 107 => ⟨S2048, .i32⟩
  | 108 => ⟨S2048, .i32⟩
  | 109 => ⟨S2048, .f32⟩
  | 110 => ⟨S2049x256, .f32⟩
  | 111 => ⟨S2048x256, .f32⟩
  | 112 => ⟨S_, .f32⟩
  | 113 => ⟨S1x256, .f32⟩
  | 114 => ⟨S2047x256, .f32⟩
  | 115 => ⟨S2048x256, .f32⟩
  | 116 => ⟨S_, .f32⟩
  | 117 => ⟨S2048, .f32⟩
  | 118 => ⟨S2048, .f32⟩
  | 119 => ⟨S2048x1, .f32⟩
  | 120 => ⟨S2048x256, .f32⟩
  | 121 => ⟨S2048x256, .f32⟩
  | 122 => ⟨S2048x256, .f32⟩
  | 123 => ⟨S2049x256, .f32⟩
  | 124 => ⟨S2048x256, .f32⟩
  | 125 => ⟨S_, .f32⟩
  | 126 => ⟨S3x256, .f32⟩
  | 127 => ⟨S2045x256, .f32⟩
  | _ => ⟨S2048x5120, .f32⟩

abbrev hbmTy0_1 (i : Nat) : BufTy := match i % 128 with
  | 0 => ⟨S2048x256, .f32⟩
  | 1 => ⟨S_, .f32⟩
  | 2 => ⟨S2048, .f32⟩
  | 3 => ⟨S2048, .f32⟩
  | 4 => ⟨S2048x1, .f32⟩
  | 5 => ⟨S2048x256, .f32⟩
  | 6 => ⟨S2048x256, .f32⟩
  | 7 => ⟨S2048x256, .f32⟩
  | 8 => ⟨S2049x256, .f32⟩
  | 9 => ⟨S2048x256, .f32⟩
  | 10 => ⟨S_, .f32⟩
  | 11 => ⟨S7x256, .f32⟩
  | 12 => ⟨S2041x256, .f32⟩
  | 13 => ⟨S2048x256, .f32⟩
  | 14 => ⟨S_, .f32⟩
  | 15 => ⟨S2048, .f32⟩
  | 16 => ⟨S2048, .f32⟩
  | 17 => ⟨S2048x1, .f32⟩
  | 18 => ⟨S2048x256, .f32⟩
  | 19 => ⟨S2048x256, .f32⟩
  | 20 => ⟨S2048x256, .f32⟩
  | 21 => ⟨S2049x256, .f32⟩
  | 22 => ⟨S2048x256, .f32⟩
  | 23 => ⟨S_, .f32⟩
  | 24 => ⟨S15x256, .f32⟩
  | 25 => ⟨S2033x256, .f32⟩
  | 26 => ⟨S2048x256, .f32⟩
  | 27 => ⟨S_, .f32⟩
  | 28 => ⟨S2048, .f32⟩
  | 29 => ⟨S2048, .f32⟩
  | 30 => ⟨S2048x1, .f32⟩
  | 31 => ⟨S2048x256, .f32⟩
  | 32 => ⟨S2048x256, .f32⟩
  | 33 => ⟨S2048x256, .f32⟩
  | 34 => ⟨S2048x1024, .f32⟩
  | 35 => ⟨S2048x1024, .f32⟩
  | 36 => ⟨S2048x4x256, .f32⟩
  | 37 => ⟨S4x256x256, .f32⟩
  | 38 => ⟨S4x256x2048, .f32⟩
  | 39 => ⟨S2048x4x256, .f32⟩
  | 40 => ⟨S4x256, .f32⟩
  | 41 => ⟨S1x4x256, .f32⟩
  | 42 => ⟨S2048x4x256, .f32⟩
  | 43 => ⟨S2048x4x256, .f32⟩
  | 44 => ⟨S2048x1024, .f32⟩
  | 45 => ⟨S1x1024, .f32⟩
  | 46 => ⟨S2048x1024, .f32⟩
  | 47 => ⟨S2048x1024, .f32⟩
  | 48 => ⟨S2048x1024, .f32⟩
  | 49 => ⟨S2048x1024, .f32⟩
  | 50 => ⟨S_, .f32⟩
  | 51 => ⟨S2048x1024, .f32⟩
  | 52 => ⟨S2048x1024, .f32⟩
  | 53 => ⟨S_, .f32⟩
  | 54 => ⟨S2048x1024, .f32⟩
  | 55 => ⟨S2048x1024, .f32⟩
  | 56 => ⟨S2048x1024, .f32⟩
  | 57 => ⟨S2048x1024, .f32⟩
  | 58 => ⟨S2048x2048, .f32⟩
  | 59 => ⟨S2048x2048, .bf16⟩
  | 60 => ⟨S2048x1024, .f32⟩
  | 61 => ⟨S2048x1024, .f32⟩
  | _ => ⟨S2048x5120, .f32⟩

abbrev hbmTy (i : Nat) : BufTy := match i / 128 with
  | 0 => hbmTy0_0 i
  | 1 => hbmTy0_1 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v59 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v60 : Ref sig .tc := ⟨.hbm, 97, rfl⟩
abbrev main_v61 : Ref sig .tc := ⟨.hbm, 98, rfl⟩
abbrev main_cst_9 : Ref sig .tc := ⟨.hbm, 99, rfl⟩
abbrev main_v62 : Ref sig .tc := ⟨.hbm, 100, rfl⟩
abbrev main_call2_call0_cst : Ref sig .tc := ⟨.hbm, 101, rfl⟩
abbrev main_call2_call0_v0 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_10 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_11 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_12 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_13 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_14 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_15 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_16 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_17 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_18 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_call3_v0 : Ref sig .tc := ⟨.hbm, 176, rfl⟩
abbrev main_call3_v1 : Ref sig .tc := ⟨.hbm, 177, rfl⟩
abbrev main_call3_cst : Ref sig .tc := ⟨.hbm, 178, rfl⟩
abbrev main_call3_v2 : Ref sig .tc := ⟨.hbm, 179, rfl⟩
abbrev main_call3_v3 : Ref sig .tc := ⟨.hbm, 180, rfl⟩
abbrev main_call3_cst_0 : Ref sig .tc := ⟨.hbm, 181, rfl⟩
abbrev main_call3_v4 : Ref sig .tc := ⟨.hbm, 182, rfl⟩
abbrev main_call3_v5 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩

abbrev nD : Nat := 1
abbrev τ : Topo := Topo.v7x

variable {F : FTy → Type} [FloatOps F]
-- ==== OddFwdKernel.lean ====
abbrev S2048x3072 : Shape := ⟨2, ![2048, 3072]⟩
abbrev S4x1536 : Shape := ⟨2, ![4, 1536]⟩
abbrev S1536 : Shape := ⟨1, ![1536]⟩
abbrev S12x128x128 : Shape := ⟨3, ![12, 128, 128]⟩
abbrev S2048x1024 : Shape := ⟨2, ![2048, 1024]⟩
abbrev S1536x1024 : Shape := ⟨2, ![1536, 1024]⟩
abbrev S1x1536x1024 : Shape := ⟨3, ![1, 1536, 1024]⟩
abbrev S1x4x1536 : Shape := ⟨3, ![1, 4, 1536]⟩
abbrev S_ : Shape := ⟨0, ![]⟩
abbrev S1x8x1536 : Shape := ⟨3, ![1, 8, 1536]⟩
abbrev S1x1x1536 : Shape := ⟨3, ![1, 1, 1536]⟩
abbrev S1x12x128x128 : Shape := ⟨4, ![1, 12, 128, 128]⟩
abbrev S2048x1536 : Shape := ⟨2, ![2048, 1536]⟩
abbrev S256x3072 : Shape := ⟨2, ![256, 3072]⟩
abbrev S8x3072 : Shape := ⟨2, ![8, 3072]⟩
abbrev S256x1024 : Shape := ⟨2, ![256, 1024]⟩
abbrev S256x1536 : Shape := ⟨2, ![256, 1536]⟩
abbrev S8x1536 : Shape := ⟨2, ![8, 1536]⟩
abbrev S264x1536 : Shape := ⟨2, ![264, 1536]⟩
abbrev S1x1536 : Shape := ⟨2, ![1, 1536]⟩
abbrev S256x128 : Shape := ⟨2, ![256, 128]⟩
abbrev S1x1x128x128 : Shape := ⟨4, ![1, 1, 128, 128]⟩
abbrev S128x128 : Shape := ⟨2, ![128, 128]⟩
abbrev S32x8x1536 : Shape := ⟨3, ![32, 8, 1536]⟩
abbrev S1x8x1 : Shape := ⟨3, ![1, 8, 1]⟩

abbrev nBuf : Space → Nat
  | .hbm => 24
  | .vmem => 23
  | .smem => 0
  | _ => 0

abbrev bufTy : (tb : Table) → Fin (tcTables nBuf tb) → BufTy
  | .hbm, ⟨0, _⟩ => ⟨S2048x3072, .f32⟩
  | .hbm, ⟨1, _⟩ => ⟨S4x1536, .f32⟩
  | .hbm, ⟨2, _⟩ => ⟨S1536, .f32⟩
  | .hbm, ⟨3, _⟩ => ⟨S12x128x128, .bf16⟩
  | .hbm, ⟨4, _⟩ => ⟨S1536, .f32⟩
  | .hbm, ⟨5, _⟩ => ⟨S12x128x128, .bf16⟩
  | .hbm, ⟨6, _⟩ => ⟨S1536, .f32⟩
  | .hbm, ⟨7, _⟩ => ⟨S1536, .f32⟩
  | .hbm, ⟨8, _⟩ => ⟨S2048x1024, .f32⟩
  | .hbm, ⟨9, _⟩ => ⟨S1536x1024, .bf16⟩
  | .hbm, ⟨10, _⟩ => ⟨S1x1536x1024, .bf16⟩
  | .hbm, ⟨11, _⟩ => ⟨S1x4x1536, .f32⟩
  | .hbm, ⟨12, _⟩ => ⟨S_, .i32⟩
  | .hbm, ⟨13, _⟩ => ⟨S_, .f32⟩
  | .hbm, ⟨14, _⟩ => ⟨S1x8x1536, .f32⟩
  | .hbm, ⟨15, _⟩ => ⟨S1x1x1536, .f32⟩
  | .hbm, ⟨16, _⟩ => ⟨S1x12x128x128, .bf16⟩
  | .hbm, ⟨17, _⟩ => ⟨S1x1x1536, .f32⟩
  | .hbm, ⟨18, _⟩ => ⟨S1x12x128x128, .bf16⟩
  | .hbm, ⟨19, _⟩ => ⟨S1x1x1536, .f32⟩
  | .hbm, ⟨20, _⟩ => ⟨S1x1x1536, .f32⟩
  | .hbm, ⟨21, _⟩ => ⟨S2048x1536, .bf16⟩
  | .hbm, ⟨22, _⟩ => ⟨S2048x1536, .f32⟩
  | .hbm, ⟨23, _⟩ => ⟨S2048x1024, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S1x8x1536, .f32⟩
  | .local _ .vmem, ⟨5, _⟩ => ⟨S1x1x1536, .f32⟩
  | .local _ .vmem, ⟨6, _⟩ => ⟨S1x12x128x128, .bf16⟩
  | .local _ .vmem, ⟨7, _⟩ => ⟨S1x1x1536, .f32⟩
  | .local _ .vmem, ⟨8, _⟩ => ⟨S1x12x128x128, .bf16⟩
  | .local _ .vmem, ⟨9, _⟩ => ⟨S1x1x1536, .f32⟩
  | .local _ .vmem, ⟨10, _⟩ => ⟨S1x1x1536, .f32⟩
  | .local _ .vmem, ⟨11, _⟩ => ⟨S256x1024, .f32⟩
  | .local _ .vmem, ⟨12, _⟩ => ⟨S256x1024, .f32⟩
  | .local _ .vmem, ⟨13, _⟩ => ⟨S1x1536x1024, .bf16⟩
  | .local _ .vmem, ⟨14, _⟩ => ⟨S256x1536, .bf16⟩
  | .local _ .vmem, ⟨15, _⟩ => ⟨S256x1536, .bf16⟩
  | .local _ .vmem, ⟨16, _⟩ => ⟨S256x1536, .f32⟩
  | .local _ .vmem, ⟨17, _⟩ => ⟨S256x1536, .f32⟩
  | .local _ .vmem, ⟨18, _⟩ => ⟨S256x1024, .f32⟩
  | .local _ .vmem, ⟨19, _⟩ => ⟨S256x1024, .f32⟩
  | .local _ .vmem, ⟨20, _⟩ => ⟨S8x1536, .f32⟩
  | .local _ .vmem, ⟨21, _⟩ => ⟨S256x1536, .f32⟩
  | .local _ .vmem, ⟨22, _⟩ => ⟨S256x1536, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_175 : BitVec 32 := 0#32
  let c32_i32 : BitVec 32 := 32#32
  let v262 : BitVec 32 := Scalar.addi c0_i32_175 c32_i32
  let c1_i32_176 : BitVec 32 := 1#32
  ⟨c0_i32_175, v262, c1_i32_176⟩
def k0_mult1 (k0_t1 : Fin k0_t1_loop.trips) : BitVec 32 :=
  let c0_i32_175 : BitVec 32 := 0#32
  let c1_i32_176 : BitVec 32 := 1#32
  let arg18 : BitVec 32 := Scf.iv c0_i32_175 c1_i32_176 k0_t1
  let c8_i32 : BitVec 32 := 8#32
  let v291 : BitVec 32 := Scalar.muli arg18 c8_i32
  v291
def k0_off1 (k0_t1 : Fin k0_t1_loop.trips) : Fin 2 → Nat :=
  let c0_i32_175 : BitVec 32 := 0#32
  let c1_i32_176 : BitVec 32 := 1#32
  let arg18 : BitVec 32 := Scf.iv c0_i32_175 c1_i32_176 k0_t1
  let c8_i32 : BitVec 32 := 8#32
  let v291 : BitVec 32 := Scalar.muli arg18 c8_i32
  let v292 : BitVec 32 := v291
  let v293 : Index := Scalar.indexCast v292
  let c0_198 : Index := 0#32
  ![v293.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x12x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x12x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1536x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OddFwdReferenceIdeal.lean ====
abbrev S2048x3072 : Shape := ⟨2, ![2048, 3072]⟩
abbrev S4x1536 : Shape := ⟨2, ![4, 1536]⟩
abbrev S1536 : Shape := ⟨1, ![1536]⟩
abbrev S12x128x128 : Shape := ⟨3, ![12, 128, 128]⟩
abbrev S2048x1024 : Shape := ⟨2, ![2048, 1024]⟩
abbrev S1536x1024 : Shape := ⟨2, ![1536, 1024]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S2048 : Shape := ⟨1, ![2048]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S2048x4x1 : Shape := ⟨3, ![2048, 4, 1]⟩
abbrev S2048x4x1536 : Shape := ⟨3, ![2048, 4, 1536]⟩
abbrev S1x4x1536 : Shape := ⟨3, ![1, 4, 1536]⟩
abbrev S1x1536 : Shape := ⟨2, ![1, 1536]⟩
abbrev S2048x12x128 : Shape := ⟨3, ![2048, 12, 128]⟩
abbrev S12x128x2048 : Shape := ⟨3, ![12, 128, 2048]⟩

abbrev nBuf : Space → Nat
  | .hbm => 140
  | .vmem => 0
  | .smem => 0
  | _ => 0

abbrev hbmTy0_0 (i : Nat) : BufTy := match i % 128 with
  | 0 => ⟨S2048x3072, .f32⟩
  | 1 => ⟨S4x1536, .f32⟩
  | 2 => ⟨S1536, .f32⟩
  | 3 => ⟨S12x128x128, .bf16⟩
  | 4 => ⟨S1536, .f32⟩
  | 5 => ⟨S12x128x128, .bf16⟩
  | 6 => ⟨S1536, .f32⟩
  | 7 => ⟨S1536, .f32⟩
  | 8 => ⟨S2048x1024, .f32⟩
  | 9 => ⟨S1536x1024, .bf16⟩
  | 10 => ⟨S2048x1536, .f32⟩
  | 11 => ⟨S12x128x128, .f32⟩
  | 12 => ⟨S12x128x128, .f32⟩
  | 13 => ⟨S_, .f32⟩
  | 14 => ⟨S3x1536, .f32⟩
  | 15 => ⟨S2051x1536, .f32⟩
  | 16 => ⟨S2048, .i32⟩
  | 17 => ⟨S2048x1, .i32⟩
  | 18 => ⟨S4, .i32⟩
  | 19 => ⟨S1x4, .i32⟩
  | 20 => ⟨S2048x4, .i32⟩
  | 21 => ⟨S2048x4, .i32⟩
  | 22 => ⟨S2048x4, .i32⟩
  | 23 => ⟨S_, .i32⟩
  | 24 => ⟨S2048x4, .i32⟩
  | 25 => ⟨S2048x4, .i1⟩
  | 26 => ⟨S_, .i32⟩
  | 27 => ⟨S2048x4, .i32⟩
  | 28 => ⟨S2048x4, .i32⟩
  | 29 => ⟨S2048x4, .i32⟩
  | 30 => ⟨S2048x4x1, .i32⟩
  | 31 => ⟨S2048x4x1536, .f32⟩
  | 32 => ⟨S1x4x1536, .f32⟩
  | 33 => ⟨S2048x4x1536, .f32⟩
  | 34 => ⟨S2048x4x1536, .f32⟩
  | 35 => ⟨S_, .f32⟩
  | 36 => ⟨S2048x1536, .f32⟩
  | 37 => ⟨S1x1536, .f32⟩
  | 38 => ⟨S2048x1536, .f32⟩
  | 39 => ⟨S2048x1536, .f32⟩
  | 40 => ⟨S2048x12x128, .f32⟩
  | 41 => ⟨S12x128x2048, .f32⟩
  | 42 => ⟨S2048x12x128, .f32⟩
  | 43 => ⟨S2048x1536, .f32⟩
  | 44 => ⟨S1x1536, .f32⟩
  | 45 => ⟨S2048x1536, .f32⟩
  | 46 => ⟨S2048x1536, .f32⟩
  | 47 => ⟨S2048x1536, .f32⟩
  | 48 => ⟨S2048x1536, .f32⟩
  | 49 => ⟨S_, .f32⟩
  | 50 => ⟨S2048x1536, .f32⟩
  | 51 => ⟨S2048x1536, .f32⟩
  | 52 => ⟨S_, .f32⟩
  | 53 => ⟨S2048x1536, .f32⟩
  | 54 => ⟨S2048x1536, .f32⟩
  | 55 => ⟨S12x128x2048, .f32⟩
  | 56 => ⟨S2048x12x128, .f32⟩
  | 57 => ⟨S2048x1536, .f32⟩
  | 58 => ⟨S1x1536, .f32⟩
  | 59 => ⟨S2048x1536, .f32⟩
  | 60 => ⟨S2048x1536, .f32⟩
  | 61 => ⟨S2048x1536, .f32⟩
  | 62 => ⟨S2048x1536, .f32⟩
  | 63 => ⟨S_, .f32⟩
  | 64 => ⟨S2048x1536, .f32⟩
  | 65 => ⟨S2048x1536, .f32⟩
  | 66 => ⟨S_, .f32⟩
  | 67 => ⟨S2048x1536, .f32⟩
  | 68 => ⟨S2048x1536, .f32⟩
  | 69 => ⟨S_, .f32⟩
  | 70 => ⟨S2048x1536, .f32⟩
  | 71 => ⟨S2048x1536, .f32⟩
  | 72 => ⟨S1536, .f32⟩
  | 73 => ⟨S_, .f32⟩
  | 74 => ⟨S1536, .f32⟩
  | 75 => ⟨S1536, .f32⟩
  | 76 => ⟨S1536, .f32⟩
  | 77 => ⟨S1536, .f32⟩
  | 78 => ⟨S1536, .i1⟩
  | 79 => ⟨S1536, .f32⟩
  | 80 => ⟨S1536, .f32⟩
  | 81 => ⟨S1536, .f32⟩
  | 82 => ⟨S1536, .f32⟩
  | 83 => ⟨S1536, .f32⟩
  | 84 => ⟨S1536, .f32⟩
  | 85 => ⟨S1536, .f32⟩
  | 86 => ⟨S1536, .f32⟩
  | 87 => ⟨S1x1536, .f32⟩
  | 88 => ⟨S2048x1536, .f32⟩
  | 89 => ⟨S2048x1536, .f32⟩
  | 90 => ⟨S2048x1536, .f32⟩
  | 91 => ⟨S_, .f32⟩
  | 92 => ⟨S2048x1536, .f32⟩
  | 93 => ⟨S2048x1536, .f32⟩
  | 94 => ⟨S2048x1536, .f32⟩
  | 95 => ⟨S2048x1536, .f32⟩
  | 96 => ⟨S2048x1536, .f32⟩
  | 97 => ⟨S2048x1536, .f32⟩
  | 98 => ⟨S2048x1536, .f32⟩
  | 99 => ⟨S1x1536, .f32⟩
  | 100 => ⟨S1536, .f32⟩
  | 101 => ⟨S_, .f32⟩
  | 102 => ⟨S1536, .f32⟩
  | 103 => ⟨S_, .f32⟩
  | 104 => ⟨S2048x1536, .f32⟩
  | 105 => ⟨S_, .i32⟩
  | 106 => ⟨S2048x1536, .f32⟩
  | 107 => ⟨S2048x1536, .f32⟩
  | 108 => ⟨S_, .i32⟩
  | 109 => ⟨S1536, .f32⟩
  | 110 => ⟨S2048x1536, .f32⟩
  | 111 => ⟨S_, .i32⟩
  | 112 => ⟨S_, .i1⟩
  | 113 => ⟨S_, .i32⟩
  | 114 => ⟨S1x1536, .f32⟩
  | 115 => ⟨S1536, .f32⟩
  | 116 => ⟨S_, .i32⟩
  | 117 => ⟨S1x1536, .f32⟩
  | 118 => ⟨S1536, .f32⟩
  | 119 => ⟨S1536, .f32⟩
  | 120 => ⟨S1536, .f32⟩
  | 121 => ⟨S1x1536, .f32⟩
  | 122 => ⟨S_, .i32⟩
  | 123 => ⟨S2048x1536, .f32⟩
  | 124 => ⟨S_, .i32⟩
  | 125 => ⟨S_, .i32⟩
  | 126 => ⟨S2048x1536, .f32⟩
  | 127 => ⟨S2048x1536, .f32⟩
  | _ => ⟨S2048x3072, .f32⟩

abbrev hbmTy0_1 (i : Nat) : BufTy := match i % 128 with
  | 0 => ⟨S2048x1536, .f32⟩
  | 1 => ⟨S_, .f32⟩
  | 2 => ⟨S2048x1536, .f32⟩
  | 3 => ⟨S2048x1536, .f32⟩
  | 4 => ⟨S_, .f32⟩
  | 5 => ⟨S2048x1536, .f32⟩
  | 6 => ⟨S2048x1536, .f32⟩
  | 7 => ⟨S2048x1536, .f32⟩
  | 8 => ⟨S2048x1536, .f32⟩
  | 9 => ⟨S2048x1536, .bf16⟩
  | 10 => ⟨S2048x1024, .f32⟩
  | 11 => ⟨S2048x1024, .f32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_7 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_8 : Ref sig .tc := ⟨.hbm, 101, rfl⟩
abbrev main_v68 : Ref sig .tc := ⟨.hbm, 102, rfl⟩
abbrev main_cst_9 : Ref sig .tc := ⟨.hbm, 103, rfl⟩
abbrev main_v69 : Ref sig .tc := ⟨.hbm, 104, rfl⟩
abbrev main_c_10 : Ref sig .tc := ⟨.hbm, 105, rfl⟩
abbrev main_v70_0 : Ref sig .tc := ⟨.hbm, 106, rfl⟩
abbrev main_v70_1 : Ref sig .tc := ⟨.hbm, 107, rfl⟩
abbrev main_v70_2 : Ref sig .tc := ⟨.hbm, 108, rfl⟩
abbrev main_v70_3 : Ref sig .tc := ⟨.hbm, 109, rfl⟩
abbrev main_v70_4 : Ref sig .tc := ⟨.hbm, 110, rfl⟩
abbrev main_while0c_c_15 : Ref sig .tc := ⟨.hbm, 111, rfl⟩
abbrev main_while0c_v77 : Ref sig .tc := ⟨.hbm, 112, rfl⟩
abbrev main_while0b_call1_c : Ref sig .tc := ⟨.hbm, 113, rfl⟩
abbrev main_while0b_call1_v0 : Ref sig .tc := ⟨.hbm, 114, rfl⟩
abbrev main_while0b_v77 : Ref sig .tc := ⟨.hbm, 115, rfl⟩
abbrev main_while0b_call2_c : Ref sig .tc := ⟨.hbm, 116, rfl⟩
abbrev main_while0b_call2_v0 : Ref sig .tc := ⟨.hbm, 117, rfl⟩
abbrev main_while0b_v78 : Ref sig .tc := ⟨.hbm, 118, rfl⟩
abbrev main_while0b_v79 : Ref sig .tc := ⟨.hbm, 119, rfl⟩
abbrev main_while0b_v80 : Ref sig .tc := ⟨.hbm, 120, rfl⟩
abbrev main_while0b_call3_v0 : Ref sig .tc := ⟨.hbm, 121, rfl⟩
abbrev main_while0b_call3_c : Ref sig .tc := ⟨.hbm, 122, rfl⟩
abbrev main_while0b_v81 : Ref sig .tc := ⟨.hbm, 123, rfl⟩
abbrev main_while0b_c_15 : Ref sig .tc := ⟨.hbm, 124, rfl⟩
abbrev main_while0b_v82 : Ref sig .tc := ⟨.hbm, 125, rfl⟩
abbrev main_v71 : Ref sig .tc := ⟨.hbm, 126, rfl⟩
abbrev main_call4_v0 : Ref sig .tc := ⟨.hbm, 127, rfl⟩
abbrev main_call4_v1 : Ref sig .tc := ⟨.hbm, 128, rfl⟩
abbrev main_call4_cst : Ref sig .tc := ⟨.hbm, 129, rfl⟩
abbrev main_call4_v2 : Ref sig .tc := ⟨.hbm, 130, rfl⟩
abbrev main_call4_v3 : Ref sig .tc := ⟨.hbm, 131, rfl⟩
abbrev main_call4_cst_0 : Ref sig .tc := ⟨.hbm, 132, rfl⟩
abbrev main_call4_v4 : Ref sig .tc := ⟨.hbm, 133, rfl⟩
abbrev main_call4_v5 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩

abbrev nD : Nat := 1
abbrev τ : Topo := Topo.v7x

variable {F : FTy → Type} [FloatOps F]

abbrev main_while0_count : Scf.Loop 32 := ⟨0#32, 2048#32, 1#32⟩
-- ==== DwInKernel.lean ====
abbrev S2048x1024 : Shape := ⟨2, ![2048, 1024]⟩
abbrev S2048x5120 : Shape := ⟨2, ![2048, 5120]⟩
abbrev S1x4x1024x1280 : Shape := ⟨4, ![1, 4, 1024, 1280]⟩
abbrev S2048x1280 : Shape := ⟨2, ![2048, 1280]⟩
abbrev S1x1x1024x1280 : Shape := ⟨4, ![1, 1, 1024, 1280]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x5120, .bf16⟩
  | .hbm, ⟨2, _⟩ => ⟨S1x4x1024x1280, .bf16⟩
  | .local _ .vmem, ⟨0, _⟩ => ⟨S2048x1024, .bf16⟩
  | .local _ .vmem, ⟨1, _⟩ => ⟨S2048x1280, .bf16⟩
  | .local _ .vmem, ⟨2, _⟩ => ⟨S2048x1280, .bf16⟩
  | .local _ .vmem, ⟨3, _⟩ => ⟨S1x1x1024x1280, .bf16⟩
  | .local _ .vmem, ⟨4, _⟩ => ⟨S1x1x1024x1280, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInReferenceIdeal.lean ====
abbrev S2048x1024 : Shape := ⟨2, ![2048, 1024]⟩
abbrev S2048x5120 : Shape := ⟨2, ![2048, 5120]⟩
abbrev S2048x4x1280 : Shape := ⟨3, ![2048, 4, 1280]⟩
abbrev S4x1280x1024 : Shape := ⟨3, ![4, 1280, 1024]⟩
abbrev S4x1024x1280 : Shape := ⟨3, ![4, 1024, 1280]⟩
abbrev S1x4x1024x1280 : Shape := ⟨4, ![1, 4, 1024, 1280]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5120, .bf16⟩
  | .hbm, ⟨2, _⟩ => ⟨S2048x4x1280, .bf16⟩
  | .hbm, ⟨3, _⟩ => ⟨S4x1280x1024, .f32⟩
  | .hbm, ⟨4, _⟩ => ⟨S4x1024x1280, .f32⟩
  | .hbm, ⟨5, _⟩ => ⟨S4x1024x1280, .bf16⟩
  | .hbm, ⟨6, _⟩ => ⟨S1x4x1024x1280, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwOutKernel.lean ====
abbrev S2048x2048 : Shape := ⟨2, ![2048, 2048]⟩
abbrev S2048x1024 : Shape := ⟨2, ![2048, 1024]⟩
abbrev S1x2048x1024 : Shape := ⟨3, ![1, 2048, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S1x2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwOutReferenceIdeal.lean ====
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S2048x1024, .bf16⟩
  | .hbm, ⟨4, _⟩ => ⟨S1x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamInEvenKernel.lean ====
abbrev S2x1024x1280 : Shape := ⟨3, ![2, 1024, 1280]⟩
abbrev S1x256x1280 : Shape := ⟨3, ![1, 256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1280, .f32⟩
  | .hbm, ⟨1, _⟩ => ⟨S2x1024x1280, .f32⟩
  | .hbm, ⟨2, _⟩ => ⟨S2x1024x1280, .f32⟩
  | .hbm, ⟨3, _⟩ => ⟨S2x1024x1280, .f32⟩
  | .hbm, ⟨4, _⟩ => ⟨S2x1024x1280, .f32⟩
  | .hbm, ⟨5, _⟩ => ⟨S2x1024x1280, .f32⟩
  | .hbm, ⟨6, _⟩ => ⟨S2x1024x1280, .f32⟩
  | .hbm, ⟨7, _⟩ => ⟨S2x1024x1280, .f32⟩
  | .local _ .vmem, ⟨0, _⟩ => ⟨S1x256x1280, .f32⟩
  | .local _ .vmem, ⟨1, _⟩ => ⟨S1x256x1280, .f32⟩
  | .local _ .vmem, ⟨2, _⟩ => ⟨S1x256x1280, .f32⟩
  | .local _ .vmem, ⟨3, _⟩ => ⟨S1x256x1280, .f32⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .f32⟩
  | _, _ => ⟨S2x1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInEvenReferenceIdeal.lean ====
abbrev S2x1024x1280 : Shape := ⟨3, ![2, 1024, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1280, .f32⟩
  | .hbm, ⟨1, _⟩ => ⟨S2x1024x1280, .f32⟩
  | .hbm, ⟨2, _⟩ => ⟨S2x1024x1280, .f32⟩
  | .hbm, ⟨3, _⟩ => ⟨S2x1024x1280, .f32⟩
  | .hbm, ⟨4, _⟩ => ⟨S_, .f32⟩
  | .hbm, ⟨5, _⟩ => ⟨S2x1024x1280, .f32⟩
  | .hbm, ⟨6, _⟩ => ⟨S2x1024x1280, .f32⟩
  | .hbm, ⟨7, _⟩ => ⟨S_, .f32⟩
  | .hbm, ⟨8, _⟩ => ⟨S2x1024x1280, .f32⟩
  | .hbm, ⟨9, _⟩ => ⟨S2x1024x1280, .f32⟩
  | .hbm, ⟨10, _⟩ => ⟨S2x1024x1280, .f32⟩
  | .hbm, ⟨11, _⟩ => ⟨S_, .f32⟩
  | .hbm, ⟨12, _⟩ => ⟨S2x1024x1280, .f32⟩
  | .hbm, ⟨13, _⟩ => ⟨S2x1024x1280, .f32⟩
  | .hbm, ⟨14, _⟩ => ⟨S2x1024x1280, .f32⟩
  | .hbm, ⟨15, _⟩ => ⟨S_, .f32⟩
  | .hbm, ⟨16, _⟩ => ⟨S2x1024x1280, .f32⟩
  | .hbm, ⟨17, _⟩ => ⟨S2x1024x1280, .f32⟩
  | .hbm, ⟨18, _⟩ => ⟨S2x1024x1280, .f32⟩
  | .hbm, ⟨19, _⟩ => ⟨S_, .f32⟩
  | .hbm, ⟨20, _⟩ => ⟨S2x1024x1280, .f32⟩
  | .hbm, ⟨21, _⟩ => ⟨S2x1024x1280, .f32⟩
  | .hbm, ⟨22, _⟩ => ⟨S_, .f32⟩
  | .hbm, ⟨23, _⟩ => ⟨S2x1024x1280, .f32⟩
  | .hbm, ⟨24, _⟩ => ⟨S2x1024x1280, .f32⟩
  | .hbm, ⟨25, _⟩ => ⟨S2x1024x1280, .f32⟩
  | .hbm, ⟨26, _⟩ => ⟨S_, .f32⟩
  | .hbm, ⟨27, _⟩ => ⟨S2x1024x1280, .f32⟩
  | .hbm, ⟨28, _⟩ => ⟨S2x1024x1280, .f32⟩
  | .hbm, ⟨29, _⟩ => ⟨S2x1024x1280, .f32⟩
  | .hbm, ⟨30, _⟩ => ⟨S_, .f32⟩
  | .hbm, ⟨31, _⟩ => ⟨S2x1024x1280, .f32⟩
  | .hbm, ⟨32, _⟩ => ⟨S2x1024x1280, .f32⟩
  | .hbm, ⟨33, _⟩ => ⟨S2x1024x1280, .f32⟩
  | .hbm, ⟨34, _⟩ => ⟨S_, .f32⟩
  | .hbm, ⟨35, _⟩ => ⟨S2x1024x1280, .f32⟩
  | .hbm, ⟨36, _⟩ => ⟨S2x1024x1280, .f32⟩
  | _, _ => ⟨S2x1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumKernel.lean ====
abbrev S8x832x128 : Shape := ⟨3, ![8, 832, 128]⟩
abbrev S832x128 : Shape := ⟨2, ![832, 128]⟩
abbrev S1x832x128 : Shape := ⟨3, ![1, 832, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x832x128, .f32⟩
  | .hbm, ⟨1, _⟩ => ⟨S832x128, .f32⟩
  | .local _ .vmem, ⟨0, _⟩ => ⟨S8x832x128, .f32⟩
  | .local _ .vmem, ⟨1, _⟩ => ⟨S832x128, .f32⟩
  | _, _ => ⟨S8x832x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x832x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S832x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumReferenceIdeal.lean ====
abbrev S8x832x128 : Shape := ⟨3, ![8, 832, 128]⟩
abbrev S_ : Shape := ⟨0, ![]⟩
abbrev S832x128 : Shape := ⟨2, ![832, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x832x128, .f32⟩
  | .hbm, ⟨1, _⟩ => ⟨S_, .f32⟩
  | .hbm, ⟨2, _⟩ => ⟨S832x128, .f32⟩
  | _, _ => ⟨S8x832x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddKernel.lean ====
abbrev S1x4x1024x1280 : Shape := ⟨4, ![1, 4, 1024, 1280]⟩
abbrev S1x4x512x1280 : Shape := ⟨4, ![1, 4, 512, 1280]⟩
abbrev S2 : Shape := ⟨1, ![2]⟩
abbrev S1x1x512x1280 : Shape := ⟨4, ![1, 1, 512, 1280]⟩
abbrev S1 : Shape := ⟨1, ![1]⟩
abbrev S512x1280 : Shape := ⟨2, ![512, 1280]⟩

abbrev nBuf : Space → Nat
  | .hbm => 3
  | .vmem => 6
  | .smem => 1
  | _ => 0

abbrev bufTy : (tb : Table) → Fin (tcTables nBuf tb) → BufTy
  | .hbm, ⟨0, _⟩ => ⟨S1x4x1024x1280, .bf16⟩
  | .hbm, ⟨1, _⟩ => ⟨S1x4x512x1280, .bf16⟩
  | .hbm, ⟨2, _⟩ => ⟨S1x4x512x1280, .bf16⟩
  | .local _ .vmem, ⟨0, _⟩ => ⟨S1x1x512x1280, .bf16⟩
  | .local _ .vmem, ⟨1, _⟩ => ⟨S1x1x512x1280, .bf16⟩
  | .local _ .vmem, ⟨2, _⟩ => ⟨S1x1x512x1280, .bf16⟩
  | .local _ .vmem, ⟨3, _⟩ => ⟨S1x1x512x1280, .bf16⟩
  | .local _ .vmem, ⟨4, _⟩ => ⟨S1x1x512x1280, .bf16⟩
  | .local _ .vmem, ⟨5, _⟩ => ⟨S1x1x512x1280, .bf16⟩
  | .local _ .smem, ⟨0, _⟩ => ⟨S2, .i32⟩
  | _, _ => ⟨S1x4x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg2
  let c0_i32 : BitVec 32 := 0#32
  let c0_i32_0 : BitVec 32 := 0#32
  ![arg0.toNat, arg1.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== AddReferenceIdeal.lean ====
abbrev S1x4x1024x1280 : Shape := ⟨4, ![1, 4, 1024, 1280]⟩
abbrev S1x4x512x1280 : Shape := ⟨4, ![1, 4, 512, 1280]⟩
abbrev S2 : Shape := ⟨1, ![2]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1x4x1024x1280, .bf16⟩
  | .hbm, ⟨1, _⟩ => ⟨S1x4x512x1280, .bf16⟩
  | .hbm, ⟨2, _⟩ => ⟨S2, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S1x4x512x1280, .bf16⟩
  | .hbm, ⟨8, _⟩ => ⟨S1x4x512x1280, .bf16⟩
  | .hbm, ⟨9, _⟩ => ⟨S1x4x512x1280, .bf16⟩
  | .hbm, ⟨10, _⟩ => ⟨S1x4x512x1280, .f32⟩
  | .hbm, ⟨11, _⟩ => ⟨S1x4x512x1280, .f32⟩
  | .hbm, ⟨12, _⟩ => ⟨S1x4x512x1280, .f32⟩
  | .hbm, ⟨13, _⟩ => ⟨S1x4x512x1280, .bf16⟩
  | _, _ => ⟨S1x4x1024x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ChipsKernel.lean ====
abbrev S1x4x512x1280 : Shape := ⟨4, ![1, 4, 512, 1280]⟩
abbrev S2 : Shape := ⟨1, ![2]⟩
abbrev S2x1024x1280 : Shape := ⟨3, ![2, 1024, 1280]⟩
abbrev S1x1x256x1280 : Shape := ⟨4, ![1, 1, 256, 1280]⟩
abbrev S1 : Shape := ⟨1, ![1]⟩
abbrev S1x4x256x1280 : Shape := ⟨4, ![1, 4, 256, 1280]⟩
abbrev S1x256x1280 : Shape := ⟨3, ![1, 256, 1280]⟩
abbrev S256x1280 : Shape := ⟨2, ![256, 1280]⟩

abbrev nBuf : Space → Nat
  | .hbm => 4
  | .vmem => 6
  | .smem => 1
  | _ => 0

abbrev bufTy : (tb : Table) → Fin (tcTables nBuf tb) → BufTy
  | .hbm, ⟨0, _⟩ => ⟨S1x4x512x1280, .bf16⟩
  | .hbm, ⟨1, _⟩ => ⟨S1x4x512x1280, .bf16⟩
  | .hbm, ⟨2, _⟩ => ⟨S2x1024x1280, .f32⟩
  | .hbm, ⟨3, _⟩ => ⟨S2x1024x1280, .f32⟩
  | .local _ .vmem, ⟨0, _⟩ => ⟨S1x1x256x1280, .bf16⟩
  | .local _ .vmem, ⟨1, _⟩ => ⟨S1x1x256x1280, .bf16⟩
  | .local _ .vmem, ⟨2, _⟩ => ⟨S1x4x256x1280, .bf16⟩
  | .local _ .vmem, ⟨3, _⟩ => ⟨S1x4x256x1280, .bf16⟩
  | .local _ .vmem, ⟨4, _⟩ => ⟨S1x256x1280, .f32⟩
  | .local _ .vmem, ⟨5, _⟩ => ⟨S1x256x1280, .f32⟩
  | .local _ .smem, ⟨0, _⟩ => ⟨S2, .i32⟩
  | _, _ => ⟨S1x4x512x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![c0_i32.toNat, v0.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S1x1x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipsReferenceIdeal.lean ====
abbrev S1x4x512x1280 : Shape := ⟨4, ![1, 4, 512, 1280]⟩
abbrev S2 : Shape := ⟨1, ![2]⟩
abbrev S2x1024x1280 : Shape := ⟨3, ![2, 1024, 1280]⟩
abbrev S4 : Shape := ⟨1, ![4]⟩
abbrev S1 : Shape := ⟨1, ![1]⟩
abbrev S_ : Shape := ⟨0, ![]⟩
abbrev S4x1x1 : Shape := ⟨3, ![4, 1, 1]⟩
abbrev S4x512x1280 : Shape := ⟨3, ![4, 512, 1280]⟩
abbrev S512x1280 : Shape := ⟨2, ![512, 1280]⟩
abbrev S1x512x1280 : Shape := ⟨3, ![1, 512, 1280]⟩

abbrev nBuf : Space → Nat
  | .hbm => 30
  | .vmem => 0
  | .smem => 0
  | _ => 0

abbrev bufTy : (tb : Table) → Fin (tcTables nBuf tb) → BufTy
  | .hbm, ⟨0, _⟩ => ⟨S1x4x512x1280, .bf16⟩
  | .hbm, ⟨1, _⟩ => ⟨S1x4x512x1280, .bf16⟩
  | .hbm, ⟨2, _⟩ => ⟨S2, .i32⟩
  | .hbm, ⟨3, _⟩ => ⟨S2x1024x1280, .f32⟩
  | .hbm, ⟨4, _⟩ => ⟨S4, .i32⟩
  | .hbm, ⟨5, _⟩ => ⟨S1, .i32⟩
  | .hbm, ⟨6, _⟩ => ⟨S_, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S4x512x1280, .bf16⟩
  | .hbm, ⟨11, _⟩ => ⟨S4x512x1280, .bf16⟩
  | .hbm, ⟨12, _⟩ => ⟨S4x512x1280, .i1⟩
  | .hbm, ⟨13, _⟩ => ⟨S4x512x1280, .bf16⟩
  | .hbm, ⟨14, _⟩ => ⟨S4x512x1280, .f32⟩
  | .hbm, ⟨15, _⟩ => ⟨S_, .f32⟩
  | .hbm, ⟨16, _⟩ => ⟨S512x1280, .f32⟩
  | .hbm, ⟨17, _⟩ => ⟨S1x512x1280, .f32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S2x1024x1280, .f32⟩
  | _, _ => ⟨S1x4x512x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_c_3 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== EvenKernel.lean ====
abbrev S2048x5120 : Shape := ⟨2, ![2048, 5120]⟩
abbrev S31x1024 : Shape := ⟨2, ![31, 1024]⟩
abbrev S1024 : Shape := ⟨1, ![1024]⟩
abbrev S4x256x256 : Shape := ⟨3, ![4, 256, 256]⟩
abbrev S2048x1024 : Shape := ⟨2, ![2048, 1024]⟩
abbrev S_ : Shape := ⟨0, ![]⟩
abbrev S30x1024 : Shape := ⟨2, ![30, 1024]⟩
abbrev S2078x1024 : Shape := ⟨2, ![2078, 1024]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2048x31x1024 : Shape := ⟨3, ![2048, 31, 1024]⟩
abbrev S1x31x1024 : Shape := ⟨3, ![1, 31, 1024]⟩
abbrev S1x1024 : Shape := ⟨2, ![1, 1024]⟩
abbrev S1x2048x1024 : Shape := ⟨3, ![1, 2048, 1024]⟩
abbrev S8x128 : Shape := ⟨2, ![8, 128]⟩
abbrev S1x32x1024 : Shape := ⟨3, ![1, 32, 1024]⟩
abbrev S1x1x1024 : Shape := ⟨3, ![1, 1, 1024]⟩
abbrev S256x1024 : Shape := ⟨2, ![256, 1024]⟩
abbrev S8x1024 : Shape := ⟨2, ![8, 1024]⟩
abbrev S256x5120 : Shape := ⟨2, ![256, 5120]⟩
abbrev S32x5120 : Shape := ⟨2, ![32, 5120]⟩
abbrev S32x1024 : Shape := ⟨2, ![32, 1024]⟩
abbrev S296x1024 : Shape := ⟨2, ![296, 1024]⟩
abbrev S8x288x1024 : Shape := ⟨3, ![8, 288, 1024]⟩
abbrev S32x8x1024 : Shape := ⟨3, ![32, 8, 1024]⟩
abbrev S288x1024 : Shape := ⟨2, ![288, 1024]⟩
abbrev S288x2048 : Shape := ⟨2, ![288, 2048]⟩
abbrev S1x8x1024 : Shape := ⟨3, ![1, 8, 1024]⟩
abbrev S288x1 : Shape := ⟨2, ![288, 1]⟩
abbrev S288 : Shape := ⟨1, ![288]⟩
abbrev S1x288x1024 : Shape := ⟨3, ![1, 288, 1024]⟩
abbrev S288x256 : Shape := ⟨2, ![288, 256]⟩
abbrev S1x256x256 : Shape := ⟨3, ![1, 256, 256]⟩
abbrev S256x256 : Shape := ⟨2, ![256, 256]⟩
abbrev S256x1 : Shape := ⟨2, ![256, 1]⟩
abbrev S1x1x256 : Shape := ⟨3, ![1, 1, 256]⟩
abbrev S1x256 : Shape := ⟨2, ![1, 256]⟩
abbrev S256 : Shape := ⟨1, ![256]⟩
abbrev S3x1024 : Shape := ⟨2, ![3, 1024]⟩

abbrev nBuf : Space → Nat
  | .hbm => 68
  | .vmem => 31
  | .smem => 0
  | _ => 0

abbrev bufTy : (tb : Table) → Fin (tcTables nBuf tb) → BufTy
  | .hbm, ⟨0, _⟩ => ⟨S2048x5120, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4x256x256, .bf16⟩
  | .hbm, ⟨6, _⟩ => ⟨S1024, .f32⟩
  | .hbm, ⟨7, _⟩ => ⟨S1024, .f32⟩
  | .hbm, ⟨8, _⟩ => ⟨S2048x1024, .bf16⟩
  | .hbm, ⟨9, _⟩ => ⟨S2048x1024, .bf16⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S30x1024, .f32⟩
  | .hbm, ⟨23, _⟩ => ⟨S2078x1024, .f32⟩
  | .hbm, ⟨24, _⟩ => ⟨S2048, .i32⟩
  | .hbm, ⟨25, _⟩ => ⟨S2048x1, .i32⟩
  | .hbm, ⟨26, _⟩ => ⟨S31, .i32⟩
  | .hbm, ⟨27, _⟩ => ⟨S1x31, .i32⟩
  | .hbm, ⟨28, _⟩ => ⟨S2048x31, .i32⟩
  | .hbm, ⟨29, _⟩ => ⟨S2048x31, .i32⟩
  | .hbm, ⟨30, _⟩ => ⟨S2048x31, .i32⟩
  | .hbm, ⟨31, _⟩ => ⟨S_, .i32⟩
  | .hbm, ⟨32, _⟩ => ⟨S2048x31, .i32⟩
  | .hbm, ⟨33, _⟩ => ⟨S2048x31, .i1⟩
  | .hbm, ⟨34, _⟩ => ⟨S_, .i32⟩
  | .hbm, ⟨35, _⟩ => ⟨S2048x31, .i32⟩
  | .hbm, ⟨36, _⟩ => ⟨S2048x31, .i32⟩
  | .hbm, ⟨37, _⟩ => ⟨S2048x31, .i32⟩
  | .hbm, ⟨38, _⟩ => ⟨S2048x31x1, .i32⟩
  | .hbm, ⟨39, _⟩ => ⟨S2048x31x1024, .f32⟩
  | .hbm, ⟨40, _⟩ => ⟨S1x31x1024, .f32⟩
  | .hbm, ⟨41, _⟩ => ⟨S2048x31x1024, .f32⟩
  | .hbm, ⟨42, _⟩ => ⟨S2048x31x1024, .f32⟩
  | .hbm, ⟨43, _⟩ => ⟨S_, .f32⟩
  | .hbm, ⟨44, _⟩ => ⟨S2048x1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S1x2048x1024, .bf16⟩
  | .hbm, ⟨49, _⟩ => ⟨S_, .f32⟩
  | .hbm, ⟨50, _⟩ => ⟨S8x128, .f32⟩
  | .hbm, ⟨51, _⟩ => ⟨S31x1024, .f32⟩
  | .hbm, ⟨52, _⟩ => ⟨S1x31x1024, .f32⟩
  | .hbm, ⟨53, _⟩ => ⟨S_, .i32⟩
  | .hbm, ⟨54, _⟩ => ⟨S_, .f32⟩
  | .hbm, ⟨55, _⟩ => ⟨S1x32x1024, .f32⟩
  | .hbm, ⟨56, _⟩ => ⟨S1x1x1024, .f32⟩
  | .hbm, ⟨57, _⟩ => ⟨S1x1x1024, .f32⟩
  | .hbm, ⟨58, _⟩ => ⟨S1x1x1024, .f32⟩
  | .hbm, ⟨59, _⟩ => ⟨S1x1x1024, .f32⟩
  | .hbm, ⟨60, _⟩ => ⟨S2048x5120, .bf16⟩
  | .hbm, ⟨61, _⟩ => ⟨S256x1024, .f32⟩
  | .hbm, ⟨62, _⟩ => ⟨S8x1024, .f32⟩
  | .hbm, ⟨63, _⟩ => ⟨S4x256x256, .f32⟩
  | .hbm, ⟨64, _⟩ => ⟨S32x8x1024, .f32⟩
  | .hbm, ⟨65, _⟩ => ⟨S_, .f32⟩
  | .hbm, ⟨66, _⟩ => ⟨S32x1024, .f32⟩
  | .hbm, ⟨67, _⟩ => ⟨S31x1024, .f32⟩
  | .local _ .vmem, ⟨0, _⟩ => ⟨S256x5120, .f32⟩
  | .local _ .vmem, ⟨1, _⟩ => ⟨S256x5120, .f32⟩
  | .local _ .vmem, ⟨2, _⟩ => ⟨S32x5120, .f32⟩
  | .local _ .vmem, ⟨3, _⟩ => ⟨S32x5120, .f32⟩
  | .local _ .vmem, ⟨4, _⟩ => ⟨S32x5120, .f32⟩
  | .local _ .vmem, ⟨5, _⟩ => ⟨S32x5120, .f32⟩
  | .local _ .vmem, ⟨6, _⟩ => ⟨S256x1024, .f32⟩
  | .local _ .vmem, ⟨7, _⟩ => ⟨S256x1024, .f32⟩
  | .local _ .vmem, ⟨8, _⟩ => ⟨S32x1024, .f32⟩
  | .local _ .vmem, ⟨9, _⟩ => ⟨S32x1024, .f32⟩
  | .local _ .vmem, ⟨10, _⟩ => ⟨S256x1024, .bf16⟩
  | .local _ .vmem, ⟨11, _⟩ => ⟨S256x1024, .bf16⟩
  | .local _ .vmem, ⟨12, _⟩ => ⟨S32x1024, .bf16⟩
  | .local _ .vmem, ⟨13, _⟩ => ⟨S32x1024, .bf16⟩
  | .local _ .vmem, ⟨14, _⟩ => ⟨S1x2048x1024, .bf16⟩
  | .local _ .vmem, ⟨15, _⟩ => ⟨S8x128, .f32⟩
  | .local _ .vmem, ⟨16, _⟩ => ⟨S1x32x1024, .f32⟩
  | .local _ .vmem, ⟨17, _⟩ => ⟨S1x1x1024, .f32⟩
  | .local _ .vmem, ⟨18, _⟩ => ⟨S1x1x1024, .f32⟩
  | .local _ .vmem, ⟨19, _⟩ => ⟨S4x256x256, .bf16⟩
  | .local _ .vmem, ⟨20, _⟩ => ⟨S1x1x1024, .f32⟩
  | .local _ .vmem, ⟨21, _⟩ => ⟨S1x1x1024, .f32⟩
  | .local _ .vmem, ⟨22, _⟩ => ⟨S256x5120, .bf16⟩
  | .local _ .vmem, ⟨23, _⟩ => ⟨S256x5120, .bf16⟩
  | .local _ .vmem, ⟨24, _⟩ => ⟨S256x1024, .f32⟩
  | .local _ .vmem, ⟨25, _⟩ => ⟨S8x1024, .f32⟩
  | .local _ .vmem, ⟨26, _⟩ => ⟨S4x256x256, .f32⟩
  | .local _ .vmem, ⟨27, _⟩ => ⟨S296x1024, .f32⟩
  | .local _ .vmem, ⟨28, _⟩ => ⟨S8x288x1024, .f32⟩
  | .local _ .vmem, ⟨29, _⟩ => ⟨S256x1024, .f32⟩
  | .local _ .vmem, ⟨30, _⟩ => ⟨S32x8x1024, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_call0_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_v41_3 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_86 : BitVec 32 := 0#32
  let c8_i32 : BitVec 32 := 8#32
  let v160 : BitVec 32 := Scalar.addi c0_i32_86 c8_i32
  let c1_i32 : BitVec 32 := 1#32
  ⟨c0_i32_86, v160, c1_i32⟩
def k0_mult1 (k0_t1 : Fin k0_t1_loop.trips) : BitVec 32 :=
  let c0_i32_86 : BitVec 32 := 0#32
  let c1_i32 : BitVec 32 := 1#32
  let arg24 : BitVec 32 := Scf.iv c0_i32_86 c1_i32 k0_t1
  let c32_i32 : BitVec 32 := 32#32
  let v785 : BitVec 32 := Scalar.muli arg24 c32_i32
  v785
def k0_off1 (k0_t1 : Fin k0_t1_loop.trips) (c0_i32_498 : BitVec 32) (c0_i32_499 : BitVec 32) : Fin 3 → Nat :=
  let c0_500 : Index := 0#32
  let c0_i32_86 : BitVec 32 := 0#32
  let c1_i32 : BitVec 32 := 1#32
  let arg24 : BitVec 32 := Scf.iv c0_i32_86 c1_i32 k0_t1
  let c32_i32 : BitVec 32 := 32#32
  let v785 : BitVec 32 := Scalar.muli arg24 c32_i32
  let v786 : BitVec 32 := v785
  let v789 : BitVec 32 := Scalar.addi v786 c0_i32_498
  let v790 : BitVec 32 := Scalar.addi v789 c0_i32_499
  let v791 : Index := Scalar.indexCast v790
  let c0_501 : Index := 0#32
  ![0, v791.toNat, 0]
def k0_off2 (k0_t1 : Fin k0_t1_loop.trips) (c0_i32_515 : BitVec 32) (c0_i32_516 : BitVec 32) : Fin 3 → Nat :=
  let c1_517 : Index := 1#32
  let c0_i32_86 : BitVec 32 := 0#32
  let c1_i32 : BitVec 32 := 1#32
  let arg24 : BitVec 32 := Scf.iv c0_i32_86 c1_i32 k0_t1
  let c32_i32 : BitVec 32 := 32#32
  let v785 : BitVec 32 := Scalar.muli arg24 c32_i32
  let v786 : BitVec 32 := v785
  let v815 : BitVec 32 := Scalar.addi v786 c0_i32_515
  let v816 : BitVec 32 := Scalar.addi v815 c0_i32_516
  let v817 : Index := Scalar.indexCast v816
  let c0_518 : Index := 0#32
  ![1, v817.toNat, 0]
def k0_off3 (k0_t1 : Fin k0_t1_loop.trips) (c0_i32_534 : BitVec 32) (c0_i32_535 : BitVec 32) : Fin 3 → Nat :=
  let c2_536 : Index := 2#32
  let c0_i32_86 : BitVec 32 := 0#32
  let c1_i32 : BitVec 32 := 1#32
  let arg24 : BitVec 32 := Scf.iv c0_i32_86 c1_i32 k0_t1
  let c32_i32 : BitVec 32 := 32#32
  let v785 : BitVec 32 := Scalar.muli arg24 c32_i32
  let v786 : BitVec 32 := v785
  let v845 : BitVec 32 := Scalar.addi v786 c0_i32_534
  let v846 : BitVec 32 := Scalar.addi v845 c0_i32_535
  let v847 : Index := Scalar.indexCast v846
  let c0_537 : Index := 0#32
  ![2, v847.toNat, 0]
def k0_off4 (k0_t1 : Fin k0_t1_loop.trips) (c0_i32_553 : BitVec 32) (c0_i32_554 : BitVec 32) : Fin 3 → Nat :=
  let c3_555 : Index := 3#32
  let c0_i32_86 : BitVec 32 := 0#32
  let c1_i32 : BitVec 32 := 1#32
  let arg24 : BitVec 32 := Scf.iv c0_i32_86 c1_i32 k0_t1
  let c32_i32 : BitVec 32 := 32#32
  let v785 : BitVec 32 := Scalar.muli arg24 c32_i32
  let v786 : BitVec 32 := v785
  let v875 : BitVec 32 := Scalar.addi v786 c0_i32_553
  let v876 : BitVec 32 := Scalar.addi v875 c0_i32_554
  let v877 : Index := Scalar.indexCast v876
  let c0_556 : Index := 0#32
  ![3, v877.toNat, 0]
def k0_off5 (k0_t1 : Fin k0_t1_loop.trips) (c0_i32_572 : BitVec 32) (c0_i32_573 : BitVec 32) : Fin 3 → Nat :=
  let c4_574 : Index := 4#32
  let c0_i32_86 : BitVec 32 := 0#32
  let c1_i32 : BitVec 32 := 1#32
  let arg24 : BitVec 32 := Scf.iv c0_i32_86 c1_i32 k0_t1
  let c32_i32 : BitVec 32 := 32#32
  let v785 : BitVec 32 := Scalar.muli arg24 c32_i32
  let v786 : BitVec 32 := v785
  let v905 : BitVec 32 := Scalar.addi v786 c0_i32_572
  let v906 : BitVec 32 := Scalar.addi v905 c0_i32_573
  let v907 : Index := Scalar.indexCast v906
  let c0_575 : Index := 0#32
  ![4, v907.toNat, 0]
def k0_off6 (k0_t1 : Fin k0_t1_loop.trips) (c0_i32_591 : BitVec 32) (c0_i32_592 : BitVec 32) : Fin 3 → Nat :=
  let c5_593 : Index := 5#32
  let c0_i32_86 : BitVec 32 := 0#32
  let c1_i32 : BitVec 32 := 1#32
  let arg24 : BitVec 32 := Scf.iv c0_i32_86 c1_i32 k0_t1
  let c32_i32 : BitVec 32 := 32#32
  let v785 : BitVec 32 := Scalar.muli arg24 c32_i32
  let v786 : BitVec 32 := v785
  let v935 : BitVec 32 := Scalar.addi v786 c0_i32_591
  let v936 : BitVec 32 := Scalar.addi v935 c0_i32_592
  let v937 : Index := Scalar.indexCast v936
  let c0_594 : Index := 0#32
  ![5, v937.toNat, 0]
def k0_off7 (k0_t1 : Fin k0_t1_loop.trips) (c0_i32_610 : BitVec 32) (c0_i32_611 : BitVec 32) : Fin 3 → Nat :=
  let c6_612 : Index := 6#32
  let c0_i32_86 : BitVec 32 := 0#32
  let c1_i32 : BitVec 32 := 1#32
  let arg24 : BitVec 32 := Scf.iv c0_i32_86 c1_i32 k0_t1
  let c32_i32 : BitVec 32 := 32#32
  let v785 : BitVec 32 := Scalar.muli arg24 c32_i32
  let v786 : BitVec 32 := v785
  let v965 : BitVec 32 := Scalar.addi v786 c0_i32_610
  let v966 : BitVec 32 := Scalar.addi v965 c0_i32_611
  let v967 : Index := Scalar.indexCast v966
  let c0_613 : Index := 0#32
  ![6, v967.toNat, 0]
def k0_off8 (k0_t1 : Fin k0_t1_loop.trips) (c0_i32_629 : BitVec 32) (c0_i32_630 : BitVec 32) : Fin 3 → Nat :=
  let c7_631 : Index := 7#32
  let c0_i32_86 : BitVec 32 := 0#32
  let c1_i32 : BitVec 32 := 1#32
  let arg24 : BitVec 32 := Scf.iv c0_i32_86 c1_i32 k0_t1
  let c32_i32 : BitVec 32 := 32#32
  let v785 : BitVec 32 := Scalar.muli arg24 c32_i32
  let v786 : BitVec 32 := v785
  let v995 : BitVec 32 := Scalar.addi v786 c0_i32_629
  let v996 : BitVec 32 := Scalar.addi v995 c0_i32_630
  let v997 : Index := Scalar.indexCast v996
  let c0_632 : Index := 0#32
  ![7, v997.toNat, 0]
def k0_off9 (k0_t1 : Fin k0_t1_loop.trips) : Fin 2 → Nat :=
  let c0_i32_86 : BitVec 32 := 0#32
  let c1_i32 : BitVec 32 := 1#32
  let arg24 : BitVec 32 := Scf.iv c0_i32_86 c1_i32 k0_t1
  let c32_i32 : BitVec 32 := 32#32
  let v785 : BitVec 32 := Scalar.muli arg24 c32_i32
  let v786 : BitVec 32 := v785
  let v1714 : Index := Scalar.indexCast v786
  let c0_1062 : Index := 0#32
  ![v1714.toNat, 0]
@[reducible] def k0_t2_loop : Scf.Loop 32 :=
  let c0_i32_160 : BitVec 32 := 0#32
  let c4_i32 : BitVec 32 := 4#32
  let v245 : BitVec 32 := Scalar.addi c0_i32_160 c4_i32
  let c1_i32_161 : BitVec 32 := 1#32
  ⟨c0_i32_160, v245, c1_i32_161⟩
def k0_mult2 (k0_t2 : Fin k0_t2_loop.trips) : BitVec 32 :=
  let c0_i32_160 : BitVec 32 := 0#32
  let c1_i32_161 : BitVec 32 := 1#32
  let arg24 : BitVec 32 := Scf.iv c0_i32_160 c1_i32_161 k0_t2
  let c64_i32 : BitVec 32 := 64#32
  let v785 : BitVec 32 := Scalar.muli arg24 c64_i32
  v785
def k0_off10 (k0_t2 : Fin k0_t2_loop.trips) (c0_i32_495 : BitVec 32) : Fin 2 → Nat :=
  let c0_i32_160 : BitVec 32 := 0#32
  let c1_i32_161 : BitVec 32 := 1#32
  let arg24 : BitVec 32 := Scf.iv c0_i32_160 c1_i32_161 k0_t2
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off11 (k0_t2 : Fin k0_t2_loop.trips) (c0_i32_497 : BitVec 32) : Fin 3 → Nat :=
  let c2_499 : Index := 2#32
  let c0_i32_160 : BitVec 32 := 0#32
  let c1_i32_161 : BitVec 32 := 1#32
  let arg24 : BitVec 32 := Scf.iv c0_i32_160 c1_i32_161 k0_t2
  let c64_i32 : BitVec 32 := 64#32
  let v785 : BitVec 32 := Scalar.muli arg24 c64_i32
  let v786 : BitVec 32 := v785
  let v790 : BitVec 32 := Scalar.addi v786 c0_i32_497
  let c0_i32_498 : BitVec 32 := 0#32
  let v791 : BitVec 32 := Scalar.addi v790 c0_i32_498
  let v792 : Index := Scalar.indexCast v791
  let c0_500 : Index := 0#32
  ![2, v792.toNat, 0]
def k0_off12 (k0_t2 : Fin k0_t2_loop.trips) (c0_i32_501 : BitVec 32) : Fin 3 → Nat :=
  let c3_503 : Index := 3#32
  let c0_i32_160 : BitVec 32 := 0#32
  let c1_i32_161 : BitVec 32 := 1#32
  let arg24 : BitVec 32 := Scf.iv c0_i32_160 c1_i32_161 k0_t2
  let c64_i32 : BitVec 32 := 64#32
  let v785 : BitVec 32 := Scalar.muli arg24 c64_i32
  let v786 : BitVec 32 := v785
  let v797 : BitVec 32 := Scalar.addi v786 c0_i32_501
  let c0_i32_502 : BitVec 32 := 0#32
  let v798 : BitVec 32 := Scalar.addi v797 c0_i32_502
  let v799 : Index := Scalar.indexCast v798
  let c0_504 : Index := 0#32
  ![3, v799.toNat, 0]
@[reducible] def k0_t3_loop : Scf.Loop 32 :=
  let c0_i32_172 : BitVec 32 := 0#32
  let c4_i32_173 : BitVec 32 := 4#32
  let v257 : BitVec 32 := Scalar.addi c0_i32_172 c4_i32_173
  let c1_i32_174 : BitVec 32 := 1#32
  ⟨c0_i32_172, v257, c1_i32_174⟩
def k0_mult3 (k0_t3 : Fin k0_t3_loop.trips) : BitVec 32 :=
  let c0_i32_172 : BitVec 32 := 0#32
  let c1_i32_174 : BitVec 32 := 1#32
  let arg24 : BitVec 32 := Scf.iv c0_i32_172 c1_i32_174 k0_t3
  let c64_i32 : BitVec 32 := 64#32
  let v785 : BitVec 32 := Scalar.muli arg24 c64_i32
  v785
def k0_off13 (k0_t3 : Fin k0_t3_loop.trips) (c0_i32_495 : BitVec 32) : Fin 2 → Nat :=
  let c0_i32_172 : BitVec 32 := 0#32
  let c1_i32_174 : BitVec 32 := 1#32
  let arg24 : BitVec 32 := Scf.iv c0_i32_172 c1_i32_174 k0_t3
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off14 (k0_t3 : Fin k0_t3_loop.trips) (c0_i32_497 : BitVec 32) : Fin 3 → Nat :=
  let c4_499 : Index := 4#32
  let c0_i32_172 : BitVec 32 := 0#32
  let c1_i32_174 : BitVec 32 := 1#32
  let arg24 : BitVec 32 := Scf.iv c0_i32_172 c1_i32_174 k0_t3
  let c64_i32 : BitVec 32 := 64#32
  let v785 : BitVec 32 := Scalar.muli arg24 c64_i32
  let v786 : BitVec 32 := v785
  let v790 : BitVec 32 := Scalar.addi v786 c0_i32_497
  let c0_i32_498 : BitVec 32 := 0#32
  let v791 : BitVec 32 := Scalar.addi v790 c0_i32_498
  let v792 : Index := Scalar.indexCast v791
  let c0_500 : Index := 0#32
  ![4, v792.toNat, 0]
def k0_off15 (k0_t3 : Fin k0_t3_loop.trips) (c0_i32_501 : BitVec 32) : Fin 3 → Nat :=
  let c5_503 : Index := 5#32
  let c0_i32_172 : BitVec 32 := 0#32
  let c1_i32_174 : BitVec 32 := 1#32
  let arg24 : BitVec 32 := Scf.iv c0_i32_172 c1_i32_174 k0_t3
  let c64_i32 : BitVec 32 := 64#32
  let v785 : BitVec 32 := Scalar.muli arg24 c64_i32
  let v786 : BitVec 32 := v785
  let v797 : BitVec 32 := Scalar.addi v786 c0_i32_501
  let c0_i32_502 : BitVec 32 := 0#32
  let v798 : BitVec 32 := Scalar.addi v797 c0_i32_502
  let v799 : Index := Scalar.indexCast v798
  let c0_504 : Index := 0#32
  ![5, v799.toNat, 0]
@[reducible] def k0_t4_loop : Scf.Loop 32 :=
  let c0_i32_184 : BitVec 32 := 0#32
  let c4_i32_185 : BitVec 32 := 4#32
  let v269 : BitVec 32 := Scalar.addi c0_i32_184 c4_i32_185
  let c1_i32_186 : BitVec 32 := 1#32
  ⟨c0_i32_184, v269, c1_i32_186⟩
def k0_mult4 (k0_t4 : Fin k0_t4_loop.trips) : BitVec 32 :=
  let c0_i32_184 : BitVec 32 := 0#32
  let c1_i32_186 : BitVec 32 := 1#32
  let arg24 : BitVec 32 := Scf.iv c0_i32_184 c1_i32_186 k0_t4
  let c64_i32 : BitVec 32 := 64#32
  let v785 : BitVec 32 := Scalar.muli arg24 c64_i32
  v785
def k0_off16 (k0_t4 : Fin k0_t4_loop.trips) (c0_i32_495 : BitVec 32) : Fin 2 → Nat :=
  let c0_i32_184 : BitVec 32 := 0#32
  let c1_i32_186 : BitVec 32 := 1#32
  let arg24 : BitVec 32 := Scf.iv c0_i32_184 c1_i32_186 k0_t4
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off17 (k0_t4 : Fin k0_t4_loop.trips) (c0_i32_497 : BitVec 32) : Fin 3 → Nat :=
  let c6_499 : Index := 6#32
  let c0_i32_184 : BitVec 32 := 0#32
  let c1_i32_186 : BitVec 32 := 1#32
  let arg24 : BitVec 32 := Scf.iv c0_i32_184 c1_i32_186 k0_t4
  let c64_i32 : BitVec 32 := 64#32
  let v785 : BitVec 32 := Scalar.muli arg24 c64_i32
  let v786 : BitVec 32 := v785
  let v790 : BitVec 32 := Scalar.addi v786 c0_i32_497
  let c0_i32_498 : BitVec 32 := 0#32
  let v791 : BitVec 32 := Scalar.addi v790 c0_i32_498
  let v792 : Index := Scalar.indexCast v791
  let c0_500 : Index := 0#32
  ![6, v792.toNat, 0]
def k0_off18 (k0_t4 : Fin k0_t4_loop.trips) (c0_i32_501 : BitVec 32) : Fin 3 → Nat :=
  let c7_503 : Index := 7#32
  let c0_i32_184 : BitVec 32 := 0#32
  let c1_i32_186 : BitVec 32 := 1#32
  let arg24 : BitVec 32 := Scf.iv c0_i32_184 c1_i32_186 k0_t4
  let c64_i32 : BitVec 32 := 64#32
  let v785 : BitVec 32 := Scalar.muli arg24 c64_i32
  let v786 : BitVec 32 := v785
  let v797 : BitVec 32 := Scalar.addi v786 c0_i32_501
  let c0_i32_502 : BitVec 32 := 0#32
  let v798 : BitVec 32 := Scalar.addi v797 c0_i32_502
  let v799 : Index := Scalar.indexCast v798
  let c0_504 : Index := 0#32
  ![7, v799.toNat, 0]
@[reducible] def k0_t5_loop : Scf.Loop 32 :=
  let c0_i32_197 : BitVec 32 := 0#32
  let c4_i32_198 : BitVec 32 := 4#32
  let v281 : BitVec 32 := Scalar.addi c0_i32_197 c4_i32_198
  let c1_i32_199 : BitVec 32 := 1#32
  ⟨c0_i32_197, v281, c1_i32_199⟩
def k0_mult5 (k0_t5 : Fin k0_t5_loop.trips) : BitVec 32 :=
  let c0_i32_197 : BitVec 32 := 0#32
  let c1_i32_199 : BitVec 32 := 1#32
  let arg24 : BitVec 32 := Scf.iv c0_i32_197 c1_i32_199 k0_t5
  let c64_i32 : BitVec 32 := 64#32
  let v785 : BitVec 32 := Scalar.muli arg24 c64_i32
  v785
def k0_off19 (k0_t5 : Fin k0_t5_loop.trips) (c0_i32_495 : BitVec 32) : Fin 2 → Nat :=
  let c0_i32_197 : BitVec 32 := 0#32
  let c1_i32_199 : BitVec 32 := 1#32
  let arg24 : BitVec 32 := Scf.iv c0_i32_197 c1_i32_199 k0_t5
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off20 (k0_t5 : Fin k0_t5_loop.trips) (c0_i32_497 : BitVec 32) : Fin 3 → Nat :=
  let c0_499 : Index := 0#32
  let c0_i32_197 : BitVec 32 := 0#32
  let c1_i32_199 : BitVec 32 := 1#32
  let arg24 : BitVec 32 := Scf.iv c0_i32_197 c1_i32_199 k0_t5
  let c64_i32 : BitVec 32 := 64#32
  let v785 : BitVec 32 := Scalar.muli arg24 c64_i32
  let v786 : BitVec 32 := v785
  let v790 : BitVec 32 := Scalar.addi v786 c0_i32_497
  let c8_i32_498 : BitVec 32 := 8#32
  let v791 : BitVec 32 := Scalar.addi v790 c8_i32_498
  let v792 : Index := Scalar.indexCast v791
  let c0_500 : Index := 0#32
  ![0, v792.toNat, 0]
def k0_off21 (k0_t5 : Fin k0_t5_loop.trips) (c0_i32_501 : BitVec 32) : Fin 3 → Nat :=
  let c1_503 : Index := 1#32
  let c0_i32_197 : BitVec 32 := 0#32
  let c1_i32_199 : BitVec 32 := 1#32
  let arg24 : BitVec 32 := Scf.iv c0_i32_197 c1_i32_199 k0_t5
  let c64_i32 : BitVec 32 := 64#32
  let v785 : BitVec 32 := Scalar.muli arg24 c64_i32
  let v786 : BitVec 32 := v785
  let v797 : BitVec 32 := Scalar.addi v786 c0_i32_501
  let c8_i32_502 : BitVec 32 := 8#32
  let v798 : BitVec 32 := Scalar.addi v797 c8_i32_502
  let v799 : Index := Scalar.indexCast v798
  let c0_504 : Index := 0#32
  ![1, v799.toNat, 0]
@[reducible] def k0_t6_loop : Scf.Loop 32 :=
  let c0_i32_209 : BitVec 32 := 0#32
  let c4_i32_210 : BitVec 32 := 4#32
  let v293 : BitVec 32 := Scalar.addi c0_i32_209 c4_i32_210
  let c1_i32_211 : BitVec 32 := 1#32
  ⟨c0_i32_209, v293, c1_i32_211⟩
def k0_mult6 (k0_t6 : Fin k0_t6_loop.trips) : BitVec 32 :=
  let c0_i32_209 : BitVec 32 := 0#32
  let c1_i32_211 : BitVec 32 := 1#32
  let arg24 : BitVec 32 := Scf.iv c0_i32_209 c1_i32_211 k0_t6
  let c64_i32 : BitVec 32 := 64#32
  let v785 : BitVec 32 := Scalar.muli arg24 c64_i32
  v785
def k0_off22 (k0_t6 : Fin k0_t6_loop.trips) (c0_i32_495 : BitVec 32) : Fin 2 → Nat :=
  let c0_i32_209 : BitVec 32 := 0#32
  let c1_i32_211 : BitVec 32 := 1#32
  let arg24 : BitVec 32 := Scf.iv c0_i32_209 c1_i32_211 k0_t6
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off23 (k0_t6 : Fin k0_t6_loop.trips) (c0_i32_497 : BitVec 32) : Fin 3 → Nat :=
  let c2_499 : Index := 2#32
  let c0_i32_209 : BitVec 32 := 0#32
  let c1_i32_211 : BitVec 32 := 1#32
  let arg24 : BitVec 32 := Scf.iv c0_i32_209 c1_i32_211 k0_t6
  let c64_i32 : BitVec 32 := 64#32
  let v785 : BitVec 32 := Scalar.muli arg24 c64_i32
  let v786 : BitVec 32 := v785
  let v790 : BitVec 32 := Scalar.addi v786 c0_i32_497
  let c8_i32_498 : BitVec 32 := 8#32
  let v791 : BitVec 32 := Scalar.addi v790 c8_i32_498
  let v792 : Index := Scalar.indexCast v791
  let c0_500 : Index := 0#32
  ![2, v792.toNat, 0]
def k0_off24 (k0_t6 : Fin k0_t6_loop.trips) (c0_i32_501 : BitVec 32) : Fin 3 → Nat :=
  let c3_503 : Index := 3#32
  let c0_i32_209 : BitVec 32 := 0#32
  let c1_i32_211 : BitVec 32 := 1#32
  let arg24 : BitVec 32 := Scf.iv c0_i32_209 c1_i32_211 k0_t6
  let c64_i32 : BitVec 32 := 64#32
  let v785 : BitVec 32 := Scalar.muli arg24 c64_i32
  let v786 : BitVec 32 := v785
  let v797 : BitVec 32 := Scalar.addi v786 c0_i32_501
  let c8_i32_502 : BitVec 32 := 8#32
  let v798 : BitVec 32 := Scalar.addi v797 c8_i32_502
  let v799 : Index := Scalar.indexCast v798
  let c0_504 : Index := 0#32
  ![3, v799.toNat, 0]
@[reducible] def k0_t7_loop : Scf.Loop 32 :=
  let c0_i32_221 : BitVec 32 := 0#32
  let c4_i32_222 : BitVec 32 := 4#32
  let v305 : BitVec 32 := Scalar.addi c0_i32_221 c4_i32_222
  let c1_i32_223 : BitVec 32 := 1#32
  ⟨c0_i32_221, v305, c1_i32_223⟩
def k0_mult7 (k0_t7 : Fin k0_t7_loop.trips) : BitVec 32 :=
  let c0_i32_221 : BitVec 32 := 0#32
  let c1_i32_223 : BitVec 32 := 1#32
  let arg24 : BitVec 32 := Scf.iv c0_i32_221 c1_i32_223 k0_t7
  let c64_i32 : BitVec 32 := 64#32
  let v785 : BitVec 32 := Scalar.muli arg24 c64_i32
  v785
def k0_off25 (k0_t7 : Fin k0_t7_loop.trips) (c0_i32_495 : BitVec 32) : Fin 2 → Nat :=
  let c0_i32_221 : BitVec 32 := 0#32
  let c1_i32_223 : BitVec 32 := 1#32
  let arg24 : BitVec 32 := Scf.iv c0_i32_221 c1_i32_223 k0_t7
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off26 (k0_t7 : Fin k0_t7_loop.trips) (c0_i32_497 : BitVec 32) : Fin 3 → Nat :=
  let c4_499 : Index := 4#32
  let c0_i32_221 : BitVec 32 := 0#32
  let c1_i32_223 : BitVec 32 := 1#32
  let arg24 : BitVec 32 := Scf.iv c0_i32_221 c1_i32_223 k0_t7
  let c64_i32 : BitVec 32 := 64#32
  let v785 : BitVec 32 := Scalar.muli arg24 c64_i32
  let v786 : BitVec 32 := v785
  let v790 : BitVec 32 := Scalar.addi v786 c0_i32_497
  let c8_i32_498 : BitVec 32 := 8#32
  let v791 : BitVec 32 := Scalar.addi v790 c8_i32_498
  let v792 : Index := Scalar.indexCast v791
  let c0_500 : Index := 0#32
  ![4, v792.toNat, 0]
def k0_off27 (k0_t7 : Fin k0_t7_loop.trips) (c0_i32_501 : BitVec 32) : Fin 3 → Nat :=
  let c5_503 : Index := 5#32
  let c0_i32_221 : BitVec 32 := 0#32
  let c1_i32_223 : BitVec 32 := 1#32
  let arg24 : BitVec 32 := Scf.iv c0_i32_221 c1_i32_223 k0_t7
  let c64_i32 : BitVec 32 := 64#32
  let v785 : BitVec 32 := Scalar.muli arg24 c64_i32
  let v786 : BitVec 32 := v785
  let v797 : BitVec 32 := Scalar.addi v786 c0_i32_501
  let c8_i32_502 : BitVec 32 := 8#32
  let v798 : BitVec 32 := Scalar.addi v797 c8_i32_502
  let v799 : Index := Scalar.indexCast v798
  let c0_504 : Index := 0#32
  ![5, v799.toNat, 0]
@[reducible] def k0_t8_loop : Scf.Loop 32 :=
  let c0_i32_233 : BitVec 32 := 0#32
  let c4_i32_234 : BitVec 32 := 4#32
  let v317 : BitVec 32 := Scalar.addi c0_i32_233 c4_i32_234
  let c1_i32_235 : BitVec 32 := 1#32
  ⟨c0_i32_233, v317, c1_i32_235⟩
def k0_mult8 (k0_t8 : Fin k0_t8_loop.trips) : BitVec 32 :=
  let c0_i32_233 : BitVec 32 := 0#32
  let c1_i32_235 : BitVec 32 := 1#32
  let arg24 : BitVec 32 := Scf.iv c0_i32_233 c1_i32_235 k0_t8
  let c64_i32 : BitVec 32 := 64#32
  let v785 : BitVec 32 := Scalar.muli arg24 c64_i32
  v785
def k0_off28 (k0_t8 : Fin k0_t8_loop.trips) (c0_i32_495 : BitVec 32) : Fin 2 → Nat :=
  let c0_i32_233 : BitVec 32 := 0#32
  let c1_i32_235 : BitVec 32 := 1#32
  let arg24 : BitVec 32 := Scf.iv c0_i32_233 c1_i32_235 k0_t8
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off29 (k0_t8 : Fin k0_t8_loop.trips) (c0_i32_497 : BitVec 32) : Fin 3 → Nat :=
  let c6_499 : Index := 6#32
  let c0_i32_233 : BitVec 32 := 0#32
  let c1_i32_235 : BitVec 32 := 1#32
  let arg24 : BitVec 32 := Scf.iv c0_i32_233 c1_i32_235 k0_t8
  let c64_i32 : BitVec 32 := 64#32
  let v785 : BitVec 32 := Scalar.muli arg24 c64_i32
  let v786 : BitVec 32 := v785
  let v790 : BitVec 32 := Scalar.addi v786 c0_i32_497
  let c8_i32_498 : BitVec 32 := 8#32
  let v791 : BitVec 32 := Scalar.addi v790 c8_i32_498
  let v792 : Index := Scalar.indexCast v791
  let c0_500 : Index := 0#32
  ![6, v792.toNat, 0]
def k0_off30 (k0_t8 : Fin k0_t8_loop.trips) (c0_i32_501 : BitVec 32) : Fin 3 → Nat :=
  let c7_503 : Index := 7#32
  let c0_i32_233 : BitVec 32 := 0#32
  let c1_i32_235 : BitVec 32 := 1#32
  let arg24 : BitVec 32 := Scf.iv c0_i32_233 c1_i32_235 k0_t8
  let c64_i32 : BitVec 32 := 64#32
  let v785 : BitVec 32 := Scalar.muli arg24 c64_i32
  let v786 : BitVec 32 := v785
  let v797 : BitVec 32 := Scalar.addi v786 c0_i32_501
  let c8_i32_502 : BitVec 32 := 8#32
  let v798 : BitVec 32 := Scalar.addi v797 c8_i32_502
  let v799 : Index := Scalar.indexCast v798
  let c0_504 : Index := 0#32
  ![7, v799.toNat, 0]
@[reducible] def k0_t9_loop : Scf.Loop 32 :=
  let c0_i32_245 : BitVec 32 := 0#32
  let c4_i32_246 : BitVec 32 := 4#32
  let v329 : BitVec 32 := Scalar.addi c0_i32_245 c4_i32_246
  let c1_i32_247 : BitVec 32 := 1#32
  ⟨c0_i32_245, v329, c1_i32_247⟩
def k0_mult9 (k0_t9 : Fin k0_t9_loop.trips) : BitVec 32 :=
  let c0_i32_245 : BitVec 32 := 0#32
  let c1_i32_247 : BitVec 32 := 1#32
  let arg24 : BitVec 32 := Scf.iv c0_i32_245 c1_i32_247 k0_t9
  let c64_i32 : BitVec 32 := 64#32
  let v785 : BitVec 32 := Scalar.muli arg24 c64_i32
  v785
def k0_off31 (k0_t9 : Fin k0_t9_loop.trips) (c0_i32_495 : BitVec 32) : Fin 2 → Nat :=
  let c0_i32_245 : BitVec 32 := 0#32
  let c1_i32_247 : BitVec 32 := 1#32
  let arg24 : BitVec 32 := Scf.iv c0_i32_245 c1_i32_247 k0_t9
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off32 (k0_t9 : Fin k0_t9_loop.trips) (c0_i32_497 : BitVec 32) : Fin 3 → Nat :=
  let c0_498 : Index := 0#32
  let c0_i32_245 : BitVec 32 := 0#32
  let c1_i32_247 : BitVec 32 := 1#32
  let arg24 : BitVec 32 := Scf.iv c0_i32_245 c1_i32_247 k0_t9
  let c64_i32 : BitVec 32 := 64#32
  let v785 : BitVec 32 := Scalar.muli arg24 c64_i32
  let v786 : BitVec 32 := v785
  let v790 : BitVec 32 := Scalar.addi v786 c0_i32_497
  let c16_i32 : BitVec 32 := 16#32
  let v791 : BitVec 32 := Scalar.addi v790 c16_i32
  let v792 : Index := Scalar.indexCast v791
  let c0_499 : Index := 0#32
  ![0, v792.toNat, 0]
def k0_off33 (k0_t9 : Fin k0_t9_loop.trips) (c0_i32_500 : BitVec 32) : Fin 3 → Nat :=
  let c1_502 : Index := 1#32
  let c0_i32_245 : BitVec 32 := 0#32
  let c1_i32_247 : BitVec 32 := 1#32
  let arg24 : BitVec 32 := Scf.iv c0_i32_245 c1_i32_247 k0_t9
  let c64_i32 : BitVec 32 := 64#32
  let v785 : BitVec 32 := Scalar.muli arg24 c64_i32
  let v786 : BitVec 32 := v785
  let v797 : BitVec 32 := Scalar.addi v786 c0_i32_500
  let c16_i32_501 : BitVec 32 := 16#32
  let v798 : BitVec 32 := Scalar.addi v797 c16_i32_501
  let v799 : Index := Scalar.indexCast v798
  let c0_503 : Index := 0#32
  ![1, v799.toNat, 0]
@[reducible] def k0_t10_loop : Scf.Loop 32 :=
  let c0_i32_257 : BitVec 32 := 0#32
  let c4_i32_258 : BitVec 32 := 4#32
  let v341 : BitVec 32 := Scalar.addi c0_i32_257 c4_i32_258
  let c1_i32_259 : BitVec 32 := 1#32
  ⟨c0_i32_257, v341, c1_i32_259⟩
def k0_mult10 (k0_t10 : Fin k0_t10_loop.trips) : BitVec 32 :=
  let c0_i32_257 : BitVec 32 := 0#32
  let c1_i32_259 : BitVec 32 := 1#32
  let arg24 : BitVec 32 := Scf.iv c0_i32_257 c1_i32_259 k0_t10
  let c64_i32 : BitVec 32 := 64#32
  let v785 : BitVec 32 := Scalar.muli arg24 c64_i32
  v785
def k0_off34 (k0_t10 : Fin k0_t10_loop.trips) (c0_i32_495 : BitVec 32) : Fin 2 → Nat :=
  let c0_i32_257 : BitVec 32 := 0#32
  let c1_i32_259 : BitVec 32 := 1#32
  let arg24 : BitVec 32 := Scf.iv c0_i32_257 c1_i32_259 k0_t10
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off35 (k0_t10 : Fin k0_t10_loop.trips) (c0_i32_497 : BitVec 32) : Fin 3 → Nat :=
  let c2_498 : Index := 2#32
  let c0_i32_257 : BitVec 32 := 0#32
  let c1_i32_259 : BitVec 32 := 1#32
  let arg24 : BitVec 32 := Scf.iv c0_i32_257 c1_i32_259 k0_t10
  let c64_i32 : BitVec 32 := 64#32
  let v785 : BitVec 32 := Scalar.muli arg24 c64_i32
  let v786 : BitVec 32 := v785
  let v790 : BitVec 32 := Scalar.addi v786 c0_i32_497
  let c16_i32 : BitVec 32 := 16#32
  let v791 : BitVec 32 := Scalar.addi v790 c16_i32
  let v792 : Index := Scalar.indexCast v791
  let c0_499 : Index := 0#32
  ![2, v792.toNat, 0]
def k0_off36 (k0_t10 : Fin k0_t10_loop.trips) (c0_i32_500 : BitVec 32) : Fin 3 → Nat :=
  let c3_502 : Index := 3#32
  let c0_i32_257 : BitVec 32 := 0#32
  let c1_i32_259 : BitVec 32 := 1#32
  let arg24 : BitVec 32 := Scf.iv c0_i32_257 c1_i32_259 k0_t10
  let c64_i32 : BitVec 32 := 64#32
  let v785 : BitVec 32 := Scalar.muli arg24 c64_i32
  let v786 : BitVec 32 := v785
  let v797 : BitVec 32 := Scalar.addi v786 c0_i32_500
  let c16_i32_501 : BitVec 32 := 16#32
  let v798 : BitVec 32 := Scalar.addi v797 c16_i32_501
  let v799 : Index := Scalar.indexCast v798
  let c0_503 : Index := 0#32
  ![3, v799.toNat, 0]
@[reducible] def k0_t11_loop : Scf.Loop 32 :=
  let c0_i32_269 : BitVec 32 := 0#32
  let c4_i32_270 : BitVec 32 := 4#32
  let v353 : BitVec 32 := Scalar.addi c0_i32_269 c4_i32_270
  let c1_i32_271 : BitVec 32 := 1#32
  ⟨c0_i32_269, v353, c1_i32_271⟩
def k0_mult11 (k0_t11 : Fin k0_t11_loop.trips) : BitVec 32 :=
  let c0_i32_269 : BitVec 32 := 0#32
  let c1_i32_271 : BitVec 32 := 1#32
  let arg24 : BitVec 32 := Scf.iv c0_i32_269 c1_i32_271 k0_t11
  let c64_i32 : BitVec 32 := 64#32
  let v785 : BitVec 32 := Scalar.muli arg24 c64_i32
  v785
def k0_off37 (k0_t11 : Fin k0_t11_loop.trips) (c0_i32_495 : BitVec 32) : Fin 2 → Nat :=
  let c0_i32_269 : BitVec 32 := 0#32
  let c1_i32_271 : BitVec 32 := 1#32
  let arg24 : BitVec 32 := Scf.iv c0_i32_269 c1_i32_271 k0_t11
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off38 (k0_t11 : Fin k0_t11_loop.trips) (c0_i32_497 : BitVec 32) : Fin 3 → Nat :=
  let c4_498 : Index := 4#32
  let c0_i32_269 : BitVec 32 := 0#32
  let c1_i32_271 : BitVec 32 := 1#32
  let arg24 : BitVec 32 := Scf.iv c0_i32_269 c1_i32_271 k0_t11
  let c64_i32 : BitVec 32 := 64#32
  let v785 : BitVec 32 := Scalar.muli arg24 c64_i32
  let v786 : BitVec 32 := v785
  let v790 : BitVec 32 := Scalar.addi v786 c0_i32_497
  let c16_i32 : BitVec 32 := 16#32
  let v791 : BitVec 32 := Scalar.addi v790 c16_i32
  let v792 : Index := Scalar.indexCast v791
  let c0_499 : Index := 0#32
  ![4, v792.toNat, 0]
def k0_off39 (k0_t11 : Fin k0_t11_loop.trips) (c0_i32_500 : BitVec 32) : Fin 3 → Nat :=
  let c5_502 : Index := 5#32
  let c0_i32_269 : BitVec 32 := 0#32
  let c1_i32_271 : BitVec 32 := 1#32
  let arg24 : BitVec 32 := Scf.iv c0_i32_269 c1_i32_271 k0_t11
  let c64_i32 : BitVec 32 := 64#32
  let v785 : BitVec 32 := Scalar.muli arg24 c64_i32
  let v786 : BitVec 32 := v785
  let v797 : BitVec 32 := Scalar.addi v786 c0_i32_500
  let c16_i32_501 : BitVec 32 := 16#32
  let v798 : BitVec 32 := Scalar.addi v797 c16_i32_501
  let v799 : Index := Scalar.indexCast v798
  let c0_503 : Index := 0#32
  ![5, v799.toNat, 0]
@[reducible] def k0_t12_loop : Scf.Loop 32 :=
  let c0_i32_281 : BitVec 32 := 0#32
  let c4_i32_282 : BitVec 32 := 4#32
  let v365 : BitVec 32 := Scalar.addi c0_i32_281 c4_i32_282
  let c1_i32_283 : BitVec 32 := 1#32
  ⟨c0_i32_281, v365, c1_i32_283⟩
def k0_mult12 (k0_t12 : Fin k0_t12_loop.trips) : BitVec 32 :=
  let c0_i32_281 : BitVec 32 := 0#32
  let c1_i32_283 : BitVec 32 := 1#32
  let arg24 : BitVec 32 := Scf.iv c0_i32_281 c1_i32_283 k0_t12
  let c64_i32 : BitVec 32 := 64#32
  let v785 : BitVec 32 := Scalar.muli arg24 c64_i32
  v785
def k0_off40 (k0_t12 : Fin k0_t12_loop.trips) (c0_i32_495 : BitVec 32) : Fin 2 → Nat :=
  let c0_i32_281 : BitVec 32 := 0#32
  let c1_i32_283 : BitVec 32 := 1#32
  let arg24 : BitVec 32 := Scf.iv c0_i32_281 c1_i32_283 k0_t12
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off41 (k0_t12 : Fin k0_t12_loop.trips) (c0_i32_497 : BitVec 32) : Fin 3 → Nat :=
  let c6_498 : Index := 6#32
  let c0_i32_281 : BitVec 32 := 0#32
  let c1_i32_283 : BitVec 32 := 1#32
  let arg24 : BitVec 32 := Scf.iv c0_i32_281 c1_i32_283 k0_t12
  let c64_i32 : BitVec 32 := 64#32
  let v785 : BitVec 32 := Scalar.muli arg24 c64_i32
  let v786 : BitVec 32 := v785
  let v790 : BitVec 32 := Scalar.addi v786 c0_i32_497
  let c16_i32 : BitVec 32 := 16#32
  let v791 : BitVec 32 := Scalar.addi v790 c16_i32
  let v792 : Index := Scalar.indexCast v791
  let c0_499 : Index := 0#32
  ![6, v792.toNat, 0]
def k0_off42 (k0_t12 : Fin k0_t12_loop.trips) (c0_i32_500 : BitVec 32) : Fin 3 → Nat :=
  let c7_502 : Index := 7#32
  let c0_i32_281 : BitVec 32 := 0#32
  let c1_i32_283 : BitVec 32 := 1#32
  let arg24 : BitVec 32 := Scf.iv c0_i32_281 c1_i32_283 k0_t12
  let c64_i32 : BitVec 32 := 64#32
  let v785 : BitVec 32 := Scalar.muli arg24 c64_i32
  let v786 : BitVec 32 := v785
  let v797 : BitVec 32 := Scalar.addi v786 c0_i32_500
  let c16_i32_501 : BitVec 32 := 16#32
  let v798 : BitVec 32 := Scalar.addi v797 c16_i32_501
  let v799 : Index := Scalar.indexCast v798
  let c0_503 : Index := 0#32
  ![7, v799.toNat, 0]
@[reducible] def k0_t13_loop : Scf.Loop 32 :=
  let c0_i32_293 : BitVec 32 := 0#32
  let c4_i32_294 : BitVec 32 := 4#32
  let v377 : BitVec 32 := Scalar.addi c0_i32_293 c4_i32_294
  let c1_i32_295 : BitVec 32 := 1#32
  ⟨c0_i32_293, v377, c1_i32_295⟩
def k0_mult13 (k0_t13 : Fin k0_t13_loop.trips) : BitVec 32 :=
  let c0_i32_293 : BitVec 32 := 0#32
  let c1_i32_295 : BitVec 32 := 1#32
  let arg24 : BitVec 32 := Scf.iv c0_i32_293 c1_i32_295 k0_t13
  let c64_i32 : BitVec 32 := 64#32
  let v785 : BitVec 32 := Scalar.muli arg24 c64_i32
  v785
def k0_off43 (k0_t13 : Fin k0_t13_loop.trips) (c0_i32_495 : BitVec 32) : Fin 2 → Nat :=
  let c0_i32_293 : BitVec 32 := 0#32
  let c1_i32_295 : BitVec 32 := 1#32
  let arg24 : BitVec 32 := Scf.iv c0_i32_293 c1_i32_295 k0_t13
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off44 (k0_t13 : Fin k0_t13_loop.trips) (c0_i32_497 : BitVec 32) : Fin 3 → Nat :=
  let c0_498 : Index := 0#32
  let c0_i32_293 : BitVec 32 := 0#32
  let c1_i32_295 : BitVec 32 := 1#32
  let arg24 : BitVec 32 := Scf.iv c0_i32_293 c1_i32_295 k0_t13
  let c64_i32 : BitVec 32 := 64#32
  let v785 : BitVec 32 := Scalar.muli arg24 c64_i32
  let v786 : BitVec 32 := v785
  let v790 : BitVec 32 := Scalar.addi v786 c0_i32_497
  let c24_i32 : BitVec 32 := 24#32
  let v791 : BitVec 32 := Scalar.addi v790 c24_i32
  let v792 : Index := Scalar.indexCast v791
  let c0_499 : Index := 0#32
  ![0, v792.toNat, 0]
def k0_off45 (k0_t13 : Fin k0_t13_loop.trips) (c0_i32_500 : BitVec 32) : Fin 3 → Nat :=
  let c1_502 : Index := 1#32
  let c0_i32_293 : BitVec 32 := 0#32
  let c1_i32_295 : BitVec 32 := 1#32
  let arg24 : BitVec 32 := Scf.iv c0_i32_293 c1_i32_295 k0_t13
  let c64_i32 : BitVec 32 := 64#32
  let v785 : BitVec 32 := Scalar.muli arg24 c64_i32
  let v786 : BitVec 32 := v785
  let v797 : BitVec 32 := Scalar.addi v786 c0_i32_500
  let c24_i32_501 : BitVec 32 := 24#32
  let v798 : BitVec 32 := Scalar.addi v797 c24_i32_501
  let v799 : Index := Scalar.indexCast v798
  let c0_503 : Index := 0#32
  ![1, v799.toNat, 0]
@[reducible] def k0_t14_loop : Scf.Loop 32 :=
  let c0_i32_305 : BitVec 32 := 0#32
  let c4_i32_306 : BitVec 32 := 4#32
  let v389 : BitVec 32 := Scalar.addi c0_i32_305 c4_i32_306
  let c1_i32_307 : BitVec 32 := 1#32
  ⟨c0_i32_305, v389, c1_i32_307⟩
def k0_mult14 (k0_t14 : Fin k0_t14_loop.trips) : BitVec 32 :=
  let c0_i32_305 : BitVec 32 := 0#32
  let c1_i32_307 : BitVec 32 := 1#32
  let arg24 : BitVec 32 := Scf.iv c0_i32_305 c1_i32_307 k0_t14
  let c64_i32 : BitVec 32 := 64#32
  let v785 : BitVec 32 := Scalar.muli arg24 c64_i32
  v785
def k0_off46 (k0_t14 : Fin k0_t14_loop.trips) (c0_i32_495 : BitVec 32) : Fin 2 → Nat :=
  let c0_i32_305 : BitVec 32 := 0#32
  let c1_i32_307 : BitVec 32 := 1#32
  let arg24 : BitVec 32 := Scf.iv c0_i32_305 c1_i32_307 k0_t14
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off47 (k0_t14 : Fin k0_t14_loop.trips) (c0_i32_497 : BitVec 32) : Fin 3 → Nat :=
  let c2_498 : Index := 2#32
  let c0_i32_305 : BitVec 32 := 0#32
  let c1_i32_307 : BitVec 32 := 1#32
  let arg24 : BitVec 32 := Scf.iv c0_i32_305 c1_i32_307 k0_t14
  let c64_i32 : BitVec 32 := 64#32
  let v785 : BitVec 32 := Scalar.muli arg24 c64_i32
  let v786 : BitVec 32 := v785
  let v790 : BitVec 32 := Scalar.addi v786 c0_i32_497
  let c24_i32 : BitVec 32 := 24#32
  let v791 : BitVec 32 := Scalar.addi v790 c24_i32
  let v792 : Index := Scalar.indexCast v791
  let c0_499 : Index := 0#32
  ![2, v792.toNat, 0]
def k0_off48 (k0_t14 : Fin k0_t14_loop.trips) (c0_i32_500 : BitVec 32) : Fin 3 → Nat :=
  let c3_502 : Index := 3#32
  let c0_i32_305 : BitVec 32 := 0#32
  let c1_i32_307 : BitVec 32 := 1#32
  let arg24 : BitVec 32 := Scf.iv c0_i32_305 c1_i32_307 k0_t14
  let c64_i32 : BitVec 32 := 64#32
  let v785 : BitVec 32 := Scalar.muli arg24 c64_i32
  let v786 : BitVec 32 := v785
  let v797 : BitVec 32 := Scalar.addi v786 c0_i32_500
  let c24_i32_501 : BitVec 32 := 24#32
  let v798 : BitVec 32 := Scalar.addi v797 c24_i32_501
  let v799 : Index := Scalar.indexCast v798
  let c0_503 : Index := 0#32
  ![3, v799.toNat, 0]
@[reducible] def k0_t15_loop : Scf.Loop 32 :=
  let c0_i32_317 : BitVec 32 := 0#32
  let c4_i32_318 : BitVec 32 := 4#32
  let v401 : BitVec 32 := Scalar.addi c0_i32_317 c4_i32_318
  let c1_i32_319 : BitVec 32 := 1#32
  ⟨c0_i32_317, v401, c1_i32_319⟩
def k0_mult15 (k0_t15 : Fin k0_t15_loop.trips) : BitVec 32 :=
  let c0_i32_317 : BitVec 32 := 0#32
  let c1_i32_319 : BitVec 32 := 1#32
  let arg24 : BitVec 32 := Scf.iv c0_i32_317 c1_i32_319 k0_t15
  let c64_i32 : BitVec 32 := 64#32
  let v785 : BitVec 32 := Scalar.muli arg24 c64_i32
  v785
def k0_off49 (k0_t15 : Fin k0_t15_loop.trips) (c0_i32_495 : BitVec 32) : Fin 2 → Nat :=
  let c0_i32_317 : BitVec 32 := 0#32
  let c1_i32_319 : BitVec 32 := 1#32
  let arg24 : BitVec 32 := Scf.iv c0_i32_317 c1_i32_319 k0_t15
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off50 (k0_t15 : Fin k0_t15_loop.trips) (c0_i32_497 : BitVec 32) : Fin 3 → Nat :=
  let c4_498 : Index := 4#32
  let c0_i32_317 : BitVec 32 := 0#32
  let c1_i32_319 : BitVec 32 := 1#32
  let arg24 : BitVec 32 := Scf.iv c0_i32_317 c1_i32_319 k0_t15
  let c64_i32 : BitVec 32 := 64#32
  let v785 : BitVec 32 := Scalar.muli arg24 c64_i32
  let v786 : BitVec 32 := v785
  let v790 : BitVec 32 := Scalar.addi v786 c0_i32_497
  let c24_i32 : BitVec 32 := 24#32
  let v791 : BitVec 32 := Scalar.addi v790 c24_i32
  let v792 : Index := Scalar.indexCast v791
  let c0_499 : Index := 0#32
  ![4, v792.toNat, 0]
def k0_off51 (k0_t15 : Fin k0_t15_loop.trips) (c0_i32_500 : BitVec 32) : Fin 3 → Nat :=
  let c5_502 : Index := 5#32
  let c0_i32_317 : BitVec 32 := 0#32
  let c1_i32_319 : BitVec 32 := 1#32
  let arg24 : BitVec 32 := Scf.iv c0_i32_317 c1_i32_319 k0_t15
  let c64_i32 : BitVec 32 := 64#32
  let v785 : BitVec 32 := Scalar.muli arg24 c64_i32
  let v786 : BitVec 32 := v785
  let v797 : BitVec 32 := Scalar.addi v786 c0_i32_500
  let c24_i32_501 : BitVec 32 := 24#32
  let v798 : BitVec 32 := Scalar.addi v797 c24_i32_501
  let v799 : Index := Scalar.indexCast v798
  let c0_503 : Index := 0#32
  ![5, v799.toNat, 0]
@[reducible] def k0_t16_loop : Scf.Loop 32 :=
  let c0_i32_329 : BitVec 32 := 0#32
  let c4_i32_330 : BitVec 32 := 4#32
  let v413 : BitVec 32 := Scalar.addi c0_i32_329 c4_i32_330
  let c1_i32_331 : BitVec 32 := 1#32
  ⟨c0_i32_329, v413, c1_i32_331⟩
def k0_mult16 (k0_t16 : Fin k0_t16_loop.trips) : BitVec 32 :=
  let c0_i32_329 : BitVec 32 := 0#32
  let c1_i32_331 : BitVec 32 := 1#32
  let arg24 : BitVec 32 := Scf.iv c0_i32_329 c1_i32_331 k0_t16
  let c64_i32 : BitVec 32 := 64#32
  let v785 : BitVec 32 := Scalar.muli arg24 c64_i32
  v785
def k0_off52 (k0_t16 : Fin k0_t16_loop.trips) (c0_i32_495 : BitVec 32) : Fin 2 → Nat :=
  let c0_i32_329 : BitVec 32 := 0#32
  let c1_i32_331 : BitVec 32 := 1#32
  let arg24 : BitVec 32 := Scf.iv c0_i32_329 c1_i32_331 k0_t16
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off53 (k0_t16 : Fin k0_t16_loop.trips) (c0_i32_497 : BitVec 32) : Fin 3 → Nat :=
  let c6_498 : Index := 6#32
  let c0_i32_329 : BitVec 32 := 0#32
  let c1_i32_331 : BitVec 32 := 1#32
  let arg24 : BitVec 32 := Scf.iv c0_i32_329 c1_i32_331 k0_t16
  let c64_i32 : BitVec 32 := 64#32
  let v785 : BitVec 32 := Scalar.muli arg24 c64_i32
  let v786 : BitVec 32 := v785
  let v790 : BitVec 32 := Scalar.addi v786 c0_i32_497
  let c24_i32 : BitVec 32 := 24#32
  let v791 : BitVec 32 := Scalar.addi v790 c24_i32
  let v792 : Index := Scalar.indexCast v791
  let c0_499 : Index := 0#32
  ![6, v792.toNat, 0]
def k0_off54 (k0_t16 : Fin k0_t16_loop.trips) (c0_i32_500 : BitVec 32) : Fin 3 → Nat :=
  let c7_502 : Index := 7#32
  let c0_i32_329 : BitVec 32 := 0#32
  let c1_i32_331 : BitVec 32 := 1#32
  let arg24 : BitVec 32 := Scf.iv c0_i32_329 c1_i32_331 k0_t16
  let c64_i32 : BitVec 32 := 64#32
  let v785 : BitVec 32 := Scalar.muli arg24 c64_i32
  let v786 : BitVec 32 := v785
  let v797 : BitVec 32 := Scalar.addi v786 c0_i32_500
  let c24_i32_501 : BitVec 32 := 24#32
  let v798 : BitVec 32 := Scalar.addi v797 c24_i32_501
  let v799 : Index := Scalar.indexCast v798
  let c0_503 : Index := 0#32
  ![7, v799.toNat, 0]
@[reducible] def k0_t17_loop : Scf.Loop 32 :=
  let c0_i32_340 : BitVec 32 := 0#32
  let c4_i32_341 : BitVec 32 := 4#32
  let v424 : BitVec 32 := Scalar.addi c0_i32_340 c4_i32_341
  let c1_i32_342 : BitVec 32 := 1#32
  ⟨c0_i32_340, v424, c1_i32_342⟩
def k0_mult17 (k0_t17 : Fin k0_t17_loop.trips) : BitVec 32 :=
  let c0_i32_340 : BitVec 32 := 0#32
  let c1_i32_342 : BitVec 32 := 1#32
  let arg24 : BitVec 32 := Scf.iv c0_i32_340 c1_i32_342 k0_t17
  let c64_i32 : BitVec 32 := 64#32
  let v785 : BitVec 32 := Scalar.muli arg24 c64_i32
  v785
def k0_off55 (k0_t17 : Fin k0_t17_loop.trips) (c0_i32_495 : BitVec 32) : Fin 2 → Nat :=
  let c0_i32_340 : BitVec 32 := 0#32
  let c1_i32_342 : BitVec 32 := 1#32
  let arg24 : BitVec 32 := Scf.iv c0_i32_340 c1_i32_342 k0_t17
  let c64_i32 : BitVec 32 := 64#32
  let v785 : BitVec 32 := Scalar.muli arg24 c64_i32
  let v786 : BitVec 32 := v785
  let v787 : BitVec 32 := Scalar.addi v786 c0_i32_495
  let v788 : Index := Scalar.indexCast v787
  let c0_496 : Index := 0#32
  ![v788.toNat, 0]
def k0_off56 (k0_t17 : Fin k0_t17_loop.trips) (c0_i32_497 : BitVec 32) : Fin 3 → Nat :=
  let c0_498 : Index := 0#32
  let c0_i32_340 : BitVec 32 := 0#32
  let c1_i32_342 : BitVec 32 := 1#32
  let arg24 : BitVec 32 := Scf.iv c0_i32_340 c1_i32_342 k0_t17
  let c64_i32 : BitVec 32 := 64#32
  let v785 : BitVec 32 := Scalar.muli arg24 c64_i32
  let v786 : BitVec 32 := v785
  let v790 : BitVec 32 := Scalar.addi v786 c0_i32_497
  let c32_i32 : BitVec 32 := 32#32
  let v791 : BitVec 32 := Scalar.addi v790 c32_i32
  let v792 : Index := Scalar.indexCast v791
  let c0_499 : Index := 0#32
  ![0, v792.toNat, 0]
def k0_cond11 (i : grid0.Coords) : BitVec 1 :=
  let arg0 : BitVec 32 := BitVec.ofNat 32 (i 0).val
  let c0_i32_491 : BitVec 32 := 0#32
  let v779 : BitVec 1 := Scalar.cmpi .eq arg0 c0_i32_491
  let v780 : BitVec 32 := Scalar.extui v779
  let c0_i32_492 : BitVec 32 := 0#32
  let v781 : BitVec 1 := Scalar.cmpi .ne v780 c0_i32_492
  v781

def k0_cond12 (i : grid0.Coords) : BitVec 1 :=
  let arg0 : BitVec 32 := BitVec.ofNat 32 (i 0).val
  let c0_i32_493 : BitVec 32 := 0#32
  let v782 : BitVec 1 := Scalar.cmpi .sgt arg0 c0_i32_493
  let v783 : BitVec 32 := Scalar.extui v782
  let c0_i32_494 : BitVec 32 := 0#32
  let v784 : BitVec 1 := Scalar.cmpi .ne v783 c0_i32_494
  v784

def k0_cond3 (i : grid0.Coords) : BitVec 1 :=
  let arg0 : BitVec 32 := BitVec.ofNat 32 (i 0).val
  let c0_i32_429 : BitVec 32 := 0#32
  let v626 : BitVec 1 := Scalar.cmpi .eq arg0 c0_i32_429
  let v627 : BitVec 32 := Scalar.extui v626
  let c0_i32_430 : BitVec 32 := 0#32
  let v628 : BitVec 1 := Scalar.cmpi .ne v627 c0_i32_430
  v628

def k0_cond4 (i : grid0.Coords) : BitVec 1 :=
  let arg0 : BitVec 32 := BitVec.ofNat 32 (i 0).val
  let c0_i32_431 : BitVec 32 := 0#32
  let v629 : BitVec 1 := Scalar.cmpi .sgt arg0 c0_i32_431
  let v630 : BitVec 32 := Scalar.extui v629
  let c0_i32_432 : BitVec 32 := 0#32
  let v631 : BitVec 1 := Scalar.cmpi .ne v630 c0_i32_432
  v631

def k0_cond5 (i : grid0.Coords) : BitVec 1 :=
  let arg0 : BitVec 32 := BitVec.ofNat 32 (i 0).val
  let c0_i32_448 : BitVec 32 := 0#32
  let v674 : BitVec 1 := Scalar.cmpi .eq arg0 c0_i32_448
  let v675 : BitVec 32 := Scalar.extui v674
  let c0_i32_449 : BitVec 32 := 0#32
  let v676 : BitVec 1 := Scalar.cmpi .ne v675 c0_i32_449
  v676

def k0_cond6 (i : grid0.Coords) : BitVec 1 :=
  let arg0 : BitVec 32 := BitVec.ofNat 32 (i 0).val
  let c0_i32_450 : BitVec 32 := 0#32
  let v677 : BitVec 1 := Scalar.cmpi .sgt arg0 c0_i32_450
  let v678 : BitVec 32 := Scalar.extui v677
  let c0_i32_451 : BitVec 32 := 0#32
  let v679 : BitVec 1 := Scalar.cmpi .ne v678 c0_i32_451
  v679

def k0_cond7 (i : grid0.Coords) : BitVec 1 :=
  let arg0 : BitVec 32 := BitVec.ofNat 32 (i 0).val
  let c0_i32_467 : BitVec 32 := 0#32
  let v722 : BitVec 1 := Scalar.cmpi .eq arg0 c0_i32_467
  let v723 : BitVec 32 := Scalar.extui v722
  let c0_i32_468 : BitVec 32 := 0#32
  let v724 : BitVec 1 := Scalar.cmpi .ne v723 c0_i32_468
  v724

def k0_cond8 (i : grid0.Coords) : BitVec 1 :=
  let arg0 : BitVec 32 := BitVec.ofNat 32 (i 0).val
  let c0_i32_469 : BitVec 32 := 0#32
  let v725 : BitVec 1 := Scalar.cmpi .sgt arg0 c0_i32_469
  let v726 : BitVec 32 := Scalar.extui v725
  let c0_i32_470 : BitVec 32 := 0#32
  let v727 : BitVec 1 := Scalar.cmpi .ne v726 c0_i32_470
  v727

def k0_cond9 (i : grid0.Coords) : BitVec 1 :=
  let arg0 : BitVec 32 := BitVec.ofNat 32 (i 0).val
  let c0_i32_486 : BitVec 32 := 0#32
  let v770 : BitVec 1 := Scalar.cmpi .eq arg0 c0_i32_486
  let v771 : BitVec 32 := Scalar.extui v770
  let c0_i32_487 : BitVec 32 := 0#32
  let v772 : BitVec 1 := Scalar.cmpi .ne v771 c0_i32_487
  v772

def k0_cond10 (i : grid0.Coords) : BitVec 1 :=
  let arg0 : BitVec 32 := BitVec.ofNat 32 (i 0).val
  let c0_i32_488 : BitVec 32 := 0#32
  let v773 : BitVec 1 := Scalar.cmpi .sgt arg0 c0_i32_488
  let v774 : BitVec 32 := Scalar.extui v773
  let c0_i32_489 : BitVec 32 := 0#32
  let v775 : BitVec 1 := Scalar.cmpi .ne v774 c0_i32_489
  v775

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x5120 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== EvenReferenceIdeal.lean ====
abbrev S2048x5120 : Shape := ⟨2, ![2048, 5120]⟩
abbrev S31x1024 : Shape := ⟨2, ![31, 1024]⟩
abbrev S1024 : Shape := ⟨1, ![1024]⟩
abbrev S4x256x256 : Shape := ⟨3, ![4, 256, 256]⟩
abbrev S2048x1024 : Shape := ⟨2, ![2048, 1024]⟩
abbrev S_ : Shape := ⟨0, ![]⟩
abbrev S30x1024 : Shape := ⟨2, ![30, 1024]⟩
abbrev S2078x1024 : Shape := ⟨2, ![2078, 1024]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2048x31x1024 : Shape := ⟨3, ![2048, 31, 1024]⟩
abbrev S1x31x1024 : Shape := ⟨3, ![1, 31, 1024]⟩
abbrev S1x1024 : Shape := ⟨2, ![1, 1024]⟩
abbrev S2049x1024 : Shape := ⟨2, ![2049, 1024]⟩
abbrev S2049x256 : Shape := ⟨2, ![2049, 256]⟩
abbrev S2048x256 : Shape := ⟨2, ![2048, 256]⟩
abbrev S1x256 : Shape := ⟨2, ![1, 256]⟩
abbrev S2047x256 : Shape := ⟨2, ![2047, 256]⟩
abbrev S3x256 : Shape := ⟨2, ![3, 256]⟩
abbrev S2045x256 : Shape := ⟨2, ![2045, 256]⟩
abbrev S7x256 : Shape := ⟨2, ![7, 256]⟩
abbrev S2041x256 : Shape := ⟨2, ![2041, 256]⟩
abbrev S15x256 : Shape := ⟨2, ![15, 256]⟩
abbrev S2033x256 : Shape := ⟨2, ![2033, 256]⟩
abbrev S2048x4x256 : Shape := ⟨3, ![2048, 4, 256]⟩
abbrev S4x256x2048 : Shape := ⟨3, ![4, 256, 2048]⟩
abbrev S4x256 : Shape := ⟨2, ![4, 256]⟩
abbrev S1x4x256 : Shape := ⟨3, ![1, 4, 256]⟩
abbrev S2048x2048 : Shape := ⟨2, ![2048, 2048]⟩
abbrev S4x2048x256 : Shape := ⟨3, ![4, 2048, 256]⟩
abbrev S8x1024 : Shape := ⟨2, ![8, 1024]⟩

abbrev nBuf : Space → Nat
  | .hbm => 406
  | .vmem => 0
  | .smem => 0
  | _ => 0

abbrev hbmTy0_0 (i : Nat) : BufTy := match i % 128 with
  | 0 => ⟨S2048x5120, .f32⟩
  | 1 => ⟨S31x1024, .f32⟩
  | 2 => ⟨S1024, .f32⟩
  | 3 => ⟨S1024, .f32⟩
  | 4 => ⟨S1024, .f32⟩
  | 5 => ⟨S4x256x256, .bf16⟩
  | 6 => ⟨S1024, .f32⟩
  | 7 => ⟨S1024, .f32⟩
  | 8 => ⟨S2048x1024, .bf16⟩
  | 9 => ⟨S2048x1024, .bf16⟩
  | 10 => ⟨S4x256x256, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S30x1024, .f32⟩
  | 31 => ⟨S2078x1024, .f32⟩
  | 32 => ⟨S_, .f32⟩
  | 33 => ⟨S30x1024, .f32⟩
  | 34 => ⟨S2048, .i32⟩
  | 35 => ⟨S2048x1, .i32⟩
  | 36 => ⟨S31, .i32⟩
  | 37 => ⟨S1x31, .i32⟩
  | 38 => ⟨S2048x31, .i32⟩
  | 39 => ⟨S2048x31, .i32⟩
  | 40 => ⟨S2048x31, .i32⟩
  | 41 => ⟨S_, .i32⟩
  | 42 => ⟨S2048x31, .i32⟩
  | 43 => ⟨S2048x31, .i1⟩
  | 44 => ⟨S_, .i32⟩
  | 45 => ⟨S2048x31, .i32⟩
  | 46 => ⟨S2048x31, .i32⟩
  | 47 => ⟨S2048x31, .i32⟩
  | 48 => ⟨S2048x31x1, .i32⟩
  | 49 => ⟨S2048x31x1024, .f32⟩
  | 50 => ⟨S1x31x1024, .f32⟩
  | 51 => ⟨S2048x31x1024, .f32⟩
  | 52 => ⟨S2048x31x1024, .f32⟩
  | 53 => ⟨S_, .f32⟩
  | 54 => ⟨S2048x1024, .f32⟩
  | 55 => ⟨S1x1024, .f32⟩
  | 56 => ⟨S2048x1024, .f32⟩
  | 57 => ⟨S2048x1024, .f32⟩
  | 58 => ⟨S_, .f32⟩
  | 59 => ⟨S2048, .f32⟩
  | 60 => ⟨S2048x1, .f32⟩
  | 61 => ⟨S_, .f32⟩
  | 62 => ⟨S2048x1, .f32⟩
  | 63 => ⟨S2048x1, .f32⟩
  | 64 => ⟨S2048x1024, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S_, .f32⟩
  | 71 => ⟨S2048, .f32⟩
  | 72 => ⟨S2048x1, .f32⟩
  | 73 => ⟨S_, .f32⟩
  | 74 => ⟨S2048x1, .f32⟩
  | 75 => ⟨S2048x1, .f32⟩
  | 76 => ⟨S2048x1024, .f32⟩
  | 77 => ⟨S2048x1024, .f32⟩
  | 78 => ⟨S_, .f32⟩
  | 79 => ⟨S2048x1, .f32⟩
  | 80 => ⟨S2048x1, .f32⟩
  | 81 => ⟨S2048x1, .f32⟩
  | 82 => ⟨S2048x1, .f32⟩
  | 83 => ⟨S_, .f32⟩
  | 84 => ⟨S2048x1, .f32⟩
  | 85 => ⟨S2048x1, .f32⟩
  | 86 => ⟨S2048x1024, .f32⟩
  | 87 => ⟨S2048x1024, .f32⟩
  | 88 => ⟨S1x1024, .f32⟩
  | 89 => ⟨S2048x1024, .f32⟩
  | 90 => ⟨S2048x1024, .f32⟩
  | 91 => ⟨S1x1024, .f32⟩
  | 92 => ⟨S2048x1024, .f32⟩
  | 93 => ⟨S2048x1024, .f32⟩
  | 94 => ⟨S2048x1024, .f32⟩
  | 95 => ⟨S2048x1024, .f32⟩
  | 96 => ⟨S_, .f32⟩
  | 97 => ⟨S2048x1024, .f32⟩
  | 98 => ⟨S2048x1024, .f32⟩
  | 99 => ⟨S_, .f32⟩
  | 100 => ⟨S2048x1024, .f32⟩
  | 101 => ⟨S2048x1024, .f32⟩
  | 102 => ⟨S_, .f32⟩
  | 103 => ⟨S2048x1024, .f32⟩
  | 104 => ⟨S2048x1024, .f32⟩
  | 105 => ⟨S2048x1024, .f32⟩
  | 106 => ⟨S2048x1024, .f32⟩
  | 107 => ⟨S2048x1024, .f32⟩
  | 108 => ⟨S2048x1024, .f32⟩
  | 109 => ⟨S_, .f32⟩
  | 110 => ⟨S2048x1024, .f32⟩
  | 111 => ⟨S2048x1024, .f32⟩
  | 112 => ⟨S_, .f32⟩
  | 113 => ⟨S2048x1024, .f32⟩
  | 114 => ⟨S2048x1024, .f32⟩
  | 115 => ⟨S_, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S_, .f32⟩
  | 122 => ⟨S1x1024, .f32⟩
  | 123 => ⟨S_, .f32⟩
  | 124 => ⟨S_, .f32⟩
  | 125 => ⟨S2048x1024, .f32⟩
  | 126 => ⟨S2049x1024, .f32⟩
  | 127 => ⟨S_, .f32⟩
  | _ => ⟨S2048x5120, .f32⟩

abbrev hbmTy0_1 (i : Nat) : BufTy := match i % 128 with
  | 0 => ⟨S1x1024, .f32⟩
  | 1 => ⟨S2048, .i32⟩
  | 2 => ⟨S_, .i32⟩
  | 3 => ⟨S2048, .i32⟩
  | 4 => ⟨S2048, .i32⟩
  | 5 => ⟨S2048, .f32⟩
  | 6 => ⟨S2049x256, .f32⟩
  | 7 => ⟨S2048x256, .f32⟩
  | 8 => ⟨S_, .f32⟩
  | 9 => ⟨S1x256, .f32⟩
  | 10 => ⟨S2047x256, .f32⟩
  | 11 => ⟨S2048x256, .f32⟩
  | 12 => ⟨S_, .f32⟩
  | 13 => ⟨S1x256, .f32⟩
  | 14 => ⟨S_, .f32⟩
  | 15 => ⟨S2048, .f32⟩
  | 16 => ⟨S2048, .f32⟩
  | 17 => ⟨S2048x1, .f32⟩
  | 18 => ⟨S2048x256, .f32⟩
  | 19 => ⟨S2048x256, .f32⟩
  | 20 => ⟨S2048x256, .f32⟩
  | 21 => ⟨S2049x256, .f32⟩
  | 22 => ⟨S2048x256, .f32⟩
  | 23 => ⟨S_, .f32⟩
  | 24 => ⟨S3x256, .f32⟩
  | 25 => ⟨S2045x256, .f32⟩
  | 26 => ⟨S2048x256, .f32⟩
  | 27 => ⟨S_, .f32⟩
  | 28 => ⟨S3x256, .f32⟩
  | 29 => ⟨S_, .f32⟩
  | 30 => ⟨S2048, .f32⟩
  | 31 => ⟨S2048, .f32⟩
  | 32 => ⟨S2048x1, .f32⟩
  | 33 => ⟨S2048x256, .f32⟩
  | 34 => ⟨S2048x256, .f32⟩
  | 35 => ⟨S2048x256, .f32⟩
  | 36 => ⟨S2049x256, .f32⟩
  | 37 => ⟨S2048x256, .f32⟩
  | 38 => ⟨S_, .f32⟩
  | 39 => ⟨S7x256, .f32⟩
  | 40 => ⟨S2041x256, .f32⟩
  | 41 => ⟨S2048x256, .f32⟩
  | 42 => ⟨S_, .f32⟩
  | 43 => ⟨S7x256, .f32⟩
  | 44 => ⟨S_, .f32⟩
  | 45 => ⟨S2048, .f32⟩
  | 46 => ⟨S2048, .f32⟩
  | 47 => ⟨S2048x1, .f32⟩
  | 48 => ⟨S2048x256, .f32⟩
  | 49 => ⟨S2048x256, .f32⟩
  | 50 => ⟨S2048x256, .f32⟩
  | 51 => ⟨S2049x256, .f32⟩
  | 52 => ⟨S2048x256, .f32⟩
  | 53 => ⟨S_, .f32⟩
  | 54 => ⟨S15x256, .f32⟩
  | 55 => ⟨S2033x256, .f32⟩
  | 56 => ⟨S2048x256, .f32⟩
  | 57 => ⟨S_, .f32⟩
  | 58 => ⟨S15x256, .f32⟩
  | 59 => ⟨S_, .f32⟩
  | 60 => ⟨S2048, .f32⟩
  | 61 => ⟨S2048, .f32⟩
  | 62 => ⟨S2048x1, .f32⟩
  | 63 => ⟨S2048x256, .f32⟩
  | 64 => ⟨S2048x256, .f32⟩
  | 65 => ⟨S2048x256, .f32⟩
  | 66 => ⟨S2048x1024, .f32⟩
  | 67 => ⟨S2048x1024, .f32⟩
  | 68 => ⟨S2048x4x256, .f32⟩
  | 69 => ⟨S4x256x2048, .f32⟩
  | 70 => ⟨S2048x4x256, .f32⟩
  | 71 => ⟨S4x256, .f32⟩
  | 72 => ⟨S1x4x256, .f32⟩
  | 73 => ⟨S2048x4x256, .f32⟩
  | 74 => ⟨S2048x4x256, .f32⟩
  | 75 => ⟨S2048x1024, .f32⟩
  | 76 => ⟨S1x1024, .f32⟩
  | 77 => ⟨S2048x1024, .f32⟩
  | 78 => ⟨S2048x1024, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S_, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S2048x2048, .f32⟩
  | 94 => ⟨S2048x1024, .f32⟩
  | 95 => ⟨S2048x1024, .f32⟩
  | 96 => ⟨S2048x1024, .f32⟩
  | 97 => ⟨S2048x2048, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S2048x1024, .f32⟩
  | 104 => ⟨S2048x1024, .f32⟩
  | 105 => ⟨S2048x1024, .f32⟩
  | 106 => ⟨S2048x1024, .f32⟩
  | 107 => ⟨S_, .f32⟩
  | 108 => ⟨S1024, .f32⟩
  | 109 => ⟨S1x1024, .f32⟩
  | 110 => ⟨S2048x1024, .f32⟩
  | 111 => ⟨S2048x1024, .f32⟩
  | 112 => ⟨S_, .f32⟩
  | 113 => ⟨S1024, .f32⟩
  | 114 => ⟨S2048x4x256, .f32⟩
  | 115 => ⟨S_, .f32⟩
  | 116 => ⟨S4x256, .f32⟩
  | 117 => ⟨S1x4x256, .f32⟩
  | 118 => ⟨S_, .f32⟩
  | 119 => ⟨S4x256, .f32⟩
  | 120 => ⟨S1024, .f32⟩
  | 121 => ⟨S4x256x2048, .f32⟩
  | 122 => ⟨S4x2048x256, .f32⟩
  | 123 => ⟨S2048x4x256, .f32⟩
  | 124 => ⟨S4x256x256, .f32⟩
  | 125 => ⟨S4x256x256, .f32⟩
  | 126 => ⟨S2048x1024, .f32⟩
  | 127 => ⟨S2048x1024, .f32⟩
  | _ => ⟨S2048x5120, .f32⟩

abbrev hbmTy0_2 (i : Nat) : BufTy := match i % 128 with
  | 0 => ⟨S2048x256, .f32⟩
  | 1 => ⟨S2048x256, .f32⟩
  | 2 => ⟨S2048x256, .f32⟩
  | 3 => ⟨S2048x256, .f32⟩
  | 4 => ⟨S2048x256, .f32⟩
  | 5 => ⟨S2048x256, .f32⟩
  | 6 => ⟨S2048x256, .f32⟩
  | 7 => ⟨S15x256, .f32⟩
  | 8 => ⟨S2033x256, .f32⟩
  | 9 => ⟨S_, .f32⟩
  | 10 => ⟨S2049x256, .f32⟩
  | 11 => ⟨S_, .f32⟩
  | 12 => ⟨S2049x256, .f32⟩
  | 13 => ⟨S2049x256, .f32⟩
  | 14 => ⟨S_, .f32⟩
  | 15 => ⟨S2049x1024, .f32⟩
  | 16 => ⟨S2048x256, .f32⟩
  | 17 => ⟨S2048x256, .f32⟩
  | 18 => ⟨S2048x256, .f32⟩
  | 19 => ⟨S7x256, .f32⟩
  | 20 => ⟨S2041x256, .f32⟩
  | 21 => ⟨S_, .f32⟩
  | 22 => ⟨S2049x256, .f32⟩
  | 23 => ⟨S_, .f32⟩
  | 24 => ⟨S2049x256, .f32⟩
  | 25 => ⟨S2049x256, .f32⟩
  | 26 => ⟨S_, .f32⟩
  | 27 => ⟨S2049x1024, .f32⟩
  | 28 => ⟨S2049x1024, .f32⟩
  | 29 => ⟨S2048x256, .f32⟩
  | 30 => ⟨S2048x256, .f32⟩
  | 31 => ⟨S2048x256, .f32⟩
  | 32 => ⟨S3x256, .f32⟩
  | 33 => ⟨S2045x256, .f32⟩
  | 34 => ⟨S_, .f32⟩
  | 35 => ⟨S2049x256, .f32⟩
  | 36 => ⟨S_, .f32⟩
  | 37 => ⟨S2049x256, .f32⟩
  | 38 => ⟨S2049x256, .f32⟩
  | 39 => ⟨S_, .f32⟩
  | 40 => ⟨S2049x1024, .f32⟩
  | 41 => ⟨S2049x1024, .f32⟩
  | 42 => ⟨S2048x256, .f32⟩
  | 43 => ⟨S2048x256, .f32⟩
  | 44 => ⟨S2048x256, .f32⟩
  | 45 => ⟨S1x256, .f32⟩
  | 46 => ⟨S2047x256, .f32⟩
  | 47 => ⟨S_, .f32⟩
  | 48 => ⟨S2049x256, .f32⟩
  | 49 => ⟨S_, .f32⟩
  | 50 => ⟨S2049x256, .f32⟩
  | 51 => ⟨S2049x256, .f32⟩
  | 52 => ⟨S_, .f32⟩
  | 53 => ⟨S2049x1024, .f32⟩
  | 54 => ⟨S2049x1024, .f32⟩
  | 55 => ⟨S1x1024, .f32⟩
  | 56 => ⟨S2048x1024, .f32⟩
  | 57 => ⟨S_, .f32⟩
  | 58 => ⟨S_, .f32⟩
  | 59 => ⟨S2048x1024, .f32⟩
  | 60 => ⟨S2048x1024, .f32⟩
  | 61 => ⟨S2048x1024, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S2048x1024, .f32⟩
  | 70 => ⟨S2048x1024, .f32⟩
  | 71 => ⟨S_, .f32⟩
  | 72 => ⟨S1024, .f32⟩
  | 73 => ⟨S1x1024, .f32⟩
  | 74 => ⟨S_, .f32⟩
  | 75 => ⟨S1024, .f32⟩
  | 76 => ⟨S2048x1024, .f32⟩
  | 77 => ⟨S_, .f32⟩
  | 78 => ⟨S1024, .f32⟩
  | 79 => ⟨S1x1024, .f32⟩
  | 80 => ⟨S2048x1024, .f32⟩
  | 81 => ⟨S2048x1024, .f32⟩
  | 82 => ⟨S_, .f32⟩
  | 83 => ⟨S1024, .f32⟩
  | 84 => ⟨S2048x1024, .f32⟩
  | 85 => ⟨S_, .f32⟩
  | 86 => ⟨S2048, .f32⟩
  | 87 => ⟨S2048x1, .f32⟩
  | 88 => ⟨S2048x1024, .f32⟩
  | 89 => ⟨S2048x1024, .f32⟩
  | 90 => ⟨S2048x1, .f32⟩
  | 91 => ⟨S2048x1024, .f32⟩
  | 92 => ⟨S_, .f32⟩
  | 93 => ⟨S2048, .f32⟩
  | 94 => ⟨S2048x1, .f32⟩
  | 95 => ⟨S_, .f32⟩
  | 96 => ⟨S2048x1, .f32⟩
  | 97 => ⟨S2048x1, .f32⟩
  | 98 => ⟨S_, .f32⟩
  | 99 => ⟨S2048, .f32⟩
  | 100 => ⟨S2048x1024, .f32⟩
  | 101 => ⟨S2048x1024, .f32⟩
  | 102 => ⟨S2048x1024, .f32⟩
  | 103 => ⟨S_, .f32⟩
  | 104 => ⟨S2048, .f32⟩
  | 105 => ⟨S2048x1, .f32⟩
  | 106 => ⟨S2048x1024, .f32⟩
  | 107 => ⟨S2048x1, .f32⟩
  | 108 => ⟨S_, .f32⟩
  | 109 => ⟨S2048x1, .f32⟩
  | 110 => ⟨S2048x1, .f32⟩
  | 111 => ⟨S_, .f32⟩
  | 112 => ⟨S2048, .f32⟩
  | 113 => ⟨S2048x1024, .f32⟩
  | 114 => ⟨S2048x1024, .f32⟩
  | 115 => ⟨S_, .f32⟩
  | 116 => ⟨S1024, .f32⟩
  | 117 => ⟨S1x1024, .f32⟩
  | 118 => ⟨S_, .f32⟩
  | 119 => ⟨S1024, .f32⟩
  | 120 => ⟨S2048x31x1024, .f32⟩
  | 121 => ⟨S2048x31x1024, .f32⟩
  | 122 => ⟨S_, .f32⟩
  | 123 => ⟨S31x1024, .f32⟩
  | 124 => ⟨S1x31x1024, .f32⟩
  | 125 => ⟨S2048x31x1024, .f32⟩
  | 126 => ⟨S2048x31x1024, .f32⟩
  | 127 => ⟨S_, .f32⟩
  | _ => ⟨S2048x5120, .f32⟩

abbrev hbmTy0_3 (i : Nat) : BufTy := match i % 128 with
  | 0 => ⟨S31x1024, .f32⟩
  | 1 => ⟨S_, .f32⟩
  | 2 => ⟨S2078x1024, .f32⟩
  | 3 => ⟨S2078x1024, .f32⟩
  | 4 => ⟨S30x1024, .f32⟩
  | 5 => ⟨S2048x1024, .f32⟩
  | 6 => ⟨S2048x1024, .f32⟩
  | 7 => ⟨S2048x1024, .f32⟩
  | 8 => ⟨S2048x1024, .f32⟩
  | 9 => ⟨S2048x5120, .f32⟩
  | 10 => ⟨S_, .f32⟩
  | 11 => ⟨S1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S8x1024, .f32⟩
  | 21 => ⟨S2048x5120, .bf16⟩
  | _ => ⟨S2048x5120, .f32⟩

abbrev hbmTy (i : Nat) : BufTy := match i / 128 with
  | 0 => hbmTy0_0 i
  | 1 => hbmTy0_1 i
  | 2 => hbmTy0_2 i
  | 3 => hbmTy0_3 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call0_v0 : Ref sig .tc := ⟨.hbm, 94, rfl⟩
abbrev main_call0_v1 : Ref sig .tc := ⟨.hbm, 95, rfl⟩
abbrev main_call0_cst : Ref sig .tc := ⟨.hbm, 96, rfl⟩
abbrev main_call0_v2 : Ref sig .tc := ⟨.hbm, 97, rfl⟩
abbrev main_call0_v3 : Ref sig .tc := ⟨.hbm, 98, rfl⟩
abbrev main_call0_cst_0 : Ref sig .tc := ⟨.hbm, 99, rfl⟩
abbrev main_call0_v4 : Ref sig .tc := ⟨.hbm, 100, rfl⟩
abbrev main_v69_2 : Ref sig .tc := ⟨.hbm, 101, rfl⟩
abbrev main_call0_cst_1 : Ref sig .tc := ⟨.hbm, 102, rfl⟩
abbrev main_call0_v6 : Ref sig .tc := ⟨.hbm, 103, rfl⟩
abbrev main_call0_v7 : Ref sig .tc := ⟨.hbm, 104, rfl⟩
abbrev main_v69_1 : Ref sig .tc := ⟨.hbm, 105, rfl⟩
abbrev main_v69_0 : Ref sig .tc := ⟨.hbm, 106, rfl⟩
abbrev main_call1_v0 : Ref sig .tc := ⟨.hbm, 107, rfl⟩
abbrev main_call1_v1 : Ref sig .tc := ⟨.hbm, 108, rfl⟩
abbrev main_call1_cst : Ref sig .tc := ⟨.hbm, 109, rfl⟩
abbrev main_call1_v2 : Ref sig .tc := ⟨.hbm, 110, rfl⟩
abbrev main_call1_v3 : Ref sig .tc := ⟨.hbm, 111, rfl⟩
abbrev main_call1_cst_0 : Ref sig .tc := ⟨.hbm, 112, rfl⟩
abbrev main_call1_v4 : Ref sig .tc := ⟨.hbm, 113, rfl⟩
abbrev main_v70_2 : Ref sig .tc := ⟨.hbm, 114, rfl⟩
abbrev main_call1_cst_1 : Ref sig .tc := ⟨.hbm, 115, rfl⟩
abbrev main_call1_v6 : Ref sig .tc := ⟨.hbm, 116, rfl⟩
abbrev main_call1_v7 : Ref sig .tc := ⟨.hbm, 117, rfl⟩
abbrev main_v70_1 : Ref sig .tc := ⟨.hbm, 118, rfl⟩
abbrev main_v70_0 : Ref sig .tc := ⟨.hbm, 119, rfl⟩
abbrev main_v71 : Ref sig .tc := ⟨.hbm, 120, rfl⟩
abbrev main_cst_13 : Ref sig .tc := ⟨.hbm, 121, rfl⟩
abbrev main_v72 : Ref sig .tc := ⟨.hbm, 122, rfl⟩
abbrev main_call2_call0_cst : Ref sig .tc := ⟨.hbm, 123, rfl⟩
abbrev main_call2_call0_v0 : Ref sig .tc := ⟨.hbm, 124, rfl⟩
abbrev main_v73 : Ref sig .tc := ⟨.hbm, 125, rfl⟩
abbrev main_v74 : Ref sig .tc := ⟨.hbm, 126, rfl⟩
abbrev main_cst_14 : Ref sig .tc := ⟨.hbm, 127, rfl⟩
abbrev main_v75 : Ref sig .tc := ⟨.hbm, 128, rfl⟩
abbrev main_v76 : Ref sig .tc := ⟨.hbm, 129, rfl⟩
abbrev main_c_15 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_16 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_17 : Ref sig .tc := ⟨.hbm, 140, rfl⟩
abbrev main_v85 : Ref sig .tc := ⟨.hbm, 141, rfl⟩
abbrev main_cst_18 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_19 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_20 : Ref sig .tc := ⟨.hbm, 155, rfl⟩
abbrev main_v97 : Ref sig .tc := ⟨.hbm, 156, rfl⟩
abbrev main_cst_21 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_22 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_cst_23 : Ref sig .tc := ⟨.hbm, 170, rfl⟩
abbrev main_v109 : Ref sig .tc := ⟨.hbm, 171, rfl⟩
abbrev main_cst_24 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_cst_25 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_cst_26 : Ref sig .tc := ⟨.hbm, 185, rfl⟩
abbrev main_v121 : Ref sig .tc := ⟨.hbm, 186, rfl⟩
abbrev main_cst_27 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_call3_v0 : Ref sig .tc := ⟨.hbm, 207, rfl⟩
abbrev main_call3_v1 : Ref sig .tc := ⟨.hbm, 208, rfl⟩
abbrev main_call3_cst : Ref sig .tc := ⟨.hbm, 209, rfl⟩
abbrev main_call3_v2 : Ref sig .tc := ⟨.hbm, 210, rfl⟩
abbrev main_call3_v3 : Ref sig .tc := ⟨.hbm, 211, rfl⟩
abbrev main_call3_cst_0 : Ref sig .tc := ⟨.hbm, 212, rfl⟩
abbrev main_call3_v4 : Ref sig .tc := ⟨.hbm, 213, rfl⟩
abbrev main_v141_2 : Ref sig .tc := ⟨.hbm, 214, rfl⟩
abbrev main_call3_cst_1 : Ref sig .tc := ⟨.hbm, 215, rfl⟩
abbrev main_call3_v6 : Ref sig .tc := ⟨.hbm, 216, rfl⟩
abbrev main_call3_v7 : Ref sig .tc := ⟨.hbm, 217, rfl⟩
abbrev main_v141_1 : Ref sig .tc := ⟨.hbm, 218, rfl⟩
abbrev main_v141_0 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_call4_v0 : Ref sig .tc := ⟨.hbm, 230, rfl⟩
abbrev main_call4_v1 : Ref sig .tc := ⟨.hbm, 231, rfl⟩
abbrev main_call4_v2 : Ref sig .tc := ⟨.hbm, 232, rfl⟩
abbrev main_v152 : Ref sig .tc := ⟨.hbm, 233, rfl⟩
abbrev main_v153 : Ref sig .tc := ⟨.hbm, 234, rfl⟩
abbrev main_cst_28 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_cst_29 : Ref sig .tc := ⟨.hbm, 240, rfl⟩
abbrev main_v158 : Ref sig .tc := ⟨.hbm, 241, rfl⟩
abbrev main_v159 : Ref sig .tc := ⟨.hbm, 242, rfl⟩
abbrev main_cst_30 : Ref sig .tc := ⟨.hbm, 243, rfl⟩
abbrev main_v160 : Ref sig .tc := ⟨.hbm, 244, rfl⟩
abbrev main_v161 : Ref sig .tc := ⟨.hbm, 245, rfl⟩
abbrev main_cst_31 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_cst_32 : Ref sig .tc := ⟨.hbm, 265, rfl⟩
abbrev main_v180 : Ref sig .tc := ⟨.hbm, 266, rfl⟩
abbrev main_cst_33 : Ref sig .tc := ⟨.hbm, 267, rfl⟩
abbrev main_v181 : Ref sig .tc := ⟨.hbm, 268, rfl⟩
abbrev main_v182 : Ref sig .tc := ⟨.hbm, 269, rfl⟩
abbrev main_cst_34 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_cst_35 : Ref sig .tc := ⟨.hbm, 277, rfl⟩
abbrev main_v189 : Ref sig .tc := ⟨.hbm, 278, rfl⟩
abbrev main_cst_36 : Ref sig .tc := ⟨.hbm, 279, rfl⟩
abbrev main_v190 : Ref sig .tc := ⟨.hbm, 280, rfl⟩
abbrev main_v191 : Ref sig .tc := ⟨.hbm, 281, rfl⟩
abbrev main_cst_37 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_cst_38 : Ref sig .tc := ⟨.hbm, 290, rfl⟩
abbrev main_v199 : Ref sig .tc := ⟨.hbm, 291, rfl⟩
abbrev main_cst_39 : Ref sig .tc := ⟨.hbm, 292, rfl⟩
abbrev main_v200 : Ref sig .tc := ⟨.hbm, 293, rfl⟩
abbrev main_v201 : Ref sig .tc := ⟨.hbm, 294, rfl⟩
abbrev main_cst_40 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_cst_41 : Ref sig .tc := ⟨.hbm, 303, rfl⟩
abbrev main_v209 : Ref sig .tc := ⟨.hbm, 304, rfl⟩
abbrev main_cst_42 : Ref sig .tc := ⟨.hbm, 305, rfl⟩
abbrev main_v210 : Ref sig .tc := ⟨.hbm, 306, rfl⟩
abbrev main_v211 : Ref sig .tc := ⟨.hbm, 307, rfl⟩
abbrev main_cst_43 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_call5_call0_cst : Ref sig .tc := ⟨.hbm, 313, rfl⟩
abbrev main_call5_call0_v0 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_call6_v0 : Ref sig .tc := ⟨.hbm, 319, rfl⟩
abbrev main_call6_v1 : Ref sig .tc := ⟨.hbm, 320, rfl⟩
abbrev main_call6_v2 : Ref sig .tc := ⟨.hbm, 321, rfl⟩
abbrev main_v220 : Ref sig .tc := ⟨.hbm, 322, rfl⟩
abbrev main_call7_v0 : Ref sig .tc := ⟨.hbm, 323, rfl⟩
abbrev main_call7_v1 : Ref sig .tc := ⟨.hbm, 324, rfl⟩
abbrev main_call7_v2 : Ref sig .tc := ⟨.hbm, 325, rfl⟩
abbrev main_v221 : Ref sig .tc := ⟨.hbm, 326, rfl⟩
abbrev main_cst_44 : Ref sig .tc := ⟨.hbm, 327, rfl⟩
abbrev main_v222 : Ref sig .tc := ⟨.hbm, 328, rfl⟩
abbrev main_v223 : Ref sig .tc := ⟨.hbm, 329, rfl⟩
abbrev main_cst_45 : Ref sig .tc := ⟨.hbm, 330, rfl⟩
abbrev main_v224 : Ref sig .tc := ⟨.hbm, 331, rfl⟩
abbrev main_v225 : Ref sig .tc := ⟨.hbm, 332, rfl⟩
abbrev main_cst_46 : Ref sig .tc := ⟨.hbm, 333, rfl⟩
abbrev main_v226 : Ref sig .tc := ⟨.hbm, 334, rfl⟩
abbrev main_v227 : Ref sig .tc := ⟨.hbm, 335, rfl⟩
abbrev main_v228 : Ref sig .tc := ⟨.hbm, 336, rfl⟩
abbrev main_v229 : Ref sig .tc := ⟨.hbm, 337, rfl⟩
abbrev main_cst_47 : Ref sig .tc := ⟨.hbm, 338, rfl⟩
abbrev main_v230 : Ref sig .tc := ⟨.hbm, 339, rfl⟩
abbrev main_v231 : Ref sig .tc := ⟨.hbm, 340, rfl⟩
abbrev main_cst_48 : Ref sig .tc := ⟨.hbm, 341, rfl⟩
abbrev main_v232 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_v237 : Ref sig .tc := ⟨.hbm, 347, rfl⟩
abbrev main_cst_49 : Ref sig .tc := ⟨.hbm, 348, rfl⟩
abbrev main_v238 : Ref sig .tc := ⟨.hbm, 349, rfl⟩
abbrev main_v239 : Ref sig .tc := ⟨.hbm, 350, rfl⟩
abbrev main_cst_50 : Ref sig .tc := ⟨.hbm, 351, rfl⟩
abbrev main_v240 : Ref sig .tc := ⟨.hbm, 352, rfl⟩
abbrev main_v241 : Ref sig .tc := ⟨.hbm, 353, rfl⟩
abbrev main_cst_51 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩
abbrev main_v245 : Ref sig .tc := ⟨.hbm, 358, rfl⟩
abbrev main_cst_52 : Ref sig .tc := ⟨.hbm, 359, rfl⟩
abbrev main_v246 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_cst_53 : Ref sig .tc := ⟨.hbm, 364, rfl⟩
abbrev main_v250 : Ref sig .tc := ⟨.hbm, 365, rfl⟩
abbrev main_v251 : Ref sig .tc := ⟨.hbm, 366, rfl⟩
abbrev main_cst_54 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_cst_55 : Ref sig .tc := ⟨.hbm, 371, rfl⟩
abbrev main_v255 : Ref sig .tc := ⟨.hbm, 372, rfl⟩
abbrev main_v256 : Ref sig .tc := ⟨.hbm, 373, rfl⟩
abbrev main_cst_56 : Ref sig .tc := ⟨.hbm, 374, rfl⟩
abbrev main_v257 : Ref sig .tc := ⟨.hbm, 375, rfl⟩
abbrev main_v258 : Ref sig .tc := ⟨.hbm, 376, rfl⟩
abbrev main_v259 : Ref sig .tc := ⟨.hbm, 377, rfl⟩
abbrev main_cst_57 : Ref sig .tc := ⟨.hbm, 378, rfl⟩
abbrev main_v260 : Ref sig .tc := ⟨.hbm, 379, rfl⟩
abbrev main_v261 : Ref sig .tc := ⟨.hbm, 380, rfl⟩
abbrev main_v262 : Ref sig .tc := ⟨.hbm, 381, rfl⟩
abbrev main_v263 : Ref sig .tc := ⟨.hbm, 382, rfl⟩
abbrev main_cst_58 : Ref sig .tc := ⟨.hbm, 383, rfl⟩
abbrev main_v264 : Ref sig .tc := ⟨.hbm, 384, rfl⟩
abbrev main_cst_59 : Ref sig .tc := ⟨.hbm, 385, rfl⟩
abbrev main_v265 : Ref sig .tc := ⟨.hbm, 386, rfl⟩
abbrev main_v266 : Ref sig .tc := ⟨.hbm, 387, rfl⟩
abbrev main_v267 : Ref sig .tc := ⟨.hbm, 388, rfl⟩
abbrev main_v268 : Ref sig .tc := ⟨.hbm, 389, rfl⟩
abbrev main_v269 : Ref sig .tc := ⟨.hbm, 390, rfl⟩
abbrev main_v270 : Ref sig .tc := ⟨.hbm, 391, rfl⟩
abbrev main_v271 : Ref sig .tc := ⟨.hbm, 392, rfl⟩
abbrev main_v272 : Ref sig .tc := ⟨.hbm, 393, rfl⟩
abbrev main_cst_60 : Ref sig .tc := ⟨.hbm, 394, rfl⟩
abbrev main_v273 : Ref sig .tc := ⟨.hbm, 395, rfl⟩
abbrev main_v274 : Ref sig .tc := ⟨.hbm, 396, rfl⟩
abbrev main_v275 : Ref sig .tc := ⟨.hbm, 397, rfl⟩
abbrev main_v276 : Ref sig .tc := ⟨.hbm, 398, rfl⟩
abbrev main_v277 : Ref sig .tc := ⟨.hbm, 399, rfl⟩
abbrev main_v278 : Ref sig .tc := ⟨.hbm, 400, rfl⟩
abbrev main_v279 : Ref sig .tc := ⟨.hbm, 401, rfl⟩
abbrev main_v280 : Ref sig .tc := ⟨.hbm, 402, rfl⟩
abbrev main_v281 : Ref sig .tc := ⟨.hbm, 403, rfl⟩
abbrev main_v282 : Ref sig .tc := ⟨.hbm, 404, rfl⟩
abbrev main_v283 : Ref sig .tc := ⟨.hbm, 405, rfl⟩

abbrev nD : Nat := 1
abbrev τ : Topo := Topo.v7x

variable {F : FTy → Type} [FloatOps F]
-- ==== OddKernel.lean ====
abbrev S2048x3072 : Shape := ⟨2, ![2048, 3072]⟩
abbrev S4x1536 : Shape := ⟨2, ![4, 1536]⟩
abbrev S1536 : Shape := ⟨1, ![1536]⟩
abbrev S12x128x128 : Shape := ⟨3, ![12, 128, 128]⟩
abbrev S1536x1024 : Shape := ⟨2, ![1536, 1024]⟩
abbrev S2048x1024 : Shape := ⟨2, ![2048, 1024]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S2048 : Shape := ⟨1, ![2048]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S2048x4x1 : Shape := ⟨3, ![2048, 4, 1]⟩
abbrev S2048x4x1536 : Shape := ⟨3, ![2048, 4, 1536]⟩
abbrev S1x4x1536 : Shape := ⟨3, ![1, 4, 1536]⟩
abbrev S1x1536 : Shape := ⟨2, ![1, 1536]⟩
abbrev S2048x12x128 : Shape := ⟨3, ![2048, 12, 128]⟩
abbrev S12x128x2048 : Shape := ⟨3, ![12, 128, 2048]⟩
abbrev S1024x1536 : Shape := ⟨2, ![1024, 1536]⟩
abbrev S512x1536 : Shape := ⟨2, ![512, 1536]⟩
abbrev S256x1536 : Shape := ⟨2, ![256, 1536]⟩
abbrev S128x1536 : Shape := ⟨2, ![128, 1536]⟩
abbrev S64x1536 : Shape := ⟨2, ![64, 1536]⟩
abbrev S32x1536 : Shape := ⟨2, ![32, 1536]⟩
abbrev S16x1536 : Shape := ⟨2, ![16, 1536]⟩
abbrev S8x1536 : Shape := ⟨2, ![8, 1536]⟩
abbrev S2x1536 : Shape := ⟨2, ![2, 1536]⟩
abbrev S0x1536 : Shape := ⟨2, ![0, 1536]⟩
abbrev S7x1536 : Shape := ⟨2, ![7, 1536]⟩
abbrev S15x1536 : Shape := ⟨2, ![15, 1536]⟩
abbrev S31x1536 : Shape := ⟨2, ![31, 1536]⟩
abbrev S63x1536 : Shape := ⟨2, ![63, 1536]⟩
abbrev S127x1536 : Shape := ⟨2, ![127, 1536]⟩
abbrev S255x1536 : Shape := ⟨2, ![255, 1536]⟩
abbrev S511x1536 : Shape := ⟨2, ![511, 1536]⟩
abbrev S1023x1536 : Shape := ⟨2, ![1023, 1536]⟩
abbrev S1x1536x1024 : Shape := ⟨3, ![1, 1536, 1024]⟩
abbrev S8x128 : Shape := ⟨2, ![8, 128]⟩
abbrev S1x8x1536 : Shape := ⟨3, ![1, 8, 1536]⟩
abbrev S1x1x1536 : Shape := ⟨3, ![1, 1, 1536]⟩
abbrev S1x12x128x128 : Shape := ⟨4, ![1, 12, 128, 128]⟩
abbrev S256x3072 : Shape := ⟨2, ![256, 3072]⟩
abbrev S8x3072 : Shape := ⟨2, ![8, 3072]⟩
abbrev S256x1024 : Shape := ⟨2, ![256, 1024]⟩
abbrev S264x1536 : Shape := ⟨2, ![264, 1536]⟩
abbrev S256x128 : Shape := ⟨2, ![256, 128]⟩
abbrev S1x1x128x128 : Shape := ⟨4, ![1, 1, 128, 128]⟩
abbrev S128x128 : Shape := ⟨2, ![128, 128]⟩
abbrev S256x1 : Shape := ⟨2, ![256, 1]⟩
abbrev S32x8x1536 : Shape := ⟨3, ![32, 8, 1536]⟩
abbrev S1x8x1 : Shape := ⟨3, ![1, 8, 1]⟩
abbrev S1x128x128 : Shape := ⟨3, ![1, 128, 128]⟩

abbrev nBuf : Space → Nat
  | .hbm => 424
  | .vmem => 29
  | .smem => 0
  | _ => 0

abbrev hbmTy0_0 (i : Nat) : BufTy := match i % 128 with
  | 0 => ⟨S2048x3072, .f32⟩
  | 1 => ⟨S4x1536, .f32⟩
  | 2 => ⟨S1536, .f32⟩
  | 3 => ⟨S12x128x128, .bf16⟩
  | 4 => ⟨S1536, .f32⟩
  | 5 => ⟨S12x128x128, .bf16⟩
  | 6 => ⟨S1536, .f32⟩
  | 7 => ⟨S1536, .f32⟩
  | 8 => ⟨S1536x1024, .bf16⟩
  | 9 => ⟨S2048x1024, .bf16⟩
  | 10 => ⟨S2048x1536, .f32⟩
  | 11 => ⟨S12x128x128, .f32⟩
  | 12 => ⟨S12x128x128, .f32⟩
  | 13 => ⟨S_, .f32⟩
  | 14 => ⟨S3x1536, .f32⟩
  | 15 => ⟨S2051x1536, .f32⟩
  | 16 => ⟨S2048, .i32⟩
  | 17 => ⟨S2048x1, .i32⟩
  | 18 => ⟨S4, .i32⟩
  | 19 => ⟨S1x4, .i32⟩
  | 20 => ⟨S2048x4, .i32⟩
  | 21 => ⟨S2048x4, .i32⟩
  | 22 => ⟨S2048x4, .i32⟩
  | 23 => ⟨S_, .i32⟩
  | 24 => ⟨S2048x4, .i32⟩
  | 25 => ⟨S2048x4, .i1⟩
  | 26 => ⟨S_, .i32⟩
  | 27 => ⟨S2048x4, .i32⟩
  | 28 => ⟨S2048x4, .i32⟩
  | 29 => ⟨S2048x4, .i32⟩
  | 30 => ⟨S2048x4x1, .i32⟩
  | 31 => ⟨S2048x4x1536, .f32⟩
  | 32 => ⟨S1x4x1536, .f32⟩
  | 33 => ⟨S2048x4x1536, .f32⟩
  | 34 => ⟨S2048x4x1536, .f32⟩
  | 35 => ⟨S_, .f32⟩
  | 36 => ⟨S2048x1536, .f32⟩
  | 37 => ⟨S1x1536, .f32⟩
  | 38 => ⟨S2048x1536, .f32⟩
  | 39 => ⟨S2048x1536, .f32⟩
  | 40 => ⟨S2048x12x128, .f32⟩
  | 41 => ⟨S12x128x2048, .f32⟩
  | 42 => ⟨S2048x12x128, .f32⟩
  | 43 => ⟨S2048x1536, .f32⟩
  | 44 => ⟨S1x1536, .f32⟩
  | 45 => ⟨S2048x1536, .f32⟩
  | 46 => ⟨S2048x1536, .f32⟩
  | 47 => ⟨S2048x1536, .f32⟩
  | 48 => ⟨S2048x1536, .f32⟩
  | 49 => ⟨S_, .f32⟩
  | 50 => ⟨S2048x1536, .f32⟩
  | 51 => ⟨S2048x1536, .f32⟩
  | 52 => ⟨S_, .f32⟩
  | 53 => ⟨S2048x1536, .f32⟩
  | 54 => ⟨S2048x1536, .f32⟩
  | 55 => ⟨S12x128x2048, .f32⟩
  | 56 => ⟨S2048x12x128, .f32⟩
  | 57 => ⟨S2048x1536, .f32⟩
  | 58 => ⟨S1x1536, .f32⟩
  | 59 => ⟨S2048x1536, .f32⟩
  | 60 => ⟨S2048x1536, .f32⟩
  | 61 => ⟨S2048x1536, .f32⟩
  | 62 => ⟨S2048x1536, .f32⟩
  | 63 => ⟨S_, .f32⟩
  | 64 => ⟨S2048x1536, .f32⟩
  | 65 => ⟨S2048x1536, .f32⟩
  | 66 => ⟨S_, .f32⟩
  | 67 => ⟨S2048x1536, .f32⟩
  | 68 => ⟨S2048x1536, .f32⟩
  | 69 => ⟨S_, .f32⟩
  | 70 => ⟨S2048x1536, .f32⟩
  | 71 => ⟨S2048x1536, .f32⟩
  | 72 => ⟨S1536, .f32⟩
  | 73 => ⟨S_, .f32⟩
  | 74 => ⟨S1536, .f32⟩
  | 75 => ⟨S1536, .f32⟩
  | 76 => ⟨S1536, .f32⟩
  | 77 => ⟨S1536, .f32⟩
  | 78 => ⟨S1536, .i1⟩
  | 79 => ⟨S1536, .f32⟩
  | 80 => ⟨S1536, .f32⟩
  | 81 => ⟨S1536, .f32⟩
  | 82 => ⟨S1536, .f32⟩
  | 83 => ⟨S1536, .f32⟩
  | 84 => ⟨S1536, .f32⟩
  | 85 => ⟨S1536, .f32⟩
  | 86 => ⟨S1536, .f32⟩
  | 87 => ⟨S1x1536, .f32⟩
  | 88 => ⟨S2048x1536, .f32⟩
  | 89 => ⟨S2048x1536, .f32⟩
  | 90 => ⟨S2048x1536, .f32⟩
  | 91 => ⟨S_, .f32⟩
  | 92 => ⟨S2048x1536, .f32⟩
  | 93 => ⟨S2048x1536, .f32⟩
  | 94 => ⟨S2048x1536, .f32⟩
  | 95 => ⟨S2048x1536, .f32⟩
  | 96 => ⟨S2048x1536, .f32⟩
  | 97 => ⟨S2048x1536, .f32⟩
  | 98 => ⟨S2048x1536, .f32⟩
  | 99 => ⟨S1024x1536, .f32⟩
  | 100 => ⟨S1024x1536, .f32⟩
  | 101 => ⟨S1024x1536, .f32⟩
  | 102 => ⟨S1024x1536, .f32⟩
  | 103 => ⟨S1024x1536, .f32⟩
  | 104 => ⟨S1024x1536, .f32⟩
  | 105 => ⟨S1024x1536, .f32⟩
  | 106 => ⟨S512x1536, .f32⟩
  | 107 => ⟨S512x1536, .f32⟩
  | 108 => ⟨S512x1536, .f32⟩
  | 109 => ⟨S512x1536, .f32⟩
  | 110 => ⟨S512x1536, .f32⟩
  | 111 => ⟨S512x1536, .f32⟩
  | 112 => ⟨S512x1536, .f32⟩
  | 113 => ⟨S256x1536, .f32⟩
  | 114 => ⟨S256x1536, .f32⟩
  | 115 => ⟨S256x1536, .f32⟩
  | 116 => ⟨S256x1536, .f32⟩
  | 117 => ⟨S256x1536, .f32⟩
  | 118 => ⟨S256x1536, .f32⟩
  | 119 => ⟨S256x1536, .f32⟩
  | 120 => ⟨S128x1536, .f32⟩
  | 121 => ⟨S128x1536, .f32⟩
  | 122 => ⟨S128x1536, .f32⟩
  | 123 => ⟨S128x1536, .f32⟩
  | 124 => ⟨S128x1536, .f32⟩
  | 125 => ⟨S128x1536, .f32⟩
  | 126 => ⟨S128x1536, .f32⟩
  | 127 => ⟨S64x1536, .f32⟩
  | _ => ⟨S2048x3072, .f32⟩

abbrev hbmTy0_1 (i : Nat) : BufTy := match i % 128 with
  | 0 => ⟨S64x1536, .f32⟩
  | 1 => ⟨S64x1536, .f32⟩
  | 2 => ⟨S64x1536, .f32⟩
  | 3 => ⟨S64x1536, .f32⟩
  | 4 => ⟨S64x1536, .f32⟩
  | 5 => ⟨S64x1536, .f32⟩
  | 6 => ⟨S32x1536, .f32⟩
  | 7 => ⟨S32x1536, .f32⟩
  | 8 => ⟨S32x1536, .f32⟩
  | 9 => ⟨S32x1536, .f32⟩
  | 10 => ⟨S32x1536, .f32⟩
  | 11 => ⟨S32x1536, .f32⟩
  | 12 => ⟨S32x1536, .f32⟩
  | 13 => ⟨S16x1536, .f32⟩
  | 14 => ⟨S16x1536, .f32⟩
  | 15 => ⟨S16x1536, .f32⟩
  | 16 => ⟨S16x1536, .f32⟩
  | 17 => ⟨S16x1536, .f32⟩
  | 18 => ⟨S16x1536, .f32⟩
  | 19 => ⟨S16x1536, .f32⟩
  | 20 => ⟨S8x1536, .f32⟩
  | 21 => ⟨S8x1536, .f32⟩
  | 22 => ⟨S8x1536, .f32⟩
  | 23 => ⟨S8x1536, .f32⟩
  | 24 => ⟨S8x1536, .f32⟩
  | 25 => ⟨S8x1536, .f32⟩
  | 26 => ⟨S8x1536, .f32⟩
  | 27 => ⟨S4x1536, .f32⟩
  | 28 => ⟨S4x1536, .f32⟩
  | 29 => ⟨S4x1536, .f32⟩
  | 30 => ⟨S4x1536, .f32⟩
  | 31 => ⟨S4x1536, .f32⟩
  | 32 => ⟨S4x1536, .f32⟩
  | 33 => ⟨S4x1536, .f32⟩
  | 34 => ⟨S2x1536, .f32⟩
  | 35 => ⟨S2x1536, .f32⟩
  | 36 => ⟨S2x1536, .f32⟩
  | 37 => ⟨S2x1536, .f32⟩
  | 38 => ⟨S2x1536, .f32⟩
  | 39 => ⟨S2x1536, .f32⟩
  | 40 => ⟨S2x1536, .f32⟩
  | 41 => ⟨S1x1536, .f32⟩
  | 42 => ⟨S1x1536, .f32⟩
  | 43 => ⟨S1x1536, .f32⟩
  | 44 => ⟨S1x1536, .f32⟩
  | 45 => ⟨S1x1536, .f32⟩
  | 46 => ⟨S1x1536, .f32⟩
  | 47 => ⟨S1x1536, .f32⟩
  | 48 => ⟨S0x1536, .f32⟩
  | 49 => ⟨S0x1536, .f32⟩
  | 50 => ⟨S0x1536, .f32⟩
  | 51 => ⟨S0x1536, .f32⟩
  | 52 => ⟨S0x1536, .f32⟩
  | 53 => ⟨S0x1536, .f32⟩
  | 54 => ⟨S0x1536, .f32⟩
  | 55 => ⟨S1x1536, .f32⟩
  | 56 => ⟨S1x1536, .f32⟩
  | 57 => ⟨S1x1536, .f32⟩
  | 58 => ⟨S1x1536, .f32⟩
  | 59 => ⟨S_, .f32⟩
  | 60 => ⟨S2x1536, .f32⟩
  | 61 => ⟨S_, .f32⟩
  | 62 => ⟨S2x1536, .f32⟩
  | 63 => ⟨S2x1536, .f32⟩
  | 64 => ⟨S_, .f32⟩
  | 65 => ⟨S2x1536, .f32⟩
  | 66 => ⟨S_, .f32⟩
  | 67 => ⟨S2x1536, .f32⟩
  | 68 => ⟨S2x1536, .f32⟩
  | 69 => ⟨S1x1536, .f32⟩
  | 70 => ⟨S1x1536, .f32⟩
  | 71 => ⟨S1x1536, .f32⟩
  | 72 => ⟨S1x1536, .f32⟩
  | 73 => ⟨S1x1536, .f32⟩
  | 74 => ⟨S1x1536, .f32⟩
  | 75 => ⟨S1x1536, .f32⟩
  | 76 => ⟨S1x1536, .f32⟩
  | 77 => ⟨S2x1536, .f32⟩
  | 78 => ⟨S1x1536, .f32⟩
  | 79 => ⟨S2x1536, .f32⟩
  | 80 => ⟨S_, .f32⟩
  | 81 => ⟨S4x1536, .f32⟩
  | 82 => ⟨S_, .f32⟩
  | 83 => ⟨S4x1536, .f32⟩
  | 84 => ⟨S4x1536, .f32⟩
  | 85 => ⟨S_, .f32⟩
  | 86 => ⟨S4x1536, .f32⟩
  | 87 => ⟨S_, .f32⟩
  | 88 => ⟨S4x1536, .f32⟩
  | 89 => ⟨S4x1536, .f32⟩
  | 90 => ⟨S3x1536, .f32⟩
  | 91 => ⟨S3x1536, .f32⟩
  | 92 => ⟨S3x1536, .f32⟩
  | 93 => ⟨S3x1536, .f32⟩
  | 94 => ⟨S3x1536, .f32⟩
  | 95 => ⟨S3x1536, .f32⟩
  | 96 => ⟨S3x1536, .f32⟩
  | 97 => ⟨S1x1536, .f32⟩
  | 98 => ⟨S4x1536, .f32⟩
  | 99 => ⟨S1x1536, .f32⟩
  | 100 => ⟨S4x1536, .f32⟩
  | 101 => ⟨S_, .f32⟩
  | 102 => ⟨S8x1536, .f32⟩
  | 103 => ⟨S_, .f32⟩
  | 104 => ⟨S8x1536, .f32⟩
  | 105 => ⟨S8x1536, .f32⟩
  | 106 => ⟨S_, .f32⟩
  | 107 => ⟨S8x1536, .f32⟩
  | 108 => ⟨S_, .f32⟩
  | 109 => ⟨S8x1536, .f32⟩
  | 110 => ⟨S8x1536, .f32⟩
  | 111 => ⟨S7x1536, .f32⟩
  | 112 => ⟨S7x1536, .f32⟩
  | 113 => ⟨S7x1536, .f32⟩
  | 114 => ⟨S7x1536, .f32⟩
  | 115 => ⟨S7x1536, .f32⟩
  | 116 => ⟨S7x1536, .f32⟩
  | 117 => ⟨S7x1536, .f32⟩
  | 118 => ⟨S1x1536, .f32⟩
  | 119 => ⟨S8x1536, .f32⟩
  | 120 => ⟨S1x1536, .f32⟩
  | 121 => ⟨S8x1536, .f32⟩
  | 122 => ⟨S_, .f32⟩
  | 123 => ⟨S16x1536, .f32⟩
  | 124 => ⟨S_, .f32⟩
  | 125 => ⟨S16x1536, .f32⟩
  | 126 => ⟨S16x1536, .f32⟩
  | 127 => ⟨S_, .f32⟩
  | _ => ⟨S2048x3072, .f32⟩

abbrev hbmTy0_2 (i : Nat) : BufTy := match i % 128 with
  | 0 => ⟨S16x1536, .f32⟩
  | 1 => ⟨S_, .f32⟩
  | 2 => ⟨S16x1536, .f32⟩
  | 3 => ⟨S16x1536, .f32⟩
  | 4 => ⟨S15x1536, .f32⟩
  | 5 => ⟨S15x1536, .f32⟩
  | 6 => ⟨S15x1536, .f32⟩
  | 7 => ⟨S15x1536, .f32⟩
  | 8 => ⟨S15x1536, .f32⟩
  | 9 => ⟨S15x1536, .f32⟩
  | 10 => ⟨S15x1536, .f32⟩
  | 11 => ⟨S1x1536, .f32⟩
  | 12 => ⟨S16x1536, .f32⟩
  | 13 => ⟨S1x1536, .f32⟩
  | 14 => ⟨S16x1536, .f32⟩
  | 15 => ⟨S_, .f32⟩
  | 16 => ⟨S32x1536, .f32⟩
  | 17 => ⟨S_, .f32⟩
  | 18 => ⟨S32x1536, .f32⟩
  | 19 => ⟨S32x1536, .f32⟩
  | 20 => ⟨S_, .f32⟩
  | 21 => ⟨S32x1536, .f32⟩
  | 22 => ⟨S_, .f32⟩
  | 23 => ⟨S32x1536, .f32⟩
  | 24 => ⟨S32x1536, .f32⟩
  | 25 => ⟨S31x1536, .f32⟩
  | 26 => ⟨S31x1536, .f32⟩
  | 27 => ⟨S31x1536, .f32⟩
  | 28 => ⟨S31x1536, .f32⟩
  | 29 => ⟨S31x1536, .f32⟩
  | 30 => ⟨S31x1536, .f32⟩
  | 31 => ⟨S31x1536, .f32⟩
  | 32 => ⟨S1x1536, .f32⟩
  | 33 => ⟨S32x1536, .f32⟩
  | 34 => ⟨S1x1536, .f32⟩
  | 35 => ⟨S32x1536, .f32⟩
  | 36 => ⟨S_, .f32⟩
  | 37 => ⟨S64x1536, .f32⟩
  | 38 => ⟨S_, .f32⟩
  | 39 => ⟨S64x1536, .f32⟩
  | 40 => ⟨S64x1536, .f32⟩
  | 41 => ⟨S_, .f32⟩
  | 42 => ⟨S64x1536, .f32⟩
  | 43 => ⟨S_, .f32⟩
  | 44 => ⟨S64x1536, .f32⟩
  | 45 => ⟨S64x1536, .f32⟩
  | 46 => ⟨S63x1536, .f32⟩
  | 47 => ⟨S63x1536, .f32⟩
  | 48 => ⟨S63x1536, .f32⟩
  | 49 => ⟨S63x1536, .f32⟩
  | 50 => ⟨S63x1536, .f32⟩
  | 51 => ⟨S63x1536, .f32⟩
  | 52 => ⟨S63x1536, .f32⟩
  | 53 => ⟨S1x1536, .f32⟩
  | 54 => ⟨S64x1536, .f32⟩
  | 55 => ⟨S1x1536, .f32⟩
  | 56 => ⟨S64x1536, .f32⟩
  | 57 => ⟨S_, .f32⟩
  | 58 => ⟨S128x1536, .f32⟩
  | 59 => ⟨S_, .f32⟩
  | 60 => ⟨S128x1536, .f32⟩
  | 61 => ⟨S128x1536, .f32⟩
  | 62 => ⟨S_, .f32⟩
  | 63 => ⟨S128x1536, .f32⟩
  | 64 => ⟨S_, .f32⟩
  | 65 => ⟨S128x1536, .f32⟩
  | 66 => ⟨S128x1536, .f32⟩
  | 67 => ⟨S127x1536, .f32⟩
  | 68 => ⟨S127x1536, .f32⟩
  | 69 => ⟨S127x1536, .f32⟩
  | 70 => ⟨S127x1536, .f32⟩
  | 71 => ⟨S127x1536, .f32⟩
  | 72 => ⟨S127x1536, .f32⟩
  | 73 => ⟨S127x1536, .f32⟩
  | 74 => ⟨S1x1536, .f32⟩
  | 75 => ⟨S128x1536, .f32⟩
  | 76 => ⟨S1x1536, .f32⟩
  | 77 => ⟨S128x1536, .f32⟩
  | 78 => ⟨S_, .f32⟩
  | 79 => ⟨S256x1536, .f32⟩
  | 80 => ⟨S_, .f32⟩
  | 81 => ⟨S256x1536, .f32⟩
  | 82 => ⟨S256x1536, .f32⟩
  | 83 => ⟨S_, .f32⟩
  | 84 => ⟨S256x1536, .f32⟩
  | 85 => ⟨S_, .f32⟩
  | 86 => ⟨S256x1536, .f32⟩
  | 87 => ⟨S256x1536, .f32⟩
  | 88 => ⟨S255x1536, .f32⟩
  | 89 => ⟨S255x1536, .f32⟩
  | 90 => ⟨S255x1536, .f32⟩
  | 91 => ⟨S255x1536, .f32⟩
  | 92 => ⟨S255x1536, .f32⟩
  | 93 => ⟨S255x1536, .f32⟩
  | 94 => ⟨S255x1536, .f32⟩
  | 95 => ⟨S1x1536, .f32⟩
  | 96 => ⟨S256x1536, .f32⟩
  | 97 => ⟨S1x1536, .f32⟩
  | 98 => ⟨S256x1536, .f32⟩
  | 99 => ⟨S_, .f32⟩
  | 100 => ⟨S512x1536, .f32⟩
  | 101 => ⟨S_, .f32⟩
  | 102 => ⟨S512x1536, .f32⟩
  | 103 => ⟨S512x1536, .f32⟩
  | 104 => ⟨S_, .f32⟩
  | 105 => ⟨S512x1536, .f32⟩
  | 106 => ⟨S_, .f32⟩
  | 107 => ⟨S512x1536, .f32⟩
  | 108 => ⟨S512x1536, .f32⟩
  | 109 => ⟨S511x1536, .f32⟩
  | 110 => ⟨S511x1536, .f32⟩
  | 111 => ⟨S511x1536, .f32⟩
  | 112 => ⟨S511x1536, .f32⟩
  | 113 => ⟨S511x1536, .f32⟩
  | 114 => ⟨S511x1536, .f32⟩
  | 115 => ⟨S511x1536, .f32⟩
  | 116 => ⟨S1x1536, .f32⟩
  | 117 => ⟨S512x1536, .f32⟩
  | 118 => ⟨S1x1536, .f32⟩
  | 119 => ⟨S512x1536, .f32⟩
  | 120 => ⟨S_, .f32⟩
  | 121 => ⟨S1024x1536, .f32⟩
  | 122 => ⟨S_, .f32⟩
  | 123 => ⟨S1024x1536, .f32⟩
  | 124 => ⟨S1024x1536, .f32⟩
  | 125 => ⟨S_, .f32⟩
  | 126 => ⟨S1024x1536, .f32⟩
  | 127 => ⟨S_, .f32⟩
  | _ => ⟨S2048x3072, .f32⟩

abbrev hbmTy0_3 (i : Nat) : BufTy := match i % 128 with
  | 0 => ⟨S1024x1536, .f32⟩
  | 1 => ⟨S1024x1536, .f32⟩
  | 2 => ⟨S1023x1536, .f32⟩
  | 3 => ⟨S1023x1536, .f32⟩
  | 4 => ⟨S1023x1536, .f32⟩
  | 5 => ⟨S1023x1536, .f32⟩
  | 6 => ⟨S1023x1536, .f32⟩
  | 7 => ⟨S1023x1536, .f32⟩
  | 8 => ⟨S1023x1536, .f32⟩
  | 9 => ⟨S1x1536, .f32⟩
  | 10 => ⟨S1024x1536, .f32⟩
  | 11 => ⟨S1x1536, .f32⟩
  | 12 => ⟨S1024x1536, .f32⟩
  | 13 => ⟨S_, .f32⟩
  | 14 => ⟨S2048x1536, .f32⟩
  | 15 => ⟨S_, .f32⟩
  | 16 => ⟨S2048x1536, .f32⟩
  | 17 => ⟨S2048x1536, .f32⟩
  | 18 => ⟨S_, .f32⟩
  | 19 => ⟨S2048x1536, .f32⟩
  | 20 => ⟨S_, .f32⟩
  | 21 => ⟨S2048x1536, .f32⟩
  | 22 => ⟨S2048x1536, .f32⟩
  | 23 => ⟨S1x1536x1024, .bf16⟩
  | 24 => ⟨S_, .f32⟩
  | 25 => ⟨S8x128, .f32⟩
  | 26 => ⟨S1x4x1536, .f32⟩
  | 27 => ⟨S_, .i32⟩
  | 28 => ⟨S_, .f32⟩
  | 29 => ⟨S1x8x1536, .f32⟩
  | 30 => ⟨S1x1x1536, .f32⟩
  | 31 => ⟨S1x12x128x128, .bf16⟩
  | 32 => ⟨S1x1x1536, .f32⟩
  | 33 => ⟨S1x12x128x128, .bf16⟩
  | 34 => ⟨S1x1x1536, .f32⟩
  | 35 => ⟨S1x1x1536, .f32⟩
  | 36 => ⟨S2048x3072, .bf16⟩
  | 37 => ⟨S12x128x128, .f32⟩
  | 38 => ⟨S12x128x128, .f32⟩
  | 39 => ⟨S8x1536, .f32⟩
  | _ => ⟨S2048x3072, .f32⟩

abbrev hbmTy (i : Nat) : BufTy := match i / 128 with
  | 0 => hbmTy0_0 i
  | 1 => hbmTy0_1 i
  | 2 => hbmTy0_2 i
  | 3 => hbmTy0_3 i
  | _ => ⟨S2048x3072, .f32⟩

abbrev bufTy : (tb : Table) → Fin (tcTables nBuf tb) → BufTy
  | .hbm, ⟨i, _⟩ => hbmTy i
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S256x1536, .f32⟩
  | .local _ .vmem, ⟨5, _⟩ => ⟨S256x1536, .f32⟩
  | .local _ .vmem, ⟨6, _⟩ => ⟨S8x1536, .f32⟩
  | .local _ .vmem, ⟨7, _⟩ => ⟨S8x1536, .f32⟩
  | .local _ .vmem, ⟨8, _⟩ => ⟨S256x1024, .bf16⟩
  | .local _ .vmem, ⟨9, _⟩ => ⟨S256x1024, .bf16⟩
  | .local _ .vmem, ⟨10, _⟩ => ⟨S1x1536x1024, .bf16⟩
  | .local _ .vmem, ⟨11, _⟩ => ⟨S8x128, .f32⟩
  | .local _ .vmem, ⟨12, _⟩ => ⟨S1x8x1536, .f32⟩
  | .local _ .vmem, ⟨13, _⟩ => ⟨S1x1x1536, .f32⟩
  | .local _ .vmem, ⟨14, _⟩ => ⟨S1x12x128x128, .bf16⟩
  | .local _ .vmem, ⟨15, _⟩ => ⟨S1x1x1536, .f32⟩
  | .local _ .vmem, ⟨16, _⟩ => ⟨S1x12x128x128, .bf16⟩
  | .local _ .vmem, ⟨17, _⟩ => ⟨S1x1x1536, .f32⟩
  | .local _ .vmem, ⟨18, _⟩ => ⟨S1x1x1536, .f32⟩
  | .local _ .vmem, ⟨19, _⟩ => ⟨S256x3072, .bf16⟩
  | .local _ .vmem, ⟨20, _⟩ => ⟨S256x3072, .bf16⟩
  | .local _ .vmem, ⟨21, _⟩ => ⟨S12x128x128, .f32⟩
  | .local _ .vmem, ⟨22, _⟩ => ⟨S12x128x128, .f32⟩
  | .local _ .vmem, ⟨23, _⟩ => ⟨S8x1536, .f32⟩
  | .local _ .vmem, ⟨24, _⟩ => ⟨S8x1536, .f32⟩
  | .local _ .vmem, ⟨25, _⟩ => ⟨S8x1536, .f32⟩
  | .local _ .vmem, ⟨26, _⟩ => ⟨S256x1536, .f32⟩
  | .local _ .vmem, ⟨27, _⟩ => ⟨S256x1536, .f32⟩
  | .local _ .vmem, ⟨28, _⟩ => ⟨S256x1536, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_7 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_8 : Ref sig .tc := ⟨.hbm, 187, rfl⟩
abbrev main_v154 : Ref sig .tc := ⟨.hbm, 188, rfl⟩
abbrev main_cst_9 : Ref sig .tc := ⟨.hbm, 189, rfl⟩
abbrev main_v155 : Ref sig .tc := ⟨.hbm, 190, rfl⟩
abbrev main_v156 : Ref sig .tc := ⟨.hbm, 191, rfl⟩
abbrev main_cst_10 : Ref sig .tc := ⟨.hbm, 192, rfl⟩
abbrev main_v157 : Ref sig .tc := ⟨.hbm, 193, rfl⟩
abbrev main_cst_11 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_cst_12 : Ref sig .tc := ⟨.hbm, 208, rfl⟩
abbrev main_v171 : Ref sig .tc := ⟨.hbm, 209, rfl⟩
abbrev main_cst_13 : Ref sig .tc := ⟨.hbm, 210, rfl⟩
abbrev main_v172 : Ref sig .tc := ⟨.hbm, 211, rfl⟩
abbrev main_v173 : Ref sig .tc := ⟨.hbm, 212, rfl⟩
abbrev main_cst_14 : Ref sig .tc := ⟨.hbm, 213, rfl⟩
abbrev main_v174 : Ref sig .tc := ⟨.hbm, 214, rfl⟩
abbrev main_cst_15 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_cst_16 : Ref sig .tc := ⟨.hbm, 229, rfl⟩
abbrev main_v188 : Ref sig .tc := ⟨.hbm, 230, rfl⟩
abbrev main_cst_17 : Ref sig .tc := ⟨.hbm, 231, rfl⟩
abbrev main_v189 : Ref sig .tc := ⟨.hbm, 232, rfl⟩
abbrev main_v190 : Ref sig .tc := ⟨.hbm, 233, rfl⟩
abbrev main_cst_18 : Ref sig .tc := ⟨.hbm, 234, rfl⟩
abbrev main_v191 : Ref sig .tc := ⟨.hbm, 235, rfl⟩
abbrev main_cst_19 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_cst_20 : Ref sig .tc := ⟨.hbm, 250, rfl⟩
abbrev main_v205 : Ref sig .tc := ⟨.hbm, 251, rfl⟩
abbrev main_cst_21 : Ref sig .tc := ⟨.hbm, 252, rfl⟩
abbrev main_v206 : Ref sig .tc := ⟨.hbm, 253, rfl⟩
abbrev main_v207 : Ref sig .tc := ⟨.hbm, 254, rfl⟩
abbrev main_cst_22 : Ref sig .tc := ⟨.hbm, 255, rfl⟩
abbrev main_v208 : Ref sig .tc := ⟨.hbm, 256, rfl⟩
abbrev main_cst_23 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_cst_24 : Ref sig .tc := ⟨.hbm, 271, rfl⟩
abbrev main_v222 : Ref sig .tc := ⟨.hbm, 272, rfl⟩
abbrev main_cst_25 : Ref sig .tc := ⟨.hbm, 273, rfl⟩
abbrev main_v223 : Ref sig .tc := ⟨.hbm, 274, rfl⟩
abbrev main_v224 : Ref sig .tc := ⟨.hbm, 275, rfl⟩
abbrev main_cst_26 : Ref sig .tc := ⟨.hbm, 276, rfl⟩
abbrev main_v225 : Ref sig .tc := ⟨.hbm, 277, rfl⟩
abbrev main_cst_27 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_cst_28 : Ref sig .tc := ⟨.hbm, 292, rfl⟩
abbrev main_v239 : Ref sig .tc := ⟨.hbm, 293, rfl⟩
abbrev main_cst_29 : Ref sig .tc := ⟨.hbm, 294, rfl⟩
abbrev main_v240 : Ref sig .tc := ⟨.hbm, 295, rfl⟩
abbrev main_v241 : Ref sig .tc := ⟨.hbm, 296, rfl⟩
abbrev main_cst_30 : Ref sig .tc := ⟨.hbm, 297, rfl⟩
abbrev main_v242 : Ref sig .tc := ⟨.hbm, 298, rfl⟩
abbrev main_cst_31 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_cst_32 : Ref sig .tc := ⟨.hbm, 313, rfl⟩
abbrev main_v256 : Ref sig .tc := ⟨.hbm, 314, rfl⟩
abbrev main_cst_33 : Ref sig .tc := ⟨.hbm, 315, rfl⟩
abbrev main_v257 : Ref sig .tc := ⟨.hbm, 316, rfl⟩
abbrev main_v258 : Ref sig .tc := ⟨.hbm, 317, rfl⟩
abbrev main_cst_34 : Ref sig .tc := ⟨.hbm, 318, rfl⟩
abbrev main_v259 : Ref sig .tc := ⟨.hbm, 319, rfl⟩
abbrev main_cst_35 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_cst_36 : Ref sig .tc := ⟨.hbm, 334, rfl⟩
abbrev main_v273 : Ref sig .tc := ⟨.hbm, 335, rfl⟩
abbrev main_cst_37 : Ref sig .tc := ⟨.hbm, 336, rfl⟩
abbrev main_v274 : Ref sig .tc := ⟨.hbm, 337, rfl⟩
abbrev main_v275 : Ref sig .tc := ⟨.hbm, 338, rfl⟩
abbrev main_cst_38 : Ref sig .tc := ⟨.hbm, 339, rfl⟩
abbrev main_v276 : Ref sig .tc := ⟨.hbm, 340, rfl⟩
abbrev main_cst_39 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_cst_40 : Ref sig .tc := ⟨.hbm, 355, rfl⟩
abbrev main_v290 : Ref sig .tc := ⟨.hbm, 356, rfl⟩
abbrev main_cst_41 : Ref sig .tc := ⟨.hbm, 357, rfl⟩
abbrev main_v291 : Ref sig .tc := ⟨.hbm, 358, rfl⟩
abbrev main_v292 : Ref sig .tc := ⟨.hbm, 359, rfl⟩
abbrev main_cst_42 : Ref sig .tc := ⟨.hbm, 360, rfl⟩
abbrev main_v293 : Ref sig .tc := ⟨.hbm, 361, rfl⟩
abbrev main_cst_43 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_cst_44 : Ref sig .tc := ⟨.hbm, 376, rfl⟩
abbrev main_v307 : Ref sig .tc := ⟨.hbm, 377, rfl⟩
abbrev main_cst_45 : Ref sig .tc := ⟨.hbm, 378, rfl⟩
abbrev main_v308 : Ref sig .tc := ⟨.hbm, 379, rfl⟩
abbrev main_v309 : Ref sig .tc := ⟨.hbm, 380, rfl⟩
abbrev main_cst_46 : Ref sig .tc := ⟨.hbm, 381, rfl⟩
abbrev main_v310 : Ref sig .tc := ⟨.hbm, 382, rfl⟩
abbrev main_cst_47 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_cst_48 : Ref sig .tc := ⟨.hbm, 397, rfl⟩
abbrev main_v324 : Ref sig .tc := ⟨.hbm, 398, rfl⟩
abbrev main_cst_49 : Ref sig .tc := ⟨.hbm, 399, rfl⟩
abbrev main_v325 : Ref sig .tc := ⟨.hbm, 400, rfl⟩
abbrev main_v326 : Ref sig .tc := ⟨.hbm, 401, rfl⟩
abbrev main_cst_50 : Ref sig .tc := ⟨.hbm, 402, rfl⟩
abbrev main_v327 : Ref sig .tc := ⟨.hbm, 403, rfl⟩
abbrev main_cst_51 : Ref sig .tc := ⟨.hbm, 404, rfl⟩
abbrev main_v328 : Ref sig .tc := ⟨.hbm, 405, rfl⟩
abbrev main_v329 : Ref sig .tc := ⟨.hbm, 406, rfl⟩
abbrev main_v330 : Ref sig .tc := ⟨.hbm, 407, rfl⟩
abbrev main_cst_52 : Ref sig .tc := ⟨.hbm, 408, rfl⟩
abbrev main_v331 : Ref sig .tc := ⟨.hbm, 409, rfl⟩
abbrev main_v332 : Ref sig .tc := ⟨.hbm, 410, rfl⟩
abbrev main_c_53 : Ref sig .tc := ⟨.hbm, 411, rfl⟩
abbrev main_call1_v0 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_v337 : Ref sig .tc := ⟨.hbm, 417, rfl⟩
abbrev main_v338 : Ref sig .tc := ⟨.hbm, 418, rfl⟩
abbrev main_v339 : Ref sig .tc := ⟨.hbm, 419, rfl⟩
abbrev main_v340_0 : Ref sig .tc := ⟨.hbm, 420, rfl⟩
abbrev main_v340_1 : Ref sig .tc := ⟨.hbm, 421, rfl⟩
abbrev main_v340_2 : Ref sig .tc := ⟨.hbm, 422, rfl⟩
abbrev main_v340_3 : Ref sig .tc := ⟨.hbm, 423, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_191 : BitVec 32 := 0#32
  let c32_i32 : BitVec 32 := 32#32
  let v294 : BitVec 32 := Scalar.addi c0_i32_191 c32_i32
  let c1_i32_192 : BitVec 32 := 1#32
  ⟨c0_i32_191, v294, c1_i32_192⟩
def k0_mult1 (k0_t1 : Fin k0_t1_loop.trips) : BitVec 32 :=
  let c31_i32 : BitVec 32 := 31#32
  let c0_i32_191 : BitVec 32 := 0#32
  let c1_i32_192 : BitVec 32 := 1#32
  let arg24 : BitVec 32 := Scf.iv c0_i32_191 c1_i32_192 k0_t1
  let v680 : BitVec 32 := Scalar.subi c31_i32 arg24
  let c8_i32 : BitVec 32 := 8#32
  let v681 : BitVec 32 := Scalar.muli v680 c8_i32
  v681
def k0_off1 (k0_t1 : Fin k0_t1_loop.trips) : Fin 2 → Nat :=
  let c31_i32 : BitVec 32 := 31#32
  let c0_i32_191 : BitVec 32 := 0#32
  let c1_i32_192 : BitVec 32 := 1#32
  let arg24 : BitVec 32 := Scf.iv c0_i32_191 c1_i32_192 k0_t1
  let v680 : BitVec 32 := Scalar.subi c31_i32 arg24
  let c8_i32 : BitVec 32 := 8#32
  let v681 : BitVec 32 := Scalar.muli v680 c8_i32
  let v682 : BitVec 32 := v681
  let v683 : Index := Scalar.indexCast v682
  let c0_439 : Index := 0#32
  ![v683.toNat, 0]
def k0_cond2 (i : grid0.Coords) : BitVec 1 :=
  let arg0 : BitVec 32 := BitVec.ofNat 32 (i 0).val
  let c0_i32_227 : BitVec 32 := 0#32
  let v376 : BitVec 1 := Scalar.cmpi .eq arg0 c0_i32_227
  let v377 : BitVec 32 := Scalar.extui v376
  let c0_i32_228 : BitVec 32 := 0#32
  let v378 : BitVec 1 := Scalar.cmpi .ne v377 c0_i32_228
  v378

def k0_cond3 (i : grid0.Coords) : BitVec 1 :=
  let arg0 : BitVec 32 := BitVec.ofNat 32 (i 0).val
  let c0_i32_229 : BitVec 32 := 0#32
  let v379 : BitVec 1 := Scalar.cmpi .sgt arg0 c0_i32_229
  let v380 : BitVec 32 := Scalar.extui v379
  let c0_i32_230 : BitVec 32 := 0#32
  let v381 : BitVec 1 := Scalar.cmpi .ne v380 c0_i32_230
  v381

def k0_cond4 (i : grid0.Coords) : BitVec 1 :=
  let arg0 : BitVec 32 := BitVec.ofNat 32 (i 0).val
  let c0_i32_243 : BitVec 32 := 0#32
  let v397 : BitVec 1 := Scalar.cmpi .eq arg0 c0_i32_243
  let v398 : BitVec 32 := Scalar.extui v397
  let c0_i32_244 : BitVec 32 := 0#32
  let v399 : BitVec 1 := Scalar.cmpi .ne v398 c0_i32_244
  v399

def k0_cond5 (i : grid0.Coords) : BitVec 1 :=
  let arg0 : BitVec 32 := BitVec.ofNat 32 (i 0).val
  let c0_i32_245 : BitVec 32 := 0#32
  let v400 : BitVec 1 := Scalar.cmpi .sgt arg0 c0_i32_245
  let v401 : BitVec 32 := Scalar.extui v400
  let c0_i32_246 : BitVec 32 := 0#32
  let v402 : BitVec 1 := Scalar.cmpi .ne v401 c0_i32_246
  v402

def k0_cond6 (i : grid0.Coords) : BitVec 1 :=
  let arg0 : BitVec 32 := BitVec.ofNat 32 (i 0).val
  let c0_i32_259 : BitVec 32 := 0#32
  let v418 : BitVec 1 := Scalar.cmpi .eq arg0 c0_i32_259
  let v419 : BitVec 32 := Scalar.extui v418
  let c0_i32_260 : BitVec 32 := 0#32
  let v420 : BitVec 1 := Scalar.cmpi .ne v419 c0_i32_260
  v420

def k0_cond7 (i : grid0.Coords) : BitVec 1 :=
  let arg0 : BitVec 32 := BitVec.ofNat 32 (i 0).val
  let c0_i32_261 : BitVec 32 := 0#32
  let v421 : BitVec 1 := Scalar.cmpi .sgt arg0 c0_i32_261
  let v422 : BitVec 32 := Scalar.extui v421
  let c0_i32_262 : BitVec 32 := 0#32
  let v423 : BitVec 1 := Scalar.cmpi .ne v422 c0_i32_262
  v423

def k0_cond8 (i : grid0.Coords) : BitVec 1 :=
  let arg0 : BitVec 32 := BitVec.ofNat 32 (i 0).val
  let c0_i32_275 : BitVec 32 := 0#32
  let v439 : BitVec 1 := Scalar.cmpi .eq arg0 c0_i32_275
  let v440 : BitVec 32 := Scalar.extui v439
  let c0_i32_276 : BitVec 32 := 0#32
  let v441 : BitVec 1 := Scalar.cmpi .ne v440 c0_i32_276
  v441

def k0_cond9 (i : grid0.Coords) : BitVec 1 :=
  let arg0 : BitVec 32 := BitVec.ofNat 32 (i 0).val
  let c0_i32_277 : BitVec 32 := 0#32
  let v442 : BitVec 1 := Scalar.cmpi .sgt arg0 c0_i32_277
  let v443 : BitVec 32 := Scalar.extui v442
  let c0_i32_278 : BitVec 32 := 0#32
  let v444 : BitVec 1 := Scalar.cmpi .ne v443 c0_i32_278
  v444

def k0_cond10 (i : grid0.Coords) : BitVec 1 :=
  let arg0 : BitVec 32 := BitVec.ofNat 32 (i 0).val
  let c0_i32_291 : BitVec 32 := 0#32
  let v460 : BitVec 1 := Scalar.cmpi .eq arg0 c0_i32_291
  let v461 : BitVec 32 := Scalar.extui v460
  let c0_i32_292 : BitVec 32 := 0#32
  let v462 : BitVec 1 := Scalar.cmpi .ne v461 c0_i32_292
  v462

def k0_cond11 (i : grid0.Coords) : BitVec 1 :=
  let arg0 : BitVec 32 := BitVec.ofNat 32 (i 0).val
  let c0_i32_293 : BitVec 32 := 0#32
  let v463 : BitVec 1 := Scalar.cmpi .sgt arg0 c0_i32_293
  let v464 : BitVec 32 := Scalar.extui v463
  let c0_i32_294 : BitVec 32 := 0#32
  let v465 : BitVec 1 := Scalar.cmpi .ne v464 c0_i32_294
  v465

def k0_cond12 (i : grid0.Coords) : BitVec 1 :=
  let arg0 : BitVec 32 := BitVec.ofNat 32 (i 0).val
  let c0_i32_307 : BitVec 32 := 0#32
  let v481 : BitVec 1 := Scalar.cmpi .eq arg0 c0_i32_307
  let v482 : BitVec 32 := Scalar.extui v481
  let c0_i32_308 : BitVec 32 := 0#32
  let v483 : BitVec 1 := Scalar.cmpi .ne v482 c0_i32_308
  v483

def k0_cond13 (i : grid0.Coords) : BitVec 1 :=
  let arg0 : BitVec 32 := BitVec.ofNat 32 (i 0).val
  let c0_i32_309 : BitVec 32 := 0#32
  let v484 : BitVec 1 := Scalar.cmpi .sgt arg0 c0_i32_309
  let v485 : BitVec 32 := Scalar.extui v484
  let c0_i32_310 : BitVec 32 := 0#32
  let v486 : BitVec 1 := Scalar.cmpi .ne v485 c0_i32_310
  v486

def k0_cond14 (i : grid0.Coords) : BitVec 1 :=
  let arg0 : BitVec 32 := BitVec.ofNat 32 (i 0).val
  let c0_i32_323 : BitVec 32 := 0#32
  let v502 : BitVec 1 := Scalar.cmpi .eq arg0 c0_i32_323
  let v503 : BitVec 32 := Scalar.extui v502
  let c0_i32_324 : BitVec 32 := 0#32
  let v504 : BitVec 1 := Scalar.cmpi .ne v503 c0_i32_324
  v504

def k0_cond15 (i : grid0.Coords) : BitVec 1 :=
  let arg0 : BitVec 32 := BitVec.ofNat 32 (i 0).val
  let c0_i32_325 : BitVec 32 := 0#32
  let v505 : BitVec 1 := Scalar.cmpi .sgt arg0 c0_i32_325
  let v506 : BitVec 32 := Scalar.extui v505
  let c0_i32_326 : BitVec 32 := 0#32
  let v507 : BitVec 1 := Scalar.cmpi .ne v506 c0_i32_326
  v507

def k0_cond16 (i : grid0.Coords) : BitVec 1 :=
  let arg0 : BitVec 32 := BitVec.ofNat 32 (i 0).val
  let c0_i32_339 : BitVec 32 := 0#32
  let v523 : BitVec 1 := Scalar.cmpi .eq arg0 c0_i32_339
  let v524 : BitVec 32 := Scalar.extui v523
  let c0_i32_340 : BitVec 32 := 0#32
  let v525 : BitVec 1 := Scalar.cmpi .ne v524 c0_i32_340
  v525

def k0_cond17 (i : grid0.Coords) : BitVec 1 :=
  let arg0 : BitVec 32 := BitVec.ofNat 32 (i 0).val
  let c0_i32_341 : BitVec 32 := 0#32
  let v526 : BitVec 1 := Scalar.cmpi .sgt arg0 c0_i32_341
  let v527 : BitVec 32 := Scalar.extui v526
  let c0_i32_342 : BitVec 32 := 0#32
  let v528 : BitVec 1 := Scalar.cmpi .ne v527 c0_i32_342
  v528

def k0_cond18 (i : grid0.Coords) : BitVec 1 :=
  let arg0 : BitVec 32 := BitVec.ofNat 32 (i 0).val
  let c0_i32_355 : BitVec 32 := 0#32
  let v544 : BitVec 1 := Scalar.cmpi .eq arg0 c0_i32_355
  let v545 : BitVec 32 := Scalar.extui v544
  let c0_i32_356 : BitVec 32 := 0#32
  let v546 : BitVec 1 := Scalar.cmpi .ne v545 c0_i32_356
  v546

def k0_cond19 (i : grid0.Coords) : BitVec 1 :=
  let arg0 : BitVec 32 := BitVec.ofNat 32 (i 0).val
  let c0_i32_357 : BitVec 32 := 0#32
  let v547 : BitVec 1 := Scalar.cmpi .sgt arg0 c0_i32_357
  let v548 : BitVec 32 := Scalar.extui v547
  let c0_i32_358 : BitVec 32 := 0#32
  let v549 : BitVec 1 := Scalar.cmpi .ne v548 c0_i32_358
  v549

def k0_cond20 (i : grid0.Coords) : BitVec 1 :=
  let arg0 : BitVec 32 := BitVec.ofNat 32 (i 0).val
  let c0_i32_371 : BitVec 32 := 0#32
  let v565 : BitVec 1 := Scalar.cmpi .eq arg0 c0_i32_371
  let v566 : BitVec 32 := Scalar.extui v565
  let c0_i32_372 : BitVec 32 := 0#32
  let v567 : BitVec 1 := Scalar.cmpi .ne v566 c0_i32_372
  v567

def k0_cond21 (i : grid0.Coords) : BitVec 1 :=
  let arg0 : BitVec 32 := BitVec.ofNat 32 (i 0).val
  let c0_i32_373 : BitVec 32 := 0#32
  let v568 : BitVec 1 := Scalar.cmpi .sgt arg0 c0_i32_373
  let v569 : BitVec 32 := Scalar.extui v568
  let c0_i32_374 : BitVec 32 := 0#32
  let v570 : BitVec 1 := Scalar.cmpi .ne v569 c0_i32_374
  v570

def k0_cond22 (i : grid0.Coords) : BitVec 1 :=
  let arg0 : BitVec 32 := BitVec.ofNat 32 (i 0).val
  let c0_i32_387 : BitVec 32 := 0#32
  let v586 : BitVec 1 := Scalar.cmpi .eq arg0 c0_i32_387
  let v587 : BitVec 32 := Scalar.extui v586
  let c0_i32_388 : BitVec 32 := 0#32
  let v588 : BitVec 1 := Scalar.cmpi .ne v587 c0_i32_388
  v588

def k0_cond23 (i : grid0.Coords) : BitVec 1 :=
  let arg0 : BitVec 32 := BitVec.ofNat 32 (i 0).val
  let c0_i32_389 : BitVec 32 := 0#32
  let v589 : BitVec 1 := Scalar.cmpi .sgt arg0 c0_i32_389
  let v590 : BitVec 32 := Scalar.extui v589
  let c0_i32_390 : BitVec 32 := 0#32
  let v591 : BitVec 1 := Scalar.cmpi .ne v590 c0_i32_390
  v591

def k0_cond24 (i : grid0.Coords) : BitVec 1 :=
  let arg0 : BitVec 32 := BitVec.ofNat 32 (i 0).val
  let c0_i32_403 : BitVec 32 := 0#32
  let v607 : BitVec 1 := Scalar.cmpi .eq arg0 c0_i32_403
  let v608 : BitVec 32 := Scalar.extui v607
  let c0_i32_404 : BitVec 32 := 0#32
  let v609 : BitVec 1 := Scalar.cmpi .ne v608 c0_i32_404
  v609

def k0_cond25 (i : grid0.Coords) : BitVec 1 :=
  let arg0 : BitVec 32 := BitVec.ofNat 32 (i 0).val
  let c0_i32_405 : BitVec 32 := 0#32
  let v610 : BitVec 1 := Scalar.cmpi .sgt arg0 c0_i32_405
  let v611 : BitVec 32 := Scalar.extui v610
  let c0_i32_406 : BitVec 32 := 0#32
  let v612 : BitVec 1 := Scalar.cmpi .ne v611 c0_i32_406
  v612

def k0_cond26 (i : grid0.Coords) : BitVec 1 :=
  let arg0 : BitVec 32 := BitVec.ofNat 32 (i 0).val
  let c0_i32_435 : BitVec 32 := 0#32
  let v674 : BitVec 1 := Scalar.cmpi .eq arg0 c0_i32_435
  let v675 : BitVec 32 := Scalar.extui v674
  let c0_i32_436 : BitVec 32 := 0#32
  let v676 : BitVec 1 := Scalar.cmpi .ne v675 c0_i32_436
  v676

def k0_cond27 (i : grid0.Coords) : BitVec 1 :=
  let arg0 : BitVec 32 := BitVec.ofNat 32 (i 0).val
  let c0_i32_437 : BitVec 32 := 0#32
  let v677 : BitVec 1 := Scalar.cmpi .sgt arg0 c0_i32_437
  let v678 : BitVec 32 := Scalar.extui v677
  let c0_i32_438 : BitVec 32 := 0#32
  let v679 : BitVec 1 := Scalar.cmpi .ne v678 c0_i32_438
  v679

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x12x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x12x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S12x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S12x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Proof.Scalars.lean ====
/- The constants that the programs name, as the real numbers they are, and the few facts of extended real arithmetic
   that hold at every value, infinite ones included. -/
module

public import Idealize.ShloMosaic.Lib.Pointwise

@[expose] public section

noncomputable section

namespace Cert.Scalars

open Idealize.ShloMosaic

theorem c1024 : Ideal.ofBits .f32 0x44800000#32 = ((1024 : ℝ) : EReal) := by
  simp [Ideal.ofBits, Ideal.ieee, -EReal.coe_mul]; norm_num

theorem cInv1024 : Ideal.ofBits .f32 0x3A800000#32 = ((1 / 1024 : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul, -EReal.coe_neg]; norm_num

theorem cTwo : Ideal.ofBits .f32 0x40000000#32 = ((2 : ℝ) : EReal) := by
  simp [Ideal.ofBits, Ideal.ieee, -EReal.coe_mul]; norm_num

/-- The constant under the root of an RMS norm is a positive real. -/
theorem cEpsRms : ∃ ε : ℝ, 0 < ε ∧ Ideal.ofBits .f32 0x358637BD#32 = (ε : EReal) := by
  refine ⟨_, ?_, by simp only [Ideal.ofBits, Ideal.ieee]; simp [-EReal.coe_mul]; rfl⟩
  norm_num

/-- A square is not negative, at the infinities either. -/
theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A non-negative real factor goes through a sum of any extended reals. -/
theorem mul_sum_of_nonneg {ι : Type*} [Fintype ι] (c : ℝ) (hc : 0 ≤ c) (f : ι → EReal) :
    (c : EReal) * ∑ i, f i = ∑ i, (c : EReal) * f i := by
  classical
  induction (Finset.univ : Finset ι) using Finset.induction_on with
  | empty => simp
  | insert a s ha ih =>
    rw [Finset.sum_insert ha, Finset.sum_insert ha, EReal.left_distrib_of_nonneg_of_ne_top (by exact_mod_cast hc)
      (EReal.coe_ne_top _), ih]

/-- Twice the half of a number taken away is the number taken away, at the infinities too. -/
theorem halves_neg (a : EReal) : a * ((-(1 / 2) : ℝ) : EReal) + a * ((-(1 / 2) : ℝ) : EReal) = -a := by
  induction a with
  | bot => rw [EReal.bot_mul_coe_of_neg (by norm_num)]; rfl
  | top => rw [EReal.top_mul_coe_of_neg (by norm_num)]; rfl
  | coe x => norm_cast; ring_nf

/-- An index of a one-row array is a place of that row. -/
theorem one_row {n : ℕ} (j : (⟨2, ![1, n]⟩ : Shape).Idx) : ∃ l : Fin n, j = ix2 0 l :=
  ⟨j 1, (eq_ix2 j).trans (congrArg (fun a : Fin 1 => ix2 a (j 1 : Fin n)) (Subsingleton.elim _ _))⟩

/-- An index of a one-element array is its only place. -/
theorem one_cell (j : (⟨2, ![1, 1]⟩ : Shape).Idx) : j = ix2 0 0 := by
  obtain ⟨l, rfl⟩ := one_row j
  exact congrArg (fun a : Fin 1 => ix2 (0 : Fin 1) a) (Subsingleton.elim _ _)

end Cert.Scalars

end
-- ==== Proof.RmsGrad.lean ====
/- The gradient of an RMS norm: the two ways to write it agree at every extended real. -/
module

public import proofs.«01_k».proof.Proof.Scalars

@[expose] public section

noncomputable section

namespace Cert.RmsGrad

open Idealize.ShloMosaic Cert.Scalars

/-- What stands under the root: the mean of the squares and the constant. -/
def under {n : ℕ} (x : Fin n → EReal) : EReal :=
  Ideal.div (∑ k, x k * x k) (Ideal.ofBits .f32 0x44800000#32) + Ideal.ofBits .f32 0x358637BD#32

/-- It is a positive real or `⊤`. -/
theorem under_cases {n : ℕ} (x : Fin n → EReal) : (∃ v : ℝ, 0 < v ∧ under x = (v : EReal)) ∨ under x = ⊤ := by
  obtain ⟨ε, hε, he⟩ := cEpsRms
  have hs : 0 ≤ ∑ k, x k * x k := Finset.sum_nonneg fun k _ => sq_nonneg (x k)
  unfold under
  rw [he, c1024, Ideal.div_coe (by norm_num)]
  generalize (∑ k, x k * x k) = s at hs
  induction s with
  | bot => simp at hs
  | top => right; rw [EReal.top_mul_coe_of_pos (by norm_num)]; rfl
  | coe s =>
    left
    have hs' : (0 : ℝ) ≤ s := by exact_mod_cast hs
    exact ⟨s * (1 / 1024) + ε, by positivity, by push_cast; rfl⟩

/-- The root's reciprocal over what stands under the root is its cube. -/
theorem cube {v : EReal} (h : (∃ r : ℝ, 0 < r ∧ v = (r : EReal)) ∨ v = ⊤) :
    Ideal.div (Ideal.rsqrt v) v = Ideal.rsqrt v * Ideal.rsqrt v * Ideal.rsqrt v := by
  rcases h with ⟨r, hr, rfl⟩ | rfl
  · rw [Ideal.rsqrt_coe, if_neg hr.le.not_gt, if_neg hr.ne', Ideal.div_coe hr.ne']
    norm_cast
    have h2 : (√r)⁻¹ * (√r)⁻¹ = 1 / r := by
      rw [← mul_inv, Real.mul_self_sqrt hr.le, one_div]
    rw [mul_comm, ← h2]
  · simp [Ideal.div]

/-- THE GRADIENT WITH RESPECT TO THE INPUT: with `S` the sum of the incoming gradient times the input, the term that the
    mean of the squares brings is added twice with half its weight, or taken away once. -/
theorem input {v : EReal} (h : (∃ r : ℝ, 0 < r ∧ v = (r : EReal)) ∨ v = ⊤) (A S x : EReal) :
    A + x * Ideal.div (S * (Ideal.ofBits .f32 0xBF000000#32 * Ideal.div (Ideal.rsqrt v) v)) (Ideal.ofBits .f32 0x44800000#32)
      + Ideal.div (S * (Ideal.ofBits .f32 0xBF000000#32 * Ideal.div (Ideal.rsqrt v) v)) (Ideal.ofBits .f32 0x44800000#32) * x
      = A - x * (Ideal.rsqrt v * Ideal.rsqrt v * Ideal.rsqrt v * Ideal.div S (Ideal.ofBits .f32 0x44800000#32)) := by
  rw [cube h, c1024, cNegHalf, Ideal.div_coe (by norm_num), Ideal.div_coe (by norm_num), add_assoc, sub_eq_add_neg,
    ← halves_neg]
  congr 1
  generalize Ideal.rsqrt v = ρ
  congr 1 <;> ac_rfl

end Cert.RmsGrad

end
-- ==== Proof.LossBlock.lean ====
/- The loss head: what one block of rows computes, against the reference's value at the same place. -/
module

public import proofs.«01_k».proof.Proof.Gen.LossKernelIdeal.Value
public import proofs.«01_k».proof.Proof.Gen.LossReferenceIdeal.Read
public import proofs.«01_k».proof.Proof.RmsGrad
public import Idealize.ShloMosaic.Lib.Pipeline.ValueKit

@[expose] public section

set_option maxRecDepth 16384

noncomputable section

namespace Cert.LossBlock

open Idealize.ShloMosaic Idealize.ShloMosaic.TcCoe Idealize.SL.Sem Cert.LossKernelIdeal Cert.LossKernelIdeal.Gen Cert.LossReferenceIdeal.Read

/-- The weight of one element in the gradient of the loss. -/
theorem weight (e : EReal) : Ideal.div (Ideal.ofBits .f32 0x3F000000#32) (Ideal.ofBits .f32 0x44800000#32)
      * (Ideal.ofBits .f32 0x40000000#32 * e) = e * Ideal.ofBits .f32 0x3A800000#32 := by
  rw [Scalars.cHalf, Scalars.c1024, Scalars.cTwo, Scalars.cInv1024, Ideal.div_coe (by norm_num), ← mul_assoc, mul_comm e]
  norm_cast
  norm_num

variable (x : Vec Ideal S256x1024 .f32) (g : Vec Ideal S1x1024 .f32) (t : Vec Ideal S256x1024 .f32)
  (X : Vec Ideal S2048x1024 .f32) (G : Vec Ideal S1024 .f32) (T : Vec Ideal S2048x1024 .f32)

/-- The gradient of the rows. -/
theorem dh_eq (r : Fin 256) (q : Fin 2048) (hx : ∀ k, x (ix2 r k) = X (ix2 q k)) (hg : ∀ k, g (ix2 0 k) = G (ix1 k))
    (ht : ∀ k, t (ix2 r k) = T (ix2 q k)) (l : Fin 1024) :
    k0_pay11 (F := Ideal) x g t (ix2 r l) = val_main_v50 (F := Ideal) X G T (ix2 q l) := by
  pointwise [k0_pay11, k0_pay10, k0_pay9, k0_pay8, k0_pay7, k0_pay6, k0_pay5,
    val_main_v0, val_main_cst, val_main_v1, val_main_v2, val_main_cst_0, val_main_v3, val_main_v4,
    val_main_cst_1, val_main_v5, val_main_v6, val_main_v7, val_main_v8, val_main_cst_2, val_main_v9,
    val_main_v10, val_main_v11, val_main_v12, val_main_v13, val_main_v14, val_main_v15, val_main_v16,
    val_main_v17, val_main_cst_3, val_main_v18, val_main_v19, val_main_cst_4, val_main_v20,
    val_main_cst_5, val_main_v21, val_main_v22, val_main_cst_6, val_main_v23, val_main_cst_7,
    val_main_v24, val_main_cst_8, val_main_cst_9, val_main_v25, val_main_v26, val_main_cst_10,
    val_main_v27, val_main_v28, val_main_v29, val_main_v30, val_main_v31, val_main_cst_11,
    val_main_v32, val_main_v33, val_main_v34, val_main_v35, val_main_cst_12, val_main_v36,
    val_main_v37, val_main_cst_13, val_main_v38, val_main_v39, val_main_v40, val_main_v41,
    val_main_v42, val_main_cst_14, val_main_v43, val_main_v44, val_main_cst_15, val_main_v45,
    val_main_v46, val_main_v47, val_main_v48, val_main_v49, val_main_v50, val_main_v51, val_main_v52,
    val_main_v53]
  simp only [hx, hg, ht, weight]
  rw [Fin.sum_univ_one]
  refine Eq.trans ?_ (RmsGrad.input (RmsGrad.under_cases fun k => X (ix2 q k)) _ _ _).symm
  unfold RmsGrad.under
  generalize Ideal.rsqrt _ = ρ
  congr 1
  · ac_rfl
  · congr 3
    exact Fin.sum_fin_congr fun k => by ac_rfl

/-- One row's part of the gradient of the norm's weights. -/
def dgTerm (q : Fin 2048) (l : Fin 1024) : EReal :=
  X (ix2 q l) * Ideal.rsqrt (RmsGrad.under fun k => X (ix2 q k))
    * ((X (ix2 q l) * Ideal.rsqrt (RmsGrad.under fun k => X (ix2 q k)) * G (ix1 l) - T (ix2 q l)) * Ideal.ofBits .f32 0x3A800000#32)

/-- One row's loss: half the mean of the squared errors. -/
def lossTerm (q : Fin 2048) : EReal :=
  Ideal.ofBits .f32 0x3F000000#32 * Ideal.div (∑ l : Fin 1024,
    (X (ix2 q l) * Ideal.rsqrt (RmsGrad.under fun k => X (ix2 q k)) * G (ix1 l) - T (ix2 q l))
      * (X (ix2 q l) * Ideal.rsqrt (RmsGrad.under fun k => X (ix2 q k)) * G (ix1 l) - T (ix2 q l))) (Ideal.ofBits .f32 0x44800000#32)

/-- What one block adds to the gradient of the norm's weights. -/
theorem dg_part (q : Fin 256 → Fin 2048) (hx : ∀ r k, x (ix2 r k) = X (ix2 (q r) k)) (hg : ∀ k, g (ix2 0 k) = G (ix1 k))
    (ht : ∀ r k, t (ix2 r k) = T (ix2 (q r) k)) (l : Fin 1024) :
    k0_pay2 (F := Ideal) (k0_pay7 x) (k0_pay10 x g t) (ix2 0 l) = ∑ r : Fin 256, dgTerm X G T (q r) l := by
  pointwise [k0_pay2, k0_pay10, k0_pay9, k0_pay8, k0_pay7, k0_pay6, k0_pay5]
  simp only [hx, hg, ht, dgTerm, RmsGrad.under]
  exact Fin.sum_fin_congr fun r => mul_comm _ _

/-- The accumulating stores add the block's part to what is there. -/
theorem dg_step (a b : FVec Ideal S256x1024 .f32) (acc : Vec Ideal S1x1024 .f32) (l : Fin 1024) :
    k0_pay3 (F := Ideal) a b acc (ix2 0 l) = acc (ix2 0 l) + k0_pay2 (F := Ideal) a b (ix2 0 l) := by
  pointwise [k0_pay3, k0_pay2]

theorem loss_step (a : FVec Ideal S1x1 .f32) (acc : Vec Ideal S1x1 .f32) :
    k0_pay4 (F := Ideal) a acc (ix2 0 0) = acc (ix2 0 0) + a (ix2 0 0) := by
  pointwise [k0_pay4]

/-- The gradient at the narrow width is the gradient. -/
theorem dhb_eq (r : Fin 256) (q : Fin 2048) (hx : ∀ k, x (ix2 r k) = X (ix2 q k)) (hg : ∀ k, g (ix2 0 k) = G (ix1 k))
    (ht : ∀ k, t (ix2 r k) = T (ix2 q k)) (l : Fin 1024) :
    k0_pay1 (F := Ideal) (k0_pay11 x g t) (ix2 r l) = val_main_v51 (F := Ideal) X G T (ix2 q l) := by
  have h := dh_eq x g t X G T r q hx hg ht l
  pointwise [k0_pay1, val_main_v51]
  exact h

/-- What one block adds to the loss. -/
theorem loss_part (q : Fin 256 → Fin 2048) (hx : ∀ r k, x (ix2 r k) = X (ix2 (q r) k)) (hg : ∀ k, g (ix2 0 k) = G (ix1 k))
    (ht : ∀ r k, t (ix2 r k) = T (ix2 (q r) k)) :
    k0_pay9 (F := Ideal) x g t (ix2 0 0) = ∑ r : Fin 256, lossTerm X G T (q r) := by
  pointwise [k0_pay2, k0_pay10, k0_pay9, k0_pay8, k0_pay7, k0_pay6, k0_pay5]
  simp only [hx, hg, ht, lossTerm, RmsGrad.under]
  rw [Scalars.cHalf, Scalars.mul_sum_of_nonneg _ (by norm_num)]

/-- The reference's gradient of the norm's weights is the sum over the rows. -/
theorem dg_ref (l : Fin 1024) : val_main_v52 (F := Ideal) X G T (ix2 0 l) = ∑ q : Fin 2048, dgTerm X G T q l := by
  pointwise [    val_main_v0, val_main_cst, val_main_v1, val_main_v2, val_main_cst_0, val_main_v3, val_main_v4,
    val_main_cst_1, val_main_v5, val_main_v6, val_main_v7, val_main_v8, val_main_cst_2, val_main_v9,
    val_main_v10, val_main_v11, val_main_v12, val_main_v13, val_main_v14, val_main_v15, val_main_v16,
    val_main_v17, val_main_cst_3, val_main_v18, val_main_v19, val_main_cst_4, val_main_v20,
    val_main_cst_5, val_main_v21, val_main_v22, val_main_cst_6, val_main_v23, val_main_cst_7,
    val_main_v24, val_main_cst_8, val_main_cst_9, val_main_v25, val_main_v26, val_main_cst_10,
    val_main_v27, val_main_v28, val_main_v29, val_main_v30, val_main_v31, val_main_cst_11,
    val_main_v32, val_main_v33, val_main_v34, val_main_v35, val_main_cst_12, val_main_v36,
    val_main_v37, val_main_cst_13, val_main_v38, val_main_v39, val_main_v40, val_main_v41,
    val_main_v42, val_main_cst_14, val_main_v43, val_main_v44, val_main_cst_15, val_main_v45,
    val_main_v46, val_main_v47, val_main_v48, val_main_v49, val_main_v50, val_main_v51, val_main_v52,
    val_main_v53]
  simp only [Fin.sum_univ_one, dgTerm, RmsGrad.under, weight]

/-- The reference's loss is the sum over the rows. -/
theorem loss_ref : val_main_v53 (F := Ideal) X G T (ix2 0 0) = ∑ q : Fin 2048, lossTerm X G T q := by
  pointwise [    val_main_v0, val_main_cst, val_main_v1, val_main_v2, val_main_cst_0, val_main_v3, val_main_v4,
    val_main_cst_1, val_main_v5, val_main_v6, val_main_v7, val_main_v8, val_main_cst_2, val_main_v9,
    val_main_v10, val_main_v11, val_main_v12, val_main_v13, val_main_v14, val_main_v15, val_main_v16,
    val_main_v17, val_main_cst_3, val_main_v18, val_main_v19, val_main_cst_4, val_main_v20,
    val_main_cst_5, val_main_v21, val_main_v22, val_main_cst_6, val_main_v23, val_main_cst_7,
    val_main_v24, val_main_cst_8, val_main_cst_9, val_main_v25, val_main_v26, val_main_cst_10,
    val_main_v27, val_main_v28, val_main_v29, val_main_v30, val_main_v31, val_main_cst_11,
    val_main_v32, val_main_v33, val_main_v34, val_main_v35, val_main_cst_12, val_main_v36,
    val_main_v37, val_main_cst_13, val_main_v38, val_main_v39, val_main_v40, val_main_v41,
    val_main_v42, val_main_cst_14, val_main_v43, val_main_v44, val_main_cst_15, val_main_v45,
    val_main_v46, val_main_v47, val_main_v48, val_main_v49, val_main_v50, val_main_v51, val_main_v52,
    val_main_v53]
  simp only [lossTerm, RmsGrad.under]
  rw [Scalars.cHalf, Scalars.mul_sum_of_nonneg _ (by norm_num)]

end Cert.LossBlock

end
-- ==== Proof.LossFinal.lean ====
/- The loss head: each result array of the kernel is the reference's. -/
module

public import proofs.«01_k».proof.Proof.LossBlock

@[expose] public section

set_option maxRecDepth 16384

noncomputable section

namespace Cert.LossFinal

open Idealize.ShloMosaic Idealize.ShloMosaic.TcCoe Idealize.SL.Sem Cert.LossKernelIdeal Cert.LossKernelIdeal.Gen Cert.LossReferenceIdeal.Read
  Cert.LossBlock

variable (m : (ℓ : Loc nD τ sig) → Buf (Elt Ideal) ℓ) (c : Dev nD)

/-- The hidden rows, the norm's weights and the targets, as the run finds them. -/
abbrev X : Vec Ideal S2048x1024 .f32 := m ((c : Thread nD τ).loc main_arg0)
abbrev G : Vec Ideal S1024 .f32 := m ((c : Thread nD τ).loc main_arg1)
abbrev T : Vec Ideal S2048x1024 .f32 := m ((c : Thread nD τ).loc main_arg2)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The row of the array that row `r` of block `t` is. -/
def row (t : Fin cfg0.N) (r : Fin 256) : Fin 2048 := ⟨t.val * 256 + r.val, by have := t.isLt.trans_eq N_0; omega⟩

/-- The weights as the one row that the kernel is given. -/
theorem V_main_v0 : V m c main_v0 = broadcastInDim S1x1024 ![1] bcast_S1024_S1x1024_1 (G m c) := by
  unfold V; after_results

theorem blk_x (t : Fin cfg0.N) (r : Fin 256) (k : Fin 1024) :
    (iblk m c 0 t : Vec Ideal S256x1024 .f32) (ix2 r k) = X m c (ix2 (row t r) k) := by
  blk_point [iblk, V, idx t, row]

theorem blk_t (t : Fin cfg0.N) (r : Fin 256) (k : Fin 1024) :
    (iblk m c 2 t : Vec Ideal S256x1024 .f32) (ix2 r k) = T m c (ix2 (row t r) k) := by
  blk_point [iblk, V, idx t, row]

theorem blk_g (t : Fin cfg0.N) (k : Fin 1024) :
    (iblk m c 1 t : Vec Ideal S1x1024 .f32) (ix2 0 k) = G m c (ix1 k) := by
  blk_point [iblk, V_main_v0, idx t]

/-- What the three kinds of store leave at a point: the rows' gradient, and its copy at the narrow width. -/
theorem out_rows (t : Fin cfg0.N) :
    (outsAt0 m c t.val t.isLt).1 = k0_pay11 (F := Ideal) (iblk m c 0 t) (iblk m c 1 t) (iblk m c 2 t)
    ∧ (outsAt0 m c t.val t.isLt).2.1
      = k0_pay1 (F := Ideal) (k0_pay11 (F := Ideal) (iblk m c 0 t) (iblk m c 1 t) (iblk m c 2 t)) := by
  by_cases h : t.val % 8 = 0
  · rw [outsAt0_A m c t h (by have := t.isLt.trans_eq N_0; omega)]; constructor <;> frame_out
  · rw [outsAt0_B m c t h (by omega)]; constructor <;> frame_out

/-- The place in the array of place `(r, l)` of block `t`. -/
theorem emb3 (t : Fin cfg0.N) (r : Fin 256) (l : Fin 1024) : (win0_3.blk t).view.emb (ix2 r l) = ix2 (row t r) l := by
  blk_ext [idx t, row]

theorem emb4 (t : Fin cfg0.N) (r : Fin 256) (l : Fin 1024) : (win0_4.blk t).view.emb (ix2 r l) = ix2 (row t r) l := by
  blk_ext [idx t, row]

/-- The gradient of the rows. -/
theorem final3 : (dats m 0 c).arrAt 3 cfg0.N = val_main_v50 (F := Ideal) (X m c) (G m c) (T m c) := by
  refine (dats m 0 c).arrAt_eq_of_covers 3 _ (by decide +kernel) fun t hf y => ?_
  blk_simp
  rw [after0_3, (out_rows m c t).1]
  obtain ⟨r, l, rfl⟩ : ∃ (r : Fin 256) (l : Fin 1024), y = ix2 r l := ⟨y 0, y 1, eq_ix2 y⟩
  rw [emb3]
  exact dh_eq _ _ _ _ _ _ r (row t r) (blk_x m c t r) (blk_g m c t) (blk_t m c t r) l

/-- Its copy at the narrow width. -/
theorem final4 : (dats m 0 c).arrAt 4 cfg0.N = val_main_v51 (F := Ideal) (X m c) (G m c) (T m c) := by
  refine (dats m 0 c).arrAt_eq_of_covers 4 _ (by decide +kernel) fun t hf y => ?_
  blk_simp
  rw [after0_4, (out_rows m c t).2]
  obtain ⟨r, l, rfl⟩ : ∃ (r : Fin 256) (l : Fin 1024), y = ix2 r l := ⟨y 0, y 1, eq_ix2 y⟩
  rw [emb4]
  exact dhb_eq _ _ _ _ _ _ r (row t r) (blk_x m c t r) (blk_g m c t) (blk_t m c t r) l

/-- The gradient of the norm's weights. -/
theorem final5 : (dats m 0 c).arrAt 5 cfg0.N = val_main_v52 (F := Ideal) (X m c) (G m c) (T m c) := by
  refine (dats m 0 c).arrAt_eq_of_after_last 5 t0_7 (by decide +kernel) _ fun j => ?_
  blk_simp
  rw [after0_5, Pipeline.eq_sum_fin_of_reset_step_apply_last (fun n h => (outsAt0 m c n h).2.2.1) 8 (fun _ => 0)
    (fun t j => (k0_pay2 (F := Ideal) (k0_pay7 (iblk m c 0 t)) (k0_pay10 (iblk m c 0 t) (iblk m c 1 t) (iblk m c 2 t)) j : EReal))
    (fun t h j => by
      rw [outsAt0_A m c t h (by have := t.isLt.trans_eq N_0; omega)]; frame_out; exact (zero_add _).symm)
    (fun t h j => by
      rw [outsAt0_B m c t h (by omega)]; frame_out
      obtain ⟨l, rfl⟩ : ∃ l : Fin 1024, j = ix2 0 l := Scalars.one_row j
      exact dg_step _ _ _ l)
    (le_of_eq N_0) t0_7 rfl j, zero_add]
  obtain ⟨l, rfl⟩ : ∃ l : Fin 1024, j = ix2 0 l := Scalars.one_row j
  rw [dg_ref, ← Fin.sum_mul_add_fin 8 256 (fun q => dgTerm (X m c) (G m c) (T m c) q l)]
  exact Fin.sum_fin_congr fun t => dg_part _ _ _ _ _ _ (row t) (blk_x m c t) (blk_g m c t) (blk_t m c t) l

/-- The loss. -/
theorem final6 : (dats m 0 c).arrAt 6 cfg0.N = val_main_v53 (F := Ideal) (X m c) (G m c) (T m c) := by
  refine (dats m 0 c).arrAt_eq_of_after_last 6 t0_7 (by decide +kernel) _ fun j => ?_
  blk_simp
  obtain rfl : j = ix2 0 0 := Scalars.one_cell j
  rw [after0_6, Pipeline.eq_sum_fin_of_reset_step_apply_last (fun n h => (outsAt0 m c n h).2.2.2) 8 (fun _ => 0)
    (fun t j => (k0_pay9 (F := Ideal) (iblk m c 0 t) (iblk m c 1 t) (iblk m c 2 t) j : EReal))
    (fun t h j => by
      rw [outsAt0_A m c t h (by have := t.isLt.trans_eq N_0; omega)]; frame_out; exact (zero_add _).symm)
    (fun t h j => by
      rw [outsAt0_B m c t h (by omega)]; frame_out
      obtain rfl : j = ix2 0 0 := Scalars.one_cell j
      exact loss_step _ _)
    (le_of_eq N_0) t0_7 rfl _, zero_add]
  rw [loss_ref, ← Fin.sum_mul_add_fin 8 256 (fun q => lossTerm (X m c) (G m c) (T m c) q)]
  exact Fin.sum_fin_congr fun t => loss_part _ _ _ _ _ _ (row t) (blk_x m c t) (blk_g m c t) (blk_t m c t)

end Cert.LossFinal

end
-- ==== Proof.LossClaim.lean ====
/- The loss head: the two programs' claims. -/
module

public import proofs.«01_k».proof.Defs
public import proofs.«01_k».proof.Proof.Gen.LossReferenceIdeal.Run
public import proofs.«01_k».proof.Proof.LossFinal

@[expose] public section

set_option maxRecDepth 16384

noncomputable section

namespace Cert.LossClaim

open Idealize.ShloMosaic Idealize.ShloMosaic.TcCoe Idealize.SL.Sem

/-- The reference leaves its arguments alone and has no semaphores. -/
theorem frame_reference : Cert.quiescent_LossReferenceIdeal := fun m ρ _ =>
  (θ_run Cert.LossReferenceIdeal.defs _ _).mono
    (fun r h => ⟨fun c => (h c).2.2.2.2, sem_eq_zero_of_no_sems (by decide) r.2⟩)
    (Cert.LossReferenceIdeal.Value.run (F := Ideal) m ρ)

/-- All four results agree. -/
theorem algebraic : Cert.algebraic_LossKernelIdeal_LossReferenceIdeal := by
  intro m g m' g' _ hargs
  refine ⟨fun c => (Cert.LossKernelIdeal.Gen.dats m 0 c).arrAt 3 Cert.LossKernelIdeal.cfg0.N,
    fun c => (Cert.LossKernelIdeal.Gen.dats m 0 c).arrAt 4 Cert.LossKernelIdeal.cfg0.N,
    fun c => (Cert.LossKernelIdeal.Gen.dats m 0 c).arrAt 5 Cert.LossKernelIdeal.cfg0.N,
    fun c => (Cert.LossKernelIdeal.Gen.dats m 0 c).arrAt 6 Cert.LossKernelIdeal.cfg0.N,
    Cert.LossKernelIdeal.Value.run_blocks m g,
    (θ_run _ _ _).mono (fun r h c => ?_) (Cert.LossReferenceIdeal.Value.run (F := Ideal) m' g')⟩
  obtain ⟨h0, h1, h2, h3, hk⟩ := h c
  obtain ⟨a0, a1, a2⟩ := hargs c
  refine ⟨h0.trans ?_, h1.trans ?_, h2.trans ?_, h3.trans ?_, hk⟩
  · rw [Cert.LossReferenceIdeal.Read.val_main_v50_eq, a0, a1, a2]; exact (LossFinal.final3 m c).symm
  · rw [Cert.LossReferenceIdeal.Read.val_main_v51_eq, a0, a1, a2]; exact (LossFinal.final4 m c).symm
  · rw [Cert.LossReferenceIdeal.Read.val_main_v52_eq, a0, a1, a2]; exact (LossFinal.final5 m c).symm
  · rw [Cert.LossReferenceIdeal.Read.val_main_v53_eq, a0, a1, a2]; exact (LossFinal.final6 m c).symm

end Cert.LossClaim

end
-- ==== Proof.DnRun.lean ====
/- The gradient through the norm and the projection into the even layers: one call of the body at each kind of grid point. -/
module

public import proofs.«01_k».proof.Proof.Gen.DnKernelIdeal.Launch
public import proofs.«01_k».proof.Proof.Gen.DnKernelIdeal.Skeleton
public import proofs.«01_k».proof.Proof.Gen.DnKernelIdeal.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic
public import Idealize.ShloMosaic.Lib.WordCmp
public import Idealize.ShloMosaic.Lib.Pipeline.ValueKit

@[expose] public section

set_option maxRecDepth 16384

noncomputable section

namespace Cert.DnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DnKernelIdeal Cert.DnKernelIdeal.Gen

variable {F : FTy → Type} [FloatOps F]

local notation "𝕄" => MT nD τ sig Unit (Elt F) ℕ (UR sig nD τ) ℕ

/-! What one point of the grid does to the accumulator and to the three outputs. The accumulator holds one slab of
1024 rows per row tile; a point reads and rewrites the slab of its own row tile only. -/

/-- The offsets of the slab of row tile `b`. -/
abbrev at_ (b : Fin 2) : Fin S2x1024x1024.rank → ℕ := ![b.val, 0, 0]

theorem at_inb : ∀ (b : Fin 2) (a : Fin S2x1024x1024.rank), at_ b a + S1x1024x1024.size a ≤ S2x1024x1024.size a := by decide

/-- The slab of row tile `b`. -/
def get {e : EltTy} (b : Fin 2) (S : Vec F S2x1024x1024 e) : Vec F S1x1024x1024 e := VecWindow.window S (at_ b) S1x1024x1024.size (at_inb b)

/-- The accumulator with the slab of row tile `b` replaced. -/
def put {e : EltTy} (b : Fin 2) (S : Vec F S2x1024x1024 e) (w : Vec F S1x1024x1024 e) : Vec F S2x1024x1024 e :=
  VecWindow.put S (at_ b) S1x1024x1024.size w

theorem get_put {e : EltTy} (b : Fin 2) (S : Vec F S2x1024x1024 e) (w : Vec F S1x1024x1024 e) : get b (put b S w) = w :=
  VecWindow.window_put_same S (at_ b) S1x1024x1024.size (at_inb b) w

theorem get_put_ne {e : EltTy} (b b' : Fin 2) (hb : b' ≠ b) (S : Vec F S2x1024x1024 e) (w : Vec F S1x1024x1024 e) :
    get b' (put b S w) = get b' S :=
  VecWindow.window_put_of_disjoint S (at_ b) S1x1024x1024.size (at_ b') S1x1024x1024.size (at_inb b') w (0 : Fin 3)
    (by
      have hv : b'.val ≠ b.val := fun h => hb (Fin.ext h)
      show b'.val + 1 ≤ b.val ∨ b.val + 1 ≤ b'.val
      omega)

theorem congr3 {α β γ δ : Sort _} (f : α → β → γ → δ) {a a' : α} {b b' : β} {c c' : γ} (ha : a = a') (hb : b = b') (hc : c = c') :
    f a b c = f a' b' c' := by subst ha hb hc; rfl

theorem congr4 {α β γ δ ε : Sort _} (f : α → β → γ → δ → ε) {a a' : α} {b b' : β} {c c' : γ} {d d' : δ} (ha : a = a') (hb : b = b') (hc : c = c') (hd : d = d') :
    f a b c d = f a' b' c' d' := by subst ha hb hc hd; rfl

/-- A load of a whole buffer reads its contents. -/
theorem load_full {σ : RefSig} {Val : EltTy → Type} {s : Shape} {e : EltTy} {M : Memref σ .tc .vmem s e} (h : M.IsWhole) (X : s.Idx → Val e)
    {off : Fin s.rank → ℕ} (inb : ∀ a, off a + s.size a ≤ s.size a) :
    M.view.readAt Val (Rect.unit off s.size inb).toLoadRect (h.unread X) = X :=
  (View.readAt_full M.view _ inb).trans (h.read_unread X)

/-- The offsets the body computes for a point's slab. -/
theorem off_eq : ∀ b : Fin 2, (![(Scalar.indexCast (BitVec.ofNat 32 b.val) : Index).toNat, 0, 0] : Fin S2x1024x1024.rank → ℕ) = at_ b := by decide

/-- Reading the slab at a point's offsets. -/
theorem load_slab {σ : RefSig} {e : EltTy} {M : Memref σ .tc .vmem S2x1024x1024 e} (S : Vec F S2x1024x1024 e) (f : M.view.ty.Contents (Elt F)) (hf : M.view.read (Elt F) f = S)
    (b : Fin 2) {off : Fin S2x1024x1024.rank → ℕ} (ho : off = at_ b) (inb : ∀ a, off a + S1x1024x1024.size a ≤ S2x1024x1024.size a) :
    M.view.readAt (Elt F) (Rect.unit (s := S2x1024x1024) off S1x1024x1024.size inb).toLoadRect f = get b S := by
  subst hf
  exact View.readAt_unit M.view f inb ho (at_inb b)

/-- Storing the slab at a point's offsets. -/
theorem store_slab {σ : RefSig} {e : EltTy} {M : Memref σ .tc .vmem S2x1024x1024 e} (S : Vec F S2x1024x1024 e) (f : M.view.ty.Contents (Elt F)) (hf : M.view.read (Elt F) f = S)
    (b : Fin 2) {off : Fin S2x1024x1024.rank → ℕ} (ho : off = at_ b) (inb : ∀ a, off a + S1x1024x1024.size a ≤ S2x1024x1024.size a) (w : Vec F S1x1024x1024 e) :
    M.view.read (Elt F) (M.view.writes (Elt F) f [⟨Rect.unit (s := S2x1024x1024) off S1x1024x1024.size inb, w⟩]) = put b S w := by
  subst hf
  exact View.read_writes_cons_put M.view f inb w [] ho

/-- Reading back the slab just stored. -/
theorem cover_slab {σ : RefSig} {e : EltTy} {M : Memref σ .tc .vmem S2x1024x1024 e} (b : Fin 2) {off off' : Fin S2x1024x1024.rank → ℕ} (ho : off = at_ b) (ho' : off' = at_ b)
    (inb : ∀ a, off a + S1x1024x1024.size a ≤ S2x1024x1024.size a) (inb' : ∀ a, off' a + S1x1024x1024.size a ≤ S2x1024x1024.size a) (w : Vec F S1x1024x1024 e) :
    M.view.readCov [⟨Rect.unit (s := S2x1024x1024) off S1x1024x1024.size inb, w⟩] (Rect.unit (s := S2x1024x1024) off' S1x1024x1024.size inb').toLoadRect = w :=
  (load_slab _ _ (store_slab _ M.view.junk rfl b ho inb w) b ho' inb').trans (get_put b _ w)

set_option maxHeartbeats 800000 in
/-- A point of the first block: the slab becomes the first product. -/
theorem run_A (c : Dev nD) (i : grid0.Coords) (arg2 : Memref sig .tc .vmem S1024x1280 .bf16) (harg2 : arg2.IsWhole) (arg3 : Memref sig .tc .vmem S1x1x1024x1280 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole)
    (h1 : k0_cond1 i = 1#1) (h2 : ¬k0_cond2 i = 1#1) (h3 : ¬k0_cond3 i = 1#1)
    (x0 : Vec F S1024x1280 .bf16) (x1 : Vec F S1x1x1024x1280 .bf16) (S : Vec F S2x1024x1024 .f32)
    (E : Set ℕ) (K : PUnit → sProp 𝕄) :
    iprop(owns (c : Thread nD τ) arg2 fullShare x0 ∗ owns (c : Thread nD τ) arg3 fullShare x1 ∗ owns (c : Thread nD τ) arg11 fullShare S
        ∗ (iprop(owns (c : Thread nD τ) arg2 fullShare x0 ∗ owns (c : Thread nD τ) arg3 fullShare x1 ∗ owns (c : Thread nD τ) arg11 fullShare (put (i 1) S (k0_pay2 x0 x1))) -∗ K ⟨⟩))
      ⊢ wp frame (wpE (defs₀ (F := F)) Variants.none c none) E (cc0_dn_proj_even i arg2 harg2 arg3 harg3 arg4 harg4 arg5 harg5 arg6 harg6 arg7 harg7 arg8 harg8 arg9 harg9 arg10 harg10 arg11 harg11) K := by
  simp only [cc0_dn_proj_even_eq_skeleton]; unfold cc0_dn_proj_even_skel
  unfold owns
  iintro ⟨⟨%f0, %hf0, H0⟩, ⟨%f1, %hf1, H1⟩, ⟨%f9, %hf9, H9⟩, Hk⟩
  obtain rfl := harg2.eq_unread hf0; obtain rfl := harg3.eq_unread hf1; obtain rfl := harg11.eq_unread hf9
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr; pick_goal 2
  · iexact H9
  ipureintro; exact (store_slab S _ (harg11.read_unread S) (i 1) (off_eq (i 1)) _ _).trans (congrArg (put (i 1) S) (congrArg₂ k0_pay2 (load_full harg2 x0 _) (load_full harg3 x1 _)))

set_option maxHeartbeats 800000 in
/-- A point of a middle block: the product is added to the slab. -/
theorem run_B (c : Dev nD) (i : grid0.Coords) (arg2 : Memref sig .tc .vmem S1024x1280 .bf16) (harg2 : arg2.IsWhole) (arg3 : Memref sig .tc .vmem S1x1x1024x1280 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole)
    (h1 : ¬k0_cond1 i = 1#1) (h2 : k0_cond2 i = 1#1) (h3 : ¬k0_cond3 i = 1#1)
    (x0 : Vec F S1024x1280 .bf16) (x1 : Vec F S1x1x1024x1280 .bf16) (S : Vec F S2x1024x1024 .f32)
    (E : Set ℕ) (K : PUnit → sProp 𝕄) :
    iprop(owns (c : Thread nD τ) arg2 fullShare x0 ∗ owns (c : Thread nD τ) arg3 fullShare x1 ∗ owns (c : Thread nD τ) arg11 fullShare S
        ∗ (iprop(owns (c : Thread nD τ) arg2 fullShare x0 ∗ owns (c : Thread nD τ) arg3 fullShare x1 ∗ owns (c : Thread nD τ) arg11 fullShare (put (i 1) S (k0_pay3 x0 x1 (get (i 1) S)))) -∗ K ⟨⟩))
      ⊢ wp frame (wpE (defs₀ (F := F)) Variants.none c none) E (cc0_dn_proj_even i arg2 harg2 arg3 harg3 arg4 harg4 arg5 harg5 arg6 harg6 arg7 harg7 arg8 harg8 arg9 harg9 arg10 harg10 arg11 harg11) K := by
  simp only [cc0_dn_proj_even_eq_skeleton]; unfold cc0_dn_proj_even_skel
  unfold owns
  iintro ⟨⟨%f0, %hf0, H0⟩, ⟨%f1, %hf1, H1⟩, ⟨%f9, %hf9, H9⟩, Hk⟩
  obtain rfl := harg2.eq_unread hf0; obtain rfl := harg3.eq_unread hf1; obtain rfl := harg11.eq_unread hf9
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr; pick_goal 2
  · iexact H9
  ipureintro; exact (store_slab S _ (harg11.read_unread S) (i 1) (off_eq (i 1)) _ _).trans (congrArg (put (i 1) S) (congr3 k0_pay3 (load_full harg2 x0 _) (load_full harg3 x1 _) (load_slab S _ (harg11.read_unread S) (i 1) (off_eq (i 1)) _)))

set_option maxHeartbeats 800000 in
/-- The last block's first row tile: the product is added, the outputs are stored, the gain's sum starts. -/
theorem run_C (c : Dev nD) (i : grid0.Coords) (arg2 : Memref sig .tc .vmem S1024x1280 .bf16) (harg2 : arg2.IsWhole) (arg3 : Memref sig .tc .vmem S1x1x1024x1280 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole)
    (h1 : ¬k0_cond1 i = 1#1) (h2 : k0_cond2 i = 1#1) (h3 : k0_cond3 i = 1#1) (h4 : k0_cond4 i = 1#1) (h5 : ¬k0_cond5 i = 1#1)
    (x0 : Vec F S1024x1280 .bf16) (x1 : Vec F S1x1x1024x1280 .bf16) (x2 : Vec F S1024x1024 .f32) (x3 : Vec F S1x1x1024 .f32) (x4 : Vec F S1024x1024 .f32) (S : Vec F S2x1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (k0_pay7 x2 (k0_pay3 x0 x1 (get (i 1) S)) x3 x4) ∗ owns (c : Thread nD τ) arg9 fullShare (k0_pay8 x2 (k0_pay3 x0 x1 (get (i 1) S)) x3 x4) ∗ owns (c : Thread nD τ) arg10 fullShare (k0_pay9 x2 (k0_pay3 x0 x1 (get (i 1) S))) ∗ owns (c : Thread nD τ) arg11 fullShare (put (i 1) S (k0_pay3 x0 x1 (get (i 1) S)))) -∗ K ⟨⟩))
      ⊢ wp frame (wpE (defs₀ (F := F)) Variants.none c none) E (cc0_dn_proj_even i arg2 harg2 arg3 harg3 arg4 harg4 arg5 harg5 arg6 harg6 arg7 harg7 arg8 harg8 arg9 harg9 arg10 harg10 arg11 harg11) K := by
  simp only [cc0_dn_proj_even_eq_skeleton]; unfold cc0_dn_proj_even_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg11.eq_unread hf9
  sl_exec (disch := first | sl_exact h1 | sl_exact h2 | sl_exact h3 | sl_exact h4 | sl_exact h5)
  sl_step
  iapply Hk
  have slab : run_C.sl.v23 c i arg2 harg2 arg3 harg3 arg11 harg11 h2 h3 x0 x1 S = (k0_pay3 x0 x1 (get (i 1) S)) := by
    unfold run_C.sl.v23 run_C.sl.H9_1
    exact (cover_slab (i 1) (off_eq (i 1)) (off_eq (i 1)) _ _ _).trans (congr3 k0_pay3 (load_full harg2 x0 _) (load_full harg3 x1 _) (load_slab S _ (harg11.read_unread S) (i 1) (off_eq (i 1)) _))
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H6]
  · iexists _; isplitr; pick_goal 2
    · iexact H6
    ipureintro; refine (View.read_writes_full _ _ _ _ []).trans ?_
    exact congr4 k0_pay7 (load_full harg4 x2 _) slab (load_full harg5 x3 _) (load_full harg6 x4 _)
  isplitl [H7]
  · iexists _; isplitr; pick_goal 2
    · iexact H7
    ipureintro; refine (View.read_writes_full _ _ _ _ []).trans ?_
    exact congr4 k0_pay8 (load_full harg4 x2 _) slab (load_full harg5 x3 _) (load_full harg6 x4 _)
  isplitl [H8]
  · iexists _; isplitr; pick_goal 2
    · iexact H8
    ipureintro; refine (View.read_writes_full _ _ _ _ []).trans ?_
    unfold run_C.sl.r
    exact (congrArg₂ k0_pay9 (load_full harg4 x2 _) slab)
  iexists _; isplitr; pick_goal 2
  · iexact H9
  ipureintro; unfold run_C.sl.H9_1
  exact (store_slab S _ (harg11.read_unread S) (i 1) (off_eq (i 1)) _ _).trans (congrArg (put (i 1) S) (congr3 k0_pay3 (load_full harg2 x0 _) (load_full harg3 x1 _) (load_slab S _ (harg11.read_unread S) (i 1) (off_eq (i 1)) _)))

set_option maxHeartbeats 800000 in
/-- The last block's second row tile: as before, and the gain's sum is continued. -/
theorem run_D (c : Dev nD) (i : grid0.Coords) (arg2 : Memref sig .tc .vmem S1024x1280 .bf16) (harg2 : arg2.IsWhole) (arg3 : Memref sig .tc .vmem S1x1x1024x1280 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S8x128 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S2x1024x1024 .f32) (harg11 : arg11.IsWhole)
    (h1 : ¬k0_cond1 i = 1#1) (h2 : k0_cond2 i = 1#1) (h3 : k0_cond3 i = 1#1) (h4 : ¬k0_cond4 i = 1#1) (h5 : k0_cond5 i = 1#1)
    (x0 : Vec F S1024x1280 .bf16) (x1 : Vec F S1x1x1024x1280 .bf16) (x2 : Vec F S1024x1024 .f32) (x3 : Vec F S1x1x1024 .f32) (x4 : Vec F S1024x1024 .f32) (S : Vec F S2x1024x1024 .f32) (xo : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ owns (c : Thread nD τ) arg10 fullShare xo ∗ owns (c : Thread nD τ) arg11 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (k0_pay7 x2 (k0_pay3 x0 x1 (get (i 1) S)) x3 x4) ∗ owns (c : Thread nD τ) arg9 fullShare (k0_pay8 x2 (k0_pay3 x0 x1 (get (i 1) S)) x3 x4) ∗ owns (c : Thread nD τ) arg10 fullShare (k0_pay4 (k0_pay9 x2 (k0_pay3 x0 x1 (get (i 1) S))) xo) ∗ owns (c : Thread nD τ) arg11 fullShare (put (i 1) S (k0_pay3 x0 x1 (get (i 1) S)))) -∗ K ⟨⟩))
      ⊢ wp frame (wpE (defs₀ (F := F)) Variants.none c none) E (cc0_dn_proj_even i arg2 harg2 arg3 harg3 arg4 harg4 arg5 harg5 arg6 harg6 arg7 harg7 arg8 harg8 arg9 harg9 arg10 harg10 arg11 harg11) K := by
  simp only [cc0_dn_proj_even_eq_skeleton]; unfold cc0_dn_proj_even_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact h1 | sl_exact h2 | sl_exact h3 | sl_exact h4 | sl_exact h5)
  sl_step
  iapply Hk
  have slab : run_D.sl.v23 c i arg2 harg2 arg3 harg3 arg11 harg11 h2 h3 x0 x1 S = (k0_pay3 x0 x1 (get (i 1) S)) := by
    unfold run_D.sl.v23 run_D.sl.H9_1
    exact (cover_slab (i 1) (off_eq (i 1)) (off_eq (i 1)) _ _ _).trans (congr3 k0_pay3 (load_full harg2 x0 _) (load_full harg3 x1 _) (load_slab S _ (harg11.read_unread S) (i 1) (off_eq (i 1)) _))
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H6]
  · iexists _; isplitr; pick_goal 2
    · iexact H6
    ipureintro; refine (View.read_writes_full _ _ _ _ []).trans ?_
    exact congr4 k0_pay7 (load_full harg4 x2 _) slab (load_full harg5 x3 _) (load_full harg6 x4 _)
  isplitl [H7]
  · iexists _; isplitr; pick_goal 2
    · iexact H7
    ipureintro; refine (View.read_writes_full _ _ _ _ []).trans ?_
    exact congr4 k0_pay8 (load_full harg4 x2 _) slab (load_full harg5 x3 _) (load_full harg6 x4 _)
  isplitl [H8]
  · iexists _; isplitr; pick_goal 2
    · iexact H8
    ipureintro; refine (View.read_writes_full _ _ _ _ []).trans ?_
    unfold run_D.sl.r
    exact congrArg₂ k0_pay4 (congrArg₂ k0_pay9 (load_full harg4 x2 _) slab) (load_full harg10 xo _)
  iexists _; isplitr; pick_goal 2
  · iexact H9
  ipureintro; unfold run_D.sl.H9_1
  exact (store_slab S _ (harg11.read_unread S) (i 1) (off_eq (i 1)) _ _).trans (congrArg (put (i 1) S) (congr3 k0_pay3 (load_full harg2 x0 _) (load_full harg3 x1 _) (load_slab S _ (harg11.read_unread S) (i 1) (off_eq (i 1)) _)))

end Cert.DnRun

end
-- ==== Proof.DnFrame.lean ====
/- The gradient through the norm and the projection into the even layers: the run of the whole grid. -/
module

public import proofs.«01_k».proof.Proof.DnRun

@[expose] public section

set_option maxRecDepth 16384

noncomputable section

namespace Cert.DnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DnKernelIdeal Cert.DnKernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the grid finds -/

/-- The contents of a buffer when the grid starts. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- The lines before the grid write none of the arguments. -/
theorem V_arg (c : Dev nD) (b : Ref sig .tc) (h0 : b ≠ main_v0) (h1 : b ≠ main_v1) (h2 : b ≠ main_cst) (h3 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.nullary_writes, StableHlo.unary_writes, Finset.mem_singleton]
    exact ⟨StableHlo.devRef_ne_of_ne h0, StableHlo.devRef_ne_of_ne h1, StableHlo.devRef_ne_of_ne h2, StableHlo.devRef_ne_of_ne h3⟩))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Which case a point is -/

theorem cond1 : ∀ t : Fin cfg0.N, k0_cond1 (grid0.coords t) = 1#1 ↔ t.val < 2 :=
  (by decide +kernel : ∀ t : Fin grid0.N, k0_cond1 (grid0.coords t) = 1#1 ↔ t.val < 2)
theorem cond2 : ∀ t : Fin cfg0.N, k0_cond2 (grid0.coords t) = 1#1 ↔ 2 ≤ t.val :=
  (by decide +kernel : ∀ t : Fin grid0.N, k0_cond2 (grid0.coords t) = 1#1 ↔ 2 ≤ t.val)
theorem cond3 : ∀ t : Fin cfg0.N, k0_cond3 (grid0.coords t) = 1#1 ↔ 6 ≤ t.val :=
  (by decide +kernel : ∀ t : Fin grid0.N, k0_cond3 (grid0.coords t) = 1#1 ↔ 6 ≤ t.val)
theorem cond4 : ∀ t : Fin cfg0.N, k0_cond4 (grid0.coords t) = 1#1 ↔ t.val % 2 = 0 :=
  (by decide +kernel : ∀ t : Fin grid0.N, k0_cond4 (grid0.coords t) = 1#1 ↔ t.val % 2 = 0)
theorem cond5 : ∀ t : Fin cfg0.N, k0_cond5 (grid0.coords t) = 1#1 ↔ t.val % 2 = 1 :=
  (by decide +kernel : ∀ t : Fin grid0.N, k0_cond5 (grid0.coords t) = 1#1 ↔ t.val % 2 = 1)

/-- The row tile of point `n`. -/
abbrev tile (n : ℕ) : Fin 2 := ⟨n % 2, Nat.mod_lt _ (by decide)⟩

theorem tile_eq : ∀ t : Fin cfg0.N, grid0.coords t 1 = tile t.val :=
  fun t => Fin.ext ((by decide +kernel : ∀ t : Fin grid0.N, (grid0.coords t 1).val = t.val % 2) t)

theorem live6 : ∀ t : Fin cfg0.N, 6 ≤ t.val → cfg0.idle 6 (grid0.coords t) = false ∧ cfg0.idle 7 (grid0.coords t) = false ∧ cfg0.idle 8 (grid0.coords t) = false :=
  (by decide +kernel : ∀ t : Fin grid0.N, 6 ≤ t.val → cfg0.idle 6 (grid0.coords t) = false ∧ cfg0.idle 7 (grid0.coords t) = false ∧ cfg0.idle 8 (grid0.coords t) = false)

theorem idle6 : ∀ t : Fin cfg0.N, ¬6 ≤ t.val → cfg0.idle 6 (grid0.coords t) = true ∧ cfg0.idle 7 (grid0.coords t) = true ∧ cfg0.idle 8 (grid0.coords t) = true
      ∧ (cfg0.win 6).flush t = false ∧ (cfg0.win 7).flush t = false ∧ (cfg0.win 8).flush t = false :=
  (by decide +kernel : ∀ t : Fin grid0.N, ¬6 ≤ t.val → cfg0.idle 6 (grid0.coords t) = true ∧ cfg0.idle 7 (grid0.coords t) = true ∧ cfg0.idle 8 (grid0.coords t) = true
      ∧ (cfg0.win 6).flush t = false ∧ (cfg0.win 7).flush t = false ∧ (cfg0.win 8).flush t = false)

/-- The gain's buffer has been stored into before the last point only. -/
def fresh8 : ℕ → Bool
  | 0 => true
  | n + 1 => decide (n ≠ 6)

theorem fresh8_eq (t : Fin cfg0.N) : cfg0.fresh 8 t.val = fresh8 t.val :=
  Pipeline.Cfg.fresh_tab cfg0 8 fresh8 rfl (by decide +kernel) t.val (Nat.le_of_lt t.isLt)

/-! ## What the accumulator and the outputs hold -/

/-- Point `n`. -/
def pt (n : ℕ) : Fin cfg0.N := ⟨n % 8, lt_of_lt_of_eq (Nat.mod_lt _ (by decide)) (show 8 = cfg0.N from N_0.symm)⟩

theorem pt_val (t : Fin cfg0.N) : pt t.val = t :=
  Fin.ext (Nat.mod_eq_of_lt (lt_of_lt_of_eq t.isLt (show cfg0.N = 8 from N_0)))

/-- The slab of point `n`'s row tile after point `n`. -/
def slab (c : Dev nD) : ℕ → Vec F S1x1024x1024 .f32
  | 0 => k0_pay2 (iblk m c 0 (pt 0)) (iblk m c 1 (pt 0))
  | 1 => k0_pay2 (iblk m c 0 (pt 1)) (iblk m c 1 (pt 1))
  | n + 2 => k0_pay3 (iblk m c 0 (pt (n + 2))) (iblk m c 1 (pt (n + 2))) (slab c n)

theorem slab_first (c : Dev nD) (t : Fin cfg0.N) (h : t.val < 2) : k0_pay2 (iblk m c 0 t) (iblk m c 1 t) = slab m c t.val := by
  have h' : t.val = 0 ∨ t.val = 1 := by omega
  rcases h' with e | e
  · obtain rfl : t = pt 0 := Fin.ext e; rfl
  · obtain rfl : t = pt 1 := Fin.ext e; rfl

theorem slab_next (c : Dev nD) (t : Fin cfg0.N) (h : 2 ≤ t.val) :
    k0_pay3 (iblk m c 0 t) (iblk m c 1 t) (slab m c (t.val - 2)) = slab m c t.val := by
  obtain ⟨n, hn⟩ : ∃ n, t.val = n + 2 := ⟨t.val - 2, by omega⟩
  have ht : pt (n + 2) = t := hn ▸ pt_val t
  rw [hn, slab, ht]; rfl

/-- The accumulator before point `n`: each row tile's slab is the one its last point left. -/
def Holds (c : Dev nD) (n : ℕ) (S : Vec F S2x1024x1024 .f32) : Prop := ∀ k, k < n → n ≤ k + 2 → get (tile k) S = slab m c k

theorem Holds.step {c : Dev nD} {n : ℕ} {S : Vec F S2x1024x1024 .f32} (h : Holds m c n S) : Holds m c (n + 1) (put (tile n) S (slab m c n)) := by
  intro k hk hk'
  by_cases e : k = n
  · subst e; exact get_put _ _ _
  · obtain rfl : n = k + 1 := by omega
    have hne : tile k ≠ tile (k + 1) := fun he => by
      have := congrArg Fin.val he
      simp only at this
      omega
    exact (get_put_ne _ _ hne _ _).trans (h k (by omega) (by omega))

theorem Holds.prev {c : Dev nD} {n : ℕ} {S : Vec F S2x1024x1024 .f32} (h : Holds m c n S) (hn : 2 ≤ n) : get (tile n) S = slab m c (n - 2) := by
  have e : tile n = tile (n - 2) := Fin.ext (by show n % 2 = (n - 2) % 2; omega)
  rw [e]; exact h (n - 2) (by omega) (by omega)

/-- The gain's gradient after point `t`. -/
def gain (c : Dev nD) (t : Fin cfg0.N) : Vec F S1x1024 .f32 :=
  if t.val = 7 then k0_pay4 (k0_pay9 (iblk m c 2 t) (slab m c 7)) (k0_pay9 (iblk m c 2 (pt 6)) (slab m c 6))
  else k0_pay9 (iblk m c 2 t) (slab m c t.val)

/-- The accumulator as a reference. -/
abbrev scM : Memref sig .tc .vmem S2x1024x1024 .f32 := Memref.whole cc0_scratch0

/-- What is held between the points. -/
def Inv (c : Dev nD) (n : ℕ) : sProp 𝕄 :=
  iprop((∃ S, ⌜Holds m c n S⌝ ∗ owns (c : Thread nD τ) scM fullShare S) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay7 (iblk m c 2 t) (slab m c t.val) (iblk m c 3 t) (iblk m c 4 t)
    | ⟨7, _⟩ => k0_pay8 (iblk m c 2 t) (slab m c t.val) (iblk m c 3 t) (iblk m c 4 t)
    | ⟨8, _⟩ => gain m c t
    | ⟨_ + 9, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay7 (iblk m c 2 t) (slab m c t.val) (iblk m c 3 t) (iblk m c 4 t) := by dsimp only [dats]
theorem after_7 (c : Dev nD) (t : Fin cfg0.N) : (dats m 0 c).after 7 t = k0_pay8 (iblk m c 2 t) (slab m c t.val) (iblk m c 3 t) (iblk m c 4 t) := by dsimp only [dats]
theorem after_8 (c : Dev nD) (t : Fin cfg0.N) : (dats m 0 c).after 8 t = gain m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- At the last point the gain's buffer holds what the point before left. -/
theorem before_8 (c : Dev nD) (t : Fin cfg0.N) (h : t.val = 7) (d) : (dats m 0 c).before 8 t d = k0_pay9 (iblk m c 2 (pt 6)) (slab m c 6) := by
  have hc : ∀ (t : Fin cfg0.N) (_ : t.val ≠ 0), cfg0.idle 8 (cfg0.grid.coords t) = true → cfg0.fresh 8 t.val = false →
      (dats m 0 c).after 8 t = (dats m 0 c).after 8 ⟨t.val - 1, by omega⟩ := by
    intro t _ hi hf
    exfalso
    rw [fresh8_eq] at hf
    revert t
    exact (by decide +kernel : ∀ t : Fin grid0.N, t.val ≠ 0 → cfg0.idle 8 (grid0.coords t) = true → fresh8 t.val = false → False)
  have hfr : fresh8 t.val = false := by rw [h]; rfl
  rw [(dats m 0 c).before_out_traj 8 rfl (fun _ _ => rfl) hc t.val t rfl d, fresh8_eq, hfr]
  have e : (⟨t.val - 1, by omega⟩ : Fin cfg0.N) = pt 6 := Fin.ext (by show t.val - 1 = 6; omega)
  simp only [e]
  rw [if_neg Bool.false_ne_true, after_8, gain, if_neg (by decide)]
  rfl

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  have hN : t.val < 8 := lt_of_lt_of_eq t.isLt (show cfg0.N = 8 from N_0)
  by_cases h6 : 6 ≤ t.val
  · have h2 : 2 ≤ t.val := by omega
    rw [show (dats m 0 c).leavesExact 0 t = owns (c : Thread nD τ) (st0_0 t) fullShare ((dats m 0 c).after 0 t) from by
      unfold Dat.leavesExact; rw [show cfg0.idle 0 (cfg0.grid.coords t) = false from rfl], after_0]
    rw [show (dats m 0 c).leavesExact 1 t = owns (c : Thread nD τ) (st0_1 t) fullShare ((dats m 0 c).after 1 t) from by
      unfold Dat.leavesExact; rw [show cfg0.idle 1 (cfg0.grid.coords t) = false from rfl], after_1]
    rw [show (dats m 0 c).leavesExact 2 t = owns (c : Thread nD τ) (st0_2 t) fullShare ((dats m 0 c).after 2 t) from by
      unfold Dat.leavesExact; rw [show cfg0.idle 2 (cfg0.grid.coords t) = false from rfl], after_2]
    rw [show (dats m 0 c).leavesExact 3 t = owns (c : Thread nD τ) (st0_3 t) fullShare ((dats m 0 c).after 3 t) from by
      unfold Dat.leavesExact; rw [show cfg0.idle 3 (cfg0.grid.coords t) = false from rfl], after_3]
    rw [show (dats m 0 c).leavesExact 4 t = owns (c : Thread nD τ) (st0_4 t) fullShare ((dats m 0 c).after 4 t) from by
      unfold Dat.leavesExact; rw [show cfg0.idle 4 (cfg0.grid.coords t) = false from rfl], after_4]
    rw [show (dats m 0 c).leavesExact 5 t = owns (c : Thread nD τ) (st0_5 t) fullShare ((dats m 0 c).after 5 t) from by
      unfold Dat.leavesExact; rw [show cfg0.idle 5 (cfg0.grid.coords t) = false from rfl], after_5]
    rw [show (dats m 0 c).leavesExact 6 t = owns (c : Thread nD τ) (st0_6 t) fullShare ((dats m 0 c).after 6 t) from by
      unfold Dat.leavesExact; rw [(live6 t h6).1], after_6]
    rw [show (dats m 0 c).leavesExact 7 t = owns (c : Thread nD τ) (st0_7 t) fullShare ((dats m 0 c).after 7 t) from by
      unfold Dat.leavesExact; rw [(live6 t h6).2.1], after_7]
    rw [show (dats m 0 c).leavesExact 8 t = owns (c : Thread nD τ) (st0_8 t) fullShare ((dats m 0 c).after 8 t) from by
      unfold Dat.leavesExact; rw [(live6 t h6).2.2], after_8]
    by_cases h7 : t.val = 7
    · simp only [before_8 m c t h7]
      rw [show gain m c t = k0_pay4 (k0_pay9 (iblk m c 2 t) (slab m c t.val)) (k0_pay9 (iblk m c 2 (pt 6)) (slab m c 6)) from by
        unfold gain; rw [if_pos h7, h7]]
      iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_D c (grid0.coords t) _ _ _ _ _ _ _ _ _ _ _ _ _ _ _ _ _ _ _ _ (fun h => absurd ((cond1 t).mp h) (by omega)) ((cond2 t).mpr (by omega)) ((cond3 t).mpr (by omega)) (fun h => absurd ((cond4 t).mp h) (by omega)) ((cond5 t).mpr (by omega)) (iblk m c 0 t) (iblk m c 1 t) (iblk m c 2 t) (iblk m c 3 t) (iblk m c 4 t) S _ Set.univ _)
      isplitl [H0]; · iexact H0
      isplitl [H1]; · iexact H1
      isplitl [H2]; · iexact H2
      isplitl [H3]; · iexact H3
      isplitl [H4]; · iexact H4
      isplitl [H6]; · iexists _; iexact H6
      isplitl [H7]; · iexists _; iexact H7
      isplitl [H8]; · iexact H8
      isplitl [HS]; · iexact HS
      rw [tile_eq t, hS.prev m h2, slab_next m c t h2]
      iintro ⟨H0, H1, H2, H3, H4, H6, H7, H8, HS⟩
      isplitl [HS Hg]
      · isplitl [HS]
        · iexists _; isplitr
          swap; · iexact HS
          ipureintro; exact hS.step m
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [show gain m c t = k0_pay9 (iblk m c 2 t) (slab m c t.val) from by unfold gain; rw [if_neg h7]]
      iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_C c (grid0.coords t) _ _ _ _ _ _ _ _ _ _ _ _ _ _ _ _ _ _ _ _ (fun h => absurd ((cond1 t).mp h) (by omega)) ((cond2 t).mpr (by omega)) ((cond3 t).mpr (by omega)) ((cond4 t).mpr (by omega)) (fun h => absurd ((cond5 t).mp h) (by omega)) (iblk m c 0 t) (iblk m c 1 t) (iblk m c 2 t) (iblk m c 3 t) (iblk m c 4 t) S Set.univ _)
      isplitl [H0]; · iexact H0
      isplitl [H1]; · iexact H1
      isplitl [H2]; · iexact H2
      isplitl [H3]; · iexact H3
      isplitl [H4]; · iexact H4
      isplitl [H6]; · iexists _; iexact H6
      isplitl [H7]; · iexists _; iexact H7
      isplitl [H8]; · iexists _; iexact H8
      isplitl [HS]; · iexact HS
      rw [tile_eq t, hS.prev m h2, slab_next m c t h2]
      iintro ⟨H0, H1, H2, H3, H4, H6, H7, H8, HS⟩
      isplitl [HS Hg]
      · isplitl [HS]
        · iexists _; isplitr
          swap; · iexact HS
          ipureintro; exact hS.step m
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · rw [show (dats m 0 c).leavesExact 0 t = owns (c : Thread nD τ) (st0_0 t) fullShare ((dats m 0 c).after 0 t) from by
      unfold Dat.leavesExact; rw [show cfg0.idle 0 (cfg0.grid.coords t) = false from rfl], after_0]
    rw [show (dats m 0 c).leavesExact 1 t = owns (c : Thread nD τ) (st0_1 t) fullShare ((dats m 0 c).after 1 t) from by
      unfold Dat.leavesExact; rw [show cfg0.idle 1 (cfg0.grid.coords t) = false from rfl], after_1]
    rw [show (dats m 0 c).leavesExact 2 t = owns (c : Thread nD τ) (st0_2 t) fullShare ((dats m 0 c).after 2 t) from by
      unfold Dat.leavesExact; rw [show cfg0.idle 2 (cfg0.grid.coords t) = false from rfl], after_2]
    rw [show (dats m 0 c).leavesExact 3 t = owns (c : Thread nD τ) (st0_3 t) fullShare ((dats m 0 c).after 3 t) from by
      unfold Dat.leavesExact; rw [show cfg0.idle 3 (cfg0.grid.coords t) = false from rfl], after_3]
    rw [show (dats m 0 c).leavesExact 4 t = owns (c : Thread nD τ) (st0_4 t) fullShare ((dats m 0 c).after 4 t) from by
      unfold Dat.leavesExact; rw [show cfg0.idle 4 (cfg0.grid.coords t) = false from rfl], after_4]
    rw [show (dats m 0 c).leavesExact 5 t = owns (c : Thread nD τ) (st0_5 t) fullShare ((dats m 0 c).after 5 t) from by
      unfold Dat.leavesExact; rw [show cfg0.idle 5 (cfg0.grid.coords t) = false from rfl], after_5]
    rw [(dats m 0 c).leavesExact_idle 6 t (idle6 t h6).1 (idle6 t h6).2.2.2.1]
    rw [(dats m 0 c).leavesExact_idle 7 t (idle6 t h6).2.1 (idle6 t h6).2.2.2.2.1]
    rw [(dats m 0 c).leavesExact_idle 8 t (idle6 t h6).2.2.1 (idle6 t h6).2.2.2.2.2]
    by_cases h2 : 2 ≤ t.val
    · skip
      iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_B c (grid0.coords t) _ _ _ _ _ _ _ _ _ _ _ _ _ _ _ _ _ _ _ _ (fun h => absurd ((cond1 t).mp h) (by omega)) ((cond2 t).mpr (by omega)) (fun h => absurd ((cond3 t).mp h) (by omega)) (iblk m c 0 t) (iblk m c 1 t) S Set.univ _)
      isplitl [H0]; · iexact H0
      isplitl [H1]; · iexact H1
      isplitl [HS]; · iexact HS
      iintro ⟨H0, H1, HS⟩
      isplitl [HS Hg]
      · isplitl [HS]
        · iexists _; isplitr
          swap; · iexact HS
          ipureintro; rw [tile_eq t]; rw [hS.prev m h2, slab_next m c t h2]; exact hS.step m
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8
    · replace h2 : t.val < 2 := by omega
      iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_A c (grid0.coords t) _ _ _ _ _ _ _ _ _ _ _ _ _ _ _ _ _ _ _ _ ((cond1 t).mpr (by omega)) (fun h => absurd ((cond2 t).mp h) (by omega)) (fun h => absurd ((cond3 t).mp h) (by omega)) (iblk m c 0 t) (iblk m c 1 t) S Set.univ _)
      isplitl [H0]; · iexact H0
      isplitl [H1]; · iexact H1
      isplitl [HS]; · iexact HS
      iintro ⟨H0, H1, HS⟩
      isplitl [HS Hg]
      · isplitl [HS]
        · iexists _; isplitr
          swap; · iexact HS
          ipureintro; rw [tile_eq t]; rw [slab_first m c t h2]; exact hS.step m
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scoped_eq (c : Dev nD) : (Pipeline.ΦA spec0 c : sProp 𝕄)
    = iprop((∃ d, owns (c : Thread nD τ) scM fullShare d) ∗ (∃ r, prngReg c r)) := by
  unfold Pipeline.ΦA; rw [scopedRest0_eq]; simp only [scM, owns_whole]; try rfl

theorem hin (c : Dev nD) : Pipeline.ΦA spec0 c ⊢ (dats m 0 c).Φ 0 := by
  rw [show (dats m 0 c).Φ 0 = Inv m c 0 from rfl, scoped_eq]
  unfold Inv
  iintro ⟨⟨%S, HS⟩, Hg⟩
  isplitl [HS]
  · iexists S; isplitr
    · ipureintro; exact fun k hk => absurd hk (Nat.not_lt_zero _)
    iexact HS
  iexact Hg

theorem hout (c : Dev nD) : (dats m 0 c).Φ (Fin.last cfg0.N) ⊢ Pipeline.ΦA spec0 c := by
  rw [show (dats m 0 c).Φ (Fin.last cfg0.N) = Inv m c cfg0.N from rfl, scoped_eq]
  unfold Inv
  iintro ⟨⟨%S, %hS, HS⟩, Hg⟩
  isplitl [HS]
  · iexists S; iexact HS
  iexact Hg

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the three results at what the points leave in them and the arguments as they were. -/
theorem run_blocks : θ_run defs (onTc (τ := τ) (main (F := F))) (s₀ m ρ) fun r => (∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_v3_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono (fun r hr => ⟨fun c => by
    have h := hr.1 c
    exact ⟨h.1 6, h.1 7, h.1 8, (h.1 0).trans (((dats m 0 c).arrAt_in 0 rfl _).trans ((A_eq m c 0).trans (V_arg m c main_arg0 (by decide) (by decide) (by decide) (by decide)))), (h.2 main_arg1 (Pipeline.mem_restRefs_of main_arg1 (by decide) (by decide))).trans (V_arg m c main_arg1 (by decide) (by decide) (by decide) (by decide)), (h.1 2).trans (((dats m 0 c).arrAt_in 2 rfl _).trans ((A_eq m c 2).trans (V_arg m c main_arg2 (by decide) (by decide) (by decide) (by decide)))), (h.2 main_arg3 (Pipeline.mem_restRefs_of main_arg3 (by decide) (by decide))).trans (V_arg m c main_arg3 (by decide) (by decide) (by decide) (by decide)), (h.1 4).trans (((dats m 0 c).arrAt_in 4 rfl _).trans ((A_eq m c 4).trans (V_arg m c main_arg4 (by decide) (by decide) (by decide) (by decide))))⟩, hr.2⟩) (run_main m ρ)

/-- The arguments end unchanged and every counter at zero. -/
theorem frame : θ_run defs (onTc (τ := τ) (main (F := F))) (s₀ m ρ) fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono (fun _ h => ⟨fun c => (h.1 c).2.2.2, h.2⟩) (run_blocks m ρ)

end Cert.DnRun

end
-- ==== Proof.DnBlock.lean ====
/- The gradient through the norm and the projection into the even layers: what one block computes, against the reference's value at the same place. -/
module

public import proofs.«01_k».proof.Proof.DnFrame
public import proofs.«01_k».proof.Proof.Gen.DnReferenceIdeal.Read
public import proofs.«01_k».proof.Proof.RmsGrad

@[expose] public section

set_option maxRecDepth 16384

noncomputable section

namespace Cert.DnBlock

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DnKernelIdeal Cert.DnKernelIdeal.Gen Cert.DnReferenceIdeal.Read

variable (P : Vec Ideal S2048x5120 .bf16) (W : Vec Ideal S4x1024x1280 .bf16) (X : Vec Ideal S2048x1024 .f32) (G : Vec Ideal S1024 .f32)
  (D : Vec Ideal S2048x1024 .f32) (p : Vec Ideal S1024x1280 .bf16) (w : Vec Ideal S1x1x1024x1280 .bf16) (x d : Vec Ideal S1024x1024 .f32)
  (g : Vec Ideal S1x1x1024 .f32) (s : Vec Ideal S1x1024x1024 .f32)

/-- The first product of a row tile, and a later one added to what is there. -/
theorem first (r l : Fin 1024) : k0_pay2 (F := Ideal) p w (ix3 0 r l) = ∑ k : Fin 1280, p (ix2 r k) * w (ix4 0 0 l k) := by
  pointwise [k0_pay2, k0_pay1]

theorem next (r l : Fin 1024) : k0_pay3 (F := Ideal) p w s (ix3 0 r l) = s (ix3 0 r l) + ∑ k : Fin 1280, p (ix2 r k) * w (ix4 0 0 l k) := by
  pointwise [k0_pay3, k0_pay1]

/-- The column of the incoming gradient that column `k` of block `j` is. -/
def col (j : Fin 4) (k : Fin 1280) : Fin 5120 := ⟨j.val * 1280 + k.val, by omega⟩

/-- The gradient of the norm's output in the reference. -/
theorem dn_ref (q : Fin 2048) (l : Fin 1024) :
    val_main_v22 (F := Ideal) P W (ix2 q l) = ∑ j : Fin 4, ∑ k : Fin 1280, P (ix2 q (col j k)) * W (ix3 j l k) := by
  pointwise [val_main_v22, val_main_v21, val_main_v20, val_main_v19, val_main_v18, col]

/-- The gradient of the rows, added to what came past the norm. -/
theorem dh_eq (r : Fin 1024) (q : Fin 2048) (hx : ∀ k, x (ix2 r k) = X (ix2 q k)) (hg : ∀ k, g (ix3 0 0 k) = G (ix1 k))
    (hs : ∀ k, s (ix3 0 r k) = val_main_v22 (F := Ideal) P W (ix2 q k)) (hd : ∀ k, d (ix2 r k) = D (ix2 q k)) (l : Fin 1024) :
    k0_pay7 (F := Ideal) x s g d (ix2 r l) = val_main_v43 (F := Ideal) P W X G D (ix2 q l) := by
  pointwise [k0_pay7, k0_pay6, k0_pay5,
    val_main_v0, val_main_v1, val_main_v2, val_main_v3, val_main_v4, val_main_v5, val_main_v6,
    val_main_v7, val_main_v8, val_main_v9, val_main_v10, val_main_v11, val_main_v12, val_main_v13,
    val_main_v14, val_main_v15, val_main_v16, val_main_v17, val_main_v18, val_main_v19, val_main_v23,
    val_main_v24, val_main_v25, val_main_v26, val_main_v27, val_main_v28, val_main_v29, val_main_v30,
    val_main_v31, val_main_v32, val_main_v33, val_main_v34, val_main_v35, val_main_v36, val_main_v37,
    val_main_v38, val_main_v39, val_main_v40, val_main_v41, val_main_v42, val_main_v43, val_main_v44,
    val_main_v45, val_main_cst, val_main_cst_0, val_main_cst_1, val_main_cst_2, val_main_cst_3,
    val_main_cst_4, val_main_cst_5, val_main_cst_6, val_main_cst_7]
  simp only [hx, hg, hs, hd]
  rw [Fin.sum_univ_one, sub_eq_add_neg, add_assoc, ← sub_eq_add_neg]
  refine congrArg (D (ix2 q l) + ·) ?_
  refine Eq.trans ?_ (RmsGrad.input (RmsGrad.under_cases fun k => X (ix2 q k)) _ _ _).symm
  unfold RmsGrad.under
  generalize Ideal.rsqrt _ = ρ
  congr 1
  · ac_rfl
  · congr 3
    exact Fin.sum_fin_congr fun k => by ac_rfl

/-- Its copy at the narrow width. -/
theorem dhb_eq (r : Fin 1024) (q : Fin 2048) (hx : ∀ k, x (ix2 r k) = X (ix2 q k)) (hg : ∀ k, g (ix3 0 0 k) = G (ix1 k))
    (hs : ∀ k, s (ix3 0 r k) = val_main_v22 (F := Ideal) P W (ix2 q k)) (hd : ∀ k, d (ix2 r k) = D (ix2 q k)) (l : Fin 1024) :
    k0_pay8 (F := Ideal) x s g d (ix2 r l) = val_main_v44 (F := Ideal) P W X G D (ix2 q l) := by
  have h := dh_eq P W X G D x d g s r q hx hg hs hd l
  pointwise [k0_pay8, val_main_v44]
  exact h

/-- One row's part of the gradient of the norm's weights. -/
def gainTerm (q : Fin 2048) (l : Fin 1024) : EReal :=
  X (ix2 q l) * Ideal.rsqrt (RmsGrad.under fun k => X (ix2 q k)) * val_main_v22 (F := Ideal) P W (ix2 q l)

theorem gain_ref (l : Fin 1024) : val_main_v45 (F := Ideal) P W X (ix2 0 l) = ∑ q : Fin 2048, gainTerm P W X q l := by
  pointwise [val_main_v0, val_main_v1, val_main_v2, val_main_v3, val_main_v4, val_main_v5, val_main_v6,
    val_main_v7, val_main_v8, val_main_v9, val_main_v10, val_main_v11, val_main_v12, val_main_v13,
    val_main_v14, val_main_v15, val_main_v16, val_main_v17, val_main_v18, val_main_v19, val_main_v23,
    val_main_v24, val_main_v25, val_main_v26, val_main_v27, val_main_v28, val_main_v29, val_main_v30,
    val_main_v31, val_main_v32, val_main_v33, val_main_v34, val_main_v35, val_main_v36, val_main_v37,
    val_main_v38, val_main_v39, val_main_v40, val_main_v41, val_main_v42, val_main_v43, val_main_v44,
    val_main_v45, val_main_cst, val_main_cst_0, val_main_cst_1, val_main_cst_2, val_main_cst_3,
    val_main_cst_4, val_main_cst_5, val_main_cst_6, val_main_cst_7]
  rw [Fin.sum_univ_one]
  rfl

/-- What one row tile brings to it. -/
theorem gain_part (q : Fin 1024 → Fin 2048) (hx : ∀ r k, x (ix2 r k) = X (ix2 (q r) k))
    (hs : ∀ r k, s (ix3 0 r k) = val_main_v22 (F := Ideal) P W (ix2 (q r) k)) (l : Fin 1024) :
    k0_pay9 (F := Ideal) x s (ix2 0 l) = ∑ r : Fin 1024, gainTerm P W X (q r) l := by
  pointwise [k0_pay9, k0_pay6, k0_pay5]
  simp only [hx, hs, gainTerm, RmsGrad.under]
  exact Fin.sum_fin_congr fun r => mul_comm _ _

theorem gain_step (a acc : Vec Ideal S1x1024 .f32) (l : Fin 1024) : k0_pay4 (F := Ideal) a acc (ix2 0 l) = acc (ix2 0 l) + a (ix2 0 l) := by
  pointwise [k0_pay4]

end Cert.DnBlock

end
-- ==== Proof.DnFinal.lean ====
/- The gradient through the norm and the projection into the even layers: each result array of the kernel is the reference's. -/
module

public import proofs.«01_k».proof.Proof.DnBlock

@[expose] public section

set_option maxRecDepth 16384

noncomputable section

namespace Cert.DnFinal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DnKernelIdeal Cert.DnKernelIdeal.Gen Cert.DnReferenceIdeal.Read Cert.DnBlock Cert.DnRun

variable (m : (ℓ : Loc nD τ sig) → Buf (Elt Ideal) ℓ) (c : Dev nD)

/-- The incoming gradient, the projection, the rows, the norm's weights and the gradient past the norm, as the run finds them. -/
abbrev P : Vec Ideal S2048x5120 .bf16 := m ((c : Thread nD τ).loc main_arg0)
abbrev W : Vec Ideal S4x1024x1280 .bf16 := m ((c : Thread nD τ).loc main_arg1)
abbrev X : Vec Ideal S2048x1024 .f32 := m ((c : Thread nD τ).loc main_arg2)
abbrev G : Vec Ideal S1024 .f32 := m ((c : Thread nD τ).loc main_arg3)
abbrev D : Vec Ideal S2048x1024 .f32 := m ((c : Thread nD τ).loc main_arg4)

theorem V_main_v0 : V m c main_v0 = broadcastInDim S1x4x1024x1280 ![1, 2, 3] bcast_S4x1024x1280_S1x4x1024x1280_1_2_3 (W m c) := by
  unfold V; after_results

theorem V_main_v1 : V m c main_v1 = broadcastInDim S1x1x1024 ![2] bcast_S1024_S1x1x1024_2 (G m c) := by
  unfold V; after_results

theorem idx : ∀ t : Fin cfg0.N, win0_0.index t = ![t.val % 2, t.val / 2] ∧ win0_1.index t = ![0, t.val / 2, 0, 0] ∧ win0_3.index t = ![0, 0, 0] :=
  (by decide +kernel : ∀ t : Fin grid0.N, _)

/-- At the last points the row windows stand on the point's row tile. -/
theorem idx_last : ∀ t : Fin cfg0.N, 6 ≤ t.val → win0_2.index t = ![t.val % 2, 0] ∧ win0_4.index t = ![t.val % 2, 0]
    ∧ win0_6.index t = ![t.val % 2, 0] ∧ win0_7.index t = ![t.val % 2, 0] :=
  (by decide +kernel : ∀ t : Fin grid0.N, 6 ≤ t.val → _)

theorem flush_last : ∀ t : Fin cfg0.N, ((cfg0.win 6).flush t = true → 6 ≤ t.val) ∧ ((cfg0.win 7).flush t = true → 6 ≤ t.val) :=
  (by decide +kernel : ∀ t : Fin grid0.N, _)

/-- The row of the array that row `r` of row tile `b` is. -/
def row (b : Fin 2) (r : Fin 1024) : Fin 2048 := ⟨b.val * 1024 + r.val, by omega⟩

/-- The block of columns that point `t` works on. -/
def blkOf (t : Fin cfg0.N) : Fin 4 := ⟨t.val / 2, by have := t.isLt.trans_eq N_0; omega⟩

theorem blk_p (t : Fin cfg0.N) (r : Fin 1024) (k : Fin 1280) :
    (iblk m c 0 t : Vec Ideal S1024x1280 .bf16) (ix2 r k) = P m c (ix2 (row (tile t.val) r) (col (blkOf t) k)) := by
  blk_point [iblk, V, idx t, row, col, blkOf]

theorem blk_w (t : Fin cfg0.N) (l : Fin 1024) (k : Fin 1280) :
    (iblk m c 1 t : Vec Ideal S1x1x1024x1280 .bf16) (ix4 0 0 l k) = W m c (ix3 (blkOf t) l k) := by
  blk_point [iblk, V_main_v0, idx t, blkOf]

theorem blk_x (t : Fin cfg0.N) (h : 6 ≤ t.val) (r k : Fin 1024) :
    (iblk m c 2 t : Vec Ideal S1024x1024 .f32) (ix2 r k) = X m c (ix2 (row (tile t.val) r) k) := by
  blk_point [iblk, V, idx_last t h, row]

theorem blk_g (t : Fin cfg0.N) (k : Fin 1024) :
    (iblk m c 3 t : Vec Ideal S1x1x1024 .f32) (ix3 0 0 k) = G m c (ix1 k) := by
  blk_point [iblk, V_main_v1, idx t]

theorem blk_d (t : Fin cfg0.N) (h : 6 ≤ t.val) (r k : Fin 1024) :
    (iblk m c 4 t : Vec Ideal S1024x1024 .f32) (ix2 r k) = D m c (ix2 (row (tile t.val) r) k) := by
  blk_point [iblk, V, idx_last t h, row]

/-- The block of incoming rows and the block of weights at a point. -/
abbrev blkP (t : Fin cfg0.N) : Vec Ideal S1024x1280 .bf16 := iblk m c 0 t
abbrev blkW (t : Fin cfg0.N) : Vec Ideal S1x1x1024x1280 .bf16 := iblk m c 1 t

/-- What point `t` adds to the accumulator at one place. -/
theorem part (t : Fin cfg0.N) (r l : Fin 1024) :
    ∑ k : Fin 1280, blkP m c t (ix2 r k) * blkW m c t (ix4 0 0 l k)
      = ∑ k : Fin 1280, P m c (ix2 (row (tile t.val) r) (col (blkOf t) k)) * W m c (ix3 (blkOf t) l k) :=
  Fin.sum_fin_congr fun k => congrArg₂ (· * ·) (blk_p m c t r k) (blk_w m c t l k)

/-- After the last points the accumulator holds the gradient of the norm's output. -/
theorem slab_eq (b : Fin 2) (r l : Fin 1024) : slab m c (b.val + 6) (ix3 0 r l) = val_main_v22 (F := Ideal) (P m c) (W m c) (ix2 (row b r) l) := by
  rw [dn_ref, Fin.sum_univ_four]
  match b with
  | 0 =>
    show slab m c 6 (ix3 0 r l) = _
    rw [slab, next, part, slab, next, part, slab, next, part, slab, first, part]
    rfl
  | 1 =>
    show slab m c 7 (ix3 0 r l) = _
    rw [slab, next, part, slab, next, part, slab, next, part, slab, first, part]
    rfl

theorem slab_last (t : Fin cfg0.N) (h : 6 ≤ t.val) (r l : Fin 1024) :
    slab m c t.val (ix3 0 r l) = val_main_v22 (F := Ideal) (P m c) (W m c) (ix2 (row (tile t.val) r) l) := by
  have ht := t.isLt.trans_eq N_0
  have e : (tile t.val).val + 6 = t.val := by show t.val % 2 + 6 = t.val; omega
  rw [← slab_eq m c (tile t.val) r l, e]

theorem emb6 (t : Fin cfg0.N) (h : 6 ≤ t.val) (r l : Fin 1024) : (win0_6.blk t).view.emb (ix2 r l) = ix2 (row (tile t.val) r) l := by
  blk_ext [idx_last t h, row]

theorem emb7 (t : Fin cfg0.N) (h : 6 ≤ t.val) (r l : Fin 1024) : (win0_7.blk t).view.emb (ix2 r l) = ix2 (row (tile t.val) r) l := by
  blk_ext [idx_last t h, row]

/-- The gradient of the rows. -/
theorem final6 : (dats m 0 c).arrAt 6 cfg0.N = val_main_v43 (F := Ideal) (P m c) (W m c) (X m c) (G m c) (D m c) := by
  refine (dats m 0 c).arrAt_eq_of_covers 6 _ (by decide +kernel) fun t hf y => ?_
  have h6 := (flush_last t).1 hf
  blk_simp
  rw [after_6]
  obtain ⟨r, l, rfl⟩ : ∃ (r l : Fin 1024), y = ix2 r l := ⟨y 0, y 1, eq_ix2 y⟩
  rw [emb6 t h6]
  exact dh_eq _ _ _ _ _ _ _ _ _ r _ (blk_x m c t h6 r) (blk_g m c t) (slab_last m c t h6 r) (blk_d m c t h6 r) l

/-- Its copy at the narrow width. -/
theorem final7 : (dats m 0 c).arrAt 7 cfg0.N = val_main_v44 (F := Ideal) (P m c) (W m c) (X m c) (G m c) (D m c) := by
  refine (dats m 0 c).arrAt_eq_of_covers 7 _ (by decide +kernel) fun t hf y => ?_
  have h6 := (flush_last t).2 hf
  blk_simp
  rw [after_7]
  obtain ⟨r, l, rfl⟩ : ∃ (r l : Fin 1024), y = ix2 r l := ⟨y 0, y 1, eq_ix2 y⟩
  rw [emb7 t h6]
  exact dhb_eq _ _ _ _ _ _ _ _ _ r _ (blk_x m c t h6 r) (blk_g m c t) (slab_last m c t h6 r) (blk_d m c t h6 r) l

theorem slab6 (r l : Fin 1024) : slab m c 6 (ix3 0 r l) = val_main_v22 (F := Ideal) (P m c) (W m c) (ix2 (row 0 r) l) := slab_eq m c 0 r l

theorem slab7 (r l : Fin 1024) : slab m c 7 (ix3 0 r l) = val_main_v22 (F := Ideal) (P m c) (W m c) (ix2 (row 1 r) l) := slab_eq m c 1 r l

/-- The gradient of the norm's weights. -/
theorem final8 : (dats m 0 c).arrAt 8 cfg0.N = val_main_v45 (F := Ideal) (P m c) (W m c) (X m c) := by
  refine (dats m 0 c).arrAt_eq_of_after_last 8 t0_7 (by decide +kernel) _ fun j => ?_
  blk_simp
  obtain ⟨l, rfl⟩ : ∃ l : Fin 1024, j = ix2 0 l := Scalars.one_row j
  rw [after_8, gain, if_pos (show (t0_7 : Fin cfg0.N).val = 7 from rfl), gain_step,
    gain_part (P m c) (W m c) (X m c) _ _ (row 1) (fun r k => blk_x m c t0_7 (by decide) r k) (slab7 m c) l,
    gain_part (P m c) (W m c) (X m c) _ _ (row 0) (fun r k => blk_x m c (pt 6) (by decide) r k) (slab6 m c) l,
    gain_ref, ← Fin.sum_mul_add_fin 2 1024 (fun q => gainTerm (P m c) (W m c) (X m c) q l), Fin.sum_univ_two]
  rfl

end Cert.DnFinal

end
-- ==== Proof.DnClaim.lean ====
/- The gradient through the norm and the projection into the even layers: the two programs' claims. -/
module

public import proofs.«01_k».proof.Defs
public import proofs.«01_k».proof.Proof.Gen.DnKernel
public import proofs.«01_k».proof.Proof.Gen.DnReferenceIdeal.Run
public import proofs.«01_k».proof.Proof.DnFinal

@[expose] public section

set_option maxRecDepth 16384

noncomputable section

namespace Cert.DnClaim

open Idealize.ShloMosaic Idealize.ShloMosaic.TcCoe Idealize.ShloMosaic.Tactic Idealize.SL.Sem

/-- The kernel leaves its arguments alone and its semaphores at zero, at either reading of the floats: kernel and idealization are one
program there. -/
theorem frame_kernel : Cert.quiescent_DnKernel := fun m ρ _ =>
  cast (by sl_kernel_rfl) (DnRun.frame (F := Bits) m ρ)

theorem frame_ideal : Cert.quiescent_DnKernelIdeal := fun m ρ _ => DnRun.frame m ρ

/-- The reference leaves its arguments alone and has no semaphores. -/
theorem frame_reference : Cert.quiescent_DnReferenceIdeal := fun m ρ _ =>
  (θ_run Cert.DnReferenceIdeal.defs _ _).mono
    (fun r h => ⟨fun c => (h c).2.2.2, sem_eq_zero_of_no_sems (by decide) r.2⟩)
    (Cert.DnReferenceIdeal.Value.run (F := Ideal) m ρ)

/-- All three results agree. -/
theorem algebraic : Cert.algebraic_DnKernelIdeal_DnReferenceIdeal := by
  intro m g m' g' _ hargs
  refine ⟨fun c => (DnRun.dats m 0 c).arrAt 6 Cert.DnKernelIdeal.cfg0.N,
    fun c => (DnRun.dats m 0 c).arrAt 7 Cert.DnKernelIdeal.cfg0.N,
    fun c => (DnRun.dats m 0 c).arrAt 8 Cert.DnKernelIdeal.cfg0.N,
    (θ_run _ _ _).mono (fun _ h => h.1) (DnRun.run_blocks m g),
    (θ_run _ _ _).mono (fun r h c => ?_) (Cert.DnReferenceIdeal.Value.run (F := Ideal) m' g')⟩
  obtain ⟨h0, h1, h2, hk⟩ := h c
  obtain ⟨a0, a1, a2, a3, a4⟩ := hargs c
  refine ⟨h0.trans ?_, h1.trans ?_, h2.trans ?_, hk⟩
  · rw [Cert.DnReferenceIdeal.Read.val_main_v43_eq, a0, a1, a2, a3, a4]; exact (DnFinal.final6 m c).symm
  · rw [Cert.DnReferenceIdeal.Read.val_main_v44_eq, a0, a1, a2, a3, a4]; exact (DnFinal.final7 m c).symm
  · rw [Cert.DnReferenceIdeal.Read.val_main_v45_eq, a0, a1, a2]; exact (DnFinal.final8 m c).symm

end Cert.DnClaim

end
-- ==== Proof.InRun.lean ====
/- The norm and the projection into the even layers: one call of the body at each kind of grid point. -/
module

public import proofs.«01_k».proof.Proof.DnRun
public import proofs.«01_k».proof.Proof.Gen.InKernelIdeal.Launch
public import proofs.«01_k».proof.Proof.Gen.InKernelIdeal.Skeleton
public import proofs.«01_k».proof.Proof.Gen.InKernelIdeal.Points

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InKernelIdeal Cert.InKernelIdeal.Gen
open Cert.DnRun (get put off_eq load_full load_slab store_slab cover_slab)

variable {F : FTy → Type} [FloatOps F]

local notation "𝕄" => MT nD τ sig Unit (Elt F) ℕ (UR sig nD τ) ℕ

/-! The kernel keeps the normalised rows of both row tiles, one slab of 1024 rows each: a point of the first column
block stores its tile's slab, and every point multiplies its tile's slab by a block of the weight. -/

set_option maxHeartbeats 800000 in
/-- A point of the first column block: the tile's slab and its copy are stored, and the slab is multiplied. -/
theorem run_A (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024x1280 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (arg8 : Memref sig .tc .vmem S2x1024x1024 .bf16) (harg8 : arg8.IsWhole)
    (h1 : k0_cond1 i = 1#1)
    (x0 : Vec F S1024x1024 .f32) (x1 : Vec F S1x1x1024 .f32) (x2 : Vec F S1x1x1024x1280 .bf16) (S : Vec F S2x1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d) ∗ owns (c : Thread nD τ) arg8 fullShare S
        ∗ (iprop(owns (c : Thread nD τ) arg2 fullShare x0 ∗ owns (c : Thread nD τ) arg3 fullShare x1 ∗ owns (c : Thread nD τ) arg4 fullShare x2 ∗ owns (c : Thread nD τ) arg6 fullShare (k0_pay3 (k0_pay2 x0 x1) x2) ∗ owns (c : Thread nD τ) arg7 fullShare (k0_pay1 x0 x1) ∗ owns (c : Thread nD τ) arg8 fullShare (put (i 1) S (k0_pay2 x0 x1))) -∗ K ⟨⟩))
      ⊢ wp frame (wpE (defs₀ (F := F)) Variants.none c none) E (cc0_in_proj_even i arg2 harg2 arg3 harg3 arg4 harg4 arg5 harg5 arg6 harg6 arg7 harg7 arg8 harg8) K := by
  simp only [cc0_in_proj_even_eq_skeleton]; unfold cc0_in_proj_even_skel
  unfold owns
  iintro ⟨⟨%farg2, %hfarg2, Harg2⟩, ⟨%farg3, %hfarg3, Harg3⟩, ⟨%farg4, %hfarg4, Harg4⟩, ⟨%d6, %f6, -, H6⟩, ⟨%d7, %f7, -, H7⟩, ⟨%f8, %hf8, H8⟩, Hk⟩
  obtain rfl := harg2.eq_unread hfarg2; obtain rfl := harg3.eq_unread hfarg3; obtain rfl := harg4.eq_unread hfarg4; obtain rfl := harg8.eq_unread hf8
  sl_exec (disch := first | sl_exact h1)
  sl_step
  iapply Hk
  isplitl [Harg2]
  · iexists _; isplitr; · ipureintro; exact harg2.read_unread _
    iexact Harg2
  isplitl [Harg3]
  · iexists _; isplitr; · ipureintro; exact harg3.read_unread _
    iexact Harg3
  isplitl [Harg4]
  · iexists _; isplitr; · ipureintro; exact harg4.read_unread _
    iexact Harg4
  isplitl [H6]
  · iexists _; isplitr; pick_goal 2
    · iexact H6
    ipureintro
    refine (View.read_writes_full _ _ _ _ []).trans ?_
    refine congrArg₂ k0_pay3 ?_ (load_full harg4 x2 _)
    skip
    exact (cover_slab (i 1) (off_eq (i 1)) (off_eq (i 1)) _ _ _).trans (congrArg₂ k0_pay2 (load_full harg2 x0 _) (load_full harg3 x1 _))
  isplitl [H7]
  · iexists _; isplitr; pick_goal 2
    · iexact H7
    ipureintro
    refine (View.read_writes_full _ _ _ _ []).trans ?_
    exact congrArg₂ k0_pay1 (load_full harg2 x0 _) (load_full harg3 x1 _)
  iexists _; isplitr; pick_goal 2
  · iexact H8
  ipureintro; skip
  exact (store_slab S _ (harg8.read_unread S) (i 1) (off_eq (i 1)) _ _).trans (congrArg (put (i 1) S) (congrArg₂ k0_pay2 (load_full harg2 x0 _) (load_full harg3 x1 _)))

set_option maxHeartbeats 800000 in
/-- A later point: the kept slab is multiplied. -/
theorem run_B (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024x1280 .bf16) (harg4 : arg4.IsWhole) (arg5 : Memref sig .tc .vmem S8x128 .f32) (harg5 : arg5.IsWhole) (arg6 : Memref sig .tc .vmem S1024x1280 .f32) (harg6 : arg6.IsWhole) (arg7 : Memref sig .tc .vmem S1024x1024 .bf16) (harg7 : arg7.IsWhole) (arg8 : Memref sig .tc .vmem S2x1024x1024 .bf16) (harg8 : arg8.IsWhole)
    (h1 : ¬k0_cond1 i = 1#1)
    (x2 : Vec F S1x1x1024x1280 .bf16) (S : Vec F S2x1024x1024 .bf16)
    (E : Set ℕ) (K : PUnit → sProp 𝕄) :
    iprop(owns (c : Thread nD τ) arg4 fullShare x2 ∗ (∃ d, owns (c : Thread nD τ) arg6 fullShare d) ∗ owns (c : Thread nD τ) arg8 fullShare S
        ∗ (iprop(owns (c : Thread nD τ) arg4 fullShare x2 ∗ owns (c : Thread nD τ) arg6 fullShare (k0_pay3 (get (i 1) S) x2) ∗ owns (c : Thread nD τ) arg8 fullShare S) -∗ K ⟨⟩))
      ⊢ wp frame (wpE (defs₀ (F := F)) Variants.none c none) E (cc0_in_proj_even i arg2 harg2 arg3 harg3 arg4 harg4 arg5 harg5 arg6 harg6 arg7 harg7 arg8 harg8) K := by
  simp only [cc0_in_proj_even_eq_skeleton]; unfold cc0_in_proj_even_skel
  unfold owns
  iintro ⟨⟨%farg4, %hfarg4, Harg4⟩, ⟨%d6, %f6, -, H6⟩, ⟨%f8, %hf8, H8⟩, Hk⟩
  obtain rfl := harg4.eq_unread hfarg4; obtain rfl := harg8.eq_unread hf8
  sl_exec (disch := first | sl_exact h1)
  sl_step
  iapply Hk
  isplitl [Harg4]
  · iexists _; isplitr; · ipureintro; exact harg4.read_unread _
    iexact Harg4
  isplitl [H6]
  · iexists _; isplitr; pick_goal 2
    · iexact H6
    ipureintro
    refine (View.read_writes_full _ _ _ _ []).trans ?_
    exact congrArg₂ k0_pay3 (load_slab S _ (harg8.read_unread S) (i 1) (off_eq (i 1)) _) (load_full harg4 x2 _)
  iexists _; isplitr; pick_goal 2
  · iexact H8
  ipureintro; exact harg8.read_unread _

end Cert.InRun

end
-- ==== Proof.InFrame.lean ====
/- The norm and the projection into the even layers: the grid's run, with what every buffer holds at every point. -/
module

public import proofs.«01_k».proof.Proof.InRun

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InKernelIdeal Cert.InKernelIdeal.Gen
open Cert.DnRun (get put get_put get_put_ne)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the grid finds -/

/-- The arrays after the lines before the grid. -/
abbrev V (c : Dev nD) (b : Ref sig .tc) : Buf (Elt F) ((c : Thread nD τ).loc b) := StableHlo.after hostOps0 (fun b => m (c, b)) b

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub (by simp only [List.Forall]; repeat' constructor) main_chain

/-- Those lines write none of the arguments. -/
theorem V_arg (c : Dev nD) (b : Ref sig .tc) (h : b ≠ main_v0 ∧ b ≠ main_v1 ∧ b ≠ main_cst ∧ b ≠ main_v2) : V m c b = m ((c : Thread nD τ).loc b) :=
  StableHlo.after_of_forall_not_mem (b := Proc.devRef .tc b) _ _ (List.forall_iff_forall_mem.mp (by
    obtain ⟨h0, h1, h2, h3⟩ := h
    simp only [hostOps0, List.Forall, StableHlo.nullary_writes, StableHlo.unary_writes, Finset.mem_singleton]
    exact ⟨StableHlo.devRef_ne_of_ne h0, StableHlo.devRef_ne_of_ne h1, StableHlo.devRef_ne_of_ne h2, StableHlo.devRef_ne_of_ne h3⟩))

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The kinds of point -/

theorem cond1 : ∀ t : Fin cfg0.N, k0_cond1 (grid0.coords t) = 1#1 ↔ t.val < 2 :=
  (by decide +kernel : ∀ t : Fin grid0.N, k0_cond1 (grid0.coords t) = 1#1 ↔ t.val < 2)

/-- The row tile of point `n`. -/
abbrev tile (n : ℕ) : Fin 2 := ⟨n % 2, Nat.mod_lt _ (by decide)⟩

theorem tile_eq : ∀ t : Fin cfg0.N, grid0.coords t 1 = tile t.val :=
  fun t => Fin.ext ((by decide +kernel : ∀ t : Fin grid0.N, (grid0.coords t 1).val = t.val % 2) t)

/-- The normalised rows are written at the first two points. -/
theorem live5 : ∀ t : Fin cfg0.N, t.val < 2 → cfg0.idle 5 (grid0.coords t) = false :=
  (by decide +kernel : ∀ t : Fin grid0.N, t.val < 2 → cfg0.idle 5 (grid0.coords t) = false)

theorem idle5 : ∀ t : Fin cfg0.N, ¬t.val < 2 → cfg0.idle 5 (grid0.coords t) = true :=
  (by decide +kernel : ∀ t : Fin grid0.N, ¬t.val < 2 → cfg0.idle 5 (grid0.coords t) = true)

theorem flush5 : ∀ t : Fin cfg0.N, ¬t.val < 2 → (cfg0.win 5).flush t = decide (t.val = 7) :=
  (by decide +kernel : ∀ t : Fin grid0.N, ¬t.val < 2 → (cfg0.win 5).flush t = decide (t.val = 7))

/-- Their buffer is fresh up to the second point. -/
def fresh5 : ℕ → Bool := fun n => decide (n < 2 ∨ n = 8)

theorem fresh5_eq (t : Fin cfg0.N) : cfg0.fresh 5 t.val = fresh5 t.val :=
  Pipeline.Cfg.fresh_tab cfg0 5 fresh5 rfl (by decide +kernel) t.val (Nat.le_of_lt t.isLt)

/-! ## What the slabs and the results hold -/

/-- Point `n`. -/
def pt (n : ℕ) : Fin cfg0.N := ⟨n % 8, lt_of_lt_of_eq (Nat.mod_lt _ (by decide)) (show 8 = cfg0.N from N_0.symm)⟩

theorem pt_val (t : Fin cfg0.N) : pt t.val = t :=
  Fin.ext (Nat.mod_eq_of_lt (lt_of_lt_of_eq t.isLt (show cfg0.N = 8 from N_0)))

/-- The normalised rows of row tile `k`, as a slab. -/
def slab (c : Dev nD) (k : ℕ) : Vec F S1x1024x1024 .bf16 := k0_pay2 (iblk m c 0 (pt k)) (iblk m c 1 (pt k))

/-- The normalised rows that their buffer holds after point `n`. -/
def rows (c : Dev nD) (n : ℕ) : Vec F S1024x1024 .bf16 := k0_pay1 (iblk m c 0 (pt (min n 1))) (iblk m c 1 (pt (min n 1)))

theorem rows_first (c : Dev nD) (t : Fin cfg0.N) (h : t.val < 2) : k0_pay1 (iblk m c 0 t) (iblk m c 1 t) = rows m c t.val := by
  unfold rows; rw [min_eq_left (by omega), pt_val]

theorem rows_later (c : Dev nD) (n n' : ℕ) (h : 1 ≤ n) (h' : 1 ≤ n') : rows m c n = rows m c n' := by
  unfold rows; rw [min_eq_right h, min_eq_right h']

theorem slab_first (c : Dev nD) (t : Fin cfg0.N) (h : t.val < 2) : k0_pay2 (iblk m c 0 t) (iblk m c 1 t) = slab m c (tile t.val).val := by
  unfold slab; rw [show (tile t.val).val = t.val from Nat.mod_eq_of_lt h, pt_val]

/-- Before point `n` the slabs of the row tiles met so far are their normalised rows. -/
def Holds (c : Dev nD) (n : ℕ) (S : Vec F S2x1024x1024 .bf16) : Prop := ∀ k : Fin 2, k.val < n → get k S = slab m c k.val

theorem Holds.first {c : Dev nD} {n : ℕ} {S : Vec F S2x1024x1024 .bf16} (h : Holds m c n S) (hn : n < 2) :
    Holds m c (n + 1) (put (tile n) S (slab m c (tile n).val)) := by
  intro k hk
  by_cases e : k = tile n
  · subst e; exact get_put _ _ _
  · refine (get_put_ne _ _ e _ _).trans (h k ?_)
    have : k.val ≠ n := fun he => e (Fin.ext (by show k.val = n % 2; omega))
    omega

theorem Holds.later {c : Dev nD} {n : ℕ} {S : Vec F S2x1024x1024 .bf16} (h : Holds m c n S) (hn : ¬n < 2) : Holds m c (n + 1) S :=
  fun k _ => h k (by omega)

/-- The slabs' buffer. -/
abbrev scM : Memref sig .tc .vmem S2x1024x1024 .bf16 := Memref.whole cc0_scratch0

/-- What is kept from point to point. -/
def Inv (c : Dev nD) (n : ℕ) : sProp 𝕄 :=
  iprop((∃ S, ⌜Holds m c n S⌝ ∗ owns (c : Thread nD τ) scM fullShare S) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (slab m c (tile t.val).val) (iblk m c 2 t)
    | ⟨5, _⟩ => rows m c t.val
    | ⟨_ + 6, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay3 (slab m c (tile t.val).val) (iblk m c 2 t) := by dsimp only [dats]
theorem after_5 (c : Dev nD) (t : Fin cfg0.N) : (dats m 0 c).after 5 t = rows m c t.val := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- After the second point the buffer keeps the second tile's rows. -/
theorem before_5 (c : Dev nD) (t : Fin cfg0.N) (h : ¬t.val < 2) (d) : (dats m 0 c).before 5 t d = rows m c t.val := by
  have hN : t.val < 8 := lt_of_lt_of_eq t.isLt (show cfg0.N = 8 from N_0)
  have hc : ∀ (t : Fin cfg0.N) (_ : t.val ≠ 0), cfg0.idle 5 (cfg0.grid.coords t) = true → cfg0.fresh 5 t.val = false →
      (dats m 0 c).after 5 t = (dats m 0 c).after 5 ⟨t.val - 1, by omega⟩ := by
    intro t _ _ hf
    have h2 : ¬t.val < 2 := fun h => by rw [fresh5_eq, fresh5, decide_eq_true (Or.inl h)] at hf; exact Bool.false_ne_true hf.symm
    rw [after_5, after_5]
    exact rows_later m c _ _ (by omega) (by show 1 ≤ t.val - 1; omega)
  rw [(dats m 0 c).before_out_traj 5 rfl (fun _ _ => rfl) hc t.val t rfl d, fresh5_eq,
    show fresh5 t.val = false from decide_eq_false (by omega), if_neg Bool.false_ne_true, after_5]
  exact rows_later m c _ _ (by show 1 ≤ t.val - 1; omega) (by omega)

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  rw [show (dats m 0 c).leavesExact 0 t = owns (c : Thread nD τ) (st0_0 t) fullShare ((dats m 0 c).after 0 t) from by
    unfold Dat.leavesExact; rw [show cfg0.idle 0 (cfg0.grid.coords t) = false from rfl], after_0]
  rw [show (dats m 0 c).leavesExact 1 t = owns (c : Thread nD τ) (st0_1 t) fullShare ((dats m 0 c).after 1 t) from by
    unfold Dat.leavesExact; rw [show cfg0.idle 1 (cfg0.grid.coords t) = false from rfl], after_1]
  rw [show (dats m 0 c).leavesExact 2 t = owns (c : Thread nD τ) (st0_2 t) fullShare ((dats m 0 c).after 2 t) from by
    unfold Dat.leavesExact; rw [show cfg0.idle 2 (cfg0.grid.coords t) = false from rfl], after_2]
  rw [show (dats m 0 c).leavesExact 3 t = owns (c : Thread nD τ) (st0_3 t) fullShare ((dats m 0 c).after 3 t) from by
    unfold Dat.leavesExact; rw [show cfg0.idle 3 (cfg0.grid.coords t) = false from rfl], after_3]
  rw [show (dats m 0 c).leavesExact 4 t = owns (c : Thread nD τ) (st0_4 t) fullShare ((dats m 0 c).after 4 t) from by
    unfold Dat.leavesExact; rw [show cfg0.idle 4 (cfg0.grid.coords t) = false from rfl], after_4]
  by_cases h2 : t.val < 2
  · skip
    rw [show (dats m 0 c).leavesExact 5 t = owns (c : Thread nD τ) (st0_5 t) fullShare ((dats m 0 c).after 5 t) from by
      unfold Dat.leavesExact; rw [live5 t h2], after_5]
    iintro ⟨⟨⟨%S, %hS, HS⟩, Hg⟩, Ho, ⟨%d0, H0⟩, ⟨%d1, H1⟩, ⟨%d2, H2⟩, ⟨%d3, H3⟩, ⟨%d4, H4⟩, ⟨%d5, H5⟩⟩
    iapply (run_A c (grid0.coords t) _ _ _ _ _ _ _ _ _ _ _ _ _ _ ((cond1 t).mpr h2) (iblk m c 0 t) (iblk m c 1 t) (iblk m c 2 t) S Set.univ _)
    isplitl [H0]; · iexact H0
    isplitl [H1]; · iexact H1
    isplitl [H2]; · iexact H2
    isplitl [H4]; · iexists _; iexact H4
    isplitl [H5]; · iexists _; iexact H5
    isplitl [HS]; · iexact HS
    rw [tile_eq t, slab_first m c t h2, rows_first m c t h2]
    iintro ⟨H0, H1, H2, H4, H5, HS⟩
    isplitl [HS Hg]
    · isplitl [HS]
      · iexists _; isplitr
        swap; · iexact HS
        ipureintro; exact hS.first m h2
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h7 : t.val = 7
    · rw [show (dats m 0 c).leavesExact 5 t = owns (c : Thread nD τ) (st0_5 t) fullShare ((dats m 0 c).after 5 t) from by
        unfold Dat.leavesExact; rw [idle5 t h2, (flush5 t h2).trans (decide_eq_true h7)], after_5]
      simp only [before_5 m c t h2]
      iintro ⟨⟨⟨%S, %hS, HS⟩, Hg⟩, Ho, ⟨%d0, H0⟩, ⟨%d1, H1⟩, ⟨%d2, H2⟩, ⟨%d3, H3⟩, ⟨%d4, H4⟩, ⟨%d5, H5⟩⟩
      iapply (run_B c (grid0.coords t) _ _ _ _ _ _ _ _ _ _ _ _ _ _ (fun h => h2 ((cond1 t).mp h)) (iblk m c 2 t) S Set.univ _)
      isplitl [H2]; · iexact H2
      isplitl [H4]; · iexists _; iexact H4
      isplitl [HS]; · iexact HS
      rw [tile_eq t, hS (tile t.val) (by show t.val % 2 < t.val; omega)]
      iintro ⟨H2, H4, HS⟩
      isplitl [HS Hg]
      · isplitl [HS]
        · iexists _; isplitr
          swap; · iexact HS
          ipureintro; exact hS.later m h2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [(dats m 0 c).leavesExact_idle 5 t (idle5 t h2) ((flush5 t h2).trans (decide_eq_false h7))]
      iintro ⟨⟨⟨%S, %hS, HS⟩, Hg⟩, Ho, ⟨%d0, H0⟩, ⟨%d1, H1⟩, ⟨%d2, H2⟩, ⟨%d3, H3⟩, ⟨%d4, H4⟩, ⟨%d5, H5⟩⟩
      iapply (run_B c (grid0.coords t) _ _ _ _ _ _ _ _ _ _ _ _ _ _ (fun h => h2 ((cond1 t).mp h)) (iblk m c 2 t) S Set.univ _)
      isplitl [H2]; · iexact H2
      isplitl [H4]; · iexists _; iexact H4
      isplitl [HS]; · iexact HS
      rw [tile_eq t, hS (tile t.val) (by show t.val % 2 < t.val; omega)]
      iintro ⟨H2, H4, HS⟩
      isplitl [HS Hg]
      · isplitl [HS]
        · iexists _; isplitr
          swap; · iexact HS
          ipureintro; exact hS.later m h2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scoped_eq (c : Dev nD) : (Pipeline.ΦA spec0 c : sProp 𝕄)
    = iprop((∃ d, owns (c : Thread nD τ) scM fullShare d) ∗ (∃ r, prngReg c r)) := by
  unfold Pipeline.ΦA; rw [scopedRest0_eq]; simp only [scM, owns_whole]; try rfl

theorem hin (c : Dev nD) : Pipeline.ΦA spec0 c ⊢ (dats m 0 c).Φ 0 := by
  rw [show (dats m 0 c).Φ 0 = Inv m c 0 from rfl, scoped_eq]
  unfold Inv
  iintro ⟨⟨%S, HS⟩, Hg⟩
  isplitl [HS]
  · iexists S; isplitr
    · ipureintro; exact fun k hk => absurd hk (Nat.not_lt_zero _)
    iexact HS
  iexact Hg

theorem hout (c : Dev nD) : (dats m 0 c).Φ (Fin.last cfg0.N) ⊢ Pipeline.ΦA spec0 c := by
  rw [show (dats m 0 c).Φ (Fin.last cfg0.N) = Inv m c cfg0.N from rfl, scoped_eq]
  unfold Inv
  iintro ⟨⟨%S, %hS, HS⟩, Hg⟩
  isplitl [HS]
  · iexists S; iexact HS
  iexact Hg

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run leaves the two results as the points leave them, and the arguments alone. -/
theorem run_blocks : θ_run defs (onTc (τ := τ) (main (F := F))) (s₀ m ρ) fun r => (∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r hr => ⟨fun c => by
    have h := hr.1 c
    exact ⟨h.1 4, h.1 5, (h.1 0).trans (((dats m 0 c).arrAt_in 0 rfl _).trans ((A_eq m c 0).trans (V_arg m c main_arg0 (by decide)))), (h.2 main_arg1 (Pipeline.mem_restRefs_of main_arg1 (by decide) (by decide))).trans (V_arg m c main_arg1 (by decide)), (h.2 main_arg2 (Pipeline.mem_restRefs_of main_arg2 (by decide) (by decide))).trans (V_arg m c main_arg2 (by decide))⟩, hr.2⟩) (run_main m ρ)

/-- The arguments end unchanged and every counter at zero. -/
theorem frame : θ_run defs (onTc (τ := τ) (main (F := F))) (s₀ m ρ) fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun _ h => ⟨fun c => (h.1 c).2.2, h.2⟩) (run_blocks m ρ)

end Cert.InRun

end
-- ==== Proof.InFinal.lean ====
/- The norm and the projection into the even layers: each result array of the kernel is the reference's. -/
module

public import proofs.«01_k».proof.Proof.InFrame
public import proofs.«01_k».proof.Proof.Gen.InReferenceIdeal.Read

@[expose] public section

set_option maxRecDepth 16384

noncomputable section

namespace Cert.InFinal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InKernelIdeal Cert.InKernelIdeal.Gen Cert.InReferenceIdeal.Read Cert.InRun

/-! ## One block -/

section
variable (X : Vec Ideal S2048x1024 .f32) (G : Vec Ideal S1024 .f32) (W : Vec Ideal S4x1024x1280 .bf16)
  (x : Vec Ideal S1024x1024 .f32) (g : Vec Ideal S1x1x1024 .f32) (s : Vec Ideal S1x1024x1024 .bf16) (w : Vec Ideal S1x1x1024x1280 .bf16)

/-- The normalised rows. -/
theorem norm_eq (r : Fin 1024) (q : Fin 2048) (hx : ∀ k, x (ix2 r k) = X (ix2 q k)) (hg : ∀ k, g (ix3 0 0 k) = G (ix1 k)) (l : Fin 1024) :
    k0_pay1 (F := Ideal) x g (ix2 r l) = val_main_v13 (F := Ideal) X G (ix2 q l) := by
  pointwise [k0_pay1, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [hx, hg]

theorem slab_read (r l : Fin 1024) : k0_pay2 (F := Ideal) x g (ix3 0 r l) = k0_pay1 (F := Ideal) x g (ix2 r l) := by
  pointwise [k0_pay2]

/-- The column of the projected rows that column `k` of block `j` is. -/
def col (j : Fin 4) (k : Fin 1280) : Fin 5120 := ⟨j.val * 1280 + k.val, by omega⟩

/-- The projected rows in the reference. -/
theorem proj_ref (q : Fin 2048) (j : Fin 4) (k : Fin 1280) :
    val_main_v15 (F := Ideal) X G W (ix2 q (col j k)) = ∑ l : Fin 1024, val_main_v13 (F := Ideal) X G (ix2 q l) * W (ix3 j l k) := by
  pointwise [val_main_v15, val_main_v14, col]

theorem proj_blk (r : Fin 1024) (k : Fin 1280) : k0_pay3 (F := Ideal) s w (ix2 r k) = ∑ l : Fin 1024, s (ix3 0 r l) * w (ix4 0 0 l k) := by
  pointwise [k0_pay3]
end

/-! ## The arrays -/

variable (m : (ℓ : Loc nD τ sig) → Buf (Elt Ideal) ℓ) (c : Dev nD)

/-- The rows, the norm's weights and the projection, as the run finds them. -/
abbrev X : Vec Ideal S2048x1024 .f32 := m ((c : Thread nD τ).loc main_arg0)
abbrev G : Vec Ideal S1024 .f32 := m ((c : Thread nD τ).loc main_arg1)
abbrev W : Vec Ideal S4x1024x1280 .bf16 := m ((c : Thread nD τ).loc main_arg2)

theorem V_main_v0 : V m c main_v0 = broadcastInDim S1x1x1024 ![2] bcast_S1024_S1x1x1024_2 (G m c) := by
  unfold V; after_results

theorem V_main_v1 : V m c main_v1 = broadcastInDim S1x4x1024x1280 ![1, 2, 3] bcast_S4x1024x1280_S1x4x1024x1280_1_2_3 (W m c) := by
  unfold V; after_results

theorem idx : ∀ t : Fin cfg0.N, win0_1.index t = ![0, 0, 0] ∧ win0_2.index t = ![0, t.val / 2, 0, 0] ∧ win0_4.index t = ![t.val % 2, t.val / 2]
    ∧ win0_5.index t = ![min t.val 1, 0] :=
  (by decide +kernel : ∀ t : Fin grid0.N, _)

/-- At the first points the window of the rows stands on the point's row tile. -/
theorem idx_first : ∀ t : Fin cfg0.N, t.val < 2 → win0_0.index t = ![t.val, 0] :=
  (by decide +kernel : ∀ t : Fin grid0.N, t.val < 2 → _)

/-- The row of the array that row `r` of row tile `b` is. -/
def row (b : Fin 2) (r : Fin 1024) : Fin 2048 := ⟨b.val * 1024 + r.val, by omega⟩

/-- The block of columns that point `t` works on. -/
def blkOf (t : Fin cfg0.N) : Fin 4 := ⟨t.val / 2, by have := t.isLt.trans_eq N_0; omega⟩

theorem blk_x (b : Fin 2) (r k : Fin 1024) : (iblk m c 0 (pt b.val) : Vec Ideal S1024x1024 .f32) (ix2 r k) = X m c (ix2 (row b r) k) := by
  have hv : (pt b.val).val = b.val := Nat.mod_eq_of_lt (by omega)
  have hi := idx_first (pt b.val) (by omega)
  blk_point [iblk, V, hi, hv, row]

theorem blk_g (t : Fin cfg0.N) (k : Fin 1024) : (iblk m c 1 t : Vec Ideal S1x1x1024 .f32) (ix3 0 0 k) = G m c (ix1 k) := by
  blk_point [iblk, V_main_v0, idx t]

theorem blk_w (t : Fin cfg0.N) (l : Fin 1024) (k : Fin 1280) :
    (iblk m c 2 t : Vec Ideal S1x1x1024x1280 .bf16) (ix4 0 0 l k) = W m c (ix3 (blkOf t) l k) := by
  blk_point [iblk, V_main_v1, idx t, blkOf]

/-- Row tile `b`'s normalised rows. -/
theorem norm_tile (b : Fin 2) (r l : Fin 1024) :
    k0_pay1 (F := Ideal) (iblk m c 0 (pt b.val)) (iblk m c 1 (pt b.val)) (ix2 r l) = val_main_v13 (F := Ideal) (X m c) (G m c) (ix2 (row b r) l) :=
  norm_eq _ _ _ _ r _ (blk_x m c b r) (blk_g m c _) l

/-- What a point projects of its row tile. -/
theorem proj_tile (t : Fin cfg0.N) (r : Fin 1024) (k : Fin 1280) :
    k0_pay3 (F := Ideal) (slab m c (tile t.val).val) (iblk m c 2 t) (ix2 r k)
      = val_main_v15 (F := Ideal) (X m c) (G m c) (W m c) (ix2 (row (tile t.val) r) (col (blkOf t) k)) := by
  refine (proj_blk _ _ r k).trans (Eq.trans ?_ (proj_ref (X m c) (G m c) (W m c) _ _ k).symm)
  refine Fin.sum_fin_congr fun l => congrArg₂ (fun a b : EReal => a * b) ?_ (blk_w m c t l k)
  exact (slab_read _ _ r l).trans (norm_tile m c (tile t.val) r l)

theorem emb4 (t : Fin cfg0.N) (r : Fin 1024) (k : Fin 1280) : (win0_4.blk t).view.emb (ix2 r k) = ix2 (row (tile t.val) r) (col (blkOf t) k) := by
  blk_ext [idx t, row, col, blkOf]

theorem emb5 (t : Fin cfg0.N) (r l : Fin 1024) : (win0_5.blk t).view.emb (ix2 r l) = ix2 (row ⟨min t.val 1, by omega⟩ r) l := by
  blk_ext [idx t, row]

/-- The projected rows. -/
theorem final4 : (dats m 0 c).arrAt 4 cfg0.N = val_main_v15 (F := Ideal) (X m c) (G m c) (W m c) := by
  refine (dats m 0 c).arrAt_eq_of_covers 4 _ (by decide +kernel) fun t _ y => ?_
  blk_simp
  rw [after_4]
  obtain ⟨r, k, rfl⟩ : ∃ (r : Fin 1024) (k : Fin 1280), y = ix2 r k := ⟨y 0, y 1, eq_ix2 y⟩
  rw [emb4]
  exact proj_tile m c t r k

/-- The normalised rows. -/
theorem final5 : (dats m 0 c).arrAt 5 cfg0.N = val_main_v13 (F := Ideal) (X m c) (G m c) := by
  refine (dats m 0 c).arrAt_eq_of_covers 5 _ (by decide +kernel) fun t _ y => ?_
  blk_simp
  rw [after_5]
  obtain ⟨r, l, rfl⟩ : ∃ (r l : Fin 1024), y = ix2 r l := ⟨y 0, y 1, eq_ix2 y⟩
  rw [emb5]
  exact norm_tile m c ⟨min t.val 1, by omega⟩ r l

end Cert.InFinal

end
-- ==== Proof.InClaim.lean ====
/- The norm and the projection into the even layers: the two programs' claims. -/
module

public import proofs.«01_k».proof.Defs
public import proofs.«01_k».proof.Proof.Gen.InKernel
public import proofs.«01_k».proof.Proof.Gen.InReferenceIdeal.Run
public import proofs.«01_k».proof.Proof.InFinal

@[expose] public section

set_option maxRecDepth 16384

noncomputable section

namespace Cert.InClaim

open Idealize.ShloMosaic Idealize.ShloMosaic.TcCoe Idealize.ShloMosaic.Tactic Idealize.SL.Sem

/-- The kernel leaves its arguments alone and its semaphores at zero, at either reading of the floats: kernel and idealization are one
program there. -/
theorem frame_kernel : Cert.quiescent_InKernel := fun m ρ _ =>
  cast (by sl_kernel_rfl) (InRun.frame (F := Bits) m ρ)

theorem frame_ideal : Cert.quiescent_InKernelIdeal := fun m ρ _ => InRun.frame m ρ

/-- The reference leaves its arguments alone and has no semaphores. -/
theorem frame_reference : Cert.quiescent_InReferenceIdeal := fun m ρ _ =>
  (θ_run Cert.InReferenceIdeal.defs _ _).mono
    (fun r h => ⟨fun c => (h c).2.2, sem_eq_zero_of_no_sems (by decide) r.2⟩)
    (Cert.InReferenceIdeal.Value.run (F := Ideal) m ρ)

/-- Both results agree. -/
theorem algebraic : Cert.algebraic_InKernelIdeal_InReferenceIdeal := by
  intro m g m' g' _ hargs
  refine ⟨fun c => (InRun.dats m 0 c).arrAt 4 Cert.InKernelIdeal.cfg0.N,
    fun c => (InRun.dats m 0 c).arrAt 5 Cert.InKernelIdeal.cfg0.N,
    (θ_run _ _ _).mono (fun _ h => h.1) (InRun.run_blocks m g),
    (θ_run _ _ _).mono (fun r h c => ?_) (Cert.InReferenceIdeal.Value.run (F := Ideal) m' g')⟩
  obtain ⟨h0, h1, hk⟩ := h c
  obtain ⟨a0, a1, a2⟩ := hargs c
  refine ⟨h0.trans ?_, h1.trans ?_, hk⟩
  · rw [Cert.InReferenceIdeal.Read.val_main_v15_eq, a0, a1, a2]; exact (InFinal.final4 m c).symm
  · rw [Cert.InReferenceIdeal.Read.val_main_v13_eq, a0, a1]; exact (InFinal.final5 m c).symm

end Cert.InClaim

end
-- ==== Proof.FwdConv.lean ====
module

public import proofs.«01_k».proof.Proof.Gen.EvenFwdKernelIdeal.Value
public import Idealize.ShloMosaic.Lib.Pipeline.ValueKit

@[expose] public section

set_option maxRecDepth 16384

noncomputable section

namespace Cert.FwdConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenFwdKernelIdeal Cert.EvenFwdKernelIdeal.Gen

/-- One trip's row `8u + a` at lane `l`: the thirty-one taps against the shifted copies, and the bias. -/
def conv (T : Vec Ideal S32x8x1024 .f32) (X : Vec Ideal S8x288x1024 .f32) (b : Vec Ideal S1x1x1024 .f32) (k : ℕ) (hk : k < 8)
    (u : Fin 4) (a : Fin 8) (l : Fin 1024) : EReal :=
  (∑ n : Fin 31, (show EReal from T (ix3 ⟨n.val, by omega⟩ a l)) * (show EReal from X (ix3 ⟨(n.val + 2) % 8, by omega⟩ ⟨32 * k + 8 * ((n.val + 2) / 8) + 8 * u.val + a.val, by omega⟩ l)))
    + (show EReal from b (ix3 0 0 l))

/-- A tap read back. -/
theorem rdT (v : View sig Kind.tc .vmem S32x8x1024 .f32) (X : v.ty.Contents (Elt Ideal)) (n : ℕ) (hn : n < 32) (inb) (a : Fin 8) (l : Fin 1024) (z : Fin 1) :
    (show EReal from v.readAt (Elt Ideal) (Rect.unit (s := S32x8x1024) ![n, 0, 0] S1x8x1024.size inb).toLoadRect X (ix3 z a l)) = v.read (Elt Ideal) X (ix3 ⟨n, hn⟩ a l) := by
  refine congrArg (v.read (Elt Ideal) X) (funext fun i => Fin.ext ?_)
  have hz : z.val = 0 := by omega
  fin_cases i
  · show n + 1 * z.val = n; omega
  · show 0 + 1 * a.val = a.val; omega
  · show 0 + 1 * l.val = l.val; omega

/-- The bias read back. -/
theorem rdB (v : View sig Kind.tc .vmem S1x1x1024 .f32) (X : v.ty.Contents (Elt Ideal)) (inb) (l : Fin 1024) :
    (show EReal from v.readAt (Elt Ideal) (Rect.unit (s := S1x1x1024) ![0, 0, 0] S1x1x1024.size inb).toLoadRect X (ix3 0 0 l)) = v.read (Elt Ideal) X (ix3 0 0 l) := by
  refine congrArg (v.read (Elt Ideal) X) (funext fun i => Fin.ext ?_)
  fin_cases i
  · rfl
  · rfl
  · show 0 + 1 * l.val = l.val; omega

/-- A stacked row read back. -/
theorem rdX (v : View sig Kind.tc .vmem S8x288x1024 .f32) (X : v.ty.Contents (Elt Ideal)) (off : Fin 3 → ℕ) [C : ClosedOff off] (inb) (a : Fin 8) (l : Fin 1024) (z : Fin 1)
    (s r : ℕ) (hs : s < 8) (hr : r < 288) (h0 : C.form 0 = s) (h1 : C.form 1 + a.val = r) (h2 : C.form 2 = 0) :
    (show EReal from v.readAt (Elt Ideal) (Rect.unit (s := S8x288x1024) off S1x8x1024.size inb).toLoadRect X (ix3 z a l)) = v.read (Elt Ideal) X (ix3 ⟨s, hs⟩ ⟨r, hr⟩ l) := by
  have e := C.eq
  refine congrArg (v.read (Elt Ideal) X) (funext fun i => Fin.ext ?_)
  have hz : z.val = 0 := by omega
  fin_cases i
  · show off 0 + 1 * z.val = s; rw [e, h0]; omega
  · show off 1 + 1 * a.val = r; rw [e]; omega
  · show off 2 + 1 * l.val = l.val; rw [e, h2]; omega

/-- The first group of eight rows. -/
theorem cat0 (A B C D E : FVec Ideal S8x1024 .f32) (G H : Vec Ideal S1x8x1024 .f32) (b : Vec Ideal S1x1x1024 .f32) (a : Fin 8) (l : Fin 1024) :
    k0_pay182 (F := Ideal) A B C D E G H b (ix2 (⟨0 + a.val, by omega⟩ : Fin 32) l) = (show EReal from D (ix2 a l)) + (show EReal from b (ix3 0 0 l)) := by
  pointwise [k0_pay182]

theorem cat1 (A B C D E : FVec Ideal S8x1024 .f32) (G H : Vec Ideal S1x8x1024 .f32) (b : Vec Ideal S1x1x1024 .f32) (a : Fin 8) (l : Fin 1024) :
    k0_pay182 (F := Ideal) A B C D E G H b (ix2 (⟨8 + a.val, by omega⟩ : Fin 32) l) = (show EReal from E (ix2 a l)) + (show EReal from b (ix3 0 0 l)) := by
  pointwise [k0_pay182]

theorem cat2 (A B C D E : FVec Ideal S8x1024 .f32) (G H : Vec Ideal S1x8x1024 .f32) (b : Vec Ideal S1x1x1024 .f32) (a : Fin 8) (l : Fin 1024) :
    k0_pay182 (F := Ideal) A B C D E G H b (ix2 (⟨16 + a.val, by omega⟩ : Fin 32) l) = ((show EReal from A (ix2 a l)) + (show EReal from C (ix2 a l)) * (show EReal from G (ix3 0 a l))) + (show EReal from b (ix3 0 0 l)) := by
  pointwise [k0_pay182]
  simp only [dif_neg (show ¬ 16 + a.val < 8 by omega), dif_neg (show ¬ 16 + a.val - 8 < 8 by omega), show 16 + a.val - 8 - 8 = a.val by omega, dif_pos a.isLt]

theorem cat3 (A B C D E : FVec Ideal S8x1024 .f32) (G H : Vec Ideal S1x8x1024 .f32) (b : Vec Ideal S1x1x1024 .f32) (a : Fin 8) (l : Fin 1024) :
    k0_pay182 (F := Ideal) A B C D E G H b (ix2 (⟨24 + a.val, by omega⟩ : Fin 32) l) = ((show EReal from B (ix2 a l)) + (show EReal from C (ix2 a l)) * (show EReal from H (ix3 0 a l))) + (show EReal from b (ix3 0 0 l)) := by
  pointwise [k0_pay182]
  simp only [dif_neg (show ¬ 24 + a.val < 8 by omega), dif_neg (show ¬ 24 + a.val - 8 < 8 by omega), dif_neg (show ¬ 24 + a.val - 8 - 8 < 8 by omega), show 24 + a.val - 8 - 8 - 8 = a.val by omega]

set_option maxHeartbeats 16000000 in
theorem trip_pay0 (arg4 : Memref sig .tc .vmem S1x1x1024 .f32) (arg16 : Memref sig .tc .vmem S8x288x1024 .f32) (arg17 : Memref sig .tc .vmem S32x8x1024 .f32)
    (X4 : BufTy.Contents (Elt Ideal) arg4.view.ty) (X16 : BufTy.Contents (Elt Ideal) arg16.view.ty) (X17 : BufTy.Contents (Elt Ideal) arg17.view.ty)
    (k : Fin k0_t1_loop.trips) (hk : k.val < 8) (i1 i2 i3) (a : Fin 8) (l : Fin 1024) :
    k0_pay182 (F := Ideal) (trip_k0_t1.sl.r_122 arg16 arg17 X16 X17 k) (trip_k0_t1.sl.r_123 arg16 arg17 X16 X17 k) (trip_k0_t1.sl.r_124 arg17 X17)
          (trip_k0_t1.sl.r_125 arg16 arg17 X16 X17 k) (trip_k0_t1.sl.r_126 arg16 arg17 X16 X17 k)
          (View.readAt (Elt Ideal) arg16.view (Rect.unit (s := S8x288x1024) (k0_off7 k 32#32 16#32) S1x8x1024.size i1).toLoadRect X16)
          (View.readAt (Elt Ideal) arg16.view (Rect.unit (s := S8x288x1024) (k0_off7 k 32#32 24#32) S1x8x1024.size i2).toLoadRect X16)
          (View.readAt (Elt Ideal) arg4.view (Rect.unit (s := S1x1x1024) ![0, 0, 0] S1x1x1024.size i3).toLoadRect X4) (ix2 (⟨0 + a.val, by omega⟩ : Fin 32) l)
      = conv (arg17.view.read (Elt Ideal) X17) (arg16.view.read (Elt Ideal) X16) (arg4.view.read (Elt Ideal) X4) k.val hk 0 a l := by
  refine (cat0 _ _ _ _ _ _ _ _ a l).trans ?_
  pointwise [trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104, trip_k0_t1.sl.r_105, trip_k0_t1.sl.r_106, trip_k0_t1.sl.r_107, trip_k0_t1.sl.r_108, trip_k0_t1.sl.r_109, trip_k0_t1.sl.r_110, trip_k0_t1.sl.r_111, trip_k0_t1.sl.r_112, trip_k0_t1.sl.r_113, trip_k0_t1.sl.r_114, trip_k0_t1.sl.r_115, trip_k0_t1.sl.r_116, trip_k0_t1.sl.r_117, trip_k0_t1.sl.r_118, trip_k0_t1.sl.r_119, trip_k0_t1.sl.r_120, trip_k0_t1.sl.r_121, trip_k0_t1.sl.r_122, trip_k0_t1.sl.r_123, trip_k0_t1.sl.r_124, trip_k0_t1.sl.r_125, trip_k0_t1.sl.r_126, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay182]
  unfold conv
  simp only [Fin.sum_univ_castSucc, Finset.univ_eq_empty, Finset.sum_empty, zero_add]
  refine congrArg₂ (· + ·) ?_ (rdB _ _ _ _)
  repeat' refine congrArg₂ (· + ·) ?_ ?_
  all_goals refine Ideal.mul_congr ?_ ?_
  any_goals first
    | exact rdT _ _ _ _ _ _ _ _
    | (refine rdX _ _ _ _ _ _ _ _ _ _ _ ?_ ?_ ?_ <;> rfl)
    | (pointwise [k0_pay37]; exact rdT _ _ _ _ _ _ _ _)
    | (pointwise; refine rdX _ _ _ _ _ _ _ _ _ _ _ ?_ ?_ ?_ <;> rfl)
set_option maxHeartbeats 16000000 in
theorem trip_pay1 (arg4 : Memref sig .tc .vmem S1x1x1024 .f32) (arg16 : Memref sig .tc .vmem S8x288x1024 .f32) (arg17 : Memref sig .tc .vmem S32x8x1024 .f32)
    (X4 : BufTy.Contents (Elt Ideal) arg4.view.ty) (X16 : BufTy.Contents (Elt Ideal) arg16.view.ty) (X17 : BufTy.Contents (Elt Ideal) arg17.view.ty)
    (k : Fin k0_t1_loop.trips) (hk : k.val < 8) (i1 i2 i3) (a : Fin 8) (l : Fin 1024) :
    k0_pay182 (F := Ideal) (trip_k0_t1.sl.r_122 arg16 arg17 X16 X17 k) (trip_k0_t1.sl.r_123 arg16 arg17 X16 X17 k) (trip_k0_t1.sl.r_124 arg17 X17)
          (trip_k0_t1.sl.r_125 arg16 arg17 X16 X17 k) (trip_k0_t1.sl.r_126 arg16 arg17 X16 X17 k)
          (View.readAt (Elt Ideal) arg16.view (Rect.unit (s := S8x288x1024) (k0_off7 k 32#32 16#32) S1x8x1024.size i1).toLoadRect X16)
          (View.readAt (Elt Ideal) arg16.view (Rect.unit (s := S8x288x1024) (k0_off7 k 32#32 24#32) S1x8x1024.size i2).toLoadRect X16)
          (View.readAt (Elt Ideal) arg4.view (Rect.unit (s := S1x1x1024) ![0, 0, 0] S1x1x1024.size i3).toLoadRect X4) (ix2 (⟨8 + a.val, by omega⟩ : Fin 32) l)
      = conv (arg17.view.read (Elt Ideal) X17) (arg16.view.read (Elt Ideal) X16) (arg4.view.read (Elt Ideal) X4) k.val hk 1 a l := by
  refine (cat1 _ _ _ _ _ _ _ _ a l).trans ?_
  pointwise [trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104, trip_k0_t1.sl.r_105, trip_k0_t1.sl.r_106, trip_k0_t1.sl.r_107, trip_k0_t1.sl.r_108, trip_k0_t1.sl.r_109, trip_k0_t1.sl.r_110, trip_k0_t1.sl.r_111, trip_k0_t1.sl.r_112, trip_k0_t1.sl.r_113, trip_k0_t1.sl.r_114, trip_k0_t1.sl.r_115, trip_k0_t1.sl.r_116, trip_k0_t1.sl.r_117, trip_k0_t1.sl.r_118, trip_k0_t1.sl.r_119, trip_k0_t1.sl.r_120, trip_k0_t1.sl.r_121, trip_k0_t1.sl.r_122, trip_k0_t1.sl.r_123, trip_k0_t1.sl.r_124, trip_k0_t1.sl.r_125, trip_k0_t1.sl.r_126, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay182]
  unfold conv
  simp only [Fin.sum_univ_castSucc, Finset.univ_eq_empty, Finset.sum_empty, zero_add]
  refine congrArg₂ (· + ·) ?_ (rdB _ _ _ _)
  repeat' refine congrArg₂ (· + ·) ?_ ?_
  all_goals refine Ideal.mul_congr ?_ ?_
  any_goals first
    | exact rdT _ _ _ _ _ _ _ _
    | (refine rdX _ _ _ _ _ _ _ _ _ _ _ ?_ ?_ ?_ <;> rfl)
    | (pointwise [k0_pay37]; exact rdT _ _ _ _ _ _ _ _)
    | (pointwise; refine rdX _ _ _ _ _ _ _ _ _ _ _ ?_ ?_ ?_ <;> rfl)
set_option maxHeartbeats 16000000 in
theorem trip_pay2 (arg4 : Memref sig .tc .vmem S1x1x1024 .f32) (arg16 : Memref sig .tc .vmem S8x288x1024 .f32) (arg17 : Memref sig .tc .vmem S32x8x1024 .f32)
    (X4 : BufTy.Contents (Elt Ideal) arg4.view.ty) (X16 : BufTy.Contents (Elt Ideal) arg16.view.ty) (X17 : BufTy.Contents (Elt Ideal) arg17.view.ty)
    (k : Fin k0_t1_loop.trips) (hk : k.val < 8) (i1 i2 i3) (a : Fin 8) (l : Fin 1024) :
    k0_pay182 (F := Ideal) (trip_k0_t1.sl.r_122 arg16 arg17 X16 X17 k) (trip_k0_t1.sl.r_123 arg16 arg17 X16 X17 k) (trip_k0_t1.sl.r_124 arg17 X17)
          (trip_k0_t1.sl.r_125 arg16 arg17 X16 X17 k) (trip_k0_t1.sl.r_126 arg16 arg17 X16 X17 k)
          (View.readAt (Elt Ideal) arg16.view (Rect.unit (s := S8x288x1024) (k0_off7 k 32#32 16#32) S1x8x1024.size i1).toLoadRect X16)
          (View.readAt (Elt Ideal) arg16.view (Rect.unit (s := S8x288x1024) (k0_off7 k 32#32 24#32) S1x8x1024.size i2).toLoadRect X16)
          (View.readAt (Elt Ideal) arg4.view (Rect.unit (s := S1x1x1024) ![0, 0, 0] S1x1x1024.size i3).toLoadRect X4) (ix2 (⟨16 + a.val, by omega⟩ : Fin 32) l)
      = conv (arg17.view.read (Elt Ideal) X17) (arg16.view.read (Elt Ideal) X16) (arg4.view.read (Elt Ideal) X4) k.val hk 2 a l := by
  refine (cat2 _ _ _ _ _ _ _ _ a l).trans ?_
  pointwise [trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104, trip_k0_t1.sl.r_105, trip_k0_t1.sl.r_106, trip_k0_t1.sl.r_107, trip_k0_t1.sl.r_108, trip_k0_t1.sl.r_109, trip_k0_t1.sl.r_110, trip_k0_t1.sl.r_111, trip_k0_t1.sl.r_112, trip_k0_t1.sl.r_113, trip_k0_t1.sl.r_114, trip_k0_t1.sl.r_115, trip_k0_t1.sl.r_116, trip_k0_t1.sl.r_117, trip_k0_t1.sl.r_118, trip_k0_t1.sl.r_119, trip_k0_t1.sl.r_120, trip_k0_t1.sl.r_121, trip_k0_t1.sl.r_122, trip_k0_t1.sl.r_123, trip_k0_t1.sl.r_124, trip_k0_t1.sl.r_125, trip_k0_t1.sl.r_126, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay182]
  unfold conv
  simp only [Fin.sum_univ_castSucc, Finset.univ_eq_empty, Finset.sum_empty, zero_add]
  refine congrArg₂ (· + ·) ?_ (rdB _ _ _ _)
  repeat' refine congrArg₂ (· + ·) ?_ ?_
  all_goals refine Ideal.mul_congr ?_ ?_
  any_goals first
    | exact rdT _ _ _ _ _ _ _ _
    | (refine rdX _ _ _ _ _ _ _ _ _ _ _ ?_ ?_ ?_ <;> rfl)
    | (pointwise [k0_pay37]; exact rdT _ _ _ _ _ _ _ _)
    | (pointwise; refine rdX _ _ _ _ _ _ _ _ _ _ _ ?_ ?_ ?_ <;> rfl)
set_option maxHeartbeats 16000000 in
theorem trip_pay3 (arg4 : Memref sig .tc .vmem S1x1x1024 .f32) (arg16 : Memref sig .tc .vmem S8x288x1024 .f32) (arg17 : Memref sig .tc .vmem S32x8x1024 .f32)
    (X4 : BufTy.Contents (Elt Ideal) arg4.view.ty) (X16 : BufTy.Contents (Elt Ideal) arg16.view.ty) (X17 : BufTy.Contents (Elt Ideal) arg17.view.ty)
    (k : Fin k0_t1_loop.trips) (hk : k.val < 8) (i1 i2 i3) (a : Fin 8) (l : Fin 1024) :
    k0_pay182 (F := Ideal) (trip_k0_t1.sl.r_122 arg16 arg17 X16 X17 k) (trip_k0_t1.sl.r_123 arg16 arg17 X16 X17 k) (trip_k0_t1.sl.r_124 arg17 X17)
          (trip_k0_t1.sl.r_125 arg16 arg17 X16 X17 k) (trip_k0_t1.sl.r_126 arg16 arg17 X16 X17 k)
          (View.readAt (Elt Ideal) arg16.view (Rect.unit (s := S8x288x1024) (k0_off7 k 32#32 16#32) S1x8x1024.size i1).toLoadRect X16)
          (View.readAt (Elt Ideal) arg16.view (Rect.unit (s := S8x288x1024) (k0_off7 k 32#32 24#32) S1x8x1024.size i2).toLoadRect X16)
          (View.readAt (Elt Ideal) arg4.view (Rect.unit (s := S1x1x1024) ![0, 0, 0] S1x1x1024.size i3).toLoadRect X4) (ix2 (⟨24 + a.val, by omega⟩ : Fin 32) l)
      = conv (arg17.view.read (Elt Ideal) X17) (arg16.view.read (Elt Ideal) X16) (arg4.view.read (Elt Ideal) X4) k.val hk 3 a l := by
  refine (cat3 _ _ _ _ _ _ _ _ a l).trans ?_
  pointwise [trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104, trip_k0_t1.sl.r_105, trip_k0_t1.sl.r_106, trip_k0_t1.sl.r_107, trip_k0_t1.sl.r_108, trip_k0_t1.sl.r_109, trip_k0_t1.sl.r_110, trip_k0_t1.sl.r_111, trip_k0_t1.sl.r_112, trip_k0_t1.sl.r_113, trip_k0_t1.sl.r_114, trip_k0_t1.sl.r_115, trip_k0_t1.sl.r_116, trip_k0_t1.sl.r_117, trip_k0_t1.sl.r_118, trip_k0_t1.sl.r_119, trip_k0_t1.sl.r_120, trip_k0_t1.sl.r_121, trip_k0_t1.sl.r_122, trip_k0_t1.sl.r_123, trip_k0_t1.sl.r_124, trip_k0_t1.sl.r_125, trip_k0_t1.sl.r_126, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay182]
  unfold conv
  simp only [Fin.sum_univ_castSucc, Finset.univ_eq_empty, Finset.sum_empty, zero_add]
  refine congrArg₂ (· + ·) ?_ (rdB _ _ _ _)
  repeat' refine congrArg₂ (· + ·) ?_ ?_
  all_goals refine Ideal.mul_congr ?_ ?_
  any_goals first
    | exact rdT _ _ _ _ _ _ _ _
    | (refine rdX _ _ _ _ _ _ _ _ _ _ _ ?_ ?_ ?_ <;> rfl)
    | (pointwise [k0_pay37]; exact rdT _ _ _ _ _ _ _ _)
    | (pointwise; refine rdX _ _ _ _ _ _ _ _ _ _ _ ?_ ?_ ?_ <;> rfl)

/-- Row `R` of the block at lane `l`: the thirty-one taps against the shifted copies, and the bias. -/
def convR (T : Vec Ideal S32x8x1024 .f32) (X : Vec Ideal S8x288x1024 .f32) (b : Vec Ideal S1x1x1024 .f32) (R : Fin 256) (l : Fin 1024) : EReal :=
  (∑ n : Fin 31, (show EReal from T (ix3 ⟨n.val, by omega⟩ ⟨R.val % 8, by omega⟩ l)) * (show EReal from X (ix3 ⟨(n.val + 2) % 8, by omega⟩ ⟨8 * ((n.val + 2) / 8) + R.val, by omega⟩ l)))
    + (show EReal from b (ix3 0 0 l))

/-- The sum named by the trip and the sum named by the row. -/
theorem conv_eq (T X b k hk u a l) (R : Fin 256) (hR : R.val = 32 * k + 8 * u.val + a.val) : conv T X b k hk u a l = convR T X b R l := by
  unfold conv convR
  refine congrArg₂ (· + ·) (Finset.sum_congr rfl fun n _ => Ideal.mul_congr (congrArg T ?_) (congrArg X ?_)) rfl
  · congr 1; exact Fin.ext (by show a.val = R.val % 8; omega)
  · congr 1; exact Fin.ext (by show 32 * k + 8 * ((n.val + 2) / 8) + 8 * u.val + a.val = 8 * ((n.val + 2) / 8) + R.val; omega)

end Cert.FwdConv
end
-- ==== Proof.FwdTrips.lean ====
module

public import proofs.«01_k».proof.Proof.FwdConv

@[expose] public section

set_option maxRecDepth 16384

noncomputable section

namespace Cert.FwdTrips

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenFwdKernelIdeal Cert.EvenFwdKernelIdeal.Gen Cert.FwdConv

theorem trips_eq : k0_t1_loop.trips = 8 := by decide

theorem row_lt (k : Fin k0_t1_loop.trips) (x : Fin 32) : 32 * k.val + x.val < 256 := by
  have h : k.val < 8 := lt_of_lt_of_eq k.isLt trips_eq
  omega

/-- The pieces of one trip: one, at rows `32 k`. -/
theorem trip_piece (𝒱 : Variants) (c : Dev nD) (bd : Option 𝒱.V) (i : grid0.Coords) (arg1 : Memref sig .tc .vmem S256x5120 .f32) (harg1 : arg1.IsWhole) (arg2 : Memref sig .tc .vmem S32x5120 .f32) (harg2 : arg2.IsWhole) (arg3 : Memref sig .tc .vmem S1x32x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S4x256x256 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1x2048x1024 .bf16) (harg11 : arg11.IsWhole) (arg12 : Memref sig .tc .vmem S256x2048 .bf16) (harg12 : arg12.IsWhole) (arg13 : Memref sig .tc .vmem S256x1024 .f32) (harg13 : arg13.IsWhole) (arg14 : Memref sig .tc .vmem S256x1024 .f32) (harg14 : arg14.IsWhole) (arg15 : Memref sig .tc .vmem S296x1024 .f32) (harg15 : arg15.IsWhole) (arg16 : Memref sig .tc .vmem S8x288x1024 .f32) (harg16 : arg16.IsWhole) (arg17 : Memref sig .tc .vmem S32x8x1024 .f32) (harg17 : arg17.IsWhole) (v58 : Vec Ideal S288x1024 .f32) (X_arg4 : BufTy.Contents (Elt Ideal) arg4.view.ty) (X_arg16 : BufTy.Contents (Elt Ideal) arg16.view.ty) (X_arg17 : BufTy.Contents (Elt Ideal) arg17.view.ty) (k : Fin k0_t1_loop.trips) :
    ∃ inb w, tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v58 X_arg4 X_arg16 X_arg17 k = [⟨Rect.unit (s := S256x1024) (k0_off9 k) S32x1024.size inb, w⟩]
      ∧ ∀ (x : Fin 32) (l : Fin 1024), (show EReal from w (ix2 x l)) = convR (arg17.view.read (Elt Ideal) X_arg17) (arg16.view.read (Elt Ideal) X_arg16) (arg4.view.read (Elt Ideal) X_arg4) ⟨32 * k.val + x.val, row_lt k x⟩ l := by
  have hk : k.val < 8 := lt_of_lt_of_eq k.isLt (by decide)
  refine ⟨k0_off9_inb k, ?w, ?eq, ?pt⟩
  case eq =>
    unfold tripL_k0_t1 trip_k0_t1
    dsimp only
    rfl
  case pt =>
    intro x l
    obtain ⟨u, a, hx⟩ : ∃ (u : Fin 4) (a : Fin 8), x.val = 8 * u.val + a.val := ⟨⟨x.val / 8, by omega⟩, ⟨x.val % 8, by omega⟩, by simp only; omega⟩
    obtain ⟨x, hx'⟩ := x
    simp only at hx
    subst hx
    fin_cases u
    · exact (trip_pay0 arg4 arg16 arg17 X_arg4 X_arg16 X_arg17 k hk _ _ _ a l).trans (conv_eq _ _ _ _ _ _ _ _ _ (by simp only; omega))
    · exact (trip_pay1 arg4 arg16 arg17 X_arg4 X_arg16 X_arg17 k hk _ _ _ a l).trans (conv_eq _ _ _ _ _ _ _ _ _ (by simp only; omega))
    · exact (trip_pay2 arg4 arg16 arg17 X_arg4 X_arg16 X_arg17 k hk _ _ _ a l).trans (conv_eq _ _ _ _ _ _ _ _ _ (by simp only; omega))
    · exact (trip_pay3 arg4 arg16 arg17 X_arg4 X_arg16 X_arg17 k hk _ _ _ a l).trans (conv_eq _ _ _ _ _ _ _ _ _ (by simp only; omega))

/-- The rows that trip `k` stores. -/
theorem off9_mem (k : Fin k0_t1_loop.trips) (inb) (R : Fin 256) (l : Fin 1024) (h1 : 32 * k.val ≤ R.val) (h2 : R.val < 32 * k.val + 32) :
    ∃ y, (Rect.unit (s := S256x1024) (k0_off9 k) S32x1024.size inb).emb y = ix2 R l := by
  refine ⟨ix2 (⟨R.val - 32 * k.val, by omega⟩ : Fin 32) l, funext fun a => Fin.ext ?_⟩
  have e := k0_off9_eq k
  fin_cases a
  · show k0_off9 k 0 + 1 * (R.val - 32 * k.val) = R.val
    rw [e]; show 32 * k.val + 1 * (R.val - 32 * k.val) = R.val; omega
  · show k0_off9 k 1 + 1 * l.val = l.val
    rw [e]; show 0 + 1 * l.val = l.val; omega

/-- The row that row `x` of trip `k`'s store is. -/
theorem off9_emb (k : Fin k0_t1_loop.trips) (inb) (x : Fin 32) (l : Fin 1024) :
    (Rect.unit (s := S256x1024) (k0_off9 k) S32x1024.size inb).emb (ix2 x l) = ix2 (⟨32 * k.val + x.val, row_lt k x⟩ : Fin 256) l := by
  refine funext fun a => Fin.ext ?_
  have e := k0_off9_eq k
  fin_cases a
  · show k0_off9 k 0 + 1 * x.val = 32 * k.val + x.val
    rw [e]; show 32 * k.val + 1 * x.val = 32 * k.val + x.val; omega
  · show k0_off9 k 1 + 1 * l.val = l.val
    rw [e]; show 0 + 1 * l.val = l.val; omega

/-- The row sums as one function of the block's index. -/
def rowFn (T : Vec Ideal S32x8x1024 .f32) (X : Vec Ideal S8x288x1024 .f32) (b : Vec Ideal S1x1x1024 .f32) : S256x1024.Idx → Elt Ideal .f32 :=
  fun y => convR T X b (y 0) (y 1)

/-- One more trip's piece in front of pieces that hold the row sums and cover the rows before `32 k`. -/
theorem step (G : S256x1024.Idx → Elt Ideal .f32) (k : Fin k0_t1_loop.trips) (inb) (w : (Rect.unit (s := S256x1024) (k0_off9 k) S32x1024.size inb).shape.Idx → Elt Ideal .f32)
    (L L' : List (View.Piece (Elt Ideal) S256x1024 .f32)) (e : L' = [⟨Rect.unit (s := S256x1024) (k0_off9 k) S32x1024.size inb, w⟩] ++ L)
    (hw : ∀ (x : Fin 32) (l : Fin 1024), w (ix2 x l) = G (ix2 ⟨32 * k.val + x.val, row_lt k x⟩ l))
    (ih1 : ∀ p ∈ L, ∀ x : p.1.shape.Idx, p.2 x = G (p.1.emb x))
    (ih2 : ∀ (R : Fin 256) (l : Fin 1024), R.val < 32 * k.val → ∃ p ∈ L, (ix2 R l : S256x1024.Idx) ∈ p.1.set) :
    (∀ p ∈ L', ∀ x : p.1.shape.Idx, p.2 x = G (p.1.emb x))
      ∧ ∀ (R : Fin 256) (l : Fin 1024), R.val < 32 * (k.val + 1) → ∃ p ∈ L', (ix2 R l : S256x1024.Idx) ∈ p.1.set := by
  subst e
  refine ⟨fun p hp x => ?_, fun R l h => ?_⟩
  · rcases List.mem_cons.mp hp with rfl | hp
    · obtain ⟨x0, x1, rfl⟩ : ∃ (x0 : Fin 32) (x1 : Fin 1024), x = ix2 x0 x1 := ⟨x 0, x 1, eq_ix2 x⟩
      exact (hw x0 x1).trans (congrArg G (off9_emb _ inb x0 x1).symm)
    · exact ih1 p hp x
  · by_cases h' : R.val < 32 * k.val
    · obtain ⟨p, hp, hm⟩ := ih2 R l h'
      exact ⟨p, List.mem_cons_of_mem _ hp, hm⟩
    · refine ⟨_, List.mem_cons_self .., ?_⟩
      obtain ⟨y, hy⟩ := off9_mem k inb R l (by omega) (by omega)
      rw [← hy]
      exact LoadRect.idx_mem _ _

set_option maxHeartbeats 1600000 in
/-- The pieces of the trips before `n`: every one holds the row sums, and they cover the rows before `32 n`. -/
theorem pieces (𝒱 : Variants) (c : Dev nD) (bd : Option 𝒱.V) (i : grid0.Coords) (arg1 : Memref sig .tc .vmem S256x5120 .f32) (harg1 : arg1.IsWhole) (arg2 : Memref sig .tc .vmem S32x5120 .f32) (harg2 : arg2.IsWhole) (arg3 : Memref sig .tc .vmem S1x32x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S4x256x256 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1x2048x1024 .bf16) (harg11 : arg11.IsWhole) (arg12 : Memref sig .tc .vmem S256x2048 .bf16) (harg12 : arg12.IsWhole) (arg13 : Memref sig .tc .vmem S256x1024 .f32) (harg13 : arg13.IsWhole) (arg14 : Memref sig .tc .vmem S256x1024 .f32) (harg14 : arg14.IsWhole) (arg15 : Memref sig .tc .vmem S296x1024 .f32) (harg15 : arg15.IsWhole) (arg16 : Memref sig .tc .vmem S8x288x1024 .f32) (harg16 : arg16.IsWhole) (arg17 : Memref sig .tc .vmem S32x8x1024 .f32) (harg17 : arg17.IsWhole) (v58 : Vec Ideal S288x1024 .f32) (X_arg4 : BufTy.Contents (Elt Ideal) arg4.view.ty) (X_arg16 : BufTy.Contents (Elt Ideal) arg16.view.ty) (X_arg17 : BufTy.Contents (Elt Ideal) arg17.view.ty) (n : ℕ) (hn : n ≤ 8) :
    (∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v58 X_arg4 X_arg16 X_arg17 n, ∀ x : p.1.shape.Idx, p.2 x
        = rowFn (arg17.view.read (Elt Ideal) X_arg17) (arg16.view.read (Elt Ideal) X_arg16) (arg4.view.read (Elt Ideal) X_arg4) (p.1.emb x))
      ∧ ∀ (R : Fin 256) (l : Fin 1024), R.val < 32 * n → ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v58 X_arg4 X_arg16 X_arg17 n, (ix2 R l : S256x1024.Idx) ∈ p.1.set := by
  induction n with
  | zero => exact ⟨fun p hp => absurd hp (by simp [pb_k0_t1]), fun R l h => absurd h (by omega)⟩
  | succ n ih =>
    obtain ⟨inb, w, ew, hw⟩ := trip_piece 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v58 X_arg4 X_arg16 X_arg17 ⟨n, lt_of_lt_of_eq (Nat.lt_of_succ_le hn) trips_eq.symm⟩
    exact step _ ⟨n, lt_of_lt_of_eq (Nat.lt_of_succ_le hn) trips_eq.symm⟩ inb w _ _
      ((pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v58 X_arg4 X_arg16 X_arg17 ⟨n, lt_of_lt_of_eq (Nat.lt_of_succ_le hn) trips_eq.symm⟩).trans (congrArg (· ++ _) ew)) hw (ih (by omega)).1 (ih (by omega)).2

/-- What the whole loop leaves in a row. -/
theorem canon_at (𝒱 : Variants) (c : Dev nD) (bd : Option 𝒱.V) (i : grid0.Coords) (arg1 : Memref sig .tc .vmem S256x5120 .f32) (harg1 : arg1.IsWhole) (arg2 : Memref sig .tc .vmem S32x5120 .f32) (harg2 : arg2.IsWhole) (arg3 : Memref sig .tc .vmem S1x32x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S4x256x256 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1x2048x1024 .bf16) (harg11 : arg11.IsWhole) (arg12 : Memref sig .tc .vmem S256x2048 .bf16) (harg12 : arg12.IsWhole) (arg13 : Memref sig .tc .vmem S256x1024 .f32) (harg13 : arg13.IsWhole) (arg14 : Memref sig .tc .vmem S256x1024 .f32) (harg14 : arg14.IsWhole) (arg15 : Memref sig .tc .vmem S296x1024 .f32) (harg15 : arg15.IsWhole) (arg16 : Memref sig .tc .vmem S8x288x1024 .f32) (harg16 : arg16.IsWhole) (arg17 : Memref sig .tc .vmem S32x8x1024 .f32) (harg17 : arg17.IsWhole) (v58 : Vec Ideal S288x1024 .f32) (X_arg4 : BufTy.Contents (Elt Ideal) arg4.view.ty) (X_arg16 : BufTy.Contents (Elt Ideal) arg16.view.ty) (X_arg17 : BufTy.Contents (Elt Ideal) arg17.view.ty) (n : ℕ) (hn : n = 8) (R : Fin 256) (l : Fin 1024) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v58 X_arg4 X_arg16 X_arg17 n) (ix2 R l)
      = convR (arg17.view.read (Elt Ideal) X_arg17) (arg16.view.read (Elt Ideal) X_arg16) (arg4.view.read (Elt Ideal) X_arg4) R l := by
  obtain ⟨h1, h2⟩ := pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v58 X_arg4 X_arg16 X_arg17 n (by omega)
  exact View.canon_apply_of_pieces (rowFn _ _ _) _ h1 _ (h2 R l (by omega))
end Cert.FwdTrips
end
-- ==== Proof.FwdRead.lean ====
module

public import proofs.«01_k».proof.Proof.Gen.EvenFwdKernelIdeal.Skeleton
public import Idealize.ShloMosaic.Lib.Pipeline.ValueKit

@[expose] public section

set_option maxRecDepth 16384

noncomputable section

namespace Cert.FwdRead

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenFwdKernelIdeal Cert.EvenFwdKernelIdeal.Gen

theorem row_idx (s : ℕ) (hs : s < 8) (g) (r : Fin 288) (l : Fin 1024) :
    (Rect.unit (s := S296x1024) ![s, 0] S288x1024.size g).toLoadRect.idx (ix2 r l) = ix2 (⟨s + r.val, by omega⟩ : Fin 296) l := by
  refine funext fun i => Fin.ext ?_
  fin_cases i
  · show s + 1 * r.val = s + r.val; omega
  · show 0 + 1 * l.val = l.val; omega

theorem box_idx (s : ℕ) (hs : s < 8) (h) (z : Fin 1) (r : Fin 288) (l : Fin 1024) :
    (Rect.unit (s := S8x288x1024) ![s, 0, 0] S1x288x1024.size h).emb (ix3 z r l) = ix3 (⟨s, hs⟩ : Fin 8) r l := by
  have hz : z.val = 0 := by omega
  refine funext fun i => Fin.ext ?_
  fin_cases i
  · show s + 1 * z.val = s; omega
  · show 0 + 1 * r.val = r.val; omega
  · show 0 + 1 * l.val = l.val; omega

theorem row_lt (y : S8x288x1024.Idx) : (y 0).val + (y 1).val < 296 := by
  have h0 : (y 0).val < 8 := (y 0).isLt
  have h1 : (y 1).val < 288 := (y 1).isLt
  omega

/-- The shifted copies as one function of their index. -/
def shiftFn (W : List (View.Piece (Elt Ideal) S296x1024 .f32)) : S8x288x1024.Idx → Elt Ideal .f32 :=
  fun y => View.canon W (ix2 (⟨(y 0).val + (y 1).val, row_lt y⟩ : Fin 296) (y 2))

theorem cast_at (X : Vec Ideal S288x1024 .f32) (z : Fin 1) (r : Fin 288) (l : Fin 1024) :
    shapeCast S1x288x1024 X shapeCasts_S288x1024_S1x288x1024 (ix3 z r l) = X (ix2 r l) := by
  pointwise

/-- One shifted copy: row `r` of the copy at shift `s` is row `s + r` of the staged rows. -/
theorem one (v0 : View sig Kind.tc .vmem S296x1024 .f32) (W : List (View.Piece (Elt Ideal) S296x1024 .f32)) (s : ℕ) (hs : s < 8) (g) (h)
    (x : S1x288x1024.Idx) :
    shapeCast S1x288x1024 (v0.readCov W (Rect.unit (s := S296x1024) ![s, 0] S288x1024.size g).toLoadRect : Vec Ideal S288x1024 .f32) shapeCasts_S288x1024_S1x288x1024 x
      = shiftFn W ((Rect.unit (s := S8x288x1024) ![s, 0, 0] S1x288x1024.size h).emb x) := by
  obtain ⟨z, r, l, rfl⟩ : ∃ (z : Fin 1) (r : Fin 288) (l : Fin 1024), x = ix3 z r l := ⟨x 0, x 1, x 2, eq_ix3 x⟩
  rw [box_idx s hs]
  refine (cast_at _ z r l).trans ?_
  rw [View.readCov_eq_canon']
  exact congrArg (View.canon W) (row_idx s hs g r l)

theorem mem_one (s : Fin 8) (n : ℕ) (hn : n = s.val) (r : Fin 288) (l : Fin 1024) (h) :
    (ix3 s r l : S8x288x1024.Idx) ∈ (Rect.unit (s := S8x288x1024) ![n, 0, 0] S1x288x1024.size h).set := by
  have e : (Rect.unit (s := S8x288x1024) ![n, 0, 0] S1x288x1024.size h).emb (ix3 0 r l) = ix3 s r l := by
    refine funext fun i => Fin.ext ?_
    fin_cases i
    · show n + 1 * 0 = s.val; omega
    · show 0 + 1 * r.val = r.val; omega
    · show 0 + 1 * l.val = l.val; omega
  rw [← e]
  exact LoadRect.idx_mem _ _

/-- The eight shifted copies read at shift `s`, row `r`: row `s + r` of the staged rows. -/
theorem shift_at (v : View sig Kind.tc .vmem S8x288x1024 .f32) (v0 : View sig Kind.tc .vmem S296x1024 .f32) (W : List (View.Piece (Elt Ideal) S296x1024 .f32))
    (g0 h0 g1 h1 g2 h2 g3 h3 g4 h4 g5 h5 g6 h6 g7 h7) (s : Fin 8) (r : Fin 288) (l : Fin 1024) :
    v.read (Elt Ideal) (v.writes (Elt Ideal) v.junk ([⟨Rect.unit (s := S8x288x1024) ![7, 0, 0] S1x288x1024.size h7, k0_pay181 (v0.readCov W (Rect.unit (s := S296x1024) ![7, 0] S288x1024.size g7).toLoadRect)⟩,
      ⟨Rect.unit (s := S8x288x1024) ![6, 0, 0] S1x288x1024.size h6, k0_pay180 (v0.readCov W (Rect.unit (s := S296x1024) ![6, 0] S288x1024.size g6).toLoadRect)⟩,
      ⟨Rect.unit (s := S8x288x1024) ![5, 0, 0] S1x288x1024.size h5, k0_pay179 (v0.readCov W (Rect.unit (s := S296x1024) ![5, 0] S288x1024.size g5).toLoadRect)⟩,
      ⟨Rect.unit (s := S8x288x1024) ![4, 0, 0] S1x288x1024.size h4, k0_pay178 (v0.readCov W (Rect.unit (s := S296x1024) ![4, 0] S288x1024.size g4).toLoadRect)⟩,
      ⟨Rect.unit (s := S8x288x1024) ![3, 0, 0] S1x288x1024.size h3, k0_pay177 (v0.readCov W (Rect.unit (s := S296x1024) ![3, 0] S288x1024.size g3).toLoadRect)⟩,
      ⟨Rect.unit (s := S8x288x1024) ![2, 0, 0] S1x288x1024.size h2, k0_pay176 (v0.readCov W (Rect.unit (s := S296x1024) ![2, 0] S288x1024.size g2).toLoadRect)⟩,
      ⟨Rect.unit (s := S8x288x1024) ![1, 0, 0] S1x288x1024.size h1, k0_pay175 (v0.readCov W (Rect.unit (s := S296x1024) ![1, 0] S288x1024.size g1).toLoadRect)⟩,
      ⟨Rect.unit (s := S8x288x1024) ![0, 0, 0] S1x288x1024.size h0, k0_pay174 (v0.readCov W (Rect.unit (s := S296x1024) ![0, 0] S288x1024.size g0).toLoadRect)⟩] : List (View.Piece (Elt Ideal) S8x288x1024 .f32))) (ix3 s r l)
      = View.canon W (ix2 (⟨s.val + r.val, by omega⟩ : Fin 296) l) := by
  rw [View.read_writes_junk_apply_eq_canon]
  refine (View.canon_apply_of_pieces (shiftFn W) _ ?_ _ ?_).trans rfl
  · intro p hp x
    simp only [List.mem_cons, List.not_mem_nil, or_false] at hp
    rcases hp with rfl | rfl | rfl | rfl | rfl | rfl | rfl | rfl
    · exact one v0 W 7 (by decide) g7 h7 x
    · exact one v0 W 6 (by decide) g6 h6 x
    · exact one v0 W 5 (by decide) g5 h5 x
    · exact one v0 W 4 (by decide) g4 h4 x
    · exact one v0 W 3 (by decide) g3 h3 x
    · exact one v0 W 2 (by decide) g2 h2 x
    · exact one v0 W 1 (by decide) g1 h1 x
    · exact one v0 W 0 (by decide) g0 h0 x
  · fin_cases s
    · exact ⟨_, .tail _ (.tail _ (.tail _ (.tail _ (.tail _ (.tail _ (.tail _ (.head _))))))), mem_one 0 0 rfl r l h0⟩
    · exact ⟨_, .tail _ (.tail _ (.tail _ (.tail _ (.tail _ (.tail _ (.head _)))))), mem_one 1 1 rfl r l h1⟩
    · exact ⟨_, .tail _ (.tail _ (.tail _ (.tail _ (.tail _ (.head _))))), mem_one 2 2 rfl r l h2⟩
    · exact ⟨_, .tail _ (.tail _ (.tail _ (.tail _ (.head _)))), mem_one 3 3 rfl r l h3⟩
    · exact ⟨_, .tail _ (.tail _ (.tail _ (.head _))), mem_one 4 4 rfl r l h4⟩
    · exact ⟨_, .tail _ (.tail _ (.head _)), mem_one 5 5 rfl r l h5⟩
    · exact ⟨_, .tail _ (.head _), mem_one 6 6 rfl r l h6⟩
    · exact ⟨_, .head _, mem_one 7 7 rfl r l h7⟩

theorem not_mem_rows (o n : ℕ) (inb) (q : Fin 296) (l : Fin 1024) (h : q.val < o ∨ o + n ≤ q.val) :
    (ix2 q l : S296x1024.Idx) ∉ (Rect.unit (s := S296x1024) ![o, 0] ![n, 1024] inb).set := fun hm => by
  obtain ⟨x, hx⟩ := LoadRect.exists_idx_of_mem _ hm
  have e : o + 1 * (x 0).val = q.val := congrArg (fun y : S296x1024.Idx => (y 0).val) hx
  have hn : (x 0).val < n := (x 0).isLt
  clear hx hm
  generalize (x 0).val = j at e hn
  omega

theorem rows_emb (o n : ℕ) (inb) (q : Fin 296) (l : Fin 1024) (r : Fin n) (h : o + r.val = q.val) :
    (Rect.unit (s := S296x1024) ![o, 0] ![n, 1024] inb).emb (ix2 r l) = ix2 q l := by
  refine funext fun i => Fin.ext ?_
  fin_cases i
  · show o + 1 * r.val = q.val; omega
  · show 0 + 1 * l.val = l.val; omega

/-- A row that a store wrote. -/
theorem rows_hit (o n : ℕ) (inb) (w : (⟨2, ![n, 1024]⟩ : Shape).Idx → Elt Ideal .f32) (L : List (View.Piece (Elt Ideal) S296x1024 .f32))
    (q : Fin 296) (l : Fin 1024) (r : Fin n) (h : o + r.val = q.val) :
    View.canon (⟨Rect.unit (s := S296x1024) ![o, 0] ![n, 1024] inb, w⟩ :: L) (ix2 q l) = w (ix2 r l) := by
  rw [← rows_emb o n inb q l r h]
  exact View.canon_cons_emb _ _ _ _

/-- A row that a store left alone. -/
theorem rows_miss (o n : ℕ) (inb) (w : (⟨2, ![n, 1024]⟩ : Shape).Idx → Elt Ideal .f32) (L : List (View.Piece (Elt Ideal) S296x1024 .f32))
    (q : Fin 296) (l : Fin 1024) (h : q.val < o ∨ o + n ≤ q.val) :
    View.canon (⟨Rect.unit (s := S296x1024) ![o, 0] ![n, 1024] inb, w⟩ :: L) (ix2 q l) = View.canon L (ix2 q l) :=
  View.canon_cons_of_not_mem _ _ (not_mem_rows o n inb q l h)

/-- The staged rows before row 288: the halo's rows first, the block's after. -/
theorem stage_at (A : FVec Ideal S8x1024 .f32) (B : FVec Ideal S256x1024 .f32) (C : FVec Ideal S32x1024 .f32) (i1 i2 i3) (q : Fin 296) (hq : q.val < 288) (l : Fin 1024) :
    View.canon ([⟨Rect.unit (s := S296x1024) ![288, 0] ![8, 1024] i1, A⟩, ⟨Rect.unit (s := S296x1024) ![32, 0] ![256, 1024] i2, B⟩,
        ⟨Rect.unit (s := S296x1024) ![0, 0] ![32, 1024] i3, C⟩] : List (View.Piece (Elt Ideal) S296x1024 .f32)) (ix2 q l)
      = if h : q.val < 32 then C (ix2 (⟨q.val, h⟩ : Fin 32) l) else B (ix2 (⟨q.val - 32, by omega⟩ : Fin 256) l) := by
  refine (rows_miss 288 8 i1 A _ q l (Or.inl hq)).trans ?_
  by_cases h : q.val < 32
  · refine (rows_miss 32 256 i2 B _ q l (Or.inl h)).trans ?_
    rw [dif_pos h]
    exact rows_hit 0 32 i3 C [] q l ⟨q.val, h⟩ (Nat.zero_add _)
  · rw [dif_neg h]
    exact rows_hit 32 256 i2 B _ q l ⟨q.val - 32, by omega⟩ (by show 32 + (q.val - 32) = q.val; omega)
end Cert.FwdRead
end
-- ==== Proof.FwdGate.lean ====
/- The forward even mixer: the gated rows of one block, its halo and its vectors, in terms of the whole arrays. -/
module

public import proofs.«01_k».proof.Proof.Gen.EvenFwdKernelIdeal.Value
public import proofs.«01_k».proof.Proof.Scalars
public import Idealize.ShloMosaic.Lib.Pipeline.ValueKit

@[expose] public section

set_option maxRecDepth 16384

noncomputable section

namespace Cert.FwdGate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenFwdKernelIdeal Cert.EvenFwdKernelIdeal.Gen
variable (m : (ℓ : Loc nD τ sig) → Buf (Elt Ideal) ℓ) (c : Dev nD)

/-! The arguments, as the run finds them. -/
abbrev A0 : Vec Ideal S2048x5120 .f32 := m ((c : Thread nD τ).loc main_arg0)
abbrev A1 : Vec Ideal S31x1024 .f32 := m ((c : Thread nD τ).loc main_arg1)
abbrev A2 : Vec Ideal S1024 .f32 := m ((c : Thread nD τ).loc main_arg2)
abbrev A3 : Vec Ideal S1024 .f32 := m ((c : Thread nD τ).loc main_arg3)
abbrev A4 : Vec Ideal S1024 .f32 := m ((c : Thread nD τ).loc main_arg4)
abbrev A5 : Vec Ideal S4x256x256 .bf16 := m ((c : Thread nD τ).loc main_arg5)
abbrev A6 : Vec Ideal S1024 .f32 := m ((c : Thread nD τ).loc main_arg6)
abbrev A7 : Vec Ideal S1024 .f32 := m ((c : Thread nD τ).loc main_arg7)
abbrev A8 : Vec Ideal S2048x1024 .f32 := m ((c : Thread nD τ).loc main_arg8)
abbrev A9 : Vec Ideal S2048x1024 .bf16 := m ((c : Thread nD τ).loc main_arg9)

theorem cOne : Ideal.ofBits .f32 0x3F800000#32 = 1 := by
  simp [Ideal.ofBits, Ideal.ieee, -EReal.coe_mul]; norm_num

/-- The logistic function through the hyperbolic tangent of half its argument. -/
theorem half_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e]
    have p1 := Real.exp_pos (1 / 2 * r)
    have p2 := Real.exp_pos (-(1 / 2 * r))
    generalize Real.exp (1 / 2 * r) = a at *
    generalize Real.exp (-(1 / 2 * r)) = b at *
    field_simp
    nlinarith

/-- The gated columns of the projections, no row before the first. -/
def gated (P : Vec Ideal S2048x5120 .f32) (k : ℕ) (l : Fin 1024) : EReal :=
  if h : k < 2048 then P (ix2 (⟨k, h⟩ : Fin 2048) (⟨l.val, by omega⟩ : Fin 5120))
    * Ideal.logistic (P (ix2 (⟨k, h⟩ : Fin 2048) (⟨1024 + l.val, by omega⟩ : Fin 5120))) else 0

/-- Which blocks a point reads. -/
theorem idx : ∀ t : Fin cfg0.N, win0_0.index t = ![t.val, 0] ∧ win0_1.index t = ![8 * t.val - 1, 0]
    ∧ win0_2.index t = ![0, 0, 0] ∧ win0_3.index t = ![0, 0, 0] ∧ win0_4.index t = ![0, 0, 0] ∧ win0_5.index t = ![0, 0, 0]
    ∧ win0_6.index t = ![0, 0, 0] ∧ win0_7.index t = ![0, 0, 0] ∧ win0_8.index t = ![0, 0, 0] ∧ win0_9.index t = ![t.val, 0]
    ∧ win0_10.index t = ![0, 0, 0] :=
  (by decide +kernel : ∀ t : Fin grid0.N, _)

theorem pt_lt (t : Fin cfg0.N) : t.val < 8 := t.isLt.trans_eq N_0

/-- Row `r` of block `t`. -/
def row (t : Fin cfg0.N) (r : Fin 256) : Fin 2048 := ⟨256 * t.val + r.val, by have := pt_lt t; omega⟩

/-! The vectors as the kernel is given them. -/
theorem V_main_v3 : V m c main_v3 = broadcastInDim S1x1x1024 ![2] bcast_S1024_S1x1x1024_2 (A2 m c) := by
  unfold V; simp only [hostOps0, hostOps0_1, hostOps0_2, List.flatten_cons, List.flatten_nil, List.append_nil, List.cons_append, List.nil_append]; after_results
theorem V_main_v4 : V m c main_v4 = broadcastInDim S1x1x1024 ![2] bcast_S1024_S1x1x1024_2 (A3 m c) := by
  unfold V; simp only [hostOps0, hostOps0_1, hostOps0_2, List.flatten_cons, List.flatten_nil, List.append_nil, List.cons_append, List.nil_append]; after_results
theorem V_main_v5 : V m c main_v5 = broadcastInDim S1x1x1024 ![2] bcast_S1024_S1x1x1024_2 (A4 m c) := by
  unfold V; simp only [hostOps0, hostOps0_1, hostOps0_2, List.flatten_cons, List.flatten_nil, List.append_nil, List.cons_append, List.nil_append]; after_results
theorem V_main_v6 : V m c main_v6 = broadcastInDim S1x1x1024 ![2] bcast_S1024_S1x1x1024_2 (A6 m c) := by
  unfold V; simp only [hostOps0, hostOps0_1, hostOps0_2, List.flatten_cons, List.flatten_nil, List.append_nil, List.cons_append, List.nil_append]; after_results
theorem V_main_v7 : V m c main_v7 = broadcastInDim S1x1x1024 ![2] bcast_S1024_S1x1x1024_2 (A7 m c) := by
  unfold V; simp only [hostOps0, hostOps0_1, hostOps0_2, List.flatten_cons, List.flatten_nil, List.append_nil, List.cons_append, List.nil_append]; after_results
theorem V_main_v0 : V m c main_v0 = broadcastInDim S1x2048x1024 ![1, 2] bcast_S2048x1024_S1x2048x1024_1_2 (A9 m c) := by
  unfold V; simp only [hostOps0, hostOps0_1, hostOps0_2, List.flatten_cons, List.flatten_nil, List.append_nil, List.cons_append, List.nil_append]; after_results
theorem V_main_v2 : V m c main_v2 = pad S1x32x1024 ![0, 0, 0] ![0, 1, 0] ![0, 0, 0] (broadcastInDim S1x31x1024 ![1, 2] bcast_S31x1024_S1x31x1024_1_2 (A1 m c))
    (sitofp .f32 (constantI S_ 32 0#32) : FVec Ideal S_ .f32) pads_S1x31x1024_S1x32x1024_000_010_000 h_S_ := by
  unfold V; simp only [hostOps0, hostOps0_1, hostOps0_2, List.flatten_cons, List.flatten_nil, List.append_nil, List.cons_append, List.nil_append]; after_results; rfl

/-- A block of the projection. -/
theorem p_blk (t : Fin cfg0.N) (r : Fin 256) (n : Fin 5120) :
    (iblk m c 0 t : Vec Ideal S256x5120 .f32) (ix2 r n) = A0 m c (ix2 (row t r) n) := by
  blk_point [iblk, V, idx t, row]

/-- The rows before a block. -/
theorem halo_blk (t : Fin cfg0.N) (ht : 0 < t.val) (r : Fin 32) (n : Fin 5120) :
    (iblk m c 1 t : Vec Ideal S32x5120 .f32) (ix2 r n) = A0 m c (ix2 (⟨256 * t.val + r.val - 32, by have := pt_lt t; omega⟩ : Fin 2048) n) := by
  blk_point [iblk, V, idx t]

/-- The taps. -/
theorem w_blk (t : Fin cfg0.N) (n : Fin 31) (l : Fin 1024) :
    (iblk m c 2 t : Vec Ideal S1x32x1024 .f32) (ix3 0 (⟨n.val, by omega⟩ : Fin 32) l) = A1 m c (ix2 n l) := by
  have e : (win0_2.blk t).view.emb (ix3 0 (⟨n.val, by omega⟩ : Fin 32) l) = ix3 0 (⟨n.val, by omega⟩ : Fin 32) l := by blk_ext [idx t]
  show V m c main_v2 ((win0_2.blk t).view.emb _) = _
  rw [e, V_main_v2]
  pointwise

/-- The bias. -/
theorem b_blk (t : Fin cfg0.N) (l : Fin 1024) : (iblk m c 3 t : Vec Ideal S1x1x1024 .f32) (ix3 0 0 l) = A2 m c (ix1 l) := by
  have e : (win0_3.blk t).view.emb (ix3 0 0 l) = ix3 0 0 l := by blk_ext [idx t]
  show V m c main_v3 ((win0_3.blk t).view.emb _) = _
  rw [e, V_main_v3]
  pointwise

/-- The gated product of a block. -/
theorem gate_at (X Y : Vec Ideal S256x1024 .f32) (r : Fin 256) (l : Fin 1024) :
    k0_pay172 X Y (ix2 r l) = X (ix2 r l) * Ideal.logistic (Y (ix2 r l)) := by
  pointwise [k0_pay172]
  rw [Scalars.cHalf, half_tanh]

/-- The first point takes no halo. -/
theorem keep (t : Fin cfg0.N) : k0_pay168 (F := Ideal) (grid0.coords t) = if t.val = 0 then 0 else 1 := by
  have e : ∀ t : Fin cfg0.N, (Scalar.extui (Scalar.cmpi .sgt (BitVec.ofNat 32 (grid0.coords t 0).val) 0#32) : BitVec 32) = if t.val = 0 then 0#32 else 1#32 :=
    (by decide +kernel : ∀ t : Fin grid0.N, _)
  show Scalar.sitofp .f32 (Scalar.extui (Scalar.cmpi .sgt (BitVec.ofNat 32 (grid0.coords t 0).val) 0#32) : BitVec 32) = _
  rw [e t, Ideal.scalar_sitofp_def]
  split
  · show (((0#32 : BitVec 32).toInt : ℝ) : EReal) = 0
    simp
  · show (((1#32 : BitVec 32).toInt : ℝ) : EReal) = 1
    have : (1#32 : BitVec 32).toInt = 1 := by decide
    rw [this]; simp

/-- The gated product of the halo. -/
theorem halo_gate_at (t : Fin cfg0.N) (X Y : Vec Ideal S32x1024 .f32) (r : Fin 32) (l : Fin 1024) :
    k0_pay171 (grid0.coords t) X Y (ix2 r l) = if t.val = 0 then 0 else X (ix2 r l) * Ideal.logistic (Y (ix2 r l)) := by
  pointwise [k0_pay171]
  rw [Scalars.cHalf, half_tanh, keep]
  split <;> simp

end Cert.FwdGate
end
-- ==== Proof.FwdBlock.lean ====
/- The forward even mixer: the convolution of one block of rows, in terms of the whole arrays. -/
module

public import proofs.«01_k».proof.Proof.FwdTrips
public import proofs.«01_k».proof.Proof.FwdRead
public import proofs.«01_k».proof.Proof.FwdGate

@[expose] public section

set_option maxRecDepth 16384

noncomputable section

namespace Cert.FwdBlock

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenFwdKernelIdeal Cert.EvenFwdKernelIdeal.Gen Cert.FwdConv Cert.FwdTrips Cert.FwdRead Cert.FwdGate

/-! ## The convolution's weights, one row for each tap -/

/-- One tap's row of weights, laid over eight rows. -/
def tap (X : Vec Ideal S1x32x1024 .f32) (k : ℕ) (g : ∀ a : Fin 3, (![0, k, 0] : Fin 3 → ℕ) a + (![1, 1, 1024] : Fin 3 → ℕ) a ≤ S1x32x1024.size a) : FVec Ideal S1x8x1024 .f32 :=
  shapeCast S1x8x1024 (broadcastTo S8x1024 (shapeCast S1x1024 (shapeCast S1x1024
    (View.ld X (Rect.unit (s := S1x32x1024) ![0, k, 0] ![1, 1, 1024] g) : Vec Ideal S1x1x1024 .f32) shapeCasts_S1x1x1024_S1x1024) shapeCasts_S1x1024_S1x1024) broadcasts_S1x1024_S8x1024) shapeCasts_S8x1024_S1x8x1024

/-- The taps repeated over the eight rows of a group. -/
def tapFn (X : Vec Ideal S1x32x1024 .f32) : S32x8x1024.Idx → Elt Ideal .f32 := fun y => X (ix3 0 (y 0) (y 2))

/-- A row repeated over eight rows. -/
theorem spread_at (Y : Vec Ideal S1x1x1024 .f32) (z : Fin 1) (a : Fin 8) (l : Fin 1024) :
    shapeCast S1x8x1024 (broadcastTo S8x1024 (shapeCast S1x1024 (shapeCast S1x1024 Y shapeCasts_S1x1x1024_S1x1024) shapeCasts_S1x1024_S1x1024) broadcasts_S1x1024_S8x1024) shapeCasts_S8x1024_S1x8x1024 (ix3 z a l)
      = Y (ix3 0 0 l) := by
  pointwise

theorem tap_idx (k : ℕ) (hk : k < 32) (h) (z : Fin 1) (a : Fin 8) (l : Fin 1024) :
    (Rect.unit (s := S32x8x1024) ![k, 0, 0] ![1, 8, 1024] h).emb (ix3 z a l) = ix3 (⟨k, hk⟩ : Fin 32) a l := by
  have hz : z.val = 0 := by omega
  refine funext fun i => Fin.ext ?_
  fin_cases i
  · show k + 1 * z.val = k; omega
  · show 0 + 1 * a.val = a.val; omega
  · show 0 + 1 * l.val = l.val; omega

/-- One tap as it is loaded. -/
theorem tap_row (k : ℕ) (hk : k < 32) (g) (l : Fin 1024) :
    (Rect.unit (s := S1x32x1024) ![0, k, 0] ![1, 1, 1024] g).emb (ix3 0 0 l) = ix3 0 (⟨k, hk⟩ : Fin 32) l := by
  refine funext fun i => Fin.ext ?_
  fin_cases i
  · rfl
  · show k + 1 * 0 = k; omega
  · show 0 + 1 * l.val = l.val; omega

/-- One tap as it is stored: the row repeated. -/
theorem tap_one (X : Vec Ideal S1x32x1024 .f32) (k : ℕ) (hk : k < 32) (g h) (x : S1x8x1024.Idx) :
    tap X k g x = tapFn X ((Rect.unit (s := S32x8x1024) ![k, 0, 0] ![1, 8, 1024] h).emb x) := by
  obtain ⟨z, a, l, rfl⟩ : ∃ (z : Fin 1) (a : Fin 8) (l : Fin 1024), x = ix3 z a l := ⟨x 0, x 1, x 2, eq_ix3 x⟩
  rw [tap_idx k hk]
  exact (spread_at _ z a l).trans (congrArg X (tap_row k hk g l))

theorem mem_tap (n : Fin 32) (k : ℕ) (hn : k = n.val) (a : Fin 8) (l : Fin 1024) (h) :
    (ix3 n a l : S32x8x1024.Idx) ∈ (Rect.unit (s := S32x8x1024) ![k, 0, 0] ![1, 8, 1024] h).set := by
  have e := tap_idx k (hn ▸ n.isLt) h 0 a l
  have e' : (⟨k, hn ▸ n.isLt⟩ : Fin 32) = n := Fin.ext hn
  rw [e'] at e
  rw [← e]
  exact LoadRect.idx_mem _ _

/-- The rows of weights as they are stored, the last one first. -/
def tapPieces (X : Vec Ideal S1x32x1024 .f32) : List (View.Piece (Elt Ideal) S32x8x1024 .f32) :=
  [ ⟨Rect.unit (s := S32x8x1024) ![31, 0, 0] ![1, 8, 1024] (by decide), tap X 31 (by decide)⟩,
    ⟨Rect.unit (s := S32x8x1024) ![30, 0, 0] ![1, 8, 1024] (by decide), tap X 30 (by decide)⟩,
    ⟨Rect.unit (s := S32x8x1024) ![29, 0, 0] ![1, 8, 1024] (by decide), tap X 29 (by decide)⟩,
    ⟨Rect.unit (s := S32x8x1024) ![28, 0, 0] ![1, 8, 1024] (by decide), tap X 28 (by decide)⟩,
    ⟨Rect.unit (s := S32x8x1024) ![27, 0, 0] ![1, 8, 1024] (by decide), tap X 27 (by decide)⟩,
    ⟨Rect.unit (s := S32x8x1024) ![26, 0, 0] ![1, 8, 1024] (by decide), tap X 26 (by decide)⟩,
    ⟨Rect.unit (s := S32x8x1024) ![25, 0, 0] ![1, 8, 1024] (by decide), tap X 25 (by decide)⟩,
    ⟨Rect.unit (s := S32x8x1024) ![24, 0, 0] ![1, 8, 1024] (by decide), tap X 24 (by decide)⟩,
    ⟨Rect.unit (s := S32x8x1024) ![23, 0, 0] ![1, 8, 1024] (by decide), tap X 23 (by decide)⟩,
    ⟨Rect.unit (s := S32x8x1024) ![22, 0, 0] ![1, 8, 1024] (by decide), tap X 22 (by decide)⟩,
    ⟨Rect.unit (s := S32x8x1024) ![21, 0, 0] ![1, 8, 1024] (by decide), tap X 21 (by decide)⟩,
    ⟨Rect.unit (s := S32x8x1024) ![20, 0, 0] ![1, 8, 1024] (by decide), tap X 20 (by decide)⟩,
    ⟨Rect.unit (s := S32x8x1024) ![19, 0, 0] ![1, 8, 1024] (by decide), tap X 19 (by decide)⟩,
    ⟨Rect.unit (s := S32x8x1024) ![18, 0, 0] ![1, 8, 1024] (by decide), tap X 18 (by decide)⟩,
    ⟨Rect.unit (s := S32x8x1024) ![17, 0, 0] ![1, 8, 1024] (by decide), tap X 17 (by decide)⟩,
    ⟨Rect.unit (s := S32x8x1024) ![16, 0, 0] ![1, 8, 1024] (by decide), tap X 16 (by decide)⟩,
    ⟨Rect.unit (s := S32x8x1024) ![15, 0, 0] ![1, 8, 1024] (by decide), tap X 15 (by decide)⟩,
    ⟨Rect.unit (s := S32x8x1024) ![14, 0, 0] ![1, 8, 1024] (by decide), tap X 14 (by decide)⟩,
    ⟨Rect.unit (s := S32x8x1024) ![13, 0, 0] ![1, 8, 1024] (by decide), tap X 13 (by decide)⟩,
    ⟨Rect.unit (s := S32x8x1024) ![12, 0, 0] ![1, 8, 1024] (by decide), tap X 12 (by decide)⟩,
    ⟨Rect.unit (s := S32x8x1024) ![11, 0, 0] ![1, 8, 1024] (by decide), tap X 11 (by decide)⟩,
    ⟨Rect.unit (s := S32x8x1024) ![10, 0, 0] ![1, 8, 1024] (by decide), tap X 10 (by decide)⟩,
    ⟨Rect.unit (s := S32x8x1024) ![9, 0, 0] ![1, 8, 1024] (by decide), tap X 9 (by decide)⟩,
    ⟨Rect.unit (s := S32x8x1024) ![8, 0, 0] ![1, 8, 1024] (by decide), tap X 8 (by decide)⟩,
    ⟨Rect.unit (s := S32x8x1024) ![7, 0, 0] ![1, 8, 1024] (by decide), tap X 7 (by decide)⟩,
    ⟨Rect.unit (s := S32x8x1024) ![6, 0, 0] ![1, 8, 1024] (by decide), tap X 6 (by decide)⟩,
    ⟨Rect.unit (s := S32x8x1024) ![5, 0, 0] ![1, 8, 1024] (by decide), tap X 5 (by decide)⟩,
    ⟨Rect.unit (s := S32x8x1024) ![4, 0, 0] ![1, 8, 1024] (by decide), tap X 4 (by decide)⟩,
    ⟨Rect.unit (s := S32x8x1024) ![3, 0, 0] ![1, 8, 1024] (by decide), tap X 3 (by decide)⟩,
    ⟨Rect.unit (s := S32x8x1024) ![2, 0, 0] ![1, 8, 1024] (by decide), tap X 2 (by decide)⟩,
    ⟨Rect.unit (s := S32x8x1024) ![1, 0, 0] ![1, 8, 1024] (by decide), tap X 1 (by decide)⟩,
    ⟨Rect.unit (s := S32x8x1024) ![0, 0, 0] ![1, 8, 1024] (by decide), tap X 0 (by decide)⟩ ]

set_option maxHeartbeats 1600000 in
theorem taps_at (X : Vec Ideal S1x32x1024 .f32) (n : Fin 32) (a : Fin 8) (l : Fin 1024) : View.canon (tapPieces X) (ix3 n a l) = X (ix3 0 n l) := by
  refine (View.canon_apply_of_pieces (tapFn X) _ ?_ _ ?_).trans rfl
  · intro p hp x
    simp only [tapPieces, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact tap_one X 31 (by decide) _ (by decide) x
    · exact tap_one X 30 (by decide) _ (by decide) x
    · exact tap_one X 29 (by decide) _ (by decide) x
    · exact tap_one X 28 (by decide) _ (by decide) x
    · exact tap_one X 27 (by decide) _ (by decide) x
    · exact tap_one X 26 (by decide) _ (by decide) x
    · exact tap_one X 25 (by decide) _ (by decide) x
    · exact tap_one X 24 (by decide) _ (by decide) x
    · exact tap_one X 23 (by decide) _ (by decide) x
    · exact tap_one X 22 (by decide) _ (by decide) x
    · exact tap_one X 21 (by decide) _ (by decide) x
    · exact tap_one X 20 (by decide) _ (by decide) x
    · exact tap_one X 19 (by decide) _ (by decide) x
    · exact tap_one X 18 (by decide) _ (by decide) x
    · exact tap_one X 17 (by decide) _ (by decide) x
    · exact tap_one X 16 (by decide) _ (by decide) x
    · exact tap_one X 15 (by decide) _ (by decide) x
    · exact tap_one X 14 (by decide) _ (by decide) x
    · exact tap_one X 13 (by decide) _ (by decide) x
    · exact tap_one X 12 (by decide) _ (by decide) x
    · exact tap_one X 11 (by decide) _ (by decide) x
    · exact tap_one X 10 (by decide) _ (by decide) x
    · exact tap_one X 9 (by decide) _ (by decide) x
    · exact tap_one X 8 (by decide) _ (by decide) x
    · exact tap_one X 7 (by decide) _ (by decide) x
    · exact tap_one X 6 (by decide) _ (by decide) x
    · exact tap_one X 5 (by decide) _ (by decide) x
    · exact tap_one X 4 (by decide) _ (by decide) x
    · exact tap_one X 3 (by decide) _ (by decide) x
    · exact tap_one X 2 (by decide) _ (by decide) x
    · exact tap_one X 1 (by decide) _ (by decide) x
    · exact tap_one X 0 (by decide) _ (by decide) x
  · unfold tapPieces
    fin_cases n
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), mem_tap 0 0 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), mem_tap 1 1 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), mem_tap 2 2 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), mem_tap 3 3 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), mem_tap 4 4 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), mem_tap 5 5 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), mem_tap 6 6 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), mem_tap 7 7 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem_tap 8 8 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem_tap 9 9 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem_tap 10 10 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem_tap 11 11 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_tap 12 12 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_tap 13 13 rfl a l (by decide)⟩
    · exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_tap 14 14 rfl a l (by decide)⟩
    · exact ⟨_, .tail _ (.tail _ (.tail _ (.tail _ (.tail _ (.tail _ (.tail _ (.tail _ (.tail _ (.tail _ (.tail _ (.tail _ (.tail _ (.tail _ (.tail _ (.tail _ (.head _)))))))))))))))), mem_tap 15 15 rfl a l (by decide)⟩
    · exact ⟨_, .tail _ (.tail _ (.tail _ (.tail _ (.tail _ (.tail _ (.tail _ (.tail _ (.tail _ (.tail _ (.tail _ (.tail _ (.tail _ (.tail _ (.tail _ (.head _))))))))))))))), mem_tap 16 16 rfl a l (by decide)⟩
    · exact ⟨_, .tail _ (.tail _ (.tail _ (.tail _ (.tail _ (.tail _ (.tail _ (.tail _ (.tail _ (.tail _ (.tail _ (.tail _ (.tail _ (.tail _ (.head _)))))))))))))), mem_tap 17 17 rfl a l (by decide)⟩
    · exact ⟨_, .tail _ (.tail _ (.tail _ (.tail _ (.tail _ (.tail _ (.tail _ (.tail _ (.tail _ (.tail _ (.tail _ (.tail _ (.tail _ (.head _))))))))))))), mem_tap 18 18 rfl a l (by decide)⟩
    · exact ⟨_, .tail _ (.tail _ (.tail _ (.tail _ (.tail _ (.tail _ (.tail _ (.tail _ (.tail _ (.tail _ (.tail _ (.tail _ (.head _)))))))))))), mem_tap 19 19 rfl a l (by decide)⟩
    · exact ⟨_, .tail _ (.tail _ (.tail _ (.tail _ (.tail _ (.tail _ (.tail _ (.tail _ (.tail _ (.tail _ (.tail _ (.head _))))))))))), mem_tap 20 20 rfl a l (by decide)⟩
    · exact ⟨_, .tail _ (.tail _ (.tail _ (.tail _ (.tail _ (.tail _ (.tail _ (.tail _ (.tail _ (.tail _ (.head _)))))))))), mem_tap 21 21 rfl a l (by decide)⟩
    · exact ⟨_, .tail _ (.tail _ (.tail _ (.tail _ (.tail _ (.tail _ (.tail _ (.tail _ (.tail _ (.head _))))))))), mem_tap 22 22 rfl a l (by decide)⟩
    · exact ⟨_, .tail _ (.tail _ (.tail _ (.tail _ (.tail _ (.tail _ (.tail _ (.tail _ (.head _)))))))), mem_tap 23 23 rfl a l (by decide)⟩
    · exact ⟨_, .tail _ (.tail _ (.tail _ (.tail _ (.tail _ (.tail _ (.tail _ (.head _))))))), mem_tap 24 24 rfl a l (by decide)⟩
    · exact ⟨_, .tail _ (.tail _ (.tail _ (.tail _ (.tail _ (.tail _ (.head _)))))), mem_tap 25 25 rfl a l (by decide)⟩
    · exact ⟨_, .tail _ (.tail _ (.tail _ (.tail _ (.tail _ (.head _))))), mem_tap 26 26 rfl a l (by decide)⟩
    · exact ⟨_, .tail _ (.tail _ (.tail _ (.tail _ (.head _)))), mem_tap 27 27 rfl a l (by decide)⟩
    · exact ⟨_, .tail _ (.tail _ (.tail _ (.head _))), mem_tap 28 28 rfl a l (by decide)⟩
    · exact ⟨_, .tail _ (.tail _ (.head _)), mem_tap 29 29 rfl a l (by decide)⟩
    · exact ⟨_, .tail _ (.head _), mem_tap 30 30 rfl a l (by decide)⟩
    · exact ⟨_, .head _, mem_tap 31 31 rfl a l (by decide)⟩

/-! ## The staged rows -/

/-- A part of the columns, loaded. -/
theorem ld_at {k : ℕ} (X : Vec Ideal ⟨2, ![k, 5120]⟩ .f32) (o : ℕ) (ho : o + 1024 ≤ 5120) (g) (r : Fin k) (l : Fin 1024) :
    View.ld X (Rect.unit (s := ⟨2, ![k, 5120]⟩) ![0, o] ![k, 1024] g) (ix2 r l) = X (ix2 r (⟨o + l.val, by omega⟩ : Fin 5120)) := by
  refine congrArg X (funext fun i => Fin.ext ?_)
  fin_cases i
  · show 0 + 1 * r.val = r.val; omega
  · show o + 1 * l.val = o + l.val; omega

variable (m : (ℓ : Loc nD τ sig) → Buf (Elt Ideal) ℓ) (c : Dev nD)

/-- The gated row `256 t + q - 32`, no row before the first. -/
def staged (t : ℕ) (q : ℕ) (l : Fin 1024) : EReal := if 32 ≤ 256 * t + q then gated (A0 m c) (256 * t + q - 32) l else 0

/-- The gated product at a row counted from the start. -/
theorem gated_eq (P : Vec Ideal S2048x5120 .f32) (k : Fin 2048) (n : ℕ) (hn : n = k.val) (l : Fin 1024) :
    gated P n l = P (ix2 k (⟨0 + l.val, by omega⟩ : Fin 5120)) * Ideal.logistic (P (ix2 k (⟨1024 + l.val, by omega⟩ : Fin 5120))) := by
  subst hn
  unfold gated
  rw [dif_pos k.isLt]
  have e : (⟨0 + l.val, by omega⟩ : Fin 5120) = ⟨l.val, by omega⟩ := Fin.ext (Nat.zero_add _)
  rw [e]

/-- The stacked rows at a point: the halo, then the block. -/
theorem staged_at (t : Fin cfg0.N) (z : Ideal .f32) (i1 i2 i3 g1 g2 g3 g4) (q : Fin 296) (hq : q.val < 288) (l : Fin 1024) :
    View.canon ([⟨Rect.unit (s := S296x1024) ![288, 0] ![8, 1024] i1, k0_pay173 (F := Ideal) z⟩,
        ⟨Rect.unit (s := S296x1024) ![32, 0] ![256, 1024] i2, k0_pay172 (View.ld (iblk m c 0 t : Vec Ideal S256x5120 .f32) (Rect.unit (s := S256x5120) ![0, 0] ![256, 1024] g1))
          (View.ld (iblk m c 0 t : Vec Ideal S256x5120 .f32) (Rect.unit (s := S256x5120) ![0, 1024] ![256, 1024] g2))⟩,
        ⟨Rect.unit (s := S296x1024) ![0, 0] ![32, 1024] i3, k0_pay171 (grid0.coords t) (View.ld (iblk m c 1 t : Vec Ideal S32x5120 .f32) (Rect.unit (s := S32x5120) ![0, 0] ![32, 1024] g3))
          (View.ld (iblk m c 1 t : Vec Ideal S32x5120 .f32) (Rect.unit (s := S32x5120) ![0, 1024] ![32, 1024] g4))⟩] : List (View.Piece (Elt Ideal) S296x1024 .f32)) (ix2 q l) = staged m c t.val q.val l := by
  refine (stage_at _ _ _ i1 i2 i3 q hq l).trans ?_
  unfold staged
  have hN := pt_lt t
  by_cases h : q.val < 32
  · rw [dif_pos h, halo_gate_at]
    by_cases h0 : t.val = 0
    · rw [if_pos h0, if_neg (by omega)]
    · rw [if_neg h0, if_pos (by omega), gated_eq _ (⟨256 * t.val + q.val - 32, by omega⟩ : Fin 2048) _ rfl]
      refine congrArg₂ (fun a b : EReal => a * Ideal.logistic b) ?_ ?_
      · exact (ld_at _ 0 (by omega) g3 _ l).trans (halo_blk m c t (by omega) ⟨q.val, h⟩ _)
      · exact (ld_at _ 1024 (by omega) g4 _ l).trans (halo_blk m c t (by omega) ⟨q.val, h⟩ _)
  · rw [dif_neg h, if_pos (by omega), gate_at, gated_eq _ (row t ⟨q.val - 32, by omega⟩) _ (by show _ = 256 * t.val + (q.val - 32); omega)]
    refine congrArg₂ (fun a b : EReal => a * Ideal.logistic b) ?_ ?_
    · exact (ld_at _ 0 (by omega) g1 _ l).trans (p_blk m c t _ _)
    · exact (ld_at _ 1024 (by omega) g2 _ l).trans (p_blk m c t _ _)

/-! ## The convolution -/

/-- The convolution at row `k`: the taps reach thirty rows back. -/
def convAt (P : Vec Ideal S2048x5120 .f32) (W : Vec Ideal S31x1024 .f32) (B : Vec Ideal S1024 .f32) (k : ℕ) (l : Fin 1024) : EReal :=
  (∑ n : Fin 31, W (ix2 n l) * (if 30 ≤ k + n.val then gated P (k + n.val - 30) l else 0)) + B (ix1 l)

/-- The sum over a block's stacked rows is the convolution of the whole array. -/
theorem convR_eq (t : Fin cfg0.N) (T : Vec Ideal S32x8x1024 .f32) (X : Vec Ideal S8x288x1024 .f32) (b : Vec Ideal S1x1x1024 .f32)
    (hT : ∀ (n : Fin 31) (a : Fin 8) (l : Fin 1024), T (ix3 (⟨n.val, by omega⟩ : Fin 32) a l) = A1 m c (ix2 n l))
    (hX : ∀ (s : Fin 8) (r : Fin 288) (l : Fin 1024), s.val + r.val < 288 → X (ix3 s r l) = staged m c t.val (s.val + r.val) l)
    (hb : ∀ l, b (ix3 0 0 l) = A2 m c (ix1 l)) (R : Fin 256) (l : Fin 1024) :
    convR T X b R l = convAt (A0 m c) (A1 m c) (A2 m c) (256 * t.val + R.val) l := by
  unfold convR convAt
  refine congrArg₂ (fun a b : EReal => a + b) (Fin.sum_fin_congr fun n => congrArg₂ (fun a b : EReal => a * b) (hT n _ l) ?_) (hb l)
  refine (hX _ _ l (by show (n.val + 2) % 8 + (8 * ((n.val + 2) / 8) + R.val) < 288; omega)).trans ?_
  show staged m c t.val ((n.val + 2) % 8 + (8 * ((n.val + 2) / 8) + R.val)) l = _
  have e : (n.val + 2) % 8 + (8 * ((n.val + 2) / 8) + R.val) = n.val + 2 + R.val := by omega
  rw [e]
  unfold staged
  by_cases h : 30 ≤ 256 * t.val + R.val + n.val
  · rw [if_pos (by omega), if_pos h]
    congr 1
    omega
  · rw [if_neg (by omega), if_neg h]

/-- The weights carried between the points. -/
theorem taps (t : Fin cfg0.N) (n : Fin 31) (a : Fin 8) (l : Fin 1024) :
    (outsAt0 m c t.val t.isLt).2.2.2 (ix3 (⟨n.val, by omega⟩ : Fin 32) a l) = A1 m c (ix2 n l) := by
  obtain ⟨k, hk⟩ := t
  induction k with
  | zero =>
    rw [outsAt0_A m c ⟨0, hk⟩ (Nat.zero_mod _)]
    frame_out
    exact (taps_at (iblk m c 2 ⟨0, hk⟩) (⟨n.val, by omega⟩ : Fin 32) a l).trans (w_blk m c ⟨0, hk⟩ n l)
  | succ k ih =>
    have hN : k + 1 < 8 := hk.trans_eq N_0
    rw [outsAt0_B m c ⟨k + 1, hk⟩ (by show ¬(k + 1) % 8 = 0; omega)]
    exact ih (Nat.lt_of_succ_lt hk)

/-- The first block's convolution. -/
theorem u1_A (t : Fin cfg0.N) (h : t.val % 8 = 0) (R : Fin 256) (l : Fin 1024) :
    (outsAt0 m c t.val t.isLt).2.1 (ix2 R l) = convAt (A0 m c) (A1 m c) (A2 m c) (256 * t.val + R.val) l := by
  rw [outsAt0_A m c t h]
  frame_out
  refine (canon_at _ _ _ _ _ _ _ _ _ _ _ _ _ _ _ _ _ _ _ _ _ _ _ _ _ _ _ _ _ _ _ _ _ _ _ _ _ _ _ _ _ _ _ (by decide) R l).trans (convR_eq m c t _ _ _ ?_ ?_ ?_ R l)
  · intro n a l
    refine (View.read_writes_junk_apply_eq_canon _ _ _).trans ?_
    exact (taps_at (iblk m c 2 t) (⟨n.val, by omega⟩ : Fin 32) a l).trans (w_blk m c t n l)
  · intro s r l hq
    exact (shift_at _ _ _ _ _ _ _ _ _ _ _ _ _ _ _ _ _ _ _ s r l).trans (staged_at m c t _ _ _ _ _ _ _ _ _ hq l)
  · intro l
    exact (congrFun (Memref.IsWhole.read_unread _ _) _).trans (b_blk m c t l)

/-- A later block's convolution. -/
theorem u1_B (t : Fin cfg0.N) (h : ¬ t.val % 8 = 0) (R : Fin 256) (l : Fin 1024) :
    (outsAt0 m c t.val t.isLt).2.1 (ix2 R l) = convAt (A0 m c) (A1 m c) (A2 m c) (256 * t.val + R.val) l := by
  rw [outsAt0_B m c t h]
  frame_out
  refine (canon_at _ _ _ _ _ _ _ _ _ _ _ _ _ _ _ _ _ _ _ _ _ _ _ _ _ _ _ _ _ _ _ _ _ _ _ _ _ _ _ _ _ _ _ (by decide) R l).trans (convR_eq m c t _ _ _ ?_ ?_ ?_ R l)
  · intro n a l
    exact (congrFun (Memref.IsWhole.read_unread _ _) _).trans (taps m c ⟨t.val - 1, Nat.lt_of_le_of_lt (Nat.sub_le _ _) t.isLt⟩ n a l)
  · intro s r l hq
    exact (shift_at _ _ _ _ _ _ _ _ _ _ _ _ _ _ _ _ _ _ _ s r l).trans (staged_at m c t _ _ _ _ _ _ _ _ _ hq l)
  · intro l
    exact (congrFun (Memref.IsWhole.read_unread _ _) _).trans (b_blk m c t l)
end Cert.FwdBlock
end
-- ==== Proof.FwdSums.lean ====
/- Sums of rows up to one row, and the difference of two of them. -/
module

public import proofs.«01_k».proof.Proof.Scalars
public import Idealize.ShloMosaic.Lib.Pipeline.ValueKit

@[expose] public section

set_option maxRecDepth 16384

noncomputable section

namespace Cert.FwdSums

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A left fold that adds is the start plus the sum. -/
theorem foldl_add {N : Nat} (g : Fin N → EReal) (v : EReal) :
    (List.finRange N).foldl (fun r n => r + g n) v = v + ∑ n, g n := by
  have h : ∀ (L : List (Fin N)) (v : EReal), L.foldl (fun r n => r + g n) v = v + (L.map g).sum := by
    intro L
    induction L with
    | nil => intro v; simp
    | cons a L ih => intro v; rw [List.foldl_cons, ih, List.map_cons, List.sum_cons, add_assoc]
  rw [h, Fin.sum_univ_def]

/-- A running sum of rows: a window of as many rows as there are, padded before the first. -/
theorem running {N M : Nat} (hN : 0 < N) (x : (⟨2, ![N, M]⟩ : Shape).Idx → EReal) (f : Nat → Fin M → EReal)
    (hf : ∀ (k : Fin N) (l : Fin M), x (ix2 k l) = f k.val l)
    (h : (⟨2, ![N, M]⟩ : Shape).ReduceWindows ![N, 1] ![1, 1] ![N - 1, 0] ![0, 0] ⟨2, ![N, M]⟩) (k : Fin N) (l : Fin M) :
    Ideal.hostReduceWindowAdd ![N, 1] ![1, 1] ![N - 1, 0] ![0, 0] h x 0 (ix2 k l) = ∑ j ∈ Finset.range (k.val + 1), f j l := by
  unfold Ideal.hostReduceWindowAdd Host.reduceWindow
  refine (foldl_add _ _).trans ((zero_add _).trans ?_)
  have e := Equiv.sum_comp (Shape.rowMajor ⟨2, ![N, 1]⟩).symm (fun i : (⟨2, ![N, 1]⟩ : Shape).Idx =>
    if N - 1 ≤ k.val + (i 0).val then f (k.val + (i 0).val - (N - 1)) l else 0)
  have key : ∀ i : (⟨2, ![N, 1]⟩ : Shape).Idx, ∀ D : Decidable (∀ a : Fin 2, (![N - 1, 0] : Fin 2 → Nat) a ≤ ((ix2 k l : (⟨2, ![N, M]⟩ : Shape).Idx) a).val * (![1, 1] : Fin 2 → Nat) a + (i a).val
          ∧ ((ix2 k l : (⟨2, ![N, M]⟩ : Shape).Idx) a).val * (![1, 1] : Fin 2 → Nat) a + (i a).val - (![N - 1, 0] : Fin 2 → Nat) a < (![N, M] : Fin 2 → Nat) a),
      (@dite EReal _ D (fun hin => x (fun a => ⟨((ix2 k l : (⟨2, ![N, M]⟩ : Shape).Idx) a).val * (![1, 1] : Fin 2 → Nat) a + (i a).val - (![N - 1, 0] : Fin 2 → Nat) a, (hin a).2⟩)
      ) (fun _ => 0)) = if N - 1 ≤ k.val + (i 0).val then f (k.val + (i 0).val - (N - 1)) l else 0 := by
    intro i D
    have h1 : (i 1).val = 0 := Nat.lt_one_iff.mp (i 1).isLt
    have h0 : (i 0).val < N := (i 0).isLt
    have hk := k.isLt
    have hl := l.isLt
    by_cases hh : N - 1 ≤ k.val + (i 0).val
    · rw [if_pos hh, dif_pos (by
        intro a
        match a with
        | ⟨0, _⟩ =>
          show N - 1 ≤ k.val * 1 + (i 0).val ∧ k.val * 1 + (i 0).val - (N - 1) < N
          omega
        | ⟨1, _⟩ =>
          show 0 ≤ l.val * 1 + (i 1).val ∧ l.val * 1 + (i 1).val - 0 < M
          omega)]
      refine (congrArg x (eq_ix2 _)).trans ((hf _ _).trans ?_)
      show f (k.val * 1 + (i 0).val - (N - 1)) ⟨l.val * 1 + (i 1).val - 0, _⟩ = _
      congr 1
      · omega
      · exact Fin.ext (by show l.val * 1 + (i 1).val - 0 = l.val; omega)
    · rw [if_neg hh, dif_neg (by
        intro hin
        have := (hin 0).1
        have h2 : N - 1 ≤ k.val * 1 + (i 0).val := this
        omega)]
  refine Eq.trans (Finset.sum_congr rfl fun n _ => key _ _) (e.trans ?_)
  · rw [sum_idx2]
    refine Eq.trans (b := ∑ a : Fin N, (fun a : Nat => if N - 1 ≤ k.val + a then f (k.val + a - (N - 1)) l else 0) a.val) ?_ ?_
    · refine Finset.sum_congr rfl fun a _ => ?_
      rw [Fin.sum_univ_one]
      rfl
    · rw [Fin.sum_univ_eq_sum_range (fun a : Nat => if N - 1 ≤ k.val + a then f (k.val + a - (N - 1)) l else 0), ← Finset.sum_filter]
      have hk := k.isLt
      refine Finset.sum_nbij' (fun a => k.val + a - (N - 1)) (fun j => j + (N - 1) - k.val) ?_ ?_ ?_ ?_ ?_
      · intro a ha; simp only [Finset.mem_filter, Finset.mem_range] at ha ⊢; omega
      · intro a ha; simp only [Finset.mem_filter, Finset.mem_range] at ha ⊢; omega
      · intro a ha; simp only [Finset.mem_filter, Finset.mem_range] at ha ⊢; omega
      · intro a ha; simp only [Finset.mem_filter, Finset.mem_range] at ha ⊢; omega
      · intro a ha; rfl

/-- The same of the host's running sum. -/
theorem running_host {N M B : Nat} (hB : B = N - 1) (hN : 0 < N) (x : (⟨2, ![N, M]⟩ : Shape).Idx → EReal) (f : Nat → Fin M → EReal)
    (hf : ∀ (k : Fin N) (l : Fin M), x (ix2 k l) = f k.val l) {u : Shape} (init : u.Idx → EReal)
    (h : (⟨2, ![N, M]⟩ : Shape).ReduceWindows ![N, 1] ![1, 1] ![B, 0] ![0, 0] ⟨2, ![N, M]⟩) (hu : 0 < u.numel)
    (h0 : init (Shape.Idx.first hu) = 0) (k : Fin N) (l : Fin M) :
    Host.reduceWindowAdd (F := Ideal) (φ := .f32) ![N, 1] ![1, 1] ![B, 0] ![0, 0] x init h hu (ix2 k l) = ∑ j ∈ Finset.range (k.val + 1), f j l := by
  subst hB
  unfold Host.reduceWindowAdd
  rw [h0]
  exact running hN x f hf h k l

/-- The real row `k - i`, none where there is no such row. -/
def back (f : Nat → ℝ) (k i : Nat) : ℝ := if i ≤ k then f (k - i) else 0

/-- A difference of running sums is the sum over the rows between. -/
theorem diff_real (f : Nat → ℝ) (k w : Nat) :
    (∑ j ∈ Finset.range (k + 1), f j) - (∑ j ∈ Finset.range (k + 1 - w), f j) = ∑ i ∈ Finset.range w, back f k i := by
  induction w with
  | zero => simp
  | succ w ih =>
    rw [Finset.sum_range_succ (back f k) w, ← ih]
    unfold back
    by_cases h : w ≤ k
    · rw [if_pos h]
      have e : k + 1 - w = (k + 1 - (w + 1)) + 1 := by omega
      have e2 : k + 1 - (w + 1) = k - w := by omega
      have e3 : ∑ j ∈ Finset.range (k + 1 - w), f j = (∑ j ∈ Finset.range (k + 1 - (w + 1)), f j) + f (k - w) := by
        rw [e, Finset.sum_range_succ, e2]
      rw [e3]
      ring
    · rw [if_neg h]
      have e : k + 1 - w = 0 := by omega
      have e2 : k + 1 - (w + 1) = 0 := by omega
      rw [e, e2]
      simp

/-- A sum of real numbers. -/
theorem coe_sum {α : Type} (s : Finset α) (f : α → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- With finite rows the difference of two running sums is the sum of the rows between. -/
theorem diff (f : Nat → ℝ) (k w : Nat) :
    (∑ j ∈ Finset.range (k + 1), ((f j : ℝ) : EReal)) - (∑ j ∈ Finset.range (k + 1 - w), ((f j : ℝ) : EReal))
      = ((∑ i ∈ Finset.range w, back f k i : ℝ) : EReal) := by
  rw [coe_sum, coe_sum, ← EReal.coe_sub, diff_real]
end Cert.FwdSums
end
-- ==== Proof.FwdPool.lean ====
/- The pools of the reference: running sums, their differences, and the counts. -/
module

public import proofs.«01_k».proof.Proof.FwdGate
public import proofs.«01_k».proof.Proof.FwdSums
public import Idealize.ShloMosaic.Lib.WordArith
public import proofs.«01_k».proof.Proof.Gen.EvenFwdReferenceIdeal.Read

@[expose] public section

set_option maxRecDepth 16384

noncomputable section

namespace Cert.FwdPool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenFwdReferenceIdeal Cert.EvenFwdReferenceIdeal.Read Cert.FwdSums

/-- The rows that are pooled, as reals. -/
def vr (x0 : S2048x5120.Idx → EReal) (l : Fin 1024) (k : Nat) : ℝ :=
  if h : k < 2048 then (x0 (ix2 (⟨k, h⟩ : Fin 2048) (⟨3072 + l.val, by omega⟩ : Fin 5120))).toReal else 0

/-- They are finite. -/
def Finite (x0 : S2048x5120.Idx → EReal) : Prop :=
  ∀ (k : Fin 2048) (l : Fin 1024), x0 (ix2 k (⟨3072 + l.val, by omega⟩ : Fin 5120)) = ((vr x0 l k.val : ℝ) : EReal)

/-- The number of rows in a window. -/
def count (k : Nat) (w : ℝ) : EReal := min (((k + 1 : ℕ) : ℝ) : EReal) ((w : ℝ) : EReal)

/-- A window holds at least one row. -/
theorem count_eq (k : Nat) (w : ℝ) (hw : 0 < w) : ∃ c : ℝ, c ≠ 0 ∧ count k w = ((c : ℝ) : EReal) := by
  unfold count
  rcases le_total (((k + 1 : ℕ) : ℝ) : EReal) ((w : ℝ) : EReal) with h | h
  · exact ⟨((k + 1 : ℕ) : ℝ), by positivity, min_eq_left h⟩
  · exact ⟨w, hw.ne', min_eq_right h⟩

/-- The product with the reciprocal is the quotient. -/
theorem div_count (s : EReal) (k : Nat) (w : ℝ) (hw : 0 < w) : s * Ideal.div 1 (count k w) = Ideal.div s (count k w) := by
  obtain ⟨c, hc, e⟩ := count_eq k w hw
  rw [e]
  rw [Ideal.div_coe hc, Ideal.div_coe hc, one_mul]

/-- The reference's running sum. -/
theorem total (x0 : S2048x5120.Idx → EReal) (hf : Finite x0) (b : Fin 2049) (l : Fin 1024) :
    val_main_v64 (F := Ideal) x0 (ix2 b l) = ∑ j ∈ Finset.range b.val, ((vr x0 l j : ℝ) : EReal) := by
  have h0 : val_main_call2_call0_v0 (F := Ideal) (Shape.Idx.first Cert.EvenFwdReferenceIdeal.Gen.h_S_) = (0 : EReal) := by
    show Ideal.ofBits .f32 0x00000000#32 = 0
    simp [Ideal.ofBits, Ideal.ieee]
  have h63 : ∀ k : Fin 2048, val_main_v63 (F := Ideal) x0 (ix2 k l) = ∑ j ∈ Finset.range (k.val + 1), ((vr x0 l j : ℝ) : EReal) := by
    intro k
    unfold val_main_v63
    refine running_host (by decide) (by decide) (val_main_v3 (F := Ideal) x0) (fun j l => ((vr x0 l j : ℝ) : EReal)) ?_ _ _ _ h0 k l
    · intro k l
      pointwise [val_main_v3]
      exact hf k l
  pointwise [val_main_v64, val_main_v62, val_main_cst, val_main_cst_0, val_main_cst_1, val_main_c, val_main_c_2, val_main_cst_3, val_main_cst_4, val_main_cst_5, val_main_cst_6, val_main_cst_7, val_main_cst_8, val_main_cst_9, val_main_c_10, val_main_cst_11, val_main_cst_12, val_main_cst_13, val_main_cst_14, val_main_cst_15, val_main_cst_16, val_main_cst_17, val_main_cst_18]
  by_cases h : b.val < 1
  · refine (dif_pos h).trans ?_
    rw [show b.val = 0 by omega]
    exact (Finset.sum_range_zero fun j => ((vr x0 l j : ℝ) : EReal)).symm
  · refine (dif_neg h).trans ((h63 _).trans ?_)
    exact congrArg (fun n => ∑ j ∈ Finset.range n, ((vr x0 l j : ℝ) : EReal)) (show b.val - 1 + 1 = b.val by omega)

/-- The running sum at the window's start. -/
theorem lower (x0 : S2048x5120.Idx → EReal) (hf : Finite x0) (q : Fin 2048) (l : Fin 1024) (w : Nat) (hw : 0 < w) (y : ¬ q.val < w - 1 → EReal)
    (hy : ∀ h, y h = val_main_v64 (F := Ideal) x0 (ix2 (⟨q.val - (w - 1), by omega⟩ : Fin 2049) l)) :
    (if h : q.val < w - 1 then 0 else y h) = ∑ j ∈ Finset.range (q.val + 1 - w), ((vr x0 l j : ℝ) : EReal) := by
  by_cases h : q.val < w - 1
  · refine (dif_pos h).trans ?_
    rw [show q.val + 1 - w = 0 by omega]
    exact (Finset.sum_range_zero _).symm
  · refine (dif_neg h).trans ((hy h).trans ((total x0 hf _ l).trans ?_))
    exact congrArg (fun n => ∑ j ∈ Finset.range n, ((vr x0 l j : ℝ) : EReal)) (show q.val - (w - 1) = q.val + 1 - w by omega)

/-- The running sum at the window's end. -/
theorem upper (x0 : S2048x5120.Idx → EReal) (hf : Finite x0) (q : Fin 2048) (l : Fin 1024) :
    val_main_v64 (F := Ideal) x0 (ix2 (⟨1 + q.val, by omega⟩ : Fin 2049) l) = ∑ j ∈ Finset.range (q.val + 1), ((vr x0 l j : ℝ) : EReal) :=
  (total x0 hf _ l).trans (congrArg (fun n => ∑ j ∈ Finset.range n, ((vr x0 l j : ℝ) : EReal)) (Nat.add_comm 1 q.val))

theorem pos_at (k : Nat) (h : k < 2048) :
    (FloatOps.sitofp (F := Ideal) .f32 (IntOp.addi 1#32 (BitVec.ofNat 32 k)) : EReal) = (((k + 1 : ℕ) : ℝ) : EReal) := by
  have e : IntOp.addi 1#32 (BitVec.ofNat 32 k) = BitVec.ofNat 32 (k + 1) := by
    rw [Nat.add_comm k 1]
    exact (BitVec.ofNat_add ..).symm
  rw [e]
  show (((BitVec.ofNat 32 (k + 1)).toInt : ℝ) : EReal) = _
  rw [WordArith.toInt_ofNat_small _ (by omega)]
  push_cast
  rfl

theorem two : Ideal.ofBits .f32 0x40000000#32 = ((2 : ℝ) : EReal) := by
  simp [Ideal.ofBits, Ideal.ieee, -EReal.coe_mul]; norm_num
theorem four : Ideal.ofBits .f32 0x40800000#32 = ((4 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num

/-- The mean of a window of `w` rows. -/
def mean (x0 : S2048x5120.Idx → EReal) (q : Nat) (l : Fin 1024) (w : Nat) : EReal :=
  Ideal.div ((∑ i ∈ Finset.range w, back (vr x0 l) q i : ℝ) : EReal) (count q (w : ℝ))

/-- The reference's means, for the four widths of window. -/
theorem mean0 (x0 : S2048x5120.Idx → EReal) (hf : Finite x0) (q : Fin 2048) (l : Fin 256) :
    val_main_v79 (F := Ideal) x0 (ix2 q l) = mean x0 q.val (⟨l.val, by omega⟩ : Fin 1024) 2 := by
  pointwise [val_main_v69, val_main_v70, val_main_v71, val_main_v72, val_main_v73, val_main_v74, val_main_v75, val_main_v76, val_main_v77, val_main_v78, val_main_v79, val_main_v68, val_main_v67, val_main_v66, val_main_v65, val_main_cst, val_main_cst_0, val_main_cst_1, val_main_c, val_main_c_2, val_main_cst_3, val_main_cst_4, val_main_cst_5, val_main_cst_6, val_main_cst_7, val_main_cst_8, val_main_cst_9, val_main_c_10, val_main_cst_11, val_main_cst_12, val_main_cst_13, val_main_cst_14, val_main_cst_15, val_main_cst_16, val_main_cst_17, val_main_cst_18]
  rw [pos_at _ q.isLt, two]
  unfold mean
  rw [← FwdSums.diff]
  refine congrArg₂ Ideal.div (congrArg₂ (fun a b : EReal => a - b) ?_ ?_) ?_
  · exact upper x0 hf q _
  · exact lower x0 hf q (⟨l.val, by omega⟩ : Fin 1024) 2 (by decide) _ (fun _ => rfl)
  · unfold count
    exact congrArg (min _) (by norm_num)

theorem mean1 (x0 : S2048x5120.Idx → EReal) (hf : Finite x0) (q : Fin 2048) (l : Fin 256) :
    val_main_v90 (F := Ideal) x0 (ix2 q l) = mean x0 q.val (⟨256 + l.val, by omega⟩ : Fin 1024) 4 := by
  pointwise [val_main_v80, val_main_v81, val_main_v82, val_main_v83, val_main_v84, val_main_v85, val_main_v86, val_main_v87, val_main_v88, val_main_v89, val_main_v90, val_main_v68, val_main_v67, val_main_v66, val_main_v65, val_main_cst, val_main_cst_0, val_main_cst_1, val_main_c, val_main_c_2, val_main_cst_3, val_main_cst_4, val_main_cst_5, val_main_cst_6, val_main_cst_7, val_main_cst_8, val_main_cst_9, val_main_c_10, val_main_cst_11, val_main_cst_12, val_main_cst_13, val_main_cst_14, val_main_cst_15, val_main_cst_16, val_main_cst_17, val_main_cst_18]
  rw [pos_at _ q.isLt, four]
  unfold mean
  rw [← FwdSums.diff]
  refine congrArg₂ Ideal.div (congrArg₂ (fun a b : EReal => a - b) ?_ ?_) ?_
  · exact upper x0 hf q _
  · exact lower x0 hf q (⟨256 + l.val, by omega⟩ : Fin 1024) 4 (by decide) _ (fun _ => rfl)
  · unfold count
    exact congrArg (min _) (by norm_num)

theorem mean2 (x0 : S2048x5120.Idx → EReal) (hf : Finite x0) (q : Fin 2048) (l : Fin 256) :
    val_main_v101 (F := Ideal) x0 (ix2 q l) = mean x0 q.val (⟨512 + l.val, by omega⟩ : Fin 1024) 8 := by
  pointwise [val_main_v91, val_main_v92, val_main_v93, val_main_v94, val_main_v95, val_main_v96, val_main_v97, val_main_v98, val_main_v99, val_main_v100, val_main_v101, val_main_v68, val_main_v67, val_main_v66, val_main_v65, val_main_cst, val_main_cst_0, val_main_cst_1, val_main_c, val_main_c_2, val_main_cst_3, val_main_cst_4, val_main_cst_5, val_main_cst_6, val_main_cst_7, val_main_cst_8, val_main_cst_9, val_main_c_10, val_main_cst_11, val_main_cst_12, val_main_cst_13, val_main_cst_14, val_main_cst_15, val_main_cst_16, val_main_cst_17, val_main_cst_18]
  rw [pos_at _ q.isLt, eight]
  unfold mean
  rw [← FwdSums.diff]
  refine congrArg₂ Ideal.div (congrArg₂ (fun a b : EReal => a - b) ?_ ?_) ?_
  · exact upper x0 hf q _
  · exact lower x0 hf q (⟨512 + l.val, by omega⟩ : Fin 1024) 8 (by decide) _ (fun _ => rfl)
  · unfold count
    exact congrArg (min _) (by norm_num)

theorem mean3 (x0 : S2048x5120.Idx → EReal) (hf : Finite x0) (q : Fin 2048) (l : Fin 256) :
    val_main_v112 (F := Ideal) x0 (ix2 q l) = mean x0 q.val (⟨768 + l.val, by omega⟩ : Fin 1024) 16 := by
  pointwise [val_main_v102, val_main_v103, val_main_v104, val_main_v105, val_main_v106, val_main_v107, val_main_v108, val_main_v109, val_main_v110, val_main_v111, val_main_v112, val_main_v68, val_main_v67, val_main_v66, val_main_v65, val_main_cst, val_main_cst_0, val_main_cst_1, val_main_c, val_main_c_2, val_main_cst_3, val_main_cst_4, val_main_cst_5, val_main_cst_6, val_main_cst_7, val_main_cst_8, val_main_cst_9, val_main_c_10, val_main_cst_11, val_main_cst_12, val_main_cst_13, val_main_cst_14, val_main_cst_15, val_main_cst_16, val_main_cst_17, val_main_cst_18]
  rw [pos_at _ q.isLt, sixteen]
  unfold mean
  rw [← FwdSums.diff]
  refine congrArg₂ Ideal.div (congrArg₂ (fun a b : EReal => a - b) ?_ ?_) ?_
  · exact upper x0 hf q _
  · exact lower x0 hf q (⟨768 + l.val, by omega⟩ : Fin 1024) 16 (by decide) _ (fun _ => rfl)
  · unfold count
    exact congrArg (min _) (by norm_num)

/-- What the pools leave of a row: the mean of its window less the row. -/
def rest (x0 : S2048x5120.Idx → EReal) (q : Fin 2048) (l : Fin 1024) (w : Nat) : EReal :=
  mean x0 q.val l w - ((vr x0 l q.val : ℝ) : EReal)

/-- What the reference leaves of a row when the mean is taken off, for the four widths. -/
theorem rest0 (x0 : S2048x5120.Idx → EReal) (hf : Finite x0) (q : Fin 2048) (l : Fin 256) :
    val_main_v114 (F := Ideal) x0 (ix2 q (⟨l.val, by omega⟩ : Fin 1024)) = rest x0 q (⟨l.val, by omega⟩ : Fin 1024) 2 := by
  pointwise [val_main_v114, val_main_v113, val_main_v3]
  exact congrArg₂ (fun a b : EReal => a - b) (mean0 x0 hf q l)
    (hf q (⟨l.val, by omega⟩ : Fin 1024))

theorem rest1 (x0 : S2048x5120.Idx → EReal) (hf : Finite x0) (q : Fin 2048) (l : Fin 256) :
    val_main_v114 (F := Ideal) x0 (ix2 q (⟨256 + l.val, by omega⟩ : Fin 1024)) = rest x0 q (⟨256 + l.val, by omega⟩ : Fin 1024) 4 := by
  pointwise [val_main_v114, val_main_v113, val_main_v3]
  exact congrArg₂ (fun a b : EReal => a - b) (mean1 x0 hf q l)
    (hf q (⟨256 + l.val, by omega⟩ : Fin 1024))

theorem rest2 (x0 : S2048x5120.Idx → EReal) (hf : Finite x0) (q : Fin 2048) (l : Fin 256) :
    val_main_v114 (F := Ideal) x0 (ix2 q (⟨512 + l.val, by omega⟩ : Fin 1024)) = rest x0 q (⟨512 + l.val, by omega⟩ : Fin 1024) 8 := by
  pointwise [val_main_v114, val_main_v113, val_main_v3]
  exact congrArg₂ (fun a b : EReal => a - b) ((dif_neg (show ¬ 512 + l.val < 256 by omega)).trans ((dif_neg (show ¬ 512 + l.val - 256 < 256 by omega)).trans ((dif_pos (show 512 + l.val - 256 - 256 < 256 by omega)).trans ((congrArg (fun z : Fin 256 => val_main_v101 (F := Ideal) x0 (ix2 q z)) (Fin.ext (by show 512 + l.val - 256 - 256 = l.val; omega))).trans (mean2 x0 hf q l)))))
    (hf q (⟨512 + l.val, by omega⟩ : Fin 1024))

theorem rest3 (x0 : S2048x5120.Idx → EReal) (hf : Finite x0) (q : Fin 2048) (l : Fin 256) :
    val_main_v114 (F := Ideal) x0 (ix2 q (⟨768 + l.val, by omega⟩ : Fin 1024)) = rest x0 q (⟨768 + l.val, by omega⟩ : Fin 1024) 16 := by
  pointwise [val_main_v114, val_main_v113, val_main_v3]
  exact congrArg₂ (fun a b : EReal => a - b) ((dif_neg (show ¬ 768 + l.val < 256 by omega)).trans ((dif_neg (show ¬ 768 + l.val - 256 < 256 by omega)).trans ((dif_neg (show ¬ 768 + l.val - 256 - 256 < 256 by omega)).trans ((congrArg (fun z : Fin 256 => val_main_v112 (F := Ideal) x0 (ix2 q z)) (Fin.ext (by show 768 + l.val - 256 - 256 - 256 = l.val; omega))).trans (mean3 x0 hf q l)))))
    (hf q (⟨768 + l.val, by omega⟩ : Fin 1024))

end Cert.FwdPool
end
-- ==== Proof.FwdSecond.lean ====
/- The second half of `y`: each group's window sums, their means, and the gate of the branch. -/
module

public import proofs.«01_k».proof.Proof.FwdPool

@[expose] public section

set_option maxRecDepth 16384

noncomputable section

namespace Cert.FwdSecond

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenFwdReferenceIdeal.Read Cert.FwdSums Cert.FwdPool Cert.FwdGate
open Cert.EvenFwdKernelIdeal Cert.EvenFwdKernelIdeal.Gen

/-- The rows before row `q` that a window of at most sixteen rows reaches, as the block's staged rows hold them. -/
def Pooled (x0 : Vec Ideal S2048x5120 .f32) (q : Nat) (R : Fin 256) (X : Vec Ideal S288x1024 .f32) : Prop :=
  ∀ (i : Nat) (s : Fin 288) (l : Fin 1024), i < 16 → s.val = 32 + R.val - i → X (ix2 s l) = ((back (vr x0 l) q i : ℝ) : EReal)

/-- `v` holds the sums of `w` rows ending `i` rows before row `q`, in the columns `f`. -/
def Summed (x0 : Vec Ideal S2048x5120 .f32) (q : Nat) (R : Fin 256) (w : Nat) (f : Fin 256 → Fin 1024) (v : FVec Ideal S288x256 .f32) : Prop :=
  ∀ (i : Nat) (S : Fin 288) (l : Fin 256), i + w ≤ 16 → S.val = 32 + R.val - i →
    v (ix2 S l) = ((∑ j ∈ Finset.range w, back (vr x0 (f l)) q (i + j) : ℝ) : EReal)

/-- The sum over one row, for the four groups. -/
theorem base0 (x0 : Vec Ideal S2048x5120 .f32) (q : Nat) (R : Fin 256) (X : Vec Ideal S288x1024 .f32) (hX : Pooled x0 q R X) :
    Summed x0 q R 1 (fun l => ⟨l.val, by omega⟩) (extractStridedSlice S288x256 ![0, 0] X slices_S288x1024_o0_0_S288x256) := by
  intro i S l hi hS
  pointwise
  refine (hX i S _ (by omega) hS).trans ?_
  simp only [Finset.sum_range_one, Nat.add_zero]

theorem base1 (x0 : Vec Ideal S2048x5120 .f32) (q : Nat) (R : Fin 256) (X : Vec Ideal S288x1024 .f32) (hX : Pooled x0 q R X) :
    Summed x0 q R 1 (fun l => ⟨256 + l.val, by omega⟩) (extractStridedSlice S288x256 ![0, 256] X slices_S288x1024_o0_256_S288x256) := by
  intro i S l hi hS
  pointwise
  refine (hX i S _ (by omega) hS).trans ?_
  simp only [Finset.sum_range_one, Nat.add_zero]

theorem base2 (x0 : Vec Ideal S2048x5120 .f32) (q : Nat) (R : Fin 256) (X : Vec Ideal S288x1024 .f32) (hX : Pooled x0 q R X) :
    Summed x0 q R 1 (fun l => ⟨512 + l.val, by omega⟩) (extractStridedSlice S288x256 ![0, 512] X slices_S288x1024_o0_512_S288x256) := by
  intro i S l hi hS
  pointwise
  refine (hX i S _ (by omega) hS).trans ?_
  simp only [Finset.sum_range_one, Nat.add_zero]

theorem base3 (x0 : Vec Ideal S2048x5120 .f32) (q : Nat) (R : Fin 256) (X : Vec Ideal S288x1024 .f32) (hX : Pooled x0 q R X) :
    Summed x0 q R 1 (fun l => ⟨768 + l.val, by omega⟩) (extractStridedSlice S288x256 ![0, 768] X slices_S288x1024_o0_768_S288x256) := by
  intro i S l hi hS
  pointwise
  refine (hX i S _ (by omega) hS).trans ?_
  simp only [Finset.sum_range_one, Nat.add_zero]

/-- A sum over twice as many rows, by a shift and an addition. -/
theorem step1 (x0 : Vec Ideal S2048x5120 .f32) (q : Nat) (R : Fin 256) (f : Fin 256 → Fin 1024) (v : FVec Ideal S288x256 .f32)
    (hv : Summed x0 q R 1 f v) : Summed x0 q R 2 f (addf v (dynamicRotate 0 1#32 none v rotates_S288x256_d0)) := by
  intro i S l hi hS
  pointwise
  refine (congrArg₂ (fun a b : EReal => a + b) (hv i S l (by omega) hS) (hv (i + 1) _ l (by omega) (by show (_ % 288 : Nat) = _; omega))).trans ?_
  rw [← EReal.coe_add]
  refine congrArg (fun r : ℝ => (r : EReal)) (Eq.trans ?_ (Finset.sum_range_add (fun j => back (vr x0 (f l)) q (i + j)) 1 1).symm)
  simp only [Nat.add_assoc]

theorem step2 (x0 : Vec Ideal S2048x5120 .f32) (q : Nat) (R : Fin 256) (f : Fin 256 → Fin 1024) (v : FVec Ideal S288x256 .f32)
    (hv : Summed x0 q R 2 f v) : Summed x0 q R 4 f (addf v (dynamicRotate 0 2#32 none v rotates_S288x256_d0)) := by
  intro i S l hi hS
  pointwise
  refine (congrArg₂ (fun a b : EReal => a + b) (hv i S l (by omega) hS) (hv (i + 2) _ l (by omega) (by show (_ % 288 : Nat) = _; omega))).trans ?_
  rw [← EReal.coe_add]
  refine congrArg (fun r : ℝ => (r : EReal)) (Eq.trans ?_ (Finset.sum_range_add (fun j => back (vr x0 (f l)) q (i + j)) 2 2).symm)
  simp only [Nat.add_assoc]

theorem step4 (x0 : Vec Ideal S2048x5120 .f32) (q : Nat) (R : Fin 256) (f : Fin 256 → Fin 1024) (v : FVec Ideal S288x256 .f32)
    (hv : Summed x0 q R 4 f v) : Summed x0 q R 8 f (addf v (dynamicRotate 0 4#32 none v rotates_S288x256_d0)) := by
  intro i S l hi hS
  pointwise
  refine (congrArg₂ (fun a b : EReal => a + b) (hv i S l (by omega) hS) (hv (i + 4) _ l (by omega) (by show (_ % 288 : Nat) = _; omega))).trans ?_
  rw [← EReal.coe_add]
  refine congrArg (fun r : ℝ => (r : EReal)) (Eq.trans ?_ (Finset.sum_range_add (fun j => back (vr x0 (f l)) q (i + j)) 4 4).symm)
  simp only [Nat.add_assoc]

theorem step8 (x0 : Vec Ideal S2048x5120 .f32) (q : Nat) (R : Fin 256) (f : Fin 256 → Fin 1024) (v : FVec Ideal S288x256 .f32)
    (hv : Summed x0 q R 8 f v) : Summed x0 q R 16 f (addf v (dynamicRotate 0 8#32 none v rotates_S288x256_d0)) := by
  intro i S l hi hS
  pointwise
  refine (congrArg₂ (fun a b : EReal => a + b) (hv i S l (by omega) hS) (hv (i + 8) _ l (by omega) (by show (_ % 288 : Nat) = _; omega))).trans ?_
  rw [← EReal.coe_add]
  refine congrArg (fun r : ℝ => (r : EReal)) (Eq.trans ?_ (Finset.sum_range_add (fun j => back (vr x0 (f l)) q (i + j)) 8 8).symm)
  simp only [Nat.add_assoc]

/-- The sum over a window. -/
theorem final (x0 : Vec Ideal S2048x5120 .f32) (q : Nat) (R : Fin 256) (w : Nat) (f : Fin 256 → Fin 1024) (v : FVec Ideal S288x256 .f32)
    (hv : Summed x0 q R w f v) (S : Fin 288) (hS : S.val = 32 + R.val) (l : Fin 256) (hw : w ≤ 16 := by decide) :
    v (ix2 S l) = ((∑ i ∈ Finset.range w, back (vr x0 (f l)) q i : ℝ) : EReal) :=
  (hv 0 S l (by omega) (by omega)).trans (by simp only [Nat.zero_add])

/-- The window sums of the four groups. -/
theorem sum0 (x0 : Vec Ideal S2048x5120 .f32) (q : Nat) (R : Fin 256) (z : Ideal .f32) (h : Vec Ideal S32x1024 .f32) (p : Vec Ideal S256x1024 .f32)
    (hX : Pooled x0 q R (k0_pay185 z h p)) (l : Fin 256) :
    (k0_pay195 (k0_pay186 z h p) : FVec Ideal S256x256 .f32) (ix2 R l)
      = ((∑ i ∈ Finset.range 2, back (vr x0 (⟨l.val, by omega⟩ : Fin 1024)) q i : ℝ) : EReal) := by
  have e : (k0_pay195 (k0_pay186 z h p) : FVec Ideal S256x256 .f32) (ix2 R l) = (k0_pay186 z h p : FVec Ideal S288x256 .f32) (ix2 (⟨32 + R.val, by omega⟩ : Fin 288) l) := by
    pointwise [k0_pay195]
  exact e.trans (final x0 q R 2 (fun l => ⟨l.val, by omega⟩) _ (step1 x0 q R _ _ (base0 x0 q R _ hX)) _ rfl l)

theorem sum1 (x0 : Vec Ideal S2048x5120 .f32) (q : Nat) (R : Fin 256) (z : Ideal .f32) (h : Vec Ideal S32x1024 .f32) (p : Vec Ideal S256x1024 .f32) (hX : Pooled x0 q R (k0_pay185 z h p)) (S : Fin 288)
    (hS : S.val = 32 + R.val) (l : Fin 256) :
    (k0_pay188 (k0_pay187 z h p) : FVec Ideal S288x256 .f32) (ix2 S l) = ((∑ i ∈ Finset.range 4, back (vr x0 (⟨256 + l.val, by omega⟩ : Fin 1024)) q i : ℝ) : EReal) :=
  final x0 q R _ _ _ (step2 x0 q R _ _ (step1 x0 q R _ _ (base1 x0 q R _ hX))) S hS l

theorem sum2 (x0 : Vec Ideal S2048x5120 .f32) (q : Nat) (R : Fin 256) (X : Vec Ideal S288x1024 .f32) (hX : Pooled x0 q R X) (S : Fin 288)
    (hS : S.val = 32 + R.val) (l : Fin 256) :
    (k0_pay189 X : FVec Ideal S288x256 .f32) (ix2 S l) = ((∑ i ∈ Finset.range 8, back (vr x0 (⟨512 + l.val, by omega⟩ : Fin 1024)) q i : ℝ) : EReal) :=
  final x0 q R _ _ _ (step4 x0 q R _ _ (step2 x0 q R _ _ (step1 x0 q R _ _ (base2 x0 q R _ hX)))) S hS l

theorem sum3 (x0 : Vec Ideal S2048x5120 .f32) (q : Nat) (R : Fin 256) (X : Vec Ideal S288x1024 .f32) (hX : Pooled x0 q R X) (S : Fin 288)
    (hS : S.val = 32 + R.val) (l : Fin 256) :
    (k0_pay190 X : FVec Ideal S288x256 .f32) (ix2 S l) = ((∑ i ∈ Finset.range 16, back (vr x0 (⟨768 + l.val, by omega⟩ : Fin 1024)) q i : ℝ) : EReal) :=
  final x0 q R _ _ _ (step8 x0 q R _ _ (step4 x0 q R _ _ (step2 x0 q R _ _ (step1 x0 q R _ _ (base3 x0 q R _ hX))))) S hS l

/-- The number of rows in a window at a point's row. -/
theorem count_at (t : Nat) (ht : t < 8) (R : Fin 256) :
    (k0_pay191 (F := Ideal) (BitVec.ofNat 32 t) : Vec Ideal S256x1 .f32) (ix2 R 0) = (((256 * t + R.val + 1 : ℕ) : ℝ) : EReal) := by
  pointwise [k0_pay191]
  have e : IntOp.addi (Scalar.addi (Scalar.muli (BitVec.ofNat 32 t) 256#32) 1#32) (BitVec.ofNat 32 R.val) = BitVec.ofNat 32 (256 * t + R.val + 1) := by
    apply BitVec.eq_of_toNat_eq
    show ((((BitVec.ofNat 32 t) * 256#32) + 1#32) + BitVec.ofNat 32 R.val).toNat = _
    simp only [BitVec.toNat_add, BitVec.toNat_mul, BitVec.toNat_ofNat]
    omega
  rw [e]
  show (((BitVec.ofNat 32 (256 * t + R.val + 1)).toInt : ℝ) : EReal) = _
  rw [WordArith.toInt_ofNat_small _ (by omega)]
  push_cast
  rfl

/-- The reciprocals of the numbers of rows, for the four widths. -/
theorem inv0 (t : Nat) (ht : t < 8) (R : Fin 256) (l : Fin 256) :
    (k0_pay196 (F := Ideal) (BitVec.ofNat 32 t) : Vec Ideal S256x256 .f32) (ix2 R l) = Ideal.div 1 (count (256 * t + R.val) 2) := by
  pointwise [k0_pay196]
  rw [two, count_at t ht R]
  rfl
theorem inv1 (t : Nat) (ht : t < 8) (R : Fin 256) :
    (k0_pay192 (F := Ideal) (BitVec.ofNat 32 t) : Vec Ideal S256x1 .f32) (ix2 R 0) = Ideal.div 1 (count (256 * t + R.val) 4) := by
  pointwise [k0_pay192]
  rw [four, count_at t ht R]
  rfl
theorem inv2 (t : Nat) (ht : t < 8) (R : Fin 256) :
    (k0_pay193 (F := Ideal) (BitVec.ofNat 32 t) : Vec Ideal S256x1 .f32) (ix2 R 0) = Ideal.div 1 (count (256 * t + R.val) 8) := by
  pointwise [k0_pay193]
  rw [eight, count_at t ht R]
  rfl
theorem inv3 (t : Nat) (ht : t < 8) (R : Fin 256) :
    (k0_pay194 (F := Ideal) (BitVec.ofNat 32 t) : Vec Ideal S256x1 .f32) (ix2 R 0) = Ideal.div 1 (count (256 * t + R.val) 16) := by
  pointwise [k0_pay194]
  rw [sixteen, count_at t ht R]
  rfl

/-- The product, the bias, the scale and the gate of one group. -/
theorem combine (x0 : Vec Ideal S2048x5120 .f32) (x5 : Vec Ideal S4x256x256 .bf16) (x6 x7 : Vec Ideal S1024 .f32) (q : Fin 2048) (g : Fin 4)
    (l : Fin 256) (L : Fin 1024) (hL : L.val = 256 * g.val + l.val) (D W : Fin 256 → EReal) (b s p : EReal)
    (hD : ∀ (x : Fin 256) (X : Fin 1024), X.val = 256 * g.val + x.val → D x = val_main_v114 (F := Ideal) x0 (ix2 q X))
    (hW : ∀ x, W x = x5 (ix3 g x l)) (hb : b = x6 (ix1 L)) (hs : s = x7 (ix1 L))
    (hp : p = x0 (ix2 q (⟨4096 + L.val, by omega⟩ : Fin 5120))) :
    ((∑ x, D x * W x) + b) * s * (p * (Ideal.ofBits .f32 0x3F000000#32 * Ideal.tanh (Ideal.ofBits .f32 0x3F000000#32 * p) + Ideal.ofBits .f32 0x3F000000#32))
      = val_main_v128 (F := Ideal) x0 x5 x6 x7 (ix2 q L) := by
  pointwise [val_main_v128, val_main_v127, val_main_v126, val_main_v125, val_main_v124, val_main_v123, val_main_v122, val_main_v121, val_main_v120, val_main_v119, val_main_v118, val_main_v117, val_main_v116, val_main_v115, val_main_v4, val_main_call3_v0, val_main_call3_v1, val_main_call3_cst, val_main_call3_v2, val_main_call3_v3, val_main_call3_cst_0, val_main_call3_v4, val_main_call3_v5, val_main_cst, val_main_cst_0, val_main_cst_1, val_main_c, val_main_c_2, val_main_cst_3, val_main_cst_4, val_main_cst_5, val_main_cst_6, val_main_cst_7, val_main_cst_8, val_main_cst_9, val_main_c_10, val_main_cst_11, val_main_cst_12, val_main_cst_13, val_main_cst_14, val_main_cst_15, val_main_cst_16, val_main_cst_17, val_main_cst_18]
  rw [Scalars.cHalf, half_tanh, hb, hs, hp]
  refine congrArg₂ (fun a b : EReal => a * b) (congrArg (fun a : EReal => (a + x6 (ix1 L)) * x7 (ix1 L)) ?_) rfl
  refine Finset.sum_congr rfl fun x _ => ?_
  rw [hW x, hD x (⟨L.val / 256 * 256 + x.val, by omega⟩ : Fin 1024) (by show L.val / 256 * 256 + x.val = _; omega)]
  refine (mul_comm _ _).trans (congrArg₂ (fun a b : EReal => a * b) (congrArg x5 ?_) rfl)
  exact congrArg₂ (fun (a : Fin 4) (b : Fin 256) => ix3 a x b) (Fin.ext (by show g.val = L.val / 256; omega))
    (Fin.ext (by show l.val = L.val % 256; omega))

/-- The mean less the row, as the block computes it. -/
theorem less (x0 : Vec Ideal S2048x5120 .f32) (q : Fin 2048) (L : Fin 1024) (w : Nat) (hw : 0 < w) (s i x : EReal)
    (hs : s = ((∑ i ∈ Finset.range w, back (vr x0 L) q.val i : ℝ) : EReal)) (hi : i = Ideal.div 1 (count q.val (w : ℝ)))
    (hx : x = ((back (vr x0 L) q.val 0 : ℝ) : EReal)) : s * i - x = rest x0 q L w := by
  rw [hi, div_count _ _ _ (by exact_mod_cast hw), hs, hx]
  rfl
end Cert.FwdSecond
end
-- ==== Proof.FwdRest.lean ====
/- The rows of the other windows' blocks, and the staged rows the pools read. -/
module

public import proofs.«01_k».proof.Proof.FwdBlock
public import proofs.«01_k».proof.Proof.FwdSecond

@[expose] public section

set_option maxRecDepth 16384

noncomputable section

namespace Cert.FwdRest

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FwdGate Cert.FwdBlock Cert.FwdPool Cert.FwdSums Cert.FwdSecond
open Cert.EvenFwdKernelIdeal Cert.EvenFwdKernelIdeal.Gen
variable (m : (ℓ : Loc nD τ sig) → Buf (Elt Ideal) ℓ) (c : Dev nD)

/-- The vectors, the pooling weights, the stream and the output weights, as a point reads them. -/
theorem lg_blk (t : Fin cfg0.N) (l : Fin 1024) : (iblk m c 4 t : Vec Ideal S1x1x1024 .f32) (ix3 0 0 l) = A3 m c (ix1 l) := by
  have e : (win0_4.blk t).view.emb (ix3 0 0 l) = ix3 0 0 l := by blk_ext [idx t]
  show V m c main_v4 ((win0_4.blk t).view.emb _) = _
  rw [e, V_main_v4]
  pointwise
theorem lb_blk (t : Fin cfg0.N) (l : Fin 1024) : (iblk m c 5 t : Vec Ideal S1x1x1024 .f32) (ix3 0 0 l) = A4 m c (ix1 l) := by
  have e : (win0_5.blk t).view.emb (ix3 0 0 l) = ix3 0 0 l := by blk_ext [idx t]
  show V m c main_v5 ((win0_5.blk t).view.emb _) = _
  rw [e, V_main_v5]
  pointwise
theorem pb_blk (t : Fin cfg0.N) (l : Fin 1024) : (iblk m c 7 t : Vec Ideal S1x1x1024 .f32) (ix3 0 0 l) = A6 m c (ix1 l) := by
  have e : (win0_7.blk t).view.emb (ix3 0 0 l) = ix3 0 0 l := by blk_ext [idx t]
  show V m c main_v6 ((win0_7.blk t).view.emb _) = _
  rw [e, V_main_v6]
  pointwise
theorem ps_blk (t : Fin cfg0.N) (l : Fin 1024) : (iblk m c 8 t : Vec Ideal S1x1x1024 .f32) (ix3 0 0 l) = A7 m c (ix1 l) := by
  have e : (win0_8.blk t).view.emb (ix3 0 0 l) = ix3 0 0 l := by blk_ext [idx t]
  show V m c main_v7 ((win0_8.blk t).view.emb _) = _
  rw [e, V_main_v7]
  pointwise
theorem pw_blk (t : Fin cfg0.N) (g : Fin 4) (a b : Fin 256) : (iblk m c 6 t : Vec Ideal S4x256x256 .bf16) (ix3 g a b) = A5 m c (ix3 g a b) := by
  blk_point [iblk, V, idx t]
theorem h_blk (t : Fin cfg0.N) (r : Fin 256) (l : Fin 1024) : (iblk m c 9 t : Vec Ideal S256x1024 .f32) (ix2 r l) = A8 m c (ix2 (row t r) l) := by
  blk_point [iblk, V, idx t, row]
theorem wo_blk (t : Fin cfg0.N) (n : Fin 2048) (l : Fin 1024) : (iblk m c 10 t : Vec Ideal S1x2048x1024 .bf16) (ix3 0 n l) = A9 m c (ix2 n l) := by
  have e : (win0_10.blk t).view.emb (ix3 0 n l) = ix3 0 n l := by blk_ext [idx t]
  show V m c main_v0 ((win0_10.blk t).view.emb _) = _
  rw [e, V_main_v0]
  pointwise

theorem coord : ∀ t : Fin cfg0.N, (grid0.coords t 0).val = t.val :=
  (by decide +kernel : ∀ t : Fin grid0.N, _)

/-! Reading a rectangle of a block. -/
theorem ld_cols {k w : ℕ} (X : Vec Ideal ⟨2, ![k, 5120]⟩ .f32) (o : ℕ) (ho : o + w ≤ 5120) (g) (r : Fin k) (l : Fin w) :
    View.ld X (Rect.unit (s := ⟨2, ![k, 5120]⟩) ![0, o] ![k, w] g) (ix2 r l) = X (ix2 r (⟨o + l.val, by omega⟩ : Fin 5120)) := by
  refine congrArg X (funext fun i => Fin.ext ?_)
  fin_cases i
  · show 0 + 1 * r.val = r.val; omega
  · show o + 1 * l.val = o + l.val; omega

/-- One group's weights, loaded. -/
theorem ld_slab (X : Vec Ideal S4x256x256 .bf16) (n : ℕ) (hn : n < 4) (g) (a b : Fin 256) :
    View.ld X (Rect.unit (s := S4x256x256) ![n, 0, 0] ![1, 256, 256] g) (ix3 0 a b) = X (ix3 (⟨n, hn⟩ : Fin 4) a b) := by
  refine congrArg X (funext fun i => Fin.ext ?_)
  fin_cases i
  · show n + 1 * 0 = n; omega
  · show 0 + 1 * a.val = a.val; omega
  · show 0 + 1 * b.val = b.val; omega

/-- One group's part of a vector, loaded. -/
theorem ld_vec (X : Vec Ideal S1x1x1024 .f32) (o : ℕ) (ho : o + 256 ≤ 1024) (g) (l : Fin 256) :
    View.ld X (Rect.unit (s := S1x1x1024) ![0, 0, o] ![1, 1, 256] g) (ix3 0 0 l) = X (ix3 0 0 (⟨o + l.val, by omega⟩ : Fin 1024)) := by
  refine congrArg X (funext fun i => Fin.ext ?_)
  fin_cases i
  · rfl
  · rfl
  · show o + 1 * l.val = o + l.val; omega

/-- The halo's rows above the block's. -/
theorem stack (z : Ideal .f32) (h : Vec Ideal S32x1024 .f32) (p : Vec Ideal S256x1024 .f32) (s : Fin 288) (l : Fin 1024) :
    (k0_pay185 z h p : FVec Ideal S288x1024 .f32) (ix2 s l)
      = if hs : s.val < 32 then ((h (ix2 (⟨s.val, hs⟩ : Fin 32) l) : EReal) * z : EReal) else p (ix2 (⟨s.val - 32, by omega⟩ : Fin 256) l) := by
  pointwise [k0_pay185]

/-- The rows staged for the pools: those of the halo, kept unless the block is the first, and those of the block. -/
theorem pooled (t : Fin cfg0.N) (hf : Finite (A0 m c)) (g1 g2) (R : Fin 256) :
    Pooled (A0 m c) (row t R).val R (k0_pay185 (k0_pay168 (F := Ideal) (grid0.coords t)) (View.ld (iblk m c 1 t) (Rect.unit (s := S32x5120) ![0, 3072] ![32, 1024] g1))
      (View.ld (iblk m c 0 t) (Rect.unit (s := S256x5120) ![0, 3072] ![256, 1024] g2))) := by
  have h8 := pt_lt t
  intro i s l hi hs
  have hq : (row t R).val = 256 * t.val + R.val := rfl
  by_cases h : s.val < 32
  · refine (stack _ _ _ s l).trans ((dif_pos h).trans ((congrArg₂ (fun a b : EReal => a * b)
      (ld_cols (w := 1024) (iblk m c 1 t) 3072 (by decide) g1 (⟨s.val, h⟩ : Fin 32) l) (keep t)).trans ?_))
    by_cases ht : t.val = 0
    · rw [if_pos ht]
      unfold back
      rw [if_neg (by omega)]
      exact mul_zero _
    · rw [if_neg ht]
      unfold back
      rw [if_pos (by omega)]
      refine (mul_one _).trans ((halo_blk m c t (by omega) _ _).trans ((hf _ l).trans (congrArg (fun k => ((vr (A0 m c) l k : ℝ) : EReal)) ?_)))
      show 256 * t.val + s.val - 32 = (row t R).val - i
      omega
  · refine (stack _ _ _ s l).trans ((dif_neg h).trans ((ld_cols (w := 1024) (iblk m c 0 t) 3072 (by decide) g2 (⟨s.val - 32, by omega⟩ : Fin 256) l).trans
      ((p_blk m c t _ _).trans ?_)))
    unfold back
    rw [if_pos (by omega)]
    refine (hf _ l).trans (congrArg (fun k => ((vr (A0 m c) l k : ℝ) : EReal)) ?_)
    show 256 * t.val + (s.val - 32) = (row t R).val - i
    omega

/-! The five pieces of a block of `y`. -/
theorem emb_at (o w : ℕ) (ho : o + w ≤ 2048) (g) (r : Fin 256) (l : Fin w) :
    (Rect.unit (s := S256x2048) ![0, o] ![256, w] g).emb (ix2 r l) = ix2 r (⟨o + l.val, by omega⟩ : Fin 2048) := by
  refine funext fun i => Fin.ext ?_
  fin_cases i
  · show 0 + 1 * r.val = r.val; omega
  · show o + 1 * l.val = o + l.val; omega

theorem mem_at (o w : ℕ) (ho : o + w ≤ 2048) (g) (r : Fin 256) (L : Fin 2048) (h1 : o ≤ L.val) (h2 : L.val < o + w) :
    (ix2 r L : S256x2048.Idx) ∈ (Rect.unit (s := S256x2048) ![0, o] ![256, w] g).set := by
  have e := emb_at o w ho g r (⟨L.val - o, by omega⟩ : Fin w)
  have e2 : (ix2 r (⟨o + (L.val - o), by omega⟩ : Fin 2048) : S256x2048.Idx) = ix2 r L := congrArg (ix2 r) (Fin.ext (by show o + (L.val - o) = L.val; omega))
  rw [← e2]
  refine Eq.mp (congrArg (fun y => y ∈ (Rect.unit (s := S256x2048) ![0, o] ![256, w] g).set) e) ?_
  exact LoadRect.idx_mem _ _

/-- A store whose values are those of `Y` at its place. -/
theorem piece (Y : Fin 256 → Fin 2048 → EReal) (o w : ℕ) (ho : o + w ≤ 2048) (g) (W : (⟨2, ![256, w]⟩ : Shape).Idx → EReal)
    (h : ∀ (r : Fin 256) (l : Fin w), W (ix2 r l) = Y r (⟨o + l.val, by omega⟩ : Fin 2048)) (x : (⟨2, ![256, w]⟩ : Shape).Idx) :
    W x = (fun i : S256x2048.Idx => Y (i 0) (i 1)) ((Rect.unit (s := S256x2048) ![0, o] ![256, w] g).emb x) := by
  obtain ⟨r, l, rfl⟩ : ∃ r l, x = ix2 r l := ⟨x 0, x 1, eq_ix2 x⟩
  rw [emb_at o w ho g r l]
  exact h r l

/-- The five stores into the block together give `Y`. -/
theorem five (Y : Fin 256 → Fin 2048 → EReal) (W0 : S256x1024.Idx → Elt Ideal .bf16) (W1 W2 W3 W4 : S256x256.Idx → Elt Ideal .bf16) (g0 g1 g2 g3 g4)
    (h0 : ∀ (r : Fin 256) (l : Fin 1024), W0 (ix2 r l) = Y r (⟨0 + l.val, by omega⟩ : Fin 2048))
    (h1 : ∀ (r : Fin 256) (l : Fin 256), W1 (ix2 r l) = Y r (⟨1024 + l.val, by omega⟩ : Fin 2048))
    (h2 : ∀ (r : Fin 256) (l : Fin 256), W2 (ix2 r l) = Y r (⟨1280 + l.val, by omega⟩ : Fin 2048))
    (h3 : ∀ (r : Fin 256) (l : Fin 256), W3 (ix2 r l) = Y r (⟨1536 + l.val, by omega⟩ : Fin 2048))
    (h4 : ∀ (r : Fin 256) (l : Fin 256), W4 (ix2 r l) = Y r (⟨1792 + l.val, by omega⟩ : Fin 2048)) (R : Fin 256) (L : Fin 2048) :
    View.canon (Val := Elt Ideal) (s := S256x2048) (e := .bf16) [⟨Rect.unit ![0, 1792] ![256, 256] g4, W4⟩, ⟨Rect.unit ![0, 1536] ![256, 256] g3, W3⟩,
      ⟨Rect.unit ![0, 1280] ![256, 256] g2, W2⟩, ⟨Rect.unit ![0, 1024] ![256, 256] g1, W1⟩, ⟨Rect.unit ![0, 0] ![256, 1024] g0, W0⟩] (ix2 R L) = Y R L := by
  refine View.canon_apply_of_pieces (Val := Elt Ideal) (S := S256x2048) (e := .bf16) (fun i : S256x2048.Idx => (Y (i 0) (i 1) : EReal)) _ ?_ _ ?_
  · intro p hp
    simp only [List.mem_cons, List.not_mem_nil, or_false] at hp
    rcases hp with rfl | rfl | rfl | rfl | rfl
    · exact piece Y 1792 256 (by decide) g4 W4 h4
    · exact piece Y 1536 256 (by decide) g3 W3 h3
    · exact piece Y 1280 256 (by decide) g2 W2 h2
    · exact piece Y 1024 256 (by decide) g1 W1 h1
    · exact piece Y 0 1024 (by decide) g0 W0 h0
  · have hL := L.isLt
    by_cases a4 : 1792 ≤ L.val
    · exact ⟨_, List.mem_cons_self .., mem_at 1792 256 (by decide) g4 R L a4 (by omega)⟩
    by_cases a3 : 1536 ≤ L.val
    · exact ⟨_, List.mem_cons_of_mem _ (List.mem_cons_self ..), mem_at 1536 256 (by decide) g3 R L a3 (by omega)⟩
    by_cases a2 : 1280 ≤ L.val
    · exact ⟨_, List.mem_cons_of_mem _ (List.mem_cons_of_mem _ (List.mem_cons_self ..)), mem_at 1280 256 (by decide) g2 R L a2 (by omega)⟩
    by_cases a1 : 1024 ≤ L.val
    · exact ⟨_, List.mem_cons_of_mem _ (List.mem_cons_of_mem _ (List.mem_cons_of_mem _ (List.mem_cons_self ..))), mem_at 1024 256 (by decide) g1 R L a1 (by omega)⟩
    · exact ⟨_, List.mem_cons_of_mem _ (List.mem_cons_of_mem _ (List.mem_cons_of_mem _ (List.mem_cons_of_mem _ (List.mem_cons_self ..)))), mem_at 0 1024 (by decide) g0 R L (by omega) (by omega)⟩
end Cert.FwdRest
end
-- ==== Proof.FwdGroups.lean ====
/- Each group's columns of the second half of `y`, from what its window sums, counts and vectors hold. -/
module

public import proofs.«01_k».proof.Proof.FwdSecond

@[expose] public section

set_option maxRecDepth 16384

noncomputable section

namespace Cert.FwdGroups

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenFwdReferenceIdeal.Read Cert.FwdPool Cert.FwdSums Cert.FwdSecond
open Cert.EvenFwdKernelIdeal Cert.EvenFwdKernelIdeal.Gen
variable (x0 : Vec Ideal S2048x5120 .f32) (x5 : Vec Ideal S4x256x256 .bf16) (x6 x7 : Vec Ideal S1024 .f32) (hf : Finite x0) (q : Fin 2048) (R : Fin 256)
  (X : FVec Ideal S288x1024 .f32) (w : Vec Ideal S1x256x256 .bf16) (b : Vec Ideal S1x1x256 .f32) (p : Vec Ideal S256x256 .f32) (sc : Vec Ideal S1x1x256 .f32)
  (hX : Pooled x0 q.val R X)
include hf hX

/-- One group of columns of the pooled half: the mean taken off, the product, the bias, the scale and the gate. -/
theorem group0 (s i : FVec Ideal S256x256 .f32)
    (hs : ∀ x : Fin 256, s (ix2 R x) = ((∑ j ∈ Finset.range 2, back (vr x0 (⟨x.val, by omega⟩ : Fin 1024)) q.val j : ℝ) : EReal))
    (hi : ∀ x : Fin 256, i (ix2 R x) = Ideal.div 1 (count q.val 2))
    (hw : ∀ a l : Fin 256, w (ix3 0 a l) = x5 (ix3 0 a l)) (hb : ∀ l : Fin 256, b (ix3 0 0 l) = x6 (ix1 (⟨l.val, by omega⟩ : Fin 1024)))
    (hp : ∀ l : Fin 256, p (ix2 R l) = x0 (ix2 q (⟨4096 + l.val, by omega⟩ : Fin 5120)))
    (hc : ∀ l : Fin 256, sc (ix3 0 0 l) = x7 (ix1 (⟨l.val, by omega⟩ : Fin 1024))) (l : Fin 256) :
    (k0_pay197 X s i w b p sc : FVec Ideal S256x256 .bf16) (ix2 R l) = val_main_v128 (F := Ideal) x0 x5 x6 x7 (ix2 q (⟨l.val, by omega⟩ : Fin 1024)) := by
  pointwise [k0_pay197]
  refine combine x0 x5 x6 x7 q 0 l (⟨l.val, by omega⟩ : Fin 1024) (by show l.val = 256 * 0 + l.val; omega) _ _ _ _ _ ?_ ?_ ?_ ?_ ?_
  · intro x Y hY
    have eY : Y = (⟨x.val, by omega⟩ : Fin 1024) := Fin.ext (by rw [hY]; show 256 * 0 + x.val = x.val; omega)
    rw [eY, rest0 x0 hf q x]
    exact less x0 q _ 2 (by decide) _ _ _ (hs x) ((hi x).trans (by norm_num)) (hX 0 _ _ (by decide) rfl)
  · intro x
    exact hw x l
  · exact hb l
  · exact hc l
  · exact (hp l).trans (congrArg (fun k => x0 (ix2 q k)) (Fin.ext (by show 4096 + l.val = 4096 + (l.val); omega)))

theorem group1 (s : FVec Ideal S288x256 .f32) (i : FVec Ideal S256x1 .f32)
    (hs : ∀ (S : Fin 288), S.val = 32 + R.val → ∀ x : Fin 256, s (ix2 S x) = ((∑ j ∈ Finset.range 4, back (vr x0 (⟨256 + x.val, by omega⟩ : Fin 1024)) q.val j : ℝ) : EReal))
    (hi : i (ix2 R 0) = Ideal.div 1 (count q.val 4))
    (hw : ∀ a l : Fin 256, w (ix3 0 a l) = x5 (ix3 1 a l)) (hb : ∀ l : Fin 256, b (ix3 0 0 l) = x6 (ix1 (⟨256 + l.val, by omega⟩ : Fin 1024)))
    (hp : ∀ l : Fin 256, p (ix2 R l) = x0 (ix2 q (⟨4352 + l.val, by omega⟩ : Fin 5120)))
    (hc : ∀ l : Fin 256, sc (ix3 0 0 l) = x7 (ix1 (⟨256 + l.val, by omega⟩ : Fin 1024))) (l : Fin 256) :
    (k0_pay199 (k0_pay198 X s i w) b p sc : FVec Ideal S256x256 .bf16) (ix2 R l) = val_main_v128 (F := Ideal) x0 x5 x6 x7 (ix2 q (⟨256 + l.val, by omega⟩ : Fin 1024)) := by
  pointwise [k0_pay199, k0_pay198]
  refine combine x0 x5 x6 x7 q 1 l (⟨256 + l.val, by omega⟩ : Fin 1024) (by show 256 + l.val = 256 * 1 + l.val; omega) _ _ _ _ _ ?_ ?_ ?_ ?_ ?_
  · intro x Y hY
    have eY : Y = (⟨256 + x.val, by omega⟩ : Fin 1024) := Fin.ext (by rw [hY]; show 256 * 1 + x.val = 256 + x.val; omega)
    rw [eY, rest1 x0 hf q x]
    exact less x0 q _ 4 (by decide) _ _ _ (hs _ rfl x) (hi.trans (by norm_num)) (hX 0 _ _ (by decide) rfl)
  · intro x
    exact hw x l
  · exact hb l
  · exact hc l
  · exact (hp l).trans (congrArg (fun k => x0 (ix2 q k)) (Fin.ext (by show 4352 + l.val = 4096 + (256 + l.val); omega)))

theorem group2 (s : FVec Ideal S288x256 .f32) (i : FVec Ideal S256x1 .f32)
    (hs : ∀ (S : Fin 288), S.val = 32 + R.val → ∀ x : Fin 256, s (ix2 S x) = ((∑ j ∈ Finset.range 8, back (vr x0 (⟨512 + x.val, by omega⟩ : Fin 1024)) q.val j : ℝ) : EReal))
    (hi : i (ix2 R 0) = Ideal.div 1 (count q.val 8))
    (hw : ∀ a l : Fin 256, w (ix3 0 a l) = x5 (ix3 2 a l)) (hb : ∀ l : Fin 256, b (ix3 0 0 l) = x6 (ix1 (⟨512 + l.val, by omega⟩ : Fin 1024)))
    (hp : ∀ l : Fin 256, p (ix2 R l) = x0 (ix2 q (⟨4608 + l.val, by omega⟩ : Fin 5120)))
    (hc : ∀ l : Fin 256, sc (ix3 0 0 l) = x7 (ix1 (⟨512 + l.val, by omega⟩ : Fin 1024))) (l : Fin 256) :
    (k0_pay202 (k0_pay200 X s i w b) p (k0_pay201 sc) : FVec Ideal S256x256 .bf16) (ix2 R l) = val_main_v128 (F := Ideal) x0 x5 x6 x7 (ix2 q (⟨512 + l.val, by omega⟩ : Fin 1024)) := by
  pointwise [k0_pay202, k0_pay200, k0_pay201]
  refine combine x0 x5 x6 x7 q 2 l (⟨512 + l.val, by omega⟩ : Fin 1024) (by show 512 + l.val = 256 * 2 + l.val; omega) _ _ _ _ _ ?_ ?_ ?_ ?_ ?_
  · intro x Y hY
    have eY : Y = (⟨512 + x.val, by omega⟩ : Fin 1024) := Fin.ext (by rw [hY]; show 256 * 2 + x.val = 512 + x.val; omega)
    rw [eY, rest2 x0 hf q x]
    exact less x0 q _ 8 (by decide) _ _ _ (hs _ rfl x) (hi.trans (by norm_num)) (hX 0 _ _ (by decide) rfl)
  · intro x
    exact hw x l
  · exact hb l
  · exact hc l
  · exact (hp l).trans (congrArg (fun k => x0 (ix2 q k)) (Fin.ext (by show 4608 + l.val = 4096 + (512 + l.val); omega)))

theorem group3 (s : FVec Ideal S288x256 .f32) (i : FVec Ideal S256x1 .f32)
    (hs : ∀ (S : Fin 288), S.val = 32 + R.val → ∀ x : Fin 256, s (ix2 S x) = ((∑ j ∈ Finset.range 16, back (vr x0 (⟨768 + x.val, by omega⟩ : Fin 1024)) q.val j : ℝ) : EReal))
    (hi : i (ix2 R 0) = Ideal.div 1 (count q.val 16))
    (hw : ∀ a l : Fin 256, w (ix3 0 a l) = x5 (ix3 3 a l)) (hb : ∀ l : Fin 256, b (ix3 0 0 l) = x6 (ix1 (⟨768 + l.val, by omega⟩ : Fin 1024)))
    (hp : ∀ l : Fin 256, p (ix2 R l) = x0 (ix2 q (⟨4864 + l.val, by omega⟩ : Fin 5120)))
    (hc : ∀ l : Fin 256, sc (ix3 0 0 l) = x7 (ix1 (⟨768 + l.val, by omega⟩ : Fin 1024))) (l : Fin 256) :
    (k0_pay1 (k0_pay203 X s i w b sc) (k0_pay204 p) : FVec Ideal S256x256 .bf16) (ix2 R l) = val_main_v128 (F := Ideal) x0 x5 x6 x7 (ix2 q (⟨768 + l.val, by omega⟩ : Fin 1024)) := by
  pointwise [k0_pay1, k0_pay203, k0_pay204]
  refine combine x0 x5 x6 x7 q 3 l (⟨768 + l.val, by omega⟩ : Fin 1024) (by show 768 + l.val = 256 * 3 + l.val; omega) _ _ _ _ _ ?_ ?_ ?_ ?_ ?_
  · intro x Y hY
    have eY : Y = (⟨768 + x.val, by omega⟩ : Fin 1024) := Fin.ext (by rw [hY]; show 256 * 3 + x.val = 768 + x.val; omega)
    rw [eY, rest3 x0 hf q x]
    exact less x0 q _ 16 (by decide) _ _ _ (hs _ rfl x) (hi.trans (by norm_num)) (hX 0 _ _ (by decide) rfl)
  · intro x
    exact hw x l
  · exact hb l
  · exact hc l
  · exact (hp l).trans (congrArg (fun k => x0 (ix2 q k)) (Fin.ext (by show 4864 + l.val = 4096 + (768 + l.val); omega)))

end Cert.FwdGroups
end
-- ==== Proof.FwdNorm.lean ====
/- The first half of `y`: normalised rows, their gate, and the gate of the branch. -/
module

public import proofs.«01_k».proof.Proof.FwdGate
public import proofs.«01_k».proof.Proof.Gen.EvenFwdReferenceIdeal.Read

@[expose] public section

set_option maxRecDepth 16384

noncomputable section

namespace Cert.FwdNorm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenFwdReferenceIdeal.Read Cert.FwdGate
open Cert.EvenFwdKernelIdeal Cert.EvenFwdKernelIdeal.Gen

/-- The normed and gated half: where the convolution's rows and the vectors agree, so do the results. -/
theorem first_half (u : Vec Ideal S256x1024 .f32) (g b : Vec Ideal S1x1x1024 .f32) (a : Vec Ideal S256x1024 .f32)
    (x0 : S2048x5120.Idx → EReal) (x1 : S31x1024.Idx → EReal) (x2 x3 x4 : S1024.Idx → EReal) (R : Fin 256) (q : Fin 2048)
    (hu : ∀ l : Fin 1024, u (ix2 R l) = val_main_v34 (F := Ideal) x0 x1 x2 (ix2 q l)) (hg : ∀ l : Fin 1024, g (ix3 0 0 l) = x3 (ix1 l))
    (hb : ∀ l : Fin 1024, b (ix3 0 0 l) = x4 (ix1 l)) (ha : ∀ l : Fin 1024, a (ix2 R l) = x0 (ix2 q (⟨2048 + l.val, by omega⟩ : Fin 5120))) (l : Fin 1024) :
    (k0_pay184 (k0_pay183 u) g b a : Vec Ideal S256x1024 .bf16) (ix2 R l) = val_main_v61 (F := Ideal) x0 x1 x2 x3 x4 (ix2 q l) := by
  pointwise [k0_pay184, k0_pay183]
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v2, val_main_call0_v0, val_main_call0_v1, val_main_call0_cst, val_main_call0_v2, val_main_call0_v3, val_main_call0_cst_0, val_main_call0_v4, val_main_call0_v5, val_main_call1_v0, val_main_call1_v1, val_main_call1_cst, val_main_call1_v2, val_main_call1_v3, val_main_call1_cst_0, val_main_call1_v4, val_main_call1_v5, val_main_call3_v0, val_main_call3_v1, val_main_call3_cst, val_main_call3_v2, val_main_call3_v3, val_main_call3_cst_0, val_main_call3_v4, val_main_call3_v5, val_main_cst, val_main_cst_0, val_main_cst_1, val_main_cst_3, val_main_cst_4, val_main_cst_5, val_main_cst_6, val_main_cst_7, val_main_cst_8, val_main_cst_9, val_main_cst_11, val_main_cst_12, val_main_cst_13, val_main_cst_14, val_main_cst_15, val_main_cst_16, val_main_cst_17, val_main_cst_18]
  rw [Scalars.cHalf, half_tanh, half_tanh]
  simp only [hu, hg, hb, ha]
  rfl
end Cert.FwdNorm
end
-- ==== Proof.FwdRef.lean ====
/- The reference's taps: row `k` is the sum over 31 taps of the gated rows before it. -/
module

public import proofs.«01_k».proof.Proof.FwdBlock
public import Idealize.ShloMosaic.Lib.WordCmp
public import Idealize.ShloMosaic.Lib.WordArith
public import proofs.«01_k».proof.Proof.Gen.EvenFwdReferenceIdeal.Read

@[expose] public section

set_option maxRecDepth 16384

noncomputable section

namespace Cert.FwdRef

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenFwdReferenceIdeal Cert.EvenFwdReferenceIdeal.Read Cert.FwdGate Cert.FwdBlock
open StableHlo

/-- The rows a start index names, all columns of them. -/
theorem gather_at {α : Type} (x : S2078x1024.Idx → α) (idx : IVec S2048x31x1 32) (k : Fin 2048) (n : Fin 31) (l : Fin 1024)
    (b : Nat) (hb : b < 2078) (h : idx (ix3 k n 0) = BitVec.ofNat 32 b) :
    Host.gather gather_S2078x1024_S2048x31x1_S2048x31x1024_2_0_n_n_0_2_11024 x idx (ix3 k n l) = x (ix2 ⟨b, hb⟩ l) := by
  unfold Host.gather
  congr 1
  have hsi : GatherDims.siIdx gather_S2078x1024_S2048x31x1_S2048x31x1024_2_0_n_n_0_2_11024 (ix3 k n l)
      ⟨List.idxOf (0 : Fin 2) [0], List.idxOf_lt_length_iff.2 (List.mem_singleton.mpr rfl)⟩ = ix3 k n 0 := by
    funext a; refine Fin.ext ?_
    match a with
    | ⟨0, _⟩ => rfl
    | ⟨1, _⟩ => rfl
    | ⟨2, _⟩ => rfl
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    refine (congrArg (fun s : Nat => s + 0 + 0) (dif_pos (show (0 : Fin 2) ∈ ([0] : List (Fin 2)) from List.mem_singleton.mpr rfl))).trans ?_
    show min (idx (GatherDims.siIdx gather_S2078x1024_S2048x31x1_S2048x31x1024_2_0_n_n_0_2_11024 (ix3 k n l) ⟨List.idxOf (0 : Fin 2) [0], _⟩)).toInt.toNat (2078 - 1) + 0 + 0 = b
    rw [hsi, h, WordArith.toInt_ofNat_small b (by omega)]
    omega
  | ⟨1, _⟩ =>
    unfold GatherDims.start
    refine (congrArg (fun s : Nat => s + 0 + GatherDims.offCoord gather_S2078x1024_S2048x31x1_S2048x31x1024_2_0_n_n_0_2_11024 (ix3 k n l) 1)
      (dif_neg (show ¬ (1 : Fin 2) ∈ ([0] : List (Fin 2)) by decide))).trans ?_
    show 0 + 0 + l.val = l.val
    omega

/-- Row `k`, tap `n` reads row `k + n` of the padded rows. -/
theorem index_at (k : Fin 2048) (n : Fin 31) : val_main_v26 (F := Ideal) (ix3 k n 0) = BitVec.ofNat 32 (k.val + n.val) := by
  have h20 : val_main_v20 (F := Ideal) (ix2 k n) = BitVec.ofNat 32 (k.val + n.val) := by
    pointwise [val_main_v20, val_main_v18, val_main_v19, val_main_v17, val_main_v16, val_main_v15, val_main_v14]
    exact (BitVec.ofNat_add ..).symm
  have h21 : val_main_v21 (F := Ideal) (ix2 k n) = 0#32 := by
    pointwise [val_main_v21, val_main_c]
  have hn : IntOp.cmpi .slt (val_main_v20 (F := Ideal) (ix2 k n)) (val_main_v21 (F := Ideal) (ix2 k n)) = 0#1 := by
    rw [h20, h21]
    show BitVec.ofBool ((BitVec.ofNat 32 (k.val + n.val)).slt 0#32) = 0#1
    rw [BitVec.slt, WordArith.toInt_ofNat_small _ (by omega)]
    have e : decide (((k.val + n.val : Nat) : Int) < (0#32 : BitVec 32).toInt) = false := decide_eq_false (by
      show ¬ ((k.val + n.val : Nat) : Int) < 0
      omega)
    rw [e]
    rfl
  pointwise [val_main_v26, val_main_v25, val_main_v22, val_main_v24]
  rw [hn]
  exact h20

/-- The gated rows, with 30 empty rows before them. -/
theorem rows_at (x0 : S2048x5120.Idx → EReal) (b : Fin 2078) (l : Fin 1024) :
    val_main_v13 (F := Ideal) x0 (ix2 b l) = if 30 ≤ b.val then gated x0 (b.val - 30) l else 0 := by
  pointwise [val_main_cst, val_main_cst_0, val_main_cst_1, val_main_v13, val_main_v12, val_main_v11, val_main_v10, val_main_v9, val_main_v8, val_main_v7, val_main_v6, val_main_v5, val_main_v0, val_main_v1]
  by_cases h : b.val < 30
  · exact (dif_pos h).trans (if_neg (by omega)).symm
  · refine (dif_neg h).trans (Eq.trans ?_ (if_pos (show 30 ≤ b.val by omega)).symm)
    have e : gated x0 (b.val - 30) l = x0 (ix2 (⟨b.val - 30, by omega⟩ : Fin 2048) (⟨l.val, by omega⟩ : Fin 5120))
        * Ideal.logistic (x0 (ix2 (⟨b.val - 30, by omega⟩ : Fin 2048) (⟨1024 + l.val, by omega⟩ : Fin 5120))) := by
      unfold gated
      rw [dif_pos (show b.val - 30 < 2048 by omega)]
    exact Eq.trans rfl e.symm

/-- The reference's convolution. -/
theorem conv_at (x0 : S2048x5120.Idx → EReal) (x1 : S31x1024.Idx → EReal) (x2 : S1024.Idx → EReal) (q : Fin 2048) (l : Fin 1024) :
    val_main_v34 (F := Ideal) x0 x1 x2 (ix2 q l) = convAt x0 x1 x2 q.val l := by
  have hg : ∀ n : Fin 31, val_main_v27 (F := Ideal) x0 (ix3 q n l) = if 30 ≤ q.val + n.val then gated x0 (q.val + n.val - 30) l else 0 := fun n =>
    (gather_at _ _ q n l (q.val + n.val) (by omega) (index_at q n)).trans (rows_at x0 _ l)
  pointwise [val_main_v34, val_main_v33, val_main_v32, val_main_v31, val_main_v30, val_main_v29, val_main_v28, val_main_cst_3]
  unfold convAt
  exact congrArg (fun s : EReal => s + x2 (ix1 l)) (Finset.sum_congr rfl fun n _ =>
    (mul_comm _ _).trans (congrArg (fun s : EReal => x1 (ix2 n l) * s) (hg n)))
end Cert.FwdRef
end
-- ==== Proof.FwdOut.lean ====
/- A block of `y` and of the new stream: each row is the reference's. -/
module

public import proofs.«01_k».proof.Proof.FwdRest
public import proofs.«01_k».proof.Proof.FwdGroups
public import proofs.«01_k».proof.Proof.FwdNorm
public import proofs.«01_k».proof.Proof.FwdRef

@[expose] public section

set_option maxRecDepth 16384

noncomputable section

namespace Cert.FwdOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenFwdReferenceIdeal.Read Cert.FwdGate Cert.FwdBlock Cert.FwdPool Cert.FwdSums Cert.FwdSecond Cert.FwdRest Cert.FwdGroups
open Cert.EvenFwdKernelIdeal Cert.EvenFwdKernelIdeal.Gen
variable (m : (ℓ : Loc nD τ sig) → Buf (Elt Ideal) ℓ) (c : Dev nD)

/-- The reference's `y` of the arguments. -/
abbrev refY : Vec Ideal S2048x2048 .bf16 :=
  val_main_v130 (F := Ideal) (A0 m c) (A1 m c) (A2 m c) (A3 m c) (A4 m c) (A5 m c) (A6 m c) (A7 m c)

/-- The first half of the columns. -/
theorem left_cols (q : Fin 2048) (l : Fin 1024) (L : Fin 2048) (hL : L.val = l.val) :
    refY m c (ix2 q L) = val_main_v61 (F := Ideal) (A0 m c) (A1 m c) (A2 m c) (A3 m c) (A4 m c) (ix2 q l) := by
  have e : L = (⟨l.val, by omega⟩ : Fin 2048) := Fin.ext hL
  rw [e]
  pointwise [refY, val_main_v130, val_main_v129]
/-- The second half of the columns. -/
theorem right_cols (q : Fin 2048) (l : Fin 1024) (L : Fin 2048) (hL : L.val = 1024 + l.val) :
    refY m c (ix2 q L) = val_main_v128 (F := Ideal) (A0 m c) (A5 m c) (A6 m c) (A7 m c) (ix2 q l) := by
  have e : L = (⟨1024 + l.val, by omega⟩ : Fin 2048) := Fin.ext hL
  rw [e]
  pointwise [refY, val_main_v130, val_main_v129]

/-- The first half of a block. -/
theorem first (t : Fin cfg0.N) (u : Vec Ideal S256x1024 .f32)
    (hu : ∀ (R : Fin 256) (l : Fin 1024), u (ix2 R l) = convAt (A0 m c) (A1 m c) (A2 m c) (256 * t.val + R.val) l) (g) (R : Fin 256) (l : Fin 1024) :
    (k0_pay184 (k0_pay183 u) (iblk m c 4 t) (iblk m c 5 t) (View.ld (iblk m c 0 t) (Rect.unit (s := S256x5120) ![0, 2048] ![256, 1024] g)) : FVec Ideal S256x1024 .bf16)
      (ix2 R l) = refY m c (ix2 (row t R) (⟨0 + l.val, by omega⟩ : Fin 2048)) := by
  refine (FwdNorm.first_half u _ _ _ (A0 m c) (A1 m c) (A2 m c) (A3 m c) (A4 m c) R (row t R) (fun l => ?_) (lg_blk m c t) (lb_blk m c t) (fun l => ?_) l).trans ?_
  · exact (hu R l).trans (FwdRef.conv_at _ _ _ (row t R) l).symm
  · exact (ld_cols (w := 1024) (iblk m c 0 t) 2048 (by decide) g R l).trans (p_blk m c t R _)
  · exact (left_cols m c (row t R) l _ (Nat.zero_add _)).symm

/-- The second half of a block, one group of columns after the other. -/
theorem second0 (t : Fin cfg0.N) (hf : Finite (A0 m c)) (g1 g2 gw gb gp gs) (R l : Fin 256) :
    (k0_pay197 (k0_pay185 (k0_pay168 (F := Ideal) (grid0.coords t)) (View.ld (iblk m c 1 t) (Rect.unit (s := S32x5120) ![0, 3072] ![32, 1024] g1)) (View.ld (iblk m c 0 t) (Rect.unit (s := S256x5120) ![0, 3072] ![256, 1024] g2))) (k0_pay195 (k0_pay186 (k0_pay168 (F := Ideal) (grid0.coords t)) (View.ld (iblk m c 1 t) (Rect.unit (s := S32x5120) ![0, 3072] ![32, 1024] g1)) (View.ld (iblk m c 0 t) (Rect.unit (s := S256x5120) ![0, 3072] ![256, 1024] g2)))) (k0_pay196 (BitVec.ofNat 32 (grid0.coords t 0).val)) (View.ld (iblk m c 6 t) (Rect.unit (s := S4x256x256) ![0, 0, 0] ![1, 256, 256] gw)) (View.ld (iblk m c 7 t) (Rect.unit (s := S1x1x1024) ![0, 0, 0] ![1, 1, 256] gb)) (View.ld (iblk m c 0 t) (Rect.unit (s := S256x5120) ![0, 4096] ![256, 256] gp)) (View.ld (iblk m c 8 t) (Rect.unit (s := S1x1x1024) ![0, 0, 0] ![1, 1, 256] gs)) : FVec Ideal S256x256 .bf16)
      (ix2 R l) = refY m c (ix2 (row t R) (⟨1024 + l.val, by omega⟩ : Fin 2048)) := by
  have hP := pooled m c t hf g1 g2 R
  refine (group0 (A0 m c) (A5 m c) (A6 m c) (A7 m c) hf (row t R) R _ _ _ _ _ hP _ _ (fun x => sum0 _ _ R _ _ _ hP x) (fun x => (congrArg (fun k : ℕ => (k0_pay196 (F := Ideal) (BitVec.ofNat 32 k) : FVec Ideal S256x256 .f32) (ix2 R x)) (coord t)).trans (inv0 t.val (pt_lt t) R x)) (fun a l => ?_) (fun l => ?_) (fun l => ?_) (fun l => ?_) l).trans ?_
  · exact (ld_slab (iblk m c 6 t) 0 (by decide) gw a l).trans (pw_blk m c t _ a l)
  · exact ((ld_vec (iblk m c 7 t) 0 (by decide) gb l).trans (pb_blk m c t _)).trans (congrArg (fun k : Fin 1024 => A6 m c (ix1 k)) (Fin.ext (by show 0 + l.val = l.val; omega)))
  · exact (ld_cols (w := 256) (iblk m c 0 t) 4096 (by decide) gp R l).trans (p_blk m c t R _)
  · exact ((ld_vec (iblk m c 8 t) 0 (by decide) gs l).trans (ps_blk m c t _)).trans (congrArg (fun k : Fin 1024 => A7 m c (ix1 k)) (Fin.ext (by show 0 + l.val = l.val; omega)))
  · exact (right_cols m c (row t R) _ _ (by show 1024 + l.val = 1024 + l.val; omega)).symm

theorem second1 (t : Fin cfg0.N) (hf : Finite (A0 m c)) (g1 g2 gw gb gp gs) (R l : Fin 256) :
    (k0_pay199 (k0_pay198 (k0_pay185 (k0_pay168 (F := Ideal) (grid0.coords t)) (View.ld (iblk m c 1 t) (Rect.unit (s := S32x5120) ![0, 3072] ![32, 1024] g1)) (View.ld (iblk m c 0 t) (Rect.unit (s := S256x5120) ![0, 3072] ![256, 1024] g2))) (k0_pay188 (k0_pay187 (k0_pay168 (F := Ideal) (grid0.coords t)) (View.ld (iblk m c 1 t) (Rect.unit (s := S32x5120) ![0, 3072] ![32, 1024] g1)) (View.ld (iblk m c 0 t) (Rect.unit (s := S256x5120) ![0, 3072] ![256, 1024] g2)))) (k0_pay192 (BitVec.ofNat 32 (grid0.coords t 0).val)) (View.ld (iblk m c 6 t) (Rect.unit (s := S4x256x256) ![1, 0, 0] ![1, 256, 256] gw))) (View.ld (iblk m c 7 t) (Rect.unit (s := S1x1x1024) ![0, 0, 256] ![1, 1, 256] gb)) (View.ld (iblk m c 0 t) (Rect.unit (s := S256x5120) ![0, 4352] ![256, 256] gp)) (View.ld (iblk m c 8 t) (Rect.unit (s := S1x1x1024) ![0, 0, 256] ![1, 1, 256] gs)) : FVec Ideal S256x256 .bf16)
      (ix2 R l) = refY m c (ix2 (row t R) (⟨1280 + l.val, by omega⟩ : Fin 2048)) := by
  have hP := pooled m c t hf g1 g2 R
  refine (group1 (A0 m c) (A5 m c) (A6 m c) (A7 m c) hf (row t R) R _ _ _ _ _ hP _ _ (fun S hS x => sum1 _ _ R _ _ _ hP S hS x) ((congrArg (fun k : ℕ => (k0_pay192 (F := Ideal) (BitVec.ofNat 32 k) : FVec Ideal S256x1 .f32) (ix2 R 0)) (coord t)).trans (inv1 t.val (pt_lt t) R)) (fun a l => ?_) (fun l => ?_) (fun l => ?_) (fun l => ?_) l).trans ?_
  · exact (ld_slab (iblk m c 6 t) 1 (by decide) gw a l).trans (pw_blk m c t _ a l)
  · exact ((ld_vec (iblk m c 7 t) 256 (by decide) gb l).trans (pb_blk m c t _))
  · exact (ld_cols (w := 256) (iblk m c 0 t) 4352 (by decide) gp R l).trans (p_blk m c t R _)
  · exact ((ld_vec (iblk m c 8 t) 256 (by decide) gs l).trans (ps_blk m c t _))
  · exact (right_cols m c (row t R) _ _ (by show 1280 + l.val = 1024 + (256 + l.val); omega)).symm

theorem second2 (t : Fin cfg0.N) (hf : Finite (A0 m c)) (g1 g2 gw gb gp gs) (R l : Fin 256) :
    (k0_pay202 (k0_pay200 (k0_pay185 (k0_pay168 (F := Ideal) (grid0.coords t)) (View.ld (iblk m c 1 t) (Rect.unit (s := S32x5120) ![0, 3072] ![32, 1024] g1)) (View.ld (iblk m c 0 t) (Rect.unit (s := S256x5120) ![0, 3072] ![256, 1024] g2))) (k0_pay189 (k0_pay185 (k0_pay168 (F := Ideal) (grid0.coords t)) (View.ld (iblk m c 1 t) (Rect.unit (s := S32x5120) ![0, 3072] ![32, 1024] g1)) (View.ld (iblk m c 0 t) (Rect.unit (s := S256x5120) ![0, 3072] ![256, 1024] g2)))) (k0_pay193 (BitVec.ofNat 32 (grid0.coords t 0).val)) (View.ld (iblk m c 6 t) (Rect.unit (s := S4x256x256) ![2, 0, 0] ![1, 256, 256] gw)) (View.ld (iblk m c 7 t) (Rect.unit (s := S1x1x1024) ![0, 0, 512] ![1, 1, 256] gb))) (View.ld (iblk m c 0 t) (Rect.unit (s := S256x5120) ![0, 4608] ![256, 256] gp)) (k0_pay201 (View.ld (iblk m c 8 t) (Rect.unit (s := S1x1x1024) ![0, 0, 512] ![1, 1, 256] gs))) : FVec Ideal S256x256 .bf16)
      (ix2 R l) = refY m c (ix2 (row t R) (⟨1536 + l.val, by omega⟩ : Fin 2048)) := by
  have hP := pooled m c t hf g1 g2 R
  refine (group2 (A0 m c) (A5 m c) (A6 m c) (A7 m c) hf (row t R) R _ _ _ _ _ hP _ _ (fun S hS x => sum2 _ _ R _ hP S hS x) ((congrArg (fun k : ℕ => (k0_pay193 (F := Ideal) (BitVec.ofNat 32 k) : FVec Ideal S256x1 .f32) (ix2 R 0)) (coord t)).trans (inv2 t.val (pt_lt t) R)) (fun a l => ?_) (fun l => ?_) (fun l => ?_) (fun l => ?_) l).trans ?_
  · exact (ld_slab (iblk m c 6 t) 2 (by decide) gw a l).trans (pw_blk m c t _ a l)
  · exact ((ld_vec (iblk m c 7 t) 512 (by decide) gb l).trans (pb_blk m c t _))
  · exact (ld_cols (w := 256) (iblk m c 0 t) 4608 (by decide) gp R l).trans (p_blk m c t R _)
  · exact ((ld_vec (iblk m c 8 t) 512 (by decide) gs l).trans (ps_blk m c t _))
  · exact (right_cols m c (row t R) _ _ (by show 1536 + l.val = 1024 + (512 + l.val); omega)).symm

theorem second3 (t : Fin cfg0.N) (hf : Finite (A0 m c)) (g1 g2 gw gb gp gs) (R l : Fin 256) :
    (k0_pay1 (k0_pay203 (k0_pay185 (k0_pay168 (F := Ideal) (grid0.coords t)) (View.ld (iblk m c 1 t) (Rect.unit (s := S32x5120) ![0, 3072] ![32, 1024] g1)) (View.ld (iblk m c 0 t) (Rect.unit (s := S256x5120) ![0, 3072] ![256, 1024] g2))) (k0_pay190 (k0_pay185 (k0_pay168 (F := Ideal) (grid0.coords t)) (View.ld (iblk m c 1 t) (Rect.unit (s := S32x5120) ![0, 3072] ![32, 1024] g1)) (View.ld (iblk m c 0 t) (Rect.unit (s := S256x5120) ![0, 3072] ![256, 1024] g2)))) (k0_pay194 (BitVec.ofNat 32 (grid0.coords t 0).val)) (View.ld (iblk m c 6 t) (Rect.unit (s := S4x256x256) ![3, 0, 0] ![1, 256, 256] gw)) (View.ld (iblk m c 7 t) (Rect.unit (s := S1x1x1024) ![0, 0, 768] ![1, 1, 256] gb)) (View.ld (iblk m c 8 t) (Rect.unit (s := S1x1x1024) ![0, 0, 768] ![1, 1, 256] gs))) (k0_pay204 (View.ld (iblk m c 0 t) (Rect.unit (s := S256x5120) ![0, 4864] ![256, 256] gp))) : FVec Ideal S256x256 .bf16)
      (ix2 R l) = refY m c (ix2 (row t R) (⟨1792 + l.val, by omega⟩ : Fin 2048)) := by
  have hP := pooled m c t hf g1 g2 R
  refine (group3 (A0 m c) (A5 m c) (A6 m c) (A7 m c) hf (row t R) R _ _ _ _ _ hP _ _ (fun S hS x => sum3 _ _ R _ hP S hS x) ((congrArg (fun k : ℕ => (k0_pay194 (F := Ideal) (BitVec.ofNat 32 k) : FVec Ideal S256x1 .f32) (ix2 R 0)) (coord t)).trans (inv3 t.val (pt_lt t) R)) (fun a l => ?_) (fun l => ?_) (fun l => ?_) (fun l => ?_) l).trans ?_
  · exact (ld_slab (iblk m c 6 t) 3 (by decide) gw a l).trans (pw_blk m c t _ a l)
  · exact ((ld_vec (iblk m c 7 t) 768 (by decide) gb l).trans (pb_blk m c t _))
  · exact (ld_cols (w := 256) (iblk m c 0 t) 4864 (by decide) gp R l).trans (p_blk m c t R _)
  · exact ((ld_vec (iblk m c 8 t) 768 (by decide) gs l).trans (ps_blk m c t _))
  · exact (right_cols m c (row t R) _ _ (by show 1792 + l.val = 1024 + (768 + l.val); omega)).symm

/-- The product with the output weights, added to the stream. -/
theorem stream (t : Fin cfg0.N) (Y : Vec Ideal S256x2048 .bf16) (hY : ∀ (R : Fin 256) (L : Fin 2048), Y (ix2 R L) = refY m c (ix2 (row t R) L))
    (R : Fin 256) (l : Fin 1024) : (k0_pay2 (F := Ideal) (iblk m c 9 t) Y (iblk m c 10 t) : FVec Ideal S256x1024 .f32) (ix2 R l)
      = val_main_v132 (F := Ideal) (A0 m c) (A1 m c) (A2 m c) (A3 m c) (A4 m c) (A5 m c) (A6 m c) (A7 m c) (A8 m c) (A9 m c) (ix2 (row t R) l) := by
  pointwise [k0_pay2, val_main_v132, val_main_v131]
  refine congrArg₂ (fun a b : EReal => a + b) (h_blk m c t R l) (Finset.sum_congr rfl fun x _ => ?_)
  exact congrArg₂ (fun a b : EReal => a * b) (hY R x) (wo_blk m c t x l)

/-- A load of a whole buffer reads what the stores left. -/
theorem full_read {rows cols : ℕ} {e : EltTy} {κ : Kind} {sp : Space} (v : View sig κ sp ⟨2, ![rows, cols]⟩ e)
    (L : List (View.Piece (Elt Ideal) ⟨2, ![rows, cols]⟩ e)) (g) (r : Fin rows) (l : Fin cols) :
    v.readCov L (Rect.unit (s := ⟨2, ![rows, cols]⟩) ![0, 0] ![rows, cols] g).toLoadRect (ix2 r l) = View.canon L (ix2 r l) := by
  refine (congrFun (View.readCov_eq_canon' _ _ _) _).trans (congrArg (View.canon L) ?_)
  refine funext fun i => Fin.ext ?_
  fin_cases i
  · show 0 + 1 * r.val = r.val; omega
  · show 0 + 1 * l.val = l.val; omega

/-- The mixer's rows at the first point. -/
theorem y_A (t : Fin cfg0.N) (h : t.val % 8 = 0) (hf : Finite (A0 m c)) (R : Fin 256) (L : Fin 2048) :
    (outsAt0 m c t.val t.isLt).1 (ix2 R L) = refY m c (ix2 (row t R) L) := by
  have hu := u1_A m c t h
  rw [outsAt0_A m c t h]
  frame_out
  refine five (fun R L => refY m c (ix2 (row t R) L)) _ _ _ _ _ _ _ _ _ _ ?_ ?_ ?_ ?_ ?_ R L
  · refine first m c t _ ?_ _
    intro R l
    refine Eq.trans ?_ (hu R l)
    rw [outsAt0_A m c t h]
    refine (full_read _ _ _ R l).trans ?_
    frame_out
  · exact second0 m c t hf _ _ _ _ _ _
  · exact second1 m c t hf _ _ _ _ _ _
  · exact second2 m c t hf _ _ _ _ _ _
  · exact second3 m c t hf _ _ _ _ _ _

/-- The stream at the first point. -/
theorem hn_A (t : Fin cfg0.N) (h : t.val % 8 = 0) (hf : Finite (A0 m c)) (R : Fin 256) (l : Fin 1024) :
    (outsAt0 m c t.val t.isLt).2.2.1 (ix2 R l) = val_main_v132 (F := Ideal) (A0 m c) (A1 m c) (A2 m c) (A3 m c) (A4 m c) (A5 m c) (A6 m c) (A7 m c) (A8 m c) (A9 m c) (ix2 (row t R) l) := by
  have hy := y_A m c t h hf
  rw [outsAt0_A m c t h]
  frame_out
  refine stream m c t _ (fun R L => ?_) R l
  refine Eq.trans ?_ (hy R L)
  rw [outsAt0_A m c t h]
  refine (full_read _ _ _ R L).trans ?_
  frame_out

/-- The mixer's rows at a later point. -/
theorem y_B (t : Fin cfg0.N) (h : ¬ t.val % 8 = 0) (hf : Finite (A0 m c)) (R : Fin 256) (L : Fin 2048) :
    (outsAt0 m c t.val t.isLt).1 (ix2 R L) = refY m c (ix2 (row t R) L) := by
  have hu := u1_B m c t h
  rw [outsAt0_B m c t h]
  frame_out
  refine five (fun R L => refY m c (ix2 (row t R) L)) _ _ _ _ _ _ _ _ _ _ ?_ ?_ ?_ ?_ ?_ R L
  · refine first m c t _ ?_ _
    intro R l
    refine Eq.trans ?_ (hu R l)
    rw [outsAt0_B m c t h]
    refine (full_read _ _ _ R l).trans ?_
    frame_out
  · exact second0 m c t hf _ _ _ _ _ _
  · exact second1 m c t hf _ _ _ _ _ _
  · exact second2 m c t hf _ _ _ _ _ _
  · exact second3 m c t hf _ _ _ _ _ _

/-- The stream at a later point. -/
theorem hn_B (t : Fin cfg0.N) (h : ¬ t.val % 8 = 0) (hf : Finite (A0 m c)) (R : Fin 256) (l : Fin 1024) :
    (outsAt0 m c t.val t.isLt).2.2.1 (ix2 R l) = val_main_v132 (F := Ideal) (A0 m c) (A1 m c) (A2 m c) (A3 m c) (A4 m c) (A5 m c) (A6 m c) (A7 m c) (A8 m c) (A9 m c) (ix2 (row t R) l) := by
  have hy := y_B m c t h hf
  rw [outsAt0_B m c t h]
  frame_out
  refine stream m c t _ (fun R L => ?_) R l
  refine Eq.trans ?_ (hy R L)
  rw [outsAt0_B m c t h]
  refine (full_read _ _ _ R L).trans ?_
  frame_out

end Cert.FwdOut
end
-- ==== Proof.FwdFinal.lean ====
/- The three results of the forward even mixer: what the grid leaves in each array. -/
module

public import proofs.«01_k».proof.Proof.FwdOut

@[expose] public section

set_option maxRecDepth 16384

noncomputable section

namespace Cert.FwdFinal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.EvenFwdReferenceIdeal.Read Cert.FwdGate Cert.FwdBlock Cert.FwdPool Cert.FwdOut
open Cert.EvenFwdKernelIdeal Cert.EvenFwdKernelIdeal.Gen
variable (m : (ℓ : Loc nD τ sig) → Buf (Elt Ideal) ℓ) (c : Dev nD)

/-! Which blocks of the results a point writes. -/
theorem idx_out : ∀ t : Fin cfg0.N, win0_11.index t = ![t.val, 0] ∧ win0_12.index t = ![t.val, 0] ∧ win0_13.index t = ![t.val, 0] := by
  decide +kernel

theorem emb11 (t : Fin cfg0.N) (r : Fin 256) (l : Fin 2048) : (win0_11.blk t).view.emb (ix2 r l) = ix2 (row t r) l := by
  blk_ext [idx_out t, row]

theorem emb12 (t : Fin cfg0.N) (r : Fin 256) (l : Fin 1024) : (win0_12.blk t).view.emb (ix2 r l) = ix2 (row t r) l := by
  blk_ext [idx_out t, row]

theorem emb13 (t : Fin cfg0.N) (r : Fin 256) (l : Fin 1024) : (win0_13.blk t).view.emb (ix2 r l) = ix2 (row t r) l := by
  blk_ext [idx_out t, row]

/-- The mixer's rows. -/
theorem final11 (hf : Finite (A0 m c)) : (dats m 0 c).arrAt 11 cfg0.N = refY m c := by
  refine (dats m 0 c).arrAt_eq_of_covers 11 _ (by decide +kernel) fun t _ y => ?_
  blk_simp
  rw [after0_11]
  obtain ⟨r, l, rfl⟩ : ∃ (r : Fin 256) (l : Fin 2048), y = ix2 r l := ⟨y 0, y 1, eq_ix2 y⟩
  rw [emb11]
  by_cases h : t.val % 8 = 0
  · exact y_A m c t h hf r l
  · exact y_B m c t h hf r l

/-- The convolution's rows. -/
theorem final12 : (dats m 0 c).arrAt 12 cfg0.N = val_main_v34 (F := Ideal) (A0 m c) (A1 m c) (A2 m c) := by
  refine (dats m 0 c).arrAt_eq_of_covers 12 _ (by decide +kernel) fun t _ y => ?_
  blk_simp
  rw [after0_12]
  obtain ⟨r, l, rfl⟩ : ∃ (r : Fin 256) (l : Fin 1024), y = ix2 r l := ⟨y 0, y 1, eq_ix2 y⟩
  rw [emb12]
  refine Eq.trans ?_ (FwdRef.conv_at _ _ _ (row t r) l).symm
  by_cases h : t.val % 8 = 0
  · exact u1_A m c t h r l
  · exact u1_B m c t h r l

/-- The stream after the mixer. -/
theorem final13 (hf : Finite (A0 m c)) : (dats m 0 c).arrAt 13 cfg0.N
    = val_main_v132 (F := Ideal) (A0 m c) (A1 m c) (A2 m c) (A3 m c) (A4 m c) (A5 m c) (A6 m c) (A7 m c) (A8 m c) (A9 m c) := by
  refine (dats m 0 c).arrAt_eq_of_covers 13 _ (by decide +kernel) fun t _ y => ?_
  blk_simp
  rw [after0_13]
  obtain ⟨r, l, rfl⟩ : ∃ (r : Fin 256) (l : Fin 1024), y = ix2 r l := ⟨y 0, y 1, eq_ix2 y⟩
  rw [emb13]
  by_cases h : t.val % 8 = 0
  · exact hn_A m c t h hf r l
  · exact hn_B m c t h hf r l
end Cert.FwdFinal
end
-- ==== Proof.FwdClaim.lean ====
/- The claims about the forward even mixer. -/
module

public import Idealize.ShloMosaic.Lib.ReduceAll
public import proofs.«01_k».proof.Defs
public import proofs.«01_k».proof.Proof.Gen.EvenFwdReferenceIdeal.Run
public import proofs.«01_k».proof.Proof.FwdFinal

@[expose] public section

set_option maxRecDepth 16384

noncomputable section

namespace Cert.FwdClaim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the precondition's lines ask of the shapes. -/
theorem facts_pre : Cert.Pre_finite_pool.Facts where
  slices_S2048x5120_S2048x1024_0_3072 := by decide
  bcast_S_S2048x1024 := by decide
  reducesTo_S2048x1024_S_d0_1 := by decide
  h_S_ := by decide

instance : Cert.Pre_finite_pool.Facts := facts_pre

theorem infinity : Ideal.ofBits .f32 0x7F800000#32 = ⊤ := by
  simp [Ideal.ofBits, Ideal.ieee]

/-- A value whose size is below infinity is a real number. -/
theorem real_of_lt (x : EReal) (h : Ideal.cmp .olt (FloatOps.hostAbsf (F := Ideal) (φ := .f32) x) ⊤ = 1#1) : x = ((x.toReal : ℝ) : EReal) := by
  have h' : max x (-x) < ⊤ := by
    by_contra hn
    have e : Ideal.cmp .olt (max x (-x)) ⊤ = 0#1 := by simp only [Ideal.cmp, decide_eq_false hn]; rfl
    exact absurd (e.symm.trans h) (by decide)
  induction x with
  | bot => simp at h'
  | top => simp at h'
  | coe r => rfl

/-- The precondition says that the rows that the running sums take are real. -/
theorem finite_of_pre (x0 : Vec Ideal Cert.EvenFwdKernelIdeal.S2048x5120 .f32) (x1 x2 x3 x4 x5 x6 x7 x8 x9)
    (h : Cert.Pre_finite_pool.fn (F := Ideal) x0 x1 x2 x3 x4 x5 x6 x7 x8 x9 = fun _ => 1#1) : FwdPool.Finite x0 := by
  intro k l
  haveI : Subsingleton Cert.Pre_finite_pool.S_.Idx := ⟨fun a b => funext fun i => i.elim0⟩
  have e := Host.reduce_andi_all _ _ _ _ _ (congrFun h (fun i => i.elim0)) (ix2 k l)
  have hv : FwdPool.vr x0 l k.val = (x0 (ix2 k (⟨3072 + l.val, by omega⟩ : Fin 5120))).toReal := by
    unfold FwdPool.vr; rw [dif_pos k.isLt]
  rw [hv]
  refine real_of_lt _ ?_
  rw [← infinity]
  refine Eq.trans ?_ e
  pointwise

/-- The reference leaves its arguments alone and has no semaphores. -/
theorem frame_reference : Cert.quiescent_EvenFwdReferenceIdeal := fun m ρ _ =>
  (θ_run Cert.EvenFwdReferenceIdeal.defs _ _).mono
    (fun r h => ⟨fun c => (h c).2.2.2, sem_eq_zero_of_no_sems (by decide) r.2⟩)
    (Cert.EvenFwdReferenceIdeal.Value.run (F := Ideal) m ρ)

/-- All three results agree. -/
theorem algebraic : Cert.algebraic_EvenFwdKernelIdeal_EvenFwdReferenceIdeal_pre_finite_pool := by
  intro m g m' g' hpre hargs
  have hf : ∀ c : Dev Cert.EvenFwdKernelIdeal.nD, FwdPool.Finite (FwdGate.A0 m c) := fun c => finite_of_pre _ _ _ _ _ _ _ _ _ _ (hpre c)
  refine ⟨fun c => (Cert.EvenFwdKernelIdeal.Gen.dats m 0 c).arrAt 11 Cert.EvenFwdKernelIdeal.cfg0.N,
    fun c => (Cert.EvenFwdKernelIdeal.Gen.dats m 0 c).arrAt 12 Cert.EvenFwdKernelIdeal.cfg0.N,
    fun c => (Cert.EvenFwdKernelIdeal.Gen.dats m 0 c).arrAt 13 Cert.EvenFwdKernelIdeal.cfg0.N,
    Cert.EvenFwdKernelIdeal.Value.run_blocks m g,
    (θ_run _ _ _).mono (fun r h c => ?_) (Cert.EvenFwdReferenceIdeal.Value.run (F := Ideal) m' g')⟩
  obtain ⟨h0, h1, h2, hk⟩ := h c
  obtain ⟨a0, a1, a2, a3, a4, a5, a6, a7, a8, a9⟩ := hargs c
  refine ⟨h0.trans ?_, h1.trans ?_, h2.trans ?_, hk⟩
  · rw [Cert.EvenFwdReferenceIdeal.Read.val_main_v130_eq, a0, a1, a2, a3, a4, a5, a6, a7]; exact (FwdFinal.final11 m c (hf c)).symm
  · rw [Cert.EvenFwdReferenceIdeal.Read.val_main_v34_eq, a0, a1, a2]; exact (FwdFinal.final12 m c).symm
  · rw [Cert.EvenFwdReferenceIdeal.Read.val_main_v132_eq, a0, a1, a2, a3, a4, a5, a6, a7, a8, a9]; exact (FwdFinal.final13 m c (hf c)).symm

end Cert.FwdClaim
end
-- ==== Proof.OddStep.lean ====
/- The reference of the forward odd layer: its loop carries the states of the iterated step. -/
module

public import proofs.«01_k».proof.Proof.Gen.OddFwdReferenceIdeal.Run
public import proofs.«01_k».proof.Proof.Gen.OddFwdReferenceIdeal.Step

@[expose] public section

noncomputable section

namespace Cert.OddStep

open Idealize.ShloMosaic Idealize.ShloMosaic.TcCoe Idealize.SL.Sem Idealize.ShloMosaic.StableHlo
open Cert.OddFwdReferenceIdeal Cert.OddFwdReferenceIdeal.Gen Cert.OddFwdReferenceIdeal.Value
open Cert.OddFwdReferenceIdeal.Step (State step init)

variable {F : FTy → Type} [FloatOps F]

variable (V0 : Valuation τ sig (Elt F)) (s : State F) (j : ℕ)

/-- A valuation that carries a given state, the two arrays the rounds read and the number of the round. -/
structure Holds : Prop where
  f_3 : V0 (Proc.devRef .tc main_v70_3) = s.main_v70_3
  f_4 : V0 (Proc.devRef .tc main_v70_4) = s.main_v70_4
  f_0 : V0 (Proc.devRef .tc main_v70_0) = s.main_v70_0
  f_1 : V0 (Proc.devRef .tc main_v70_1) = s.main_v70_1
  n_2 : V0 (Proc.devRef .tc main_v70_2) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.OddFwdReferenceIdeal.Step.b0 j s := by
  unfold Cert.OddFwdReferenceIdeal.Step.b0
  rfl
set_option maxRecDepth 8192 in
theorem al_1 (h : Holds V0 s j) : (Host.dynamicSlice S1x1536 (V0 (Proc.devRef .tc main_v70_0)) (fun k => (((![V0 (Proc.devRef .tc main_v70_2), constantI S_ 32 0#32] : Fin 2 → (⟨S_, .i32⟩ : BufTy).Contents (Elt F))) k (Shape.Idx.first h_S_)).toInt) sliceFits_S2048x1536_S1x1536 : (Proc.devRef .tc main_while0b_call1_v0 : DevRef τ sig).ty.Contents (Elt F)) = Cert.OddFwdReferenceIdeal.Step.b1 j s := by
  unfold Cert.OddFwdReferenceIdeal.Step.b1
  rw [← al_0 h, h.f_0, h.n_2]
  try rfl
set_option maxRecDepth 8192 in
theorem al_2 (h : Holds V0 s j) : (shapeCast S1536 (Host.dynamicSlice S1x1536 (V0 (Proc.devRef .tc main_v70_0)) (fun k => (((![V0 (Proc.devRef .tc main_v70_2), constantI S_ 32 0#32] : Fin 2 → (⟨S_, .i32⟩ : BufTy).Contents (Elt F))) k (Shape.Idx.first h_S_)).toInt) sliceFits_S2048x1536_S1x1536) shapeCasts_S1x1536_S1536 : (Proc.devRef .tc main_while0b_v77 : DevRef τ sig).ty.Contents (Elt F)) = Cert.OddFwdReferenceIdeal.Step.b2 j s := by
  unfold Cert.OddFwdReferenceIdeal.Step.b2
  rw [← al_1 h]
  try rfl
set_option maxRecDepth 8192 in
theorem al_3 (h : Holds V0 s j) : (constantI S_ 32 0#32 : (Proc.devRef .tc main_while0b_call2_c : DevRef τ sig).ty.Contents (Elt F)) = Cert.OddFwdReferenceIdeal.Step.b3 j s := by
  unfold Cert.OddFwdReferenceIdeal.Step.b3
  rfl
set_option maxRecDepth 8192 in
theorem al_4 (h : Holds V0 s j) : (Host.dynamicSlice S1x1536 (V0 (Proc.devRef .tc main_v70_1)) (fun k => (((![V0 (Proc.devRef .tc main_v70_2), constantI S_ 32 0#32] : Fin 2 → (⟨S_, .i32⟩ : BufTy).Contents (Elt F))) k (Shape.Idx.first h_S_)).toInt) sliceFits_S2048x1536_S1x1536 : (Proc.devRef .tc main_while0b_call2_v0 : DevRef τ sig).ty.Contents (Elt F)) = Cert.OddFwdReferenceIdeal.Step.b4 j s := by
  unfold Cert.OddFwdReferenceIdeal.Step.b4
  rw [← al_3 h, h.f_1, h.n_2]
  try rfl
set_option maxRecDepth 8192 in
theorem al_5 (h : Holds V0 s j) : (shapeCast S1536 (Host.dynamicSlice S1x1536 (V0 (Proc.devRef .tc main_v70_1)) (fun k => (((![V0 (Proc.devRef .tc main_v70_2), constantI S_ 32 0#32] : Fin 2 → (⟨S_, .i32⟩ : BufTy).Contents (Elt F))) k (Shape.Idx.first h_S_)).toInt) sliceFits_S2048x1536_S1x1536) shapeCasts_S1x1536_S1536 : (Proc.devRef .tc main_while0b_v78 : DevRef τ sig).ty.Contents (Elt F)) = Cert.OddFwdReferenceIdeal.Step.b5 j s := by
  unfold Cert.OddFwdReferenceIdeal.Step.b5
  rw [← al_4 h]
  try rfl
set_option maxRecDepth 8192 in
theorem al_6 (h : Holds V0 s j) : (mulf (shapeCast S1536 (Host.dynamicSlice S1x1536 (V0 (Proc.devRef .tc main_v70_0)) (fun k => (((![V0 (Proc.devRef .tc main_v70_2), constantI S_ 32 0#32] : Fin 2 → (⟨S_, .i32⟩ : BufTy).Contents (Elt F))) k (Shape.Idx.first h_S_)).toInt) sliceFits_S2048x1536_S1x1536) shapeCasts_S1x1536_S1536) (V0 (Proc.devRef .tc main_v70_3)) : (Proc.devRef .tc main_while0b_v79 : DevRef τ sig).ty.Contents (Elt F)) = Cert.OddFwdReferenceIdeal.Step.b6 j s := by
  unfold Cert.OddFwdReferenceIdeal.Step.b6
  rw [← al_2 h, h.f_3]
  try rfl
set_option maxRecDepth 8192 in
theorem al_7 (h : Holds V0 s j) : (res_main_while0b_v80 V0 : (Proc.devRef .tc main_while0b_v80 : DevRef τ sig).ty.Contents (Elt F)) = Cert.OddFwdReferenceIdeal.Step.b7 j s := by
  unfold res_main_while0b_v80 Cert.OddFwdReferenceIdeal.Step.b7
  rw [← al_6 h, ← al_5 h]
  try rfl
set_option maxRecDepth 8192 in
theorem al_8 (h : Holds V0 s j) : (broadcastInDim S1x1536 ![1] bcast_S1536_S1x1536_1 (res_main_while0b_v80 V0) : (Proc.devRef .tc main_while0b_call3_v0 : DevRef τ sig).ty.Contents (Elt F)) = Cert.OddFwdReferenceIdeal.Step.b8 j s := by
  unfold Cert.OddFwdReferenceIdeal.Step.b8
  rw [← al_7 h]
  try rfl
set_option maxRecDepth 8192 in
theorem al_9 (h : Holds V0 s j) : (constantI S_ 32 0#32 : (Proc.devRef .tc main_while0b_call3_c : DevRef τ sig).ty.Contents (Elt F)) = Cert.OddFwdReferenceIdeal.Step.b9 j s := by
  unfold Cert.OddFwdReferenceIdeal.Step.b9
  rfl
set_option maxRecDepth 8192 in
theorem al_10 (h : Holds V0 s j) : (Host.dynamicUpdateSlice (V0 (Proc.devRef .tc main_v70_4)) (broadcastInDim S1x1536 ![1] bcast_S1536_S1x1536_1 (res_main_while0b_v80 V0)) (fun k => (((![V0 (Proc.devRef .tc main_v70_2), constantI S_ 32 0#32] : Fin 2 → (⟨S_, .i32⟩ : BufTy).Contents (Elt F))) k (Shape.Idx.first h_S_)).toInt) updateFits_S2048x1536_S1x1536 : (Proc.devRef .tc main_while0b_v81 : DevRef τ sig).ty.Contents (Elt F)) = Cert.OddFwdReferenceIdeal.Step.b10 j s := by
  unfold Cert.OddFwdReferenceIdeal.Step.b10
  rw [← al_8 h, ← al_9 h, h.f_4, h.n_2]
  try rfl

/-! One trip's step of the carried values is `step`, field by field; a counter steps to the next number. -/

theorem step_3 (h : Holds V0 s j) : step_main_v70_3 V0 = (step j s).main_v70_3 := by
  unfold step_main_v70_3 Cert.OddFwdReferenceIdeal.Step.step
  show id (res_main_while0b_v80 V0) = _
  rw [al_7 h]
  try rfl
theorem step_4 (h : Holds V0 s j) : step_main_v70_4 V0 = (step j s).main_v70_4 := by
  unfold step_main_v70_4 Cert.OddFwdReferenceIdeal.Step.step
  show id (Host.dynamicUpdateSlice (V0 (Proc.devRef .tc main_v70_4)) (broadcastInDim S1x1536 ![1] bcast_S1536_S1x1536_1 (res_main_while0b_v80 V0)) (fun k => (((![V0 (Proc.devRef .tc main_v70_2), constantI S_ 32 0#32] : Fin 2 → (⟨S_, .i32⟩ : BufTy).Contents (Elt F))) k (Shape.Idx.first h_S_)).toInt) updateFits_S2048x1536_S1x1536) = _
  exact al_10 h
theorem step_2 (h : Holds V0 s j) : step_main_v70_2 V0 = constantI S_ 32 (BitVec.ofNat 32 (j + 1)) := by
  unfold step_main_v70_2
  rw [h.n_2]
  funext i
  show BitVec.ofNat 32 j + 1#32 = BitVec.ofNat 32 (j + 1)
  simp only [BitVec.ofNat_add]

set_option maxRecDepth 8192 in
theorem out_main_v74_holds (h : Holds V0 s j) {x_main_arg0 : (⟨S2048x3072, .f32⟩ : BufTy).Contents (Elt F)} (h_main_arg0 : V0 (Proc.devRef .tc main_arg0) = x_main_arg0) : out_main_v74 V0 = Cert.OddFwdReferenceIdeal.Step.R_main_v74 s x_main_arg0 := by
  unfold out_main_v74 Cert.OddFwdReferenceIdeal.Step.R_main_v74
  rw [h.f_4, h_main_arg0]
  try rfl

set_option maxRecDepth 8192 in
theorem out_main_v76_holds (h : Holds V0 s j) {x_main_arg0 : (⟨S2048x3072, .f32⟩ : BufTy).Contents (Elt F)} (h_main_arg0 : V0 (Proc.devRef .tc main_arg0) = x_main_arg0) {x_main_arg8 : (⟨S2048x1024, .f32⟩ : BufTy).Contents (Elt F)} (h_main_arg8 : V0 (Proc.devRef .tc main_arg8) = x_main_arg8) {x_main_arg9 : (⟨S1536x1024, .bf16⟩ : BufTy).Contents (Elt F)} (h_main_arg9 : V0 (Proc.devRef .tc main_arg9) = x_main_arg9) : out_main_v76 V0 = Cert.OddFwdReferenceIdeal.Step.R_main_v76 s x_main_arg0 x_main_arg8 x_main_arg9 := by
  unfold out_main_v76 Cert.OddFwdReferenceIdeal.Step.R_main_v76
  rw [h.f_4, h_main_arg0, h_main_arg8, h_main_arg9]
  try rfl

/-- After a round the valuation carries the next state. -/
theorem holds_step (h : Holds V0 s j) : Holds (STEP V0) (step j s) (j + 1) where
  f_3 := (STEP_main_v70_3 V0).trans (step_3 h)
  f_4 := (STEP_main_v70_4 V0).trans (step_4 h)
  n_2 := (STEP_main_v70_2 V0).trans (step_2 h)
  f_0 := (STEP_main_v70_0 V0).trans h.f_0
  f_1 := (STEP_main_v70_1 V0).trans h.f_1

/-- The first state, made of the arguments. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 500000 in
/-- The operations before the loop leave the first state and round number zero. -/
theorem entry_holds : Holds (entryContents preI m c) (initState m c) 0 := by
  constructor <;> (simp only [entryContents, afterL_cons, afterL_nil]; after_reads_simp) <;> rfl

/-- Any sequence of states that begins with the first and goes on by `step` is what the rounds carry. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- Every run ends; the three results come from the state after 2048 rounds, and the arguments are as before. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v74) = Cert.OddFwdReferenceIdeal.Step.R_main_v74 (it c 2048) (m ((c.tc : Thread nD τ).loc main_arg0))
      ∧ r.2.mem ((c.tc : Thread nD τ).loc main_v70_4) = (it c 2048).main_v70_4
      ∧ r.2.mem ((c.tc : Thread nD τ).loc main_v76) = Cert.OddFwdReferenceIdeal.Step.R_main_v76 (it c 2048) (m ((c.tc : Thread nD τ).loc main_arg0)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c (it c) (h0 c) (hs c) 2048
    ⟨(h c).1.trans (out_main_v74_holds hk (iter_main_arg0 m c 2048)), (h c).2.1.trans hk.f_4, (h c).2.2.1.trans (out_main_v76_holds hk (iter_main_arg0 m c 2048) (iter_main_arg8 m c 2048) (iter_main_arg9 m c 2048)), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.OddStep

end
-- ==== Proof.OddVals.lean ====
/- The forward odd layer: what one grid point computes, and what its loop over groups of eight rows leaves. -/
module

public import proofs.«01_k».proof.Proof.Gen.OddFwdKernelIdeal.Loops
public import proofs.«01_k».proof.Proof.Gen.OddFwdKernelIdeal.Points
public import Idealize.ShloMosaic.Lib.Pipeline.FrameBody
public import Idealize.ShloMosaic.Lib.Pipeline.ValueKit
public import Idealize.ShloMosaic.Lib.VecWindow

@[expose] public section

set_option maxRecDepth 16384

noncomputable section

namespace Cert.OddRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddFwdKernelIdeal Cert.OddFwdKernelIdeal.Gen

variable {F : FTy → Type} [FloatOps F]

/-! ## The values of a point -/

section
variable (i : grid0.Coords) (x0 : Vec F S256x3072 .f32) (x1 : Vec F S8x3072 .f32) (x2 : Vec F S1x8x1536 .f32) (x3 : Vec F S1x1x1536 .f32)
  (x4 : Vec F S1x12x128x128 .bf16) (x5 : Vec F S1x1x1536 .f32) (x6 : Vec F S1x12x128x128 .bf16) (x7 x8 : Vec F S1x1x1536 .f32)

/-- The recurrent half of the rows, eight rows of halo in front. -/
def rows : FVec F S264x1536 .f32 := k0_pay4 i (View.ld x1 (Rect.unit (s := S8x3072) ![0, 0] S8x1536.size inb_S8x3072_S8x1536_0_0)) (View.ld x0 (Rect.unit (s := S256x3072) ![0, 0] S256x1536.size inb_S256x3072_S256x1536_0_0))

/-- The convolution without its last tap but one. -/
def conv3 : FVec F S256x1536 .f32 := k0_pay5 i (View.ld x1 (Rect.unit (s := S8x3072) ![0, 0] S8x1536.size inb_S8x3072_S8x1536_0_0)) (View.ld x0 (Rect.unit (s := S256x3072) ![0, 0] S256x1536.size inb_S256x3072_S256x1536_0_0)) (View.ld x3 (Rect.unit (s := S1x1x1536) ![0, 0, 0] S1x1x1536.size inb_S1x1x1536_S1x1x1536_0_0_0)) (View.ld x2 (Rect.unit (s := S1x8x1536) ![0, 3, 0] S1x1x1536.size inb_S1x8x1536_S1x1x1536_0_3_0)) (View.ld x2 (Rect.unit (s := S1x8x1536) ![0, 0, 0] S1x1x1536.size inb_S1x8x1536_S1x1x1536_0_0_0)) (View.ld x2 (Rect.unit (s := S1x8x1536) ![0, 1, 0] S1x1x1536.size inb_S1x8x1536_S1x1x1536_0_1_0))

/-- The convolution. -/
def conv : FVec F S256x1536 .f32 := k0_pay6 (rows i x0 x1) (conv3 i x0 x1 x2 x3) (View.ld x2 (Rect.unit (s := S1x8x1536) ![0, 2, 0] S1x1x1536.size inb_S1x8x1536_S1x1x1536_0_2_0))

/-- The convolution, as the products take it. -/
def convb : FVec F S256x1536 .bf16 := k0_pay7 (rows i x0 x1) (conv3 i x0 x1 x2 x3) (View.ld x2 (Rect.unit (s := S1x8x1536) ![0, 2, 0] S1x1x1536.size inb_S1x8x1536_S1x1x1536_0_2_0))

/-- The recurrence gate from the convolution. -/
def gateR (R : FVec F S264x1536 .f32) (C : FVec F S256x1536 .f32) (T : Vec F S1x1x1536 .f32) (b : FVec F S256x1536 .bf16) : FVec F S256x1536 .f32 :=
  k0_pay32 b (k0_pay8 R C T (View.ld x4 (Rect.unit (s := S1x12x128x128) ![0, 0, 0, 0] S1x1x128x128.size inb_S1x12x128x128_S1x1x128x128_0_0_0_0))) (k0_pay10 R C T (View.ld x4 (Rect.unit (s := S1x12x128x128) ![0, 1, 0, 0] S1x1x128x128.size inb_S1x12x128x128_S1x1x128x128_0_1_0_0))) (k0_pay12 R C T (View.ld x4 (Rect.unit (s := S1x12x128x128) ![0, 2, 0, 0] S1x1x128x128.size inb_S1x12x128x128_S1x1x128x128_0_2_0_0))) (k0_pay15 b (View.ld x4 (Rect.unit (s := S1x12x128x128) ![0, 3, 0, 0] S1x1x128x128.size inb_S1x12x128x128_S1x1x128x128_0_3_0_0))) (k0_pay17 b (View.ld x4 (Rect.unit (s := S1x12x128x128) ![0, 4, 0, 0] S1x1x128x128.size inb_S1x12x128x128_S1x1x128x128_0_4_0_0))) (k0_pay19 b (View.ld x4 (Rect.unit (s := S1x12x128x128) ![0, 5, 0, 0] S1x1x128x128.size inb_S1x12x128x128_S1x1x128x128_0_5_0_0))) (k0_pay22 (k0_pay21 b) (View.ld x4 (Rect.unit (s := S1x12x128x128) ![0, 6, 0, 0] S1x1x128x128.size inb_S1x12x128x128_S1x1x128x128_0_6_0_0))) (k0_pay24 b (View.ld x4 (Rect.unit (s := S1x12x128x128) ![0, 7, 0, 0] S1x1x128x128.size inb_S1x12x128x128_S1x1x128x128_0_7_0_0))) (k0_pay26 b (View.ld x4 (Rect.unit (s := S1x12x128x128) ![0, 8, 0, 0] S1x1x128x128.size inb_S1x12x128x128_S1x1x128x128_0_8_0_0))) (k0_pay28 b (View.ld x4 (Rect.unit (s := S1x12x128x128) ![0, 9, 0, 0] S1x1x128x128.size inb_S1x12x128x128_S1x1x128x128_0_9_0_0))) (View.ld x4 (Rect.unit (s := S1x12x128x128) ![0, 10, 0, 0] S1x1x128x128.size inb_S1x12x128x128_S1x1x128x128_0_10_0_0)) (View.ld x4 (Rect.unit (s := S1x12x128x128) ![0, 11, 0, 0] S1x1x128x128.size inb_S1x12x128x128_S1x1x128x128_0_11_0_0)) (View.ld x5 (Rect.unit (s := S1x1x1536) ![0, 0, 0] S1x1x1536.size inb_S1x1x1536_S1x1x1536_0_0_0))

/-- The input gate from the convolution. -/
def gateI (R : FVec F S264x1536 .f32) (C : FVec F S256x1536 .f32) (T : Vec F S1x1x1536 .f32) (b : FVec F S256x1536 .bf16) : FVec F S256x1536 .f32 :=
  k0_pay33 (k0_pay9 R C T (View.ld x6 (Rect.unit (s := S1x12x128x128) ![0, 0, 0, 0] S1x1x128x128.size inb_S1x12x128x128_S1x1x128x128_0_0_0_0))) (k0_pay11 R C T (View.ld x6 (Rect.unit (s := S1x12x128x128) ![0, 1, 0, 0] S1x1x128x128.size inb_S1x12x128x128_S1x1x128x128_0_1_0_0))) (k0_pay14 (k0_pay13 R C T) (View.ld x6 (Rect.unit (s := S1x12x128x128) ![0, 2, 0, 0] S1x1x128x128.size inb_S1x12x128x128_S1x1x128x128_0_2_0_0))) (k0_pay16 b (View.ld x6 (Rect.unit (s := S1x12x128x128) ![0, 3, 0, 0] S1x1x128x128.size inb_S1x12x128x128_S1x1x128x128_0_3_0_0))) (k0_pay18 b (View.ld x6 (Rect.unit (s := S1x12x128x128) ![0, 4, 0, 0] S1x1x128x128.size inb_S1x12x128x128_S1x1x128x128_0_4_0_0))) (k0_pay20 b (View.ld x6 (Rect.unit (s := S1x12x128x128) ![0, 5, 0, 0] S1x1x128x128.size inb_S1x12x128x128_S1x1x128x128_0_5_0_0))) (k0_pay23 b (View.ld x6 (Rect.unit (s := S1x12x128x128) ![0, 6, 0, 0] S1x1x128x128.size inb_S1x12x128x128_S1x1x128x128_0_6_0_0))) (k0_pay25 b (View.ld x6 (Rect.unit (s := S1x12x128x128) ![0, 7, 0, 0] S1x1x128x128.size inb_S1x12x128x128_S1x1x128x128_0_7_0_0))) (k0_pay27 b (View.ld x6 (Rect.unit (s := S1x12x128x128) ![0, 8, 0, 0] S1x1x128x128.size inb_S1x12x128x128_S1x1x128x128_0_8_0_0))) (k0_pay29 b (View.ld x6 (Rect.unit (s := S1x12x128x128) ![0, 9, 0, 0] S1x1x128x128.size inb_S1x12x128x128_S1x1x128x128_0_9_0_0))) (k0_pay30 b (View.ld x6 (Rect.unit (s := S1x12x128x128) ![0, 10, 0, 0] S1x1x128x128.size inb_S1x12x128x128_S1x1x128x128_0_10_0_0))) (k0_pay31 b (View.ld x6 (Rect.unit (s := S1x12x128x128) ![0, 11, 0, 0] S1x1x128x128.size inb_S1x12x128x128_S1x1x128x128_0_11_0_0))) (View.ld x7 (Rect.unit (s := S1x1x1536) ![0, 0, 0] S1x1x1536.size inb_S1x1x1536_S1x1x1536_0_0_0))

/-- Minus eight times the recurrence gate. -/
def rate : FVec F S256x1536 .f32 := k0_pay35 (gateR x4 x5 (rows i x0 x1) (conv3 i x0 x1 x2 x3) (View.ld x2 (Rect.unit (s := S1x8x1536) ![0, 2, 0] S1x1x1536.size inb_S1x8x1536_S1x1x1536_0_2_0)) (convb i x0 x1 x2 x3))

/-- The input gate. -/
def inp : FVec F S256x1536 .f32 := gateI x6 x7 (rows i x0 x1) (conv3 i x0 x1 x2 x3) (View.ld x2 (Rect.unit (s := S1x8x1536) ![0, 2, 0] S1x1x1536.size inb_S1x8x1536_S1x1x1536_0_2_0)) (convb i x0 x1 x2 x3)

/-- The softplus of minus the decay's parameter. -/
def soft : FVec F S1x1536 .f32 := k0_pay34 (View.ld x8 (Rect.unit (s := S1x1x1536) ![0, 0, 0] S1x1x1536.size inb_S1x1x1536_S1x1x1536_0_0_0))

/-- The products of the decays inside each group of eight rows. -/
def groupA (sp : FVec F S1x1536 .f32) (r : FVec F S256x1536 .f32) : FVec F S256x1536 .f32 :=
  k0_pay47 (iota .tc S1x8x1 32 [1] iota_S1x8x1_d1_w32) (k0_pay41 sp r) (k0_pay43 sp r)

/-- The states inside each group of eight rows from a zero state before it. -/
def groupB (xc g : FVec F S256x1536 .f32) (sp : FVec F S1x1536 .f32) (r : FVec F S256x1536 .f32) : FVec F S256x1536 .f32 :=
  k0_pay48 (iota .tc S1x8x1 32 [1] iota_S1x8x1_d1_w32) (k0_pay40 xc g sp r) (k0_pay41 sp r) (k0_pay43 sp r) (k0_pay44 xc g sp r)

def scanA : FVec F S256x1536 .f32 := groupA (soft x8) (rate i x0 x1 x2 x3 x4 x5)

def scanB : FVec F S256x1536 .f32 := groupB (conv i x0 x1 x2 x3) (inp i x0 x1 x2 x3 x6 x7) (soft x8) (rate i x0 x1 x2 x3 x4 x5)
end

/-! ## The loop over groups of eight rows -/

theorem trips_eq : k0_t1_loop.trips = 32 := by decide

/-- The eight rows of group `k`. -/
def grp (X : Vec F S256x1536 .f32) (k : Fin k0_t1_loop.trips) : Vec F S8x1536 .f32 :=
  View.ld X (Rect.unit (s := S256x1536) (k0_off1 k) S8x1536.size (k0_off1_inb k))

/-- The state before group `n`. -/
def carried (A B : Vec F S256x1536 .f32) (c0 : Vec F S1x1536 .f32) : ℕ → Vec F S1x1536 .f32
  | 0 => c0
  | n + 1 => if h : n < k0_t1_loop.trips then k0_pay50 (carried A B c0 n) (grp A ⟨n, h⟩) (grp B ⟨n, h⟩) else carried A B c0 n

theorem carried_succ (A B : Vec F S256x1536 .f32) (c0 : Vec F S1x1536 .f32) (k : Fin k0_t1_loop.trips) :
    carried A B c0 (k.val + 1) = k0_pay50 (carried A B c0 k.val) (grp A k) (grp B k) := by
  rw [carried]; exact dif_pos k.isLt

theorem grp_lt (y : S256x1536.Idx) : (y 0).val / 8 < k0_t1_loop.trips := by
  have h : (y 0).val < 256 := (y 0).isLt
  have e := trips_eq
  omega

/-- The states of all rows. -/
def states (A B : Vec F S256x1536 .f32) (c0 : Vec F S1x1536 .f32) : Vec F S256x1536 .f32 := fun y =>
  k0_pay49 (carried A B c0 ((y 0).val / 8)) (grp A ⟨(y 0).val / 8, grp_lt y⟩) (grp B ⟨(y 0).val / 8, grp_lt y⟩)
    (ix2 (⟨(y 0).val % 8, Nat.mod_lt _ (by decide)⟩ : Fin 8) (y 1))

/-- The first row of the carried state. -/
def first (C : Vec F S8x1536 .f32) : Vec F S1x1536 .f32 := View.ld C (Rect.unit (s := S8x1536) ![0, 0] S1x1536.size inb_S8x1536_S1x1536_0_0)

theorem row_lt (k : Fin k0_t1_loop.trips) (x : Fin 8) : 8 * k.val + x.val < 256 := by
  have h : k.val < 32 := lt_of_lt_of_eq k.isLt trips_eq
  omega

theorem off_emb (k : Fin k0_t1_loop.trips) (inb) (x : Fin 8) (l : Fin 1536) :
    (Rect.unit (s := S256x1536) (k0_off1 k) S8x1536.size inb).emb (ix2 x l) = ix2 (⟨8 * k.val + x.val, row_lt k x⟩ : Fin 256) l := by
  refine funext fun a => Fin.ext ?_
  have e := k0_off1_eq k
  fin_cases a
  · show k0_off1 k 0 + 1 * x.val = 8 * k.val + x.val
    rw [e]; show 8 * k.val + 1 * x.val = 8 * k.val + x.val; omega
  · show k0_off1 k 1 + 1 * l.val = l.val
    rw [e]; show 0 + 1 * l.val = l.val; omega

theorem off_mem (k : Fin k0_t1_loop.trips) (inb) (R : Fin 256) (l : Fin 1536) (h1 : 8 * k.val ≤ R.val) (h2 : R.val < 8 * k.val + 8) :
    (ix2 R l : S256x1536.Idx) ∈ (Rect.unit (s := S256x1536) (k0_off1 k) S8x1536.size inb).set := by
  have e := off_emb k inb (⟨R.val - 8 * k.val, by omega⟩ : Fin 8) l
  rw [show (⟨8 * k.val + (R.val - 8 * k.val), row_lt k ⟨R.val - 8 * k.val, by omega⟩⟩ : Fin 256) = R from Fin.ext (by show 8 * k.val + (R.val - 8 * k.val) = R.val; omega)] at e
  rw [← e]
  exact LoadRect.idx_mem _ _

/-- The states of group `k`. -/
theorem states_group (A B : Vec F S256x1536 .f32) (c0 : Vec F S1x1536 .f32) (k : Fin k0_t1_loop.trips) (x : Fin 8) (l : Fin 1536) :
    states A B c0 (ix2 ⟨8 * k.val + x.val, row_lt k x⟩ l) = k0_pay49 (carried A B c0 k.val) (grp A k) (grp B k) (ix2 x l) := by
  obtain ⟨k, hk⟩ := k
  obtain ⟨x, hx⟩ := x
  have e1 : (8 * k + x) / 8 = k := by omega
  have e2 : (8 * k + x) % 8 = x := by omega
  show k0_pay49 (carried A B c0 ((8 * k + x) / 8)) (grp A ⟨(8 * k + x) / 8, _⟩) (grp B ⟨(8 * k + x) / 8, _⟩) (ix2 (⟨(8 * k + x) % 8, _⟩ : Fin 8) l) = _
  simp only [e1, e2]

/-- One trip's value and piece. -/
theorem trip (𝒱 : Variants) (c : Dev nD) (bd : Option 𝒱.V) (i : grid0.Coords) (arg1 : Memref sig .tc .vmem S256x3072 .f32) (harg1 : arg1.IsWhole) (arg2 : Memref sig .tc .vmem S8x3072 .f32) (harg2 : arg2.IsWhole) (arg3 : Memref sig .tc .vmem S1x8x1536 .f32) (harg3 : arg3.IsWhole) (arg4 : Memref sig .tc .vmem S1x1x1536 .f32) (harg4 : arg4.IsWhole) (arg5 : Memref sig .tc .vmem S1x12x128x128 .bf16) (harg5 : arg5.IsWhole) (arg6 : Memref sig .tc .vmem S1x1x1536 .f32) (harg6 : arg6.IsWhole) (arg7 : Memref sig .tc .vmem S1x12x128x128 .bf16) (harg7 : arg7.IsWhole) (arg8 : Memref sig .tc .vmem S1x1x1536 .f32) (harg8 : arg8.IsWhole) (arg9 : Memref sig .tc .vmem S1x1x1536 .f32) (harg9 : arg9.IsWhole) (arg10 : Memref sig .tc .vmem S256x1024 .f32) (harg10 : arg10.IsWhole) (arg11 : Memref sig .tc .vmem S1x1536x1024 .bf16) (harg11 : arg11.IsWhole) (arg12 : Memref sig .tc .vmem S256x1536 .bf16) (harg12 : arg12.IsWhole) (arg13 : Memref sig .tc .vmem S256x1536 .f32) (harg13 : arg13.IsWhole) (arg14 : Memref sig .tc .vmem S256x1024 .f32) (harg14 : arg14.IsWhole) (arg15 : Memref sig .tc .vmem S8x1536 .f32) (harg15 : arg15.IsWhole) (arg16 : Memref sig .tc .vmem S256x1536 .f32) (harg16 : arg16.IsWhole) (arg17 : Memref sig .tc .vmem S256x1536 .f32) (harg17 : arg17.IsWhole) (v207 : IVec S1x8x1 32) (v221 : FVec F S32x8x1536 .f32) (v222 : FVec F S32x8x1536 .f32) (v229 : FVec F S32x8x1536 .f32) (v235 : FVec F S32x8x1536 .f32) (X_arg16 : BufTy.Contents (Elt F) arg16.view.ty) (X_arg17 : BufTy.Contents (Elt F) arg17.view.ty) (k : Fin k0_t1_loop.trips) (acc : Vec F S1x1536 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 k acc = k0_pay50 acc (grp (arg16.view.read (Elt F) X_arg16) k) (grp (arg17.view.read (Elt F) X_arg17) k)
      ∧ tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 k acc
        = [⟨Rect.unit (s := S256x1536) (k0_off1 k) S8x1536.size (k0_off1_inb k), k0_pay49 acc (grp (arg16.view.read (Elt F) X_arg16) k) (grp (arg17.view.read (Elt F) X_arg17) k)⟩] := by
  unfold tripR_k0_t1 tripL_k0_t1 trip_k0_t1
  exact ⟨rfl, rfl⟩

set_option maxHeartbeats 1600000 in
/-- Before trip `n`: the carried state, and pieces that hold the states and cover the rows before `8 n`. -/
theorem before (𝒱 : Variants) (c : Dev nD) (bd : Option 𝒱.V) (i : grid0.Coords) (arg1 : Memref sig .tc .vmem S256x3072 .f32) (harg1 : arg1.IsWhole) (arg2 : Memref sig .tc .vmem S8x3072 .f32) (harg2 : arg2.IsWhole) (arg3 : Memref sig .tc .vmem S1x8x1536 .f32) (harg3 : arg3.IsWhole) (arg4 : Memref sig .tc .vmem S1x1x1536 .f32) (harg4 : arg4.IsWhole) (arg5 : Memref sig .tc .vmem S1x12x128x128 .bf16) (harg5 : arg5.IsWhole) (arg6 : Memref sig .tc .vmem S1x1x1536 .f32) (harg6 : arg6.IsWhole) (arg7 : Memref sig .tc .vmem S1x12x128x128 .bf16) (harg7 : arg7.IsWhole) (arg8 : Memref sig .tc .vmem S1x1x1536 .f32) (harg8 : arg8.IsWhole) (arg9 : Memref sig .tc .vmem S1x1x1536 .f32) (harg9 : arg9.IsWhole) (arg10 : Memref sig .tc .vmem S256x1024 .f32) (harg10 : arg10.IsWhole) (arg11 : Memref sig .tc .vmem S1x1536x1024 .bf16) (harg11 : arg11.IsWhole) (arg12 : Memref sig .tc .vmem S256x1536 .bf16) (harg12 : arg12.IsWhole) (arg13 : Memref sig .tc .vmem S256x1536 .f32) (harg13 : arg13.IsWhole) (arg14 : Memref sig .tc .vmem S256x1024 .f32) (harg14 : arg14.IsWhole) (arg15 : Memref sig .tc .vmem S8x1536 .f32) (harg15 : arg15.IsWhole) (arg16 : Memref sig .tc .vmem S256x1536 .f32) (harg16 : arg16.IsWhole) (arg17 : Memref sig .tc .vmem S256x1536 .f32) (harg17 : arg17.IsWhole) (v207 : IVec S1x8x1 32) (v221 : FVec F S32x8x1536 .f32) (v222 : FVec F S32x8x1536 .f32) (v229 : FVec F S32x8x1536 .f32) (v235 : FVec F S32x8x1536 .f32) (X_arg16 : BufTy.Contents (Elt F) arg16.view.ty) (X_arg17 : BufTy.Contents (Elt F) arg17.view.ty) (c0 : Vec F S1x1536 .f32) (n : ℕ) (hn : n ≤ 32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 c0 n).1 = carried (arg16.view.read (Elt F) X_arg16) (arg17.view.read (Elt F) X_arg17) c0 n
      ∧ (∀ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 c0 n).2, ∀ x : p.1.shape.Idx, p.2 x = states (arg16.view.read (Elt F) X_arg16) (arg17.view.read (Elt F) X_arg17) c0 (p.1.emb x))
      ∧ ∀ (R : Fin 256) (l : Fin 1536), R.val < 8 * n → ∃ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 c0 n).2, (ix2 R l : S256x1536.Idx) ∈ p.1.set := by
  induction n with
  | zero => exact ⟨rfl, fun p hp => absurd hp (by simp [st_k0_t1]), fun R l h => absurd h (by omega)⟩
  | succ n ih =>
    obtain ⟨h1, h2, h3⟩ := ih (by omega)
    have hk : n < k0_t1_loop.trips := lt_of_lt_of_eq (Nat.lt_of_succ_le hn) trips_eq.symm
    obtain ⟨t1, t2⟩ := trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 ⟨n, hk⟩ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 c0 n).1
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 c0 ⟨n, hk⟩
    simp only at e
    rw [t1, t2, h1] at e
    rw [e]
    refine ⟨(carried_succ _ _ c0 ⟨n, hk⟩).symm, fun p hp x => ?_, fun R l h => ?_⟩
    · rcases List.mem_cons.mp hp with rfl | hp
      · obtain ⟨a, l, rfl⟩ : ∃ (a : Fin 8) (l : Fin 1536), x = ix2 a l := ⟨x 0, x 1, eq_ix2 x⟩
        exact (states_group _ _ c0 ⟨n, hk⟩ a l).symm.trans (congrArg _ (off_emb ⟨n, hk⟩ (k0_off1_inb ⟨n, hk⟩) a l).symm)
      · exact h2 p hp x
    · by_cases h' : R.val < 8 * n
      · obtain ⟨p, hp, hm⟩ := h3 R l h'
        exact ⟨p, List.mem_cons_of_mem _ hp, hm⟩
      · exact ⟨_, List.mem_cons_self .., off_mem ⟨n, hk⟩ (k0_off1_inb ⟨n, hk⟩) R l (by show 8 * n ≤ R.val; omega) (by show R.val < 8 * n + 8; omega)⟩

/-- What the whole loop leaves. -/
theorem after (𝒱 : Variants) (c : Dev nD) (bd : Option 𝒱.V) (i : grid0.Coords) (arg1 : Memref sig .tc .vmem S256x3072 .f32) (harg1 : arg1.IsWhole) (arg2 : Memref sig .tc .vmem S8x3072 .f32) (harg2 : arg2.IsWhole) (arg3 : Memref sig .tc .vmem S1x8x1536 .f32) (harg3 : arg3.IsWhole) (arg4 : Memref sig .tc .vmem S1x1x1536 .f32) (harg4 : arg4.IsWhole) (arg5 : Memref sig .tc .vmem S1x12x128x128 .bf16) (harg5 : arg5.IsWhole) (arg6 : Memref sig .tc .vmem S1x1x1536 .f32) (harg6 : arg6.IsWhole) (arg7 : Memref sig .tc .vmem S1x12x128x128 .bf16) (harg7 : arg7.IsWhole) (arg8 : Memref sig .tc .vmem S1x1x1536 .f32) (harg8 : arg8.IsWhole) (arg9 : Memref sig .tc .vmem S1x1x1536 .f32) (harg9 : arg9.IsWhole) (arg10 : Memref sig .tc .vmem S256x1024 .f32) (harg10 : arg10.IsWhole) (arg11 : Memref sig .tc .vmem S1x1536x1024 .bf16) (harg11 : arg11.IsWhole) (arg12 : Memref sig .tc .vmem S256x1536 .bf16) (harg12 : arg12.IsWhole) (arg13 : Memref sig .tc .vmem S256x1536 .f32) (harg13 : arg13.IsWhole) (arg14 : Memref sig .tc .vmem S256x1024 .f32) (harg14 : arg14.IsWhole) (arg15 : Memref sig .tc .vmem S8x1536 .f32) (harg15 : arg15.IsWhole) (arg16 : Memref sig .tc .vmem S256x1536 .f32) (harg16 : arg16.IsWhole) (arg17 : Memref sig .tc .vmem S256x1536 .f32) (harg17 : arg17.IsWhole) (v207 : IVec S1x8x1 32) (v221 : FVec F S32x8x1536 .f32) (v222 : FVec F S32x8x1536 .f32) (v229 : FVec F S32x8x1536 .f32) (v235 : FVec F S32x8x1536 .f32) (X_arg16 : BufTy.Contents (Elt F) arg16.view.ty) (X_arg17 : BufTy.Contents (Elt F) arg17.view.ty) (c0 : Vec F S1x1536 .f32) (n : ℕ) (hn : n = 32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 c0 n).1 = carried (arg16.view.read (Elt F) X_arg16) (arg17.view.read (Elt F) X_arg17) c0 32
      ∧ ∀ f, arg13.view.read (Elt F) (arg13.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 c0 n).2) = states (arg16.view.read (Elt F) X_arg16) (arg17.view.read (Elt F) X_arg17) c0 := by
  subst hn
  obtain ⟨h1, h2, h3⟩ := before 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v207 v221 v222 v229 v235 X_arg16 X_arg17 c0 32 (Nat.le_refl _)
  refine ⟨h1, fun f => funext fun y => ?_⟩
  have hy := h3 (y 0) (y 1) (y 0).isLt
  rw [← eq_ix2 y] at hy
  exact (View.read_writes_apply_eq_canon _ _ _ _ hy).trans (View.canon_apply_of_pieces (states _ _ c0) _ h2 _ hy)

end Cert.OddRun

end
-- ==== Proof.OddRun.lean ====
/- The forward odd layer: the two kinds of grid points, with their values. -/
module

public import proofs.«01_k».proof.Proof.OddVals
public import proofs.«01_k».proof.Proof.Gen.OddFwdKernelIdeal.Launch
public import proofs.«01_k».proof.Proof.Gen.OddFwdKernelIdeal.Skeleton
public import proofs.«01_k».proof.Proof.Gen.OddFwdKernelIdeal.Frame

@[expose] public section

set_option maxRecDepth 16384

noncomputable section

namespace Cert.OddRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddFwdKernelIdeal Cert.OddFwdKernelIdeal.Gen

variable {F : FTy → Type} [FloatOps F]

local notation "𝕄" => MT nD τ sig Unit (Elt F) ℕ (UR sig nD τ) ℕ

/-- The gated states. -/
def outY (x0 : Vec F S256x3072 .f32) (hs : Vec F S256x1536 .f32) : Vec F S256x1536 .bf16 :=
  k0_pay1 (k0_pay52 hs) (View.ld x0 (Rect.unit (s := S256x3072) ![0, 1536] S256x1536.size inb_S256x3072_S256x1536_0_1536))

/-- The rows after the layer. -/
def outH (x9 : Vec F S256x1024 .f32) (x10 : Vec F S1x1536x1024 .bf16) (y : Vec F S256x1536 .bf16) : Vec F S256x1024 .f32 :=
  k0_pay2 x9 y x10

theorem congr3 {α β γ δ : Type} (f : α → β → γ → δ) {a a' : α} {b b' : β} {c c' : γ} (ha : a = a') (hb : b = b') (hc : c = c') : f a b c = f a' b' c' := by
  rw [ha, hb, hc]

set_option maxHeartbeats 8000000 in
/-- The first point of a sequence: the carried state is cleared first. -/
theorem run_A (c : Dev nD) (i : grid0.Coords) (arg1 : Memref sig .tc .vmem S256x3072 .f32) (harg1 : arg1.IsWhole) (arg2 : Memref sig .tc .vmem S8x3072 .f32) (harg2 : arg2.IsWhole) (arg3 : Memref sig .tc .vmem S1x8x1536 .f32) (harg3 : arg3.IsWhole) (arg4 : Memref sig .tc .vmem S1x1x1536 .f32) (harg4 : arg4.IsWhole) (arg5 : Memref sig .tc .vmem S1x12x128x128 .bf16) (harg5 : arg5.IsWhole) (arg6 : Memref sig .tc .vmem S1x1x1536 .f32) (harg6 : arg6.IsWhole) (arg7 : Memref sig .tc .vmem S1x12x128x128 .bf16) (harg7 : arg7.IsWhole) (arg8 : Memref sig .tc .vmem S1x1x1536 .f32) (harg8 : arg8.IsWhole) (arg9 : Memref sig .tc .vmem S1x1x1536 .f32) (harg9 : arg9.IsWhole) (arg10 : Memref sig .tc .vmem S256x1024 .f32) (harg10 : arg10.IsWhole) (arg11 : Memref sig .tc .vmem S1x1536x1024 .bf16) (harg11 : arg11.IsWhole) (arg12 : Memref sig .tc .vmem S256x1536 .bf16) (harg12 : arg12.IsWhole) (arg13 : Memref sig .tc .vmem S256x1536 .f32) (harg13 : arg13.IsWhole) (arg14 : Memref sig .tc .vmem S256x1024 .f32) (harg14 : arg14.IsWhole) (arg15 : Memref sig .tc .vmem S8x1536 .f32) (harg15 : arg15.IsWhole) (arg16 : Memref sig .tc .vmem S256x1536 .f32) (harg16 : arg16.IsWhole) (arg17 : Memref sig .tc .vmem S256x1536 .f32) (harg17 : arg17.IsWhole)
    (h1 : (Scalar.cmpi .ne (Scalar.extui (Scalar.cmpi .eq (BitVec.ofNat 32 (i 0).val) 0#32)) 0#32) = 1#1)
    (x0 : Vec F S256x3072 .f32) (x1 : Vec F S8x3072 .f32) (x2 : Vec F S1x8x1536 .f32) (x3 : Vec F S1x1x1536 .f32) (x4 : Vec F S1x12x128x128 .bf16) (x5 : Vec F S1x1x1536 .f32) (x6 : Vec F S1x12x128x128 .bf16) (x7 : Vec F S1x1x1536 .f32) (x8 : Vec F S1x1x1536 .f32) (x9 : Vec F S256x1024 .f32) (x10 : Vec F S1x1536x1024 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outY x0 (states (scanA i x0 x1 x2 x3 x4 x5 x8) (scanB i x0 x1 x2 x3 x4 x5 x6 x7 x8) (first (k0_pay3 (F := F))))) ∗ owns (c : Thread nD τ) arg13 fullShare (states (scanA i x0 x1 x2 x3 x4 x5 x8) (scanB i x0 x1 x2 x3 x4 x5 x6 x7 x8) (first (k0_pay3 (F := F)))) ∗ owns (c : Thread nD τ) arg14 fullShare (outH x9 x10 (outY x0 (states (scanA i x0 x1 x2 x3 x4 x5 x8) (scanB i x0 x1 x2 x3 x4 x5 x6 x7 x8) (first (k0_pay3 (F := F)))))) ∗ owns (c : Thread nD τ) arg15 fullShare (k0_pay51 (carried (scanA i x0 x1 x2 x3 x4 x5 x8) (scanB i x0 x1 x2 x3 x4 x5 x6 x7 x8) (first (k0_pay3 (F := F))) 32)) ∗ (∃ d, owns (c : Thread nD τ) arg16 fullShare d) ∗ (∃ d, owns (c : Thread nD τ) arg17 fullShare d)) -∗ K ⟨⟩))
      ⊢ wp frame (wpE (defs₀ (F := F)) Variants.none c none) E (cc0_odd_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_odd_mixer_fwd_eq_skeleton]; unfold cc0_odd_mixer_fwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%farg1, %hfarg1, Harg1⟩, ⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg1.eq_unread hfarg1; obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg11.eq_unread hfarg11
  sl_exec (disch := first | sl_exact h1)
  sl_step
  iapply Hk
  isplitl [Harg1]
  · iexists _; isplitr; · ipureintro; exact harg1.read_unread _
    iexact Harg1
  isplitl [Harg2]
  · iexists _; isplitr; · ipureintro; exact harg2.read_unread _
    iexact Harg2
  isplitl [Harg3]
  · iexists _; isplitr; · ipureintro; exact harg3.read_unread _
    iexact Harg3
  isplitl [Harg4]
  · iexists _; isplitr; · ipureintro; exact harg4.read_unread _
    iexact Harg4
  isplitl [Harg5]
  · iexists _; isplitr; · ipureintro; exact harg5.read_unread _
    iexact Harg5
  isplitl [Harg6]
  · iexists _; isplitr; · ipureintro; exact harg6.read_unread _
    iexact Harg6
  isplitl [Harg7]
  · iexists _; isplitr; · ipureintro; exact harg7.read_unread _
    iexact Harg7
  isplitl [Harg8]
  · iexists _; isplitr; · ipureintro; exact harg8.read_unread _
    iexact Harg8
  isplitl [Harg9]
  · iexists _; isplitr; · ipureintro; exact harg9.read_unread _
    iexact Harg9
  isplitl [Harg10]
  · iexists _; isplitr; · ipureintro; exact harg10.read_unread _
    iexact Harg10
  isplitl [Harg11]
  · iexists _; isplitr; · ipureintro; exact harg11.read_unread _
    iexact Harg11
  isplitl [H12]
  · iexists _; isplitr; pick_goal 2
    · iexact H12
    ipureintro
    refine (View.read_writes_full _ _ _ _ _).trans ?_
    refine congrArg₂ k0_pay1 (congrArg k0_pay52 ?_) (congrArg (fun x : Vec F S256x3072 .f32 => View.ld x (Rect.unit (s := S256x3072) ![0, 1536] S256x1536.size inb_S256x3072_S256x1536_0_1536)) hfarg1)
    refine (View.readAt_full arg13.view _ _).trans ?_
    refine ((after Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ trips_eq).2 _).trans ?_
    exact congr3 states ((View.read_writes_full _ _ _ _ _).trans (Eq.trans (b := scanA i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg9.view.read (Elt F) (harg9.unread x8))) rfl (by rw [hfarg1, hfarg2, hfarg3, hfarg4, hfarg5, hfarg6, hfarg9]))) ((View.read_writes_full _ _ _ _ _).trans (Eq.trans (b := scanB i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) rfl (by rw [hfarg1, hfarg2, hfarg3, hfarg4, hfarg5, hfarg6, hfarg7, hfarg8, hfarg9]))) (congrArg first (View.read_writes_full arg15.view _ _ _ _))
  isplitl [H13]
  · iexists _; isplitr; pick_goal 2
    · iexact H13
    ipureintro
    refine ((after Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ trips_eq).2 _).trans ?_
    exact congr3 states ((View.read_writes_full _ _ _ _ _).trans (Eq.trans (b := scanA i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg9.view.read (Elt F) (harg9.unread x8))) rfl (by rw [hfarg1, hfarg2, hfarg3, hfarg4, hfarg5, hfarg6, hfarg9]))) ((View.read_writes_full _ _ _ _ _).trans (Eq.trans (b := scanB i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) rfl (by rw [hfarg1, hfarg2, hfarg3, hfarg4, hfarg5, hfarg6, hfarg7, hfarg8, hfarg9]))) (congrArg first (View.read_writes_full arg15.view _ _ _ _))
  isplitl [H14]
  · iexists _; isplitr; pick_goal 2
    · iexact H14
    ipureintro
    refine (View.read_writes_full _ _ _ _ _).trans ?_
    refine congr3 (fun a b d => k0_pay2 a b d) ((View.readAt_full arg10.view _ _).trans hfarg10) ?_ ((View.readAt_full arg11.view _ _).trans hfarg11)
    unfold run_A.sl.v284
    refine (View.readCov_full arg12.view _ _ _ _).trans ?_
    refine congrArg₂ k0_pay1 (congrArg k0_pay52 ?_) (congrArg (fun x : Vec F S256x3072 .f32 => View.ld x (Rect.unit (s := S256x3072) ![0, 1536] S256x1536.size inb_S256x3072_S256x1536_0_1536)) hfarg1)
    refine (View.readAt_full arg13.view _ _).trans ?_
    refine ((after Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ trips_eq).2 _).trans ?_
    exact congr3 states ((View.read_writes_full _ _ _ _ _).trans (Eq.trans (b := scanA i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg9.view.read (Elt F) (harg9.unread x8))) rfl (by rw [hfarg1, hfarg2, hfarg3, hfarg4, hfarg5, hfarg6, hfarg9]))) ((View.read_writes_full _ _ _ _ _).trans (Eq.trans (b := scanB i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) rfl (by rw [hfarg1, hfarg2, hfarg3, hfarg4, hfarg5, hfarg6, hfarg7, hfarg8, hfarg9]))) (congrArg first (View.read_writes_full arg15.view _ _ _ _))
  isplitl [H15]
  · iexists _; isplitr; pick_goal 2
    · iexact H15
    ipureintro
    refine (View.read_writes_full _ _ _ _ _).trans ?_
    refine congrArg k0_pay51 (((after Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ trips_eq).1).trans ?_)
    exact congr3 (fun a b c0 => carried a b c0 32) ((View.read_writes_full _ _ _ _ _).trans (Eq.trans (b := scanA i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg9.view.read (Elt F) (harg9.unread x8))) rfl (by rw [hfarg1, hfarg2, hfarg3, hfarg4, hfarg5, hfarg6, hfarg9]))) ((View.read_writes_full _ _ _ _ _).trans (Eq.trans (b := scanB i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) rfl (by rw [hfarg1, hfarg2, hfarg3, hfarg4, hfarg5, hfarg6, hfarg7, hfarg8, hfarg9]))) (congrArg first (View.read_writes_full arg15.view _ _ _ _))
  isplitl [H16]
  · iexists _; iexists _; isplitr; pick_goal 2
    · iexact H16
    ipureintro
    rfl
  iexists _; iexists _; isplitr; pick_goal 2
  · iexact H17
  ipureintro
  rfl

set_option maxHeartbeats 8000000 in
/-- A later point. -/
theorem run_B (c : Dev nD) (i : grid0.Coords) (arg1 : Memref sig .tc .vmem S256x3072 .f32) (harg1 : arg1.IsWhole) (arg2 : Memref sig .tc .vmem S8x3072 .f32) (harg2 : arg2.IsWhole) (arg3 : Memref sig .tc .vmem S1x8x1536 .f32) (harg3 : arg3.IsWhole) (arg4 : Memref sig .tc .vmem S1x1x1536 .f32) (harg4 : arg4.IsWhole) (arg5 : Memref sig .tc .vmem S1x12x128x128 .bf16) (harg5 : arg5.IsWhole) (arg6 : Memref sig .tc .vmem S1x1x1536 .f32) (harg6 : arg6.IsWhole) (arg7 : Memref sig .tc .vmem S1x12x128x128 .bf16) (harg7 : arg7.IsWhole) (arg8 : Memref sig .tc .vmem S1x1x1536 .f32) (harg8 : arg8.IsWhole) (arg9 : Memref sig .tc .vmem S1x1x1536 .f32) (harg9 : arg9.IsWhole) (arg10 : Memref sig .tc .vmem S256x1024 .f32) (harg10 : arg10.IsWhole) (arg11 : Memref sig .tc .vmem S1x1536x1024 .bf16) (harg11 : arg11.IsWhole) (arg12 : Memref sig .tc .vmem S256x1536 .bf16) (harg12 : arg12.IsWhole) (arg13 : Memref sig .tc .vmem S256x1536 .f32) (harg13 : arg13.IsWhole) (arg14 : Memref sig .tc .vmem S256x1024 .f32) (harg14 : arg14.IsWhole) (arg15 : Memref sig .tc .vmem S8x1536 .f32) (harg15 : arg15.IsWhole) (arg16 : Memref sig .tc .vmem S256x1536 .f32) (harg16 : arg16.IsWhole) (arg17 : Memref sig .tc .vmem S256x1536 .f32) (harg17 : arg17.IsWhole)
    (h1 : ¬(Scalar.cmpi .ne (Scalar.extui (Scalar.cmpi .eq (BitVec.ofNat 32 (i 0).val) 0#32)) 0#32) = 1#1)
    (x0 : Vec F S256x3072 .f32) (x1 : Vec F S8x3072 .f32) (x2 : Vec F S1x8x1536 .f32) (x3 : Vec F S1x1x1536 .f32) (x4 : Vec F S1x12x128x128 .bf16) (x5 : Vec F S1x1x1536 .f32) (x6 : Vec F S1x12x128x128 .bf16) (x7 : Vec F S1x1x1536 .f32) (x8 : Vec F S1x1x1536 .f32) (x9 : Vec F S256x1024 .f32) (x10 : Vec F S1x1536x1024 .bf16) (C : Vec F S8x1536 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare C ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outY x0 (states (scanA i x0 x1 x2 x3 x4 x5 x8) (scanB i x0 x1 x2 x3 x4 x5 x6 x7 x8) (first C))) ∗ owns (c : Thread nD τ) arg13 fullShare (states (scanA i x0 x1 x2 x3 x4 x5 x8) (scanB i x0 x1 x2 x3 x4 x5 x6 x7 x8) (first C)) ∗ owns (c : Thread nD τ) arg14 fullShare (outH x9 x10 (outY x0 (states (scanA i x0 x1 x2 x3 x4 x5 x8) (scanB i x0 x1 x2 x3 x4 x5 x6 x7 x8) (first C)))) ∗ owns (c : Thread nD τ) arg15 fullShare (k0_pay51 (carried (scanA i x0 x1 x2 x3 x4 x5 x8) (scanB i x0 x1 x2 x3 x4 x5 x6 x7 x8) (first C) 32)) ∗ (∃ d, owns (c : Thread nD τ) arg16 fullShare d) ∗ (∃ d, owns (c : Thread nD τ) arg17 fullShare d)) -∗ K ⟨⟩))
      ⊢ wp frame (wpE (defs₀ (F := F)) Variants.none c none) E (cc0_odd_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_odd_mixer_fwd_eq_skeleton]; unfold cc0_odd_mixer_fwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%farg1, %hfarg1, Harg1⟩, ⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%d12, %f12, -, H12⟩, ⟨%d13, %f13, -, H13⟩, ⟨%d14, %f14, -, H14⟩, ⟨%f15, %hf15, H15⟩, ⟨%d16, %f16, -, H16⟩, ⟨%d17, %f17, -, H17⟩, Hk⟩
  obtain rfl := harg1.eq_unread hfarg1; obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg11.eq_unread hfarg11; obtain rfl := harg15.eq_unread hf15
  sl_exec (disch := first | sl_exact h1)
  sl_step
  iapply Hk
  isplitl [Harg1]
  · iexists _; isplitr; · ipureintro; exact harg1.read_unread _
    iexact Harg1
  isplitl [Harg2]
  · iexists _; isplitr; · ipureintro; exact harg2.read_unread _
    iexact Harg2
  isplitl [Harg3]
  · iexists _; isplitr; · ipureintro; exact harg3.read_unread _
    iexact Harg3
  isplitl [Harg4]
  · iexists _; isplitr; · ipureintro; exact harg4.read_unread _
    iexact Harg4
  isplitl [Harg5]
  · iexists _; isplitr; · ipureintro; exact harg5.read_unread _
    iexact Harg5
  isplitl [Harg6]
  · iexists _; isplitr; · ipureintro; exact harg6.read_unread _
    iexact Harg6
  isplitl [Harg7]
  · iexists _; isplitr; · ipureintro; exact harg7.read_unread _
    iexact Harg7
  isplitl [Harg8]
  · iexists _; isplitr; · ipureintro; exact harg8.read_unread _
    iexact Harg8
  isplitl [Harg9]
  · iexists _; isplitr; · ipureintro; exact harg9.read_unread _
    iexact Harg9
  isplitl [Harg10]
  · iexists _; isplitr; · ipureintro; exact harg10.read_unread _
    iexact Harg10
  isplitl [Harg11]
  · iexists _; isplitr; · ipureintro; exact harg11.read_unread _
    iexact Harg11
  isplitl [H12]
  · iexists _; isplitr; pick_goal 2
    · iexact H12
    ipureintro
    refine (View.read_writes_full _ _ _ _ _).trans ?_
    refine congrArg₂ k0_pay1 (congrArg k0_pay52 ?_) (congrArg (fun x : Vec F S256x3072 .f32 => View.ld x (Rect.unit (s := S256x3072) ![0, 1536] S256x1536.size inb_S256x3072_S256x1536_0_1536)) hfarg1)
    refine (View.readAt_full arg13.view _ _).trans ?_
    refine ((after Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ trips_eq).2 _).trans ?_
    exact congr3 states ((View.read_writes_full _ _ _ _ _).trans (Eq.trans (b := scanA i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg9.view.read (Elt F) (harg9.unread x8))) rfl (by rw [hfarg1, hfarg2, hfarg3, hfarg4, hfarg5, hfarg6, hfarg9]))) ((View.read_writes_full _ _ _ _ _).trans (Eq.trans (b := scanB i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) rfl (by rw [hfarg1, hfarg2, hfarg3, hfarg4, hfarg5, hfarg6, hfarg7, hfarg8, hfarg9]))) (congrArg first hf15)
  isplitl [H13]
  · iexists _; isplitr; pick_goal 2
    · iexact H13
    ipureintro
    refine ((after Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ trips_eq).2 _).trans ?_
    exact congr3 states ((View.read_writes_full _ _ _ _ _).trans (Eq.trans (b := scanA i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg9.view.read (Elt F) (harg9.unread x8))) rfl (by rw [hfarg1, hfarg2, hfarg3, hfarg4, hfarg5, hfarg6, hfarg9]))) ((View.read_writes_full _ _ _ _ _).trans (Eq.trans (b := scanB i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) rfl (by rw [hfarg1, hfarg2, hfarg3, hfarg4, hfarg5, hfarg6, hfarg7, hfarg8, hfarg9]))) (congrArg first hf15)
  isplitl [H14]
  · iexists _; isplitr; pick_goal 2
    · iexact H14
    ipureintro
    refine (View.read_writes_full _ _ _ _ _).trans ?_
    refine congr3 (fun a b d => k0_pay2 a b d) ((View.readAt_full arg10.view _ _).trans hfarg10) ?_ ((View.readAt_full arg11.view _ _).trans hfarg11)
    unfold run_B.sl.v284
    refine (View.readCov_full arg12.view _ _ _ _).trans ?_
    refine congrArg₂ k0_pay1 (congrArg k0_pay52 ?_) (congrArg (fun x : Vec F S256x3072 .f32 => View.ld x (Rect.unit (s := S256x3072) ![0, 1536] S256x1536.size inb_S256x3072_S256x1536_0_1536)) hfarg1)
    refine (View.readAt_full arg13.view _ _).trans ?_
    refine ((after Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ trips_eq).2 _).trans ?_
    exact congr3 states ((View.read_writes_full _ _ _ _ _).trans (Eq.trans (b := scanA i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg9.view.read (Elt F) (harg9.unread x8))) rfl (by rw [hfarg1, hfarg2, hfarg3, hfarg4, hfarg5, hfarg6, hfarg9]))) ((View.read_writes_full _ _ _ _ _).trans (Eq.trans (b := scanB i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) rfl (by rw [hfarg1, hfarg2, hfarg3, hfarg4, hfarg5, hfarg6, hfarg7, hfarg8, hfarg9]))) (congrArg first hf15)
  isplitl [H15]
  · iexists _; isplitr; pick_goal 2
    · iexact H15
    ipureintro
    refine (View.read_writes_full _ _ _ _ _).trans ?_
    refine congrArg k0_pay51 (((after Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ trips_eq).1).trans ?_)
    exact congr3 (fun a b c0 => carried a b c0 32) ((View.read_writes_full _ _ _ _ _).trans (Eq.trans (b := scanA i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg9.view.read (Elt F) (harg9.unread x8))) rfl (by rw [hfarg1, hfarg2, hfarg3, hfarg4, hfarg5, hfarg6, hfarg9]))) ((View.read_writes_full _ _ _ _ _).trans (Eq.trans (b := scanB i (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) rfl (by rw [hfarg1, hfarg2, hfarg3, hfarg4, hfarg5, hfarg6, hfarg7, hfarg8, hfarg9]))) (congrArg first hf15)
  isplitl [H16]
  · iexists _; iexists _; isplitr; pick_goal 2
    · iexact H16
    ipureintro
    rfl
  iexists _; iexists _; isplitr; pick_goal 2
  · iexact H17
  ipureintro
  rfl

end Cert.OddRun

end
-- ==== Proof.OddFrame.lean ====
/- The forward odd layer: the grid's run, with what every buffer holds at every point. -/
module

public import proofs.«01_k».proof.Proof.OddRun

@[expose] public section

set_option maxRecDepth 16384

noncomputable section

namespace Cert.OddRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddFwdKernelIdeal Cert.OddFwdKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values of every point -/

theorem first_point : ∀ t : Fin cfg0.N, (Scalar.cmpi .ne (Scalar.extui (Scalar.cmpi .eq (BitVec.ofNat 32 (grid0.coords t 0).val) 0#32)) 0#32) = 1#1 ↔ t.val = 0 :=
  (by decide +kernel : ∀ t : Fin grid0.N, (Scalar.cmpi .ne (Scalar.extui (Scalar.cmpi .eq (BitVec.ofNat 32 (grid0.coords t 0).val) 0#32)) 0#32) = 1#1 ↔ t.val = 0)

theorem points_eq : cfg0.N = 8 := N_0

/-- The decays' products and the groups' own states at point `t`. -/
def aAt (c : Dev nD) (t : Fin cfg0.N) : Vec F S256x1536 .f32 := scanA (grid0.coords t) (iblk m c 0 t) (iblk m c 1 t) (iblk m c 2 t) (iblk m c 3 t) (iblk m c 4 t) (iblk m c 5 t) (iblk m c 8 t)

def bAt (c : Dev nD) (t : Fin cfg0.N) : Vec F S256x1536 .f32 := scanB (grid0.coords t) (iblk m c 0 t) (iblk m c 1 t) (iblk m c 2 t) (iblk m c 3 t) (iblk m c 4 t) (iblk m c 5 t) (iblk m c 6 t) (iblk m c 7 t) (iblk m c 8 t)

/-- The carried state before point `n`, in all rows of its buffer. -/
def stateAt (c : Dev nD) : ℕ → Vec F S8x1536 .f32
  | 0 => k0_pay3
  | n + 1 => if h : n < cfg0.N then k0_pay51 (carried (aAt m c ⟨n, h⟩) (bAt m c ⟨n, h⟩) (first (stateAt c n)) 32) else stateAt c n

theorem stateAt_succ (c : Dev nD) (t : Fin cfg0.N) :
    stateAt m c (t.val + 1) = k0_pay51 (carried (aAt m c t) (bAt m c t) (first (stateAt m c t.val)) 32) := by
  rw [stateAt]; exact dif_pos t.isLt

/-- The three results of a point. -/
def hsAt (c : Dev nD) (t : Fin cfg0.N) : Vec F S256x1536 .f32 := states (aAt m c t) (bAt m c t) (first (stateAt m c t.val))

def yAt (c : Dev nD) (t : Fin cfg0.N) : Vec F S256x1536 .bf16 := outY (iblk m c 0 t) (hsAt m c t)

def hnAt (c : Dev nD) (t : Fin cfg0.N) : Vec F S256x1024 .f32 := outH (iblk m c 9 t) (iblk m c 10 t) (yAt m c t)

abbrev scC : Memref sig .tc .vmem S8x1536 .f32 := Memref.whole cc0_scratch0
abbrev scA : Memref sig .tc .vmem S256x1536 .f32 := Memref.whole cc0_scratch1
abbrev scB : Memref sig .tc .vmem S256x1536 .f32 := Memref.whole cc0_scratch2

/-- The carried state's buffer before point `n`: anything before the first. -/
def held (c : Dev nD) : ℕ → sProp 𝕄
  | 0 => iprop(∃ d, owns (c : Thread nD τ) scC fullShare d)
  | n + 1 => owns (c : Thread nD τ) scC fullShare (stateAt m c (n + 1))

/-- What is kept from point to point. -/
def Inv (c : Dev nD) (n : ℕ) : sProp 𝕄 :=
  iprop(held m c n ∗ (∃ d, owns (c : Thread nD τ) scA fullShare d) ∗ (∃ d, owns (c : Thread nD τ) scB fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yAt m c t
    | ⟨12, _⟩ => hsAt m c t
    | ⟨13, _⟩ => hnAt m c t
    | ⟨_ + 14, h⟩ => absurd h (Nat.not_lt.2 (Nat.le_add_left _ _))
  Φ t := Inv m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = yAt m c t := by dsimp only [dats]
theorem after_12 (c : Dev nD) (t : Fin cfg0.N) : (dats m 0 c).after 12 t = hsAt m c t := by dsimp only [dats]
theorem after_13 (c : Dev nD) (t : Fin cfg0.N) : (dats m 0 c).after 13 t = hnAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  rw [show (dats m 0 c).leavesExact 0 t = owns (c : Thread nD τ) (st0_0 t) fullShare ((dats m 0 c).after 0 t) from by
    unfold Dat.leavesExact; rw [show cfg0.idle 0 (cfg0.grid.coords t) = false from rfl], after_0]
  rw [show (dats m 0 c).leavesExact 1 t = owns (c : Thread nD τ) (st0_1 t) fullShare ((dats m 0 c).after 1 t) from by
    unfold Dat.leavesExact; rw [show cfg0.idle 1 (cfg0.grid.coords t) = false from rfl], after_1]
  rw [show (dats m 0 c).leavesExact 2 t = owns (c : Thread nD τ) (st0_2 t) fullShare ((dats m 0 c).after 2 t) from by
    unfold Dat.leavesExact; rw [show cfg0.idle 2 (cfg0.grid.coords t) = false from rfl], after_2]
  rw [show (dats m 0 c).leavesExact 3 t = owns (c : Thread nD τ) (st0_3 t) fullShare ((dats m 0 c).after 3 t) from by
    unfold Dat.leavesExact; rw [show cfg0.idle 3 (cfg0.grid.coords t) = false from rfl], after_3]
  rw [show (dats m 0 c).leavesExact 4 t = owns (c : Thread nD τ) (st0_4 t) fullShare ((dats m 0 c).after 4 t) from by
    unfold Dat.leavesExact; rw [show cfg0.idle 4 (cfg0.grid.coords t) = false from rfl], after_4]
  rw [show (dats m 0 c).leavesExact 5 t = owns (c : Thread nD τ) (st0_5 t) fullShare ((dats m 0 c).after 5 t) from by
    unfold Dat.leavesExact; rw [show cfg0.idle 5 (cfg0.grid.coords t) = false from rfl], after_5]
  rw [show (dats m 0 c).leavesExact 6 t = owns (c : Thread nD τ) (st0_6 t) fullShare ((dats m 0 c).after 6 t) from by
    unfold Dat.leavesExact; rw [show cfg0.idle 6 (cfg0.grid.coords t) = false from rfl], after_6]
  rw [show (dats m 0 c).leavesExact 7 t = owns (c : Thread nD τ) (st0_7 t) fullShare ((dats m 0 c).after 7 t) from by
    unfold Dat.leavesExact; rw [show cfg0.idle 7 (cfg0.grid.coords t) = false from rfl], after_7]
  rw [show (dats m 0 c).leavesExact 8 t = owns (c : Thread nD τ) (st0_8 t) fullShare ((dats m 0 c).after 8 t) from by
    unfold Dat.leavesExact; rw [show cfg0.idle 8 (cfg0.grid.coords t) = false from rfl], after_8]
  rw [show (dats m 0 c).leavesExact 9 t = owns (c : Thread nD τ) (st0_9 t) fullShare ((dats m 0 c).after 9 t) from by
    unfold Dat.leavesExact; rw [show cfg0.idle 9 (cfg0.grid.coords t) = false from rfl], after_9]
  rw [show (dats m 0 c).leavesExact 10 t = owns (c : Thread nD τ) (st0_10 t) fullShare ((dats m 0 c).after 10 t) from by
    unfold Dat.leavesExact; rw [show cfg0.idle 10 (cfg0.grid.coords t) = false from rfl], after_10]
  rw [show (dats m 0 c).leavesExact 11 t = owns (c : Thread nD τ) (st0_11 t) fullShare ((dats m 0 c).after 11 t) from by
    unfold Dat.leavesExact; rw [show cfg0.idle 11 (cfg0.grid.coords t) = false from rfl], after_11]
  rw [show (dats m 0 c).leavesExact 12 t = owns (c : Thread nD τ) (st0_12 t) fullShare ((dats m 0 c).after 12 t) from by
    unfold Dat.leavesExact; rw [show cfg0.idle 12 (cfg0.grid.coords t) = false from rfl], after_12]
  rw [show (dats m 0 c).leavesExact 13 t = owns (c : Thread nD τ) (st0_13 t) fullShare ((dats m 0 c).after 13 t) from by
    unfold Dat.leavesExact; rw [show cfg0.idle 13 (cfg0.grid.coords t) = false from rfl], after_13]
  rw [show held m c (t.val + 1) = owns (c : Thread nD τ) scC fullShare (stateAt m c (t.val + 1)) from rfl, stateAt_succ]
  by_cases h0 : t.val = 0
  · have e : stateAt m c t.val = k0_pay3 := by rw [h0]; rfl
    rw [show held m c t.val = iprop(∃ d, owns (c : Thread nD τ) scC fullShare d) from by rw [h0]; rfl]
    unfold hnAt yAt hsAt aAt bAt
    rw [e]
    iintro ⟨⟨HS, Ha, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_A c (grid0.coords t) _ _ _ _ _ _ _ _ _ _ _ _ _ _ _ _ _ _ _ _ _ _ _ _ _ _ _ _ _ _ _ _ _ _ ((first_point t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS]; · iexact HS
    isplitl [Ha]; · iexact Ha
    isplitl [Hb]; · iexact Hb
    iintro ⟨H0, H1, H2, H3, H4, H5, H6, H7, H8, H9, H10, H11, H12, H13, HS, Ha, Hb⟩
    isplitl [HS Ha Hb Hg]
    · isplitl [HS]; · iexact HS
      isplitl [Ha]; · iexact Ha
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · obtain ⟨n, hn⟩ := Nat.exists_eq_succ_of_ne_zero h0
    rw [show held m c t.val = owns (c : Thread nD τ) scC fullShare (stateAt m c t.val) from by rw [hn]; rfl]
    unfold hnAt yAt hsAt aAt bAt
    iintro ⟨⟨HS, Ha, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_B c (grid0.coords t) _ _ _ _ _ _ _ _ _ _ _ _ _ _ _ _ _ _ _ _ _ _ _ _ _ _ _ _ _ _ _ _ _ _ (fun h => h0 ((first_point t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (stateAt m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS]; · iexact HS
    isplitl [Ha]; · iexact Ha
    isplitl [Hb]; · iexact Hb
    iintro ⟨H0, H1, H2, H3, H4, H5, H6, H7, H8, H9, H10, H11, H12, H13, HS, Ha, Hb⟩
    isplitl [HS Ha Hb Hg]
    · isplitl [HS]; · iexact HS
      isplitl [Ha]; · iexact Ha
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem scoped_eq (c : Dev nD) : (Pipeline.ΦA spec0 c : sProp 𝕄)
    = iprop(((∃ d, owns (c : Thread nD τ) scC fullShare d) ∗ (∃ d, owns (c : Thread nD τ) scA fullShare d) ∗ (∃ d, owns (c : Thread nD τ) scB fullShare d)) ∗ (∃ r, prngReg c r)) := by
  unfold Pipeline.ΦA; rw [scopedRest0_eq]; simp only [scC, scA, scB, owns_whole]; try rfl

theorem hin (c : Dev nD) : Pipeline.ΦA spec0 c ⊢ (dats m 0 c).Φ 0 := by
  rw [show (dats m 0 c).Φ 0 = Inv m c 0 from rfl, scoped_eq]
  unfold Inv held
  iintro ⟨⟨HS, Ha, Hb⟩, Hg⟩
  isplitl [HS]; · iexact HS
  isplitl [Ha]; · iexact Ha
  isplitl [Hb]; · iexact Hb
  iexact Hg

theorem hout (c : Dev nD) : (dats m 0 c).Φ (Fin.last cfg0.N) ⊢ Pipeline.ΦA spec0 c := by
  rw [show (dats m 0 c).Φ (Fin.last cfg0.N) = Inv m c (7 + 1) from rfl, scoped_eq]
  unfold Inv held
  iintro ⟨HS, Ha, Hb, Hg⟩
  isplitl [HS Ha Hb]
  · isplitl [HS]; · iexists _; iexact HS
    isplitl [Ha]; · iexact Ha
    iexact Hb
  iexact Hg

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_main m ρ)

/-- Every run leaves the three results as the points leave them. -/
theorem run_results : θ_run defs (onTc (τ := τ) (main (F := F))) (s₀ m ρ) fun r => ∀ c : Dev nD,
      r.2.mem ((c.tc : Thread nD τ).loc main_v9_0) = (dats m 0 c).arrAt 11 cfg0.N
      ∧ r.2.mem ((c.tc : Thread nD τ).loc main_v9_1) = (dats m 0 c).arrAt 12 cfg0.N
      ∧ r.2.mem ((c.tc : Thread nD τ).loc main_v9_2) = (dats m 0 c).arrAt 13 cfg0.N :=
  (θ_run defs _ _).mono (fun _ h c => ⟨(h c).1 11, (h c).1 12, (h c).1 13⟩) (run_post m ρ)

/-- The arguments end unchanged. -/
theorem unchanged : θ_run defs (onTc (τ := τ) (main (F := F))) (s₀ m ρ) fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  frame_of m ρ (dats m) (A_eq m) (run_post m ρ)

/-- The arguments end unchanged and every counter at zero. -/
theorem frame : θ_run defs (onTc (τ := τ) (main (F := F))) (s₀ m ρ) fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 :=
  θ_run_and (unchanged m ρ) ((θ_run defs _ _).mono (fun _ h => h.2) (run_main m ρ))

end Cert.OddRun

end
-- ==== Proof.OddScal.lean ====
/- The forward odd layer: its scalars, and the steps that double how many rows a prefix covers. -/
module

public import proofs.«01_k».proof.Proof.Scalars
public import Idealize.ShloMosaic.Lib.Pointwise

@[expose] public section

set_option maxRecDepth 16384

noncomputable section

namespace Cert.OddScal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The logarithm of one plus the exponential: the larger of the number and zero, and a small correction. -/
def soft (x : EReal) : EReal := max x 0 + Ideal.log1p (Ideal.exp (-(max x (-x))))

/-- The exponential of a number at most zero is a real number, and not negative. -/
theorem exp_real (x : EReal) (h : x ≤ 0) : ∃ t : ℝ, 0 ≤ t ∧ Ideal.exp x = (t : EReal) := by
  induction x with
  | bot => exact ⟨0, le_refl _, by rw [Ideal.exp_bot]; rfl⟩
  | top => exact absurd h (by simp)
  | coe r => exact ⟨Real.exp r, (Real.exp_pos r).le, Ideal.exp_coe r⟩

theorem abs_nonneg' (x : EReal) : -(max x (-x)) ≤ 0 := by
  rw [EReal.neg_le, neg_zero]
  rcases le_total 0 x with h | h
  · exact le_max_of_le_left h
  · exact le_max_of_le_right (by rw [EReal.le_neg, neg_zero]; exact h)

/-- One doubling step of the multipliers: row `r` takes on row `r - d`, where there is one. -/
def stepA (d : ℕ) (A : ℕ → EReal) (r : ℕ) : EReal := A r * (if d ≤ r then A (r - d) else 1)
/-- One doubling step of the additions. -/
def stepB (d : ℕ) (A B : ℕ → EReal) (r : ℕ) : EReal := A r * (if d ≤ r then B (r - d) else 0) + B r

/-- The maps of `s` rows that end before row `n`, applied to `x`. -/
def last (a b : ℕ → EReal) (n : ℕ) : ℕ → EReal → EReal
  | 0, x => x
  | s + 1, x => last a b n s (a (n - s - 1) * x + b (n - s - 1))

/-- The rows `A`, `B` hold the maps of the last `s` rows. -/
def Covers (a b : ℕ → EReal) (s : ℕ) (A B : ℕ → EReal) : Prop :=
  ∀ r < 8, (0 ≤ A r ∧ A r ≠ ⊤) ∧ ∀ x, A r * x + B r = last a b (r + 1) (min s (r + 1)) x

theorem covers_one (a b : ℕ → EReal) (h : ∀ r < 8, 0 ≤ a r ∧ a r ≠ ⊤) : Covers a b 1 a b := fun r hr =>
  ⟨h r hr, fun x => by
    have e : min 1 (r + 1) = 1 := by omega
    rw [e]
    show _ = a (r + 1 - 0 - 1) * x + b (r + 1 - 0 - 1)
    have e' : r + 1 - 0 - 1 = r := by omega
    rw [e']⟩

theorem last_add (a b : ℕ → EReal) (n s t : ℕ) (x : EReal) (h : s + t ≤ n) : last a b n (s + t) x = last a b n s (last a b (n - s) t x) := by
  induction t generalizing x with
  | zero => rfl
  | succ t ih =>
    show last a b n (s + t) _ = _
    rw [ih _ (by omega)]
    show last a b n s (last a b (n - s) t (a (n - (s + t) - 1) * x + b (n - (s + t) - 1))) =
      last a b n s (last a b (n - s) t (a (n - s - t - 1) * x + b (n - s - t - 1)))
    rw [Nat.sub_add_eq n s t]

theorem covers_double (a b A B : ℕ → EReal) (s : ℕ) (h : Covers a b s A B) : Covers a b (s + s) (stepA s A) (stepB s A B) := fun r hr => by
  obtain ⟨⟨h0, h1⟩, hx⟩ := h r hr
  unfold stepA stepB
  by_cases hs : s ≤ r
  · rw [if_pos hs, if_pos hs]
    obtain ⟨⟨g0, g1⟩, gx⟩ := h (r - s) (by omega)
    refine ⟨⟨mul_nonneg h0 g0, ?_⟩, fun x => ?_⟩
    · exact (EReal.mul_ne_top _ _).2 ⟨Or.inl (ne_of_gt (lt_of_lt_of_le EReal.bot_lt_zero h0)), Or.inl h0, Or.inl h1, Or.inr g1⟩
    · rw [mul_assoc, ← add_assoc, ← EReal.left_distrib_of_nonneg_of_ne_top h0 h1, gx x, hx]
      have e : min s (r + 1) = s := by omega
      have e2 : min (s + s) (r + 1) = s + min s (r - s + 1) := by omega
      have e3 : r - s + 1 = r + 1 - s := by omega
      rw [e, e2, last_add _ _ _ _ _ _ (by omega), e3]
  · rw [if_neg hs, if_neg hs, mul_one, mul_zero, zero_add]
    refine ⟨⟨h0, h1⟩, fun x => ?_⟩
    have e : min s (r + 1) = r + 1 := by omega
    have e2 : min (s + s) (r + 1) = r + 1 := by omega
    rw [hx, e, e2]

/-- Running the rows one after another. -/
def run (a b : ℕ → EReal) (x : EReal) : ℕ → EReal
  | 0 => x
  | n + 1 => a n * run a b x n + b n

theorem last_run (a b : ℕ → EReal) (n s : ℕ) (x : EReal) (h : s ≤ n) : last a b n s (run a b x (n - s)) = run a b x n := by
  induction s with
  | zero => rfl
  | succ s ih =>
    rw [← ih (by omega)]
    have e : n - s = (n - s - 1) + 1 := by omega
    have e2 : n - (s + 1) = n - s - 1 := by omega
    rw [e2]
    show last a b n s _ = last a b n s _
    rw [e]
    rfl

/-- Three doublings make every row of eight the run of all the rows up to it. -/
theorem eight (a b : ℕ → EReal) (h : ∀ r < 8, 0 ≤ a r ∧ a r ≠ ⊤) (r : ℕ) (hr : r < 8) (x : EReal) :
    stepA 4 (stepA 2 (stepA 1 a)) r * x + stepB 4 (stepA 2 (stepA 1 a)) (stepB 2 (stepA 1 a) (stepB 1 a b)) r = run a b x (r + 1) := by
  rw [(covers_double a b _ _ 4 (covers_double a b _ _ 2 (covers_double a b _ _ 1 (covers_one a b h))) r hr).2 x]
  have e : min (4 + 4) (r + 1) = r + 1 := by omega
  rw [e]
  have := last_run a b (r + 1) (r + 1) x (le_refl _)
  rwa [Nat.sub_self] at this

/-- The run of rows that begin at row `m` of others. -/
theorem run_shift (a b : ℕ → EReal) (x : EReal) (m n : ℕ) : run (fun r => a (m + r)) (fun r => b (m + r)) (run a b x m) n = run a b x (m + n) := by
  induction n with
  | zero => rfl
  | succ n ih => show _ * _ + _ = _; rw [ih]; rfl

theorem run_congr (a b a' b' : ℕ → EReal) (x : EReal) (n : ℕ) (h : ∀ k < n, a k = a' k ∧ b k = b' k) : run a b x n = run a' b' x n := by
  induction n with
  | zero => rfl
  | succ n ih =>
    show a n * _ + b n = a' n * _ + b' n
    rw [ih fun k hk => h k (by omega), (h n (by omega)).1, (h n (by omega)).2]

/-- The exponential lies between zero and infinity for numbers at most zero. -/
theorem exp_le (x : EReal) (h : x ≤ 0) : 0 ≤ Ideal.exp x ∧ Ideal.exp x ≠ ⊤ := by
  obtain ⟨t, ht, e⟩ := exp_real x h
  rw [e]
  exact ⟨by exact_mod_cast ht, EReal.coe_ne_top _⟩

theorem soft_nonneg (x : EReal) : 0 ≤ soft x := by
  unfold soft
  refine add_nonneg (le_max_right _ _) ?_
  obtain ⟨t, ht, e⟩ := exp_real _ (abs_nonneg' x)
  rw [e, Ideal.log1p, ← EReal.coe_one, ← EReal.coe_add, Ideal.log_coe, if_neg (by linarith)]
  exact_mod_cast Real.log_nonneg (by linarith)

/-- The correction as a quotient: the same once one plus the small number is not one. -/
theorem log_quot (u : EReal) (h : ∃ t : ℝ, 0 ≤ t ∧ u = (t : EReal)) :
    (if (1 : EReal) + u = 1 then u else Ideal.div (u * Ideal.log (1 + u)) (if (1 : EReal) + u = 1 then 1 else (1 + u) - 1)) = Ideal.log1p u := by
  obtain ⟨t, ht, rfl⟩ := h
  have e : (1 : EReal) + (t : EReal) = ((1 + t : ℝ) : EReal) := by rw [EReal.coe_add]; rfl
  have el : Ideal.log ((1 + t : ℝ) : EReal) = ((Real.log (1 + t) : ℝ) : EReal) := by rw [Ideal.log_coe, if_neg (by linarith)]
  unfold Ideal.log1p
  rw [e, el]
  by_cases h : ((1 + t : ℝ) : EReal) = 1
  · have h' : 1 + t = 1 := by exact_mod_cast h
    have h0 : t = 0 := by linarith
    rw [if_pos h, h', Real.log_one, h0]
  · have h' : t ≠ 0 := fun h0 => h (by rw [h0]; norm_num)
    rw [if_neg h, if_neg h]
    have e2 : ((1 + t : ℝ) : EReal) - 1 = (t : EReal) := by
      rw [← EReal.coe_one, ← EReal.coe_sub]; congr 1; ring
    rw [e2, Ideal.div, if_neg (by exact_mod_cast h'), ← EReal.coe_mul, ← EReal.coe_inv, ← EReal.coe_mul]
    congr 1
    field_simp

/-- The kernel's multiplier is one less the square of the decay, where that is not below the floor. -/
theorem kept (L : EReal) (hL : L ≤ 0) (c : EReal) (h : c ≤ -(Ideal.exp (2 * L) - 1)) :
    max ((0 - Ideal.tanh L) * (Ideal.exp L * Ideal.exp L + 1)) c = -(Ideal.exp (2 * L) - 1) := by
  have key : (0 - Ideal.tanh L) * (Ideal.exp L * Ideal.exp L + 1) = -(Ideal.exp (2 * L) - 1) := by
    induction L with
    | bot =>
      have e : (2 : EReal) * ⊥ = ⊥ := EReal.coe_mul_bot_of_pos (by norm_num : (0 : ℝ) < 2)
      rw [e, Ideal.tanh_bot, Ideal.exp_bot]
      simp
    | top => exact absurd hL (by simp)
    | coe r =>
      have e : (2 : EReal) * (r : EReal) = ((2 * r : ℝ) : EReal) := by rw [EReal.coe_mul]; rfl
      rw [e, Ideal.tanh_coe, Ideal.exp_coe, Ideal.exp_coe, ← EReal.coe_one, ← EReal.coe_zero, ← EReal.coe_sub, ← EReal.coe_mul, ← EReal.coe_add,
        ← EReal.coe_mul, ← EReal.coe_sub, ← EReal.coe_neg]
      congr 1
      rw [Real.tanh_eq_sinh_div_cosh, Real.sinh_eq, Real.cosh_eq]
      have e1 : Real.exp (2 * r) = Real.exp r * Real.exp r := by rw [← Real.exp_add]; congr 1; ring
      have e2 : Real.exp r * Real.exp (-r) = 1 := by rw [← Real.exp_add]; simp
      have p1 := Real.exp_pos r
      have p2 := Real.exp_pos (-r)
      rw [e1]
      generalize Real.exp r = a at *
      generalize Real.exp (-r) = b at *
      have hb : b = 1 / a := by field_simp; linarith
      rw [hb]
      field_simp
      ring
  rw [key]
  exact max_eq_left h

/-- A positive real number times its reciprocal root is its root. -/
theorem root (y : EReal) (c : ℝ) (hc : 0 < c) (h : (c : EReal) ≤ y) (ht : y ≠ ⊤) : y * Ideal.rsqrt y = Ideal.sqrt y := by
  induction y with
  | bot => exact absurd h (by simp)
  | top => exact absurd rfl ht
  | coe r =>
    have hr : c ≤ r := by exact_mod_cast h
    have hp : 0 < r := lt_of_lt_of_le hc hr
    rw [Ideal.rsqrt_coe, Ideal.sqrt_coe, if_neg (by linarith), if_neg (by linarith), if_neg (by linarith), ← EReal.coe_mul]
    congr 1
    have := Real.mul_self_sqrt hp.le
    have hs := Real.sqrt_pos.2 hp
    field_simp
    nlinarith

/-- One less an exponential of a number at most zero is not infinite. -/
theorem sub_ne_top (x : EReal) (h : x ≤ 0) : -(Ideal.exp x - 1) ≠ ⊤ := by
  obtain ⟨t, ht, e⟩ := exp_real x h
  rw [e, ← EReal.coe_one, ← EReal.coe_sub, ← EReal.coe_neg]
  exact EReal.coe_ne_top _
end Cert.OddScal

end
-- ==== Proof.OddRef.lean ====
/- The forward odd layer: the reference's convolution, gates, decays and states, element by element. -/
module

public import proofs.«01_k».proof.Proof.OddStep
public import Idealize.ShloMosaic.Lib.KernelVsHost
public import Idealize.ShloMosaic.Lib.WordCmp
public import Idealize.ShloMosaic.Lib.WordArith
public import proofs.«01_k».proof.Proof.OddScal

@[expose] public section

set_option maxRecDepth 16384

noncomputable section

namespace Cert.OddRef

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddFwdReferenceIdeal Cert.OddFwdReferenceIdeal.Step

/-- The rows a start index names, all columns of them. -/
theorem gather_at {α : Type} (x : S2051x1536.Idx → α) (idx : IVec S2048x4x1 32) (k : Fin 2048) (n : Fin 4) (l : Fin 1536)
    (b : Nat) (hb : b < 2051) (h : idx (ix3 k n 0) = BitVec.ofNat 32 b) :
    Host.gather gather_S2051x1536_S2048x4x1_S2048x4x1536_2_0_n_n_0_2_11536 x idx (ix3 k n l) = x (ix2 ⟨b, hb⟩ l) := by
  unfold Host.gather
  congr 1
  have hsi : GatherDims.siIdx gather_S2051x1536_S2048x4x1_S2048x4x1536_2_0_n_n_0_2_11536 (ix3 k n l)
      ⟨List.idxOf (0 : Fin 2) [0], List.idxOf_lt_length_iff.2 (List.mem_singleton.mpr rfl)⟩ = ix3 k n 0 := by
    funext a; refine Fin.ext ?_
    match a with
    | ⟨0, _⟩ => rfl
    | ⟨1, _⟩ => rfl
    | ⟨2, _⟩ => rfl
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    refine (congrArg (fun s : Nat => s + 0 + 0) (dif_pos (show (0 : Fin 2) ∈ ([0] : List (Fin 2)) from List.mem_singleton.mpr rfl))).trans ?_
    show min (idx (GatherDims.siIdx gather_S2051x1536_S2048x4x1_S2048x4x1536_2_0_n_n_0_2_11536 (ix3 k n l) ⟨List.idxOf (0 : Fin 2) [0], _⟩)).toInt.toNat (2051 - 1) + 0 + 0 = b
    rw [hsi, h, WordArith.toInt_ofNat_small b (by omega)]
    omega
  | ⟨1, _⟩ =>
    unfold GatherDims.start
    refine (congrArg (fun s : Nat => s + 0 + GatherDims.offCoord gather_S2051x1536_S2048x4x1_S2048x4x1536_2_0_n_n_0_2_11536 (ix3 k n l) 1)
      (dif_neg (show ¬ (1 : Fin 2) ∈ ([0] : List (Fin 2)) by decide))).trans ?_
    show 0 + 0 + l.val = l.val
    omega

/-- Row `k`, tap `n` reads row `k + n` of the padded rows. -/
theorem index_at (k : Fin 2048) (n : Fin 4) : K_main_v17 (F := Ideal) (ix3 k n 0) = BitVec.ofNat 32 (k.val + n.val) := by
  have h20 : K_main_v11 (F := Ideal) (ix2 k n) = BitVec.ofNat 32 (k.val + n.val) := by
    pointwise [K_main_v11, K_main_v9, K_main_v10, K_main_v8, K_main_v7, K_main_v6, K_main_v5]
    exact (BitVec.ofNat_add ..).symm
  have h21 : K_main_v12 (F := Ideal) (ix2 k n) = 0#32 := by
    pointwise [K_main_v12, K_main_c]
  have hn : IntOp.cmpi .slt (K_main_v11 (F := Ideal) (ix2 k n)) (K_main_v12 (F := Ideal) (ix2 k n)) = 0#1 := by
    rw [h20, h21]
    show BitVec.ofBool ((BitVec.ofNat 32 (k.val + n.val)).slt 0#32) = 0#1
    rw [BitVec.slt, WordArith.toInt_ofNat_small _ (by omega)]
    have e : decide (((k.val + n.val : Nat) : Int) < (0#32 : BitVec 32).toInt) = false := decide_eq_false (by
      show ¬ ((k.val + n.val : Nat) : Int) < 0
      omega)
    rw [e]
    rfl
  pointwise [K_main_v17, K_main_v16, K_main_v13, K_main_v15]
  rw [hn]
  exact h20

variable (x0 : Vec Ideal S2048x3072 .f32) (x1 : Vec Ideal S4x1536 .f32) (x2 : Vec Ideal S1536 .f32) (x3 : Vec Ideal S12x128x128 .bf16) (x4 : Vec Ideal S1536 .f32)
  (x5 : Vec Ideal S12x128x128 .bf16) (x6 x7 : Vec Ideal S1536 .f32)

/-- The recurrent half of the rows, with nothing before the first. -/
def before (k : ℕ) (l : Fin 1536) : EReal :=
  if h : 3 ≤ k ∧ k - 3 < 2048 then x0 (ix2 (⟨k - 3, h.2⟩ : Fin 2048) (⟨l.val, by omega⟩ : Fin 3072)) else 0

theorem rows_at (b : Fin 2051) (l : Fin 1536) : A_main_v4 (F := Ideal) x0 x1 x2 x3 x4 x5 x6 x7 (ix2 b l) = before x0 b.val l := by
  pointwise [A_main_v4, A_main_v0, K_main_v3, K_main_cst]
  unfold before
  by_cases h : b.val < 3
  · rw [dif_neg (show ¬ (3 ≤ b.val ∧ b.val - 3 < 2048) from fun g => absurd g.1 (by omega))]
    exact dif_pos h
  · rw [dif_pos (show 3 ≤ b.val ∧ b.val - 3 < 2048 from ⟨by omega, by omega⟩)]
    exact dif_neg h

/-- The convolution of four taps. -/
def convAt (q : ℕ) (l : Fin 1536) : EReal := (∑ n : Fin 4, x1 (ix2 n l) * before x0 (q + n.val) l) + x2 (ix1 l)

theorem conv_at (q : Fin 2048) (l : Fin 1536) : A_main_v25 (F := Ideal) x0 x1 x2 x3 x4 x5 x6 x7 (ix2 q l) = convAt x0 x1 x2 q.val l := by
  have hg : ∀ n : Fin 4, A_main_v18 (F := Ideal) x0 x1 x2 x3 x4 x5 x6 x7 (ix3 q n l) = before x0 (q.val + n.val) l := fun n =>
    (gather_at _ _ q n l (q.val + n.val) (by omega) (index_at q n)).trans (rows_at x0 x1 x2 x3 x4 x5 x6 x7 _ l)
  pointwise [A_main_v25, A_main_v22, A_main_v24, A_main_v23, A_main_v21, A_main_v20, A_main_v19, K_main_cst_1]
  unfold convAt
  exact congrArg (fun s : EReal => s + x2 (ix1 l)) (Finset.sum_congr rfl fun n _ =>
    (mul_comm _ _).trans (congrArg (fun s : EReal => x1 (ix2 n l) * s) (hg n)))

/-- The head of column `l`, and the column in it. -/
def hd (l : Fin 1536) : Fin 12 := ⟨l.val / 128, by omega⟩
def col (l : Fin 1536) : Fin 128 := ⟨l.val % 128, by omega⟩
def at_ (h : Fin 12) (i : Fin 128) : Fin 1536 := ⟨128 * h.val + i.val, by omega⟩

/-- A head's product with its weights, and the bias. -/
def headAt (w : Vec Ideal S12x128x128 .bf16) (b : Vec Ideal S1536 .f32) (X : Fin 1536 → EReal) (l : Fin 1536) : EReal :=
  (∑ i : Fin 128, X (at_ (hd l) i) * w (ix3 (hd l) i (col l))) + b (ix1 l)

theorem head_eq (w : Vec Ideal S12x128x128 .bf16) (b : Vec Ideal S1536 .f32) (X : Fin 1536 → EReal) (Y : Vec Ideal S2048x1536 .f32) (q : Fin 2048) (l : Fin 1536)
    (h : ∀ k, Y (ix2 q k) = X k) (p : ∀ x : Fin 128, l.val / 128 * 128 + x.val < 1536) (p1 : l.val / 128 < 12) (p2 : l.val % 128 < 128) :
    Ideal.div 1 (1 + Ideal.exp (-((∑ x : Fin 128, w (ix3 (⟨l.val / 128, p1⟩ : Fin 12) x (⟨l.val % 128, p2⟩ : Fin 128)) *
      Y (ix2 q (⟨l.val / 128 * 128 + x.val, p x⟩ : Fin 1536))) + b (ix1 l)))) = Ideal.logistic (headAt w b X l) := by
  show Ideal.logistic _ = _
  refine congrArg (fun s : EReal => Ideal.logistic (s + b (ix1 l))) (Finset.sum_congr rfl fun x _ => ?_)
  rw [h, mul_comm]
  refine congrArg (fun k : Fin 1536 => X k * _) (Fin.ext ?_)
  show l.val / 128 * 128 + x.val = 128 * (l.val / 128) + x.val
  omega

theorem rgate_at (q : Fin 2048) (l : Fin 1536) :
    A_main_v38 (F := Ideal) x0 x1 x2 x3 x4 x5 x6 x7 (ix2 q l) = Ideal.logistic (headAt x3 x4 (convAt x0 x1 x2 q.val) l) := by
  pointwise [A_main_v38, K_main_v37, K_main_cst_3, A_main_v36, K_main_v35, K_main_cst_2, A_main_v34, A_main_v33, A_main_v32, A_main_v31, A_main_v30, A_main_v29, A_main_v28, A_main_v27, A_main_v26, A_main_v1]
  exact head_eq x3 x4 (convAt x0 x1 x2 q.val) _ q l (conv_at x0 x1 x2 x3 x4 x5 x6 x7 q) _ _ _

theorem igate_at (q : Fin 2048) (l : Fin 1536) :
    A_main_v50 (F := Ideal) x0 x1 x2 x3 x4 x5 x6 x7 (ix2 q l) = Ideal.logistic (headAt x5 x6 (convAt x0 x1 x2 q.val) l) := by
  pointwise [A_main_v50, K_main_v49, K_main_cst_5, A_main_v48, K_main_v47, K_main_cst_4, A_main_v46, A_main_v45, A_main_v44, A_main_v43, A_main_v42, A_main_v41, A_main_v40, A_main_v39, A_main_v26, A_main_v2]
  exact head_eq x5 x6 (convAt x0 x1 x2 q.val) _ q l (conv_at x0 x1 x2 x3 x4 x5 x6 x7 q) _ _ _

theorem soft_at (l : Fin 1536) : A_main_v54 (F := Ideal) x0 x1 x2 x3 x4 x5 x6 x7 (ix1 l) = OddScal.soft (-x7 (ix1 l)) := by
  pointwise [A_main_v54, A_main_call0_v4, A_main_call0_v6, A_main_call0_v11, A_main_call0_v3, A_main_v53, K_main_call0_v2, K_main_call0_cst, K_main_call0_v5, A_main_call0_v1, A_main_call0_v10, A_main_call0_v9, A_main_call0_v8, A_main_call0_v7, K_main_call0_v0]
  exact if_neg (fun h => h rfl)

/-- The logarithm of the decay. -/
def logDecay (q : ℕ) (l : Fin 1536) : EReal :=
  Ideal.ofBits .f32 0xC1000000#32 * Ideal.logistic (headAt x3 x4 (convAt x0 x1 x2 q) l) * OddScal.soft (-x7 (ix1 l))

/-- What a row adds to the state: root of one less the square of the decay, times the gated row. -/
def drive (q : ℕ) (l : Fin 1536) : EReal :=
  Ideal.sqrt (-(Ideal.exp (2 * logDecay x0 x1 x2 x3 x4 x7 q l) - 1)) * (Ideal.logistic (headAt x5 x6 (convAt x0 x1 x2 q) l) * convAt x0 x1 x2 q l)

theorem decay_at (q : Fin 2048) (l : Fin 1536) :
    A_main_v58 (F := Ideal) x0 x1 x2 x3 x4 x5 x6 x7 (ix2 q l) = Ideal.exp (logDecay x0 x1 x2 x3 x4 x7 q.val l) := by
  pointwise [A_main_v58, A_main_v57, A_main_v56, A_main_v55, A_main_v52, K_main_v51, K_main_cst_6]
  rw [rgate_at, soft_at]
  rfl

theorem kept_at (q : Fin 2048) (l : Fin 1536) :
    A_main_v62 (F := Ideal) x0 x1 x2 x3 x4 x5 x6 x7 (ix2 q l) = -(Ideal.exp (2 * logDecay x0 x1 x2 x3 x4 x7 q.val l) - 1) := by
  pointwise [A_main_v62, A_main_v61, A_main_v60, A_main_v57, A_main_v56, A_main_v55, A_main_v52, K_main_v51, K_main_cst_6, K_main_v59, K_main_cst_7]
  rw [rgate_at, soft_at, Scalars.cTwo]
  rfl

theorem drive_at (q : Fin 2048) (l : Fin 1536) :
    A_main_v65 (F := Ideal) x0 x1 x2 x3 x4 x5 x6 x7 (ix2 q l) = drive x0 x1 x2 x3 x4 x5 x6 x7 q.val l := by
  pointwise [A_main_v65, A_main_v63, A_main_v64]
  rw [igate_at, conv_at, kept_at]
  rfl

/-- The state after `n` rows. -/
def h_ (l : Fin 1536) (n : ℕ) : EReal :=
  OddScal.run (fun q => Ideal.exp (logDecay x0 x1 x2 x3 x4 x7 q l)) (fun q => drive x0 x1 x2 x3 x4 x5 x6 x7 q l) 0 n

/-- The reference's states, one after another. -/
def it (n : ℕ) : State Ideal := Nat.rec (init x0 x1 x2 x3 x4 x5 x6 x7) (fun j s => step j s) n

theorem it_succ (n : ℕ) : it x0 x1 x2 x3 x4 x5 x6 x7 (n + 1) = step n (it x0 x1 x2 x3 x4 x5 x6 x7 n) := rfl

theorem it_a (n : ℕ) : (it x0 x1 x2 x3 x4 x5 x6 x7 n).main_v70_0 = A_main_v58 x0 x1 x2 x3 x4 x5 x6 x7 := by
  induction n with
  | zero => rfl
  | succ n ih => exact ih

theorem it_b (n : ℕ) : (it x0 x1 x2 x3 x4 x5 x6 x7 n).main_v70_1 = A_main_v65 x0 x1 x2 x3 x4 x5 x6 x7 := by
  induction n with
  | zero => rfl
  | succ n ih => exact ih

/-- Where row `n` starts. -/
theorem start_at (n : ℕ) (hn : n < 2048) (a : Fin 2) :
    ((![(constantI S_ 32 (BitVec.ofNat 32 n) : (⟨S_, .i32⟩ : BufTy).Contents (Elt Ideal)), constantI S_ 32 0#32] : Fin 2 → (⟨S_, .i32⟩ : BufTy).Contents (Elt Ideal)) a
      (Shape.Idx.first Gen.h_S_)).toInt = ((![n, 0] : Fin 2 → ℕ) a : ℤ) := by
  match a with
  | 0 => exact WordArith.toInt_ofNat_small n (by omega)
  | 1 => rfl

theorem slices_row (n : ℕ) (hn : n < 2048) : S2048x1536.Slices ![n, 0] S1x1536 := by
  refine ⟨rfl, fun a => ?_⟩
  match a with
  | 0 => show n + 1 ≤ 2048; omega
  | 1 => show 0 + 1536 ≤ 1536; omega

theorem slice_row (n : ℕ) (hn : n < 2048) (X : Vec Ideal S2048x1536 .f32) (l : Fin 1536) :
    (Host.dynamicSlice S1x1536 X (fun k => ((![(constantI S_ 32 (BitVec.ofNat 32 n) : (⟨S_, .i32⟩ : BufTy).Contents (Elt Ideal)), constantI S_ 32 0#32] :
      Fin 2 → (⟨S_, .i32⟩ : BufTy).Contents (Elt Ideal)) k (Shape.Idx.first Gen.h_S_)).toInt) Gen.sliceFits_S2048x1536_S1x1536 : Vec Ideal S1x1536 .f32)
      (ix2 0 l) = X (ix2 (⟨n, hn⟩ : Fin 2048) l) := by
  rw [WordCmp.dynamicSlice_eq_extract S1x1536 X _ _ ![n, 0] (slices_row n hn) (start_at n hn)]
  refine congrArg X (funext fun a => Fin.ext ?_)
  match a with
  | 0 => rfl
  | 1 => exact Nat.zero_add _

theorem row_of (n : ℕ) (hn : n < 2048) (l : Fin 1536) (s : State Ideal) :
    b7 n s (ix1 l) = s.main_v70_0 (ix2 (⟨n, hn⟩ : Fin 2048) l) * s.main_v70_3 (ix1 l) + s.main_v70_1 (ix2 (⟨n, hn⟩ : Fin 2048) l) := by
  have e1 : b2 n s (ix1 l) = s.main_v70_0 (ix2 (⟨n, hn⟩ : Fin 2048) l) := by
    have e : b2 n s (ix1 l) = b1 n s (ix2 0 l) := by pointwise [b2]
    exact e.trans (slice_row n hn _ l)
  have e2 : b5 n s (ix1 l) = s.main_v70_1 (ix2 (⟨n, hn⟩ : Fin 2048) l) := by
    have e : b5 n s (ix1 l) = b4 n s (ix2 0 l) := by pointwise [b5]
    exact e.trans (slice_row n hn _ l)
  pointwise [b7, b6]
  rw [e1, e2]

theorem rows_of (n : ℕ) (hn : n < 2048) (q : Fin 2048) (l : Fin 1536) (s : State Ideal) :
    b10 n s (ix2 q l) = if q.val = n then b7 n s (ix1 l) else s.main_v70_4 (ix2 q l) := by
  unfold b10
  rw [WordCmp.dynamicUpdateSlice_eq_update _ _ _ _ ![n, 0] (slices_row n hn) (start_at n hn)]
  pointwise [b8]
  by_cases h : q.val = n
  · rw [if_pos h, dif_pos ⟨by omega, by omega⟩]
  · rw [if_neg h, dif_neg (fun g => h (by omega))]

theorem start_state (l : Fin 1536) : (it x0 x1 x2 x3 x4 x5 x6 x7 0).main_v70_3 (ix1 l) = 0 := by
  show K_main_v68 (F := Ideal) (ix1 l) = 0
  pointwise [K_main_v68, K_main_cst_8]

/-- The carried row is the state after the rows before it. -/
theorem it_h (n : ℕ) (hn : n ≤ 2048) (l : Fin 1536) :
    (it x0 x1 x2 x3 x4 x5 x6 x7 n).main_v70_3 (ix1 l) = h_ x0 x1 x2 x3 x4 x5 x6 x7 l n := by
  induction n with
  | zero => exact start_state x0 x1 x2 x3 x4 x5 x6 x7 l
  | succ n ih =>
    refine (row_of n (by omega) l (it x0 x1 x2 x3 x4 x5 x6 x7 n)).trans ?_
    rw [it_a, it_b, ih (by omega), decay_at, drive_at]
    rfl

/-- The rows written so far are the states after them. -/
theorem it_rows (n : ℕ) (hn : n ≤ 2048) (q : Fin 2048) (hq : q.val < n) (l : Fin 1536) :
    (it x0 x1 x2 x3 x4 x5 x6 x7 n).main_v70_4 (ix2 q l) = h_ x0 x1 x2 x3 x4 x5 x6 x7 l (q.val + 1) := by
  induction n with
  | zero => exact absurd hq (Nat.not_lt_zero _)
  | succ n ih =>
    refine (rows_of n (by omega) q l (it x0 x1 x2 x3 x4 x5 x6 x7 n)).trans ?_
    by_cases h : q.val = n
    · rw [if_pos h]
      exact (it_h x0 x1 x2 x3 x4 x5 x6 x7 (n + 1) hn l).trans (by rw [h])
    · rw [if_neg h]
      exact ih (by omega) (by omega)
end Cert.OddRef

end
-- ==== Proof.OddBlk.lean ====
/- The forward odd layer: what the blocks of a point hold, in terms of the whole arguments. -/
module

public import proofs.«01_k».proof.Proof.OddFrame
public import proofs.«01_k».proof.Proof.OddRef
public import Idealize.ShloMosaic.Lib.Pipeline.ValueKit

@[expose] public section

set_option maxRecDepth 16384

noncomputable section

namespace Cert.OddBlk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddFwdKernelIdeal Cert.OddFwdKernelIdeal.Gen
variable (m : (ℓ : Loc nD τ sig) → Buf (Elt Ideal) ℓ) (c : Dev nD)

/-! The arguments of one device, as the run finds them. -/
abbrev A0 : Vec Ideal S2048x3072 .f32 := m ((c : Thread nD τ).loc main_arg0)
abbrev A1 : Vec Ideal S4x1536 .f32 := m ((c : Thread nD τ).loc main_arg1)
abbrev A2 : Vec Ideal S1536 .f32 := m ((c : Thread nD τ).loc main_arg2)
abbrev A3 : Vec Ideal S12x128x128 .bf16 := m ((c : Thread nD τ).loc main_arg3)
abbrev A4 : Vec Ideal S1536 .f32 := m ((c : Thread nD τ).loc main_arg4)
abbrev A5 : Vec Ideal S12x128x128 .bf16 := m ((c : Thread nD τ).loc main_arg5)
abbrev A6 : Vec Ideal S1536 .f32 := m ((c : Thread nD τ).loc main_arg6)
abbrev A7 : Vec Ideal S1536 .f32 := m ((c : Thread nD τ).loc main_arg7)
abbrev A8 : Vec Ideal S2048x1024 .f32 := m ((c : Thread nD τ).loc main_arg8)
abbrev A9 : Vec Ideal S1536x1024 .bf16 := m ((c : Thread nD τ).loc main_arg9)

/-- The corner of the block of each window at a point. -/
theorem idx : ∀ t : Fin cfg0.N, win0_0.index t = ![t.val, 0] ∧ win0_1.index t = ![32 * t.val - 1, 0] ∧ win0_2.index t = ![0, 0, 0] ∧ win0_3.index t = ![0, 0, 0] ∧ win0_4.index t = ![0, 0, 0, 0] ∧ win0_5.index t = ![0, 0, 0] ∧ win0_6.index t = ![0, 0, 0, 0] ∧ win0_7.index t = ![0, 0, 0] ∧ win0_8.index t = ![0, 0, 0] ∧ win0_9.index t = ![t.val, 0] ∧ win0_10.index t = ![0, 0, 0] :=
  (by decide +kernel : ∀ t : Fin grid0.N, _)

theorem pt_lt (t : Fin cfg0.N) : t.val < 8 := t.isLt.trans_eq N_0

/-- Where row `r` of the block of point `t` lies in the whole array. -/
def row (t : Fin cfg0.N) (r : Fin 256) : Fin 2048 := ⟨256 * t.val + r.val, by have := pt_lt t; omega⟩

/-! The small arguments after the host has given them leading axes. -/
theorem V_main_v3 : V m c main_v3 = broadcastInDim S1x1x1536 ![2] bcast_S1536_S1x1x1536_2 (A2 m c) := by
  unfold V; simp only [hostOps0, hostOps0_1, hostOps0_2, List.flatten_cons, List.flatten_nil, List.append_nil, List.cons_append, List.nil_append]; after_results
theorem V_main_v5 : V m c main_v5 = broadcastInDim S1x1x1536 ![2] bcast_S1536_S1x1x1536_2 (A4 m c) := by
  unfold V; simp only [hostOps0, hostOps0_1, hostOps0_2, List.flatten_cons, List.flatten_nil, List.append_nil, List.cons_append, List.nil_append]; after_results
theorem V_main_v7 : V m c main_v7 = broadcastInDim S1x1x1536 ![2] bcast_S1536_S1x1x1536_2 (A6 m c) := by
  unfold V; simp only [hostOps0, hostOps0_1, hostOps0_2, List.flatten_cons, List.flatten_nil, List.append_nil, List.cons_append, List.nil_append]; after_results
theorem V_main_v8 : V m c main_v8 = broadcastInDim S1x1x1536 ![2] bcast_S1536_S1x1x1536_2 (A7 m c) := by
  unfold V; simp only [hostOps0, hostOps0_1, hostOps0_2, List.flatten_cons, List.flatten_nil, List.append_nil, List.cons_append, List.nil_append]; after_results
theorem V_main_v4 : V m c main_v4 = broadcastInDim S1x12x128x128 ![1, 2, 3] bcast_S12x128x128_S1x12x128x128_1_2_3 (A3 m c) := by
  unfold V; simp only [hostOps0, hostOps0_1, hostOps0_2, List.flatten_cons, List.flatten_nil, List.append_nil, List.cons_append, List.nil_append]; after_results
theorem V_main_v6 : V m c main_v6 = broadcastInDim S1x12x128x128 ![1, 2, 3] bcast_S12x128x128_S1x12x128x128_1_2_3 (A5 m c) := by
  unfold V; simp only [hostOps0, hostOps0_1, hostOps0_2, List.flatten_cons, List.flatten_nil, List.append_nil, List.cons_append, List.nil_append]; after_results
theorem V_main_v0 : V m c main_v0 = broadcastInDim S1x1536x1024 ![1, 2] bcast_S1536x1024_S1x1536x1024_1_2 (A9 m c) := by
  unfold V; simp only [hostOps0, hostOps0_1, hostOps0_2, List.flatten_cons, List.flatten_nil, List.append_nil, List.cons_append, List.nil_append]; after_results
theorem V_main_v2 : V m c main_v2 = pad S1x8x1536 ![0, 0, 0] ![0, 4, 0] ![0, 0, 0] (broadcastInDim S1x4x1536 ![1, 2] bcast_S4x1536_S1x4x1536_1_2 (A1 m c))
    (sitofp .f32 (constantI S_ 32 0#32) : FVec Ideal S_ .f32) pads_S1x4x1536_S1x8x1536_000_040_000 h_S_ := by
  unfold V; simp only [hostOps0, hostOps0_1, hostOps0_2, List.flatten_cons, List.flatten_nil, List.append_nil, List.cons_append, List.nil_append]; after_results; rfl

/-- The projected rows of a point. -/
theorem p_blk (t : Fin cfg0.N) (r : Fin 256) (n : Fin 3072) :
    (iblk m c 0 t : Vec Ideal S256x3072 .f32) (ix2 r n) = A0 m c (ix2 (row t r) n) := by
  blk_point [iblk, V, idx t, row]

/-- The eight rows that come before those of a later point. -/
theorem halo_blk (t : Fin cfg0.N) (ht : 0 < t.val) (r : Fin 8) (n : Fin 3072) :
    (iblk m c 1 t : Vec Ideal S8x3072 .f32) (ix2 r n) = A0 m c (ix2 (⟨256 * t.val + r.val - 8, by have := pt_lt t; omega⟩ : Fin 2048) n) := by
  blk_point [iblk, V, idx t]

/-- The four taps of the convolution. -/
theorem w_blk (t : Fin cfg0.N) (n : Fin 4) (l : Fin 1536) :
    (iblk m c 2 t : Vec Ideal S1x8x1536 .f32) (ix3 0 (⟨n.val, by omega⟩ : Fin 8) l) = A1 m c (ix2 n l) := by
  have e : (win0_2.blk t).view.emb (ix3 0 (⟨n.val, by omega⟩ : Fin 8) l) = ix3 0 (⟨n.val, by omega⟩ : Fin 8) l := by blk_ext [idx t]
  show V m c main_v2 ((win0_2.blk t).view.emb _) = _
  rw [e, V_main_v2]
  pointwise

theorem b_blk (t : Fin cfg0.N) (l : Fin 1536) : (iblk m c 3 t : Vec Ideal S1x1x1536 .f32) (ix3 0 0 l) = A2 m c (ix1 l) := by
  have e : (win0_3.blk t).view.emb (ix3 0 0 l) = ix3 0 0 l := by blk_ext [idx t]
  show V m c main_v3 ((win0_3.blk t).view.emb _) = _
  rw [e, V_main_v3]
  pointwise

theorem br_blk (t : Fin cfg0.N) (l : Fin 1536) : (iblk m c 5 t : Vec Ideal S1x1x1536 .f32) (ix3 0 0 l) = A4 m c (ix1 l) := by
  have e : (win0_5.blk t).view.emb (ix3 0 0 l) = ix3 0 0 l := by blk_ext [idx t]
  show V m c main_v5 ((win0_5.blk t).view.emb _) = _
  rw [e, V_main_v5]
  pointwise

theorem bi_blk (t : Fin cfg0.N) (l : Fin 1536) : (iblk m c 7 t : Vec Ideal S1x1x1536 .f32) (ix3 0 0 l) = A6 m c (ix1 l) := by
  have e : (win0_7.blk t).view.emb (ix3 0 0 l) = ix3 0 0 l := by blk_ext [idx t]
  show V m c main_v7 ((win0_7.blk t).view.emb _) = _
  rw [e, V_main_v7]
  pointwise

theorem lam_blk (t : Fin cfg0.N) (l : Fin 1536) : (iblk m c 8 t : Vec Ideal S1x1x1536 .f32) (ix3 0 0 l) = A7 m c (ix1 l) := by
  have e : (win0_8.blk t).view.emb (ix3 0 0 l) = ix3 0 0 l := by blk_ext [idx t]
  show V m c main_v8 ((win0_8.blk t).view.emb _) = _
  rw [e, V_main_v8]
  pointwise

theorem wr_blk (t : Fin cfg0.N) (k : Fin 12) (i j : Fin 128) : (iblk m c 4 t : Vec Ideal S1x12x128x128 .bf16) (ix4 0 k i j) = A3 m c (ix3 k i j) := by
  have e : (win0_4.blk t).view.emb (ix4 0 k i j) = ix4 0 k i j := by blk_ext [idx t]
  show V m c main_v4 ((win0_4.blk t).view.emb _) = _
  rw [e, V_main_v4]
  pointwise

theorem wi_blk (t : Fin cfg0.N) (k : Fin 12) (i j : Fin 128) : (iblk m c 6 t : Vec Ideal S1x12x128x128 .bf16) (ix4 0 k i j) = A5 m c (ix3 k i j) := by
  have e : (win0_6.blk t).view.emb (ix4 0 k i j) = ix4 0 k i j := by blk_ext [idx t]
  show V m c main_v6 ((win0_6.blk t).view.emb _) = _
  rw [e, V_main_v6]
  pointwise

/-- The stream's rows of a point. -/
theorem h_blk (t : Fin cfg0.N) (r : Fin 256) (n : Fin 1024) :
    (iblk m c 9 t : Vec Ideal S256x1024 .f32) (ix2 r n) = A8 m c (ix2 (row t r) n) := by
  blk_point [iblk, V, idx t, row]

/-- The output weights. -/
theorem o_blk (t : Fin cfg0.N) (k : Fin 1536) (l : Fin 1024) : (iblk m c 10 t : Vec Ideal S1x1536x1024 .bf16) (ix3 0 k l) = A9 m c (ix2 k l) := by
  have e : (win0_10.blk t).view.emb (ix3 0 k l) = ix3 0 k l := by blk_ext [idx t]
  show V m c main_v0 ((win0_10.blk t).view.emb _) = _
  rw [e, V_main_v0]
  pointwise

/-- Whether a point has rows before it, as a word: one at all but the first. -/
theorem later (t : Fin cfg0.N) : (Scalar.extui (Scalar.cmpi .sgt (BitVec.ofNat 32 (grid0.coords t 0).val) 0#32) : BitVec 32) = if t.val = 0 then 0#32 else 1#32 :=
  (by decide +kernel : ∀ t : Fin grid0.N, (Scalar.extui (Scalar.cmpi .sgt (BitVec.ofNat 32 (grid0.coords t 0).val) 0#32) : BitVec 32) = if t.val = 0 then 0#32 else 1#32) t

/-- A row of the point's rows with the eight before them, numbered from the eight, is a row of the argument or zero above it. -/
theorem rows_at (t : Fin cfg0.N) (k : Fin 264) (hk : 5 ≤ k.val) (l : Fin 1536) :
    OddRun.rows (grid0.coords t) (iblk m c 0 t) (iblk m c 1 t) (ix2 k l) = OddRef.before (A0 m c) (256 * t.val + k.val - 5) l := by
  have hb := pt_lt t
  have hl := l.isLt
  unfold OddRef.before
  pointwise [OddRun.rows, k0_pay4]
  rw [later]
  by_cases h : k.val < 8
  · rw [dif_pos h]
    by_cases ht : t.val = 0
    · rw [if_pos ht, dif_neg (by omega)]
      simp
    · rw [if_neg ht, dif_pos (by omega)]
      refine (congrArg (fun x : EReal => x * _) (halo_blk m c t (by omega) ⟨k.val, h⟩ ⟨l.val, by omega⟩)).trans ?_
      have e : (((1#32 : BitVec 32).toInt : ℝ) : EReal) = 1 := by norm_num
      refine (congrArg (fun x : EReal => _ * x) e).trans ((mul_one _).trans ?_)
      exact congrArg (fun q => A0 m c (ix2 q _)) (Fin.ext (by show 256 * t.val + k.val - 8 = 256 * t.val + k.val - 5 - 3; omega))
  · rw [dif_neg h, dif_pos (by omega)]
    refine (p_blk m c t ⟨k.val - 8, by omega⟩ ⟨l.val, by omega⟩).trans ?_
    exact congrArg (fun q => A0 m c (ix2 q _)) (Fin.ext (by show 256 * t.val + (k.val - 8) = 256 * t.val + k.val - 5 - 3; omega))

end Cert.OddBlk

end
-- ==== Proof.OddPay.lean ====
/- The forward odd layer: what the kernel computes from the convolution and the gates, element by element. -/
module

public import proofs.«01_k».proof.Proof.OddRun
public import Idealize.ShloMosaic.Lib.KernelVsHost
public import Idealize.ShloMosaic.Lib.WordCmp
public import Idealize.ShloMosaic.Lib.WordArith
public import proofs.«01_k».proof.Proof.OddScal

@[expose] public section

set_option maxRecDepth 16384

noncomputable section

namespace Cert.OddPay

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddFwdKernelIdeal Cert.OddFwdKernelIdeal.Gen

section
variable (xc g : Vec Ideal S256x1536 .f32) (sp : Vec Ideal S1x1536 .f32) (r : Vec Ideal S256x1536 .f32)

/-- The eight rows of a group, numbered from zero. -/
def at3 (X : Vec Ideal S32x8x1536 .f32) (k : Fin 32) (l : Fin 1536) (j : ℕ) : EReal := if h : j < 8 then X (ix3 k (⟨j, h⟩ : Fin 8) l) else 0

theorem at3_eq (X : Vec Ideal S32x8x1536 .f32) (k : Fin 32) (l : Fin 1536) (j : Fin 8) : X (ix3 k j l) = at3 X k l j.val := by
  unfold at3
  rw [dif_pos j.isLt]

theorem sel1 : ∀ j : Fin 8, IntOp.cmpi .sge (BitVec.ofNat 32 j.val) 1#32 = if 1 ≤ j.val then 1#1 else 0#1 := by decide
theorem sel2 : ∀ j : Fin 8, IntOp.cmpi .sge (BitVec.ofNat 32 j.val) 2#32 = if 2 ≤ j.val then 1#1 else 0#1 := by decide
theorem sel4 : ∀ j : Fin 8, IntOp.cmpi .sge (BitVec.ofNat 32 j.val) 4#32 = if 4 ≤ j.val then 1#1 else 0#1 := by decide

/-- A choice by the row's number. -/
theorem pick (d : ℕ) (j : ℕ) (w : BitVec 1) (h : w = if d ≤ j then 1#1 else 0#1) (x y : EReal) : Scalar.select w x y = if d ≤ j then x else y := by
  subst h
  split <;> rfl

/-- A rotation by `d`, where it stays inside the group. -/
theorem turned (X : Vec Ideal S32x8x1536 .f32) (k : Fin 32) (l : Fin 1536) (d : ℕ) (hd : d ≤ 8) (j : Fin 8) (y : EReal) (p : (j.val + 8 - d) % 8 < 8) :
    (if d ≤ j.val then X (ix3 k (⟨(j.val + 8 - d) % 8, p⟩ : Fin 8) l) else y) = if d ≤ j.val then at3 X k l (j.val - d) else y := by
  by_cases h : d ≤ j.val
  · rw [if_pos h, if_pos h, at3_eq X k l]
    refine congrArg _ ?_
    show (j.val + 8 - d) % 8 = j.val - d
    omega
  · rw [if_neg h, if_neg h]

theorem mul_pick (d j : ℕ) (a x : EReal) : (if d ≤ j then a * x else 0) = a * (if d ≤ j then x else 0) := by
  split
  · rfl
  · rw [mul_zero]

theorem a1 (k : Fin 32) (j : Fin 8) (l : Fin 1536) : k0_pay41 (F := Ideal) sp r (ix3 k j l) = OddScal.stepA 1 (at3 (k0_pay38 (F := Ideal) sp r) k l) j.val := by
  pointwise [k0_pay41, k0_pay39]
  rw [pick 1 j.val _ (sel1 j), turned _ k l 1 (by omega), at3_eq (k0_pay38 (F := Ideal) sp r) k l j]
  rfl

theorem s43 (k : Fin 32) (j : Fin 8) (l : Fin 1536) :
    k0_pay43 (F := Ideal) sp r (ix3 k j l) = if 2 ≤ j.val then at3 (k0_pay41 (F := Ideal) sp r) k l (j.val - 2) else 1 := by
  pointwise [k0_pay43, k0_pay42]
  rw [pick 2 j.val _ (sel2 j), turned _ k l 2 (by omega)]

theorem a2 (k : Fin 32) (j : Fin 8) (l : Fin 1536) :
    k0_pay45 (F := Ideal) (k0_pay41 sp r) (k0_pay43 sp r) (ix3 k j l) = OddScal.stepA 2 (at3 (k0_pay41 (F := Ideal) sp r) k l) j.val := by
  pointwise [k0_pay45]
  rw [s43, at3_eq (k0_pay41 (F := Ideal) sp r) k l j]
  rfl

/-- What a row adds to the state. -/
def drive (R : Fin 256) (l : Fin 1536) : EReal :=
  max ((0 - Ideal.tanh (k0_pay36 (F := Ideal) sp r (ix2 R l))) * (k0_pay37 (F := Ideal) sp r (ix2 R l) * k0_pay37 (F := Ideal) sp r (ix2 R l) + 1)) (Ideal.ofBits .f32 0x0DA24260#32)
    * Ideal.rsqrt (max ((0 - Ideal.tanh (k0_pay36 (F := Ideal) sp r (ix2 R l))) * (k0_pay37 (F := Ideal) sp r (ix2 R l) * k0_pay37 (F := Ideal) sp r (ix2 R l) + 1)) (Ideal.ofBits .f32 0x0DA24260#32))
    * (g (ix2 R l) * xc (ix2 R l))

/-- The drives in groups of eight rows. -/
def drives : Vec Ideal S32x8x1536 .f32 := fun y => drive xc g sp r (⟨8 * (y 0).val + (y 1).val, by
  have h0 : (y 0).val < 32 := (y 0).isLt
  have h1 : (y 1).val < 8 := (y 1).isLt
  omega⟩ : Fin 256) (y 2)

theorem drives_at (k : Fin 32) (j : Fin 8) (l : Fin 1536) (p : k.val * 8 + j.val < 256) :
    drives xc g sp r (ix3 k j l) = drive xc g sp r (⟨k.val * 8 + j.val, p⟩ : Fin 256) l :=
  congrArg (fun q : Fin 256 => drive xc g sp r q l) (Fin.ext (by show 8 * k.val + j.val = k.val * 8 + j.val; omega))

theorem b1 (k : Fin 32) (j : Fin 8) (l : Fin 1536) :
    k0_pay40 (F := Ideal) xc g sp r (ix3 k j l) = OddScal.stepB 1 (at3 (k0_pay38 (F := Ideal) sp r) k l) (at3 (drives xc g sp r) k l) j.val := by
  pointwise [k0_pay40, k0_pay39]
  rw [pick 1 j.val _ (sel1 j), mul_pick, at3_eq (k0_pay38 (F := Ideal) sp r) k l j]
  refine (congrArg₂ (fun a b : EReal => at3 (k0_pay38 (F := Ideal) sp r) k l j.val * a + b)
    (x' := if 1 ≤ j.val then at3 (drives xc g sp r) k l (j.val - 1) else 0) (y' := at3 (drives xc g sp r) k l j.val) ?_ ?_)
  · refine Eq.trans ?_ (turned _ k l 1 (by omega) j 0 (Nat.mod_lt _ (by decide)))
    rw [drives_at]
    rfl
  · rw [← at3_eq (drives xc g sp r) k l j, drives_at]
    rfl

theorem b2 (k : Fin 32) (j : Fin 8) (l : Fin 1536) :
    k0_pay44 (F := Ideal) xc g sp r (ix3 k j l) + k0_pay40 (F := Ideal) xc g sp r (ix3 k j l) =
      OddScal.stepB 2 (at3 (k0_pay41 (F := Ideal) sp r) k l) (at3 (k0_pay40 (F := Ideal) xc g sp r) k l) j.val := by
  unfold OddScal.stepB
  refine congrArg₂ (fun a b : EReal => a + b) ?_ (at3_eq _ k l j)
  pointwise [k0_pay44, k0_pay42]
  rw [pick 2 j.val _ (sel2 j), mul_pick, turned _ k l 2 (by omega), at3_eq (k0_pay41 (F := Ideal) sp r) k l j]

theorem a3 (R : Fin 256) (l : Fin 1536) (p : R.val / 8 < 32) :
    OddRun.groupA (F := Ideal) sp r (ix2 R l) = OddScal.stepA 4 (at3 (k0_pay45 (F := Ideal) (k0_pay41 sp r) (k0_pay43 sp r)) ⟨R.val / 8, p⟩ l) (R.val % 8) := by
  have p2 : R.val % 8 < 8 := Nat.mod_lt _ (by decide)
  pointwise [OddRun.groupA, k0_pay47, k0_pay46]
  rw [pick 4 (R.val % 8) _ (sel4 ⟨R.val % 8, p2⟩)]
  exact congrArg₂ (fun a b : EReal => a * b) (at3_eq (k0_pay45 (F := Ideal) (k0_pay41 sp r) (k0_pay43 sp r)) ⟨R.val / 8, p⟩ l ⟨R.val % 8, p2⟩)
    (turned (k0_pay45 (F := Ideal) (k0_pay41 sp r) (k0_pay43 sp r)) ⟨R.val / 8, p⟩ l 4 (by omega) ⟨R.val % 8, p2⟩ 1 _)

theorem b3 (R : Fin 256) (l : Fin 1536) (p : R.val / 8 < 32) :
    OddRun.groupB (F := Ideal) xc g sp r (ix2 R l) = OddScal.stepB 4 (at3 (k0_pay45 (F := Ideal) (k0_pay41 sp r) (k0_pay43 sp r)) ⟨R.val / 8, p⟩ l)
      (at3 (addf (k0_pay44 (F := Ideal) xc g sp r) (k0_pay40 (F := Ideal) xc g sp r)) ⟨R.val / 8, p⟩ l) (R.val % 8) := by
  have p2 : R.val % 8 < 8 := Nat.mod_lt _ (by decide)
  pointwise [OddRun.groupB, k0_pay48, k0_pay46]
  rw [pick 4 (R.val % 8) _ (sel4 ⟨R.val % 8, p2⟩), mul_pick]
  unfold OddScal.stepB
  refine congrArg₂ (fun a b : EReal => a + b) (congrArg₂ (fun a b : EReal => a * b)
    (at3_eq (k0_pay45 (F := Ideal) (k0_pay41 sp r) (k0_pay43 sp r)) ⟨R.val / 8, p⟩ l ⟨R.val % 8, p2⟩)
    (turned (addf (k0_pay44 (F := Ideal) xc g sp r) (k0_pay40 (F := Ideal) xc g sp r)) ⟨R.val / 8, p⟩ l 4 (by omega) ⟨R.val % 8, p2⟩ 0 _))
    (at3_eq (addf (k0_pay44 (F := Ideal) xc g sp r) (k0_pay40 (F := Ideal) xc g sp r)) ⟨R.val / 8, p⟩ l ⟨R.val % 8, p2⟩)

theorem decay_eq (k : Fin 256) (l : Fin 1536) : k0_pay37 (F := Ideal) sp r (ix2 k l) = Ideal.exp (r (ix2 k l) * sp (ix2 0 l)) := by
  pointwise [k0_pay37, k0_pay36]

theorem log_eq (k : Fin 256) (l : Fin 1536) : k0_pay36 (F := Ideal) sp r (ix2 k l) = r (ix2 k l) * sp (ix2 0 l) := by
  pointwise [k0_pay36]

theorem decays_at (k : Fin 32) (j : Fin 8) (l : Fin 1536) (p : 8 * k.val + j.val < 256) :
    k0_pay38 (F := Ideal) sp r (ix3 k j l) = k0_pay37 (F := Ideal) sp r (ix2 (⟨8 * k.val + j.val, p⟩ : Fin 256) l) := by
  pointwise [k0_pay38]
  refine congrArg (fun q : Fin 256 => k0_pay37 (F := Ideal) sp r (ix2 q l)) (Fin.ext (by show k.val * 8 + j.val = 8 * k.val + j.val; omega))

/-- The softplus of minus the decay's parameter. -/
theorem soft_eq (x : Vec Ideal S1x1x1536 .f32) (l : Fin 1536) : OddRun.soft (F := Ideal) x (ix2 0 l) = OddScal.soft (-x (ix3 0 0 l)) := by
  have e : ∀ y : EReal, FloatOps.absf (F := Ideal) (φ := .f32) y = max y (-y) := fun y => rfl
  pointwise [OddRun.soft, k0_pay34]
  rw [e, zero_sub, zero_sub, OddScal.log_quot _ (OddScal.exp_real _ (OddScal.abs_nonneg' _))]
  rfl
end
end Cert.OddPay

end
-- ==== Proof.OddSeq.lean ====
/- The forward odd layer: the kernel's loop over groups of eight rows runs its rows one after another. -/
module

public import proofs.«01_k».proof.Proof.OddPay

@[expose] public section

set_option maxRecDepth 16384

noncomputable section

namespace Cert.OddSeq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddFwdKernelIdeal Cert.OddFwdKernelIdeal.Gen Cert.OddPay

theorem stepA_congr (d : ℕ) (A A' : ℕ → EReal) (h : ∀ j < 8, A j = A' j) (j : ℕ) (hj : j < 8) : OddScal.stepA d A j = OddScal.stepA d A' j := by
  unfold OddScal.stepA
  rw [h j hj, h (j - d) (by omega)]

theorem stepB_congr (d : ℕ) (A A' B B' : ℕ → EReal) (h : ∀ j < 8, A j = A' j) (g : ∀ j < 8, B j = B' j) (j : ℕ) (hj : j < 8) :
    OddScal.stepB d A B j = OddScal.stepB d A' B' j := by
  unfold OddScal.stepB
  rw [h j hj, g j hj, g (j - d) (by omega)]

theorem at3_of (X : Vec Ideal S32x8x1536 .f32) (k : Fin 32) (l : Fin 1536) (f : ℕ → EReal) (h : ∀ j : Fin 8, X (ix3 k j l) = f j.val) (j : ℕ) (hj : j < 8) :
    at3 X k l j = f j := (at3_eq X k l ⟨j, hj⟩).symm.trans (h ⟨j, hj⟩)

variable (xc g : Vec Ideal S256x1536 .f32) (sp : Vec Ideal S1x1536 .f32) (r : Vec Ideal S256x1536 .f32)

/-- The decays of a block's rows. -/
def dec (l : Fin 1536) (n : ℕ) : EReal := if h : n < 256 then Ideal.exp (r (ix2 (⟨n, h⟩ : Fin 256) l) * sp (ix2 0 l)) else 0
/-- What a block's rows add. -/
def add (l : Fin 1536) (n : ℕ) : EReal := if h : n < 256 then drive xc g sp r (⟨n, h⟩ : Fin 256) l else 0

theorem dec_at (k : Fin 32) (l : Fin 1536) (j : ℕ) (hj : j < 8) : at3 (k0_pay38 (F := Ideal) sp r) k l j = dec sp r l (8 * k.val + j) := by
  refine at3_of _ k l (fun j => dec sp r l (8 * k.val + j)) (fun j => ?_) j hj
  have p : 8 * k.val + j.val < 256 := by omega
  rw [decays_at sp r k j l p, decay_eq]
  show _ = dec sp r l (8 * k.val + j.val)
  unfold dec
  rw [dif_pos p]

theorem add_at (k : Fin 32) (l : Fin 1536) (j : ℕ) (hj : j < 8) : at3 (drives xc g sp r) k l j = add xc g sp r l (8 * k.val + j) := by
  refine at3_of _ k l (fun j => add xc g sp r l (8 * k.val + j)) (fun j => ?_) j hj
  have p : k.val * 8 + j.val < 256 := by omega
  rw [drives_at xc g sp r k j l p]
  show _ = add xc g sp r l (8 * k.val + j.val)
  unfold add
  rw [dif_pos (show 8 * k.val + j.val < 256 by omega)]
  exact congrArg (fun q : Fin 256 => drive xc g sp r q l) (Fin.ext (by show k.val * 8 + j.val = 8 * k.val + j.val; omega))

/-- One row of a group from the state before the group. -/
theorem group_row (hd : ∀ l n, n < 256 → 0 ≤ dec sp r l n ∧ dec sp r l n ≠ ⊤) (R : Fin 256) (l : Fin 1536) (x : EReal) :
    OddRun.groupA (F := Ideal) sp r (ix2 R l) * x + OddRun.groupB (F := Ideal) xc g sp r (ix2 R l) =
      OddScal.run (fun j => dec sp r l (8 * (R.val / 8) + j)) (fun j => add xc g sp r l (8 * (R.val / 8) + j)) x (R.val % 8 + 1) := by
  have p : R.val / 8 < 32 := by omega
  have p2 : R.val % 8 < 8 := Nat.mod_lt _ (by decide)
  let k : Fin 32 := ⟨R.val / 8, p⟩
  have e0 : ∀ j < 8, at3 (k0_pay38 (F := Ideal) sp r) k l j = dec sp r l (8 * k.val + j) := dec_at sp r k l
  have e1 : ∀ j < 8, at3 (k0_pay41 (F := Ideal) sp r) k l j = OddScal.stepA 1 (fun j => dec sp r l (8 * k.val + j)) j := fun j hj =>
    (at3_of _ k l _ (fun j => a1 sp r k j l) j hj).trans (stepA_congr 1 _ _ e0 j hj)
  have e2 : ∀ j < 8, at3 (k0_pay45 (F := Ideal) (k0_pay41 sp r) (k0_pay43 sp r)) k l j =
      OddScal.stepA 2 (OddScal.stepA 1 (fun j => dec sp r l (8 * k.val + j))) j := fun j hj =>
    (at3_of _ k l _ (fun j => a2 sp r k j l) j hj).trans (stepA_congr 2 _ _ e1 j hj)
  have f1 : ∀ j < 8, at3 (k0_pay40 (F := Ideal) xc g sp r) k l j =
      OddScal.stepB 1 (fun j => dec sp r l (8 * k.val + j)) (fun j => add xc g sp r l (8 * k.val + j)) j := fun j hj =>
    (at3_of _ k l _ (fun j => b1 xc g sp r k j l) j hj).trans (stepB_congr 1 _ _ _ _ e0 (add_at xc g sp r k l) j hj)
  have f2 : ∀ j < 8, at3 (addf (k0_pay44 (F := Ideal) xc g sp r) (k0_pay40 (F := Ideal) xc g sp r)) k l j =
      OddScal.stepB 2 (OddScal.stepA 1 (fun j => dec sp r l (8 * k.val + j)))
        (OddScal.stepB 1 (fun j => dec sp r l (8 * k.val + j)) (fun j => add xc g sp r l (8 * k.val + j))) j := fun j hj =>
    (at3_of _ k l _ (fun j => b2 xc g sp r k j l) j hj).trans (stepB_congr 2 _ _ _ _ e1 f1 j hj)
  rw [a3 sp r R l p, b3 xc g sp r R l p, stepA_congr 4 _ _ e2 _ p2, stepB_congr 4 _ _ _ _ e2 f2 _ p2]
  exact OddScal.eight _ _ (fun j hj => hd l _ (by show 8 * (R.val / 8) + j < 256; omega)) _ p2 x

/-- A row of a group. -/
theorem grp_at (X : Vec Ideal S256x1536 .f32) (k : Fin k0_t1_loop.trips) (x : Fin 8) (l : Fin 1536) :
    OddRun.grp X k (ix2 x l) = X (ix2 (⟨8 * k.val + x.val, OddRun.row_lt k x⟩ : Fin 256) l) :=
  congrArg X (OddRun.off_emb k (k0_off1_inb k) x l)

theorem pay49_at (c : Vec Ideal S1x1536 .f32) (A B : Vec Ideal S8x1536 .f32) (x : Fin 8) (l : Fin 1536) :
    k0_pay49 (F := Ideal) c A B (ix2 x l) = A (ix2 x l) * c (ix2 0 l) + B (ix2 x l) := by
  pointwise [k0_pay49]

theorem pay50_at (c : Vec Ideal S1x1536 .f32) (A B : Vec Ideal S8x1536 .f32) (l : Fin 1536) :
    k0_pay50 (F := Ideal) c A B (ix2 0 l) = A (ix2 7 l) * c (ix2 0 l) + B (ix2 7 l) := by
  pointwise [k0_pay50]
  exact pay49_at c A B 7 l

/-- The state before group `n`. -/
theorem carried_at (hd : ∀ l n, n < 256 → 0 ≤ dec sp r l n ∧ dec sp r l n ≠ ⊤) (c : Vec Ideal S1x1536 .f32) (l : Fin 1536) (n : ℕ) (hn : n ≤ 32) :
    OddRun.carried (OddRun.groupA (F := Ideal) sp r) (OddRun.groupB (F := Ideal) xc g sp r) c n (ix2 0 l) =
      OddScal.run (dec sp r l) (add xc g sp r l) (c (ix2 0 l)) (8 * n) := by
  induction n with
  | zero => rfl
  | succ n ih =>
    have hk : n < k0_t1_loop.trips := lt_of_lt_of_eq (Nat.lt_of_succ_le hn) OddRun.trips_eq.symm
    have e := OddRun.carried_succ (OddRun.groupA (F := Ideal) sp r) (OddRun.groupB (F := Ideal) xc g sp r) c ⟨n, hk⟩
    have e1 : (8 * n + 7) / 8 = n := by omega
    have e2 : (8 * n + 7) % 8 = 7 := by omega
    rw [show OddRun.carried (OddRun.groupA (F := Ideal) sp r) (OddRun.groupB (F := Ideal) xc g sp r) c (n + 1) = _ from e, pay50_at, grp_at, grp_at,
      group_row xc g sp r hd, ih (by omega)]
    show OddScal.run (fun j => dec sp r l (8 * ((8 * n + 7) / 8) + j)) (fun j => add xc g sp r l (8 * ((8 * n + 7) / 8) + j)) _ ((8 * n + 7) % 8 + 1) = _
    rw [e1, e2]
    exact OddScal.run_shift _ _ _ (8 * n) 8

/-- The states of a block are the run of its rows. -/
theorem states_at (hd : ∀ l n, n < 256 → 0 ≤ dec sp r l n ∧ dec sp r l n ≠ ⊤) (c : Vec Ideal S1x1536 .f32) (R : Fin 256) (l : Fin 1536) :
    OddRun.states (OddRun.groupA (F := Ideal) sp r) (OddRun.groupB (F := Ideal) xc g sp r) c (ix2 R l) =
      OddScal.run (dec sp r l) (add xc g sp r l) (c (ix2 0 l)) (R.val + 1) := by
  have hk : R.val / 8 < k0_t1_loop.trips := lt_of_lt_of_eq (by omega) OddRun.trips_eq.symm
  have e : (⟨8 * (R.val / 8) + R.val % 8, by omega⟩ : Fin 256) = R := Fin.ext (by show 8 * (R.val / 8) + R.val % 8 = R.val; omega)
  have q := OddRun.states_group (OddRun.groupA (F := Ideal) sp r) (OddRun.groupB (F := Ideal) xc g sp r) c ⟨R.val / 8, hk⟩ ⟨R.val % 8, Nat.mod_lt _ (by decide)⟩ l
  have g2 := (congrArg (fun q : Fin 256 => OddRun.states (OddRun.groupA (F := Ideal) sp r) (OddRun.groupB (F := Ideal) xc g sp r) c (ix2 q l)) e).symm.trans q
  refine g2.trans ?_
  rw [pay49_at, grp_at, grp_at, group_row xc g sp r hd, carried_at xc g sp r hd c l _ (by show R.val / 8 ≤ 32; omega)]
  show OddScal.run (fun j => dec sp r l (8 * ((8 * (R.val / 8) + R.val % 8) / 8) + j)) (fun j => add xc g sp r l (8 * ((8 * (R.val / 8) + R.val % 8) / 8) + j)) _
    ((8 * (R.val / 8) + R.val % 8) % 8 + 1) = _
  have e1 : (8 * (R.val / 8) + R.val % 8) / 8 = R.val / 8 := by omega
  have e2 : (8 * (R.val / 8) + R.val % 8) % 8 = R.val % 8 := by omega
  rw [e1, e2]
  refine (OddScal.run_shift _ _ _ (8 * (R.val / 8)) _).trans (congrArg _ ?_)
  omega
end Cert.OddSeq

end
-- ==== Proof.OddHeads.lean ====
/- The forward odd layer: the kernel's two gates, element by element. -/
module

public import proofs.«01_k».proof.Proof.OddRun
public import Idealize.ShloMosaic.Lib.KernelVsHost
public import proofs.«01_k».proof.Proof.FwdGate
public import proofs.«01_k».proof.Proof.OddRef

@[expose] public section

set_option maxRecDepth 16384

noncomputable section

namespace Cert.OddHeads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddFwdKernelIdeal Cert.OddFwdKernelIdeal.Gen

theorem next {a m n : ℕ} (h : a = 128 * n + m) (g : ¬ m < 128) : a = 128 * (n + 1) + (m - 128) := by omega

set_option maxHeartbeats 1600000 in
/-- Twelve heads side by side: column `l` is in head `l / 128`. -/
theorem heads (p0 p1 p2 p3 p4 p5 p6 p7 p8 p9 p10 p11 : Vec Ideal S256x128 .f32) (G : Fin 12 → Fin 128 → EReal) (r : Fin 256)
    (h0 : ∀ j, p0 (ix2 r j) = G 0 j) (h1 : ∀ j, p1 (ix2 r j) = G 1 j) (h2 : ∀ j, p2 (ix2 r j) = G 2 j) (h3 : ∀ j, p3 (ix2 r j) = G 3 j) (h4 : ∀ j, p4 (ix2 r j) = G 4 j) (h5 : ∀ j, p5 (ix2 r j) = G 5 j) (h6 : ∀ j, p6 (ix2 r j) = G 6 j) (h7 : ∀ j, p7 (ix2 r j) = G 7 j) (h8 : ∀ j, p8 (ix2 r j) = G 8 j) (h9 : ∀ j, p9 (ix2 r j) = G 9 j) (h10 : ∀ j, p10 (ix2 r j) = G 10 j) (h11 : ∀ j, p11 (ix2 r j) = G 11 j) (l : Fin 1536) :
    concatenate S256x1536 1 [⟨S256x128, p0⟩, ⟨S256x128, p1⟩, ⟨S256x128, p2⟩, ⟨S256x128, p3⟩, ⟨S256x128, p4⟩, ⟨S256x128, p5⟩, ⟨S256x128, p6⟩, ⟨S256x128, p7⟩, ⟨S256x128, p8⟩, ⟨S256x128, p9⟩, ⟨S256x128, p10⟩, ⟨S256x128, p11⟩]
      concatenates_S256x128_S256x128_S256x128_S256x128_S256x128_S256x128_S256x128_S256x128_S256x128_S256x128_S256x128_S256x128_S256x1536_d1 (ix2 r l) =
      G (OddRef.hd l) (OddRef.col l) := by
  pointwise
  have e : ∀ (n : Fin 12) (j : Fin 128), l.val = 128 * n.val + j.val → G n j = G (OddRef.hd l) (OddRef.col l) := fun n j h => by
    have e1 : OddRef.hd l = n := Fin.ext (by show l.val / 128 = n.val; omega)
    have e2 : OddRef.col l = j := Fin.ext (by show l.val % 128 = j.val; omega)
    rw [e1, e2]
  have s0 : l.val = 128 * 0 + l.val := by omega
  by_cases g0 : l.val < 128
  · exact (dif_pos g0).trans ((h0 _).trans (e 0 _ s0))
  refine (dif_neg g0).trans ?_
  have s1 := next s0 g0
  by_cases g1 : l.val - 128 < 128
  · exact (dif_pos g1).trans ((h1 _).trans (e 1 _ s1))
  refine (dif_neg g1).trans ?_
  have s2 := next s1 g1
  by_cases g2 : l.val - 128 - 128 < 128
  · exact (dif_pos g2).trans ((h2 _).trans (e 2 _ s2))
  refine (dif_neg g2).trans ?_
  have s3 := next s2 g2
  by_cases g3 : l.val - 128 - 128 - 128 < 128
  · exact (dif_pos g3).trans ((h3 _).trans (e 3 _ s3))
  refine (dif_neg g3).trans ?_
  have s4 := next s3 g3
  by_cases g4 : l.val - 128 - 128 - 128 - 128 < 128
  · exact (dif_pos g4).trans ((h4 _).trans (e 4 _ s4))
  refine (dif_neg g4).trans ?_
  have s5 := next s4 g4
  by_cases g5 : l.val - 128 - 128 - 128 - 128 - 128 < 128
  · exact (dif_pos g5).trans ((h5 _).trans (e 5 _ s5))
  refine (dif_neg g5).trans ?_
  have s6 := next s5 g5
  by_cases g6 : l.val - 128 - 128 - 128 - 128 - 128 - 128 < 128
  · exact (dif_pos g6).trans ((h6 _).trans (e 6 _ s6))
  refine (dif_neg g6).trans ?_
  have s7 := next s6 g6
  by_cases g7 : l.val - 128 - 128 - 128 - 128 - 128 - 128 - 128 < 128
  · exact (dif_pos g7).trans ((h7 _).trans (e 7 _ s7))
  refine (dif_neg g7).trans ?_
  have s8 := next s7 g7
  by_cases g8 : l.val - 128 - 128 - 128 - 128 - 128 - 128 - 128 - 128 < 128
  · exact (dif_pos g8).trans ((h8 _).trans (e 8 _ s8))
  refine (dif_neg g8).trans ?_
  have s9 := next s8 g8
  by_cases g9 : l.val - 128 - 128 - 128 - 128 - 128 - 128 - 128 - 128 - 128 < 128
  · exact (dif_pos g9).trans ((h9 _).trans (e 9 _ s9))
  refine (dif_neg g9).trans ?_
  have s10 := next s9 g9
  by_cases g10 : l.val - 128 - 128 - 128 - 128 - 128 - 128 - 128 - 128 - 128 - 128 < 128
  · exact (dif_pos g10).trans ((h10 _).trans (e 10 _ s10))
  refine (dif_neg g10).trans ?_
  have s11 := next s10 g10
  exact (h11 _).trans (e 11 _ s11)

section
variable (x4 : Vec Ideal S1x12x128x128 .bf16) (x5 : Vec Ideal S1x1x1536 .f32) (R : Vec Ideal S264x1536 .f32) (C : Vec Ideal S256x1536 .f32) (T : Vec Ideal S1x1x1536 .f32)

/-- A head's product with its weights. -/
def prod (X : Fin 1536 → EReal) (n : Fin 12) (j : Fin 128) : EReal := ∑ i : Fin 128, X (OddRef.at_ n i) * x4 (ix4 0 n i j)

theorem half_form (s : EReal) : Ideal.ofBits .f32 0x3F000000#32 * Ideal.tanh (Ideal.ofBits .f32 0x3F000000#32 * s) + Ideal.ofBits .f32 0x3F000000#32 = Ideal.logistic s := by
  rw [Scalars.cHalf, FwdGate.half_tanh]

theorem headR0 (r : Fin 256) (j : Fin 128) :
    k0_pay8 (F := Ideal) R C T (View.ld x4 (Rect.unit (s := S1x12x128x128) ![0, 0, 0, 0] S1x1x128x128.size inb_S1x12x128x128_S1x1x128x128_0_0_0_0)) (ix2 r j) =
      prod x4 (fun k => k0_pay7 R C T (ix2 r k)) 0 j := by
  pointwise [k0_pay8]
  rfl

theorem headR1 (r : Fin 256) (j : Fin 128) :
    k0_pay10 (F := Ideal) R C T (View.ld x4 (Rect.unit (s := S1x12x128x128) ![0, 1, 0, 0] S1x1x128x128.size inb_S1x12x128x128_S1x1x128x128_0_1_0_0)) (ix2 r j) =
      prod x4 (fun k => k0_pay7 R C T (ix2 r k)) 1 j := by
  pointwise [k0_pay10]
  rfl

theorem headR2 (r : Fin 256) (j : Fin 128) :
    k0_pay12 (F := Ideal) R C T (View.ld x4 (Rect.unit (s := S1x12x128x128) ![0, 2, 0, 0] S1x1x128x128.size inb_S1x12x128x128_S1x1x128x128_0_2_0_0)) (ix2 r j) =
      prod x4 (fun k => k0_pay7 R C T (ix2 r k)) 2 j := by
  pointwise [k0_pay12]
  rfl

theorem headR3 (r : Fin 256) (j : Fin 128) :
    k0_pay15 (F := Ideal) (k0_pay7 R C T) (View.ld x4 (Rect.unit (s := S1x12x128x128) ![0, 3, 0, 0] S1x1x128x128.size inb_S1x12x128x128_S1x1x128x128_0_3_0_0)) (ix2 r j) =
      prod x4 (fun k => k0_pay7 R C T (ix2 r k)) 3 j := by
  pointwise [k0_pay15]
  rfl

theorem headR4 (r : Fin 256) (j : Fin 128) :
    k0_pay17 (F := Ideal) (k0_pay7 R C T) (View.ld x4 (Rect.unit (s := S1x12x128x128) ![0, 4, 0, 0] S1x1x128x128.size inb_S1x12x128x128_S1x1x128x128_0_4_0_0)) (ix2 r j) =
      prod x4 (fun k => k0_pay7 R C T (ix2 r k)) 4 j := by
  pointwise [k0_pay17]
  rfl

theorem headR5 (r : Fin 256) (j : Fin 128) :
    k0_pay19 (F := Ideal) (k0_pay7 R C T) (View.ld x4 (Rect.unit (s := S1x12x128x128) ![0, 5, 0, 0] S1x1x128x128.size inb_S1x12x128x128_S1x1x128x128_0_5_0_0)) (ix2 r j) =
      prod x4 (fun k => k0_pay7 R C T (ix2 r k)) 5 j := by
  pointwise [k0_pay19]
  rfl

theorem headR6 (r : Fin 256) (j : Fin 128) :
    k0_pay22 (F := Ideal) (k0_pay21 (k0_pay7 R C T)) (View.ld x4 (Rect.unit (s := S1x12x128x128) ![0, 6, 0, 0] S1x1x128x128.size inb_S1x12x128x128_S1x1x128x128_0_6_0_0)) (ix2 r j) =
      prod x4 (fun k => k0_pay7 R C T (ix2 r k)) 6 j := by
  pointwise [k0_pay22, k0_pay21]
  rfl

theorem headR7 (r : Fin 256) (j : Fin 128) :
    k0_pay24 (F := Ideal) (k0_pay7 R C T) (View.ld x4 (Rect.unit (s := S1x12x128x128) ![0, 7, 0, 0] S1x1x128x128.size inb_S1x12x128x128_S1x1x128x128_0_7_0_0)) (ix2 r j) =
      prod x4 (fun k => k0_pay7 R C T (ix2 r k)) 7 j := by
  pointwise [k0_pay24]
  rfl

theorem headR8 (r : Fin 256) (j : Fin 128) :
    k0_pay26 (F := Ideal) (k0_pay7 R C T) (View.ld x4 (Rect.unit (s := S1x12x128x128) ![0, 8, 0, 0] S1x1x128x128.size inb_S1x12x128x128_S1x1x128x128_0_8_0_0)) (ix2 r j) =
      prod x4 (fun k => k0_pay7 R C T (ix2 r k)) 8 j := by
  pointwise [k0_pay26]
  rfl

theorem headR9 (r : Fin 256) (j : Fin 128) :
    k0_pay28 (F := Ideal) (k0_pay7 R C T) (View.ld x4 (Rect.unit (s := S1x12x128x128) ![0, 9, 0, 0] S1x1x128x128.size inb_S1x12x128x128_S1x1x128x128_0_9_0_0)) (ix2 r j) =
      prod x4 (fun k => k0_pay7 R C T (ix2 r k)) 9 j := by
  pointwise [k0_pay28]
  rfl

theorem headI0 (r : Fin 256) (j : Fin 128) :
    k0_pay9 (F := Ideal) R C T (View.ld x4 (Rect.unit (s := S1x12x128x128) ![0, 0, 0, 0] S1x1x128x128.size inb_S1x12x128x128_S1x1x128x128_0_0_0_0)) (ix2 r j) =
      prod x4 (fun k => k0_pay7 R C T (ix2 r k)) 0 j := by
  pointwise [k0_pay9]
  rfl

theorem headI1 (r : Fin 256) (j : Fin 128) :
    k0_pay11 (F := Ideal) R C T (View.ld x4 (Rect.unit (s := S1x12x128x128) ![0, 1, 0, 0] S1x1x128x128.size inb_S1x12x128x128_S1x1x128x128_0_1_0_0)) (ix2 r j) =
      prod x4 (fun k => k0_pay7 R C T (ix2 r k)) 1 j := by
  pointwise [k0_pay11]
  rfl

theorem headI2 (r : Fin 256) (j : Fin 128) :
    k0_pay14 (F := Ideal) (k0_pay13 R C T) (View.ld x4 (Rect.unit (s := S1x12x128x128) ![0, 2, 0, 0] S1x1x128x128.size inb_S1x12x128x128_S1x1x128x128_0_2_0_0)) (ix2 r j) =
      prod x4 (fun k => k0_pay7 R C T (ix2 r k)) 2 j := by
  pointwise [k0_pay14, k0_pay13]
  rfl

theorem headI3 (r : Fin 256) (j : Fin 128) :
    k0_pay16 (F := Ideal) (k0_pay7 R C T) (View.ld x4 (Rect.unit (s := S1x12x128x128) ![0, 3, 0, 0] S1x1x128x128.size inb_S1x12x128x128_S1x1x128x128_0_3_0_0)) (ix2 r j) =
      prod x4 (fun k => k0_pay7 R C T (ix2 r k)) 3 j := by
  pointwise [k0_pay16]
  rfl

theorem headI4 (r : Fin 256) (j : Fin 128) :
    k0_pay18 (F := Ideal) (k0_pay7 R C T) (View.ld x4 (Rect.unit (s := S1x12x128x128) ![0, 4, 0, 0] S1x1x128x128.size inb_S1x12x128x128_S1x1x128x128_0_4_0_0)) (ix2 r j) =
      prod x4 (fun k => k0_pay7 R C T (ix2 r k)) 4 j := by
  pointwise [k0_pay18]
  rfl

theorem headI5 (r : Fin 256) (j : Fin 128) :
    k0_pay20 (F := Ideal) (k0_pay7 R C T) (View.ld x4 (Rect.unit (s := S1x12x128x128) ![0, 5, 0, 0] S1x1x128x128.size inb_S1x12x128x128_S1x1x128x128_0_5_0_0)) (ix2 r j) =
      prod x4 (fun k => k0_pay7 R C T (ix2 r k)) 5 j := by
  pointwise [k0_pay20]
  rfl

theorem headI6 (r : Fin 256) (j : Fin 128) :
    k0_pay23 (F := Ideal) (k0_pay7 R C T) (View.ld x4 (Rect.unit (s := S1x12x128x128) ![0, 6, 0, 0] S1x1x128x128.size inb_S1x12x128x128_S1x1x128x128_0_6_0_0)) (ix2 r j) =
      prod x4 (fun k => k0_pay7 R C T (ix2 r k)) 6 j := by
  pointwise [k0_pay23]
  rfl

theorem headI7 (r : Fin 256) (j : Fin 128) :
    k0_pay25 (F := Ideal) (k0_pay7 R C T) (View.ld x4 (Rect.unit (s := S1x12x128x128) ![0, 7, 0, 0] S1x1x128x128.size inb_S1x12x128x128_S1x1x128x128_0_7_0_0)) (ix2 r j) =
      prod x4 (fun k => k0_pay7 R C T (ix2 r k)) 7 j := by
  pointwise [k0_pay25]
  rfl

theorem headI8 (r : Fin 256) (j : Fin 128) :
    k0_pay27 (F := Ideal) (k0_pay7 R C T) (View.ld x4 (Rect.unit (s := S1x12x128x128) ![0, 8, 0, 0] S1x1x128x128.size inb_S1x12x128x128_S1x1x128x128_0_8_0_0)) (ix2 r j) =
      prod x4 (fun k => k0_pay7 R C T (ix2 r k)) 8 j := by
  pointwise [k0_pay27]
  rfl

theorem headI9 (r : Fin 256) (j : Fin 128) :
    k0_pay29 (F := Ideal) (k0_pay7 R C T) (View.ld x4 (Rect.unit (s := S1x12x128x128) ![0, 9, 0, 0] S1x1x128x128.size inb_S1x12x128x128_S1x1x128x128_0_9_0_0)) (ix2 r j) =
      prod x4 (fun k => k0_pay7 R C T (ix2 r k)) 9 j := by
  pointwise [k0_pay29]
  rfl

theorem headI10 (r : Fin 256) (j : Fin 128) :
    k0_pay30 (F := Ideal) (k0_pay7 R C T) (View.ld x4 (Rect.unit (s := S1x12x128x128) ![0, 10, 0, 0] S1x1x128x128.size inb_S1x12x128x128_S1x1x128x128_0_10_0_0)) (ix2 r j) =
      prod x4 (fun k => k0_pay7 R C T (ix2 r k)) 10 j := by
  pointwise [k0_pay30]
  rfl

theorem headI11 (r : Fin 256) (j : Fin 128) :
    k0_pay31 (F := Ideal) (k0_pay7 R C T) (View.ld x4 (Rect.unit (s := S1x12x128x128) ![0, 11, 0, 0] S1x1x128x128.size inb_S1x12x128x128_S1x1x128x128_0_11_0_0)) (ix2 r j) =
      prod x4 (fun k => k0_pay7 R C T (ix2 r k)) 11 j := by
  pointwise [k0_pay31]
  rfl

theorem headR10 (r : Fin 256) (j : Fin 128) : matmul dot_S256x128_S128x128_S256x128_1_0_0_1_n_n none (extractStridedSlice S256x128 ![0, 1280] (k0_pay7 (F := Ideal) R C T) slices_S256x1536_o0_1280_S256x128)
    (shapeCast S128x128 (View.ld x4 (Rect.unit (s := S1x12x128x128) ![0, 10, 0, 0] S1x1x128x128.size inb_S1x12x128x128_S1x1x128x128_0_10_0_0)) shapeCasts_S1x1x128x128_S128x128 : FVec Ideal S128x128 .bf16) (constant S256x128 .f32 0x00000000#32) (ix2 r j) =
      prod x4 (fun k => k0_pay7 R C T (ix2 r k)) 10 j := by
  pointwise
  rfl

theorem headR11 (r : Fin 256) (j : Fin 128) : matmul dot_S256x128_S128x128_S256x128_1_0_0_1_n_n none (extractStridedSlice S256x128 ![0, 1408] (k0_pay7 (F := Ideal) R C T) slices_S256x1536_o0_1408_S256x128)
    (shapeCast S128x128 (View.ld x4 (Rect.unit (s := S1x12x128x128) ![0, 11, 0, 0] S1x1x128x128.size inb_S1x12x128x128_S1x1x128x128_0_11_0_0)) shapeCasts_S1x1x128x128_S128x128 : FVec Ideal S128x128 .bf16) (constant S256x128 .f32 0x00000000#32) (ix2 r j) =
      prod x4 (fun k => k0_pay7 R C T (ix2 r k)) 11 j := by
  pointwise
  rfl

/-- The logistic function as the kernel computes it. -/
theorem form (Y : FVec Ideal S256x1536 .f32) (b : FVec Ideal S1x1x1536 .f32) (r : Fin 256) (l : Fin 1536) :
    (addf (mulf (broadcast S256x1536 (Scalar.ofBits .f32 0x3F000000#32)) (tanh (mulf (broadcast S256x1536 (Scalar.ofBits .f32 0x3F000000#32))
      (addf Y (broadcastTo S256x1536 (shapeCast S1x1536 b shapeCasts_S1x1x1536_S1x1536) broadcasts_S1x1536_S256x1536))))) (broadcast S256x1536 (Scalar.ofBits .f32 0x3F000000#32)) : FVec Ideal S256x1536 .f32) (ix2 r l) =
      Ideal.logistic (Y (ix2 r l) + b (ix3 0 0 l)) := by
  pointwise
  exact half_form _

theorem bias (r : Fin 256) (l : Fin 1536) : x5 (ix3 0 0 l) = View.ld x5 (Rect.unit (s := S1x1x1536) ![0, 0, 0] S1x1x1536.size inb_S1x1x1536_S1x1x1536_0_0_0) (ix3 0 0 l) := by
  pointwise

/-- The input gate. -/
theorem inp_at (r : Fin 256) (l : Fin 1536) :
    OddRun.gateI (F := Ideal) x4 x5 R C T (k0_pay7 R C T) (ix2 r l) =
      Ideal.logistic (prod x4 (fun k => k0_pay7 R C T (ix2 r k)) (OddRef.hd l) (OddRef.col l) + x5 (ix3 0 0 l)) := by
  rw [bias x5 r l, ← heads _ _ _ _ _ _ _ _ _ _ _ _ (prod x4 (fun k => k0_pay7 R C T (ix2 r k))) r (headI0 x4 R C T r) (headI1 x4 R C T r) (headI2 x4 R C T r) (headI3 x4 R C T r) (headI4 x4 R C T r) (headI5 x4 R C T r) (headI6 x4 R C T r) (headI7 x4 R C T r) (headI8 x4 R C T r) (headI9 x4 R C T r) (headI10 x4 R C T r) (headI11 x4 R C T r) l]
  exact form _ _ r l

/-- The recurrence gate, scaled. -/
theorem rate_at (r : Fin 256) (l : Fin 1536) :
    k0_pay35 (F := Ideal) (OddRun.gateR (F := Ideal) x4 x5 R C T (k0_pay7 R C T)) (ix2 r l) =
      Ideal.ofBits .f32 0xC1000000#32 * Ideal.logistic (prod x4 (fun k => k0_pay7 R C T (ix2 r k)) (OddRef.hd l) (OddRef.col l) + x5 (ix3 0 0 l)) := by
  rw [bias x5 r l, ← heads _ _ _ _ _ _ _ _ _ _ _ _ (prod x4 (fun k => k0_pay7 R C T (ix2 r k))) r (headR0 x4 R C T r) (headR1 x4 R C T r) (headR2 x4 R C T r) (headR3 x4 R C T r) (headR4 x4 R C T r) (headR5 x4 R C T r) (headR6 x4 R C T r) (headR7 x4 R C T r) (headR8 x4 R C T r) (headR9 x4 R C T r) (headR10 x4 R C T r) (headR11 x4 R C T r) l]
  exact congrArg (fun s : EReal => Ideal.ofBits .f32 0xC1000000#32 * s) (form _ _ r l)
end
end Cert.OddHeads

end
-- ==== Proof.OddConv.lean ====
/- The forward odd layer: the convolution, the gates and the steps of the recurrence of a point, in terms of the whole arguments. -/
module

public import proofs.«01_k».proof.Proof.OddBlk
public import proofs.«01_k».proof.Proof.OddSeq
public import proofs.«01_k».proof.Proof.OddHeads

@[expose] public section

set_option maxRecDepth 16384

noncomputable section

namespace Cert.OddConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddFwdKernelIdeal Cert.OddFwdKernelIdeal.Gen Cert.OddBlk

/-- The convolution of a point at one place. -/
theorem conv_form (i : grid0.Coords) (x0 : Vec Ideal S256x3072 .f32) (x1 : Vec Ideal S8x3072 .f32) (x2 : Vec Ideal S1x8x1536 .f32) (x3 : Vec Ideal S1x1x1536 .f32) (k : Fin 256) (l : Fin 1536) :
    OddRun.conv i x0 x1 x2 x3 (ix2 k l) = x3 (ix3 0 0 l) + x2 (ix3 0 3 l) * OddRun.rows i x0 x1 (ix2 (⟨8 + k.val, by omega⟩ : Fin 264) l)
      + x2 (ix3 0 0 l) * OddRun.rows i x0 x1 (ix2 (⟨(8 + k.val + 264 - 3) % 264, Nat.mod_lt _ (by decide)⟩ : Fin 264) l)
      + x2 (ix3 0 1 l) * OddRun.rows i x0 x1 (ix2 (⟨(8 + k.val + 264 - 2) % 264, Nat.mod_lt _ (by decide)⟩ : Fin 264) l)
      + x2 (ix3 0 2 l) * OddRun.rows i x0 x1 (ix2 (⟨(8 + k.val + 264 - 1) % 264, Nat.mod_lt _ (by decide)⟩ : Fin 264) l) := by
  pointwise [OddRun.conv, k0_pay6, OddRun.conv3, k0_pay5]
  rfl

variable (m : (ℓ : Loc nD τ sig) → Buf (Elt Ideal) ℓ) (c : Dev nD)

/-- The convolution of a point is the rows of the whole one. -/
theorem conv_at (t : Fin cfg0.N) (k : Fin 256) (l : Fin 1536) :
    OddRun.conv (grid0.coords t) (iblk m c 0 t) (iblk m c 1 t) (iblk m c 2 t) (iblk m c 3 t) (ix2 k l)
      = OddRef.convAt (A0 m c) (A1 m c) (A2 m c) (256 * t.val + k.val) l := by
  have hk := k.isLt
  have r3 := rows_at m c t ⟨8 + k.val, by omega⟩ (by show 5 ≤ 8 + k.val; omega) l
  have r (n : ℕ) (hn : 1 ≤ n ∧ n ≤ 3) := rows_at m c t ⟨(8 + k.val + 264 - n) % 264, Nat.mod_lt _ (by decide)⟩ (by show 5 ≤ (8 + k.val + 264 - n) % 264; omega) l
  rw [conv_form, r3, r 3 (by omega), r 2 (by omega), r 1 (by omega)]
  have w0 := w_blk m c t 0 l
  have w1 := w_blk m c t 1 l
  have w2 := w_blk m c t 2 l
  have w3 := w_blk m c t 3 l
  have bb := b_blk m c t l
  have f (n : ℕ) (hn : 1 ≤ n ∧ n ≤ 3) : 256 * t.val + (8 + k.val + 264 - n) % 264 - 5 = 256 * t.val + k.val + (3 - n) := by omega
  have f3 : 256 * t.val + (8 + k.val) - 5 = 256 * t.val + k.val + 3 := by omega
  unfold OddRef.convAt
  rw [Fin.sum_univ_four]
  show _ + _ * OddRef.before _ (256 * t.val + (8 + k.val) - 5) l + _ * OddRef.before _ (256 * t.val + (8 + k.val + 264 - 3) % 264 - 5) l
    + _ * OddRef.before _ (256 * t.val + (8 + k.val + 264 - 2) % 264 - 5) l + _ * OddRef.before _ (256 * t.val + (8 + k.val + 264 - 1) % 264 - 5) l = _
  rw [f3, f 3 (by omega), f 2 (by omega), f 1 (by omega)]
  refine (congrArg₂ (fun a b : EReal => a + b) (congrArg₂ (fun a b : EReal => a + b) (congrArg₂ (fun a b : EReal => a + b) (congrArg₂ (fun a b : EReal => a + b) bb
    (congrArg (fun a : EReal => a * _) w3)) (congrArg (fun a : EReal => a * _) w0)) (congrArg (fun a : EReal => a * _) w1)) (congrArg (fun a : EReal => a * _) w2)).trans ?_
  show A2 m c (ix1 l) + A1 m c (ix2 3 l) * OddRef.before (A0 m c) (256 * t.val + k.val + 3) l + A1 m c (ix2 0 l) * OddRef.before (A0 m c) (256 * t.val + k.val + 0) l
      + A1 m c (ix2 1 l) * OddRef.before (A0 m c) (256 * t.val + k.val + 1) l + A1 m c (ix2 2 l) * OddRef.before (A0 m c) (256 * t.val + k.val + 2) l
    = A1 m c (ix2 0 l) * OddRef.before (A0 m c) (256 * t.val + k.val + 0) l + A1 m c (ix2 1 l) * OddRef.before (A0 m c) (256 * t.val + k.val + 1) l
      + A1 m c (ix2 2 l) * OddRef.before (A0 m c) (256 * t.val + k.val + 2) l + A1 m c (ix2 3 l) * OddRef.before (A0 m c) (256 * t.val + k.val + 3) l + A2 m c (ix1 l)
  ac_rfl

/-- The taps' third row alone. -/
abbrev tap (t : Fin cfg0.N) : Vec Ideal S1x1x1536 .f32 :=
  View.ld (iblk m c 2 t : Vec Ideal S1x8x1536 .f32) (Rect.unit (s := S1x8x1536) ![0, 2, 0] S1x1x1536.size inb_S1x8x1536_S1x1x1536_0_2_0)

/-- The convolution as the gates' products take it. -/
theorem convb_at (t : Fin cfg0.N) (k : Fin 256) (l : Fin 1536) :
    k0_pay7 (OddRun.rows (grid0.coords t) (iblk m c 0 t) (iblk m c 1 t)) (OddRun.conv3 (grid0.coords t) (iblk m c 0 t) (iblk m c 1 t) (iblk m c 2 t) (iblk m c 3 t)) (tap m c t) (ix2 k l)
      = OddRef.convAt (A0 m c) (A1 m c) (A2 m c) (256 * t.val + k.val) l :=
  conv_at m c t k l

/-- The input gate of a point. -/
theorem inp_at (t : Fin cfg0.N) (k : Fin 256) (l : Fin 1536) :
    OddRun.inp (grid0.coords t) (iblk m c 0 t) (iblk m c 1 t) (iblk m c 2 t) (iblk m c 3 t) (iblk m c 6 t) (iblk m c 7 t) (ix2 k l)
      = Ideal.logistic (OddRef.headAt (A5 m c) (A6 m c) (OddRef.convAt (A0 m c) (A1 m c) (A2 m c) (256 * t.val + k.val)) l) := by
  refine (OddHeads.inp_at (iblk m c 6 t) (iblk m c 7 t) _ _ (tap m c t) k l).trans ?_
  refine congrArg Ideal.logistic (congrArg₂ (fun a b : EReal => a + b) (Finset.sum_congr rfl fun i _ => ?_) (bi_blk m c t l))
  exact congrArg₂ (fun a b : EReal => a * b) (convb_at m c t k _) (wi_blk m c t _ _ _)

/-- Minus eight times the recurrence gate of a point. -/
theorem rate_at (t : Fin cfg0.N) (k : Fin 256) (l : Fin 1536) :
    OddRun.rate (grid0.coords t) (iblk m c 0 t) (iblk m c 1 t) (iblk m c 2 t) (iblk m c 3 t) (iblk m c 4 t) (iblk m c 5 t) (ix2 k l)
      = Ideal.ofBits .f32 0xC1000000#32 * Ideal.logistic (OddRef.headAt (A3 m c) (A4 m c) (OddRef.convAt (A0 m c) (A1 m c) (A2 m c) (256 * t.val + k.val)) l) := by
  refine (OddHeads.rate_at (iblk m c 4 t) (iblk m c 5 t) _ _ (tap m c t) k l).trans ?_
  refine congrArg (fun a : EReal => _ * Ideal.logistic a) (congrArg₂ (fun a b : EReal => a + b) (Finset.sum_congr rfl fun i _ => ?_) (br_blk m c t l))
  exact congrArg₂ (fun a b : EReal => a * b) (convb_at m c t k _) (wr_blk m c t _ _ _)

/-- The softplus of a point. -/
theorem soft_at (t : Fin cfg0.N) (l : Fin 1536) :
    OddRun.soft (iblk m c 8 t) (ix2 0 l) = OddScal.soft (-(A7 m c (ix1 l))) := by
  refine (OddPay.soft_eq (iblk m c 8 t) l).trans ?_
  exact congrArg (fun a : EReal => OddScal.soft (-a)) (lam_blk m c t l)

/-- The logarithm of the whole layer's decay. -/
abbrev L (q : ℕ) (l : Fin 1536) : EReal := OddRef.logDecay (A0 m c) (A1 m c) (A2 m c) (A3 m c) (A4 m c) (A7 m c) q l

/-- The logarithm of a point's decay. -/
theorem log_at (t : Fin cfg0.N) (k : Fin 256) (l : Fin 1536) :
    OddRun.rate (grid0.coords t) (iblk m c 0 t) (iblk m c 1 t) (iblk m c 2 t) (iblk m c 3 t) (iblk m c 4 t) (iblk m c 5 t) (ix2 k l)
      * OddRun.soft (iblk m c 8 t) (ix2 0 l) = L m c (256 * t.val + k.val) l :=
  congrArg₂ (fun a b : EReal => a * b) (rate_at m c t k l) (soft_at m c t l)

theorem cMinusEight : Ideal.ofBits .f32 0xC1000000#32 = ((-8 : ℝ) : EReal) := by
  simp [Ideal.ofBits, Ideal.ieee, -EReal.coe_mul]; norm_num

theorem logistic_nonneg (x : EReal) : 0 ≤ Ideal.logistic x := by
  induction x with
  | bot => rw [Ideal.logistic_bot]
  | top => rw [Ideal.logistic_top]; exact zero_le_one
  | coe r => rw [Ideal.logistic_coe]; exact EReal.coe_nonneg.mpr (by positivity)

/-- The logarithm of a decay is not positive. -/
theorem L_nonpos (q : ℕ) (l : Fin 1536) : L m c q l ≤ 0 := by
  show _ * _ * _ ≤ (0 : EReal)
  rw [cMinusEight, mul_assoc]
  have e : ((-8 : ℝ) : EReal) = -((8 : ℝ) : EReal) := by rw [← EReal.coe_neg]
  rw [e, EReal.neg_mul]
  refine EReal.neg_le_zero.mpr (mul_nonneg (EReal.coe_nonneg.mpr (by norm_num)) (mul_nonneg (logistic_nonneg _) (OddScal.soft_nonneg _)))

end Cert.OddConv

end
-- ==== Proof.OddFinal.lean ====
/- The forward odd layer: the states of the recurrence, point after point, and the three results. -/
module

public import proofs.«01_k».proof.Proof.OddConv

@[expose] public section

set_option maxRecDepth 16384

noncomputable section

namespace Cert.OddFinal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddFwdKernelIdeal Cert.OddFwdKernelIdeal.Gen Cert.OddBlk Cert.OddConv
variable (m : (ℓ : Loc nD τ sig) → Buf (Elt Ideal) ℓ) (c : Dev nD)

/-- No row's multiplier falls under the kernel's floor. -/
def Kept : Prop := ∀ q < 2048, ∀ l, Ideal.ofBits .f32 0x0DA24260#32 ≤ -(Ideal.exp (2 * L m c q l) - 1)

theorem cFloor : ∃ x : ℝ, 0 < x ∧ Ideal.ofBits .f32 0x0DA24260#32 = (x : EReal) := by
  refine ⟨10633824 / 2 ^ 123, by norm_num, ?_⟩
  simp [Ideal.ofBits, Ideal.ieee, -EReal.coe_mul]; norm_num

/-- The rate of a point. -/
abbrev rt (t : Fin cfg0.N) : Vec Ideal S256x1536 .f32 :=
  OddRun.rate (grid0.coords t) (iblk m c 0 t) (iblk m c 1 t) (iblk m c 2 t) (iblk m c 3 t) (iblk m c 4 t) (iblk m c 5 t)
/-- The convolution of a point. -/
abbrev cv (t : Fin cfg0.N) : Vec Ideal S256x1536 .f32 :=
  OddRun.conv (grid0.coords t) (iblk m c 0 t) (iblk m c 1 t) (iblk m c 2 t) (iblk m c 3 t)
/-- The input gate of a point. -/
abbrev ig (t : Fin cfg0.N) : Vec Ideal S256x1536 .f32 :=
  OddRun.inp (grid0.coords t) (iblk m c 0 t) (iblk m c 1 t) (iblk m c 2 t) (iblk m c 3 t) (iblk m c 6 t) (iblk m c 7 t)
/-- The softplus of a point. -/
abbrev sf (t : Fin cfg0.N) : Vec Ideal S1x1536 .f32 := OddRun.soft (iblk m c 8 t)

/-- The decays of a point. -/
theorem dec_eq (t : Fin cfg0.N) (l : Fin 1536) (n : ℕ) (hn : n < 256) :
    OddSeq.dec (sf m c t) (rt m c t) l n = Ideal.exp (L m c (256 * t.val + n) l) := by
  unfold OddSeq.dec
  rw [dif_pos hn]
  exact congrArg Ideal.exp (log_at m c t ⟨n, hn⟩ l)

theorem dec_ok (t : Fin cfg0.N) (l : Fin 1536) (n : ℕ) (hn : n < 256) :
    0 ≤ OddSeq.dec (sf m c t) (rt m c t) l n ∧ OddSeq.dec (sf m c t) (rt m c t) l n ≠ ⊤ := by
  rw [dec_eq m c t l n hn]
  exact OddScal.exp_le _ (L_nonpos m c _ l)

/-- What a point's rows add. -/
theorem add_eq (hk : Kept m c) (t : Fin cfg0.N) (l : Fin 1536) (n : ℕ) (hn : n < 256) :
    OddSeq.add (cv m c t) (ig m c t) (sf m c t) (rt m c t) l n
      = OddRef.drive (A0 m c) (A1 m c) (A2 m c) (A3 m c) (A4 m c) (A5 m c) (A6 m c) (A7 m c) (256 * t.val + n) l := by
  have ht := pt_lt t
  obtain ⟨x, hx, ex⟩ := cFloor
  have k := hk (256 * t.val + n) (by omega) l
  have e := log_at m c t ⟨n, hn⟩ l
  have two : 2 * L m c (256 * t.val + n) l ≤ 0 := by
    have p : 0 ≤ 2 * -L m c (256 * t.val + n) l := mul_nonneg (by norm_num) (by simpa using EReal.neg_le_neg_iff.mpr (L_nonpos m c (256 * t.val + n) l))
    rw [mul_neg] at p
    simpa using EReal.le_neg_of_le_neg p
  unfold OddSeq.add
  rw [dif_pos hn]
  unfold OddPay.drive
  rw [OddPay.decay_eq, OddPay.log_eq]
  rw [show rt m c t (ix2 ⟨n, hn⟩ l) * sf m c t (ix2 0 l) = L m c (256 * t.val + n) l from e]
  rw [OddScal.kept _ (L_nonpos m c _ l) _ k, OddScal.root _ x hx (ex ▸ k) (OddScal.sub_ne_top _ two)]
  exact congrArg₂ (fun a b : EReal => _ * (a * b)) (inp_at m c t ⟨n, hn⟩ l) (conv_at m c t ⟨n, hn⟩ l)

/-- The reference's states. -/
abbrev H (l : Fin 1536) (n : ℕ) : EReal := OddRef.h_ (A0 m c) (A1 m c) (A2 m c) (A3 m c) (A4 m c) (A5 m c) (A6 m c) (A7 m c) l n

/-- Running the rows of a point from the state before it is running on. -/
theorem run_on (hk : Kept m c) (t : Fin cfg0.N) (l : Fin 1536) (n : ℕ) (hn : n ≤ 256) :
    OddScal.run (OddSeq.dec (sf m c t) (rt m c t) l) (OddSeq.add (cv m c t) (ig m c t) (sf m c t) (rt m c t) l) (H m c l (256 * t.val)) n
      = H m c l (256 * t.val + n) :=
  (OddScal.run_congr _ _ _ _ _ _ fun k h => ⟨dec_eq m c t l k (by omega), add_eq m c hk t l k (by omega)⟩).trans
    (OddScal.run_shift (fun q => Ideal.exp (L m c q l)) (fun q => OddRef.drive (A0 m c) (A1 m c) (A2 m c) (A3 m c) (A4 m c) (A5 m c) (A6 m c) (A7 m c) q l) 0 (256 * t.val) n)

/-- The state carried into a point. -/
theorem state_at (hk : Kept m c) (l : Fin 1536) (n : ℕ) (hn : n ≤ 8) : OddRun.first (OddRun.stateAt m c n) (ix2 0 l) = H m c l (256 * n) := by
  induction n with
  | zero =>
    show OddRun.first k0_pay3 (ix2 0 l) = 0
    pointwise [OddRun.first, k0_pay3]
  | succ n ih =>
    have p : n < cfg0.N := lt_of_lt_of_eq (by omega) OddRun.points_eq.symm
    have s := OddRun.stateAt_succ (F := Ideal) m c ⟨n, p⟩
    rw [show OddRun.stateAt m c (n + 1) = _ from s]
    have r := OddSeq.carried_at (cv m c ⟨n, p⟩) (ig m c ⟨n, p⟩) (sf m c ⟨n, p⟩) (rt m c ⟨n, p⟩) (fun l k hk => dec_ok m c ⟨n, p⟩ l k hk)
      (OddRun.first (OddRun.stateAt m c n)) l 32 le_rfl
    rw [ih (by omega)] at r
    have f : ∀ X : Vec Ideal S1x1536 .f32, OddRun.first (k0_pay51 X) (ix2 0 l) = X (ix2 0 l) := fun X => by
      pointwise [OddRun.first, k0_pay51]
    rw [f]
    exact r.trans (run_on m c hk ⟨n, p⟩ l 256 le_rfl)

/-- The states of a point's rows. -/
theorem hs_at (hk : Kept m c) (t : Fin cfg0.N) (r : Fin 256) (l : Fin 1536) : OddRun.hsAt m c t (ix2 r l) = H m c l ((row t r).val + 1) := by
  have s := OddSeq.states_at (cv m c t) (ig m c t) (sf m c t) (rt m c t) (fun l k hk => dec_ok m c t l k hk) (OddRun.first (OddRun.stateAt m c t.val)) r l
  rw [state_at m c hk l t.val (pt_lt t).le] at s
  exact s.trans (run_on m c hk t l (r.val + 1) (by omega))

/-- The reference's loop after its last round. -/
abbrev last := OddRef.it (A0 m c) (A1 m c) (A2 m c) (A3 m c) (A4 m c) (A5 m c) (A6 m c) (A7 m c) 2048

theorem hs_ref (hk : Kept m c) (t : Fin cfg0.N) (r : Fin 256) (l : Fin 1536) : OddRun.hsAt m c t (ix2 r l) = (last m c).main_v70_4 (ix2 (row t r) l) :=
  (hs_at m c hk t r l).trans (OddRef.it_rows (A0 m c) (A1 m c) (A2 m c) (A3 m c) (A4 m c) (A5 m c) (A6 m c) (A7 m c) 2048 le_rfl (row t r) (row t r).isLt l).symm

/-! Where a point's blocks of the results lie. -/
theorem idx_out : ∀ t : Fin cfg0.N, win0_11.index t = ![t.val, 0] ∧ win0_12.index t = ![t.val, 0] ∧ win0_13.index t = ![t.val, 0] := by
  decide +kernel

theorem emb11 (t : Fin cfg0.N) (r : Fin 256) (l : Fin 1536) : (win0_11.blk t).view.emb (ix2 r l) = ix2 (row t r) l := by
  blk_ext [idx_out t, row]

theorem emb12 (t : Fin cfg0.N) (r : Fin 256) (l : Fin 1536) : (win0_12.blk t).view.emb (ix2 r l) = ix2 (row t r) l := by
  blk_ext [idx_out t, row]

theorem emb13 (t : Fin cfg0.N) (r : Fin 256) (l : Fin 1024) : (win0_13.blk t).view.emb (ix2 r l) = ix2 (row t r) l := by
  blk_ext [idx_out t, row]

/-- A gated row of the kernel. -/
theorem y_form (x0 : Vec Ideal S256x3072 .f32) (hs : Vec Ideal S256x1536 .f32) (r : Fin 256) (l : Fin 1536) :
    OddRun.outY x0 hs (ix2 r l) = hs (ix2 r l) * (x0 (ix2 r (⟨1536 + l.val, by omega⟩ : Fin 3072)) * Ideal.logistic (x0 (ix2 r (⟨1536 + l.val, by omega⟩ : Fin 3072)))) := by
  pointwise [OddRun.outY, k0_pay1, k0_pay52]
  rw [Scalars.cHalf, FwdGate.half_tanh]

/-- A gated row of the reference. -/
theorem y_ref (s : Cert.OddFwdReferenceIdeal.Step.State Ideal) (x0 : Vec Ideal S2048x3072 .f32) (q : Fin 2048) (l : Fin 1536) :
    (Cert.OddFwdReferenceIdeal.Step.R_main_v74 s x0 : Vec Ideal S2048x1536 .bf16) (ix2 q l)
      = s.main_v70_4 (ix2 q l) * (x0 (ix2 q (⟨1536 + l.val, by omega⟩ : Fin 3072)) * Ideal.logistic (x0 (ix2 q (⟨1536 + l.val, by omega⟩ : Fin 3072)))) := by
  pointwise [Cert.OddFwdReferenceIdeal.Step.R_main_v74]
  rfl

/-- A row of the kernel after the output product. -/
theorem hn_form (x9 : Vec Ideal S256x1024 .f32) (x10 : Vec Ideal S1x1536x1024 .bf16) (y : Vec Ideal S256x1536 .bf16) (r : Fin 256) (l : Fin 1024) :
    OddRun.outH x9 x10 y (ix2 r l) = x9 (ix2 r l) + ∑ k : Fin 1536, y (ix2 r k) * x10 (ix3 0 k l) := by
  pointwise [OddRun.outH, k0_pay2]

/-- A row of the reference after the output product. -/
theorem hn_ref (s : Cert.OddFwdReferenceIdeal.Step.State Ideal) (x0 : Vec Ideal S2048x3072 .f32) (x8 : Vec Ideal S2048x1024 .f32) (x9 : Vec Ideal S1536x1024 .bf16) (q : Fin 2048) (l : Fin 1024) :
    (Cert.OddFwdReferenceIdeal.Step.R_main_v76 s x0 x8 x9 : Vec Ideal S2048x1024 .f32) (ix2 q l)
      = x8 (ix2 q l) + ∑ k : Fin 1536, (Cert.OddFwdReferenceIdeal.Step.R_main_v74 s x0 : Vec Ideal S2048x1536 .bf16) (ix2 q k) * x9 (ix2 k l) := by
  have e : Cert.OddFwdReferenceIdeal.Step.R_main_v76 s x0 x8 x9 = addf x8 (Host.dotGeneral Cert.OddFwdReferenceIdeal.dot_S2048x1536_S1536x1024_S2048x1024_1_0_0_1_n_n none (Cert.OddFwdReferenceIdeal.Step.R_main_v74 s x0) x9) := rfl
  rw [e]
  pointwise

/-- The gated rows of a point. -/
theorem y_at (hk : Kept m c) (t : Fin cfg0.N) (r : Fin 256) (l : Fin 1536) :
    OddRun.yAt m c t (ix2 r l) = (Cert.OddFwdReferenceIdeal.Step.R_main_v74 (last m c) (A0 m c) : Vec Ideal S2048x1536 .bf16) (ix2 (row t r) l) := by
  refine (y_form (iblk m c 0 t) _ r l).trans (Eq.trans ?_ (y_ref _ _ _ _).symm)
  exact congrArg₂ (fun a b : EReal => a * (b * Ideal.logistic b)) (hs_ref m c hk t r l) (p_blk m c t r _)

/-- The gated rows. -/
theorem final11 (hk : Kept m c) : (OddRun.dats m 0 c).arrAt 11 cfg0.N = Cert.OddFwdReferenceIdeal.Step.R_main_v74 (last m c) (A0 m c) := by
  refine (OddRun.dats m 0 c).arrAt_eq_of_covers 11 _ (by decide +kernel) fun t _ y => ?_
  blk_simp
  rw [OddRun.after_11]
  obtain ⟨r, l, rfl⟩ : ∃ (r : Fin 256) (l : Fin 1536), y = ix2 r l := ⟨y 0, y 1, eq_ix2 y⟩
  rw [emb11]
  exact y_at m c hk t r l

/-- The states. -/
theorem final12 (hk : Kept m c) : (OddRun.dats m 0 c).arrAt 12 cfg0.N = (last m c).main_v70_4 := by
  refine (OddRun.dats m 0 c).arrAt_eq_of_covers 12 _ (by decide +kernel) fun t _ y => ?_
  blk_simp
  rw [OddRun.after_12]
  obtain ⟨r, l, rfl⟩ : ∃ (r : Fin 256) (l : Fin 1536), y = ix2 r l := ⟨y 0, y 1, eq_ix2 y⟩
  rw [emb12]
  exact hs_ref m c hk t r l

/-- The stream after the layer. -/
theorem final13 (hk : Kept m c) : (OddRun.dats m 0 c).arrAt 13 cfg0.N = Cert.OddFwdReferenceIdeal.Step.R_main_v76 (last m c) (A0 m c) (A8 m c) (A9 m c) := by
  refine (OddRun.dats m 0 c).arrAt_eq_of_covers 13 _ (by decide +kernel) fun t _ y => ?_
  blk_simp
  rw [OddRun.after_13]
  obtain ⟨r, l, rfl⟩ : ∃ (r : Fin 256) (l : Fin 1024), y = ix2 r l := ⟨y 0, y 1, eq_ix2 y⟩
  rw [emb13]
  refine (hn_form (iblk m c 9 t) (iblk m c 10 t) _ r l).trans (Eq.trans ?_ (hn_ref _ _ _ _ _ _).symm)
  refine congrArg₂ (fun a b : EReal => a + b) (h_blk m c t r l) (Finset.sum_congr rfl fun k _ => ?_)
  exact congrArg₂ (fun a b : EReal => a * b) (y_at m c hk t r k) (o_blk m c t k l)

end Cert.OddFinal

end
-- ==== Proof.OddClaim.lean ====
/- The forward odd layer: the claims. -/
module

public import proofs.«01_k».proof.Defs
public import proofs.«01_k».proof.Proof.OddStep
public import Idealize.ShloMosaic.Lib.ReduceAll
public import proofs.«01_k».proof.Proof.Gen.OddFwdKernel
public import proofs.«01_k».proof.Proof.OddFinal

@[expose] public section

set_option maxRecDepth 16384

noncomputable section

namespace Cert.OddClaim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The precondition's operations fit the shapes they are applied to. -/
theorem facts_pre : Cert.Pre_multiplier_kept.Facts where
  slices_S2048x3072_S2048x1536_0_0 := by decide
  bcast_S_S3x1536 := by decide
  concatenates_S3x1536_S2048x1536_S2051x1536_d0 := by decide
  bcast_S2048_S2048x1_0 := by decide
  bcast_S4_S1x4_1 := by decide
  bcast_S2048x1_S2048x4_0_1 := by decide
  bcast_S1x4_S2048x4_0_1 := by decide
  bcast_S_S2048x4 := by decide
  bcast_S2048x4_S2048x4x1_0_1 := by decide
  bcast_S4x1536_S1x4x1536_1_2 := by decide
  bcast_S1x4x1536_S2048x4x1536_0_1_2 := by decide
  reducesTo_S2048x4x1536_S2048x1536_d1 := by decide
  h_S_ := by decide
  bcast_S1536_S1x1536_1 := by decide
  bcast_S1x1536_S2048x1536_0_1 := by decide
  shapeCasts_S2048x1536_S2048x12x128 := by decide
  bitsLt_bf16_f32 := by decide
  transposes_S12x128x2048_S2048x12x128_2_0_1 := by decide
  shapeCasts_S2048x12x128_S2048x1536 := by decide
  bcast_S_S2048x1536 := by decide
  bcast_S_S1536 := by decide
  reducesTo_S2048x1536_S_d0_1 := by decide
  gather_S2051x1536_S2048x4x1_S2048x4x1536_2_0_n_n_0_2_11536_wf := by decide
  dot_S12x128x128_S2048x12x128_S12x128x2048_1_2_2_0_0_1_wf := by decide

instance : Cert.Pre_multiplier_kept.Facts := facts_pre

theorem le_of_cmp (x y : EReal) (h : Ideal.cmp .oge x y = 1#1) : y ≤ x := by
  by_contra hn
  have e : Ideal.cmp .oge x y = 0#1 := by simp only [Ideal.cmp, decide_eq_false hn]; rfl
  exact absurd (e.symm.trans h) (by decide)

/-- The precondition says that no multiplier of the reference falls under the kernel's floor. -/
theorem kept_of_pre (x0 x1 x2 x3 x4 x5 x6 x7 x8 x9)
    (h : Cert.Pre_multiplier_kept.fn (F := Ideal) x0 x1 x2 x3 x4 x5 x6 x7 x8 x9 = fun _ => 1#1) (q : Fin 2048) (l : Fin 1536) :
    Ideal.ofBits .f32 0x0DA24260#32 ≤ -(Ideal.exp (2 * OddRef.logDecay x0 x1 x2 x3 x4 x7 q.val l) - 1) := by
  haveI : Subsingleton Cert.Pre_multiplier_kept.S_.Idx := ⟨fun a b => funext fun i => i.elim0⟩
  have e := Host.reduce_andi_all _ _ _ _ _ (congrFun h (fun i => i.elim0)) (ix2 q l)
  refine le_of_cmp _ _ ?_
  rw [← OddRef.kept_at x0 x1 x2 x3 x4 x5 x6 x7 q l]
  exact e

/-- The kernel leaves its arguments alone and its semaphores at zero: as written and in ideal arithmetic it is one program. -/
theorem frame_kernel : Cert.quiescent_OddFwdKernel := fun m ρ _ =>
  cast (by sl_kernel_rfl) (OddRun.frame (F := Bits) m ρ)

theorem frame_ideal : Cert.quiescent_OddFwdKernelIdeal := fun m ρ _ => OddRun.frame m ρ

/-- The reference leaves its arguments alone and has no semaphores. -/
theorem frame_reference : Cert.quiescent_OddFwdReferenceIdeal := fun m ρ _ =>
  (θ_run Cert.OddFwdReferenceIdeal.defs _ _).mono
    (fun r h => ⟨fun c => (h c).2.2.2, sem_eq_zero_of_no_sems (by decide) r.2⟩)
    (OddStep.run_iter (F := Ideal) m ρ (fun c n => Nat.rec (OddStep.initState m c) (fun j s => Cert.OddFwdReferenceIdeal.Step.step j s) n) (fun _ => rfl) (fun _ _ => rfl))

/-- All three results agree. -/
theorem algebraic : Cert.algebraic_OddFwdKernelIdeal_OddFwdReferenceIdeal_pre_multiplier_kept := by
  intro m g m' g' hpre hargs
  have hk : ∀ c : Dev Cert.OddFwdKernelIdeal.nD, OddFinal.Kept m c := fun c q hq l => kept_of_pre _ _ _ _ _ _ _ _ _ _ (hpre c) ⟨q, hq⟩ l
  refine ⟨fun c => (OddRun.dats m 0 c).arrAt 11 Cert.OddFwdKernelIdeal.cfg0.N,
    fun c => (OddRun.dats m 0 c).arrAt 12 Cert.OddFwdKernelIdeal.cfg0.N,
    fun c => (OddRun.dats m 0 c).arrAt 13 Cert.OddFwdKernelIdeal.cfg0.N,
    (θ_run _ _ _).mono (fun r h c => ⟨(h.1 c).1, (h.1 c).2.1, (h.1 c).2.2, h.2 c⟩) (θ_run_and (OddRun.run_results m g) (OddRun.unchanged m g)),
    (θ_run _ _ _).mono (fun r h c => ?_) (OddStep.run_iter (F := Ideal) m' g' (fun c => OddRef.it (m' ((c.tc : Thread Cert.OddFwdReferenceIdeal.nD Cert.OddFwdReferenceIdeal.τ).loc Cert.OddFwdReferenceIdeal.main_arg0)) (m' ((c.tc : Thread Cert.OddFwdReferenceIdeal.nD Cert.OddFwdReferenceIdeal.τ).loc Cert.OddFwdReferenceIdeal.main_arg1)) (m' ((c.tc : Thread Cert.OddFwdReferenceIdeal.nD Cert.OddFwdReferenceIdeal.τ).loc Cert.OddFwdReferenceIdeal.main_arg2)) (m' ((c.tc : Thread Cert.OddFwdReferenceIdeal.nD Cert.OddFwdReferenceIdeal.τ).loc Cert.OddFwdReferenceIdeal.main_arg3)) (m' ((c.tc : Thread Cert.OddFwdReferenceIdeal.nD Cert.OddFwdReferenceIdeal.τ).loc Cert.OddFwdReferenceIdeal.main_arg4)) (m' ((c.tc : Thread Cert.OddFwdReferenceIdeal.nD Cert.OddFwdReferenceIdeal.τ).loc Cert.OddFwdReferenceIdeal.main_arg5)) (m' ((c.tc : Thread Cert.OddFwdReferenceIdeal.nD Cert.OddFwdReferenceIdeal.τ).loc Cert.OddFwdReferenceIdeal.main_arg6)) (m' ((c.tc : Thread Cert.OddFwdReferenceIdeal.nD Cert.OddFwdReferenceIdeal.τ).loc Cert.OddFwdReferenceIdeal.main_arg7))) (fun _ => rfl) (fun _ _ => rfl))⟩
  obtain ⟨h0, h1, h2, h3⟩ := h c
  obtain ⟨a0, a1, a2, a3, a4, a5, a6, a7, a8, a9⟩ := hargs c
  refine ⟨h0.trans ?_, h1.trans ?_, h2.trans ?_, h3⟩
  · rw [a0, a1, a2, a3, a4, a5, a6, a7]; exact (OddFinal.final11 m c (hk c)).symm
  · rw [a0, a1, a2, a3, a4, a5, a6, a7]; exact (OddFinal.final12 m c (hk c)).symm
  · rw [a0, a1, a2, a3, a4, a5, a6, a7, a8, a9]; exact (OddFinal.final13 m c (hk c)).symm

end Cert.OddClaim

end
-- ==== Proof.DwInClaim.lean ====
/- The gradient of the input projection's weights: the kernel's result is the reference's. -/
module

public import Idealize.ShloMosaic.Lib.Pointwise
public import Idealize.ShloMosaic.Lib.Pipeline.ValueKit
public import proofs.«01_k».proof.Defs
public import proofs.«01_k».proof.Proof.Gen.DwInKernelIdeal.Value
public import proofs.«01_k».proof.Proof.Gen.DwInReferenceIdeal.Run
public import proofs.«01_k».proof.Proof.Gen.DwInReferenceIdeal.Read

@[expose] public section

set_option maxRecDepth 16384

noncomputable section

namespace Cert.DwInClaim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DwInKernelIdeal Cert.DwInKernelIdeal.Gen Cert.DwInReferenceIdeal.Read

variable (m : (ℓ : Loc nD τ sig) → Buf (Elt Ideal) ℓ) (c : Dev nD)

/-- The normalised rows and the gradient of their projection, as the run finds them. -/
abbrev A : Vec Ideal S2048x1024 .bf16 := m ((c : Thread nD τ).loc main_arg0)
abbrev B : Vec Ideal S2048x5120 .bf16 := m ((c : Thread nD τ).loc main_arg1)

theorem idx : ∀ t : Fin cfg0.N, win0_0.index t = ![0, 0] ∧ win0_1.index t = ![0, t.val] ∧ win0_2.index t = ![0, t.val, 0, 0] :=
  (by decide +kernel : ∀ t : Fin grid0.N, _)

/-- The column that column `n` of block `t` is, and the block of a point. -/
def col (t : Fin cfg0.N) (n : Fin 1280) : Fin 5120 := ⟨t.val * 1280 + n.val, by have := t.isLt.trans_eq N_0; omega⟩
def blkOf (t : Fin cfg0.N) : Fin 4 := ⟨t.val, t.isLt.trans_eq N_0⟩

theorem block0 (t : Fin cfg0.N) (k : Fin 2048) (d : Fin 1024) : (iblk m c 0 t : Vec Ideal S2048x1024 .bf16) (ix2 k d) = A m c (ix2 k d) := by
  blk_point [iblk, V, idx t]

theorem block1 (t : Fin cfg0.N) (k : Fin 2048) (n : Fin 1280) : (iblk m c 1 t : Vec Ideal S2048x1280 .bf16) (ix2 k n) = B m c (ix2 k (col t n)) := by
  blk_point [iblk, V, idx t, col]

theorem place (t : Fin cfg0.N) (d : Fin 1024) (n : Fin 1280) :
    (win0_2.blk t).view.emb (ix4 0 0 d n) = ix4 0 (blkOf t) d n := by
  blk_ext [idx t, blkOf]

/-- A place of the reference's product. -/
theorem ref_at (X : Vec Ideal S2048x1024 .bf16) (Y : Vec Ideal S2048x5120 .bf16) (t : Fin cfg0.N) (d : Fin 1024) (n : Fin 1280) :
    val_main_v4 (F := Ideal) X Y (ix4 0 (blkOf t) d n) = (∑ k : Fin 2048, X (ix2 k d) * Y (ix2 k (col t n)) : EReal) := by
  pointwise [val_main_v4, val_main_v3, val_main_v2, val_main_v1, val_main_v0]
  exact Finset.sum_congr rfl fun k _ => mul_comm _ _

/-- A place of the kernel's product. -/
theorem pay_at (X : Vec Ideal S2048x1024 .bf16) (Y : Vec Ideal S2048x1280 .bf16) (d : Fin 1024) (n : Fin 1280) :
    k0_pay1 (F := Ideal) X Y (ix4 0 0 d n) = (∑ k : Fin 2048, X (ix2 k d) * Y (ix2 k n) : EReal) := by
  pointwise [k0_pay1]

theorem final : (dats m 0 c).arrAt 2 cfg0.N = val_main_v4 (F := Ideal) (A m c) (B m c) := by
  refine (dats m 0 c).arrAt_eq_of_covers 2 _ (by decide +kernel) fun t _ y => ?_
  blk_simp
  rw [after0_2]
  obtain ⟨d, n, rfl⟩ : ∃ (d : Fin 1024) (n : Fin 1280), y = ix4 0 0 d n :=
    ⟨y 2, y 3, by rw [eq_ix4 y]; congr 1 <;> exact Subsingleton.elim (α := Fin 1) _ _⟩
  rw [place, ref_at]
  unfold out0_2; frame_out
  refine (pay_at _ _ d n).trans (Finset.sum_congr rfl fun k _ => ?_)
  rw [block0 m c t k d, block1 m c t k n]

theorem frame_reference : Cert.quiescent_DwInReferenceIdeal := fun m ρ _ =>
  (θ_run Cert.DwInReferenceIdeal.defs _ _).mono
    (fun r h => ⟨fun c => (h c).2, sem_eq_zero_of_no_sems (by decide) r.2⟩)
    (Cert.DwInReferenceIdeal.Value.run (F := Ideal) m ρ)

/-- The result agrees. -/
theorem algebraic : Cert.algebraic_DwInKernelIdeal_DwInReferenceIdeal := by
  intro m g m' g' _ hargs
  refine ⟨fun c => (dats m 0 c).arrAt 2 cfg0.N, Cert.DwInKernelIdeal.Value.run_blocks m g,
    (θ_run _ _ _).mono (fun r h c => ?_) (Cert.DwInReferenceIdeal.Value.run (F := Ideal) m' g')⟩
  obtain ⟨h0, hk⟩ := h c
  obtain ⟨a0, a1⟩ := hargs c
  refine ⟨h0.trans ?_, hk⟩
  rw [val_main_v4_eq, a0, a1]; exact (final m c).symm

end Cert.DwInClaim

end
-- ==== Proof.DwOutClaim.lean ====
/- The gradient of the output projection's weights: the kernel's result is the reference's. -/
module

public import Idealize.ShloMosaic.Lib.Pointwise
public import Idealize.ShloMosaic.Lib.Pipeline.ValueKit
public import proofs.«01_k».proof.Defs
public import proofs.«01_k».proof.Proof.Gen.DwOutKernelIdeal.Value
public import proofs.«01_k».proof.Proof.Gen.DwOutReferenceIdeal.Run
public import proofs.«01_k».proof.Proof.Gen.DwOutReferenceIdeal.Read

@[expose] public section

set_option maxRecDepth 16384

noncomputable section

namespace Cert.DwOutClaim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DwOutKernelIdeal Cert.DwOutKernelIdeal.Gen Cert.DwOutReferenceIdeal.Read

variable (m : (ℓ : Loc nD τ sig) → Buf (Elt Ideal) ℓ) (c : Dev nD)

/-- The mixed rows and the gradient of their projection, as the run finds them. -/
abbrev A : Vec Ideal S2048x2048 .bf16 := m ((c : Thread nD τ).loc main_arg0)
abbrev B : Vec Ideal S2048x1024 .bf16 := m ((c : Thread nD τ).loc main_arg1)

theorem idx : ∀ t : Fin cfg0.N, win0_0.index t = ![0, t.val] ∧ win0_1.index t = ![0, 0] ∧ win0_2.index t = ![0, t.val, 0] :=
  (by decide +kernel : ∀ t : Fin grid0.N, _)

/-- The column of the mixed rows that column `j` of block `t` is. -/
def col (t : Fin cfg0.N) (j : Fin 512) : Fin 2048 := ⟨t.val * 512 + j.val, by have := t.isLt.trans_eq N_0; omega⟩

theorem block0 (t : Fin cfg0.N) (k : Fin 2048) (j : Fin 512) : (iblk m c 0 t : Vec Ideal S2048x512 .bf16) (ix2 k j) = A m c (ix2 k (col t j)) := by
  blk_point [iblk, V, idx t, col]

theorem block1 (t : Fin cfg0.N) (k : Fin 2048) (d : Fin 1024) : (iblk m c 1 t : Vec Ideal S2048x1024 .bf16) (ix2 k d) = B m c (ix2 k d) := by
  blk_point [iblk, V, idx t]

theorem place (t : Fin cfg0.N) (j : Fin 512) (d : Fin 1024) : (win0_2.blk t).view.emb (ix3 0 j d) = ix3 0 (col t j) d := by
  blk_ext [idx t, col]

theorem final : (dats m 0 c).arrAt 2 cfg0.N = val_main_v2 (F := Ideal) (A m c) (B m c) := by
  refine (dats m 0 c).arrAt_eq_of_covers 2 _ (by decide +kernel) fun t _ y => ?_
  blk_simp
  rw [after0_2]
  obtain ⟨j, d, rfl⟩ : ∃ (j : Fin 512) (d : Fin 1024), y = ix3 0 j d :=
    ⟨y 1, y 2, by rw [eq_ix3 y]; congr 1; exact Subsingleton.elim (α := Fin 1) _ _⟩
  rw [place]
  unfold out0_2; frame_out
  have h0 := fun k => block0 m c t k j
  have h1 := fun k => block1 m c t k d
  generalize (iblk m c 0 t : Vec Ideal S2048x512 .bf16) = x0 at *
  generalize (iblk m c 1 t : Vec Ideal S2048x1024 .bf16) = x1 at *
  pointwise [k0_pay1, val_main_v2, val_main_v1, val_main_v0, h0, h1]

theorem frame_reference : Cert.quiescent_DwOutReferenceIdeal := fun m ρ _ =>
  (θ_run Cert.DwOutReferenceIdeal.defs _ _).mono
    (fun r h => ⟨fun c => (h c).2, sem_eq_zero_of_no_sems (by decide) r.2⟩)
    (Cert.DwOutReferenceIdeal.Value.run (F := Ideal) m ρ)

/-- The result agrees. -/
theorem algebraic : Cert.algebraic_DwOutKernelIdeal_DwOutReferenceIdeal := by
  intro m g m' g' _ hargs
  refine ⟨fun c => (dats m 0 c).arrAt 2 cfg0.N, Cert.DwOutKernelIdeal.Value.run_blocks m g,
    (θ_run _ _ _).mono (fun r h c => ?_) (Cert.DwOutReferenceIdeal.Value.run (F := Ideal) m' g')⟩
  obtain ⟨h0, hk⟩ := h c
  obtain ⟨a0, a1⟩ := hargs c
  refine ⟨h0.trans ?_, hk⟩
  rw [val_main_v2_eq, a0, a1]; exact (final m c).symm

end Cert.DwOutClaim

end
-- ==== Proof.AdamInEvenClaim.lean ====
/- The optimiser's step on the input projections' weights of the even layers: each result of the kernel is the reference's. -/
module

public import Idealize.ShloMosaic.Lib.Pointwise
public import Idealize.ShloMosaic.Lib.Pipeline.ValueKit
public import proofs.«01_k».proof.Defs
public import proofs.«01_k».proof.Proof.Gen.AdamInEvenKernelIdeal.Value
public import proofs.«01_k».proof.Proof.Gen.AdamInEvenReferenceIdeal.Run
public import proofs.«01_k».proof.Proof.Gen.AdamInEvenReferenceIdeal.Read

@[expose] public section

set_option maxRecDepth 16384

noncomputable section

namespace Cert.AdamInEvenClaim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.AdamInEvenKernelIdeal Cert.AdamInEvenKernelIdeal.Gen Cert.AdamInEvenReferenceIdeal.Read

variable (m : (ℓ : Loc nD τ sig) → Buf (Elt Ideal) ℓ) (c : Dev nD)

/-- The weights, their gradient and the two moments, as the run finds them. -/
abbrev W : Vec Ideal S2x1024x1280 .f32 := m ((c : Thread nD τ).loc main_arg0)
abbrev G : Vec Ideal S2x1024x1280 .f32 := m ((c : Thread nD τ).loc main_arg1)
abbrev M1 : Vec Ideal S2x1024x1280 .f32 := m ((c : Thread nD τ).loc main_arg2)
abbrev M2 : Vec Ideal S2x1024x1280 .f32 := m ((c : Thread nD τ).loc main_arg3)

/-- All windows walk their arrays alike. -/
theorem idx : ∀ t : Fin cfg0.N, win0_0.index t = (![t.val / 4, t.val % 4, 0] : Fin 3 → ℕ) ∧ win0_1.index t = (![t.val / 4, t.val % 4, 0] : Fin 3 → ℕ) ∧ win0_2.index t = (![t.val / 4, t.val % 4, 0] : Fin 3 → ℕ) ∧ win0_3.index t = (![t.val / 4, t.val % 4, 0] : Fin 3 → ℕ) ∧ win0_4.index t = (![t.val / 4, t.val % 4, 0] : Fin 3 → ℕ) ∧ win0_5.index t = (![t.val / 4, t.val % 4, 0] : Fin 3 → ℕ) ∧ win0_6.index t = (![t.val / 4, t.val % 4, 0] : Fin 3 → ℕ) ∧ win0_7.index t = (![t.val / 4, t.val % 4, 0] : Fin 3 → ℕ) :=
  (by decide +kernel : ∀ t : Fin grid0.N, _)

/-- The layer and the row of the array that row `r` of block `t` is. -/
def lay (t : Fin cfg0.N) : Fin 2 := ⟨t.val / 4, by have := t.isLt.trans_eq N_0; omega⟩
def row (t : Fin cfg0.N) (r : Fin 256) : Fin 1024 := ⟨t.val % 4 * 256 + r.val, by omega⟩

/-- What the four arguments' blocks hold. -/
theorem blocks (t : Fin cfg0.N) (r : Fin 256) (l : Fin 1280) :
    (iblk m c 0 t : Vec Ideal S1x256x1280 .f32) (ix3 0 r l) = W m c (ix3 (lay t) (row t r) l)
    ∧ (iblk m c 1 t : Vec Ideal S1x256x1280 .f32) (ix3 0 r l) = G m c (ix3 (lay t) (row t r) l)
    ∧ (iblk m c 2 t : Vec Ideal S1x256x1280 .f32) (ix3 0 r l) = M1 m c (ix3 (lay t) (row t r) l)
    ∧ (iblk m c 3 t : Vec Ideal S1x256x1280 .f32) (ix3 0 r l) = M2 m c (ix3 (lay t) (row t r) l) := by
  refine ⟨?_, ?_, ?_, ?_⟩ <;> blk_point [iblk, V, idx t, lay, row]

/-- Where the four results' blocks lie. -/
theorem places (t : Fin cfg0.N) (r : Fin 256) (l : Fin 1280) :
    (win0_4.blk t).view.emb (ix3 0 r l) = ix3 (lay t) (row t r) l
    ∧ (win0_5.blk t).view.emb (ix3 0 r l) = ix3 (lay t) (row t r) l
    ∧ (win0_6.blk t).view.emb (ix3 0 r l) = ix3 (lay t) (row t r) l
    ∧ (win0_7.blk t).view.emb (ix3 0 r l) = ix3 (lay t) (row t r) l := by
  refine ⟨?_, ?_, ?_, ?_⟩ <;> blk_ext [idx t, lay, row]

/-- The change of the weights, the two moments, and the gradient handed on. -/
theorem finals :
    (dats m 0 c).arrAt 4 cfg0.N = val_main_v23 (F := Ideal) (W m c) (G m c) (M1 m c) (M2 m c)
    ∧ (dats m 0 c).arrAt 5 cfg0.N = val_main_v4 (F := Ideal) (G m c) (M1 m c)
    ∧ (dats m 0 c).arrAt 6 cfg0.N = val_main_v10 (F := Ideal) (G m c) (M2 m c)
    ∧ (dats m 0 c).arrAt 7 cfg0.N = G m c := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;>
  · blk_simp
    obtain ⟨r, l, rfl⟩ : ∃ (r : Fin 256) (l : Fin 1280), y = ix3 0 r l :=
      ⟨y 1, y 2, by rw [eq_ix3 y]; congr 1; exact Subsingleton.elim (α := Fin 1) _ _⟩
    obtain ⟨p4, p5, p6, p7⟩ := places t r l
    obtain ⟨h0, h1, h2, h3⟩ := blocks m c t r l
    first | rw [after0_4, p4] | rw [after0_5, p5] | rw [after0_6, p6] | rw [after0_7, p7]
    generalize (iblk m c 0 t : Vec Ideal S1x256x1280 .f32) = x0 at *
    generalize (iblk m c 1 t : Vec Ideal S1x256x1280 .f32) = x1 at *
    generalize (iblk m c 2 t : Vec Ideal S1x256x1280 .f32) = x2 at *
    generalize (iblk m c 3 t : Vec Ideal S1x256x1280 .f32) = x3 at *
    first | unfold out0_4 | unfold out0_5 | unfold out0_6 | unfold out0_7
    frame_out
    pointwise [k0_pay3, k0_pay2, k0_pay1, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3, val_main_cst_4, val_main_cst_5,
    val_main_cst_6, val_main_cst_7, h0, h1, h2, h3]

theorem frame_reference : Cert.quiescent_AdamInEvenReferenceIdeal := fun m ρ _ =>
  (θ_run Cert.AdamInEvenReferenceIdeal.defs _ _).mono
    (fun r h => ⟨fun c => (h c).2.2.2.2, sem_eq_zero_of_no_sems (by decide) r.2⟩)
    (Cert.AdamInEvenReferenceIdeal.Value.run (F := Ideal) m ρ)

/-- All results agree. -/
theorem algebraic : Cert.algebraic_AdamInEvenKernelIdeal_AdamInEvenReferenceIdeal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamInEvenKernelIdeal.Value.run_blocks m g,
    (θ_run _ _ _).mono (fun r h c => ?_) (Cert.AdamInEvenReferenceIdeal.Value.run (F := Ideal) m' g')⟩
  obtain ⟨h0, h1, h2, h3, hk⟩ := h c
  obtain ⟨a0, a1, a2, a3⟩ := hargs c
  obtain ⟨f0, f1, f2, f3⟩ := finals m c
  refine ⟨h0.trans ?_, h1.trans ?_, h2.trans ?_, h3.trans ?_, hk⟩
  · rw [val_main_v23_eq, a0, a1, a2, a3]; exact f0.symm
  · rw [val_main_v4_eq, a1, a2]; exact f1.symm
  · rw [val_main_v10_eq, a1, a3]; exact f2.symm
  · exact a1.trans f3.symm

end Cert.AdamInEvenClaim

end
-- ==== Proof.SumClaim.lean ====
/- The sum of the devices' small gradients: the kernel's result is the reference's. -/
module

public import Idealize.ShloMosaic.Lib.Pointwise
public import Idealize.ShloMosaic.Lib.Pipeline.ValueKit
public import proofs.«01_k».proof.Defs
public import proofs.«01_k».proof.Proof.Gen.SumKernelIdeal.Value
public import proofs.«01_k».proof.Proof.Gen.SumReferenceIdeal.Run
public import proofs.«01_k».proof.Proof.Gen.SumReferenceIdeal.Read

@[expose] public section

set_option maxRecDepth 16384

noncomputable section

namespace Cert.SumClaim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.SumKernelIdeal Cert.SumKernelIdeal.Gen Cert.SumReferenceIdeal.Read

variable (m : (ℓ : Loc nD τ sig) → Buf (Elt Ideal) ℓ) (c : Dev nD)

/-- The devices' parts, as the run finds them. -/
abbrev A : Vec Ideal S8x832x128 .f32 := m ((c : Thread nD τ).loc main_arg0)

/-- The kernel's sum, one part after the other. -/
theorem sum_at (X : Vec Ideal S8x832x128 .f32) : Cert.SumKernelIdeal.Value.G1 (F := Ideal) X = val_main_v0 (F := Ideal) X := by
  funext j
  obtain ⟨r, l, rfl⟩ : ∃ (r : Fin 832) (l : Fin 128), j = ix2 r l := ⟨j 0, j 1, eq_ix2 j⟩
  pointwise [Cert.SumKernelIdeal.Value.G1, k0_pay1, View.ld_apply, val_main_v0, val_main_cst]
  rw [Fin.sum_univ_eight]

theorem final : (dats m 0 c).arrAt 1 cfg0.N = val_main_v0 (F := Ideal) (A m c) :=
  (Cert.SumKernelIdeal.Value.final1 m c).trans (sum_at _)

theorem frame_reference : Cert.quiescent_SumReferenceIdeal := fun m ρ _ =>
  (θ_run Cert.SumReferenceIdeal.defs _ _).mono
    (fun r h => ⟨fun c => (h c).2, sem_eq_zero_of_no_sems (by decide) r.2⟩)
    (Cert.SumReferenceIdeal.Value.run (F := Ideal) m ρ)

/-- The result agrees. -/
theorem algebraic : Cert.algebraic_SumKernelIdeal_SumReferenceIdeal := by
  intro m g m' g' _ hargs
  refine ⟨fun c => (dats m 0 c).arrAt 1 cfg0.N, Cert.SumKernelIdeal.Value.run_blocks m g,
    (θ_run _ _ _).mono (fun r h c => ?_) (Cert.SumReferenceIdeal.Value.run (F := Ideal) m' g')⟩
  obtain ⟨h0, hk⟩ := h c
  obtain a0 := hargs c
  refine ⟨h0.trans ?_, hk⟩
  rw [val_main_v0_eq, a0]; exact (final m c).symm

end Cert.SumClaim

end
-- ==== Proof.AddClaim.lean ====
/- The kernel that adds what the other core sent: the core's own half is read where the position's second word says. -/
module

public import Idealize.ShloMosaic.Lib.Pointwise
public import Idealize.ShloMosaic.Lib.Pipeline.ValueKit
public import proofs.«01_k».proof.Defs
public import proofs.«01_k».proof.Proof.Gen.AddKernel.Frame
public import proofs.«01_k».proof.Proof.Gen.AddKernelIdeal.Frame
public import proofs.«01_k».proof.Proof.Gen.AddReferenceIdeal.Run
public import proofs.«01_k».proof.Proof.Gen.AddReferenceIdeal.Read
public import proofs.«01_k».proof.Proof.Gen.Pre_core_number

@[expose] public section

set_option maxRecDepth 16384

noncomputable section

namespace Cert.AddClaim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

instance : Cert.Pre_core_number.Facts := Cert.Pre_core_number.Gen.facts

/-- The precondition says that the second word is 0 or 1. -/
theorem word_of_pre {F : FTy → Type} [FloatOps F] (x0 : FVec F Pre_core_number.S1x4x1024x1280 .bf16)
    (x1 : FVec F Pre_core_number.S1x4x512x1280 .bf16) (x2 : IVec Pre_core_number.S2 32)
    (h : Cert.Pre_core_number.fn x0 x1 x2 = fun _ => 1#1) : ∃ q : Fin 2, x2 (ix1 1) = BitVec.ofNat 32 q.val := by
  have e := congrFun h (fun i => i.elim0)
  have e' : IntOp.cmpi .sge (x2 (ix1 1)) 0#32 &&& IntOp.cmpi .slt (x2 (ix1 1)) 2#32 = 1#1 := by
    refine Eq.trans ?_ e
    pointwise [Cert.Pre_core_number.fn, IntOp.andi]
  generalize x2 (ix1 1) = w at e' ⊢
  have hw : 0 ≤ w.toInt ∧ w.toInt < 2 := by
    simp only [IntOp.cmpi, BitVec.sle, BitVec.slt] at e'
    by_cases a : 0 ≤ w.toInt <;> by_cases b : w.toInt < 2 <;> simp_all
  rcases (by omega : w.toInt = 0 ∨ w.toInt = 1) with h | h
  · exact ⟨0, BitVec.eq_of_toInt_eq h⟩
  · exact ⟨1, BitVec.eq_of_toInt_eq h⟩

/-- The table's cell that the block's place is read from. -/
theorem cell (h : ∀ a, (![1] : Fin 1 → ℕ) a + (⟨1, ![1]⟩ : Shape).size a ≤ (⟨1, ![2]⟩ : Shape).size a) (h1 : 0 < _) :
    (Rect.unit (s := ⟨1, ![2]⟩) ![1] (⟨1, ![1]⟩ : Shape).size h).emb (Shape.Idx.first h1) = ix1 1 := by
  funext a
  match a with
  | 0 => rfl

/-- The word of the block's place, as a number: the core's number past the grid's last coordinate, which is 0. -/
theorem place : ∀ (q : Fin 2) (j : Fin 1), (Scalar.addi (Scalar.muli (BitVec.ofNat 32 q.val) 1#32) (BitVec.ofNat 32 j.val)).toNat = q.val := by
  decide

section
open Cert.AddKernel Cert.AddKernel.Gen

theorem tbl_kernel (m : (ℓ : Loc nD τ sig) → Buf (Elt Bits) ℓ) (q : Fin 2)
    (h : (m (((0 : Dev nD) : Thread nD τ).loc main_arg2) : IVec S2 32) (ix1 1) = BitVec.ofNat 32 q.val) (i : grid0.Coords) :
    cc0_transform_0 Facts₀.inb_S2_S1_1 Facts₀.numel1_S1 (tbl m) i = ![(i 0).val, (i 1).val, q.val, 0] := by
  have e : (tbl m).at 0 (Rect.unit ![1] S1.size Facts₀.inb_S2_S1_1) Facts₀.numel1_S1 = BitVec.ofNat 32 q.val :=
    Eq.trans (congrArg (m (((0 : Dev nD) : Thread nD τ).loc main_arg2)) (cell _ _)) h
  have e4 : ∀ a : Fin 4, (BitVec.ofNat 32 a.val).toNat = a.val := by decide
  have e1 : ∀ a : Fin 1, (BitVec.ofNat 32 a.val).toNat = a.val := by decide
  funext a
  match a with
  | 0 => exact e1 (i 0)
  | 1 => exact e4 (i 1)
  | 2 => exact (congrArg (fun w => (Scalar.addi (Scalar.muli w 1#32) (BitVec.ofNat 32 (i 2).val)).toNat) e).trans (place q (i 2))
  | 3 => rfl

theorem frame_kernel : Cert.quiescent_AddKernel := fun m ρ h => by
  obtain ⟨q, hq⟩ := word_of_pre _ _ _ (h 0)
  refine Cert.AddKernel.Gen.frame m ρ fun i => ?_
  rw [tbl_kernel m q hq i]
  clear hq
  revert i q
  decide +kernel

end

section
open Cert.AddKernelIdeal Cert.AddKernelIdeal.Gen Cert.AddReferenceIdeal.Read

variable (m : (ℓ : Loc nD τ sig) → Buf (Elt Ideal) ℓ) (hO : Ok m) (c : Dev nD)

theorem covers (a : (pcfg0 (F := Ideal)).Adm) : ((cfg0 a).win 2).Covers := of_decide_eq_true (by sl_kernel_rfl)

theorem tbl_ideal (m : (ℓ : Loc nD τ sig) → Buf (Elt Ideal) ℓ) (q : Fin 2)
    (h : (m (((0 : Dev nD) : Thread nD τ).loc main_arg2) : IVec S2 32) (ix1 1) = BitVec.ofNat 32 q.val) (i : grid0.Coords) :
    cc0_transform_0 Facts₀.inb_S2_S1_1 Facts₀.numel1_S1 (tbl m) i = ![(i 0).val, (i 1).val, q.val, 0] := by
  have e : (tbl m).at 0 (Rect.unit ![1] S1.size Facts₀.inb_S2_S1_1) Facts₀.numel1_S1 = BitVec.ofNat 32 q.val :=
    Eq.trans (congrArg (m (((0 : Dev nD) : Thread nD τ).loc main_arg2)) (cell _ _)) h
  have e4 : ∀ a : Fin 4, (BitVec.ofNat 32 a.val).toNat = a.val := by decide
  have e1 : ∀ a : Fin 1, (BitVec.ofNat 32 a.val).toNat = a.val := by decide
  funext a
  match a with
  | 0 => exact e1 (i 0)
  | 1 => exact e4 (i 1)
  | 2 => exact (congrArg (fun w => (Scalar.addi (Scalar.muli w 1#32) (BitVec.ofNat 32 (i 2).val)).toNat) e).trans (place q (i 2))
  | 3 => rfl

/-- The block of own rows lies in the core's half; the other two walk their arrays alike. -/
theorem idx (q : Fin 2) (h : (m (((0 : Dev nD) : Thread nD τ).loc main_arg2) : IVec S2 32) (ix1 1) = BitVec.ofNat 32 q.val)
    (t : Fin grid0.N) : ((cfgM m hO).win 0).index t = ![0, t.val, q.val, 0]
    ∧ ((cfgM m hO).win 1).index t = ![0, t.val, 0, 0] ∧ ((cfgM m hO).win 2).index t = ![0, t.val, 0, 0] := by
  have k : ∀ t : Fin grid0.N, ((grid0.coords t) 0).val = 0 ∧ ((grid0.coords t) 1).val = t.val
      ∧ cc0_transform_1 (grid0.coords t) = ![0, t.val, 0, 0] ∧ cc0_transform_2 (grid0.coords t) = ![0, t.val, 0, 0] := by decide +kernel
  obtain ⟨k0, k1, k2, k3⟩ := k t
  refine ⟨(tbl_ideal m q h (grid0.coords t)).trans ?_, k2, k3⟩
  rw [k0, k1]

theorem out_eq (i : grid0.Coords) (a4 h4 a5 h5 a6 h6) (x0 x1 : Vec Ideal S1x1x512x1280 .bf16) (xt) :
    out0_A_2 (F := Ideal) c i a4 h4 a5 h5 a6 h6 x0 x1 xt = k0_pay1 x0 x1 := by
  unfold out0_A_2
  frame_out

theorem eq_row (y : S1x1x512x1280.Idx) : ∃ (r : Fin 512) (l : Fin 1280), y = ix4 0 0 r l :=
  ⟨y 2, y 3, by rw [eq_ix4 y]; congr 1 <;> exact Subsingleton.elim (α := Fin 1) _ _⟩

/-- One row of the reference: the own half is chosen by the word. -/
theorem point (q : Fin 2) (a0 : Vec Ideal S1x4x1024x1280 .bf16) (a1 : Vec Ideal S1x4x512x1280 .bf16) (a2 : IVec S2 32)
    (h : a2 (ix1 1) = BitVec.ofNat 32 q.val) (x0 x1 : Vec Ideal S1x1x512x1280 .bf16) (t : Fin 4) (r : Fin 512) (l : Fin 1280)
    (b0 : x0 (ix4 0 0 r l) = a0 (ix4 0 t ⟨q.val * 512 + r.val, by omega⟩ l)) (b1 : x1 (ix4 0 0 r l) = a1 (ix4 0 t r l)) :
    k0_pay1 x0 x1 (ix4 0 0 r l) = val_main_v9 (F := Ideal) a0 a1 a2 (ix4 0 t r l) := by
  have e : IntOp.cmpi .eq (a2 (ix1 1)) 0#32 = if q = 0 then 1#1 else 0#1 := by
    rw [h]; exact (by decide : ∀ q : Fin 2, IntOp.cmpi .eq (BitVec.ofNat 32 q.val) 0#32 = if q = 0 then 1#1 else 0#1) q
  pointwise [k0_pay1, val_main_v9, val_main_v8, val_main_v7, val_main_v6, val_main_v5, val_main_v4, val_main_v3, val_main_v2,
    val_main_v1, val_main_v0, val_main_c, b0, b1, e]
  congr 1
  match q with
  | 0 => exact congrArg a0 (congrArg (ix4 0 t · l) (Fin.ext (by simp)))
  | 1 => exact congrArg a0 (congrArg (ix4 0 t · l) (Fin.ext (by simp)))

/-- The result: the core's half plus what was received. -/
theorem final (q : Fin 2) (h : (m (((0 : Dev nD) : Thread nD τ).loc main_arg2) : IVec S2 32) (ix1 1) = BitVec.ofNat 32 q.val) :
    (dats m hO 0 c).arrAt 2 (cfgM m hO).N = val_main_v9 (F := Ideal) (m ((c : Thread nD τ).loc main_arg0))
      (m ((c : Thread nD τ).loc main_arg1)) (m ((c : Thread nD τ).loc main_arg2)) := by
  refine (dats m hO 0 c).arrAt_eq_of_covers 2 _ (covers _) fun t _ y => ?_
  blk_simp
  obtain ⟨i0, i1, i2⟩ := idx m hO q h t
  have ht : t.val < 4 := t.isLt
  obtain ⟨r, l, rfl⟩ := eq_row y
  have p2 : (((cfgM m hO).win 2).blk t).view.emb (ix4 0 0 r l) = ix4 0 ⟨t.val, ht⟩ r l := by blk_ext [i2]
  have b0 : (iblk m hO c 0 t : Vec Ideal S1x1x512x1280 .bf16) (ix4 0 0 r l)
      = (m ((c : Thread nD τ).loc main_arg0) : Vec Ideal S1x4x1024x1280 .bf16) (ix4 0 ⟨t.val, ht⟩ ⟨q.val * 512 + r.val, by omega⟩ l) := by
    blk_point [iblk, V, i0]
  have b1 : (iblk m hO c 1 t : Vec Ideal S1x1x512x1280 .bf16) (ix4 0 0 r l)
      = (m ((c : Thread nD τ).loc main_arg1) : Vec Ideal S1x4x512x1280 .bf16) (ix4 0 ⟨t.val, ht⟩ r l) := by
    blk_point [iblk, V, i1]
  rw [after0_2, p2]
  have o : outsAt0 m hO c t = k0_pay1 (iblk m hO c 0 t) (iblk m hO c 1 t) := out_eq c _ _ _ _ _ _ _ _ _ _
  refine (congrFun o _).trans ?_
  generalize (iblk m hO c 0 t : Vec Ideal S1x1x512x1280 .bf16) = x0 at *
  generalize (iblk m hO c 1 t : Vec Ideal S1x1x512x1280 .bf16) = x1 at *
  obtain rfl : c = 0 := Subsingleton.elim (α := Fin 1) _ _
  exact point q _ _ _ h x0 x1 _ r l b0 b1

theorem frame_reference : Cert.quiescent_AddReferenceIdeal := fun m ρ _ =>
  (θ_run Cert.AddReferenceIdeal.defs _ _).mono
    (fun r h => ⟨fun c => (h c).2, sem_eq_zero_of_no_sems (by decide) r.2⟩)
    (Cert.AddReferenceIdeal.Value.run (F := Ideal) m ρ)

theorem frame_reference_pre : Cert.quiescent_AddReferenceIdeal_pre_core_number := fun m ρ _ => frame_reference m ρ trivial

theorem ok_ideal (h : Cert.Pre_AddKernelIdeal m) :
    ∃ q : Fin 2, (m (((0 : Dev nD) : Thread nD τ).loc main_arg2) : IVec S2 32) (ix1 1) = BitVec.ofNat 32 q.val ∧ Ok m := by
  obtain ⟨q, hq⟩ := word_of_pre _ _ _ (h 0)
  refine ⟨q, hq, fun i => ?_⟩
  rw [tbl_ideal m q hq i]
  clear hq
  revert i q
  decide +kernel

theorem frame_ideal : Cert.quiescent_AddKernelIdeal := fun m ρ h =>
  (ok_ideal m h).elim fun _ hq => Cert.AddKernelIdeal.Gen.frame m ρ hq.2

/-- The results agree. -/
theorem algebraic : Cert.algebraic_AddKernelIdeal_AddReferenceIdeal := by
  intro m g m' g' hp hargs
  obtain ⟨q, hq, hO⟩ := ok_ideal m hp
  refine ⟨fun c => (dats m hO 0 c).arrAt 2 (cfgM m hO).N, (θ_run _ _ _).mono (fun r h c => ?_) (run_main m g hO),
    (θ_run _ _ _).mono (fun r h c => ?_) (Cert.AddReferenceIdeal.Value.run (F := Ideal) m' g')⟩
  · refine ⟨(h c).1 2, ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩
  · obtain ⟨h0, hk⟩ := h c
    obtain ⟨a0, a1, a2⟩ := hargs c
    refine ⟨h0.trans ?_, hk⟩
    rw [val_main_v9_eq, a0, a1, a2]
    exact (final m hO c q hq).symm

end

end Cert.AddClaim

end
-- ==== Proof.ChipsClaim.lean ====
/- The kernel that adds a shard over the chips, into the previous array in place: the position's words say which plane is the chip's own and which rows are the core's. -/
module

public import Idealize.ShloMosaic.Lib.Pointwise
public import Idealize.ShloMosaic.Lib.WordCmp
public import Idealize.ShloMosaic.Lib.Pipeline.ValueKit
public import proofs.«01_k».proof.Defs
public import proofs.«01_k».proof.Proof.Gen.ChipsKernel.Frame
public import proofs.«01_k».proof.Proof.Gen.ChipsKernelIdeal.Frame
public import proofs.«01_k».proof.Proof.Gen.ChipsReferenceIdeal.Run
public import proofs.«01_k».proof.Proof.Gen.ChipsReferenceIdeal.Read
public import proofs.«01_k».proof.Proof.Gen.Pre_position

@[expose] public section

set_option maxRecDepth 16384

noncomputable section

namespace Cert.ChipsClaim

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

instance : Cert.Pre_position.Facts := Cert.Pre_position.Gen.facts

/-- A word between 0 and a small bound is one of its naturals. -/
theorem word_small (n : Nat) (hn : n < 2 ^ 31) (w : BitVec 32)
    (h : IntOp.cmpi .sge w 0#32 &&& IntOp.cmpi .slt w (BitVec.ofNat 32 n) = 1#1) : ∃ k : Fin n, w = BitVec.ofNat 32 k.val := by
  have hm : (BitVec.ofNat 32 n).toInt = (n : ℤ) := by
    rw [BitVec.toInt_ofNat']; exact Int.bmod_eq_of_le (by omega) (by omega)
  have hw : 0 ≤ w.toInt ∧ w.toInt < n := by
    simp only [IntOp.cmpi, BitVec.sle, BitVec.slt, hm] at h
    by_cases a : 0 ≤ w.toInt <;> by_cases b : w.toInt < n <;> simp_all
  refine ⟨⟨w.toInt.toNat, by omega⟩, BitVec.eq_of_toInt_eq ?_⟩
  rw [BitVec.toInt_ofNat']
  exact (Int.toNat_of_nonneg hw.1).symm.trans (Int.bmod_eq_of_le (by omega) (by omega)).symm

/-- The precondition says that the first word is one of the four chips and the second one of the two cores. -/
theorem words_of_pre {F : FTy → Type} [FloatOps F] (x0 : FVec F Pre_position.S1x4x512x1280 .bf16)
    (x1 : FVec F Pre_position.S1x4x512x1280 .bf16) (x2 : IVec Pre_position.S2 32) (x3 : FVec F Pre_position.S2x1024x1280 .f32)
    (h : Cert.Pre_position.fn x0 x1 x2 x3 = fun _ => 1#1) :
    (∃ p : Fin 4, x2 (ix1 0) = BitVec.ofNat 32 p.val) ∧ ∃ q : Fin 2, x2 (ix1 1) = BitVec.ofNat 32 q.val := by
  have e := congrFun h (fun i => i.elim0)
  have e' : IntOp.cmpi .sge (x2 (ix1 0)) 0#32 &&& IntOp.cmpi .slt (x2 (ix1 0)) 4#32 &&& IntOp.cmpi .sge (x2 (ix1 1)) 0#32
      &&& IntOp.cmpi .slt (x2 (ix1 1)) 2#32 = 1#1 := by
    refine Eq.trans ?_ e
    pointwise [Cert.Pre_position.fn, IntOp.andi]
  have both : ∀ a b c d : BitVec 1, a &&& b &&& c &&& d = 1#1 → a &&& b = 1#1 ∧ c &&& d = 1#1 := by decide
  obtain ⟨h0, h1⟩ := both _ _ _ _ e'
  exact ⟨word_small 4 (by decide) _ h0, word_small 2 (by decide) _ h1⟩

/-- The table's cells that the blocks' places are read from. -/
theorem cell0 (h : ∀ a, (![0] : Fin 1 → ℕ) a + (⟨1, ![1]⟩ : Shape).size a ≤ (⟨1, ![2]⟩ : Shape).size a) (h1 : 0 < _) :
    (Rect.unit (s := ⟨1, ![2]⟩) ![0] (⟨1, ![1]⟩ : Shape).size h).emb (Shape.Idx.first h1) = ix1 0 := by
  funext a
  match a with
  | 0 => rfl

theorem cell1 (h : ∀ a, (![1] : Fin 1 → ℕ) a + (⟨1, ![1]⟩ : Shape).size a ≤ (⟨1, ![2]⟩ : Shape).size a) (h1 : 0 < _) :
    (Rect.unit (s := ⟨1, ![2]⟩) ![1] (⟨1, ![1]⟩ : Shape).size h).emb (Shape.Idx.first h1) = ix1 1 := by
  funext a
  match a with
  | 0 => rfl

/-- The words of the blocks' places, as numbers. -/
theorem chip_place : ∀ p : Fin 4, (BitVec.ofNat 32 p.val).toNat = p.val := by decide
theorem step_place : ∀ t : Fin 2, (BitVec.ofNat 32 t.val).toNat = t.val := by decide
theorem rows_place : ∀ q t : Fin 2, (Scalar.addi (Scalar.muli (BitVec.ofNat 32 q.val) 2#32) (BitVec.ofNat 32 t.val)).toNat = 2 * q.val + t.val := by
  decide

section
open Cert.ChipsKernel Cert.ChipsKernel.Gen

theorem tbl_kernel (m : (ℓ : Loc nD τ sig) → Buf (Elt Bits) ℓ) (p : Fin 4) (q : Fin 2)
    (hp : (m (((0 : Dev nD) : Thread nD τ).loc main_arg2) : IVec S2 32) (ix1 0) = BitVec.ofNat 32 p.val)
    (hq : (m (((0 : Dev nD) : Thread nD τ).loc main_arg2) : IVec S2 32) (ix1 1) = BitVec.ofNat 32 q.val) (i : grid0.Coords) :
    cc0_transform_0 Facts₀.inb_S2_S1_0 Facts₀.numel1_S1 (tbl m) i = ![0, p.val, (i 0).val, 0]
    ∧ cc0_transform_3 Facts₀.inb_S2_S1_1 Facts₀.numel1_S1 (tbl m) i = ![0, 2 * q.val + (i 0).val, 0] := by
  have e0 : (tbl m).at 0 (Rect.unit ![0] S1.size Facts₀.inb_S2_S1_0) Facts₀.numel1_S1 = BitVec.ofNat 32 p.val :=
    Eq.trans (congrArg (m (((0 : Dev nD) : Thread nD τ).loc main_arg2)) (cell0 _ _)) hp
  have e1 : (tbl m).at 0 (Rect.unit ![1] S1.size Facts₀.inb_S2_S1_1) Facts₀.numel1_S1 = BitVec.ofNat 32 q.val :=
    Eq.trans (congrArg (m (((0 : Dev nD) : Thread nD τ).loc main_arg2)) (cell1 _ _)) hq
  constructor
  · funext a
    match a with
    | 0 => rfl
    | 1 => exact (congrArg BitVec.toNat e0).trans (chip_place p)
    | 2 => exact step_place (i 0)
    | 3 => rfl
  · funext a
    match a with
    | 0 => rfl
    | 1 => exact (congrArg (fun w => (Scalar.addi (Scalar.muli w 2#32) (BitVec.ofNat 32 (i 0).val)).toNat) e1).trans (rows_place q (i 0))
    | 2 => rfl

theorem frame_kernel : Cert.quiescent_ChipsKernel := fun m ρ h => by
  obtain ⟨⟨p, hp⟩, q, hq⟩ := words_of_pre _ _ _ _ (h 0)
  refine Cert.ChipsKernel.Gen.frame m ρ ⟨fun i => ?_, fun i => ?_⟩
  · rw [(tbl_kernel m p q hp hq i).1]
    clear hp hq
    revert i p
    decide +kernel
  · rw [(tbl_kernel m p q hp hq i).2]
    clear hp hq
    revert i q
    decide +kernel

end

section
open Cert.ChipsKernelIdeal Cert.ChipsKernelIdeal.Gen Cert.ChipsReferenceIdeal.Read

variable (m : (ℓ : Loc nD τ sig) → Buf (Elt Ideal) ℓ) (hO : Ok m) (c : Dev nD)

/-- One chip's plane of the received block. -/
def plane (x1 : Vec Ideal S1x4x256x1280 .bf16) (s : Fin 4) : Vec Ideal S1x1x256x1280 .bf16 := fun y => x1 (ix4 0 s (y 2) (y 3))

/-- The kernel adds four planes, the chip's own taken from the other array. -/
theorem out_eq (i : grid0.Coords) (a4 h4 a5 h5 a6 h6) (x0 : Vec Ideal S1x1x256x1280 .bf16) (x1 : Vec Ideal S1x4x256x1280 .bf16)
    (xt : TbBuf0 (F := Ideal) c tbM0_0) (w : BitVec 32) (hw : (xt : IVec S2 32) (ix1 0) = w) :
    out0_A_2 (F := Ideal) c i a4 h4 a5 h5 a6 h6 x0 x1 xt
      = k0_pay1 (F := Ideal) (k0_pay2 (F := Ideal) w x0 (plane x1 0) w x0 (plane x1 1) w x0 (plane x1 2)) w 3#32 x0 (plane x1 3) := by
  unfold out0_A_2
  frame_out
  have e : ∀ h, View.ld (View.read (Elt Ideal) (View.whole main_arg2) xt) (Rect.unit ![0] ![1] Facts₀.inb_S2_S1_0) (Shape.Idx.first h) = w :=
    fun h => by
      have j : (View.whole main_arg2).emb ((Rect.unit ![0] ![1] Facts₀.inb_S2_S1_0).idx (Shape.Idx.first h)) = (ix1 0 : S2.Idx) :=
        funext fun a => match a with | 0 => rfl
      exact (congrArg xt j).trans hw
  have g : ∀ (s : Fin 4) (h), View.ld x1 (Rect.unit ![0, s.val, 0, 0] ![1, 1, 256, 1280] h) = plane x1 s := fun s h =>
    funext fun y => congrArg x1 (funext fun a => match a with
      | 0 => Fin.ext (by have : (y 0).val < 1 := (y 0).isLt; show 0 + 1 * (y 0).val = 0; omega)
      | 1 => Fin.ext (by have : (y 1).val < 1 := (y 1).isLt; show s.val + 1 * (y 1).val = s.val; omega)
      | 2 => Fin.ext (by show 0 + 1 * (y 2).val = (y 2).val; omega)
      | 3 => Fin.ext (by show 0 + 1 * (y 3).val = (y 3).val; omega))
  have g0 := g 0
  have g1 := g 1
  have g2 := g 2
  have g3 := g 3
  simp only [Fin.isValue, Fin.val_zero, Fin.val_one, Fin.val_two] at g0 g1 g2
  rw [show (3 : Fin 4).val = 3 from rfl] at g3
  rw [g0, g1, g2, g3, e]

theorem region_v0 : V m c main_v0 = m ((c : Thread nD τ).loc main_arg3) := by
  unfold_abbrev_sides
  after_results
  rfl

/-- One of the reference's four planes. -/
theorem term (a0 a1 : Vec Ideal ChipsReferenceIdeal.S1x4x512x1280 .bf16) (a2 : IVec S2 32) (s : Fin 4) (r : Fin 512) (l : Fin 1280) :
    val_main_v9 (F := Ideal) a0 a1 a2 (ix3 s r l) = FloatOps.extf (F := Ideal) .f32 ChipsReferenceIdeal.Facts₀.bitsLt_bf16_f32
      (Scalar.select (IntOp.cmpi .eq (BitVec.ofNat 32 s.val) (a2 (ix1 0))) (a0 (ix4 0 s r l)) (a1 (ix4 0 s r l))) := by
  pointwise [val_main_v9, val_main_v8, val_main_call0_v0, val_main_v7, val_main_v6, val_main_v5, val_main_v4, val_main_v3, val_main_v2,
    val_main_v1, val_main_v0]

/-- A row of the kernel's block is the reference's sum. -/
theorem point (p : Fin 4) (a0 a1 : Vec Ideal ChipsReferenceIdeal.S1x4x512x1280 .bf16) (a2 : IVec S2 32)
    (h : a2 (ix1 0) = BitVec.ofNat 32 p.val) (x0 : Vec Ideal S1x1x256x1280 .bf16) (x1 : Vec Ideal S1x4x256x1280 .bf16)
    (r : Fin 256) (R : Fin 512) (l : Fin 1280) (b0 : x0 (ix4 0 0 r l) = a0 (ix4 0 p R l))
    (b1 : ∀ s : Fin 4, x1 (ix4 0 s r l) = a1 (ix4 0 s R l)) :
    k0_pay1 (F := Ideal) (k0_pay2 (F := Ideal) (BitVec.ofNat 32 p.val) x0 (plane x1 0) (BitVec.ofNat 32 p.val) x0 (plane x1 1)
      (BitVec.ofNat 32 p.val) x0 (plane x1 2)) (BitVec.ofNat 32 p.val) 3#32 x0 (plane x1 3) (ix3 0 r l)
      = val_main_v11 (F := Ideal) a0 a1 a2 (ix3 0 R l) := by
  have k : ∀ s : Fin 4, idx_main_v10 (idx_main_v11 (ix3 0 R l)) s = ix3 s R l := fun s =>
    funext fun a => match a with | 0 => rfl | 1 => rfl | 2 => rfl
  have z : (val_main_cst (F := Ideal)) (Shape.Idx.first ChipsReferenceIdeal.Facts₀.h_S_) = 0 := Ideal.ofBits_zero_f32
  rw [val_main_v11_apply, val_main_v10_apply, Fin.sum_univ_four, k, k, k, k, term, term, term, term, h, z, zero_add]
  pointwise [k0_pay1, k0_pay2, plane, b0, b1]
  match p with
  | 0 => rfl
  | 1 => rfl
  | 2 => rfl
  | 3 => rfl

/-- The core's rows of the updated array. -/
theorem inside (q : Fin 2) (a0 a1 : Vec Ideal ChipsReferenceIdeal.S1x4x512x1280 .bf16) (a2 : IVec S2 32) (a3 : Vec Ideal S2x1024x1280 .f32)
    (h : a2 (ix1 1) = BitVec.ofNat 32 q.val) (i : S2x1024x1280.Idx) :
    val_main_v18 (F := Ideal) a0 a1 a2 a3 i = if hi : (i 0).val = 0 ∧ (i 1).val / 512 = q.val
      then val_main_v11 (F := Ideal) a0 a1 a2 (ix3 0 ⟨(i 1).val % 512, Nat.mod_lt _ (by decide)⟩ (i 2)) else a3 i := by
  have e : (val_main_v17 (F := Ideal) a2 (Shape.Idx.first ChipsReferenceIdeal.Facts₀.h_S_)) = BitVec.ofNat 32 (512 * q.val) := by
    have : val_main_v17 (F := Ideal) a2 (Shape.Idx.first ChipsReferenceIdeal.Facts₀.h_S_)
        = Scalar.select (IntOp.cmpi .slt (IntOp.muli 512#32 (a2 (ix1 1))) 0#32) (IntOp.addi (IntOp.muli 512#32 (a2 (ix1 1))) 1024#32)
          (IntOp.muli 512#32 (a2 (ix1 1))) := by
      pointwise [val_main_v17, val_main_v16, val_main_v15, val_main_v14, val_main_v13, val_main_v12, val_main_c, val_main_c_0, val_main_c_1]
    rw [this, h]
    clear h this
    revert q
    decide
  have hk : ChipsReferenceIdeal.S2x1024x1280.Slices ![0, 512 * q.val, 0] ChipsReferenceIdeal.S1x512x1280 :=
    ⟨rfl, fun a => match a with
      | 0 => by show 0 + 1 ≤ 2; omega
      | 1 => by show 512 * q.val + 512 ≤ 1024; omega
      | 2 => by show 0 + 1280 ≤ 1280; omega⟩
  have u := WordCmp.dynamicUpdateSlice_eq_update a3 (val_main_v11 (F := Ideal) a0 a1 a2)
    (fun k => (((![val_main_c_2 (F := Ideal), val_main_v17 (F := Ideal) a2, val_main_c_3 (F := Ideal)] : Fin 3 → (⟨ChipsReferenceIdeal.S_, .i32⟩ : BufTy).Contents (Elt Ideal))) k (Shape.Idx.first ChipsReferenceIdeal.Facts₀.h_S_)).toInt)
    ChipsReferenceIdeal.Facts₀.updateFits_S2x1024x1280_S1x512x1280 ![0, 512 * q.val, 0] hk (fun a => match a with
      | 0 => rfl
      | 1 => by
        refine (congrArg BitVec.toInt e).trans ?_
        rw [BitVec.toInt_ofNat']; exact Int.bmod_eq_of_le (by omega) (by omega)
      | 2 => rfl)
  refine (congrFun u i).trans ?_
  rw [updateSlice_apply]
  by_cases hi : (i 0).val = 0 ∧ (i 1).val / 512 = q.val
  · have h1 : (i 1).val < 1024 := (i 1).isLt
    rw [dif_pos hi, dif_pos (fun a => match a with
      | 0 => by show 0 ≤ (i 0).val ∧ (i 0).val < 0 + 1; omega
      | 1 => by show 512 * q.val ≤ (i 1).val ∧ (i 1).val < 512 * q.val + 512; omega
      | 2 => by have : (i 2).val < 1280 := (i 2).isLt; show 0 ≤ (i 2).val ∧ (i 2).val < 0 + 1280; omega)]
    refine congrArg (val_main_v11 (F := Ideal) a0 a1 a2) (funext fun a => ?_)
    match a with
    | 0 => exact Fin.ext (by show (i 0).val - 0 = 0; omega)
    | 1 => exact Fin.ext (by show (i 1).val - 512 * q.val = (i 1).val % 512; omega)
    | 2 => exact Fin.ext (by show (i 2).val - 0 = (i 2).val; omega)
  · rw [dif_neg hi, dif_neg]
    intro g
    have g0 : 0 ≤ (i 0).val ∧ (i 0).val < 0 + 1 := g 0
    have g1 : 512 * q.val ≤ (i 1).val ∧ (i 1).val < 512 * q.val + 512 := g 1
    exact hi ⟨by omega, by omega⟩

theorem tbl_ideal (m : (ℓ : Loc nD τ sig) → Buf (Elt Ideal) ℓ) (p : Fin 4) (q : Fin 2)
    (hp : (m (((0 : Dev nD) : Thread nD τ).loc main_arg2) : IVec S2 32) (ix1 0) = BitVec.ofNat 32 p.val)
    (hq : (m (((0 : Dev nD) : Thread nD τ).loc main_arg2) : IVec S2 32) (ix1 1) = BitVec.ofNat 32 q.val) (i : grid0.Coords) :
    cc0_transform_0 Facts₀.inb_S2_S1_0 Facts₀.numel1_S1 (tbl m) i = ![0, p.val, (i 0).val, 0]
    ∧ cc0_transform_3 Facts₀.inb_S2_S1_1 Facts₀.numel1_S1 (tbl m) i = ![0, 2 * q.val + (i 0).val, 0] := by
  have e0 : (tbl m).at 0 (Rect.unit ![0] S1.size Facts₀.inb_S2_S1_0) Facts₀.numel1_S1 = BitVec.ofNat 32 p.val :=
    Eq.trans (congrArg (m (((0 : Dev nD) : Thread nD τ).loc main_arg2)) (cell0 _ _)) hp
  have e1 : (tbl m).at 0 (Rect.unit ![1] S1.size Facts₀.inb_S2_S1_1) Facts₀.numel1_S1 = BitVec.ofNat 32 q.val :=
    Eq.trans (congrArg (m (((0 : Dev nD) : Thread nD τ).loc main_arg2)) (cell1 _ _)) hq
  constructor
  · funext a
    match a with
    | 0 => rfl
    | 1 => exact (congrArg BitVec.toNat e0).trans (chip_place p)
    | 2 => exact step_place (i 0)
    | 3 => rfl
  · funext a
    match a with
    | 0 => rfl
    | 1 => exact (congrArg (fun w => (Scalar.addi (Scalar.muli w 2#32) (BitVec.ofNat 32 (i 0).val)).toNat) e1).trans (rows_place q (i 0))
    | 2 => rfl

/-- The chip's own block is its plane; the result's block lies in the core's rows. -/
theorem idx (p : Fin 4) (q : Fin 2) (hp : (m (((0 : Dev nD) : Thread nD τ).loc main_arg2) : IVec S2 32) (ix1 0) = BitVec.ofNat 32 p.val)
    (hq : (m (((0 : Dev nD) : Thread nD τ).loc main_arg2) : IVec S2 32) (ix1 1) = BitVec.ofNat 32 q.val)
    (t : Fin grid0.N) : ((cfgM m hO).win 0).index t = ![0, p.val, t.val, 0]
    ∧ ((cfgM m hO).win 1).index t = ![0, 0, t.val, 0] ∧ ((cfgM m hO).win 2).index t = ![0, 2 * q.val + t.val, 0] := by
  have k : ∀ t : Fin grid0.N, ((grid0.coords t) 0).val = t.val ∧ cc0_transform_1 (grid0.coords t) = ![0, 0, t.val, 0] := by decide +kernel
  obtain ⟨k0, k1⟩ := k t
  obtain ⟨e0, e1⟩ := tbl_ideal m p q hp hq (grid0.coords t)
  refine ⟨Eq.trans e0 ?_, k1, Eq.trans e1 ?_⟩ <;> rw [k0]

/-- The two blocks written back are the core's rows of the first layer. -/
theorem covers (p : Fin 4) (q : Fin 2) (hp : (m (((0 : Dev nD) : Thread nD τ).loc main_arg2) : IVec S2 32) (ix1 0) = BitVec.ofNat 32 p.val)
    (hq : (m (((0 : Dev nD) : Thread nD τ).loc main_arg2) : IVec S2 32) (ix1 1) = BitVec.ofNat 32 q.val) :
    ((cfgM m hO).win 2).CoversWhere (fun β => β (0 : Fin 3) = 0 ∧ β (1 : Fin 3) / 2 = q.val) := by
  have e : ∀ t : Fin grid0.N, ((cfgM m hO).win 2).index t = ![0, 2 * q.val + t.val, 0] := fun t => (idx m hO p q hp hq t).2.2
  have f : ∀ t : Fin grid0.N, ((cfgM m hO).win 2).flush t = true := by
    intro t
    have ht : t.val < 2 := t.isLt
    refine (Window.flush_out _ rfl t).mpr ?_
    rcases (by omega : t.val = 1 ∨ t.val = 0) with h | h
    · exact .inl (congrArg (· + 1) h)
    · have h1 : t.val + 1 < grid0.N := by show t.val + 1 < 2; omega
      refine .inr ⟨h1, fun g => ?_⟩
      have g1 := congrFun ((e ⟨t.val + 1, h1⟩).symm.trans (g.trans (e t))) (1 : Fin 3)
      have g2 : 2 * q.val + (t.val + 1) = 2 * q.val + t.val := g1
      omega
  refine ⟨?_, fun t _ => ⟨?_, fun a => .inl ?_⟩, fun β hβ => ?_⟩
  · exact (by decide : ∀ a : Fin 3, 0 < S1x256x1280.size a)
  · rw [e t]
    have ht : t.val < 2 := t.isLt
    exact ⟨rfl, by show (2 * q.val + t.val) / 2 = q.val; omega⟩
  · rfl
  · have h0 : (β (0 : Fin 3)).val = 0 := hβ.1
    have h1 : (β (1 : Fin 3)).val / 2 = q.val := hβ.2
    have h2 : (β (2 : Fin 3)).val < 1 := Nat.lt_of_lt_of_eq (β (2 : Fin 3)).isLt (show (1280 + 1280 - 1) / 1280 = 1 by decide)
    have b1 : (β (1 : Fin 3)).val - 2 * q.val < 2 := by omega
    refine ⟨⟨(β (1 : Fin 3)).val - 2 * q.val, b1⟩, fun a => ?_, f _⟩
    rw [e]
    revert a
    exact fun a : Fin 3 => match a with
      | 0 => h0.symm
      | 1 => by show 2 * q.val + ((β (1 : Fin 3)).val - 2 * q.val) = (β (1 : Fin 3)).val; omega
      | 2 => by show 0 = (β (2 : Fin 3)).val; omega

theorem eq_row (y : S1x256x1280.Idx) : ∃ (r : Fin 256) (l : Fin 1280), y = ix3 0 r l :=
  ⟨y 1, y 2, by rw [eq_ix3 y]; congr 1; exact Subsingleton.elim (α := Fin 1) _ _⟩

/-- The result: the sum in the core's rows, the previous array elsewhere. -/
theorem final (p : Fin 4) (q : Fin 2) (hp : (m (((0 : Dev nD) : Thread nD τ).loc main_arg2) : IVec S2 32) (ix1 0) = BitVec.ofNat 32 p.val)
    (hq : (m (((0 : Dev nD) : Thread nD τ).loc main_arg2) : IVec S2 32) (ix1 1) = BitVec.ofNat 32 q.val) :
    (dats m hO 0 c).arrAt 2 (cfgM m hO).N = val_main_v18 (F := Ideal) (m ((c : Thread nD τ).loc main_arg0))
      (m ((c : Thread nD τ).loc main_arg1)) (m ((c : Thread nD τ).loc main_arg2)) (m ((c : Thread nD τ).loc main_arg3)) := by
  obtain rfl : c = 0 := Subsingleton.elim (α := Fin 1) _ _
  refine (dats m hO 0 0).arrAt_eq_of_coversWhere_of_agree 2 _ _ (covers m hO p q hp hq) (fun t _ y => ?_) (fun j hj => ?_)
  · blk_simp
    obtain ⟨i0, i1, i2⟩ := idx m hO p q hp hq t
    have ht : t.val < 2 := t.isLt
    obtain ⟨r, l, rfl⟩ := eq_row y
    have p2 : (((cfgM m hO).win 2).blk t).view.emb (ix3 0 r l) = ix3 0 ⟨(2 * q.val + t.val) * 256 + r.val, by omega⟩ l := by blk_ext [i2]
    have b0 : (iblk m hO 0 0 t : Vec Ideal S1x1x256x1280 .bf16) (ix4 0 0 r l)
        = (m (((0 : Dev nD) : Thread nD τ).loc main_arg0) : Vec Ideal S1x4x512x1280 .bf16) (ix4 0 p ⟨t.val * 256 + r.val, by omega⟩ l) := by
      blk_point [iblk, V, i0]
    have b1 : ∀ s : Fin 4, (iblk m hO 0 1 t : Vec Ideal S1x4x256x1280 .bf16) (ix4 0 s r l)
        = (m (((0 : Dev nD) : Thread nD τ).loc main_arg1) : Vec Ideal S1x4x512x1280 .bf16) (ix4 0 s ⟨t.val * 256 + r.val, by omega⟩ l) := by
      intro s
      blk_point [iblk, V, i1]
    rw [after0_2, p2, inside q _ _ _ _ hq, dif_pos ⟨rfl, by show ((2 * q.val + t.val) * 256 + r.val) / 512 = q.val; omega⟩]
    have o := out_eq 0 (grid0.coords t) (ms0_0 m hO t) (hs0_0 m hO t) (ms0_1 m hO t) (hs0_1 m hO t) (ms0_2 m hO t) (hs0_2 m hO t)
      (iblk m hO 0 0 t) (iblk m hO 0 1 t) (tbl m 0) _ hp
    refine (congrFun o _).trans ?_
    refine (point p _ _ _ hp _ _ r ⟨t.val * 256 + r.val, by omega⟩ l b0 b1).trans ?_
    refine congrArg (fun R => val_main_v11 (F := Ideal) _ _ _ (ix3 0 R l)) (Fin.ext ?_)
    show t.val * 256 + r.val = ((2 * q.val + t.val) * 256 + r.val) % 512
    omega
  · refine ((A_eq m hO 0 2).trans (region_v0 m 0) |> (congrFun · _)).trans ?_
    refine ((inside q _ _ _ _ hq _).trans (dif_neg fun h => hj ?_)).symm
    have h0 : (j (0 : Fin 3)).val = 0 := h.1
    have h1 : (j (1 : Fin 3)).val / 512 = q.val := h.2
    constructor
    · show (j (0 : Fin 3)).val / 1 = 0
      omega
    · show (j (1 : Fin 3)).val / 256 / 2 = q.val
      omega

theorem frame_reference : Cert.quiescent_ChipsReferenceIdeal := fun m ρ _ =>
  (θ_run Cert.ChipsReferenceIdeal.defs _ _).mono
    (fun r h => ⟨fun c => (h c).2, sem_eq_zero_of_no_sems (by decide) r.2⟩)
    (Cert.ChipsReferenceIdeal.Value.run (F := Ideal) m ρ)

theorem frame_reference_pre : Cert.quiescent_ChipsReferenceIdeal_pre_position := fun m ρ _ => frame_reference m ρ trivial

theorem ok_ideal (h : Cert.Pre_ChipsKernelIdeal m) :
    ∃ (p : Fin 4) (q : Fin 2), (m (((0 : Dev nD) : Thread nD τ).loc main_arg2) : IVec S2 32) (ix1 0) = BitVec.ofNat 32 p.val
      ∧ (m (((0 : Dev nD) : Thread nD τ).loc main_arg2) : IVec S2 32) (ix1 1) = BitVec.ofNat 32 q.val ∧ Ok m := by
  obtain ⟨⟨p, hp⟩, q, hq⟩ := words_of_pre _ _ _ _ (h 0)
  refine ⟨p, q, hp, hq, fun i => ?_, fun i => ?_⟩
  · rw [(tbl_ideal m p q hp hq i).1]
    clear hp hq
    revert i p
    decide +kernel
  · rw [(tbl_ideal m p q hp hq i).2]
    clear hp hq
    revert i q
    decide +kernel

theorem frame_ideal : Cert.quiescent_ChipsKernelIdeal := fun m ρ h => by
  obtain ⟨p, q, hp, hq, hO⟩ := ok_ideal m h
  exact Cert.ChipsKernelIdeal.Gen.frame m ρ hO

/-- The results agree. -/
theorem algebraic : Cert.algebraic_ChipsKernelIdeal_ChipsReferenceIdeal := by
  intro m g m' g' hpre hargs
  obtain ⟨p, q, hp, hq, hO⟩ := ok_ideal m hpre
  refine ⟨fun c => (dats m hO 0 c).arrAt 2 (cfgM m hO).N, (θ_run _ _ _).mono (fun r h c => ?_) (run_main m g hO),
    (θ_run _ _ _).mono (fun r h c => ?_) (Cert.ChipsReferenceIdeal.Value.run (F := Ideal) m' g')⟩
  · refine ⟨(h c).1 2, ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩
  · obtain ⟨h0, hk⟩ := h c
    obtain ⟨a0, a1, a2, a3⟩ := hargs c
    refine ⟨h0.trans ((val_main_v18_eq _ _ _ _).trans (Eq.trans ?_ (final m hO c p q hp hq).symm)), hk⟩
    rw [a0, a1, a2, a3]

end

end Cert.ChipsClaim

end
-- ==== Proof.EvenBwdRun.lean ====
/- The gradient of the even mixer: one point of its grid. -/
module

public import proofs.«01_k».proof.Proof.Gen.EvenKernel.Frame.Runs

@[expose] public section

set_option maxRecDepth 16384

noncomputable section

namespace Cert.EvenBwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenKernel Cert.EvenKernel.Gen

variable {F : FTy → Type} [FloatOps F]

local notation "𝕄" => MT nD τ sig Unit (Elt F) ℕ (UR sig nD τ) ℕ

/-- What the body has hold of: the inputs at their blocks, the results and its own buffers at anything. -/
def held (c : Dev nD) (arg1 : Memref sig .tc .vmem S256x5120 .f32) (arg2 : Memref sig .tc .vmem S32x5120 .f32) (arg3 : Memref sig .tc .vmem S32x5120 .f32) (arg4 : Memref sig .tc .vmem S256x1024 .f32)
    (arg5 : Memref sig .tc .vmem S32x1024 .f32) (arg6 : Memref sig .tc .vmem S256x1024 .bf16) (arg7 : Memref sig .tc .vmem S32x1024 .bf16) (arg8 : Memref sig .tc .vmem S1x2048x1024 .bf16)
    (arg9 : Memref sig .tc .vmem S8x128 .f32) (arg10 : Memref sig .tc .vmem S1x32x1024 .f32) (arg11 : Memref sig .tc .vmem S1x1x1024 .f32) (arg12 : Memref sig .tc .vmem S1x1x1024 .f32)
    (arg13 : Memref sig .tc .vmem S4x256x256 .bf16) (arg14 : Memref sig .tc .vmem S1x1x1024 .f32) (arg15 : Memref sig .tc .vmem S1x1x1024 .f32) (arg16 : Memref sig .tc .vmem S256x5120 .bf16)
    (arg17 : Memref sig .tc .vmem S256x1024 .f32) (arg18 : Memref sig .tc .vmem S8x1024 .f32) (arg19 : Memref sig .tc .vmem S4x256x256 .f32) (arg20 : Memref sig .tc .vmem S296x1024 .f32)
    (arg21 : Memref sig .tc .vmem S8x288x1024 .f32) (arg22 : Memref sig .tc .vmem S256x1024 .f32) (arg23 : Memref sig .tc .vmem S32x8x1024 .f32)
    (x0 : Vec F S256x5120 .f32) (x1 : Vec F S32x5120 .f32) (x2 : Vec F S32x5120 .f32) (x3 : Vec F S256x1024 .f32) (x4 : Vec F S32x1024 .f32)
  (x5 : Vec F S256x1024 .bf16) (x6 : Vec F S32x1024 .bf16) (x7 : Vec F S1x2048x1024 .bf16) (x8 : Vec F S8x128 .f32) (x9 : Vec F S1x32x1024 .f32)
  (x10 : Vec F S1x1x1024 .f32) (x11 : Vec F S1x1x1024 .f32) (x12 : Vec F S4x256x256 .bf16) (x13 : Vec F S1x1x1024 .f32) (x14 : Vec F S1x1x1024 .f32) : sProp 𝕄 :=
  iprop(owns (c : Thread nD τ) arg1 fullShare x0 ∗ owns (c : Thread nD τ) arg2 fullShare x1 ∗ owns (c : Thread nD τ) arg3 fullShare x2 ∗
    owns (c : Thread nD τ) arg4 fullShare x3 ∗ owns (c : Thread nD τ) arg5 fullShare x4 ∗ owns (c : Thread nD τ) arg6 fullShare x5 ∗
    owns (c : Thread nD τ) arg7 fullShare x6 ∗ owns (c : Thread nD τ) arg8 fullShare x7 ∗ owns (c : Thread nD τ) arg9 fullShare x8 ∗
    owns (c : Thread nD τ) arg10 fullShare x9 ∗ owns (c : Thread nD τ) arg11 fullShare x10 ∗ owns (c : Thread nD τ) arg12 fullShare x11 ∗
    owns (c : Thread nD τ) arg13 fullShare x12 ∗ owns (c : Thread nD τ) arg14 fullShare x13 ∗ owns (c : Thread nD τ) arg15 fullShare x14 ∗
    (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗
    (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d))

variable {arg1 : Memref sig .tc .vmem S256x5120 .f32} (harg1 : arg1.IsWhole) {arg2 : Memref sig .tc .vmem S32x5120 .f32} (harg2 : arg2.IsWhole) {arg3 : Memref sig .tc .vmem S32x5120 .f32} (harg3 : arg3.IsWhole)
  {arg4 : Memref sig .tc .vmem S256x1024 .f32} (harg4 : arg4.IsWhole) {arg5 : Memref sig .tc .vmem S32x1024 .f32} (harg5 : arg5.IsWhole) {arg6 : Memref sig .tc .vmem S256x1024 .bf16} (harg6 : arg6.IsWhole)
  {arg7 : Memref sig .tc .vmem S32x1024 .bf16} (harg7 : arg7.IsWhole) {arg8 : Memref sig .tc .vmem S1x2048x1024 .bf16} (harg8 : arg8.IsWhole) {arg9 : Memref sig .tc .vmem S8x128 .f32} (harg9 : arg9.IsWhole)
  {arg10 : Memref sig .tc .vmem S1x32x1024 .f32} (harg10 : arg10.IsWhole) {arg11 : Memref sig .tc .vmem S1x1x1024 .f32} (harg11 : arg11.IsWhole) {arg12 : Memref sig .tc .vmem S1x1x1024 .f32} (harg12 : arg12.IsWhole)
  {arg13 : Memref sig .tc .vmem S4x256x256 .bf16} (harg13 : arg13.IsWhole) {arg14 : Memref sig .tc .vmem S1x1x1024 .f32} (harg14 : arg14.IsWhole) {arg15 : Memref sig .tc .vmem S1x1x1024 .f32} (harg15 : arg15.IsWhole)
  {arg16 : Memref sig .tc .vmem S256x5120 .bf16} (harg16 : arg16.IsWhole) {arg17 : Memref sig .tc .vmem S256x1024 .f32} (harg17 : arg17.IsWhole) {arg18 : Memref sig .tc .vmem S8x1024 .f32} (harg18 : arg18.IsWhole)
  {arg19 : Memref sig .tc .vmem S4x256x256 .f32} (harg19 : arg19.IsWhole) {arg20 : Memref sig .tc .vmem S296x1024 .f32} (harg20 : arg20.IsWhole) {arg21 : Memref sig .tc .vmem S8x288x1024 .f32} (harg21 : arg21.IsWhole)
  {arg22 : Memref sig .tc .vmem S256x1024 .f32} (harg22 : arg22.IsWhole) {arg23 : Memref sig .tc .vmem S32x8x1024 .f32} (harg23 : arg23.IsWhole)

variable (x0 : Vec F S256x5120 .f32) (x1 : Vec F S32x5120 .f32) (x2 : Vec F S32x5120 .f32) (x3 : Vec F S256x1024 .f32) (x4 : Vec F S32x1024 .f32)
  (x5 : Vec F S256x1024 .bf16) (x6 : Vec F S32x1024 .bf16) (x7 : Vec F S1x2048x1024 .bf16) (x8 : Vec F S8x128 .f32) (x9 : Vec F S1x32x1024 .f32)
  (x10 : Vec F S1x1x1024 .f32) (x11 : Vec F S1x1x1024 .f32) (x12 : Vec F S4x256x256 .bf16) (x13 : Vec F S1x1x1024 .f32) (x14 : Vec F S1x1x1024 .f32)

set_option maxHeartbeats 3856000 in
/-- The first point of the grid: every branch that starts a sum is taken, none that adds to one. -/
theorem first_point (c : Dev nD) (i : grid0.Coords)
    (hc0 : cond0_0 i) (hc1 : cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i)
    (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23
        x0 x1 x2 x3 x4 x5 x6 x7 x8 x9 x10 x11 x12 x13 x14
      ∗ (held c arg1 arg2 arg3 arg4 arg5 arg6 arg7 arg8 arg9 arg10 arg11 arg12 arg13 arg14 arg15 arg16 arg17 arg18 arg19 arg20 arg21 arg22 arg23
        x0 x1 x2 x3 x4 x5 x6 x7 x8 x9 x10 x11 x12 x13 x14 -∗ K ⟨⟩))
      ⊢ wp frame (wpE (defs₀ (F := F)) Variants.none c none) E (cc0_even_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_even_mixer_bwd_eq_skeleton]; unfold cc0_even_mixer_bwd_skel
  simp only [k0_part103_eq_skeleton, k0_part80_eq_skeleton, k0_part1_eq_skeleton, k0_part2_eq_skeleton, k0_part3_eq_skeleton, k0_part4_eq_skeleton, k0_part5_eq_skeleton, k0_part6_eq_skeleton, k0_part7_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

set_option maxHeartbeats 3856000 in
/-- Any later point: every branch that adds to a sum is taken, none that starts one. -/
theorem later_point (c : Dev nD) (i : grid0.Coords)
    (hc0 : ¬cond0_0 i) (hc1 : ¬cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i)
    (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23
        x0 x1 x2 x3 x4 x5 x6 x7 x8 x9 x10 x11 x12 x13 x14
      ∗ (held c arg1 arg2 arg3 arg4 arg5 arg6 arg7 arg8 arg9 arg10 arg11 arg12 arg13 arg14 arg15 arg16 arg17 arg18 arg19 arg20 arg21 arg22 arg23
        x0 x1 x2 x3 x4 x5 x6 x7 x8 x9 x10 x11 x12 x13 x14 -∗ K ⟨⟩))
      ⊢ wp frame (wpE (defs₀ (F := F)) Variants.none c none) E (cc0_even_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_even_mixer_bwd_eq_skeleton]; unfold cc0_even_mixer_bwd_skel
  simp only [k0_part103_eq_skeleton, k0_part80_eq_skeleton, k0_part1_eq_skeleton, k0_part2_eq_skeleton, k0_part3_eq_skeleton, k0_part4_eq_skeleton, k0_part5_eq_skeleton, k0_part6_eq_skeleton, k0_part7_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.EvenBwdRun

end
-- ==== Proof.EvenBwdFrame.lean ====
/- The gradient of the even mixer: the run of the whole grid, and what it leaves alone. -/
module

public import proofs.«01_k».proof.Proof.EvenBwdRun
public import Idealize.ShloMosaic.Lib.Claim

@[expose] public section

set_option maxRecDepth 16384

noncomputable section

namespace Cert.EvenBwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenKernel Cert.EvenKernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is said of the grid -/

/-- Nothing is said of the four results. -/
def unsaid : Fin 19 → Bool := fun w => w.val == 15 || w.val == 16 || w.val == 17 || w.val == 18

/-- Every input keeps its block at every point, and the kernel's own buffers hold anything between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d
theorem before_10 (c : Dev nD) (t : Fin cfg0.N) (d) : (dats m 0 c).before 10 t d = iblk m c 10 t :=
  before0_10_of m (dats m 0 c) (A_eq m c 10) (fun _ => by dsimp only [dats]) t d
theorem before_11 (c : Dev nD) (t : Fin cfg0.N) (d) : (dats m 0 c).before 11 t d = iblk m c 11 t :=
  before0_11_of m (dats m 0 c) (A_eq m c 11) (fun _ => by dsimp only [dats]) t d
theorem before_12 (c : Dev nD) (t : Fin cfg0.N) (d) : (dats m 0 c).before 12 t d = iblk m c 12 t :=
  before0_12_of m (dats m 0 c) (A_eq m c 12) (fun _ => by dsimp only [dats]) t d
theorem before_13 (c : Dev nD) (t : Fin cfg0.N) (d) : (dats m 0 c).before 13 t d = iblk m c 13 t :=
  before0_13_of m (dats m 0 c) (A_eq m c 13) (fun _ => by dsimp only [dats]) t d
theorem before_14 (c : Dev nD) (t : Fin cfg0.N) (d) : (dats m 0 c).before 14 t d = iblk m c 14 t :=
  before0_14_of m (dats m 0 c) (A_eq m c 14) (fun _ => by dsimp only [dats]) t d

theorem leaves_0 (c : Dev nD) (t : Fin cfg0.N) : (dats m 0 c).leavesExact 0 t = owns (c : Thread nD τ) (ms0_0 t) fullShare (iblk m c 0 t) := by
  unfold Dat.leavesExact; rw [liveAt0_0 t]; dsimp only [dats]
theorem leaves_1 (c : Dev nD) (t : Fin cfg0.N) : (dats m 0 c).leavesExact 1 t = owns (c : Thread nD τ) (ms0_1 t) fullShare (iblk m c 1 t) := by
  unfold Dat.leavesExact; rw [liveAt0_1 t]; dsimp only [dats]
theorem leaves_2 (c : Dev nD) (t : Fin cfg0.N) : (dats m 0 c).leavesExact 2 t = owns (c : Thread nD τ) (ms0_2 t) fullShare (iblk m c 2 t) := by
  unfold Dat.leavesExact; rw [liveAt0_2 t]; dsimp only [dats]
theorem leaves_3 (c : Dev nD) (t : Fin cfg0.N) : (dats m 0 c).leavesExact 3 t = owns (c : Thread nD τ) (ms0_3 t) fullShare (iblk m c 3 t) := by
  unfold Dat.leavesExact; rw [liveAt0_3 t]; dsimp only [dats]
theorem leaves_4 (c : Dev nD) (t : Fin cfg0.N) : (dats m 0 c).leavesExact 4 t = owns (c : Thread nD τ) (ms0_4 t) fullShare (iblk m c 4 t) := by
  unfold Dat.leavesExact; rw [liveAt0_4 t]; dsimp only [dats]
theorem leaves_5 (c : Dev nD) (t : Fin cfg0.N) : (dats m 0 c).leavesExact 5 t = owns (c : Thread nD τ) (ms0_5 t) fullShare (iblk m c 5 t) := by
  unfold Dat.leavesExact; rw [liveAt0_5 t]; dsimp only [dats]
theorem leaves_6 (c : Dev nD) (t : Fin cfg0.N) : (dats m 0 c).leavesExact 6 t = owns (c : Thread nD τ) (ms0_6 t) fullShare (iblk m c 6 t) := by
  unfold Dat.leavesExact; rw [liveAt0_6 t]; dsimp only [dats]
theorem leaves_7 (c : Dev nD) (t : Fin cfg0.N) : (dats m 0 c).leavesExact 7 t = owns (c : Thread nD τ) (ms0_7 t) fullShare (iblk m c 7 t) := by
  unfold Dat.leavesExact; rw [liveAt0_7 t]; dsimp only [dats]
theorem leaves_8 (c : Dev nD) (t : Fin cfg0.N) : (dats m 0 c).leavesExact 8 t = owns (c : Thread nD τ) (ms0_8 t) fullShare (iblk m c 8 t) := by
  unfold Dat.leavesExact; rw [liveAt0_8 t]; dsimp only [dats]
theorem leaves_9 (c : Dev nD) (t : Fin cfg0.N) : (dats m 0 c).leavesExact 9 t = owns (c : Thread nD τ) (ms0_9 t) fullShare (iblk m c 9 t) := by
  unfold Dat.leavesExact; rw [liveAt0_9 t]; dsimp only [dats]
theorem leaves_10 (c : Dev nD) (t : Fin cfg0.N) : (dats m 0 c).leavesExact 10 t = owns (c : Thread nD τ) (ms0_10 t) fullShare (iblk m c 10 t) := by
  unfold Dat.leavesExact; rw [liveAt0_10 t]; dsimp only [dats]
theorem leaves_11 (c : Dev nD) (t : Fin cfg0.N) : (dats m 0 c).leavesExact 11 t = owns (c : Thread nD τ) (ms0_11 t) fullShare (iblk m c 11 t) := by
  unfold Dat.leavesExact; rw [liveAt0_11 t]; dsimp only [dats]
theorem leaves_12 (c : Dev nD) (t : Fin cfg0.N) : (dats m 0 c).leavesExact 12 t = owns (c : Thread nD τ) (ms0_12 t) fullShare (iblk m c 12 t) := by
  unfold Dat.leavesExact; rw [liveAt0_12 t]; dsimp only [dats]
theorem leaves_13 (c : Dev nD) (t : Fin cfg0.N) : (dats m 0 c).leavesExact 13 t = owns (c : Thread nD τ) (ms0_13 t) fullShare (iblk m c 13 t) := by
  unfold Dat.leavesExact; rw [liveAt0_13 t]; dsimp only [dats]
theorem leaves_14 (c : Dev nD) (t : Fin cfg0.N) : (dats m 0 c).leavesExact 14 t = owns (c : Thread nD τ) (ms0_14 t) fullShare (iblk m c 14 t) := by
  unfold Dat.leavesExact; rw [liveAt0_14 t]; dsimp only [dats]

/-! ## The body at a point -/

/-- The body at point `t` as a triple over what it has hold of. -/
theorem body_held (c : Dev nD) (t : Fin cfg0.N) (E : Set ℕ) (K : PUnit → sProp 𝕄) :
    iprop(held c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) scM0_0 scM0_1 scM0_2 scM0_3
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      ∗ (held c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) scM0_0 scM0_1 scM0_2 scM0_3
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) -∗ K ⟨⟩))
      ⊢ wp frame (wpE (defs₀ (F := F)) Variants.none c none) E (bodyAt0 t) K := by
  have hN : t.val < 8 := lt_of_lt_of_eq t.isLt (show cfg0.N = 8 from N_0)
  unfold bodyAt0
  by_cases hz : t.val = 0
  · exact first_point (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (Memref.isWhole_whole _) (Memref.isWhole_whole _) (Memref.isWhole_whole _) (Memref.isWhole_whole _)
      _ _ _ _ _ _ _ _ _ _ _ _ _ _ _ c (grid0.coords t)
      ((hcond0_0 t).mpr (by omega)) ((hcond0_1 t).mpr (by omega)) ((hcond0_2 t).mpr (by omega)) (fun h => absurd ((hcond0_3 t).mp h) (by omega)) ((hcond0_4 t).mpr (by omega)) (fun h => absurd ((hcond0_5 t).mp h) (by omega)) ((hcond0_6 t).mpr (by omega)) (fun h => absurd ((hcond0_7 t).mp h) (by omega)) ((hcond0_8 t).mpr (by omega)) (fun h => absurd ((hcond0_9 t).mp h) (by omega)) ((hcond0_10 t).mpr (by omega)) (fun h => absurd ((hcond0_11 t).mp h) (by omega)) E K
  · exact later_point (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (Memref.isWhole_whole _) (Memref.isWhole_whole _) (Memref.isWhole_whole _) (Memref.isWhole_whole _)
      _ _ _ _ _ _ _ _ _ _ _ _ _ _ _ c (grid0.coords t)
      (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega)) ((hcond0_5 t).mpr (by omega)) (fun h => absurd ((hcond0_6 t).mp h) (by omega)) ((hcond0_7 t).mpr (by omega)) (fun h => absurd ((hcond0_8 t).mp h) (by omega)) ((hcond0_9 t).mpr (by omega)) (fun h => absurd ((hcond0_10 t).mp h) (by omega)) ((hcond0_11 t).mpr (by omega)) E K

set_option maxHeartbeats 4000000 in
/-- The same over what the grid hands to the body and takes back from it. -/
theorem body_point (c : Dev nD) (t : Fin cfg0.N) :
    iprop((dats m 0 c).Φ t.castSucc ∗ (dats m 0 c).owesAt () t.castSucc
      ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d))
      ∗ (∃ d, owns (c : Thread nD τ) (ms0_15 t) fullShare d) ∗ (∃ d, owns (c : Thread nD τ) (ms0_16 t) fullShare d) ∗ (∃ d, owns (c : Thread nD τ) (ms0_17 t) fullShare d) ∗ (∃ d, owns (c : Thread nD τ) (ms0_18 t) fullShare d))
    ⊢ wp frame (wpE (defs₀ (F := F)) Variants.none c none) Set.univ (bodyAt0 t) (fun _ =>
      iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t
      ∗ (∃ d, owns (c : Thread nD τ) (ms0_15 t) fullShare d) ∗ (∃ d, owns (c : Thread nD τ) (ms0_16 t) fullShare d) ∗ (∃ d, owns (c : Thread nD τ) (ms0_17 t) fullShare d) ∗ (∃ d, owns (c : Thread nD τ) (ms0_18 t) fullShare d))) := by
  simp only [before_0, before_1, before_2, before_3, before_4, before_5, before_6, before_7, before_8, before_9, before_10, before_11, before_12, before_13, before_14]
  rw [leaves_0, leaves_1, leaves_2, leaves_3, leaves_4, leaves_5, leaves_6, leaves_7, leaves_8, leaves_9, leaves_10, leaves_11, leaves_12, leaves_13, leaves_14]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15, H16, H17, H18⟩
  iapply (body_held m c t Set.univ _)
  unfold held
  isplitl [H0 H1 H2 H3 H4 H5 H6 H7 H8 H9 H10 H11 H12 H13 H14 H15 H16 H17 H18 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    iexact S3
  iintro ⟨H0, H1, H2, H3, H4, H5, H6, H7, H8, H9, H10, H11, H12, H13, H14, H15, H16, H17, H18, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ unsaid := fun t => by
  rw [bigSep_W0, bigSep_W0, show defs₀ (F := F) .tc cfg0.body (cfg0.bodyArgs t (cfg0.slots t)) = bodyAt0 t from by unfold defs₀; rw [Defs.onTc_tc]]
  exact triple_restated (body_point m c t) rfl .rfl fun _ => .rfl

/-! ## The whole program -/

/-- What the lines after the grid write. -/
def tail : Finset (Ref sig .tc) := {main_cst_6, main_v42, main_v43, main_v44}

theorem tail_writes : ∀ ops ∈ ([hostOps1] : List (List (HloOp τ sig (Elt F)))), ∀ op ∈ ops,
    ∀ b : Ref sig .tc, Proc.devRef .tc b ∈ op.writes → b ∈ tail := by
  intro ops hops op hop
  simp only [List.mem_cons, List.mem_nil_iff, or_false] at hops
  subst hops
  simp only [hostOps1, List.mem_cons, List.mem_nil_iff, or_false] at hop
  rcases hop with rfl | rfl | rfl | rfl
  all_goals
    intro b hb
    simp only [StableHlo.nullary_writes, StableHlo.unary_writes, StableHlo.binary_writes, StableHlo.ternary_writes, StableHlo.quaternary_writes, StableHlo.reshape_writes, Finset.mem_singleton] at hb
    cases Proc.devRef_injective _ hb; decide

set_option backward.isDefEq.respectTransparency.types false in
set_option maxHeartbeats 800000 in
/-- Every run ends, with the inputs' arrays and every buffer no later line writes as the grid found them. -/
theorem run_grid : θ_run defs (onTc (τ := τ) (main (F := F))) (s₀ m ρ)
    (fun r => (Pipeline.RDat.FramePostR (cfgs 0) (fun c => (dats m 0 c).toRForget unsaid) tail (V m)) r ∧ r.2.sem = fun _ => 0) :=
  Pipeline.θ_run_frame_around_T_track_forget_shared (Q' := _) cfgs (dats m) (0 : Fin 1) launch₀0 defs₀ Variants.none unsaid tail m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hin := fun _ => Idealize.SL.BI.Entails.refl _) (hout := fun _ => Idealize.SL.BI.Entails.refl _)

/-- Whatever is said of the grid, a run that leaves the inputs' arrays and the other buffers alone leaves the arguments alone. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat tail (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePostR.arr_in h c 2 rfl).trans ((hA c 2).trans (V_main_arg0 m c)),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      (Pipeline.RDat.FramePostR.arr_in h c 12 rfl).trans ((hA c 12).trans (V_main_arg5 m c)),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      (Pipeline.RDat.FramePostR.arr_in h c 6 rfl).trans ((hA c 6).trans (V_main_arg9 m c))⟩) h

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged_of m ρ (fun c => (dats m 0 c).toRForget unsaid) (A_eq m) ((θ_run defs _ _).mono (fun _ h => h.1) (run_grid m ρ)))
    ((θ_run defs _ _).mono (fun _ h => h.2) (run_grid m ρ))

end Cert.EvenBwdRun

end
-- ==== Proof.EvenBwdClaim.lean ====
/- The gradient of the even mixer: what it leaves alone. -/
module

public import proofs.«01_k».proof.Defs
public import proofs.«01_k».proof.Proof.Gen.EvenKernel
public import proofs.«01_k».proof.Proof.Gen.EvenKernelIdeal
public import proofs.«01_k».proof.Proof.Gen.EvenReferenceIdeal
public import proofs.«01_k».proof.Proof.Gen.EvenReferenceIdeal.Run
public import proofs.«01_k».proof.Proof.EvenBwdFrame
public import Idealize.ShloMosaic.Adequacy

@[expose] public section

set_option maxRecDepth 16384

noncomputable section

namespace Cert.EvenBwdClaim

open Idealize.ShloMosaic Idealize.ShloMosaic.TcCoe Idealize.ShloMosaic.Tactic
open Idealize.SL Idealize.SL.Sem

/-- The kernel leaves its arguments alone and its semaphores at zero, whatever its sums come to. -/
theorem frame_kernel : Cert.quiescent_EvenKernel := fun m ρ _ => Cert.EvenBwdRun.frame m ρ

/-- So it does in ideal arithmetic, in which it is the same program. -/
theorem frame_ideal : Cert.quiescent_EvenKernelIdeal := fun m ρ _ =>
  cast (by sl_kernel_rfl) (Cert.EvenBwdRun.frame (F := Ideal) m ρ)

/-- The reference leaves its arguments alone and has no semaphores. -/
theorem frame_reference : Cert.quiescent_EvenReferenceIdeal := fun m ρ _ =>
  (θ_run Cert.EvenReferenceIdeal.defs _ _).mono
    (fun r h => ⟨fun c => (h c).2.2.2.2, sem_eq_zero_of_no_sems (by decide) r.2⟩)
    (Cert.EvenReferenceIdeal.Value.run (F := Ideal) m ρ)

end Cert.EvenBwdClaim

end
-- ==== Proof.OddBwdRun.lean ====
/- The gradient of the odd mixer: one point of its grid. -/
module

public import proofs.«01_k».proof.Proof.Gen.OddKernel.Loops
public import proofs.«01_k».proof.Proof.Gen.OddKernel.Points
public import Idealize.ShloMosaic.Lib.Pipeline.FrameBody
public import Idealize.ShloMosaic.Lib.Tactic

@[expose] public section

set_option maxRecDepth 16384

noncomputable section

namespace Cert.OddBwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddKernel Cert.OddKernel.Gen

variable {F : FTy → Type} [FloatOps F]

local notation "𝕄" => MT nD τ sig Unit (Elt F) ℕ (UR sig nD τ) ℕ

/-- What the body has hold of: the inputs at their blocks, the results and its own buffers at anything. -/
def held (c : Dev nD) (arg1 : Memref sig .tc .vmem S256x3072 .f32) (arg2 : Memref sig .tc .vmem S8x3072 .f32) (arg3 : Memref sig .tc .vmem S256x1536 .f32) (arg4 : Memref sig .tc .vmem S8x1536 .f32)
    (arg5 : Memref sig .tc .vmem S256x1024 .bf16) (arg6 : Memref sig .tc .vmem S1x1536x1024 .bf16) (arg7 : Memref sig .tc .vmem S8x128 .f32) (arg8 : Memref sig .tc .vmem S1x8x1536 .f32)
    (arg9 : Memref sig .tc .vmem S1x1x1536 .f32) (arg10 : Memref sig .tc .vmem S1x12x128x128 .bf16) (arg11 : Memref sig .tc .vmem S1x1x1536 .f32) (arg12 : Memref sig .tc .vmem S1x12x128x128 .bf16)
    (arg13 : Memref sig .tc .vmem S1x1x1536 .f32) (arg14 : Memref sig .tc .vmem S1x1x1536 .f32) (arg15 : Memref sig .tc .vmem S256x3072 .bf16) (arg16 : Memref sig .tc .vmem S12x128x128 .f32)
    (arg17 : Memref sig .tc .vmem S12x128x128 .f32) (arg18 : Memref sig .tc .vmem S8x1536 .f32) (arg19 : Memref sig .tc .vmem S8x1536 .f32) (arg20 : Memref sig .tc .vmem S8x1536 .f32)
    (arg21 : Memref sig .tc .vmem S256x1536 .f32) (arg22 : Memref sig .tc .vmem S256x1536 .f32) (arg23 : Memref sig .tc .vmem S256x1536 .f32)
    (x0 : Vec F S256x3072 .f32) (x1 : Vec F S8x3072 .f32) (x2 : Vec F S256x1536 .f32) (x3 : Vec F S8x1536 .f32) (x4 : Vec F S256x1024 .bf16)
    (x5 : Vec F S1x1536x1024 .bf16) (x6 : Vec F S8x128 .f32) (x7 : Vec F S1x8x1536 .f32) (x8 : Vec F S1x1x1536 .f32) (x9 : Vec F S1x12x128x128 .bf16)
    (x10 : Vec F S1x1x1536 .f32) (x11 : Vec F S1x12x128x128 .bf16) (x12 : Vec F S1x1x1536 .f32) (x13 : Vec F S1x1x1536 .f32) : sProp 𝕄 :=
  iprop(owns (c : Thread nD τ) arg1 fullShare x0 ∗ owns (c : Thread nD τ) arg2 fullShare x1 ∗ owns (c : Thread nD τ) arg3 fullShare x2 ∗
    owns (c : Thread nD τ) arg4 fullShare x3 ∗ owns (c : Thread nD τ) arg5 fullShare x4 ∗ owns (c : Thread nD τ) arg6 fullShare x5 ∗
    owns (c : Thread nD τ) arg7 fullShare x6 ∗ owns (c : Thread nD τ) arg8 fullShare x7 ∗ owns (c : Thread nD τ) arg9 fullShare x8 ∗
    owns (c : Thread nD τ) arg10 fullShare x9 ∗ owns (c : Thread nD τ) arg11 fullShare x10 ∗ owns (c : Thread nD τ) arg12 fullShare x11 ∗
    owns (c : Thread nD τ) arg13 fullShare x12 ∗ owns (c : Thread nD τ) arg14 fullShare x13 ∗
    (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗
    (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d))

/-- The branches at the first point: those that start a sum are taken, those that add to one are not. -/
abbrev Starts (i : grid0.Coords) : Prop :=
  ((Scalar.cmpi .ne (Scalar.extui (Scalar.cmpi .eq (BitVec.ofNat 32 (i 0).val) 0#32)) 0#32) = 1#1) ∧ k0_cond2 i = 1#1 ∧ ¬k0_cond3 i = 1#1 ∧ k0_cond4 i = 1#1 ∧ ¬k0_cond5 i = 1#1 ∧ k0_cond6 i = 1#1
    ∧ ¬k0_cond7 i = 1#1 ∧ k0_cond8 i = 1#1 ∧ ¬k0_cond9 i = 1#1 ∧ k0_cond10 i = 1#1 ∧ ¬k0_cond11 i = 1#1 ∧ k0_cond12 i = 1#1
    ∧ ¬k0_cond13 i = 1#1 ∧ k0_cond14 i = 1#1 ∧ ¬k0_cond15 i = 1#1 ∧ k0_cond16 i = 1#1 ∧ ¬k0_cond17 i = 1#1 ∧ k0_cond18 i = 1#1
    ∧ ¬k0_cond19 i = 1#1 ∧ k0_cond20 i = 1#1 ∧ ¬k0_cond21 i = 1#1 ∧ k0_cond22 i = 1#1 ∧ ¬k0_cond23 i = 1#1 ∧ k0_cond24 i = 1#1
    ∧ ¬k0_cond25 i = 1#1 ∧ k0_cond26 i = 1#1 ∧ ¬k0_cond27 i = 1#1

/-- The branches at every later point: the other way round. -/
abbrev Adds (i : grid0.Coords) : Prop :=
  ¬((Scalar.cmpi .ne (Scalar.extui (Scalar.cmpi .eq (BitVec.ofNat 32 (i 0).val) 0#32)) 0#32) = 1#1) ∧ ¬k0_cond2 i = 1#1 ∧ k0_cond3 i = 1#1 ∧ ¬k0_cond4 i = 1#1 ∧ k0_cond5 i = 1#1 ∧ ¬k0_cond6 i = 1#1
    ∧ k0_cond7 i = 1#1 ∧ ¬k0_cond8 i = 1#1 ∧ k0_cond9 i = 1#1 ∧ ¬k0_cond10 i = 1#1 ∧ k0_cond11 i = 1#1 ∧ ¬k0_cond12 i = 1#1
    ∧ k0_cond13 i = 1#1 ∧ ¬k0_cond14 i = 1#1 ∧ k0_cond15 i = 1#1 ∧ ¬k0_cond16 i = 1#1 ∧ k0_cond17 i = 1#1 ∧ ¬k0_cond18 i = 1#1
    ∧ k0_cond19 i = 1#1 ∧ ¬k0_cond20 i = 1#1 ∧ k0_cond21 i = 1#1 ∧ ¬k0_cond22 i = 1#1 ∧ k0_cond23 i = 1#1 ∧ ¬k0_cond24 i = 1#1
    ∧ k0_cond25 i = 1#1 ∧ ¬k0_cond26 i = 1#1 ∧ k0_cond27 i = 1#1

variable {arg1 : Memref sig .tc .vmem S256x3072 .f32} (harg1 : arg1.IsWhole) {arg2 : Memref sig .tc .vmem S8x3072 .f32} (harg2 : arg2.IsWhole) {arg3 : Memref sig .tc .vmem S256x1536 .f32} (harg3 : arg3.IsWhole)
  {arg4 : Memref sig .tc .vmem S8x1536 .f32} (harg4 : arg4.IsWhole) {arg5 : Memref sig .tc .vmem S256x1024 .bf16} (harg5 : arg5.IsWhole) {arg6 : Memref sig .tc .vmem S1x1536x1024 .bf16} (harg6 : arg6.IsWhole)
  {arg7 : Memref sig .tc .vmem S8x128 .f32} (harg7 : arg7.IsWhole) {arg8 : Memref sig .tc .vmem S1x8x1536 .f32} (harg8 : arg8.IsWhole) {arg9 : Memref sig .tc .vmem S1x1x1536 .f32} (harg9 : arg9.IsWhole)
  {arg10 : Memref sig .tc .vmem S1x12x128x128 .bf16} (harg10 : arg10.IsWhole) {arg11 : Memref sig .tc .vmem S1x1x1536 .f32} (harg11 : arg11.IsWhole) {arg12 : Memref sig .tc .vmem S1x12x128x128 .bf16} (harg12 : arg12.IsWhole)
  {arg13 : Memref sig .tc .vmem S1x1x1536 .f32} (harg13 : arg13.IsWhole) {arg14 : Memref sig .tc .vmem S1x1x1536 .f32} (harg14 : arg14.IsWhole) {arg15 : Memref sig .tc .vmem S256x3072 .bf16} (harg15 : arg15.IsWhole)
  {arg16 : Memref sig .tc .vmem S12x128x128 .f32} (harg16 : arg16.IsWhole) {arg17 : Memref sig .tc .vmem S12x128x128 .f32} (harg17 : arg17.IsWhole) {arg18 : Memref sig .tc .vmem S8x1536 .f32} (harg18 : arg18.IsWhole)
  {arg19 : Memref sig .tc .vmem S8x1536 .f32} (harg19 : arg19.IsWhole) {arg20 : Memref sig .tc .vmem S8x1536 .f32} (harg20 : arg20.IsWhole) {arg21 : Memref sig .tc .vmem S256x1536 .f32} (harg21 : arg21.IsWhole)
  {arg22 : Memref sig .tc .vmem S256x1536 .f32} (harg22 : arg22.IsWhole) {arg23 : Memref sig .tc .vmem S256x1536 .f32} (harg23 : arg23.IsWhole)

set_option maxHeartbeats 8000000 in
/-- The body at the first point of the grid, the loop over the carried gradient included. -/
theorem first_point (c : Dev nD) (i : grid0.Coords) (hi : Starts i)
    (x0 : Vec F S256x3072 .f32) (x1 : Vec F S8x3072 .f32) (x2 : Vec F S256x1536 .f32) (x3 : Vec F S8x1536 .f32) (x4 : Vec F S256x1024 .bf16)
    (x5 : Vec F S1x1536x1024 .bf16) (x6 : Vec F S8x128 .f32) (x7 : Vec F S1x8x1536 .f32) (x8 : Vec F S1x1x1536 .f32) (x9 : Vec F S1x12x128x128 .bf16)
    (x10 : Vec F S1x1x1536 .f32) (x11 : Vec F S1x12x128x128 .bf16) (x12 : Vec F S1x1x1536 .f32) (x13 : Vec F S1x1x1536 .f32)
    (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23
        x0 x1 x2 x3 x4 x5 x6 x7 x8 x9 x10 x11 x12 x13
      ∗ (held c arg1 arg2 arg3 arg4 arg5 arg6 arg7 arg8 arg9 arg10 arg11 arg12 arg13 arg14 arg15 arg16 arg17 arg18 arg19 arg20 arg21 arg22 arg23
        x0 x1 x2 x3 x4 x5 x6 x7 x8 x9 x10 x11 x12 x13 -∗ K ⟨⟩))
      ⊢ wp frame (wpE (defs₀ (F := F)) Variants.none c none) E (cc0_odd_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  obtain ⟨hc1, hc2, hc3, hc4, hc5, hc6, hc7, hc8, hc9, hc10, hc11, hc12, hc13, hc14, hc15, hc16, hc17, hc18, hc19, hc20, hc21, hc22, hc23, hc24, hc25, hc26, hc27⟩ := hi
  simp only [cc0_odd_mixer_bwd_eq_skeleton]; unfold cc0_odd_mixer_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15 | sl_exact hc16 | sl_exact hc17 | sl_exact hc18 | sl_exact hc19 | sl_exact hc20 | sl_exact hc21 | sl_exact hc22 | sl_exact hc23 | sl_exact hc24 | sl_exact hc25 | sl_exact hc26 | sl_exact hc27)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

set_option maxHeartbeats 8000000 in
/-- The body at any later point. -/
theorem later_point (c : Dev nD) (i : grid0.Coords) (hi : Adds i)
    (x0 : Vec F S256x3072 .f32) (x1 : Vec F S8x3072 .f32) (x2 : Vec F S256x1536 .f32) (x3 : Vec F S8x1536 .f32) (x4 : Vec F S256x1024 .bf16)
    (x5 : Vec F S1x1536x1024 .bf16) (x6 : Vec F S8x128 .f32) (x7 : Vec F S1x8x1536 .f32) (x8 : Vec F S1x1x1536 .f32) (x9 : Vec F S1x12x128x128 .bf16)
    (x10 : Vec F S1x1x1536 .f32) (x11 : Vec F S1x12x128x128 .bf16) (x12 : Vec F S1x1x1536 .f32) (x13 : Vec F S1x1x1536 .f32)
    (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23
        x0 x1 x2 x3 x4 x5 x6 x7 x8 x9 x10 x11 x12 x13
      ∗ (held c arg1 arg2 arg3 arg4 arg5 arg6 arg7 arg8 arg9 arg10 arg11 arg12 arg13 arg14 arg15 arg16 arg17 arg18 arg19 arg20 arg21 arg22 arg23
        x0 x1 x2 x3 x4 x5 x6 x7 x8 x9 x10 x11 x12 x13 -∗ K ⟨⟩))
      ⊢ wp frame (wpE (defs₀ (F := F)) Variants.none c none) E (cc0_odd_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  obtain ⟨hc1, hc2, hc3, hc4, hc5, hc6, hc7, hc8, hc9, hc10, hc11, hc12, hc13, hc14, hc15, hc16, hc17, hc18, hc19, hc20, hc21, hc22, hc23, hc24, hc25, hc26, hc27⟩ := hi
  simp only [cc0_odd_mixer_bwd_eq_skeleton]; unfold cc0_odd_mixer_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15 | sl_exact hc16 | sl_exact hc17 | sl_exact hc18 | sl_exact hc19 | sl_exact hc20 | sl_exact hc21 | sl_exact hc22 | sl_exact hc23 | sl_exact hc24 | sl_exact hc25 | sl_exact hc26 | sl_exact hc27)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.OddBwdRun

end
-- ==== Proof.OddBwdFrame.lean ====
/- The gradient of the odd mixer: the run of the whole grid, and what it leaves alone. -/
module

public import proofs.«01_k».proof.Proof.Gen.OddKernel.Frame
public import proofs.«01_k».proof.Proof.OddBwdRun
public import Idealize.ShloMosaic.Lib.Claim

@[expose] public section

set_option maxRecDepth 16384

noncomputable section

namespace Cert.OddBwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddKernel Cert.OddKernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is said of the grid -/

/-- Nothing is said of the four results. -/
def unsaid : Fin 18 → Bool := fun w => w.val == 14 || w.val == 15 || w.val == 16 || w.val == 17

/-- Every input keeps its block at every point, and the kernel's own buffers hold anything between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d
theorem before_10 (c : Dev nD) (t : Fin cfg0.N) (d) : (dats m 0 c).before 10 t d = iblk m c 10 t :=
  before0_10_of m (dats m 0 c) (A_eq m c 10) (fun _ => by dsimp only [dats]) t d
theorem before_11 (c : Dev nD) (t : Fin cfg0.N) (d) : (dats m 0 c).before 11 t d = iblk m c 11 t :=
  before0_11_of m (dats m 0 c) (A_eq m c 11) (fun _ => by dsimp only [dats]) t d
theorem before_12 (c : Dev nD) (t : Fin cfg0.N) (d) : (dats m 0 c).before 12 t d = iblk m c 12 t :=
  before0_12_of m (dats m 0 c) (A_eq m c 12) (fun _ => by dsimp only [dats]) t d
theorem before_13 (c : Dev nD) (t : Fin cfg0.N) (d) : (dats m 0 c).before 13 t d = iblk m c 13 t :=
  before0_13_of m (dats m 0 c) (A_eq m c 13) (fun _ => by dsimp only [dats]) t d

theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl]; dsimp only [dats]
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl]; dsimp only [dats]
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl]; dsimp only [dats]
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl]; dsimp only [dats]
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl]; dsimp only [dats]
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl]; dsimp only [dats]
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl]; dsimp only [dats]
theorem leaves_7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (grid0.coords t) = false from rfl]; dsimp only [dats]
theorem leaves_8 (c : Dev nD) (t : Fin cfg0.N) : (dats m 0 c).leavesExact 8 t = owns (c : Thread nD τ) (win0_8.stage (cfg0.slots t 8)) fullShare (iblk m c 8 t) := by
  unfold Dat.leavesExact; rw [show cfg0.idle 8 (grid0.coords t) = false from rfl]; dsimp only [dats]
theorem leaves_9 (c : Dev nD) (t : Fin cfg0.N) : (dats m 0 c).leavesExact 9 t = owns (c : Thread nD τ) (win0_9.stage (cfg0.slots t 9)) fullShare (iblk m c 9 t) := by
  unfold Dat.leavesExact; rw [show cfg0.idle 9 (grid0.coords t) = false from rfl]; dsimp only [dats]
theorem leaves_10 (c : Dev nD) (t : Fin cfg0.N) : (dats m 0 c).leavesExact 10 t = owns (c : Thread nD τ) (win0_10.stage (cfg0.slots t 10)) fullShare (iblk m c 10 t) := by
  unfold Dat.leavesExact; rw [show cfg0.idle 10 (grid0.coords t) = false from rfl]; dsimp only [dats]
theorem leaves_11 (c : Dev nD) (t : Fin cfg0.N) : (dats m 0 c).leavesExact 11 t = owns (c : Thread nD τ) (win0_11.stage (cfg0.slots t 11)) fullShare (iblk m c 11 t) := by
  unfold Dat.leavesExact; rw [show cfg0.idle 11 (grid0.coords t) = false from rfl]; dsimp only [dats]
theorem leaves_12 (c : Dev nD) (t : Fin cfg0.N) : (dats m 0 c).leavesExact 12 t = owns (c : Thread nD τ) (win0_12.stage (cfg0.slots t 12)) fullShare (iblk m c 12 t) := by
  unfold Dat.leavesExact; rw [show cfg0.idle 12 (grid0.coords t) = false from rfl]; dsimp only [dats]
theorem leaves_13 (c : Dev nD) (t : Fin cfg0.N) : (dats m 0 c).leavesExact 13 t = owns (c : Thread nD τ) (win0_13.stage (cfg0.slots t 13)) fullShare (iblk m c 13 t) := by
  unfold Dat.leavesExact; rw [show cfg0.idle 13 (grid0.coords t) = false from rfl]; dsimp only [dats]

/-- Between the points the kernel's own five buffers hold anything. -/
theorem own_buffers (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-! ## The body at a point -/

theorem starts_first : ∀ t : Fin grid0.N, t.val = 0 → Starts (grid0.coords t) := by decide +kernel
theorem adds_later : ∀ t : Fin grid0.N, ¬t.val = 0 → Adds (grid0.coords t) := by decide +kernel

/-- The body at point `t` as a triple over what it has hold of. -/
theorem body_held (c : Dev nD) (t : Fin cfg0.N) (E : Set ℕ) (K : PUnit → sProp 𝕄) :
    iprop(held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) (win0_17.stage (cfg0.slots t 17)) (Memref.whole cc0_scratch0) (Memref.whole cc0_scratch1) (Memref.whole cc0_scratch2) (Memref.whole cc0_scratch3) (Memref.whole cc0_scratch4)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      ∗ (held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) (win0_17.stage (cfg0.slots t 17)) (Memref.whole cc0_scratch0) (Memref.whole cc0_scratch1) (Memref.whole cc0_scratch2) (Memref.whole cc0_scratch3) (Memref.whole cc0_scratch4)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) -∗ K ⟨⟩))
      ⊢ wp frame (wpE (defs₀ (F := F)) Variants.none c none) E (bodyAt0 t) K := by
  unfold bodyAt0
  by_cases hz : t.val = 0
  · exact first_point (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (hstage0_13 ((cfg0.slots t 13).cast nbuf0_13)) (hstage0_14 ((cfg0.slots t 14).cast nbuf0_14)) (hstage0_15 ((cfg0.slots t 15).cast nbuf0_15)) (hstage0_16 ((cfg0.slots t 16).cast nbuf0_16)) (hstage0_17 ((cfg0.slots t 17).cast nbuf0_17)) (Memref.isWhole_whole _) (Memref.isWhole_whole _) (Memref.isWhole_whole _) (Memref.isWhole_whole _) (Memref.isWhole_whole _)
      c (grid0.coords t) (starts_first t hz) _ _ _ _ _ _ _ _ _ _ _ _ _ _ E K
  · exact later_point (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (hstage0_13 ((cfg0.slots t 13).cast nbuf0_13)) (hstage0_14 ((cfg0.slots t 14).cast nbuf0_14)) (hstage0_15 ((cfg0.slots t 15).cast nbuf0_15)) (hstage0_16 ((cfg0.slots t 16).cast nbuf0_16)) (hstage0_17 ((cfg0.slots t 17).cast nbuf0_17)) (Memref.isWhole_whole _) (Memref.isWhole_whole _) (Memref.isWhole_whole _) (Memref.isWhole_whole _) (Memref.isWhole_whole _)
      c (grid0.coords t) (adds_later t hz) _ _ _ _ _ _ _ _ _ _ _ _ _ _ E K

set_option maxHeartbeats 4000000 in
/-- The same over what the grid hands to the body and takes back from it. -/
theorem body_point (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d))
      ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d))
    ⊢ wp frame (wpE (defs₀ (F := F)) Variants.none c none) Set.univ (bodyAt0 t) (fun _ =>
      iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t
      ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d))) := by
  simp only [before_0, before_1, before_2, before_3, before_4, before_5, before_6, before_7, before_8, before_9, before_10, before_11, before_12, before_13]
  rw [leaves_0, leaves_1, leaves_2, leaves_3, leaves_4, leaves_5, leaves_6, leaves_7, leaves_8, leaves_9, leaves_10, leaves_11, leaves_12, leaves_13]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, own_buffers]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17⟩
  iapply (body_held m c t Set.univ _)
  unfold held
  isplitl [H0 H1 H2 H3 H4 H5 H6 H7 H8 H9 H10 H11 H12 H13 H14 H15 H16 H17 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [S0]; · iexact S0
    isplitl [S1]; · iexact S1
    isplitl [S2]; · iexact S2
    isplitl [S3]; · iexact S3
    iexact S4
  iintro ⟨H0, H1, H2, H3, H4, H5, H6, H7, H8, H9, H10, H11, H12, H13, H14, H15, H16, H17, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem body_obligation (c : Dev nD) : BodyObligation (dats (F := F) m 0 c) (defs₀ (F := F)) Variants.none () Set.univ unsaid := fun t => by
  rw [bigSep_W0, bigSep_W0, show defs₀ (F := F) .tc cfg0.body (cfg0.bodyArgs t (cfg0.slots t)) = bodyAt0 t from by unfold defs₀; rw [Defs.onTc_tc]]
  exact triple_restated (body_point m c t) rfl .rfl fun _ => .rfl

/-! ## The whole program -/

set_option backward.isDefEq.respectTransparency.types false in
set_option maxHeartbeats 800000 in
/-- Every run ends, with the inputs' arrays and every buffer beside the results' as the grid found them. -/
theorem run_grid : θ_run defs (onTc (τ := τ) (main (F := F))) (s₀ m ρ)
    (fun r => Pipeline.RDat.FramePost (cfgs 0) (fun c => (dats m 0 c).toRForget unsaid) (V m) r ∧ r.2.sem = fun _ => 0) :=
  Pipeline.θ_run_frame_track_forget_shared (Q' := _) cfgs (dats m) (0 : Fin 1) launch₀0 defs₀ Variants.none unsaid m ρ main
    (hbody := fun c => (body_obligation m c).loose) (hq := fun _ _ _ => rfl)
    (howed := fun _ _ => rfl) (V := V m)
    (hmain := hmain m Variants.none) (hA := A_eq m) (hin := fun _ => Idealize.SL.BI.Entails.refl _) (hout := fun _ => Idealize.SL.BI.Entails.refl _)

/-- Whatever is said of the grid, a run that leaves the inputs' arrays and the other buffers alone leaves the arguments alone. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 4 rfl).trans ((hA c 4).trans (V_main_arg9 m c))⟩) h

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged_of m ρ (fun c => (dats m 0 c).toRForget unsaid) (A_eq m) ((θ_run defs _ _).mono (fun _ h => h.1) (run_grid m ρ)))
    ((θ_run defs _ _).mono (fun _ h => h.2) (run_grid m ρ))

end Cert.OddBwdRun

end
-- ==== Proof.OddBwdClaim.lean ====
/- The gradient of the odd mixer: what it leaves alone. -/
module

public import proofs.«01_k».proof.Defs
public import proofs.«01_k».proof.Proof.Gen.OddKernel
public import proofs.«01_k».proof.Proof.Gen.OddKernelIdeal
public import proofs.«01_k».proof.Proof.OddBwdFrame
public import Idealize.ShloMosaic.Adequacy

@[expose] public section

set_option maxRecDepth 16384

noncomputable section

namespace Cert.OddBwdClaim

open Idealize.ShloMosaic Idealize.ShloMosaic.TcCoe Idealize.ShloMosaic.Tactic
open Idealize.SL Idealize.SL.Sem

/-- The kernel leaves its arguments alone and its semaphores at zero, whatever its sums come to. -/
theorem frame_kernel : Cert.quiescent_OddKernel := fun m ρ _ => Cert.OddBwdRun.frame m ρ

/-- So it does in ideal arithmetic, in which it is the same program. -/
theorem frame_ideal : Cert.quiescent_OddKernelIdeal := fun m ρ _ =>
  cast (by sl_kernel_rfl) (Cert.OddBwdRun.frame (F := Ideal) m ρ)

end Cert.OddBwdClaim

end
-- ==== Proof.lean ====
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.DnKernel
public import proofs.«01_k».proof.Proof.Gen.DnKernel.Skeleton
public import proofs.«01_k».proof.Proof.Gen.DnKernel.Launch
public import proofs.«01_k».proof.Proof.Gen.DnKernel.Points
public import proofs.«01_k».proof.Proof.Gen.DnKernelIdeal
public import proofs.«01_k».proof.Proof.Gen.DnKernelIdeal.Skeleton
public import proofs.«01_k».proof.Proof.Gen.DnKernelIdeal.Launch
public import proofs.«01_k».proof.Proof.Gen.DnKernelIdeal.Points
public import proofs.«01_k».proof.Proof.Gen.DnReferenceIdeal
public import proofs.«01_k».proof.Proof.Gen.DnReferenceIdeal.Run
public import proofs.«01_k».proof.Proof.Gen.DnReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.EvenFwdKernel
public import proofs.«01_k».proof.Proof.Gen.EvenFwdKernel.Skeleton
public import proofs.«01_k».proof.Proof.Gen.EvenFwdKernel.Loops
public import proofs.«01_k».proof.Proof.Gen.EvenFwdKernel.Launch
public import proofs.«01_k».proof.Proof.Gen.EvenFwdKernel.Points
public import proofs.«01_k».proof.Proof.Gen.EvenFwdKernel.Frame
public import proofs.«01_k».proof.Proof.Gen.EvenFwdKernelIdeal
public import proofs.«01_k».proof.Proof.Gen.EvenFwdKernelIdeal.Skeleton
public import proofs.«01_k».proof.Proof.Gen.EvenFwdKernelIdeal.Loops
public import proofs.«01_k».proof.Proof.Gen.EvenFwdKernelIdeal.Launch
public import proofs.«01_k».proof.Proof.Gen.EvenFwdKernelIdeal.Points
public import proofs.«01_k».proof.Proof.Gen.EvenFwdKernelIdeal.Frame
public import proofs.«01_k».proof.Proof.Gen.EvenFwdReferenceIdeal
public import proofs.«01_k».proof.Proof.Gen.EvenFwdKernelIdeal.Value
public import proofs.«01_k».proof.Proof.Gen.EvenFwdReferenceIdeal.Run
public import proofs.«01_k».proof.Proof.Gen.EvenFwdReferenceIdeal.Read
public import proofs.«01_k».proof.Proof.Gen.OddFwdKernel
public import proofs.«01_k».proof.Proof.Gen.OddFwdKernelIdeal
public import proofs.«01_k».proof.Proof.Gen.OddFwdKernelIdeal.Skeleton
public import proofs.«01_k».proof.Proof.Gen.OddFwdKernelIdeal.Loops
public import proofs.«01_k».proof.Proof.Gen.OddFwdKernelIdeal.Launch
public import proofs.«01_k».proof.Proof.Gen.OddFwdKernelIdeal.Points
public import proofs.«01_k».proof.Proof.Gen.OddFwdKernelIdeal.Frame
public import proofs.«01_k».proof.Proof.Gen.OddFwdReferenceIdeal
public import proofs.«01_k».proof.Proof.Gen.OddFwdReferenceIdeal.Run
public import proofs.«01_k».proof.Proof.Gen.OddFwdReferenceIdeal.Step
public import proofs.«01_k».proof.Proof.LossClaim
public import proofs.«01_k».proof.Proof.DnClaim
public import proofs.«01_k».proof.Proof.InClaim
public import proofs.«01_k».proof.Proof.FwdClaim
public import proofs.«01_k».proof.Proof.OddClaim
public import proofs.«01_k».proof.Proof.Gen.DwInKernel
public import proofs.«01_k».proof.Proof.Gen.DwInKernel.Skeleton
public import proofs.«01_k».proof.Proof.Gen.DwInKernel.Launch
public import proofs.«01_k».proof.Proof.Gen.DwInKernel.Points
public import proofs.«01_k».proof.Proof.Gen.DwInKernel.Frame
public import proofs.«01_k».proof.Proof.Gen.DwInKernelIdeal
public import proofs.«01_k».proof.Proof.Gen.DwInKernelIdeal.Skeleton
public import proofs.«01_k».proof.Proof.Gen.DwInKernelIdeal.Launch
public import proofs.«01_k».proof.Proof.Gen.DwInKernelIdeal.Points
public import proofs.«01_k».proof.Proof.Gen.DwInKernelIdeal.Frame
public import proofs.«01_k».proof.Proof.Gen.DwInReferenceIdeal
public import proofs.«01_k».proof.Proof.Gen.DwOutKernel
public import proofs.«01_k».proof.Proof.Gen.DwOutKernel.Skeleton
public import proofs.«01_k».proof.Proof.Gen.DwOutKernel.Launch
public import proofs.«01_k».proof.Proof.Gen.DwOutKernel.Points
public import proofs.«01_k».proof.Proof.Gen.DwOutKernel.Frame
public import proofs.«01_k».proof.Proof.Gen.DwOutKernelIdeal
public import proofs.«01_k».proof.Proof.Gen.DwOutKernelIdeal.Skeleton
public import proofs.«01_k».proof.Proof.Gen.DwOutKernelIdeal.Launch
public import proofs.«01_k».proof.Proof.Gen.DwOutKernelIdeal.Points
public import proofs.«01_k».proof.Proof.Gen.DwOutKernelIdeal.Frame
public import proofs.«01_k».proof.Proof.Gen.DwOutReferenceIdeal
public import proofs.«01_k».proof.Proof.Gen.AdamInEvenKernel
public import proofs.«01_k».proof.Proof.Gen.AdamInEvenKernel.Skeleton
public import proofs.«01_k».proof.Proof.Gen.AdamInEvenKernel.Launch
public import proofs.«01_k».proof.Proof.Gen.AdamInEvenKernel.Points
public import proofs.«01_k».proof.Proof.Gen.AdamInEvenKernel.Frame
public import proofs.«01_k».proof.Proof.Gen.AdamInEvenKernelIdeal
public import proofs.«01_k».proof.Proof.Gen.AdamInEvenKernelIdeal.Skeleton
public import proofs.«01_k».proof.Proof.Gen.AdamInEvenKernelIdeal.Launch
public import proofs.«01_k».proof.Proof.Gen.AdamInEvenKernelIdeal.Points
public import proofs.«01_k».proof.Proof.Gen.AdamInEvenKernelIdeal.Frame
public import proofs.«01_k».proof.Proof.Gen.AdamInEvenReferenceIdeal
public import proofs.«01_k».proof.Proof.Gen.SumKernel
public import proofs.«01_k».proof.Proof.Gen.SumKernel.Skeleton
public import proofs.«01_k».proof.Proof.Gen.SumKernel.Launch
public import proofs.«01_k».proof.Proof.Gen.SumKernel.Points
public import proofs.«01_k».proof.Proof.Gen.SumKernel.Frame
public import proofs.«01_k».proof.Proof.Gen.SumKernelIdeal
public import proofs.«01_k».proof.Proof.Gen.SumKernelIdeal.Skeleton
public import proofs.«01_k».proof.Proof.Gen.SumKernelIdeal.Launch
public import proofs.«01_k».proof.Proof.Gen.SumKernelIdeal.Points
public import proofs.«01_k».proof.Proof.Gen.SumKernelIdeal.Frame
public import proofs.«01_k».proof.Proof.Gen.SumReferenceIdeal
public import proofs.«01_k».proof.Proof.Gen.DwInKernelIdeal.Value
public import proofs.«01_k».proof.Proof.Gen.DwInReferenceIdeal.Run
public import proofs.«01_k».proof.Proof.Gen.DwInReferenceIdeal.Read
public import proofs.«01_k».proof.Proof.Gen.DwOutKernelIdeal.Value
public import proofs.«01_k».proof.Proof.Gen.DwOutReferenceIdeal.Run
public import proofs.«01_k».proof.Proof.Gen.DwOutReferenceIdeal.Read
public import proofs.«01_k».proof.Proof.Gen.AdamInEvenKernelIdeal.Value
public import proofs.«01_k».proof.Proof.Gen.AdamInEvenReferenceIdeal.Run
public import proofs.«01_k».proof.Proof.Gen.AdamInEvenReferenceIdeal.Read
public import proofs.«01_k».proof.Proof.Gen.SumKernelIdeal.Value
public import proofs.«01_k».proof.Proof.Gen.SumReferenceIdeal.Run
public import proofs.«01_k».proof.Proof.Gen.SumReferenceIdeal.Read
public import proofs.«01_k».proof.Proof.DwInClaim
public import proofs.«01_k».proof.Proof.DwOutClaim
public import proofs.«01_k».proof.Proof.AdamInEvenClaim
public import proofs.«01_k».proof.Proof.SumClaim
public import proofs.«01_k».proof.Proof.Gen.AddKernel.Frame
public import proofs.«01_k».proof.Proof.Gen.AddKernelIdeal.Frame
public import proofs.«01_k».proof.Proof.Gen.AddReferenceIdeal
public import proofs.«01_k».proof.Proof.Gen.AddReferenceIdeal.Run
public import proofs.«01_k».proof.Proof.Gen.AddReferenceIdeal.Read
public import proofs.«01_k».proof.Proof.Gen.Pre_core_number
public import proofs.«01_k».proof.Proof.AddClaim
public import proofs.«01_k».proof.Proof.Gen.ChipsKernel.Frame
public import proofs.«01_k».proof.Proof.Gen.ChipsKernelIdeal.Frame
public import proofs.«01_k».proof.Proof.Gen.ChipsReferenceIdeal
public import proofs.«01_k».proof.Proof.Gen.ChipsReferenceIdeal.Run
public import proofs.«01_k».proof.Proof.Gen.ChipsReferenceIdeal.Read
public import proofs.«01_k».proof.Proof.Gen.Pre_position
public import proofs.«01_k».proof.Proof.ChipsClaim
public import proofs.«01_k».proof.Proof.Gen.EvenKernel
public import proofs.«01_k».proof.Proof.EvenBwdRun
public import proofs.«01_k».proof.Proof.EvenBwdFrame
public import proofs.«01_k».proof.Proof.Gen.EvenKernelIdeal
public import proofs.«01_k».proof.Proof.Gen.EvenReferenceIdeal
public import proofs.«01_k».proof.Proof.Gen.EvenReferenceIdeal.Run
public import proofs.«01_k».proof.Proof.EvenBwdClaim
public import proofs.«01_k».proof.Proof.Gen.OddKernel
public import proofs.«01_k».proof.Proof.OddBwdRun
public import proofs.«01_k».proof.Proof.OddBwdFrame
public import proofs.«01_k».proof.Proof.Gen.OddKernelIdeal
public import proofs.«01_k».proof.Proof.OddBwdClaim
public import Idealize.ShloMosaic.Adequacy
public import Idealize.ShloMosaic.Init

@[expose] public section

noncomputable section

namespace Cert.Proof

open Idealize.ShloMosaic Idealize.SL.Sem Cert.LossKernel

theorem claim : Cert.Claim := ⟨Cert.LossKernel.Gen.facts, Cert.LossKernelIdeal.Gen.facts, Cert.LossReferenceIdeal.Gen.facts,
  Cert.DnKernel.Gen.facts, Cert.DnKernelIdeal.Gen.facts, Cert.DnReferenceIdeal.Gen.facts,
  Cert.InKernel.Gen.facts, Cert.InKernelIdeal.Gen.facts, Cert.InReferenceIdeal.Gen.facts,
  Cert.EvenFwdKernel.Gen.facts, Cert.EvenFwdKernelIdeal.Gen.facts, Cert.EvenFwdReferenceIdeal.Gen.facts,
  Cert.OddFwdKernel.Gen.facts, Cert.OddFwdKernelIdeal.Gen.facts, Cert.OddFwdReferenceIdeal.Gen.facts,
  Cert.DwInKernel.Gen.facts, Cert.DwInKernelIdeal.Gen.facts, Cert.DwInReferenceIdeal.Gen.facts,
  Cert.DwOutKernel.Gen.facts, Cert.DwOutKernelIdeal.Gen.facts, Cert.DwOutReferenceIdeal.Gen.facts,
  Cert.AdamInEvenKernel.Gen.facts, Cert.AdamInEvenKernelIdeal.Gen.facts, Cert.AdamInEvenReferenceIdeal.Gen.facts,
  Cert.SumKernel.Gen.facts, Cert.SumKernelIdeal.Gen.facts, Cert.SumReferenceIdeal.Gen.facts,
  Cert.AddKernel.Gen.facts, Cert.AddKernelIdeal.Gen.facts, Cert.AddReferenceIdeal.Gen.facts,
  Cert.ChipsKernel.Gen.facts, Cert.ChipsKernelIdeal.Gen.facts, Cert.ChipsReferenceIdeal.Gen.facts,
  Cert.EvenKernel.Gen.facts, Cert.EvenKernelIdeal.Gen.facts, Cert.EvenReferenceIdeal.Gen.facts,
  Cert.OddKernel.Gen.facts, Cert.OddKernelIdeal.Gen.facts,
  FwdClaim.facts_pre, OddClaim.facts_pre, Cert.Pre_core_number.Gen.facts, Cert.Pre_position.Gen.facts,
  fun m ρ _ => Cert.LossKernel.Gen.frame m ρ, fun m ρ _ => Cert.LossKernelIdeal.Gen.frame m ρ, LossClaim.frame_reference,
  DnClaim.frame_kernel, DnClaim.frame_ideal, DnClaim.frame_reference,
  InClaim.frame_kernel, InClaim.frame_ideal, InClaim.frame_reference,
  fun m ρ _ => Cert.EvenFwdKernel.Gen.frame m ρ, fun m ρ _ => Cert.EvenFwdKernelIdeal.Gen.frame m ρ, fun m ρ _ => Cert.EvenFwdKernelIdeal.Gen.frame m ρ,
  FwdClaim.frame_reference, fun m ρ _ => FwdClaim.frame_reference m ρ trivial,
  OddClaim.frame_kernel, OddClaim.frame_ideal, fun m ρ _ => OddClaim.frame_ideal m ρ trivial,
  OddClaim.frame_reference, fun m ρ _ => OddClaim.frame_reference m ρ trivial,
  fun m ρ _ => Cert.DwInKernel.Gen.frame m ρ, fun m ρ _ => Cert.DwInKernelIdeal.Gen.frame m ρ, DwInClaim.frame_reference,
  fun m ρ _ => Cert.DwOutKernel.Gen.frame m ρ, fun m ρ _ => Cert.DwOutKernelIdeal.Gen.frame m ρ, DwOutClaim.frame_reference,
  fun m ρ _ => Cert.AdamInEvenKernel.Gen.frame m ρ, fun m ρ _ => Cert.AdamInEvenKernelIdeal.Gen.frame m ρ, AdamInEvenClaim.frame_reference,
  fun m ρ _ => Cert.SumKernel.Gen.frame m ρ, fun m ρ _ => Cert.SumKernelIdeal.Gen.frame m ρ, SumClaim.frame_reference,
  AddClaim.frame_kernel, AddClaim.frame_ideal, AddClaim.frame_reference, AddClaim.frame_reference_pre,
  ChipsClaim.frame_kernel, ChipsClaim.frame_ideal, ChipsClaim.frame_reference, ChipsClaim.frame_reference_pre,
  EvenBwdClaim.frame_kernel, EvenBwdClaim.frame_ideal, EvenBwdClaim.frame_reference,
  OddBwdClaim.frame_kernel, OddBwdClaim.frame_ideal,
  trivial, LossClaim.algebraic, trivial, DnClaim.algebraic, trivial, InClaim.algebraic, trivial, FwdClaim.algebraic, trivial, OddClaim.algebraic,
  trivial, DwInClaim.algebraic, trivial, DwOutClaim.algebraic, trivial, AdamInEvenClaim.algebraic, trivial, SumClaim.algebraic,
  trivial, AddClaim.algebraic, trivial, ChipsClaim.algebraic, trivial, trivial⟩

end Cert.Proof

end
